-- ==== Defs.lean ====
def Pre_GdnBwd (m : (ℓ : Loc Cert.GdnBwd.nD Cert.GdnBwd.τ Cert.GdnBwd.sig) → Buf (Elt Bits) ℓ) : Prop :=
  True

def Pre_GdnBwdIdeal (m : (ℓ : Loc Cert.GdnBwdIdeal.nD Cert.GdnBwdIdeal.τ Cert.GdnBwdIdeal.sig) → Buf (Elt Ideal) ℓ) : Prop :=
  True

def Pre_GdnBwdIdeal_saved [hPre_saved : Cert.Pre_saved.Facts] (m : (ℓ : Loc Cert.GdnBwdIdeal.nD Cert.GdnBwdIdeal.τ Cert.GdnBwdIdeal.sig) → Buf (Elt Ideal) ℓ) : Prop :=
  ∀ c : Dev Cert.GdnBwdIdeal.nD,
    (Cert.Pre_saved.fn (F := Ideal) (m ((c.tc : Thread Cert.GdnBwdIdeal.nD Cert.GdnBwdIdeal.τ).loc Cert.GdnBwdIdeal.main_arg0)) (m ((c.tc : Thread Cert.GdnBwdIdeal.nD Cert.GdnBwdIdeal.τ).loc Cert.GdnBwdIdeal.main_arg1)) (m ((c.tc : Thread Cert.GdnBwdIdeal.nD Cert.GdnBwdIdeal.τ).loc Cert.GdnBwdIdeal.main_arg2)) (m ((c.tc : Thread Cert.GdnBwdIdeal.nD Cert.GdnBwdIdeal.τ).loc Cert.GdnBwdIdeal.main_arg3)) (m ((c.tc : Thread Cert.GdnBwdIdeal.nD Cert.GdnBwdIdeal.τ).loc Cert.GdnBwdIdeal.main_arg4)) (m ((c.tc : Thread Cert.GdnBwdIdeal.nD Cert.GdnBwdIdeal.τ).loc Cert.GdnBwdIdeal.main_arg5)) (m ((c.tc : Thread Cert.GdnBwdIdeal.nD Cert.GdnBwdIdeal.τ).loc Cert.GdnBwdIdeal.main_arg6))) = (fun _ => 1#1)

def Pre_GdnDvRefIdeal (m : (ℓ : Loc Cert.GdnDvRefIdeal.nD Cert.GdnDvRefIdeal.τ Cert.GdnDvRefIdeal.sig) → Buf (Elt Ideal) ℓ) : Prop :=
  True

def Pre_GdnDvRefIdeal_saved [hPre_saved : Cert.Pre_saved.Facts] (m : (ℓ : Loc Cert.GdnDvRefIdeal.nD Cert.GdnDvRefIdeal.τ Cert.GdnDvRefIdeal.sig) → Buf (Elt Ideal) ℓ) : Prop :=
  ∀ c : Dev Cert.GdnDvRefIdeal.nD,
    (Cert.Pre_saved.fn (F := Ideal) (m ((c.tc : Thread Cert.GdnDvRefIdeal.nD Cert.GdnDvRefIdeal.τ).loc Cert.GdnDvRefIdeal.main_arg0)) (m ((c.tc : Thread Cert.GdnDvRefIdeal.nD Cert.GdnDvRefIdeal.τ).loc Cert.GdnDvRefIdeal.main_arg1)) (m ((c.tc : Thread Cert.GdnDvRefIdeal.nD Cert.GdnDvRefIdeal.τ).loc Cert.GdnDvRefIdeal.main_arg2)) (m ((c.tc : Thread Cert.GdnDvRefIdeal.nD Cert.GdnDvRefIdeal.τ).loc Cert.GdnDvRefIdeal.main_arg3)) (m ((c.tc : Thread Cert.GdnDvRefIdeal.nD Cert.GdnDvRefIdeal.τ).loc Cert.GdnDvRefIdeal.main_arg4)) (m ((c.tc : Thread Cert.GdnDvRefIdeal.nD Cert.GdnDvRefIdeal.τ).loc Cert.GdnDvRefIdeal.main_arg5)) (m ((c.tc : Thread Cert.GdnDvRefIdeal.nD Cert.GdnDvRefIdeal.τ).loc Cert.GdnDvRefIdeal.main_arg6))) = (fun _ => 1#1)

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxRefIdeal (m : (ℓ : Loc Cert.Mlp2DxRefIdeal.nD Cert.Mlp2DxRefIdeal.τ Cert.Mlp2DxRefIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwRefIdeal (m : (ℓ : Loc Cert.Mlp2DwRefIdeal.nD Cert.Mlp2DwRefIdeal.τ Cert.Mlp2DwRefIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxRefIdeal (m : (ℓ : Loc Cert.Mlp1DxRefIdeal.nD Cert.Mlp1DxRefIdeal.τ Cert.Mlp1DxRefIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwRefIdeal (m : (ℓ : Loc Cert.Mlp1DwRefIdeal.nD Cert.Mlp1DwRefIdeal.τ Cert.Mlp1DwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_ModDx (m : (ℓ : Loc Cert.ModDx.nD Cert.ModDx.τ Cert.ModDx.sig) → Buf (Elt Bits) ℓ) : Prop :=
  True

def Pre_ModDxIdeal (m : (ℓ : Loc Cert.ModDxIdeal.nD Cert.ModDxIdeal.τ Cert.ModDxIdeal.sig) → Buf (Elt Ideal) ℓ) : Prop :=
  True

def Pre_ModDxRefIdeal (m : (ℓ : Loc Cert.ModDxRefIdeal.nD Cert.ModDxRefIdeal.τ Cert.ModDxRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Mlp1Fwd (m : (ℓ : Loc Cert.Mlp1Fwd.nD Cert.Mlp1Fwd.τ Cert.Mlp1Fwd.sig) → Buf (Elt Bits) ℓ) : Prop :=
  True

def Pre_Mlp1FwdIdeal (m : (ℓ : Loc Cert.Mlp1FwdIdeal.nD Cert.Mlp1FwdIdeal.τ Cert.Mlp1FwdIdeal.sig) → Buf (Elt Ideal) ℓ) : Prop :=
  True

def Pre_Mlp1FwdRefIdeal (m : (ℓ : Loc Cert.Mlp1FwdRefIdeal.nD Cert.Mlp1FwdRefIdeal.τ Cert.Mlp1FwdRefIdeal.sig) → Buf (Elt Ideal) ℓ) : Prop :=
  True

def Pre_Mlp2Fwd (m : (ℓ : Loc Cert.Mlp2Fwd.nD Cert.Mlp2Fwd.τ Cert.Mlp2Fwd.sig) → Buf (Elt Bits) ℓ) : Prop :=
  True

def Pre_Mlp2FwdIdeal (m : (ℓ : Loc Cert.Mlp2FwdIdeal.nD Cert.Mlp2FwdIdeal.τ Cert.Mlp2FwdIdeal.sig) → Buf (Elt Ideal) ℓ) : Prop :=
  True

def Pre_Mlp2FwdRefIdeal (m : (ℓ : Loc Cert.Mlp2FwdRefIdeal.nD Cert.Mlp2FwdRefIdeal.τ Cert.Mlp2FwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_LnInLat (m : (ℓ : Loc Cert.LnInLat.nD Cert.LnInLat.τ Cert.LnInLat.sig) → Buf (Elt Bits) ℓ) : Prop :=
  True

def Pre_LnInLatIdeal (m : (ℓ : Loc Cert.LnInLatIdeal.nD Cert.LnInLatIdeal.τ Cert.LnInLatIdeal.sig) → Buf (Elt Ideal) ℓ) : Prop :=
  True

def Pre_LnInLatIdeal_ln_in_finite [hPre_ln_in_finite : Cert.Pre_ln_in_finite.Facts] (m : (ℓ : Loc Cert.LnInLatIdeal.nD Cert.LnInLatIdeal.τ Cert.LnInLatIdeal.sig) → Buf (Elt Ideal) ℓ) : Prop :=
  ∀ c : Dev Cert.LnInLatIdeal.nD,
    (Cert.Pre_ln_in_finite.fn (F := Ideal) (m ((c.tc : Thread Cert.LnInLatIdeal.nD Cert.LnInLatIdeal.τ).loc Cert.LnInLatIdeal.main_arg0)) (m ((c.tc : Thread Cert.LnInLatIdeal.nD Cert.LnInLatIdeal.τ).loc Cert.LnInLatIdeal.main_arg1)) (m ((c.tc : Thread Cert.LnInLatIdeal.nD Cert.LnInLatIdeal.τ).loc Cert.LnInLatIdeal.main_arg2)) (m ((c.tc : Thread Cert.LnInLatIdeal.nD Cert.LnInLatIdeal.τ).loc Cert.LnInLatIdeal.main_arg3)) (m ((c.tc : Thread Cert.LnInLatIdeal.nD Cert.LnInLatIdeal.τ).loc Cert.LnInLatIdeal.main_arg4)) (m ((c.tc : Thread Cert.LnInLatIdeal.nD Cert.LnInLatIdeal.τ).loc Cert.LnInLatIdeal.main_arg5))) = (fun _ => 1#1)

def Pre_LnInLatRefIdeal (m : (ℓ : Loc Cert.LnInLatRefIdeal.nD Cert.LnInLatRefIdeal.τ Cert.LnInLatRefIdeal.sig) → Buf (Elt Ideal) ℓ) : Prop :=
  True

def Pre_LnInLatRefIdeal_ln_in_finite [hPre_ln_in_finite : Cert.Pre_ln_in_finite.Facts] (m : (ℓ : Loc Cert.LnInLatRefIdeal.nD Cert.LnInLatRefIdeal.τ Cert.LnInLatRefIdeal.sig) → Buf (Elt Ideal) ℓ) : Prop :=
  ∀ c : Dev Cert.LnInLatRefIdeal.nD,
    (Cert.Pre_ln_in_finite.fn (F := Ideal) (m ((c.tc : Thread Cert.LnInLatRefIdeal.nD Cert.LnInLatRefIdeal.τ).loc Cert.LnInLatRefIdeal.main_arg0)) (m ((c.tc : Thread Cert.LnInLatRefIdeal.nD Cert.LnInLatRefIdeal.τ).loc Cert.LnInLatRefIdeal.main_arg1)) (m ((c.tc : Thread Cert.LnInLatRefIdeal.nD Cert.LnInLatRefIdeal.τ).loc Cert.LnInLatRefIdeal.main_arg2)) (m ((c.tc : Thread Cert.LnInLatRefIdeal.nD Cert.LnInLatRefIdeal.τ).loc Cert.LnInLatRefIdeal.main_arg3)) (m ((c.tc : Thread Cert.LnInLatRefIdeal.nD Cert.LnInLatRefIdeal.τ).loc Cert.LnInLatRefIdeal.main_arg4)) (m ((c.tc : Thread Cert.LnInLatRefIdeal.nD Cert.LnInLatRefIdeal.τ).loc Cert.LnInLatRefIdeal.main_arg5))) = (fun _ => 1#1)

def Pre_LnInCtx (m : (ℓ : Loc Cert.LnInCtx.nD Cert.LnInCtx.τ Cert.LnInCtx.sig) → Buf (Elt Bits) ℓ) : Prop :=
  True

def Pre_LnInCtxIdeal (m : (ℓ : Loc Cert.LnInCtxIdeal.nD Cert.LnInCtxIdeal.τ Cert.LnInCtxIdeal.sig) → Buf (Elt Ideal) ℓ) : Prop :=
  True

def Pre_LnInCtxRefIdeal (m : (ℓ : Loc Cert.LnInCtxRefIdeal.nD Cert.LnInCtxRefIdeal.τ Cert.LnInCtxRefIdeal.sig) → Buf (Elt Ideal) ℓ) : Prop :=
  True

def Pre_Ln1Bwd (m : (ℓ : Loc Cert.Ln1Bwd.nD Cert.Ln1Bwd.τ Cert.Ln1Bwd.sig) → Buf (Elt Bits) ℓ) : Prop :=
  True

def Pre_Ln1BwdIdeal (m : (ℓ : Loc Cert.Ln1BwdIdeal.nD Cert.Ln1BwdIdeal.τ Cert.Ln1BwdIdeal.sig) → Buf (Elt Ideal) ℓ) : Prop :=
  True

def Pre_Ln1BwdIdeal_ln1_finite [hPre_ln1_finite : Cert.Pre_ln1_finite.Facts] (m : (ℓ : Loc Cert.Ln1BwdIdeal.nD Cert.Ln1BwdIdeal.τ Cert.Ln1BwdIdeal.sig) → Buf (Elt Ideal) ℓ) : Prop :=
  ∀ c : Dev Cert.Ln1BwdIdeal.nD,
    (Cert.Pre_ln1_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5)) (m ((c.tc : Thread Cert.Ln1BwdIdeal.nD Cert.Ln1BwdIdeal.τ).loc Cert.Ln1BwdIdeal.main_arg6)) (m ((c.tc : Thread Cert.Ln1BwdIdeal.nD Cert.Ln1BwdIdeal.τ).loc Cert.Ln1BwdIdeal.main_arg7))) = (fun _ => 1#1)

def Pre_Ln1BwdRefIdeal (m : (ℓ : Loc Cert.Ln1BwdRefIdeal.nD Cert.Ln1BwdRefIdeal.τ Cert.Ln1BwdRefIdeal.sig) → Buf (Elt Ideal) ℓ) : Prop :=
  True

def Pre_Ln1BwdRefIdeal_ln1_finite [hPre_ln1_finite : Cert.Pre_ln1_finite.Facts] (m : (ℓ : Loc Cert.Ln1BwdRefIdeal.nD Cert.Ln1BwdRefIdeal.τ Cert.Ln1BwdRefIdeal.sig) → Buf (Elt Ideal) ℓ) : Prop :=
  ∀ c : Dev Cert.Ln1BwdRefIdeal.nD,
    (Cert.Pre_ln1_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5)) (m ((c.tc : Thread Cert.Ln1BwdRefIdeal.nD Cert.Ln1BwdRefIdeal.τ).loc Cert.Ln1BwdRefIdeal.main_arg6)) (m ((c.tc : Thread Cert.Ln1BwdRefIdeal.nD Cert.Ln1BwdRefIdeal.τ).loc Cert.Ln1BwdRefIdeal.main_arg7))) = (fun _ => 1#1)

def Pre_B1Grad (m : (ℓ : Loc Cert.B1Grad.nD Cert.B1Grad.τ Cert.B1Grad.sig) → Buf (Elt Bits) ℓ) : Prop :=
  True

def Pre_B1GradIdeal (m : (ℓ : Loc Cert.B1GradIdeal.nD Cert.B1GradIdeal.τ Cert.B1GradIdeal.sig) → Buf (Elt Ideal) ℓ) : Prop :=
  True

def Pre_B1GradRefIdeal (m : (ℓ : Loc Cert.B1GradRefIdeal.nD Cert.B1GradRefIdeal.τ Cert.B1GradRefIdeal.sig) → Buf (Elt Ideal) ℓ) : Prop :=
  True

def Pre_BmodGrad (m : (ℓ : Loc Cert.BmodGrad.nD Cert.BmodGrad.τ Cert.BmodGrad.sig) → Buf (Elt Bits) ℓ) : Prop :=
  True

def Pre_BmodGradIdeal (m : (ℓ : Loc Cert.BmodGradIdeal.nD Cert.BmodGradIdeal.τ Cert.BmodGradIdeal.sig) → Buf (Elt Ideal) ℓ) : Prop :=
  True

def Pre_BmodGradRefIdeal (m : (ℓ : Loc Cert.BmodGradRefIdeal.nD Cert.BmodGradRefIdeal.τ Cert.BmodGradRefIdeal.sig) → Buf (Elt Ideal) ℓ) : Prop :=
  True

def Pre_CctxGrad (m : (ℓ : Loc Cert.CctxGrad.nD Cert.CctxGrad.τ Cert.CctxGrad.sig) → Buf (Elt Bits) ℓ) : Prop :=
  True

def Pre_CctxGradIdeal (m : (ℓ : Loc Cert.CctxGradIdeal.nD Cert.CctxGradIdeal.τ Cert.CctxGradIdeal.sig) → Buf (Elt Ideal) ℓ) : Prop :=
  True

def Pre_CctxGradIdeal_cctx_finite [hPre_cctx_finite : Cert.Pre_cctx_finite.Facts] (m : (ℓ : Loc Cert.CctxGradIdeal.nD Cert.CctxGradIdeal.τ Cert.CctxGradIdeal.sig) → Buf (Elt Ideal) ℓ) : Prop :=
  ∀ c : Dev Cert.CctxGradIdeal.nD,
    (Cert.Pre_cctx_finite.fn (F := Ideal) (m ((c.tc : Thread Cert.CctxGradIdeal.nD Cert.CctxGradIdeal.τ).loc Cert.CctxGradIdeal.main_arg0)) (m ((c.tc : Thread Cert.CctxGradIdeal.nD Cert.CctxGradIdeal.τ).loc Cert.CctxGradIdeal.main_arg1))) = (fun _ => 1#1)

def Pre_CctxGradRefIdeal (m : (ℓ : Loc Cert.CctxGradRefIdeal.nD Cert.CctxGradRefIdeal.τ Cert.CctxGradRefIdeal.sig) → Buf (Elt Ideal) ℓ) : Prop :=
  True

def Pre_CctxGradRefIdeal_cctx_finite [hPre_cctx_finite : Cert.Pre_cctx_finite.Facts] (m : (ℓ : Loc Cert.CctxGradRefIdeal.nD Cert.CctxGradRefIdeal.τ Cert.CctxGradRefIdeal.sig) → Buf (Elt Ideal) ℓ) : Prop :=
  ∀ c : Dev Cert.CctxGradRefIdeal.nD,
    (Cert.Pre_cctx_finite.fn (F := Ideal) (m ((c.tc : Thread Cert.CctxGradRefIdeal.nD Cert.CctxGradRefIdeal.τ).loc Cert.CctxGradRefIdeal.main_arg0)) (m ((c.tc : Thread Cert.CctxGradRefIdeal.nD Cert.CctxGradRefIdeal.τ).loc Cert.CctxGradRefIdeal.main_arg1))) = (fun _ => 1#1)

def Pre_LnLatFwd (m : (ℓ : Loc Cert.LnLatFwd.nD Cert.LnLatFwd.τ Cert.LnLatFwd.sig) → Buf (Elt Bits) ℓ) : Prop :=
  True

def Pre_LnLatFwdIdeal (m : (ℓ : Loc Cert.LnLatFwdIdeal.nD Cert.LnLatFwdIdeal.τ Cert.LnLatFwdIdeal.sig) → Buf (Elt Ideal) ℓ) : Prop :=
  True

def Pre_LnLatFwdRefIdeal (m : (ℓ : Loc Cert.LnLatFwdRefIdeal.nD Cert.LnLatFwdRefIdeal.τ Cert.LnLatFwdRefIdeal.sig) → Buf (Elt Ideal) ℓ) : Prop :=
  True

def Pre_LnCtxFwd (m : (ℓ : Loc Cert.LnCtxFwd.nD Cert.LnCtxFwd.τ Cert.LnCtxFwd.sig) → Buf (Elt Bits) ℓ) : Prop :=
  True

def Pre_LnCtxFwdIdeal (m : (ℓ : Loc Cert.LnCtxFwdIdeal.nD Cert.LnCtxFwdIdeal.τ Cert.LnCtxFwdIdeal.sig) → Buf (Elt Ideal) ℓ) : Prop :=
  True

def Pre_LnCtxFwdRefIdeal (m : (ℓ : Loc Cert.LnCtxFwdRefIdeal.nD Cert.LnCtxFwdRefIdeal.τ Cert.LnCtxFwdRefIdeal.sig) → Buf (Elt Ideal) ℓ) : Prop :=
  True

def Pre_Ln1Fwd (m : (ℓ : Loc Cert.Ln1Fwd.nD Cert.Ln1Fwd.τ Cert.Ln1Fwd.sig) → Buf (Elt Bits) ℓ) : Prop :=
  True

def Pre_Ln1FwdIdeal (m : (ℓ : Loc Cert.Ln1FwdIdeal.nD Cert.Ln1FwdIdeal.τ Cert.Ln1FwdIdeal.sig) → Buf (Elt Ideal) ℓ) : Prop :=
  True

def Pre_Ln1FwdRefIdeal (m : (ℓ : Loc Cert.Ln1FwdRefIdeal.nD Cert.Ln1FwdRefIdeal.τ Cert.Ln1FwdRefIdeal.sig) → Buf (Elt Ideal) ℓ) : Prop :=
  True

def Pre_ConfFwd (m : (ℓ : Loc Cert.ConfFwd.nD Cert.ConfFwd.τ Cert.ConfFwd.sig) → Buf (Elt Bits) ℓ) : Prop :=
  True

def Pre_ConfFwdIdeal (m : (ℓ : Loc Cert.ConfFwdIdeal.nD Cert.ConfFwdIdeal.τ Cert.ConfFwdIdeal.sig) → Buf (Elt Ideal) ℓ) : Prop :=
  True

def Pre_ConfFwdRefIdeal (m : (ℓ : Loc Cert.ConfFwdRefIdeal.nD Cert.ConfFwdRefIdeal.τ Cert.ConfFwdRefIdeal.sig) → Buf (Elt Ideal) ℓ) : Prop :=
  True

def Pre_SiluC (m : (ℓ : Loc Cert.SiluC.nD Cert.SiluC.τ Cert.SiluC.sig) → Buf (Elt Bits) ℓ) : Prop :=
  True

def Pre_SiluCIdeal (m : (ℓ : Loc Cert.SiluCIdeal.nD Cert.SiluCIdeal.τ Cert.SiluCIdeal.sig) → Buf (Elt Ideal) ℓ) : Prop :=
  True

def Pre_SiluCRefIdeal (m : (ℓ : Loc Cert.SiluCRefIdeal.nD Cert.SiluCRefIdeal.τ Cert.SiluCRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamMlp2 (m : (ℓ : Loc Cert.AdamMlp2.nD Cert.AdamMlp2.τ Cert.AdamMlp2.sig) → Buf (Elt Bits) ℓ) : Prop :=
  True

def Pre_AdamMlp2Ideal (m : (ℓ : Loc Cert.AdamMlp2Ideal.nD Cert.AdamMlp2Ideal.τ Cert.AdamMlp2Ideal.sig) → Buf (Elt Ideal) ℓ) : Prop :=
  True

def Pre_AdamMlp2RefIdeal (m : (ℓ : Loc Cert.AdamMlp2RefIdeal.nD Cert.AdamMlp2RefIdeal.τ Cert.AdamMlp2RefIdeal.sig) → Buf (Elt Ideal) ℓ) : Prop :=
  True

def Pre_AdamMlp1 (m : (ℓ : Loc Cert.AdamMlp1.nD Cert.AdamMlp1.τ Cert.AdamMlp1.sig) → Buf (Elt Bits) ℓ) : Prop :=
  True

def Pre_AdamMlp1Ideal (m : (ℓ : Loc Cert.AdamMlp1Ideal.nD Cert.AdamMlp1Ideal.τ Cert.AdamMlp1Ideal.sig) → Buf (Elt Ideal) ℓ) : Prop :=
  True

def Pre_AdamMlp1RefIdeal (m : (ℓ : Loc Cert.AdamMlp1RefIdeal.nD Cert.AdamMlp1RefIdeal.τ Cert.AdamMlp1RefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddWin (m : (ℓ : Loc Cert.AddWin.nD Cert.AddWin.τ Cert.AddWin.sig) → Buf (Elt Bits) ℓ) : Prop :=
  True

def Pre_AddWinIdeal (m : (ℓ : Loc Cert.AddWinIdeal.nD Cert.AddWinIdeal.τ Cert.AddWinIdeal.sig) → Buf (Elt Ideal) ℓ) : Prop :=
  True

def Pre_AddWinRefIdeal (m : (ℓ : Loc Cert.AddWinRefIdeal.nD Cert.AddWinRefIdeal.τ Cert.AddWinRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumCctx (m : (ℓ : Loc Cert.SumCctx.nD Cert.SumCctx.τ Cert.SumCctx.sig) → Buf (Elt Bits) ℓ) : Prop :=
  True

def Pre_SumCctxIdeal (m : (ℓ : Loc Cert.SumCctxIdeal.nD Cert.SumCctxIdeal.τ Cert.SumCctxIdeal.sig) → Buf (Elt Ideal) ℓ) : Prop :=
  True

def Pre_SumCctxRefIdeal (m : (ℓ : Loc Cert.SumCctxRefIdeal.nD Cert.SumCctxRefIdeal.τ Cert.SumCctxRefIdeal.sig) → Buf (Elt Ideal) ℓ) : Prop :=
  True

def Pre_Ln2Loss (m : (ℓ : Loc Cert.Ln2Loss.nD Cert.Ln2Loss.τ Cert.Ln2Loss.sig) → Buf (Elt Bits) ℓ) : Prop :=
  True

def Pre_Ln2LossIdeal (m : (ℓ : Loc Cert.Ln2LossIdeal.nD Cert.Ln2LossIdeal.τ Cert.Ln2LossIdeal.sig) → Buf (Elt Ideal) ℓ) : Prop :=
  True

def Pre_Ln2LossIdeal_ln2_finite [hPre_ln2_finite : Cert.Pre_ln2_finite.Facts] (m : (ℓ : Loc Cert.Ln2LossIdeal.nD Cert.Ln2LossIdeal.τ Cert.Ln2LossIdeal.sig) → Buf (Elt Ideal) ℓ) : Prop :=
  ∀ c : Dev Cert.Ln2LossIdeal.nD,
    (Cert.Pre_ln2_finite.fn (F := Ideal) (m ((c.tc : Thread Cert.Ln2LossIdeal.nD Cert.Ln2LossIdeal.τ).loc Cert.Ln2LossIdeal.main_arg0)) (m ((c.tc : Thread Cert.Ln2LossIdeal.nD Cert.Ln2LossIdeal.τ).loc Cert.Ln2LossIdeal.main_arg1)) (m ((c.tc : Thread Cert.Ln2LossIdeal.nD Cert.Ln2LossIdeal.τ).loc Cert.Ln2LossIdeal.main_arg2)) (m ((c.tc : Thread Cert.Ln2LossIdeal.nD Cert.Ln2LossIdeal.τ).loc Cert.Ln2LossIdeal.main_arg3)) (m ((c.tc : Thread Cert.Ln2LossIdeal.nD Cert.Ln2LossIdeal.τ).loc Cert.Ln2LossIdeal.main_arg4)) (m ((c.tc : Thread Cert.Ln2LossIdeal.nD Cert.Ln2LossIdeal.τ).loc Cert.Ln2LossIdeal.main_arg5)) (m ((c.tc : Thread Cert.Ln2LossIdeal.nD Cert.Ln2LossIdeal.τ).loc Cert.Ln2LossIdeal.main_arg6))) = (fun _ => 1#1)

def Pre_Ln2LossRefIdeal (m : (ℓ : Loc Cert.Ln2LossRefIdeal.nD Cert.Ln2LossRefIdeal.τ Cert.Ln2LossRefIdeal.sig) → Buf (Elt Ideal) ℓ) : Prop :=
  True

def Pre_Ln2LossRefIdeal_ln2_finite [hPre_ln2_finite : Cert.Pre_ln2_finite.Facts] (m : (ℓ : Loc Cert.Ln2LossRefIdeal.nD Cert.Ln2LossRefIdeal.τ Cert.Ln2LossRefIdeal.sig) → Buf (Elt Ideal) ℓ) : Prop :=
  ∀ c : Dev Cert.Ln2LossRefIdeal.nD,
    (Cert.Pre_ln2_finite.fn (F := Ideal) (m ((c.tc : Thread Cert.Ln2LossRefIdeal.nD Cert.Ln2LossRefIdeal.τ).loc Cert.Ln2LossRefIdeal.main_arg0)) (m ((c.tc : Thread Cert.Ln2LossRefIdeal.nD Cert.Ln2LossRefIdeal.τ).loc Cert.Ln2LossRefIdeal.main_arg1)) (m ((c.tc : Thread Cert.Ln2LossRefIdeal.nD Cert.Ln2LossRefIdeal.τ).loc Cert.Ln2LossRefIdeal.main_arg2)) (m ((c.tc : Thread Cert.Ln2LossRefIdeal.nD Cert.Ln2LossRefIdeal.τ).loc Cert.Ln2LossRefIdeal.main_arg3)) (m ((c.tc : Thread Cert.Ln2LossRefIdeal.nD Cert.Ln2LossRefIdeal.τ).loc Cert.Ln2LossRefIdeal.main_arg4)) (m ((c.tc : Thread Cert.Ln2LossRefIdeal.nD Cert.Ln2LossRefIdeal.τ).loc Cert.Ln2LossRefIdeal.main_arg5)) (m ((c.tc : Thread Cert.Ln2LossRefIdeal.nD Cert.Ln2LossRefIdeal.τ).loc Cert.Ln2LossRefIdeal.main_arg6))) = (fun _ => 1#1)

def quiescent_GdnBwd [hGdnBwd : Cert.GdnBwd.Facts] : Prop :=
  ∀ (m : (ℓ : Loc Cert.GdnBwd.nD Cert.GdnBwd.τ Cert.GdnBwd.sig) → Buf (Elt Bits) ℓ) (g : Dev Cert.GdnBwd.nD → PrngReg), Pre_GdnBwd m →
    θ_run (Cert.GdnBwd.defs (F := Bits)) (onTc (τ := Cert.GdnBwd.τ) (Cert.GdnBwd.main (F := Bits))) ⟨m, fun _ => 0, g⟩ (fun r => (∀ c : Dev Cert.GdnBwd.nD,
      r.2.mem ((c.tc : Thread Cert.GdnBwd.nD Cert.GdnBwd.τ).loc Cert.GdnBwd.main_arg0) = m ((c.tc : Thread Cert.GdnBwd.nD Cert.GdnBwd.τ).loc Cert.GdnBwd.main_arg0)
      ∧ r.2.mem ((c.tc : Thread Cert.GdnBwd.nD Cert.GdnBwd.τ).loc Cert.GdnBwd.main_arg1) = m ((c.tc : Thread Cert.GdnBwd.nD Cert.GdnBwd.τ).loc Cert.GdnBwd.main_arg1)
      ∧ r.2.mem ((c.tc : Thread Cert.GdnBwd.nD Cert.GdnBwd.τ).loc Cert.GdnBwd.main_arg2) = m ((c.tc : Thread Cert.GdnBwd.nD Cert.GdnBwd.τ).loc Cert.GdnBwd.main_arg2)
      ∧ r.2.mem ((c.tc : Thread Cert.GdnBwd.nD Cert.GdnBwd.τ).loc Cert.GdnBwd.main_arg3) = m ((c.tc : Thread Cert.GdnBwd.nD Cert.GdnBwd.τ).loc Cert.GdnBwd.main_arg3)
      ∧ r.2.mem ((c.tc : Thread Cert.GdnBwd.nD Cert.GdnBwd.τ).loc Cert.GdnBwd.main_arg4) = m ((c.tc : Thread Cert.GdnBwd.nD Cert.GdnBwd.τ).loc Cert.GdnBwd.main_arg4)
      ∧ r.2.mem ((c.tc : Thread Cert.GdnBwd.nD Cert.GdnBwd.τ).loc Cert.GdnBwd.main_arg5) = m ((c.tc : Thread Cert.GdnBwd.nD Cert.GdnBwd.τ).loc Cert.GdnBwd.main_arg5)
      ∧ r.2.mem ((c.tc : Thread Cert.GdnBwd.nD Cert.GdnBwd.τ).loc Cert.GdnBwd.main_arg6) = m ((c.tc : Thread Cert.GdnBwd.nD Cert.GdnBwd.τ).loc Cert.GdnBwd.main_arg6))
      ∧ r.2.sem = fun _ => 0)

def quiescent_GdnBwdIdeal [hGdnBwdIdeal : Cert.GdnBwdIdeal.Facts] : Prop :=
  ∀ (m : (ℓ : Loc Cert.GdnBwdIdeal.nD Cert.GdnBwdIdeal.τ Cert.GdnBwdIdeal.sig) → Buf (Elt Ideal) ℓ) (g : Dev Cert.GdnBwdIdeal.nD → PrngReg), Pre_GdnBwdIdeal m →
    θ_run (Cert.GdnBwdIdeal.defs (F := Ideal)) (onTc (τ := Cert.GdnBwdIdeal.τ) (Cert.GdnBwdIdeal.main (F := Ideal))) ⟨m, fun _ => 0, g⟩ (fun r => (∀ c : Dev Cert.GdnBwdIdeal.nD,
      r.2.mem ((c.tc : Thread Cert.GdnBwdIdeal.nD Cert.GdnBwdIdeal.τ).loc Cert.GdnBwdIdeal.main_arg0) = m ((c.tc : Thread Cert.GdnBwdIdeal.nD Cert.GdnBwdIdeal.τ).loc Cert.GdnBwdIdeal.main_arg0)
      ∧ r.2.mem ((c.tc : Thread Cert.GdnBwdIdeal.nD Cert.GdnBwdIdeal.τ).loc Cert.GdnBwdIdeal.main_arg1) = m ((c.tc : Thread Cert.GdnBwdIdeal.nD Cert.GdnBwdIdeal.τ).loc Cert.GdnBwdIdeal.main_arg1)
      ∧ r.2.mem ((c.tc : Thread Cert.GdnBwdIdeal.nD Cert.GdnBwdIdeal.τ).loc Cert.GdnBwdIdeal.main_arg2) = m ((c.tc : Thread Cert.GdnBwdIdeal.nD Cert.GdnBwdIdeal.τ).loc Cert.GdnBwdIdeal.main_arg2)
      ∧ r.2.mem ((c.tc : Thread Cert.GdnBwdIdeal.nD Cert.GdnBwdIdeal.τ).loc Cert.GdnBwdIdeal.main_arg3) = m ((c.tc : Thread Cert.GdnBwdIdeal.nD Cert.GdnBwdIdeal.τ).loc Cert.GdnBwdIdeal.main_arg3)
      ∧ r.2.mem ((c.tc : Thread Cert.GdnBwdIdeal.nD Cert.GdnBwdIdeal.τ).loc Cert.GdnBwdIdeal.main_arg4) = m ((c.tc : Thread Cert.GdnBwdIdeal.nD Cert.GdnBwdIdeal.τ).loc Cert.GdnBwdIdeal.main_arg4)
      ∧ r.2.mem ((c.tc : Thread Cert.GdnBwdIdeal.nD Cert.GdnBwdIdeal.τ).loc Cert.GdnBwdIdeal.main_arg5) = m ((c.tc : Thread Cert.GdnBwdIdeal.nD Cert.GdnBwdIdeal.τ).loc Cert.GdnBwdIdeal.main_arg5)
      ∧ r.2.mem ((c.tc : Thread Cert.GdnBwdIdeal.nD Cert.GdnBwdIdeal.τ).loc Cert.GdnBwdIdeal.main_arg6) = m ((c.tc : Thread Cert.GdnBwdIdeal.nD Cert.GdnBwdIdeal.τ).loc Cert.GdnBwdIdeal.main_arg6))
      ∧ r.2.sem = fun _ => 0)

def quiescent_GdnBwdIdeal_pre_saved [hGdnBwdIdeal : Cert.GdnBwdIdeal.Facts] [hPre_saved : Cert.Pre_saved.Facts] : Prop :=
  ∀ (m : (ℓ : Loc Cert.GdnBwdIdeal.nD Cert.GdnBwdIdeal.τ Cert.GdnBwdIdeal.sig) → Buf (Elt Ideal) ℓ) (g : Dev Cert.GdnBwdIdeal.nD → PrngReg), Pre_GdnBwdIdeal_saved m →
    θ_run (Cert.GdnBwdIdeal.defs (F := Ideal)) (onTc (τ := Cert.GdnBwdIdeal.τ) (Cert.GdnBwdIdeal.main (F := Ideal))) ⟨m, fun _ => 0, g⟩ (fun r => (∀ c : Dev Cert.GdnBwdIdeal.nD,
      r.2.mem ((c.tc : Thread Cert.GdnBwdIdeal.nD Cert.GdnBwdIdeal.τ).loc Cert.GdnBwdIdeal.main_arg0) = m ((c.tc : Thread Cert.GdnBwdIdeal.nD Cert.GdnBwdIdeal.τ).loc Cert.GdnBwdIdeal.main_arg0)
      ∧ r.2.mem ((c.tc : Thread Cert.GdnBwdIdeal.nD Cert.GdnBwdIdeal.τ).loc Cert.GdnBwdIdeal.main_arg1) = m ((c.tc : Thread Cert.GdnBwdIdeal.nD Cert.GdnBwdIdeal.τ).loc Cert.GdnBwdIdeal.main_arg1)
      ∧ r.2.mem ((c.tc : Thread Cert.GdnBwdIdeal.nD Cert.GdnBwdIdeal.τ).loc Cert.GdnBwdIdeal.main_arg2) = m ((c.tc : Thread Cert.GdnBwdIdeal.nD Cert.GdnBwdIdeal.τ).loc Cert.GdnBwdIdeal.main_arg2)
      ∧ r.2.mem ((c.tc : Thread Cert.GdnBwdIdeal.nD Cert.GdnBwdIdeal.τ).loc Cert.GdnBwdIdeal.main_arg3) = m ((c.tc : Thread Cert.GdnBwdIdeal.nD Cert.GdnBwdIdeal.τ).loc Cert.GdnBwdIdeal.main_arg3)
      ∧ r.2.mem ((c.tc : Thread Cert.GdnBwdIdeal.nD Cert.GdnBwdIdeal.τ).loc Cert.GdnBwdIdeal.main_arg4) = m ((c.tc : Thread Cert.GdnBwdIdeal.nD Cert.GdnBwdIdeal.τ).loc Cert.GdnBwdIdeal.main_arg4)
      ∧ r.2.mem ((c.tc : Thread Cert.GdnBwdIdeal.nD Cert.GdnBwdIdeal.τ).loc Cert.GdnBwdIdeal.main_arg5) = m ((c.tc : Thread Cert.GdnBwdIdeal.nD Cert.GdnBwdIdeal.τ).loc Cert.GdnBwdIdeal.main_arg5)
      ∧ r.2.mem ((c.tc : Thread Cert.GdnBwdIdeal.nD Cert.GdnBwdIdeal.τ).loc Cert.GdnBwdIdeal.main_arg6) = m ((c.tc : Thread Cert.GdnBwdIdeal.nD Cert.GdnBwdIdeal.τ).loc Cert.GdnBwdIdeal.main_arg6))
      ∧ r.2.sem = fun _ => 0)

def quiescent_GdnDvRefIdeal [hGdnDvRefIdeal : Cert.GdnDvRefIdeal.Facts] : Prop :=
  ∀ (m : (ℓ : Loc Cert.GdnDvRefIdeal.nD Cert.GdnDvRefIdeal.τ Cert.GdnDvRefIdeal.sig) → Buf (Elt Ideal) ℓ) (g : Dev Cert.GdnDvRefIdeal.nD → PrngReg), Pre_GdnDvRefIdeal m →
    θ_run (Cert.GdnDvRefIdeal.defs (F := Ideal)) (onTc (τ := Cert.GdnDvRefIdeal.τ) (Cert.GdnDvRefIdeal.main (F := Ideal))) ⟨m, fun _ => 0, g⟩ (fun r => (∀ c : Dev Cert.GdnDvRefIdeal.nD,
      r.2.mem ((c.tc : Thread Cert.GdnDvRefIdeal.nD Cert.GdnDvRefIdeal.τ).loc Cert.GdnDvRefIdeal.main_arg0) = m ((c.tc : Thread Cert.GdnDvRefIdeal.nD Cert.GdnDvRefIdeal.τ).loc Cert.GdnDvRefIdeal.main_arg0)
      ∧ r.2.mem ((c.tc : Thread Cert.GdnDvRefIdeal.nD Cert.GdnDvRefIdeal.τ).loc Cert.GdnDvRefIdeal.main_arg1) = m ((c.tc : Thread Cert.GdnDvRefIdeal.nD Cert.GdnDvRefIdeal.τ).loc Cert.GdnDvRefIdeal.main_arg1)
      ∧ r.2.mem ((c.tc : Thread Cert.GdnDvRefIdeal.nD Cert.GdnDvRefIdeal.τ).loc Cert.GdnDvRefIdeal.main_arg2) = m ((c.tc : Thread Cert.GdnDvRefIdeal.nD Cert.GdnDvRefIdeal.τ).loc Cert.GdnDvRefIdeal.main_arg2)
      ∧ r.2.mem ((c.tc : Thread Cert.GdnDvRefIdeal.nD Cert.GdnDvRefIdeal.τ).loc Cert.GdnDvRefIdeal.main_arg3) = m ((c.tc : Thread Cert.GdnDvRefIdeal.nD Cert.GdnDvRefIdeal.τ).loc Cert.GdnDvRefIdeal.main_arg3)
      ∧ r.2.mem ((c.tc : Thread Cert.GdnDvRefIdeal.nD Cert.GdnDvRefIdeal.τ).loc Cert.GdnDvRefIdeal.main_arg4) = m ((c.tc : Thread Cert.GdnDvRefIdeal.nD Cert.GdnDvRefIdeal.τ).loc Cert.GdnDvRefIdeal.main_arg4)
      ∧ r.2.mem ((c.tc : Thread Cert.GdnDvRefIdeal.nD Cert.GdnDvRefIdeal.τ).loc Cert.GdnDvRefIdeal.main_arg5) = m ((c.tc : Thread Cert.GdnDvRefIdeal.nD Cert.GdnDvRefIdeal.τ).loc Cert.GdnDvRefIdeal.main_arg5)
      ∧ r.2.mem ((c.tc : Thread Cert.GdnDvRefIdeal.nD Cert.GdnDvRefIdeal.τ).loc Cert.GdnDvRefIdeal.main_arg6) = m ((c.tc : Thread Cert.GdnDvRefIdeal.nD Cert.GdnDvRefIdeal.τ).loc Cert.GdnDvRefIdeal.main_arg6))
      ∧ r.2.sem = fun _ => 0)

def quiescent_GdnDvRefIdeal_pre_saved [hGdnDvRefIdeal : Cert.GdnDvRefIdeal.Facts] [hPre_saved : Cert.Pre_saved.Facts] : Prop :=
  ∀ (m : (ℓ : Loc Cert.GdnDvRefIdeal.nD Cert.GdnDvRefIdeal.τ Cert.GdnDvRefIdeal.sig) → Buf (Elt Ideal) ℓ) (g : Dev Cert.GdnDvRefIdeal.nD → PrngReg), Pre_GdnDvRefIdeal_saved m →
    θ_run (Cert.GdnDvRefIdeal.defs (F := Ideal)) (onTc (τ := Cert.GdnDvRefIdeal.τ) (Cert.GdnDvRefIdeal.main (F := Ideal))) ⟨m, fun _ => 0, g⟩ (fun r => (∀ c : Dev Cert.GdnDvRefIdeal.nD,
      r.2.mem ((c.tc : Thread Cert.GdnDvRefIdeal.nD Cert.GdnDvRefIdeal.τ).loc Cert.GdnDvRefIdeal.main_arg0) = m ((c.tc : Thread Cert.GdnDvRefIdeal.nD Cert.GdnDvRefIdeal.τ).loc Cert.GdnDvRefIdeal.main_arg0)
      ∧ r.2.mem ((c.tc : Thread Cert.GdnDvRefIdeal.nD Cert.GdnDvRefIdeal.τ).loc Cert.GdnDvRefIdeal.main_arg1) = m ((c.tc : Thread Cert.GdnDvRefIdeal.nD Cert.GdnDvRefIdeal.τ).loc Cert.GdnDvRefIdeal.main_arg1)
      ∧ r.2.mem ((c.tc : Thread Cert.GdnDvRefIdeal.nD Cert.GdnDvRefIdeal.τ).loc Cert.GdnDvRefIdeal.main_arg2) = m ((c.tc : Thread Cert.GdnDvRefIdeal.nD Cert.GdnDvRefIdeal.τ).loc Cert.GdnDvRefIdeal.main_arg2)
      ∧ r.2.mem ((c.tc : Thread Cert.GdnDvRefIdeal.nD Cert.GdnDvRefIdeal.τ).loc Cert.GdnDvRefIdeal.main_arg3) = m ((c.tc : Thread Cert.GdnDvRefIdeal.nD Cert.GdnDvRefIdeal.τ).loc Cert.GdnDvRefIdeal.main_arg3)
      ∧ r.2.mem ((c.tc : Thread Cert.GdnDvRefIdeal.nD Cert.GdnDvRefIdeal.τ).loc Cert.GdnDvRefIdeal.main_arg4) = m ((c.tc : Thread Cert.GdnDvRefIdeal.nD Cert.GdnDvRefIdeal.τ).loc Cert.GdnDvRefIdeal.main_arg4)
      ∧ r.2.mem ((c.tc : Thread Cert.GdnDvRefIdeal.nD Cert.GdnDvRefIdeal.τ).loc Cert.GdnDvRefIdeal.main_arg5) = m ((c.tc : Thread Cert.GdnDvRefIdeal.nD Cert.GdnDvRefIdeal.τ).loc Cert.GdnDvRefIdeal.main_arg5)
      ∧ r.2.mem ((c.tc : Thread Cert.GdnDvRefIdeal.nD Cert.GdnDvRefIdeal.τ).loc Cert.GdnDvRefIdeal.main_arg6) = m ((c.tc : Thread Cert.GdnDvRefIdeal.nD Cert.GdnDvRefIdeal.τ).loc Cert.GdnDvRefIdeal.main_arg6))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2)
      ∧ r.2.mem ((c.tc : Thread Cert.Mlp2Dx.nD Cert.Mlp2Dx.τ).loc Cert.Mlp2Dx.main_arg3) = m ((c.tc : Thread Cert.Mlp2Dx.nD Cert.Mlp2Dx.τ).loc Cert.Mlp2Dx.main_arg3))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
      ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ r.2.sem = fun _ => 0)

def quiescent_Mlp2DxRefIdeal [hMlp2DxRefIdeal : Cert.Mlp2DxRefIdeal.Facts] : Prop :=
  ∀ (m : (ℓ : Loc Cert.Mlp2DxRefIdeal.nD Cert.Mlp2DxRefIdeal.τ Cert.Mlp2DxRefIdeal.sig) → Buf (Elt Ideal) ℓ) (g : Dev Cert.Mlp2DxRefIdeal.nD → PrngReg), Pre_Mlp2DxRefIdeal m →
    θ_run (Cert.Mlp2DxRefIdeal.defs (F := Ideal)) (onTc (τ := Cert.Mlp2DxRefIdeal.τ) (Cert.Mlp2DxRefIdeal.main (F := Ideal))) ⟨m, fun _ => 0, g⟩ (fun r => (∀ c : Dev Cert.Mlp2DxRefIdeal.nD,
      r.2.mem ((c.tc : Thread Cert.Mlp2DxRefIdeal.nD Cert.Mlp2DxRefIdeal.τ).loc Cert.Mlp2DxRefIdeal.main_arg0) = m ((c.tc : Thread Cert.Mlp2DxRefIdeal.nD Cert.Mlp2DxRefIdeal.τ).loc Cert.Mlp2DxRefIdeal.main_arg0)
      ∧ r.2.mem ((c.tc : Thread Cert.Mlp2DxRefIdeal.nD Cert.Mlp2DxRefIdeal.τ).loc Cert.Mlp2DxRefIdeal.main_arg1) = m ((c.tc : Thread Cert.Mlp2DxRefIdeal.nD Cert.Mlp2DxRefIdeal.τ).loc Cert.Mlp2DxRefIdeal.main_arg1)
      ∧ r.2.mem ((c.tc : Thread Cert.Mlp2DxRefIdeal.nD Cert.Mlp2DxRefIdeal.τ).loc Cert.Mlp2DxRefIdeal.main_arg2) = m ((c.tc : Thread Cert.Mlp2DxRefIdeal.nD Cert.Mlp2DxRefIdeal.τ).loc Cert.Mlp2DxRefIdeal.main_arg2)
      ∧ r.2.mem ((c.tc : Thread Cert.Mlp2DxRefIdeal.nD Cert.Mlp2DxRefIdeal.τ).loc Cert.Mlp2DxRefIdeal.main_arg3) = m ((c.tc : Thread Cert.Mlp2DxRefIdeal.nD Cert.Mlp2DxRefIdeal.τ).loc Cert.Mlp2DxRefIdeal.main_arg3))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ r.2.sem = fun _ => 0)

def quiescent_Mlp2DwRefIdeal [hMlp2DwRefIdeal : Cert.Mlp2DwRefIdeal.Facts] : Prop :=
  ∀ (m : (ℓ : Loc Cert.Mlp2DwRefIdeal.nD Cert.Mlp2DwRefIdeal.τ Cert.Mlp2DwRefIdeal.sig) → Buf (Elt Ideal) ℓ) (g : Dev Cert.Mlp2DwRefIdeal.nD → PrngReg), Pre_Mlp2DwRefIdeal m →
    θ_run (Cert.Mlp2DwRefIdeal.defs (F := Ideal)) (onTc (τ := Cert.Mlp2DwRefIdeal.τ) (Cert.Mlp2DwRefIdeal.main (F := Ideal))) ⟨m, fun _ => 0, g⟩ (fun r => (∀ c : Dev Cert.Mlp2DwRefIdeal.nD,
      r.2.mem ((c.tc : Thread Cert.Mlp2DwRefIdeal.nD Cert.Mlp2DwRefIdeal.τ).loc Cert.Mlp2DwRefIdeal.main_arg0) = m ((c.tc : Thread Cert.Mlp2DwRefIdeal.nD Cert.Mlp2DwRefIdeal.τ).loc Cert.Mlp2DwRefIdeal.main_arg0)
      ∧ r.2.mem ((c.tc : Thread Cert.Mlp2DwRefIdeal.nD Cert.Mlp2DwRefIdeal.τ).loc Cert.Mlp2DwRefIdeal.main_arg1) = m ((c.tc : Thread Cert.Mlp2DwRefIdeal.nD Cert.Mlp2DwRefIdeal.τ).loc Cert.Mlp2DwRefIdeal.main_arg1))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1)
      ∧ r.2.mem ((c.tc : Thread Cert.Mlp1Dx.nD Cert.Mlp1Dx.τ).loc Cert.Mlp1Dx.main_arg2) = m ((c.tc : Thread Cert.Mlp1Dx.nD Cert.Mlp1Dx.τ).loc Cert.Mlp1Dx.main_arg2))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
      ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ r.2.sem = fun _ => 0)

def quiescent_Mlp1DxRefIdeal [hMlp1DxRefIdeal : Cert.Mlp1DxRefIdeal.Facts] : Prop :=
  ∀ (m : (ℓ : Loc Cert.Mlp1DxRefIdeal.nD Cert.Mlp1DxRefIdeal.τ Cert.Mlp1DxRefIdeal.sig) → Buf (Elt Ideal) ℓ) (g : Dev Cert.Mlp1DxRefIdeal.nD → PrngReg), Pre_Mlp1DxRefIdeal m →
    θ_run (Cert.Mlp1DxRefIdeal.defs (F := Ideal)) (onTc (τ := Cert.Mlp1DxRefIdeal.τ) (Cert.Mlp1DxRefIdeal.main (F := Ideal))) ⟨m, fun _ => 0, g⟩ (fun r => (∀ c : Dev Cert.Mlp1DxRefIdeal.nD,
      r.2.mem ((c.tc : Thread Cert.Mlp1DxRefIdeal.nD Cert.Mlp1DxRefIdeal.τ).loc Cert.Mlp1DxRefIdeal.main_arg0) = m ((c.tc : Thread Cert.Mlp1DxRefIdeal.nD Cert.Mlp1DxRefIdeal.τ).loc Cert.Mlp1DxRefIdeal.main_arg0)
      ∧ r.2.mem ((c.tc : Thread Cert.Mlp1DxRefIdeal.nD Cert.Mlp1DxRefIdeal.τ).loc Cert.Mlp1DxRefIdeal.main_arg1) = m ((c.tc : Thread Cert.Mlp1DxRefIdeal.nD Cert.Mlp1DxRefIdeal.τ).loc Cert.Mlp1DxRefIdeal.main_arg1)
      ∧ r.2.mem ((c.tc : Thread Cert.Mlp1DxRefIdeal.nD Cert.Mlp1DxRefIdeal.τ).loc Cert.Mlp1DxRefIdeal.main_arg2) = m ((c.tc : Thread Cert.Mlp1DxRefIdeal.nD Cert.Mlp1DxRefIdeal.τ).loc Cert.Mlp1DxRefIdeal.main_arg2))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ r.2.sem = fun _ => 0)

def quiescent_Mlp1DwRefIdeal [hMlp1DwRefIdeal : Cert.Mlp1DwRefIdeal.Facts] : Prop :=
  ∀ (m : (ℓ : Loc Cert.Mlp1DwRefIdeal.nD Cert.Mlp1DwRefIdeal.τ Cert.Mlp1DwRefIdeal.sig) → Buf (Elt Ideal) ℓ) (g : Dev Cert.Mlp1DwRefIdeal.nD → PrngReg), Pre_Mlp1DwRefIdeal m →
    θ_run (Cert.Mlp1DwRefIdeal.defs (F := Ideal)) (onTc (τ := Cert.Mlp1DwRefIdeal.τ) (Cert.Mlp1DwRefIdeal.main (F := Ideal))) ⟨m, fun _ => 0, g⟩ (fun r => (∀ c : Dev Cert.Mlp1DwRefIdeal.nD,
      r.2.mem ((c.tc : Thread Cert.Mlp1DwRefIdeal.nD Cert.Mlp1DwRefIdeal.τ).loc Cert.Mlp1DwRefIdeal.main_arg0) = m ((c.tc : Thread Cert.Mlp1DwRefIdeal.nD Cert.Mlp1DwRefIdeal.τ).loc Cert.Mlp1DwRefIdeal.main_arg0)
      ∧ r.2.mem ((c.tc : Thread Cert.Mlp1DwRefIdeal.nD Cert.Mlp1DwRefIdeal.τ).loc Cert.Mlp1DwRefIdeal.main_arg1) = m ((c.tc : Thread Cert.Mlp1DwRefIdeal.nD Cert.Mlp1DwRefIdeal.τ).loc Cert.Mlp1DwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_ModDx [hModDx : Cert.ModDx.Facts] : Prop :=
  ∀ (m : (ℓ : Loc Cert.ModDx.nD Cert.ModDx.τ Cert.ModDx.sig) → Buf (Elt Bits) ℓ) (g : Dev Cert.ModDx.nD → PrngReg), Pre_ModDx m →
    θ_run (Cert.ModDx.defs (F := Bits)) (onTc (τ := Cert.ModDx.τ) (Cert.ModDx.main (F := Bits))) ⟨m, fun _ => 0, g⟩ (fun r => (∀ c : Dev Cert.ModDx.nD,
      r.2.mem ((c.tc : Thread Cert.ModDx.nD Cert.ModDx.τ).loc Cert.ModDx.main_arg0) = m ((c.tc : Thread Cert.ModDx.nD Cert.ModDx.τ).loc Cert.ModDx.main_arg0)
      ∧ r.2.mem ((c.tc : Thread Cert.ModDx.nD Cert.ModDx.τ).loc Cert.ModDx.main_arg1) = m ((c.tc : Thread Cert.ModDx.nD Cert.ModDx.τ).loc Cert.ModDx.main_arg1))
      ∧ r.2.sem = fun _ => 0)

def quiescent_ModDxIdeal [hModDxIdeal : Cert.ModDxIdeal.Facts] : Prop :=
  ∀ (m : (ℓ : Loc Cert.ModDxIdeal.nD Cert.ModDxIdeal.τ Cert.ModDxIdeal.sig) → Buf (Elt Ideal) ℓ) (g : Dev Cert.ModDxIdeal.nD → PrngReg), Pre_ModDxIdeal m →
    θ_run (Cert.ModDxIdeal.defs (F := Ideal)) (onTc (τ := Cert.ModDxIdeal.τ) (Cert.ModDxIdeal.main (F := Ideal))) ⟨m, fun _ => 0, g⟩ (fun r => (∀ c : Dev Cert.ModDxIdeal.nD,
      r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
      ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ r.2.sem = fun _ => 0)

def quiescent_ModDxRefIdeal [hModDxRefIdeal : Cert.ModDxRefIdeal.Facts] : Prop :=
  ∀ (m : (ℓ : Loc Cert.ModDxRefIdeal.nD Cert.ModDxRefIdeal.τ Cert.ModDxRefIdeal.sig) → Buf (Elt Ideal) ℓ) (g : Dev Cert.ModDxRefIdeal.nD → PrngReg), Pre_ModDxRefIdeal m →
    θ_run (Cert.ModDxRefIdeal.defs (F := Ideal)) (onTc (τ := Cert.ModDxRefIdeal.τ) (Cert.ModDxRefIdeal.main (F := Ideal))) ⟨m, fun _ => 0, g⟩ (fun r => (∀ c : Dev Cert.ModDxRefIdeal.nD,
      r.2.mem ((c.tc : Thread Cert.ModDxRefIdeal.nD Cert.ModDxRefIdeal.τ).loc Cert.ModDxRefIdeal.main_arg0) = m ((c.tc : Thread Cert.ModDxRefIdeal.nD Cert.ModDxRefIdeal.τ).loc Cert.ModDxRefIdeal.main_arg0)
      ∧ r.2.mem ((c.tc : Thread Cert.ModDxRefIdeal.nD Cert.ModDxRefIdeal.τ).loc Cert.ModDxRefIdeal.main_arg1) = m ((c.tc : Thread Cert.ModDxRefIdeal.nD Cert.ModDxRefIdeal.τ).loc Cert.ModDxRefIdeal.main_arg1))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1)
      ∧ r.2.mem ((c.tc : Thread Cert.ModDw.nD Cert.ModDw.τ).loc Cert.ModDw.main_arg2) = m ((c.tc : Thread Cert.ModDw.nD Cert.ModDw.τ).loc Cert.ModDw.main_arg2))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
      ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1)
      ∧ r.2.mem ((c.tc : Thread Cert.ModDwRefIdeal.nD Cert.ModDwRefIdeal.τ).loc Cert.ModDwRefIdeal.main_arg2) = m ((c.tc : Thread Cert.ModDwRefIdeal.nD Cert.ModDwRefIdeal.τ).loc Cert.ModDwRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_Mlp1Fwd [hMlp1Fwd : Cert.Mlp1Fwd.Facts] : Prop :=
  ∀ (m : (ℓ : Loc Cert.Mlp1Fwd.nD Cert.Mlp1Fwd.τ Cert.Mlp1Fwd.sig) → Buf (Elt Bits) ℓ) (g : Dev Cert.Mlp1Fwd.nD → PrngReg), Pre_Mlp1Fwd m →
    θ_run (Cert.Mlp1Fwd.defs (F := Bits)) (onTc (τ := Cert.Mlp1Fwd.τ) (Cert.Mlp1Fwd.main (F := Bits))) ⟨m, fun _ => 0, g⟩ (fun r => (∀ c : Dev Cert.Mlp1Fwd.nD,
      r.2.mem ((c.tc : Thread Cert.Mlp1Fwd.nD Cert.Mlp1Fwd.τ).loc Cert.Mlp1Fwd.main_arg0) = m ((c.tc : Thread Cert.Mlp1Fwd.nD Cert.Mlp1Fwd.τ).loc Cert.Mlp1Fwd.main_arg0)
      ∧ r.2.mem ((c.tc : Thread Cert.Mlp1Fwd.nD Cert.Mlp1Fwd.τ).loc Cert.Mlp1Fwd.main_arg1) = m ((c.tc : Thread Cert.Mlp1Fwd.nD Cert.Mlp1Fwd.τ).loc Cert.Mlp1Fwd.main_arg1)
      ∧ r.2.mem ((c.tc : Thread Cert.Mlp1Fwd.nD Cert.Mlp1Fwd.τ).loc Cert.Mlp1Fwd.main_arg2) = m ((c.tc : Thread Cert.Mlp1Fwd.nD Cert.Mlp1Fwd.τ).loc Cert.Mlp1Fwd.main_arg2))
      ∧ r.2.sem = fun _ => 0)

def quiescent_Mlp1FwdIdeal [hMlp1FwdIdeal : Cert.Mlp1FwdIdeal.Facts] : Prop :=
  ∀ (m : (ℓ : Loc Cert.Mlp1FwdIdeal.nD Cert.Mlp1FwdIdeal.τ Cert.Mlp1FwdIdeal.sig) → Buf (Elt Ideal) ℓ) (g : Dev Cert.Mlp1FwdIdeal.nD → PrngReg), Pre_Mlp1FwdIdeal m →
    θ_run (Cert.Mlp1FwdIdeal.defs (F := Ideal)) (onTc (τ := Cert.Mlp1FwdIdeal.τ) (Cert.Mlp1FwdIdeal.main (F := Ideal))) ⟨m, fun _ => 0, g⟩ (fun r => (∀ c : Dev Cert.Mlp1FwdIdeal.nD,
      r.2.mem ((c.tc : Thread Cert.Mlp1FwdIdeal.nD Cert.Mlp1FwdIdeal.τ).loc Cert.Mlp1FwdIdeal.main_arg0) = m ((c.tc : Thread Cert.Mlp1FwdIdeal.nD Cert.Mlp1FwdIdeal.τ).loc Cert.Mlp1FwdIdeal.main_arg0)
      ∧ r.2.mem ((c.tc : Thread Cert.Mlp1FwdIdeal.nD Cert.Mlp1FwdIdeal.τ).loc Cert.Mlp1FwdIdeal.main_arg1) = m ((c.tc : Thread Cert.Mlp1FwdIdeal.nD Cert.Mlp1FwdIdeal.τ).loc Cert.Mlp1FwdIdeal.main_arg1)
      ∧ r.2.mem ((c.tc : Thread Cert.Mlp1FwdIdeal.nD Cert.Mlp1FwdIdeal.τ).loc Cert.Mlp1FwdIdeal.main_arg2) = m ((c.tc : Thread Cert.Mlp1FwdIdeal.nD Cert.Mlp1FwdIdeal.τ).loc Cert.Mlp1FwdIdeal.main_arg2))
      ∧ r.2.sem = fun _ => 0)

def quiescent_Mlp1FwdRefIdeal [hMlp1FwdRefIdeal : Cert.Mlp1FwdRefIdeal.Facts] : Prop :=
  ∀ (m : (ℓ : Loc Cert.Mlp1FwdRefIdeal.nD Cert.Mlp1FwdRefIdeal.τ Cert.Mlp1FwdRefIdeal.sig) → Buf (Elt Ideal) ℓ) (g : Dev Cert.Mlp1FwdRefIdeal.nD → PrngReg), Pre_Mlp1FwdRefIdeal m →
    θ_run (Cert.Mlp1FwdRefIdeal.defs (F := Ideal)) (onTc (τ := Cert.Mlp1FwdRefIdeal.τ) (Cert.Mlp1FwdRefIdeal.main (F := Ideal))) ⟨m, fun _ => 0, g⟩ (fun r => (∀ c : Dev Cert.Mlp1FwdRefIdeal.nD,
      r.2.mem ((c.tc : Thread Cert.Mlp1FwdRefIdeal.nD Cert.Mlp1FwdRefIdeal.τ).loc Cert.Mlp1FwdRefIdeal.main_arg0) = m ((c.tc : Thread Cert.Mlp1FwdRefIdeal.nD Cert.Mlp1FwdRefIdeal.τ).loc Cert.Mlp1FwdRefIdeal.main_arg0)
      ∧ r.2.mem ((c.tc : Thread Cert.Mlp1FwdRefIdeal.nD Cert.Mlp1FwdRefIdeal.τ).loc Cert.Mlp1FwdRefIdeal.main_arg1) = m ((c.tc : Thread Cert.Mlp1FwdRefIdeal.nD Cert.Mlp1FwdRefIdeal.τ).loc Cert.Mlp1FwdRefIdeal.main_arg1)
      ∧ r.2.mem ((c.tc : Thread Cert.Mlp1FwdRefIdeal.nD Cert.Mlp1FwdRefIdeal.τ).loc Cert.Mlp1FwdRefIdeal.main_arg2) = m ((c.tc : Thread Cert.Mlp1FwdRefIdeal.nD Cert.Mlp1FwdRefIdeal.τ).loc Cert.Mlp1FwdRefIdeal.main_arg2))
      ∧ r.2.sem = fun _ => 0)

def quiescent_Mlp2Fwd [hMlp2Fwd : Cert.Mlp2Fwd.Facts] : Prop :=
  ∀ (m : (ℓ : Loc Cert.Mlp2Fwd.nD Cert.Mlp2Fwd.τ Cert.Mlp2Fwd.sig) → Buf (Elt Bits) ℓ) (g : Dev Cert.Mlp2Fwd.nD → PrngReg), Pre_Mlp2Fwd m →
    θ_run (Cert.Mlp2Fwd.defs (F := Bits)) (onTc (τ := Cert.Mlp2Fwd.τ) (Cert.Mlp2Fwd.main (F := Bits))) ⟨m, fun _ => 0, g⟩ (fun r => (∀ c : Dev Cert.Mlp2Fwd.nD,
      r.2.mem ((c.tc : Thread Cert.Mlp2Fwd.nD Cert.Mlp2Fwd.τ).loc Cert.Mlp2Fwd.main_arg0) = m ((c.tc : Thread Cert.Mlp2Fwd.nD Cert.Mlp2Fwd.τ).loc Cert.Mlp2Fwd.main_arg0)
      ∧ r.2.mem ((c.tc : Thread Cert.Mlp2Fwd.nD Cert.Mlp2Fwd.τ).loc Cert.Mlp2Fwd.main_arg1) = m ((c.tc : Thread Cert.Mlp2Fwd.nD Cert.Mlp2Fwd.τ).loc Cert.Mlp2Fwd.main_arg1))
      ∧ r.2.sem = fun _ => 0)

def quiescent_Mlp2FwdIdeal [hMlp2FwdIdeal : Cert.Mlp2FwdIdeal.Facts] : Prop :=
  ∀ (m : (ℓ : Loc Cert.Mlp2FwdIdeal.nD Cert.Mlp2FwdIdeal.τ Cert.Mlp2FwdIdeal.sig) → Buf (Elt Ideal) ℓ) (g : Dev Cert.Mlp2FwdIdeal.nD → PrngReg), Pre_Mlp2FwdIdeal m →
    θ_run (Cert.Mlp2FwdIdeal.defs (F := Ideal)) (onTc (τ := Cert.Mlp2FwdIdeal.τ) (Cert.Mlp2FwdIdeal.main (F := Ideal))) ⟨m, fun _ => 0, g⟩ (fun r => (∀ c : Dev Cert.Mlp2FwdIdeal.nD,
      r.2.mem ((c.tc : Thread Cert.Mlp2FwdIdeal.nD Cert.Mlp2FwdIdeal.τ).loc Cert.Mlp2FwdIdeal.main_arg0) = m ((c.tc : Thread Cert.Mlp2FwdIdeal.nD Cert.Mlp2FwdIdeal.τ).loc Cert.Mlp2FwdIdeal.main_arg0)
      ∧ r.2.mem ((c.tc : Thread Cert.Mlp2FwdIdeal.nD Cert.Mlp2FwdIdeal.τ).loc Cert.Mlp2FwdIdeal.main_arg1) = m ((c.tc : Thread Cert.Mlp2FwdIdeal.nD Cert.Mlp2FwdIdeal.τ).loc Cert.Mlp2FwdIdeal.main_arg1))
      ∧ r.2.sem = fun _ => 0)

def quiescent_Mlp2FwdRefIdeal [hMlp2FwdRefIdeal : Cert.Mlp2FwdRefIdeal.Facts] : Prop :=
  ∀ (m : (ℓ : Loc Cert.Mlp2FwdRefIdeal.nD Cert.Mlp2FwdRefIdeal.τ Cert.Mlp2FwdRefIdeal.sig) → Buf (Elt Ideal) ℓ) (g : Dev Cert.Mlp2FwdRefIdeal.nD → PrngReg), Pre_Mlp2FwdRefIdeal m →
    θ_run (Cert.Mlp2FwdRefIdeal.defs (F := Ideal)) (onTc (τ := Cert.Mlp2FwdRefIdeal.τ) (Cert.Mlp2FwdRefIdeal.main (F := Ideal))) ⟨m, fun _ => 0, g⟩ (fun r => (∀ c : Dev Cert.Mlp2FwdRefIdeal.nD,
      r.2.mem ((c.tc : Thread Cert.Mlp2FwdRefIdeal.nD Cert.Mlp2FwdRefIdeal.τ).loc Cert.Mlp2FwdRefIdeal.main_arg0) = m ((c.tc : Thread Cert.Mlp2FwdRefIdeal.nD Cert.Mlp2FwdRefIdeal.τ).loc Cert.Mlp2FwdRefIdeal.main_arg0)
      ∧ r.2.mem ((c.tc : Thread Cert.Mlp2FwdRefIdeal.nD Cert.Mlp2FwdRefIdeal.τ).loc Cert.Mlp2FwdRefIdeal.main_arg1) = m ((c.tc : Thread Cert.Mlp2FwdRefIdeal.nD Cert.Mlp2FwdRefIdeal.τ).loc Cert.Mlp2FwdRefIdeal.main_arg1))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_LnInLat [hLnInLat : Cert.LnInLat.Facts] : Prop :=
  ∀ (m : (ℓ : Loc Cert.LnInLat.nD Cert.LnInLat.τ Cert.LnInLat.sig) → Buf (Elt Bits) ℓ) (g : Dev Cert.LnInLat.nD → PrngReg), Pre_LnInLat m →
    θ_run (Cert.LnInLat.defs (F := Bits)) (onTc (τ := Cert.LnInLat.τ) (Cert.LnInLat.main (F := Bits))) ⟨m, fun _ => 0, g⟩ (fun r => (∀ c : Dev Cert.LnInLat.nD,
      r.2.mem ((c.tc : Thread Cert.LnInLat.nD Cert.LnInLat.τ).loc Cert.LnInLat.main_arg0) = m ((c.tc : Thread Cert.LnInLat.nD Cert.LnInLat.τ).loc Cert.LnInLat.main_arg0)
      ∧ r.2.mem ((c.tc : Thread Cert.LnInLat.nD Cert.LnInLat.τ).loc Cert.LnInLat.main_arg1) = m ((c.tc : Thread Cert.LnInLat.nD Cert.LnInLat.τ).loc Cert.LnInLat.main_arg1)
      ∧ r.2.mem ((c.tc : Thread Cert.LnInLat.nD Cert.LnInLat.τ).loc Cert.LnInLat.main_arg2) = m ((c.tc : Thread Cert.LnInLat.nD Cert.LnInLat.τ).loc Cert.LnInLat.main_arg2)
      ∧ r.2.mem ((c.tc : Thread Cert.LnInLat.nD Cert.LnInLat.τ).loc Cert.LnInLat.main_arg3) = m ((c.tc : Thread Cert.LnInLat.nD Cert.LnInLat.τ).loc Cert.LnInLat.main_arg3)
      ∧ r.2.mem ((c.tc : Thread Cert.LnInLat.nD Cert.LnInLat.τ).loc Cert.LnInLat.main_arg4) = m ((c.tc : Thread Cert.LnInLat.nD Cert.LnInLat.τ).loc Cert.LnInLat.main_arg4)
      ∧ r.2.mem ((c.tc : Thread Cert.LnInLat.nD Cert.LnInLat.τ).loc Cert.LnInLat.main_arg5) = m ((c.tc : Thread Cert.LnInLat.nD Cert.LnInLat.τ).loc Cert.LnInLat.main_arg5))
      ∧ r.2.sem = fun _ => 0)

def quiescent_LnInLatIdeal [hLnInLatIdeal : Cert.LnInLatIdeal.Facts] : Prop :=
  ∀ (m : (ℓ : Loc Cert.LnInLatIdeal.nD Cert.LnInLatIdeal.τ Cert.LnInLatIdeal.sig) → Buf (Elt Ideal) ℓ) (g : Dev Cert.LnInLatIdeal.nD → PrngReg), Pre_LnInLatIdeal m →
    θ_run (Cert.LnInLatIdeal.defs (F := Ideal)) (onTc (τ := Cert.LnInLatIdeal.τ) (Cert.LnInLatIdeal.main (F := Ideal))) ⟨m, fun _ => 0, g⟩ (fun r => (∀ c : Dev Cert.LnInLatIdeal.nD,
      r.2.mem ((c.tc : Thread Cert.LnInLatIdeal.nD Cert.LnInLatIdeal.τ).loc Cert.LnInLatIdeal.main_arg0) = m ((c.tc : Thread Cert.LnInLatIdeal.nD Cert.LnInLatIdeal.τ).loc Cert.LnInLatIdeal.main_arg0)
      ∧ r.2.mem ((c.tc : Thread Cert.LnInLatIdeal.nD Cert.LnInLatIdeal.τ).loc Cert.LnInLatIdeal.main_arg1) = m ((c.tc : Thread Cert.LnInLatIdeal.nD Cert.LnInLatIdeal.τ).loc Cert.LnInLatIdeal.main_arg1)
      ∧ r.2.mem ((c.tc : Thread Cert.LnInLatIdeal.nD Cert.LnInLatIdeal.τ).loc Cert.LnInLatIdeal.main_arg2) = m ((c.tc : Thread Cert.LnInLatIdeal.nD Cert.LnInLatIdeal.τ).loc Cert.LnInLatIdeal.main_arg2)
      ∧ r.2.mem ((c.tc : Thread Cert.LnInLatIdeal.nD Cert.LnInLatIdeal.τ).loc Cert.LnInLatIdeal.main_arg3) = m ((c.tc : Thread Cert.LnInLatIdeal.nD Cert.LnInLatIdeal.τ).loc Cert.LnInLatIdeal.main_arg3)
      ∧ r.2.mem ((c.tc : Thread Cert.LnInLatIdeal.nD Cert.LnInLatIdeal.τ).loc Cert.LnInLatIdeal.main_arg4) = m ((c.tc : Thread Cert.LnInLatIdeal.nD Cert.LnInLatIdeal.τ).loc Cert.LnInLatIdeal.main_arg4)
      ∧ r.2.mem ((c.tc : Thread Cert.LnInLatIdeal.nD Cert.LnInLatIdeal.τ).loc Cert.LnInLatIdeal.main_arg5) = m ((c.tc : Thread Cert.LnInLatIdeal.nD Cert.LnInLatIdeal.τ).loc Cert.LnInLatIdeal.main_arg5))
      ∧ r.2.sem = fun _ => 0)

def quiescent_LnInLatIdeal_pre_ln_in_finite [hLnInLatIdeal : Cert.LnInLatIdeal.Facts] [hPre_ln_in_finite : Cert.Pre_ln_in_finite.Facts] : Prop :=
  ∀ (m : (ℓ : Loc Cert.LnInLatIdeal.nD Cert.LnInLatIdeal.τ Cert.LnInLatIdeal.sig) → Buf (Elt Ideal) ℓ) (g : Dev Cert.LnInLatIdeal.nD → PrngReg), Pre_LnInLatIdeal_ln_in_finite m →
    θ_run (Cert.LnInLatIdeal.defs (F := Ideal)) (onTc (τ := Cert.LnInLatIdeal.τ) (Cert.LnInLatIdeal.main (F := Ideal))) ⟨m, fun _ => 0, g⟩ (fun r => (∀ c : Dev Cert.LnInLatIdeal.nD,
      r.2.mem ((c.tc : Thread Cert.LnInLatIdeal.nD Cert.LnInLatIdeal.τ).loc Cert.LnInLatIdeal.main_arg0) = m ((c.tc : Thread Cert.LnInLatIdeal.nD Cert.LnInLatIdeal.τ).loc Cert.LnInLatIdeal.main_arg0)
      ∧ r.2.mem ((c.tc : Thread Cert.LnInLatIdeal.nD Cert.LnInLatIdeal.τ).loc Cert.LnInLatIdeal.main_arg1) = m ((c.tc : Thread Cert.LnInLatIdeal.nD Cert.LnInLatIdeal.τ).loc Cert.LnInLatIdeal.main_arg1)
      ∧ r.2.mem ((c.tc : Thread Cert.LnInLatIdeal.nD Cert.LnInLatIdeal.τ).loc Cert.LnInLatIdeal.main_arg2) = m ((c.tc : Thread Cert.LnInLatIdeal.nD Cert.LnInLatIdeal.τ).loc Cert.LnInLatIdeal.main_arg2)
      ∧ r.2.mem ((c.tc : Thread Cert.LnInLatIdeal.nD Cert.LnInLatIdeal.τ).loc Cert.LnInLatIdeal.main_arg3) = m ((c.tc : Thread Cert.LnInLatIdeal.nD Cert.LnInLatIdeal.τ).loc Cert.LnInLatIdeal.main_arg3)
      ∧ r.2.mem ((c.tc : Thread Cert.LnInLatIdeal.nD Cert.LnInLatIdeal.τ).loc Cert.LnInLatIdeal.main_arg4) = m ((c.tc : Thread Cert.LnInLatIdeal.nD Cert.LnInLatIdeal.τ).loc Cert.LnInLatIdeal.main_arg4)
      ∧ r.2.mem ((c.tc : Thread Cert.LnInLatIdeal.nD Cert.LnInLatIdeal.τ).loc Cert.LnInLatIdeal.main_arg5) = m ((c.tc : Thread Cert.LnInLatIdeal.nD Cert.LnInLatIdeal.τ).loc Cert.LnInLatIdeal.main_arg5))
      ∧ r.2.sem = fun _ => 0)

def quiescent_LnInLatRefIdeal [hLnInLatRefIdeal : Cert.LnInLatRefIdeal.Facts] : Prop :=
  ∀ (m : (ℓ : Loc Cert.LnInLatRefIdeal.nD Cert.LnInLatRefIdeal.τ Cert.LnInLatRefIdeal.sig) → Buf (Elt Ideal) ℓ) (g : Dev Cert.LnInLatRefIdeal.nD → PrngReg), Pre_LnInLatRefIdeal m →
    θ_run (Cert.LnInLatRefIdeal.defs (F := Ideal)) (onTc (τ := Cert.LnInLatRefIdeal.τ) (Cert.LnInLatRefIdeal.main (F := Ideal))) ⟨m, fun _ => 0, g⟩ (fun r => (∀ c : Dev Cert.LnInLatRefIdeal.nD,
      r.2.mem ((c.tc : Thread Cert.LnInLatRefIdeal.nD Cert.LnInLatRefIdeal.τ).loc Cert.LnInLatRefIdeal.main_arg0) = m ((c.tc : Thread Cert.LnInLatRefIdeal.nD Cert.LnInLatRefIdeal.τ).loc Cert.LnInLatRefIdeal.main_arg0)
      ∧ r.2.mem ((c.tc : Thread Cert.LnInLatRefIdeal.nD Cert.LnInLatRefIdeal.τ).loc Cert.LnInLatRefIdeal.main_arg1) = m ((c.tc : Thread Cert.LnInLatRefIdeal.nD Cert.LnInLatRefIdeal.τ).loc Cert.LnInLatRefIdeal.main_arg1)
      ∧ r.2.mem ((c.tc : Thread Cert.LnInLatRefIdeal.nD Cert.LnInLatRefIdeal.τ).loc Cert.LnInLatRefIdeal.main_arg2) = m ((c.tc : Thread Cert.LnInLatRefIdeal.nD Cert.LnInLatRefIdeal.τ).loc Cert.LnInLatRefIdeal.main_arg2)
      ∧ r.2.mem ((c.tc : Thread Cert.LnInLatRefIdeal.nD Cert.LnInLatRefIdeal.τ).loc Cert.LnInLatRefIdeal.main_arg3) = m ((c.tc : Thread Cert.LnInLatRefIdeal.nD Cert.LnInLatRefIdeal.τ).loc Cert.LnInLatRefIdeal.main_arg3)
      ∧ r.2.mem ((c.tc : Thread Cert.LnInLatRefIdeal.nD Cert.LnInLatRefIdeal.τ).loc Cert.LnInLatRefIdeal.main_arg4) = m ((c.tc : Thread Cert.LnInLatRefIdeal.nD Cert.LnInLatRefIdeal.τ).loc Cert.LnInLatRefIdeal.main_arg4)
      ∧ r.2.mem ((c.tc : Thread Cert.LnInLatRefIdeal.nD Cert.LnInLatRefIdeal.τ).loc Cert.LnInLatRefIdeal.main_arg5) = m ((c.tc : Thread Cert.LnInLatRefIdeal.nD Cert.LnInLatRefIdeal.τ).loc Cert.LnInLatRefIdeal.main_arg5))
      ∧ r.2.sem = fun _ => 0)

def quiescent_LnInLatRefIdeal_pre_ln_in_finite [hLnInLatRefIdeal : Cert.LnInLatRefIdeal.Facts] [hPre_ln_in_finite : Cert.Pre_ln_in_finite.Facts] : Prop :=
  ∀ (m : (ℓ : Loc Cert.LnInLatRefIdeal.nD Cert.LnInLatRefIdeal.τ Cert.LnInLatRefIdeal.sig) → Buf (Elt Ideal) ℓ) (g : Dev Cert.LnInLatRefIdeal.nD → PrngReg), Pre_LnInLatRefIdeal_ln_in_finite m →
    θ_run (Cert.LnInLatRefIdeal.defs (F := Ideal)) (onTc (τ := Cert.LnInLatRefIdeal.τ) (Cert.LnInLatRefIdeal.main (F := Ideal))) ⟨m, fun _ => 0, g⟩ (fun r => (∀ c : Dev Cert.LnInLatRefIdeal.nD,
      r.2.mem ((c.tc : Thread Cert.LnInLatRefIdeal.nD Cert.LnInLatRefIdeal.τ).loc Cert.LnInLatRefIdeal.main_arg0) = m ((c.tc : Thread Cert.LnInLatRefIdeal.nD Cert.LnInLatRefIdeal.τ).loc Cert.LnInLatRefIdeal.main_arg0)
      ∧ r.2.mem ((c.tc : Thread Cert.LnInLatRefIdeal.nD Cert.LnInLatRefIdeal.τ).loc Cert.LnInLatRefIdeal.main_arg1) = m ((c.tc : Thread Cert.LnInLatRefIdeal.nD Cert.LnInLatRefIdeal.τ).loc Cert.LnInLatRefIdeal.main_arg1)
      ∧ r.2.mem ((c.tc : Thread Cert.LnInLatRefIdeal.nD Cert.LnInLatRefIdeal.τ).loc Cert.LnInLatRefIdeal.main_arg2) = m ((c.tc : Thread Cert.LnInLatRefIdeal.nD Cert.LnInLatRefIdeal.τ).loc Cert.LnInLatRefIdeal.main_arg2)
      ∧ r.2.mem ((c.tc : Thread Cert.LnInLatRefIdeal.nD Cert.LnInLatRefIdeal.τ).loc Cert.LnInLatRefIdeal.main_arg3) = m ((c.tc : Thread Cert.LnInLatRefIdeal.nD Cert.LnInLatRefIdeal.τ).loc Cert.LnInLatRefIdeal.main_arg3)
      ∧ r.2.mem ((c.tc : Thread Cert.LnInLatRefIdeal.nD Cert.LnInLatRefIdeal.τ).loc Cert.LnInLatRefIdeal.main_arg4) = m ((c.tc : Thread Cert.LnInLatRefIdeal.nD Cert.LnInLatRefIdeal.τ).loc Cert.LnInLatRefIdeal.main_arg4)
      ∧ r.2.mem ((c.tc : Thread Cert.LnInLatRefIdeal.nD Cert.LnInLatRefIdeal.τ).loc Cert.LnInLatRefIdeal.main_arg5) = m ((c.tc : Thread Cert.LnInLatRefIdeal.nD Cert.LnInLatRefIdeal.τ).loc Cert.LnInLatRefIdeal.main_arg5))
      ∧ r.2.sem = fun _ => 0)

def quiescent_LnInCtx [hLnInCtx : Cert.LnInCtx.Facts] : Prop :=
  ∀ (m : (ℓ : Loc Cert.LnInCtx.nD Cert.LnInCtx.τ Cert.LnInCtx.sig) → Buf (Elt Bits) ℓ) (g : Dev Cert.LnInCtx.nD → PrngReg), Pre_LnInCtx m →
    θ_run (Cert.LnInCtx.defs (F := Bits)) (onTc (τ := Cert.LnInCtx.τ) (Cert.LnInCtx.main (F := Bits))) ⟨m, fun _ => 0, g⟩ (fun r => (∀ c : Dev Cert.LnInCtx.nD,
      r.2.mem ((c.tc : Thread Cert.LnInCtx.nD Cert.LnInCtx.τ).loc Cert.LnInCtx.main_arg0) = m ((c.tc : Thread Cert.LnInCtx.nD Cert.LnInCtx.τ).loc Cert.LnInCtx.main_arg0)
      ∧ r.2.mem ((c.tc : Thread Cert.LnInCtx.nD Cert.LnInCtx.τ).loc Cert.LnInCtx.main_arg1) = m ((c.tc : Thread Cert.LnInCtx.nD Cert.LnInCtx.τ).loc Cert.LnInCtx.main_arg1)
      ∧ r.2.mem ((c.tc : Thread Cert.LnInCtx.nD Cert.LnInCtx.τ).loc Cert.LnInCtx.main_arg2) = m ((c.tc : Thread Cert.LnInCtx.nD Cert.LnInCtx.τ).loc Cert.LnInCtx.main_arg2)
      ∧ r.2.mem ((c.tc : Thread Cert.LnInCtx.nD Cert.LnInCtx.τ).loc Cert.LnInCtx.main_arg3) = m ((c.tc : Thread Cert.LnInCtx.nD Cert.LnInCtx.τ).loc Cert.LnInCtx.main_arg3)
      ∧ r.2.mem ((c.tc : Thread Cert.LnInCtx.nD Cert.LnInCtx.τ).loc Cert.LnInCtx.main_arg4) = m ((c.tc : Thread Cert.LnInCtx.nD Cert.LnInCtx.τ).loc Cert.LnInCtx.main_arg4))
      ∧ r.2.sem = fun _ => 0)

def quiescent_LnInCtxIdeal [hLnInCtxIdeal : Cert.LnInCtxIdeal.Facts] : Prop :=
  ∀ (m : (ℓ : Loc Cert.LnInCtxIdeal.nD Cert.LnInCtxIdeal.τ Cert.LnInCtxIdeal.sig) → Buf (Elt Ideal) ℓ) (g : Dev Cert.LnInCtxIdeal.nD → PrngReg), Pre_LnInCtxIdeal m →
    θ_run (Cert.LnInCtxIdeal.defs (F := Ideal)) (onTc (τ := Cert.LnInCtxIdeal.τ) (Cert.LnInCtxIdeal.main (F := Ideal))) ⟨m, fun _ => 0, g⟩ (fun r => (∀ c : Dev Cert.LnInCtxIdeal.nD,
      r.2.mem ((c.tc : Thread Cert.LnInCtxIdeal.nD Cert.LnInCtxIdeal.τ).loc Cert.LnInCtxIdeal.main_arg0) = m ((c.tc : Thread Cert.LnInCtxIdeal.nD Cert.LnInCtxIdeal.τ).loc Cert.LnInCtxIdeal.main_arg0)
      ∧ r.2.mem ((c.tc : Thread Cert.LnInCtxIdeal.nD Cert.LnInCtxIdeal.τ).loc Cert.LnInCtxIdeal.main_arg1) = m ((c.tc : Thread Cert.LnInCtxIdeal.nD Cert.LnInCtxIdeal.τ).loc Cert.LnInCtxIdeal.main_arg1)
      ∧ r.2.mem ((c.tc : Thread Cert.LnInCtxIdeal.nD Cert.LnInCtxIdeal.τ).loc Cert.LnInCtxIdeal.main_arg2) = m ((c.tc : Thread Cert.LnInCtxIdeal.nD Cert.LnInCtxIdeal.τ).loc Cert.LnInCtxIdeal.main_arg2)
      ∧ r.2.mem ((c.tc : Thread Cert.LnInCtxIdeal.nD Cert.LnInCtxIdeal.τ).loc Cert.LnInCtxIdeal.main_arg3) = m ((c.tc : Thread Cert.LnInCtxIdeal.nD Cert.LnInCtxIdeal.τ).loc Cert.LnInCtxIdeal.main_arg3)
      ∧ r.2.mem ((c.tc : Thread Cert.LnInCtxIdeal.nD Cert.LnInCtxIdeal.τ).loc Cert.LnInCtxIdeal.main_arg4) = m ((c.tc : Thread Cert.LnInCtxIdeal.nD Cert.LnInCtxIdeal.τ).loc Cert.LnInCtxIdeal.main_arg4))
      ∧ r.2.sem = fun _ => 0)

def quiescent_LnInCtxRefIdeal [hLnInCtxRefIdeal : Cert.LnInCtxRefIdeal.Facts] : Prop :=
  ∀ (m : (ℓ : Loc Cert.LnInCtxRefIdeal.nD Cert.LnInCtxRefIdeal.τ Cert.LnInCtxRefIdeal.sig) → Buf (Elt Ideal) ℓ) (g : Dev Cert.LnInCtxRefIdeal.nD → PrngReg), Pre_LnInCtxRefIdeal m →
    θ_run (Cert.LnInCtxRefIdeal.defs (F := Ideal)) (onTc (τ := Cert.LnInCtxRefIdeal.τ) (Cert.LnInCtxRefIdeal.main (F := Ideal))) ⟨m, fun _ => 0, g⟩ (fun r => (∀ c : Dev Cert.LnInCtxRefIdeal.nD,
      r.2.mem ((c.tc : Thread Cert.LnInCtxRefIdeal.nD Cert.LnInCtxRefIdeal.τ).loc Cert.LnInCtxRefIdeal.main_arg0) = m ((c.tc : Thread Cert.LnInCtxRefIdeal.nD Cert.LnInCtxRefIdeal.τ).loc Cert.LnInCtxRefIdeal.main_arg0)
      ∧ r.2.mem ((c.tc : Thread Cert.LnInCtxRefIdeal.nD Cert.LnInCtxRefIdeal.τ).loc Cert.LnInCtxRefIdeal.main_arg1) = m ((c.tc : Thread Cert.LnInCtxRefIdeal.nD Cert.LnInCtxRefIdeal.τ).loc Cert.LnInCtxRefIdeal.main_arg1)
      ∧ r.2.mem ((c.tc : Thread Cert.LnInCtxRefIdeal.nD Cert.LnInCtxRefIdeal.τ).loc Cert.LnInCtxRefIdeal.main_arg2) = m ((c.tc : Thread Cert.LnInCtxRefIdeal.nD Cert.LnInCtxRefIdeal.τ).loc Cert.LnInCtxRefIdeal.main_arg2)
      ∧ r.2.mem ((c.tc : Thread Cert.LnInCtxRefIdeal.nD Cert.LnInCtxRefIdeal.τ).loc Cert.LnInCtxRefIdeal.main_arg3) = m ((c.tc : Thread Cert.LnInCtxRefIdeal.nD Cert.LnInCtxRefIdeal.τ).loc Cert.LnInCtxRefIdeal.main_arg3)
      ∧ r.2.mem ((c.tc : Thread Cert.LnInCtxRefIdeal.nD Cert.LnInCtxRefIdeal.τ).loc Cert.LnInCtxRefIdeal.main_arg4) = m ((c.tc : Thread Cert.LnInCtxRefIdeal.nD Cert.LnInCtxRefIdeal.τ).loc Cert.LnInCtxRefIdeal.main_arg4))
      ∧ r.2.sem = fun _ => 0)

def quiescent_Ln1Bwd [hLn1Bwd : Cert.Ln1Bwd.Facts] : Prop :=
  ∀ (m : (ℓ : Loc Cert.Ln1Bwd.nD Cert.Ln1Bwd.τ Cert.Ln1Bwd.sig) → Buf (Elt Bits) ℓ) (g : Dev Cert.Ln1Bwd.nD → PrngReg), Pre_Ln1Bwd m →
    θ_run (Cert.Ln1Bwd.defs (F := Bits)) (onTc (τ := Cert.Ln1Bwd.τ) (Cert.Ln1Bwd.main (F := Bits))) ⟨m, fun _ => 0, g⟩ (fun r => (∀ c : Dev Cert.Ln1Bwd.nD,
      r.2.mem ((c.tc : Thread Cert.Ln1Bwd.nD Cert.Ln1Bwd.τ).loc Cert.Ln1Bwd.main_arg0) = m ((c.tc : Thread Cert.Ln1Bwd.nD Cert.Ln1Bwd.τ).loc Cert.Ln1Bwd.main_arg0)
      ∧ r.2.mem ((c.tc : Thread Cert.Ln1Bwd.nD Cert.Ln1Bwd.τ).loc Cert.Ln1Bwd.main_arg1) = m ((c.tc : Thread Cert.Ln1Bwd.nD Cert.Ln1Bwd.τ).loc Cert.Ln1Bwd.main_arg1)
      ∧ r.2.mem ((c.tc : Thread Cert.Ln1Bwd.nD Cert.Ln1Bwd.τ).loc Cert.Ln1Bwd.main_arg2) = m ((c.tc : Thread Cert.Ln1Bwd.nD Cert.Ln1Bwd.τ).loc Cert.Ln1Bwd.main_arg2)
      ∧ r.2.mem ((c.tc : Thread Cert.Ln1Bwd.nD Cert.Ln1Bwd.τ).loc Cert.Ln1Bwd.main_arg3) = m ((c.tc : Thread Cert.Ln1Bwd.nD Cert.Ln1Bwd.τ).loc Cert.Ln1Bwd.main_arg3)
      ∧ r.2.mem ((c.tc : Thread Cert.Ln1Bwd.nD Cert.Ln1Bwd.τ).loc Cert.Ln1Bwd.main_arg4) = m ((c.tc : Thread Cert.Ln1Bwd.nD Cert.Ln1Bwd.τ).loc Cert.Ln1Bwd.main_arg4)
      ∧ r.2.mem ((c.tc : Thread Cert.Ln1Bwd.nD Cert.Ln1Bwd.τ).loc Cert.Ln1Bwd.main_arg5) = m ((c.tc : Thread Cert.Ln1Bwd.nD Cert.Ln1Bwd.τ).loc Cert.Ln1Bwd.main_arg5)
      ∧ r.2.mem ((c.tc : Thread Cert.Ln1Bwd.nD Cert.Ln1Bwd.τ).loc Cert.Ln1Bwd.main_arg6) = m ((c.tc : Thread Cert.Ln1Bwd.nD Cert.Ln1Bwd.τ).loc Cert.Ln1Bwd.main_arg6)
      ∧ r.2.mem ((c.tc : Thread Cert.Ln1Bwd.nD Cert.Ln1Bwd.τ).loc Cert.Ln1Bwd.main_arg7) = m ((c.tc : Thread Cert.Ln1Bwd.nD Cert.Ln1Bwd.τ).loc Cert.Ln1Bwd.main_arg7))
      ∧ r.2.sem = fun _ => 0)

def quiescent_Ln1BwdIdeal [hLn1BwdIdeal : Cert.Ln1BwdIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
      ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
      ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7))
      ∧ r.2.sem = fun _ => 0)

def quiescent_Ln1BwdIdeal_pre_ln1_finite [hLn1BwdIdeal : Cert.Ln1BwdIdeal.Facts] [hPre_ln1_finite : Cert.Pre_ln1_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal_ln1_finite m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
      ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
      ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7))
      ∧ r.2.sem = fun _ => 0)

def quiescent_Ln1BwdRefIdeal [hLn1BwdRefIdeal : Cert.Ln1BwdRefIdeal.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5)
      ∧ r.2.mem ((c.tc : Thread Cert.Ln1BwdRefIdeal.nD Cert.Ln1BwdRefIdeal.τ).loc Cert.Ln1BwdRefIdeal.main_arg6) = m ((c.tc : Thread Cert.Ln1BwdRefIdeal.nD Cert.Ln1BwdRefIdeal.τ).loc Cert.Ln1BwdRefIdeal.main_arg6)
      ∧ r.2.mem ((c.tc : Thread Cert.Ln1BwdRefIdeal.nD Cert.Ln1BwdRefIdeal.τ).loc Cert.Ln1BwdRefIdeal.main_arg7) = m ((c.tc : Thread Cert.Ln1BwdRefIdeal.nD Cert.Ln1BwdRefIdeal.τ).loc Cert.Ln1BwdRefIdeal.main_arg7))
      ∧ r.2.sem = fun _ => 0)

def quiescent_Ln1BwdRefIdeal_pre_ln1_finite [hLn1BwdRefIdeal : Cert.Ln1BwdRefIdeal.Facts] [hPre_ln1_finite : Cert.Pre_ln1_finite.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal_ln1_finite m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5)
      ∧ r.2.mem ((c.tc : Thread Cert.Ln1BwdRefIdeal.nD Cert.Ln1BwdRefIdeal.τ).loc Cert.Ln1BwdRefIdeal.main_arg6) = m ((c.tc : Thread Cert.Ln1BwdRefIdeal.nD Cert.Ln1BwdRefIdeal.τ).loc Cert.Ln1BwdRefIdeal.main_arg6)
      ∧ r.2.mem ((c.tc : Thread Cert.Ln1BwdRefIdeal.nD Cert.Ln1BwdRefIdeal.τ).loc Cert.Ln1BwdRefIdeal.main_arg7) = m ((c.tc : Thread Cert.Ln1BwdRefIdeal.nD Cert.Ln1BwdRefIdeal.τ).loc Cert.Ln1BwdRefIdeal.main_arg7))
      ∧ r.2.sem = fun _ => 0)

def quiescent_B1Grad [hB1Grad : Cert.B1Grad.Facts] : Prop :=
  ∀ (m : (ℓ : Loc Cert.B1Grad.nD Cert.B1Grad.τ Cert.B1Grad.sig) → Buf (Elt Bits) ℓ) (g : Dev Cert.B1Grad.nD → PrngReg), Pre_B1Grad m →
    θ_run (Cert.B1Grad.defs (F := Bits)) (onTc (τ := Cert.B1Grad.τ) (Cert.B1Grad.main (F := Bits))) ⟨m, fun _ => 0, g⟩ (fun r => (∀ c : Dev Cert.B1Grad.nD,
      r.2.mem ((c.tc : Thread Cert.B1Grad.nD Cert.B1Grad.τ).loc Cert.B1Grad.main_arg0) = m ((c.tc : Thread Cert.B1Grad.nD Cert.B1Grad.τ).loc Cert.B1Grad.main_arg0))
      ∧ r.2.sem = fun _ => 0)

def quiescent_B1GradIdeal [hB1GradIdeal : Cert.B1GradIdeal.Facts] : Prop :=
  ∀ (m : (ℓ : Loc Cert.B1GradIdeal.nD Cert.B1GradIdeal.τ Cert.B1GradIdeal.sig) → Buf (Elt Ideal) ℓ) (g : Dev Cert.B1GradIdeal.nD → PrngReg), Pre_B1GradIdeal m →
    θ_run (Cert.B1GradIdeal.defs (F := Ideal)) (onTc (τ := Cert.B1GradIdeal.τ) (Cert.B1GradIdeal.main (F := Ideal))) ⟨m, fun _ => 0, g⟩ (fun r => (∀ c : Dev Cert.B1GradIdeal.nD,
      r.2.mem ((c.tc : Thread Cert.B1GradIdeal.nD Cert.B1GradIdeal.τ).loc Cert.B1GradIdeal.main_arg0) = m ((c.tc : Thread Cert.B1GradIdeal.nD Cert.B1GradIdeal.τ).loc Cert.B1GradIdeal.main_arg0))
      ∧ r.2.sem = fun _ => 0)

def quiescent_B1GradRefIdeal [hB1GradRefIdeal : Cert.B1GradRefIdeal.Facts] : Prop :=
  ∀ (m : (ℓ : Loc Cert.B1GradRefIdeal.nD Cert.B1GradRefIdeal.τ Cert.B1GradRefIdeal.sig) → Buf (Elt Ideal) ℓ) (g : Dev Cert.B1GradRefIdeal.nD → PrngReg), Pre_B1GradRefIdeal m →
    θ_run (Cert.B1GradRefIdeal.defs (F := Ideal)) (onTc (τ := Cert.B1GradRefIdeal.τ) (Cert.B1GradRefIdeal.main (F := Ideal))) ⟨m, fun _ => 0, g⟩ (fun r => (∀ c : Dev Cert.B1GradRefIdeal.nD,
      r.2.mem ((c.tc : Thread Cert.B1GradRefIdeal.nD Cert.B1GradRefIdeal.τ).loc Cert.B1GradRefIdeal.main_arg0) = m ((c.tc : Thread Cert.B1GradRefIdeal.nD Cert.B1GradRefIdeal.τ).loc Cert.B1GradRefIdeal.main_arg0))
      ∧ r.2.sem = fun _ => 0)

def quiescent_BmodGrad [hBmodGrad : Cert.BmodGrad.Facts] : Prop :=
  ∀ (m : (ℓ : Loc Cert.BmodGrad.nD Cert.BmodGrad.τ Cert.BmodGrad.sig) → Buf (Elt Bits) ℓ) (g : Dev Cert.BmodGrad.nD → PrngReg), Pre_BmodGrad m →
    θ_run (Cert.BmodGrad.defs (F := Bits)) (onTc (τ := Cert.BmodGrad.τ) (Cert.BmodGrad.main (F := Bits))) ⟨m, fun _ => 0, g⟩ (fun r => (∀ c : Dev Cert.BmodGrad.nD,
      r.2.mem ((c.tc : Thread Cert.BmodGrad.nD Cert.BmodGrad.τ).loc Cert.BmodGrad.main_arg0) = m ((c.tc : Thread Cert.BmodGrad.nD Cert.BmodGrad.τ).loc Cert.BmodGrad.main_arg0))
      ∧ r.2.sem = fun _ => 0)

def quiescent_BmodGradIdeal [hBmodGradIdeal : Cert.BmodGradIdeal.Facts] : Prop :=
  ∀ (m : (ℓ : Loc Cert.BmodGradIdeal.nD Cert.BmodGradIdeal.τ Cert.BmodGradIdeal.sig) → Buf (Elt Ideal) ℓ) (g : Dev Cert.BmodGradIdeal.nD → PrngReg), Pre_BmodGradIdeal m →
    θ_run (Cert.BmodGradIdeal.defs (F := Ideal)) (onTc (τ := Cert.BmodGradIdeal.τ) (Cert.BmodGradIdeal.main (F := Ideal))) ⟨m, fun _ => 0, g⟩ (fun r => (∀ c : Dev Cert.BmodGradIdeal.nD,
      r.2.mem ((c.tc : Thread Cert.BmodGradIdeal.nD Cert.BmodGradIdeal.τ).loc Cert.BmodGradIdeal.main_arg0) = m ((c.tc : Thread Cert.BmodGradIdeal.nD Cert.BmodGradIdeal.τ).loc Cert.BmodGradIdeal.main_arg0))
      ∧ r.2.sem = fun _ => 0)

def quiescent_BmodGradRefIdeal [hBmodGradRefIdeal : Cert.BmodGradRefIdeal.Facts] : Prop :=
  ∀ (m : (ℓ : Loc Cert.BmodGradRefIdeal.nD Cert.BmodGradRefIdeal.τ Cert.BmodGradRefIdeal.sig) → Buf (Elt Ideal) ℓ) (g : Dev Cert.BmodGradRefIdeal.nD → PrngReg), Pre_BmodGradRefIdeal m →
    θ_run (Cert.BmodGradRefIdeal.defs (F := Ideal)) (onTc (τ := Cert.BmodGradRefIdeal.τ) (Cert.BmodGradRefIdeal.main (F := Ideal))) ⟨m, fun _ => 0, g⟩ (fun r => (∀ c : Dev Cert.BmodGradRefIdeal.nD,
      r.2.mem ((c.tc : Thread Cert.BmodGradRefIdeal.nD Cert.BmodGradRefIdeal.τ).loc Cert.BmodGradRefIdeal.main_arg0) = m ((c.tc : Thread Cert.BmodGradRefIdeal.nD Cert.BmodGradRefIdeal.τ).loc Cert.BmodGradRefIdeal.main_arg0))
      ∧ r.2.sem = fun _ => 0)

def quiescent_CctxGrad [hCctxGrad : Cert.CctxGrad.Facts] : Prop :=
  ∀ (m : (ℓ : Loc Cert.CctxGrad.nD Cert.CctxGrad.τ Cert.CctxGrad.sig) → Buf (Elt Bits) ℓ) (g : Dev Cert.CctxGrad.nD → PrngReg), Pre_CctxGrad m →
    θ_run (Cert.CctxGrad.defs (F := Bits)) (onTc (τ := Cert.CctxGrad.τ) (Cert.CctxGrad.main (F := Bits))) ⟨m, fun _ => 0, g⟩ (fun r => (∀ c : Dev Cert.CctxGrad.nD,
      r.2.mem ((c.tc : Thread Cert.CctxGrad.nD Cert.CctxGrad.τ).loc Cert.CctxGrad.main_arg0) = m ((c.tc : Thread Cert.CctxGrad.nD Cert.CctxGrad.τ).loc Cert.CctxGrad.main_arg0)
      ∧ r.2.mem ((c.tc : Thread Cert.CctxGrad.nD Cert.CctxGrad.τ).loc Cert.CctxGrad.main_arg1) = m ((c.tc : Thread Cert.CctxGrad.nD Cert.CctxGrad.τ).loc Cert.CctxGrad.main_arg1))
      ∧ r.2.sem = fun _ => 0)

def quiescent_CctxGradIdeal [hCctxGradIdeal : Cert.CctxGradIdeal.Facts] : Prop :=
  ∀ (m : (ℓ : Loc Cert.CctxGradIdeal.nD Cert.CctxGradIdeal.τ Cert.CctxGradIdeal.sig) → Buf (Elt Ideal) ℓ) (g : Dev Cert.CctxGradIdeal.nD → PrngReg), Pre_CctxGradIdeal m →
    θ_run (Cert.CctxGradIdeal.defs (F := Ideal)) (onTc (τ := Cert.CctxGradIdeal.τ) (Cert.CctxGradIdeal.main (F := Ideal))) ⟨m, fun _ => 0, g⟩ (fun r => (∀ c : Dev Cert.CctxGradIdeal.nD,
      r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
      ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ r.2.sem = fun _ => 0)

def quiescent_CctxGradIdeal_pre_cctx_finite [hCctxGradIdeal : Cert.CctxGradIdeal.Facts] [hPre_cctx_finite : Cert.Pre_cctx_finite.Facts] : Prop :=
  ∀ (m : (ℓ : Loc Cert.CctxGradIdeal.nD Cert.CctxGradIdeal.τ Cert.CctxGradIdeal.sig) → Buf (Elt Ideal) ℓ) (g : Dev Cert.CctxGradIdeal.nD → PrngReg), Pre_CctxGradIdeal_cctx_finite m →
    θ_run (Cert.CctxGradIdeal.defs (F := Ideal)) (onTc (τ := Cert.CctxGradIdeal.τ) (Cert.CctxGradIdeal.main (F := Ideal))) ⟨m, fun _ => 0, g⟩ (fun r => (∀ c : Dev Cert.CctxGradIdeal.nD,
      r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
      ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ r.2.sem = fun _ => 0)

def quiescent_CctxGradRefIdeal [hCctxGradRefIdeal : Cert.CctxGradRefIdeal.Facts] : Prop :=
  ∀ (m : (ℓ : Loc Cert.CctxGradRefIdeal.nD Cert.CctxGradRefIdeal.τ Cert.CctxGradRefIdeal.sig) → Buf (Elt Ideal) ℓ) (g : Dev Cert.CctxGradRefIdeal.nD → PrngReg), Pre_CctxGradRefIdeal m →
    θ_run (Cert.CctxGradRefIdeal.defs (F := Ideal)) (onTc (τ := Cert.CctxGradRefIdeal.τ) (Cert.CctxGradRefIdeal.main (F := Ideal))) ⟨m, fun _ => 0, g⟩ (fun r => (∀ c : Dev Cert.CctxGradRefIdeal.nD,
      r.2.mem ((c.tc : Thread Cert.CctxGradRefIdeal.nD Cert.CctxGradRefIdeal.τ).loc Cert.CctxGradRefIdeal.main_arg0) = m ((c.tc : Thread Cert.CctxGradRefIdeal.nD Cert.CctxGradRefIdeal.τ).loc Cert.CctxGradRefIdeal.main_arg0)
      ∧ r.2.mem ((c.tc : Thread Cert.CctxGradRefIdeal.nD Cert.CctxGradRefIdeal.τ).loc Cert.CctxGradRefIdeal.main_arg1) = m ((c.tc : Thread Cert.CctxGradRefIdeal.nD Cert.CctxGradRefIdeal.τ).loc Cert.CctxGradRefIdeal.main_arg1))
      ∧ r.2.sem = fun _ => 0)

def quiescent_CctxGradRefIdeal_pre_cctx_finite [hCctxGradRefIdeal : Cert.CctxGradRefIdeal.Facts] [hPre_cctx_finite : Cert.Pre_cctx_finite.Facts] : Prop :=
  ∀ (m : (ℓ : Loc Cert.CctxGradRefIdeal.nD Cert.CctxGradRefIdeal.τ Cert.CctxGradRefIdeal.sig) → Buf (Elt Ideal) ℓ) (g : Dev Cert.CctxGradRefIdeal.nD → PrngReg), Pre_CctxGradRefIdeal_cctx_finite m →
    θ_run (Cert.CctxGradRefIdeal.defs (F := Ideal)) (onTc (τ := Cert.CctxGradRefIdeal.τ) (Cert.CctxGradRefIdeal.main (F := Ideal))) ⟨m, fun _ => 0, g⟩ (fun r => (∀ c : Dev Cert.CctxGradRefIdeal.nD,
      r.2.mem ((c.tc : Thread Cert.CctxGradRefIdeal.nD Cert.CctxGradRefIdeal.τ).loc Cert.CctxGradRefIdeal.main_arg0) = m ((c.tc : Thread Cert.CctxGradRefIdeal.nD Cert.CctxGradRefIdeal.τ).loc Cert.CctxGradRefIdeal.main_arg0)
      ∧ r.2.mem ((c.tc : Thread Cert.CctxGradRefIdeal.nD Cert.CctxGradRefIdeal.τ).loc Cert.CctxGradRefIdeal.main_arg1) = m ((c.tc : Thread Cert.CctxGradRefIdeal.nD Cert.CctxGradRefIdeal.τ).loc Cert.CctxGradRefIdeal.main_arg1))
      ∧ r.2.sem = fun _ => 0)

def quiescent_LnLatFwd [hLnLatFwd : Cert.LnLatFwd.Facts] : Prop :=
  ∀ (m : (ℓ : Loc Cert.LnLatFwd.nD Cert.LnLatFwd.τ Cert.LnLatFwd.sig) → Buf (Elt Bits) ℓ) (g : Dev Cert.LnLatFwd.nD → PrngReg), Pre_LnLatFwd m →
    θ_run (Cert.LnLatFwd.defs (F := Bits)) (onTc (τ := Cert.LnLatFwd.τ) (Cert.LnLatFwd.main (F := Bits))) ⟨m, fun _ => 0, g⟩ (fun r => (∀ c : Dev Cert.LnLatFwd.nD,
      r.2.mem ((c.tc : Thread Cert.LnLatFwd.nD Cert.LnLatFwd.τ).loc Cert.LnLatFwd.main_arg0) = m ((c.tc : Thread Cert.LnLatFwd.nD Cert.LnLatFwd.τ).loc Cert.LnLatFwd.main_arg0)
      ∧ r.2.mem ((c.tc : Thread Cert.LnLatFwd.nD Cert.LnLatFwd.τ).loc Cert.LnLatFwd.main_arg1) = m ((c.tc : Thread Cert.LnLatFwd.nD Cert.LnLatFwd.τ).loc Cert.LnLatFwd.main_arg1)
      ∧ r.2.mem ((c.tc : Thread Cert.LnLatFwd.nD Cert.LnLatFwd.τ).loc Cert.LnLatFwd.main_arg2) = m ((c.tc : Thread Cert.LnLatFwd.nD Cert.LnLatFwd.τ).loc Cert.LnLatFwd.main_arg2)
      ∧ r.2.mem ((c.tc : Thread Cert.LnLatFwd.nD Cert.LnLatFwd.τ).loc Cert.LnLatFwd.main_arg3) = m ((c.tc : Thread Cert.LnLatFwd.nD Cert.LnLatFwd.τ).loc Cert.LnLatFwd.main_arg3)
      ∧ r.2.mem ((c.tc : Thread Cert.LnLatFwd.nD Cert.LnLatFwd.τ).loc Cert.LnLatFwd.main_arg4) = m ((c.tc : Thread Cert.LnLatFwd.nD Cert.LnLatFwd.τ).loc Cert.LnLatFwd.main_arg4))
      ∧ r.2.sem = fun _ => 0)

def quiescent_LnLatFwdIdeal [hLnLatFwdIdeal : Cert.LnLatFwdIdeal.Facts] : Prop :=
  ∀ (m : (ℓ : Loc Cert.LnLatFwdIdeal.nD Cert.LnLatFwdIdeal.τ Cert.LnLatFwdIdeal.sig) → Buf (Elt Ideal) ℓ) (g : Dev Cert.LnLatFwdIdeal.nD → PrngReg), Pre_LnLatFwdIdeal m →
    θ_run (Cert.LnLatFwdIdeal.defs (F := Ideal)) (onTc (τ := Cert.LnLatFwdIdeal.τ) (Cert.LnLatFwdIdeal.main (F := Ideal))) ⟨m, fun _ => 0, g⟩ (fun r => (∀ c : Dev Cert.LnLatFwdIdeal.nD,
      r.2.mem ((c.tc : Thread Cert.LnLatFwdIdeal.nD Cert.LnLatFwdIdeal.τ).loc Cert.LnLatFwdIdeal.main_arg0) = m ((c.tc : Thread Cert.LnLatFwdIdeal.nD Cert.LnLatFwdIdeal.τ).loc Cert.LnLatFwdIdeal.main_arg0)
      ∧ r.2.mem ((c.tc : Thread Cert.LnLatFwdIdeal.nD Cert.LnLatFwdIdeal.τ).loc Cert.LnLatFwdIdeal.main_arg1) = m ((c.tc : Thread Cert.LnLatFwdIdeal.nD Cert.LnLatFwdIdeal.τ).loc Cert.LnLatFwdIdeal.main_arg1)
      ∧ r.2.mem ((c.tc : Thread Cert.LnLatFwdIdeal.nD Cert.LnLatFwdIdeal.τ).loc Cert.LnLatFwdIdeal.main_arg2) = m ((c.tc : Thread Cert.LnLatFwdIdeal.nD Cert.LnLatFwdIdeal.τ).loc Cert.LnLatFwdIdeal.main_arg2)
      ∧ r.2.mem ((c.tc : Thread Cert.LnLatFwdIdeal.nD Cert.LnLatFwdIdeal.τ).loc Cert.LnLatFwdIdeal.main_arg3) = m ((c.tc : Thread Cert.LnLatFwdIdeal.nD Cert.LnLatFwdIdeal.τ).loc Cert.LnLatFwdIdeal.main_arg3)
      ∧ r.2.mem ((c.tc : Thread Cert.LnLatFwdIdeal.nD Cert.LnLatFwdIdeal.τ).loc Cert.LnLatFwdIdeal.main_arg4) = m ((c.tc : Thread Cert.LnLatFwdIdeal.nD Cert.LnLatFwdIdeal.τ).loc Cert.LnLatFwdIdeal.main_arg4))
      ∧ r.2.sem = fun _ => 0)

def quiescent_LnLatFwdRefIdeal [hLnLatFwdRefIdeal : Cert.LnLatFwdRefIdeal.Facts] : Prop :=
  ∀ (m : (ℓ : Loc Cert.LnLatFwdRefIdeal.nD Cert.LnLatFwdRefIdeal.τ Cert.LnLatFwdRefIdeal.sig) → Buf (Elt Ideal) ℓ) (g : Dev Cert.LnLatFwdRefIdeal.nD → PrngReg), Pre_LnLatFwdRefIdeal m →
    θ_run (Cert.LnLatFwdRefIdeal.defs (F := Ideal)) (onTc (τ := Cert.LnLatFwdRefIdeal.τ) (Cert.LnLatFwdRefIdeal.main (F := Ideal))) ⟨m, fun _ => 0, g⟩ (fun r => (∀ c : Dev Cert.LnLatFwdRefIdeal.nD,
      r.2.mem ((c.tc : Thread Cert.LnLatFwdRefIdeal.nD Cert.LnLatFwdRefIdeal.τ).loc Cert.LnLatFwdRefIdeal.main_arg0) = m ((c.tc : Thread Cert.LnLatFwdRefIdeal.nD Cert.LnLatFwdRefIdeal.τ).loc Cert.LnLatFwdRefIdeal.main_arg0)
      ∧ r.2.mem ((c.tc : Thread Cert.LnLatFwdRefIdeal.nD Cert.LnLatFwdRefIdeal.τ).loc Cert.LnLatFwdRefIdeal.main_arg1) = m ((c.tc : Thread Cert.LnLatFwdRefIdeal.nD Cert.LnLatFwdRefIdeal.τ).loc Cert.LnLatFwdRefIdeal.main_arg1)
      ∧ r.2.mem ((c.tc : Thread Cert.LnLatFwdRefIdeal.nD Cert.LnLatFwdRefIdeal.τ).loc Cert.LnLatFwdRefIdeal.main_arg2) = m ((c.tc : Thread Cert.LnLatFwdRefIdeal.nD Cert.LnLatFwdRefIdeal.τ).loc Cert.LnLatFwdRefIdeal.main_arg2)
      ∧ r.2.mem ((c.tc : Thread Cert.LnLatFwdRefIdeal.nD Cert.LnLatFwdRefIdeal.τ).loc Cert.LnLatFwdRefIdeal.main_arg3) = m ((c.tc : Thread Cert.LnLatFwdRefIdeal.nD Cert.LnLatFwdRefIdeal.τ).loc Cert.LnLatFwdRefIdeal.main_arg3)
      ∧ r.2.mem ((c.tc : Thread Cert.LnLatFwdRefIdeal.nD Cert.LnLatFwdRefIdeal.τ).loc Cert.LnLatFwdRefIdeal.main_arg4) = m ((c.tc : Thread Cert.LnLatFwdRefIdeal.nD Cert.LnLatFwdRefIdeal.τ).loc Cert.LnLatFwdRefIdeal.main_arg4))
      ∧ r.2.sem = fun _ => 0)

def quiescent_LnCtxFwd [hLnCtxFwd : Cert.LnCtxFwd.Facts] : Prop :=
  ∀ (m : (ℓ : Loc Cert.LnCtxFwd.nD Cert.LnCtxFwd.τ Cert.LnCtxFwd.sig) → Buf (Elt Bits) ℓ) (g : Dev Cert.LnCtxFwd.nD → PrngReg), Pre_LnCtxFwd m →
    θ_run (Cert.LnCtxFwd.defs (F := Bits)) (onTc (τ := Cert.LnCtxFwd.τ) (Cert.LnCtxFwd.main (F := Bits))) ⟨m, fun _ => 0, g⟩ (fun r => (∀ c : Dev Cert.LnCtxFwd.nD,
      r.2.mem ((c.tc : Thread Cert.LnCtxFwd.nD Cert.LnCtxFwd.τ).loc Cert.LnCtxFwd.main_arg0) = m ((c.tc : Thread Cert.LnCtxFwd.nD Cert.LnCtxFwd.τ).loc Cert.LnCtxFwd.main_arg0)
      ∧ r.2.mem ((c.tc : Thread Cert.LnCtxFwd.nD Cert.LnCtxFwd.τ).loc Cert.LnCtxFwd.main_arg1) = m ((c.tc : Thread Cert.LnCtxFwd.nD Cert.LnCtxFwd.τ).loc Cert.LnCtxFwd.main_arg1)
      ∧ r.2.mem ((c.tc : Thread Cert.LnCtxFwd.nD Cert.LnCtxFwd.τ).loc Cert.LnCtxFwd.main_arg2) = m ((c.tc : Thread Cert.LnCtxFwd.nD Cert.LnCtxFwd.τ).loc Cert.LnCtxFwd.main_arg2)
      ∧ r.2.mem ((c.tc : Thread Cert.LnCtxFwd.nD Cert.LnCtxFwd.τ).loc Cert.LnCtxFwd.main_arg3) = m ((c.tc : Thread Cert.LnCtxFwd.nD Cert.LnCtxFwd.τ).loc Cert.LnCtxFwd.main_arg3)
      ∧ r.2.mem ((c.tc : Thread Cert.LnCtxFwd.nD Cert.LnCtxFwd.τ).loc Cert.LnCtxFwd.main_arg4) = m ((c.tc : Thread Cert.LnCtxFwd.nD Cert.LnCtxFwd.τ).loc Cert.LnCtxFwd.main_arg4))
      ∧ r.2.sem = fun _ => 0)

def quiescent_LnCtxFwdIdeal [hLnCtxFwdIdeal : Cert.LnCtxFwdIdeal.Facts] : Prop :=
  ∀ (m : (ℓ : Loc Cert.LnCtxFwdIdeal.nD Cert.LnCtxFwdIdeal.τ Cert.LnCtxFwdIdeal.sig) → Buf (Elt Ideal) ℓ) (g : Dev Cert.LnCtxFwdIdeal.nD → PrngReg), Pre_LnCtxFwdIdeal m →
    θ_run (Cert.LnCtxFwdIdeal.defs (F := Ideal)) (onTc (τ := Cert.LnCtxFwdIdeal.τ) (Cert.LnCtxFwdIdeal.main (F := Ideal))) ⟨m, fun _ => 0, g⟩ (fun r => (∀ c : Dev Cert.LnCtxFwdIdeal.nD,
      r.2.mem ((c.tc : Thread Cert.LnCtxFwdIdeal.nD Cert.LnCtxFwdIdeal.τ).loc Cert.LnCtxFwdIdeal.main_arg0) = m ((c.tc : Thread Cert.LnCtxFwdIdeal.nD Cert.LnCtxFwdIdeal.τ).loc Cert.LnCtxFwdIdeal.main_arg0)
      ∧ r.2.mem ((c.tc : Thread Cert.LnCtxFwdIdeal.nD Cert.LnCtxFwdIdeal.τ).loc Cert.LnCtxFwdIdeal.main_arg1) = m ((c.tc : Thread Cert.LnCtxFwdIdeal.nD Cert.LnCtxFwdIdeal.τ).loc Cert.LnCtxFwdIdeal.main_arg1)
      ∧ r.2.mem ((c.tc : Thread Cert.LnCtxFwdIdeal.nD Cert.LnCtxFwdIdeal.τ).loc Cert.LnCtxFwdIdeal.main_arg2) = m ((c.tc : Thread Cert.LnCtxFwdIdeal.nD Cert.LnCtxFwdIdeal.τ).loc Cert.LnCtxFwdIdeal.main_arg2)
      ∧ r.2.mem ((c.tc : Thread Cert.LnCtxFwdIdeal.nD Cert.LnCtxFwdIdeal.τ).loc Cert.LnCtxFwdIdeal.main_arg3) = m ((c.tc : Thread Cert.LnCtxFwdIdeal.nD Cert.LnCtxFwdIdeal.τ).loc Cert.LnCtxFwdIdeal.main_arg3)
      ∧ r.2.mem ((c.tc : Thread Cert.LnCtxFwdIdeal.nD Cert.LnCtxFwdIdeal.τ).loc Cert.LnCtxFwdIdeal.main_arg4) = m ((c.tc : Thread Cert.LnCtxFwdIdeal.nD Cert.LnCtxFwdIdeal.τ).loc Cert.LnCtxFwdIdeal.main_arg4))
      ∧ r.2.sem = fun _ => 0)

def quiescent_LnCtxFwdRefIdeal [hLnCtxFwdRefIdeal : Cert.LnCtxFwdRefIdeal.Facts] : Prop :=
  ∀ (m : (ℓ : Loc Cert.LnCtxFwdRefIdeal.nD Cert.LnCtxFwdRefIdeal.τ Cert.LnCtxFwdRefIdeal.sig) → Buf (Elt Ideal) ℓ) (g : Dev Cert.LnCtxFwdRefIdeal.nD → PrngReg), Pre_LnCtxFwdRefIdeal m →
    θ_run (Cert.LnCtxFwdRefIdeal.defs (F := Ideal)) (onTc (τ := Cert.LnCtxFwdRefIdeal.τ) (Cert.LnCtxFwdRefIdeal.main (F := Ideal))) ⟨m, fun _ => 0, g⟩ (fun r => (∀ c : Dev Cert.LnCtxFwdRefIdeal.nD,
      r.2.mem ((c.tc : Thread Cert.LnCtxFwdRefIdeal.nD Cert.LnCtxFwdRefIdeal.τ).loc Cert.LnCtxFwdRefIdeal.main_arg0) = m ((c.tc : Thread Cert.LnCtxFwdRefIdeal.nD Cert.LnCtxFwdRefIdeal.τ).loc Cert.LnCtxFwdRefIdeal.main_arg0)
      ∧ r.2.mem ((c.tc : Thread Cert.LnCtxFwdRefIdeal.nD Cert.LnCtxFwdRefIdeal.τ).loc Cert.LnCtxFwdRefIdeal.main_arg1) = m ((c.tc : Thread Cert.LnCtxFwdRefIdeal.nD Cert.LnCtxFwdRefIdeal.τ).loc Cert.LnCtxFwdRefIdeal.main_arg1)
      ∧ r.2.mem ((c.tc : Thread Cert.LnCtxFwdRefIdeal.nD Cert.LnCtxFwdRefIdeal.τ).loc Cert.LnCtxFwdRefIdeal.main_arg2) = m ((c.tc : Thread Cert.LnCtxFwdRefIdeal.nD Cert.LnCtxFwdRefIdeal.τ).loc Cert.LnCtxFwdRefIdeal.main_arg2)
      ∧ r.2.mem ((c.tc : Thread Cert.LnCtxFwdRefIdeal.nD Cert.LnCtxFwdRefIdeal.τ).loc Cert.LnCtxFwdRefIdeal.main_arg3) = m ((c.tc : Thread Cert.LnCtxFwdRefIdeal.nD Cert.LnCtxFwdRefIdeal.τ).loc Cert.LnCtxFwdRefIdeal.main_arg3)
      ∧ r.2.mem ((c.tc : Thread Cert.LnCtxFwdRefIdeal.nD Cert.LnCtxFwdRefIdeal.τ).loc Cert.LnCtxFwdRefIdeal.main_arg4) = m ((c.tc : Thread Cert.LnCtxFwdRefIdeal.nD Cert.LnCtxFwdRefIdeal.τ).loc Cert.LnCtxFwdRefIdeal.main_arg4))
      ∧ r.2.sem = fun _ => 0)

def quiescent_Ln1Fwd [hLn1Fwd : Cert.Ln1Fwd.Facts] : Prop :=
  ∀ (m : (ℓ : Loc Cert.Ln1Fwd.nD Cert.Ln1Fwd.τ Cert.Ln1Fwd.sig) → Buf (Elt Bits) ℓ) (g : Dev Cert.Ln1Fwd.nD → PrngReg), Pre_Ln1Fwd m →
    θ_run (Cert.Ln1Fwd.defs (F := Bits)) (onTc (τ := Cert.Ln1Fwd.τ) (Cert.Ln1Fwd.main (F := Bits))) ⟨m, fun _ => 0, g⟩ (fun r => (∀ c : Dev Cert.Ln1Fwd.nD,
      r.2.mem ((c.tc : Thread Cert.Ln1Fwd.nD Cert.Ln1Fwd.τ).loc Cert.Ln1Fwd.main_arg0) = m ((c.tc : Thread Cert.Ln1Fwd.nD Cert.Ln1Fwd.τ).loc Cert.Ln1Fwd.main_arg0)
      ∧ r.2.mem ((c.tc : Thread Cert.Ln1Fwd.nD Cert.Ln1Fwd.τ).loc Cert.Ln1Fwd.main_arg1) = m ((c.tc : Thread Cert.Ln1Fwd.nD Cert.Ln1Fwd.τ).loc Cert.Ln1Fwd.main_arg1)
      ∧ r.2.mem ((c.tc : Thread Cert.Ln1Fwd.nD Cert.Ln1Fwd.τ).loc Cert.Ln1Fwd.main_arg2) = m ((c.tc : Thread Cert.Ln1Fwd.nD Cert.Ln1Fwd.τ).loc Cert.Ln1Fwd.main_arg2)
      ∧ r.2.mem ((c.tc : Thread Cert.Ln1Fwd.nD Cert.Ln1Fwd.τ).loc Cert.Ln1Fwd.main_arg3) = m ((c.tc : Thread Cert.Ln1Fwd.nD Cert.Ln1Fwd.τ).loc Cert.Ln1Fwd.main_arg3)
      ∧ r.2.mem ((c.tc : Thread Cert.Ln1Fwd.nD Cert.Ln1Fwd.τ).loc Cert.Ln1Fwd.main_arg4) = m ((c.tc : Thread Cert.Ln1Fwd.nD Cert.Ln1Fwd.τ).loc Cert.Ln1Fwd.main_arg4)
      ∧ r.2.mem ((c.tc : Thread Cert.Ln1Fwd.nD Cert.Ln1Fwd.τ).loc Cert.Ln1Fwd.main_arg5) = m ((c.tc : Thread Cert.Ln1Fwd.nD Cert.Ln1Fwd.τ).loc Cert.Ln1Fwd.main_arg5)
      ∧ r.2.mem ((c.tc : Thread Cert.Ln1Fwd.nD Cert.Ln1Fwd.τ).loc Cert.Ln1Fwd.main_arg6) = m ((c.tc : Thread Cert.Ln1Fwd.nD Cert.Ln1Fwd.τ).loc Cert.Ln1Fwd.main_arg6))
      ∧ r.2.sem = fun _ => 0)

def quiescent_Ln1FwdIdeal [hLn1FwdIdeal : Cert.Ln1FwdIdeal.Facts] : Prop :=
  ∀ (m : (ℓ : Loc Cert.Ln1FwdIdeal.nD Cert.Ln1FwdIdeal.τ Cert.Ln1FwdIdeal.sig) → Buf (Elt Ideal) ℓ) (g : Dev Cert.Ln1FwdIdeal.nD → PrngReg), Pre_Ln1FwdIdeal m →
    θ_run (Cert.Ln1FwdIdeal.defs (F := Ideal)) (onTc (τ := Cert.Ln1FwdIdeal.τ) (Cert.Ln1FwdIdeal.main (F := Ideal))) ⟨m, fun _ => 0, g⟩ (fun r => (∀ c : Dev Cert.Ln1FwdIdeal.nD,
      r.2.mem ((c.tc : Thread Cert.Ln1FwdIdeal.nD Cert.Ln1FwdIdeal.τ).loc Cert.Ln1FwdIdeal.main_arg0) = m ((c.tc : Thread Cert.Ln1FwdIdeal.nD Cert.Ln1FwdIdeal.τ).loc Cert.Ln1FwdIdeal.main_arg0)
      ∧ r.2.mem ((c.tc : Thread Cert.Ln1FwdIdeal.nD Cert.Ln1FwdIdeal.τ).loc Cert.Ln1FwdIdeal.main_arg1) = m ((c.tc : Thread Cert.Ln1FwdIdeal.nD Cert.Ln1FwdIdeal.τ).loc Cert.Ln1FwdIdeal.main_arg1)
      ∧ r.2.mem ((c.tc : Thread Cert.Ln1FwdIdeal.nD Cert.Ln1FwdIdeal.τ).loc Cert.Ln1FwdIdeal.main_arg2) = m ((c.tc : Thread Cert.Ln1FwdIdeal.nD Cert.Ln1FwdIdeal.τ).loc Cert.Ln1FwdIdeal.main_arg2)
      ∧ r.2.mem ((c.tc : Thread Cert.Ln1FwdIdeal.nD Cert.Ln1FwdIdeal.τ).loc Cert.Ln1FwdIdeal.main_arg3) = m ((c.tc : Thread Cert.Ln1FwdIdeal.nD Cert.Ln1FwdIdeal.τ).loc Cert.Ln1FwdIdeal.main_arg3)
      ∧ r.2.mem ((c.tc : Thread Cert.Ln1FwdIdeal.nD Cert.Ln1FwdIdeal.τ).loc Cert.Ln1FwdIdeal.main_arg4) = m ((c.tc : Thread Cert.Ln1FwdIdeal.nD Cert.Ln1FwdIdeal.τ).loc Cert.Ln1FwdIdeal.main_arg4)
      ∧ r.2.mem ((c.tc : Thread Cert.Ln1FwdIdeal.nD Cert.Ln1FwdIdeal.τ).loc Cert.Ln1FwdIdeal.main_arg5) = m ((c.tc : Thread Cert.Ln1FwdIdeal.nD Cert.Ln1FwdIdeal.τ).loc Cert.Ln1FwdIdeal.main_arg5)
      ∧ r.2.mem ((c.tc : Thread Cert.Ln1FwdIdeal.nD Cert.Ln1FwdIdeal.τ).loc Cert.Ln1FwdIdeal.main_arg6) = m ((c.tc : Thread Cert.Ln1FwdIdeal.nD Cert.Ln1FwdIdeal.τ).loc Cert.Ln1FwdIdeal.main_arg6))
      ∧ r.2.sem = fun _ => 0)

def quiescent_Ln1FwdRefIdeal [hLn1FwdRefIdeal : Cert.Ln1FwdRefIdeal.Facts] : Prop :=
  ∀ (m : (ℓ : Loc Cert.Ln1FwdRefIdeal.nD Cert.Ln1FwdRefIdeal.τ Cert.Ln1FwdRefIdeal.sig) → Buf (Elt Ideal) ℓ) (g : Dev Cert.Ln1FwdRefIdeal.nD → PrngReg), Pre_Ln1FwdRefIdeal m →
    θ_run (Cert.Ln1FwdRefIdeal.defs (F := Ideal)) (onTc (τ := Cert.Ln1FwdRefIdeal.τ) (Cert.Ln1FwdRefIdeal.main (F := Ideal))) ⟨m, fun _ => 0, g⟩ (fun r => (∀ c : Dev Cert.Ln1FwdRefIdeal.nD,
      r.2.mem ((c.tc : Thread Cert.Ln1FwdRefIdeal.nD Cert.Ln1FwdRefIdeal.τ).loc Cert.Ln1FwdRefIdeal.main_arg0) = m ((c.tc : Thread Cert.Ln1FwdRefIdeal.nD Cert.Ln1FwdRefIdeal.τ).loc Cert.Ln1FwdRefIdeal.main_arg0)
      ∧ r.2.mem ((c.tc : Thread Cert.Ln1FwdRefIdeal.nD Cert.Ln1FwdRefIdeal.τ).loc Cert.Ln1FwdRefIdeal.main_arg1) = m ((c.tc : Thread Cert.Ln1FwdRefIdeal.nD Cert.Ln1FwdRefIdeal.τ).loc Cert.Ln1FwdRefIdeal.main_arg1)
      ∧ r.2.mem ((c.tc : Thread Cert.Ln1FwdRefIdeal.nD Cert.Ln1FwdRefIdeal.τ).loc Cert.Ln1FwdRefIdeal.main_arg2) = m ((c.tc : Thread Cert.Ln1FwdRefIdeal.nD Cert.Ln1FwdRefIdeal.τ).loc Cert.Ln1FwdRefIdeal.main_arg2)
      ∧ r.2.mem ((c.tc : Thread Cert.Ln1FwdRefIdeal.nD Cert.Ln1FwdRefIdeal.τ).loc Cert.Ln1FwdRefIdeal.main_arg3) = m ((c.tc : Thread Cert.Ln1FwdRefIdeal.nD Cert.Ln1FwdRefIdeal.τ).loc Cert.Ln1FwdRefIdeal.main_arg3)
      ∧ r.2.mem ((c.tc : Thread Cert.Ln1FwdRefIdeal.nD Cert.Ln1FwdRefIdeal.τ).loc Cert.Ln1FwdRefIdeal.main_arg4) = m ((c.tc : Thread Cert.Ln1FwdRefIdeal.nD Cert.Ln1FwdRefIdeal.τ).loc Cert.Ln1FwdRefIdeal.main_arg4)
      ∧ r.2.mem ((c.tc : Thread Cert.Ln1FwdRefIdeal.nD Cert.Ln1FwdRefIdeal.τ).loc Cert.Ln1FwdRefIdeal.main_arg5) = m ((c.tc : Thread Cert.Ln1FwdRefIdeal.nD Cert.Ln1FwdRefIdeal.τ).loc Cert.Ln1FwdRefIdeal.main_arg5)
      ∧ r.2.mem ((c.tc : Thread Cert.Ln1FwdRefIdeal.nD Cert.Ln1FwdRefIdeal.τ).loc Cert.Ln1FwdRefIdeal.main_arg6) = m ((c.tc : Thread Cert.Ln1FwdRefIdeal.nD Cert.Ln1FwdRefIdeal.τ).loc Cert.Ln1FwdRefIdeal.main_arg6))
      ∧ r.2.sem = fun _ => 0)

def quiescent_ConfFwd [hConfFwd : Cert.ConfFwd.Facts] : Prop :=
  ∀ (m : (ℓ : Loc Cert.ConfFwd.nD Cert.ConfFwd.τ Cert.ConfFwd.sig) → Buf (Elt Bits) ℓ) (g : Dev Cert.ConfFwd.nD → PrngReg), Pre_ConfFwd m →
    θ_run (Cert.ConfFwd.defs (F := Bits)) (onTc (τ := Cert.ConfFwd.τ) (Cert.ConfFwd.main (F := Bits))) ⟨m, fun _ => 0, g⟩ (fun r => (∀ c : Dev Cert.ConfFwd.nD,
      r.2.mem ((c.tc : Thread Cert.ConfFwd.nD Cert.ConfFwd.τ).loc Cert.ConfFwd.main_arg0) = m ((c.tc : Thread Cert.ConfFwd.nD Cert.ConfFwd.τ).loc Cert.ConfFwd.main_arg0)
      ∧ r.2.mem ((c.tc : Thread Cert.ConfFwd.nD Cert.ConfFwd.τ).loc Cert.ConfFwd.main_arg1) = m ((c.tc : Thread Cert.ConfFwd.nD Cert.ConfFwd.τ).loc Cert.ConfFwd.main_arg1)
      ∧ r.2.mem ((c.tc : Thread Cert.ConfFwd.nD Cert.ConfFwd.τ).loc Cert.ConfFwd.main_arg2) = m ((c.tc : Thread Cert.ConfFwd.nD Cert.ConfFwd.τ).loc Cert.ConfFwd.main_arg2)
      ∧ r.2.mem ((c.tc : Thread Cert.ConfFwd.nD Cert.ConfFwd.τ).loc Cert.ConfFwd.main_arg3) = m ((c.tc : Thread Cert.ConfFwd.nD Cert.ConfFwd.τ).loc Cert.ConfFwd.main_arg3))
      ∧ r.2.sem = fun _ => 0)

def quiescent_ConfFwdIdeal [hConfFwdIdeal : Cert.ConfFwdIdeal.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg), Pre_ConfFwdIdeal m →
    θ_run (Cert.ConfFwdIdeal.defs (F := Ideal)) (onTc (τ := Cert.ConfFwdIdeal.τ) (Cert.ConfFwdIdeal.main (F := Ideal))) ⟨m, fun _ => 0, g⟩ (fun r => (∀ c : Dev Cert.ConfFwdIdeal.nD,
      r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
      ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
      ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
      ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3))
      ∧ r.2.sem = fun _ => 0)

def quiescent_ConfFwdRefIdeal [hConfFwdRefIdeal : Cert.ConfFwdRefIdeal.Facts] : Prop :=
  ∀ (m : (ℓ : Loc Cert.ConfFwdRefIdeal.nD Cert.ConfFwdRefIdeal.τ Cert.ConfFwdRefIdeal.sig) → Buf (Elt Ideal) ℓ) (g : Dev Cert.ConfFwdRefIdeal.nD → PrngReg), Pre_ConfFwdRefIdeal m →
    θ_run (Cert.ConfFwdRefIdeal.defs (F := Ideal)) (onTc (τ := Cert.ConfFwdRefIdeal.τ) (Cert.ConfFwdRefIdeal.main (F := Ideal))) ⟨m, fun _ => 0, g⟩ (fun r => (∀ c : Dev Cert.ConfFwdRefIdeal.nD,
      r.2.mem ((c.tc : Thread Cert.ConfFwdRefIdeal.nD Cert.ConfFwdRefIdeal.τ).loc Cert.ConfFwdRefIdeal.main_arg0) = m ((c.tc : Thread Cert.ConfFwdRefIdeal.nD Cert.ConfFwdRefIdeal.τ).loc Cert.ConfFwdRefIdeal.main_arg0)
      ∧ r.2.mem ((c.tc : Thread Cert.ConfFwdRefIdeal.nD Cert.ConfFwdRefIdeal.τ).loc Cert.ConfFwdRefIdeal.main_arg1) = m ((c.tc : Thread Cert.ConfFwdRefIdeal.nD Cert.ConfFwdRefIdeal.τ).loc Cert.ConfFwdRefIdeal.main_arg1)
      ∧ r.2.mem ((c.tc : Thread Cert.ConfFwdRefIdeal.nD Cert.ConfFwdRefIdeal.τ).loc Cert.ConfFwdRefIdeal.main_arg2) = m ((c.tc : Thread Cert.ConfFwdRefIdeal.nD Cert.ConfFwdRefIdeal.τ).loc Cert.ConfFwdRefIdeal.main_arg2)
      ∧ r.2.mem ((c.tc : Thread Cert.ConfFwdRefIdeal.nD Cert.ConfFwdRefIdeal.τ).loc Cert.ConfFwdRefIdeal.main_arg3) = m ((c.tc : Thread Cert.ConfFwdRefIdeal.nD Cert.ConfFwdRefIdeal.τ).loc Cert.ConfFwdRefIdeal.main_arg3))
      ∧ r.2.sem = fun _ => 0)

def quiescent_SiluC [hSiluC : Cert.SiluC.Facts] : Prop :=
  ∀ (m : (ℓ : Loc Cert.SiluC.nD Cert.SiluC.τ Cert.SiluC.sig) → Buf (Elt Bits) ℓ) (g : Dev Cert.SiluC.nD → PrngReg), Pre_SiluC m →
    θ_run (Cert.SiluC.defs (F := Bits)) (onTc (τ := Cert.SiluC.τ) (Cert.SiluC.main (F := Bits))) ⟨m, fun _ => 0, g⟩ (fun r => (∀ c : Dev Cert.SiluC.nD,
      r.2.mem ((c.tc : Thread Cert.SiluC.nD Cert.SiluC.τ).loc Cert.SiluC.main_arg0) = m ((c.tc : Thread Cert.SiluC.nD Cert.SiluC.τ).loc Cert.SiluC.main_arg0))
      ∧ r.2.sem = fun _ => 0)

def quiescent_SiluCIdeal [hSiluCIdeal : Cert.SiluCIdeal.Facts] : Prop :=
  ∀ (m : (ℓ : Loc Cert.SiluCIdeal.nD Cert.SiluCIdeal.τ Cert.SiluCIdeal.sig) → Buf (Elt Ideal) ℓ) (g : Dev Cert.SiluCIdeal.nD → PrngReg), Pre_SiluCIdeal m →
    θ_run (Cert.SiluCIdeal.defs (F := Ideal)) (onTc (τ := Cert.SiluCIdeal.τ) (Cert.SiluCIdeal.main (F := Ideal))) ⟨m, fun _ => 0, g⟩ (fun r => (∀ c : Dev Cert.SiluCIdeal.nD,
      r.2.mem ((c.tc : Thread Cert.SiluCIdeal.nD Cert.SiluCIdeal.τ).loc Cert.SiluCIdeal.main_arg0) = m ((c.tc : Thread Cert.SiluCIdeal.nD Cert.SiluCIdeal.τ).loc Cert.SiluCIdeal.main_arg0))
      ∧ r.2.sem = fun _ => 0)

def quiescent_SiluCRefIdeal [hSiluCRefIdeal : Cert.SiluCRefIdeal.Facts] : Prop :=
  ∀ (m : (ℓ : Loc Cert.SiluCRefIdeal.nD Cert.SiluCRefIdeal.τ Cert.SiluCRefIdeal.sig) → Buf (Elt Ideal) ℓ) (g : Dev Cert.SiluCRefIdeal.nD → PrngReg), Pre_SiluCRefIdeal m →
    θ_run (Cert.SiluCRefIdeal.defs (F := Ideal)) (onTc (τ := Cert.SiluCRefIdeal.τ) (Cert.SiluCRefIdeal.main (F := Ideal))) ⟨m, fun _ => 0, g⟩ (fun r => (∀ c : Dev Cert.SiluCRefIdeal.nD,
      r.2.mem ((c.tc : Thread Cert.SiluCRefIdeal.nD Cert.SiluCRefIdeal.τ).loc Cert.SiluCRefIdeal.main_arg0) = m ((c.tc : Thread Cert.SiluCRefIdeal.nD Cert.SiluCRefIdeal.τ).loc Cert.SiluCRefIdeal.main_arg0))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamMlp2 [hAdamMlp2 : Cert.AdamMlp2.Facts] : Prop :=
  ∀ (m : (ℓ : Loc Cert.AdamMlp2.nD Cert.AdamMlp2.τ Cert.AdamMlp2.sig) → Buf (Elt Bits) ℓ) (g : Dev Cert.AdamMlp2.nD → PrngReg), Pre_AdamMlp2 m →
    θ_run (Cert.AdamMlp2.defs (F := Bits)) (onTc (τ := Cert.AdamMlp2.τ) (Cert.AdamMlp2.main (F := Bits))) ⟨m, fun _ => 0, g⟩ (fun r => (∀ c : Dev Cert.AdamMlp2.nD,
      r.2.mem ((c.tc : Thread Cert.AdamMlp2.nD Cert.AdamMlp2.τ).loc Cert.AdamMlp2.main_arg0) = m ((c.tc : Thread Cert.AdamMlp2.nD Cert.AdamMlp2.τ).loc Cert.AdamMlp2.main_arg0)
      ∧ r.2.mem ((c.tc : Thread Cert.AdamMlp2.nD Cert.AdamMlp2.τ).loc Cert.AdamMlp2.main_arg1) = m ((c.tc : Thread Cert.AdamMlp2.nD Cert.AdamMlp2.τ).loc Cert.AdamMlp2.main_arg1)
      ∧ r.2.mem ((c.tc : Thread Cert.AdamMlp2.nD Cert.AdamMlp2.τ).loc Cert.AdamMlp2.main_arg2) = m ((c.tc : Thread Cert.AdamMlp2.nD Cert.AdamMlp2.τ).loc Cert.AdamMlp2.main_arg2)
      ∧ r.2.mem ((c.tc : Thread Cert.AdamMlp2.nD Cert.AdamMlp2.τ).loc Cert.AdamMlp2.main_arg3) = m ((c.tc : Thread Cert.AdamMlp2.nD Cert.AdamMlp2.τ).loc Cert.AdamMlp2.main_arg3))
      ∧ r.2.sem = fun _ => 0)

def quiescent_AdamMlp2Ideal [hAdamMlp2Ideal : Cert.AdamMlp2Ideal.Facts] : Prop :=
  ∀ (m : (ℓ : Loc Cert.AdamMlp2Ideal.nD Cert.AdamMlp2Ideal.τ Cert.AdamMlp2Ideal.sig) → Buf (Elt Ideal) ℓ) (g : Dev Cert.AdamMlp2Ideal.nD → PrngReg), Pre_AdamMlp2Ideal m →
    θ_run (Cert.AdamMlp2Ideal.defs (F := Ideal)) (onTc (τ := Cert.AdamMlp2Ideal.τ) (Cert.AdamMlp2Ideal.main (F := Ideal))) ⟨m, fun _ => 0, g⟩ (fun r => (∀ c : Dev Cert.AdamMlp2Ideal.nD,
      r.2.mem ((c.tc : Thread Cert.AdamMlp2Ideal.nD Cert.AdamMlp2Ideal.τ).loc Cert.AdamMlp2Ideal.main_arg0) = m ((c.tc : Thread Cert.AdamMlp2Ideal.nD Cert.AdamMlp2Ideal.τ).loc Cert.AdamMlp2Ideal.main_arg0)
      ∧ r.2.mem ((c.tc : Thread Cert.AdamMlp2Ideal.nD Cert.AdamMlp2Ideal.τ).loc Cert.AdamMlp2Ideal.main_arg1) = m ((c.tc : Thread Cert.AdamMlp2Ideal.nD Cert.AdamMlp2Ideal.τ).loc Cert.AdamMlp2Ideal.main_arg1)
      ∧ r.2.mem ((c.tc : Thread Cert.AdamMlp2Ideal.nD Cert.AdamMlp2Ideal.τ).loc Cert.AdamMlp2Ideal.main_arg2) = m ((c.tc : Thread Cert.AdamMlp2Ideal.nD Cert.AdamMlp2Ideal.τ).loc Cert.AdamMlp2Ideal.main_arg2)
      ∧ r.2.mem ((c.tc : Thread Cert.AdamMlp2Ideal.nD Cert.AdamMlp2Ideal.τ).loc Cert.AdamMlp2Ideal.main_arg3) = m ((c.tc : Thread Cert.AdamMlp2Ideal.nD Cert.AdamMlp2Ideal.τ).loc Cert.AdamMlp2Ideal.main_arg3))
      ∧ r.2.sem = fun _ => 0)

def quiescent_AdamMlp2RefIdeal [hAdamMlp2RefIdeal : Cert.AdamMlp2RefIdeal.Facts] : Prop :=
  ∀ (m : (ℓ : Loc Cert.AdamMlp2RefIdeal.nD Cert.AdamMlp2RefIdeal.τ Cert.AdamMlp2RefIdeal.sig) → Buf (Elt Ideal) ℓ) (g : Dev Cert.AdamMlp2RefIdeal.nD → PrngReg), Pre_AdamMlp2RefIdeal m →
    θ_run (Cert.AdamMlp2RefIdeal.defs (F := Ideal)) (onTc (τ := Cert.AdamMlp2RefIdeal.τ) (Cert.AdamMlp2RefIdeal.main (F := Ideal))) ⟨m, fun _ => 0, g⟩ (fun r => (∀ c : Dev Cert.AdamMlp2RefIdeal.nD,
      r.2.mem ((c.tc : Thread Cert.AdamMlp2RefIdeal.nD Cert.AdamMlp2RefIdeal.τ).loc Cert.AdamMlp2RefIdeal.main_arg0) = m ((c.tc : Thread Cert.AdamMlp2RefIdeal.nD Cert.AdamMlp2RefIdeal.τ).loc Cert.AdamMlp2RefIdeal.main_arg0)
      ∧ r.2.mem ((c.tc : Thread Cert.AdamMlp2RefIdeal.nD Cert.AdamMlp2RefIdeal.τ).loc Cert.AdamMlp2RefIdeal.main_arg1) = m ((c.tc : Thread Cert.AdamMlp2RefIdeal.nD Cert.AdamMlp2RefIdeal.τ).loc Cert.AdamMlp2RefIdeal.main_arg1)
      ∧ r.2.mem ((c.tc : Thread Cert.AdamMlp2RefIdeal.nD Cert.AdamMlp2RefIdeal.τ).loc Cert.AdamMlp2RefIdeal.main_arg2) = m ((c.tc : Thread Cert.AdamMlp2RefIdeal.nD Cert.AdamMlp2RefIdeal.τ).loc Cert.AdamMlp2RefIdeal.main_arg2)
      ∧ r.2.mem ((c.tc : Thread Cert.AdamMlp2RefIdeal.nD Cert.AdamMlp2RefIdeal.τ).loc Cert.AdamMlp2RefIdeal.main_arg3) = m ((c.tc : Thread Cert.AdamMlp2RefIdeal.nD Cert.AdamMlp2RefIdeal.τ).loc Cert.AdamMlp2RefIdeal.main_arg3))
      ∧ r.2.sem = fun _ => 0)

def quiescent_AdamMlp1 [hAdamMlp1 : Cert.AdamMlp1.Facts] : Prop :=
  ∀ (m : (ℓ : Loc Cert.AdamMlp1.nD Cert.AdamMlp1.τ Cert.AdamMlp1.sig) → Buf (Elt Bits) ℓ) (g : Dev Cert.AdamMlp1.nD → PrngReg), Pre_AdamMlp1 m →
    θ_run (Cert.AdamMlp1.defs (F := Bits)) (onTc (τ := Cert.AdamMlp1.τ) (Cert.AdamMlp1.main (F := Bits))) ⟨m, fun _ => 0, g⟩ (fun r => (∀ c : Dev Cert.AdamMlp1.nD,
      r.2.mem ((c.tc : Thread Cert.AdamMlp1.nD Cert.AdamMlp1.τ).loc Cert.AdamMlp1.main_arg0) = m ((c.tc : Thread Cert.AdamMlp1.nD Cert.AdamMlp1.τ).loc Cert.AdamMlp1.main_arg0)
      ∧ r.2.mem ((c.tc : Thread Cert.AdamMlp1.nD Cert.AdamMlp1.τ).loc Cert.AdamMlp1.main_arg1) = m ((c.tc : Thread Cert.AdamMlp1.nD Cert.AdamMlp1.τ).loc Cert.AdamMlp1.main_arg1)
      ∧ r.2.mem ((c.tc : Thread Cert.AdamMlp1.nD Cert.AdamMlp1.τ).loc Cert.AdamMlp1.main_arg2) = m ((c.tc : Thread Cert.AdamMlp1.nD Cert.AdamMlp1.τ).loc Cert.AdamMlp1.main_arg2)
      ∧ r.2.mem ((c.tc : Thread Cert.AdamMlp1.nD Cert.AdamMlp1.τ).loc Cert.AdamMlp1.main_arg3) = m ((c.tc : Thread Cert.AdamMlp1.nD Cert.AdamMlp1.τ).loc Cert.AdamMlp1.main_arg3))
      ∧ r.2.sem = fun _ => 0)

def quiescent_AdamMlp1Ideal [hAdamMlp1Ideal : Cert.AdamMlp1Ideal.Facts] : Prop :=
  ∀ (m : (ℓ : Loc Cert.AdamMlp1Ideal.nD Cert.AdamMlp1Ideal.τ Cert.AdamMlp1Ideal.sig) → Buf (Elt Ideal) ℓ) (g : Dev Cert.AdamMlp1Ideal.nD → PrngReg), Pre_AdamMlp1Ideal m →
    θ_run (Cert.AdamMlp1Ideal.defs (F := Ideal)) (onTc (τ := Cert.AdamMlp1Ideal.τ) (Cert.AdamMlp1Ideal.main (F := Ideal))) ⟨m, fun _ => 0, g⟩ (fun r => (∀ c : Dev Cert.AdamMlp1Ideal.nD,
      r.2.mem ((c.tc : Thread Cert.AdamMlp1Ideal.nD Cert.AdamMlp1Ideal.τ).loc Cert.AdamMlp1Ideal.main_arg0) = m ((c.tc : Thread Cert.AdamMlp1Ideal.nD Cert.AdamMlp1Ideal.τ).loc Cert.AdamMlp1Ideal.main_arg0)
      ∧ r.2.mem ((c.tc : Thread Cert.AdamMlp1Ideal.nD Cert.AdamMlp1Ideal.τ).loc Cert.AdamMlp1Ideal.main_arg1) = m ((c.tc : Thread Cert.AdamMlp1Ideal.nD Cert.AdamMlp1Ideal.τ).loc Cert.AdamMlp1Ideal.main_arg1)
      ∧ r.2.mem ((c.tc : Thread Cert.AdamMlp1Ideal.nD Cert.AdamMlp1Ideal.τ).loc Cert.AdamMlp1Ideal.main_arg2) = m ((c.tc : Thread Cert.AdamMlp1Ideal.nD Cert.AdamMlp1Ideal.τ).loc Cert.AdamMlp1Ideal.main_arg2)
      ∧ r.2.mem ((c.tc : Thread Cert.AdamMlp1Ideal.nD Cert.AdamMlp1Ideal.τ).loc Cert.AdamMlp1Ideal.main_arg3) = m ((c.tc : Thread Cert.AdamMlp1Ideal.nD Cert.AdamMlp1Ideal.τ).loc Cert.AdamMlp1Ideal.main_arg3))
      ∧ r.2.sem = fun _ => 0)

def quiescent_AdamMlp1RefIdeal [hAdamMlp1RefIdeal : Cert.AdamMlp1RefIdeal.Facts] : Prop :=
  ∀ (m : (ℓ : Loc Cert.AdamMlp1RefIdeal.nD Cert.AdamMlp1RefIdeal.τ Cert.AdamMlp1RefIdeal.sig) → Buf (Elt Ideal) ℓ) (g : Dev Cert.AdamMlp1RefIdeal.nD → PrngReg), Pre_AdamMlp1RefIdeal m →
    θ_run (Cert.AdamMlp1RefIdeal.defs (F := Ideal)) (onTc (τ := Cert.AdamMlp1RefIdeal.τ) (Cert.AdamMlp1RefIdeal.main (F := Ideal))) ⟨m, fun _ => 0, g⟩ (fun r => (∀ c : Dev Cert.AdamMlp1RefIdeal.nD,
      r.2.mem ((c.tc : Thread Cert.AdamMlp1RefIdeal.nD Cert.AdamMlp1RefIdeal.τ).loc Cert.AdamMlp1RefIdeal.main_arg0) = m ((c.tc : Thread Cert.AdamMlp1RefIdeal.nD Cert.AdamMlp1RefIdeal.τ).loc Cert.AdamMlp1RefIdeal.main_arg0)
      ∧ r.2.mem ((c.tc : Thread Cert.AdamMlp1RefIdeal.nD Cert.AdamMlp1RefIdeal.τ).loc Cert.AdamMlp1RefIdeal.main_arg1) = m ((c.tc : Thread Cert.AdamMlp1RefIdeal.nD Cert.AdamMlp1RefIdeal.τ).loc Cert.AdamMlp1RefIdeal.main_arg1)
      ∧ r.2.mem ((c.tc : Thread Cert.AdamMlp1RefIdeal.nD Cert.AdamMlp1RefIdeal.τ).loc Cert.AdamMlp1RefIdeal.main_arg2) = m ((c.tc : Thread Cert.AdamMlp1RefIdeal.nD Cert.AdamMlp1RefIdeal.τ).loc Cert.AdamMlp1RefIdeal.main_arg2)
      ∧ r.2.mem ((c.tc : Thread Cert.AdamMlp1RefIdeal.nD Cert.AdamMlp1RefIdeal.τ).loc Cert.AdamMlp1RefIdeal.main_arg3) = m ((c.tc : Thread Cert.AdamMlp1RefIdeal.nD Cert.AdamMlp1RefIdeal.τ).loc Cert.AdamMlp1RefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddWin [hAddWin : Cert.AddWin.Facts] : Prop :=
  ∀ (m : (ℓ : Loc Cert.AddWin.nD Cert.AddWin.τ Cert.AddWin.sig) → Buf (Elt Bits) ℓ) (g : Dev Cert.AddWin.nD → PrngReg), Pre_AddWin m →
    θ_run (Cert.AddWin.defs (F := Bits)) (onTc (τ := Cert.AddWin.τ) (Cert.AddWin.main (F := Bits))) ⟨m, fun _ => 0, g⟩ (fun r => (∀ c : Dev Cert.AddWin.nD,
      r.2.mem ((c.tc : Thread Cert.AddWin.nD Cert.AddWin.τ).loc Cert.AddWin.main_arg0) = m ((c.tc : Thread Cert.AddWin.nD Cert.AddWin.τ).loc Cert.AddWin.main_arg0)
      ∧ r.2.mem ((c.tc : Thread Cert.AddWin.nD Cert.AddWin.τ).loc Cert.AddWin.main_arg1) = m ((c.tc : Thread Cert.AddWin.nD Cert.AddWin.τ).loc Cert.AddWin.main_arg1))
      ∧ r.2.sem = fun _ => 0)

def quiescent_AddWinIdeal [hAddWinIdeal : Cert.AddWinIdeal.Facts] : Prop :=
  ∀ (m : (ℓ : Loc Cert.AddWinIdeal.nD Cert.AddWinIdeal.τ Cert.AddWinIdeal.sig) → Buf (Elt Ideal) ℓ) (g : Dev Cert.AddWinIdeal.nD → PrngReg), Pre_AddWinIdeal m →
    θ_run (Cert.AddWinIdeal.defs (F := Ideal)) (onTc (τ := Cert.AddWinIdeal.τ) (Cert.AddWinIdeal.main (F := Ideal))) ⟨m, fun _ => 0, g⟩ (fun r => (∀ c : Dev Cert.AddWinIdeal.nD,
      r.2.mem ((c.tc : Thread Cert.AddWinIdeal.nD Cert.AddWinIdeal.τ).loc Cert.AddWinIdeal.main_arg0) = m ((c.tc : Thread Cert.AddWinIdeal.nD Cert.AddWinIdeal.τ).loc Cert.AddWinIdeal.main_arg0)
      ∧ r.2.mem ((c.tc : Thread Cert.AddWinIdeal.nD Cert.AddWinIdeal.τ).loc Cert.AddWinIdeal.main_arg1) = m ((c.tc : Thread Cert.AddWinIdeal.nD Cert.AddWinIdeal.τ).loc Cert.AddWinIdeal.main_arg1))
      ∧ r.2.sem = fun _ => 0)

def quiescent_AddWinRefIdeal [hAddWinRefIdeal : Cert.AddWinRefIdeal.Facts] : Prop :=
  ∀ (m : (ℓ : Loc Cert.AddWinRefIdeal.nD Cert.AddWinRefIdeal.τ Cert.AddWinRefIdeal.sig) → Buf (Elt Ideal) ℓ) (g : Dev Cert.AddWinRefIdeal.nD → PrngReg), Pre_AddWinRefIdeal m →
    θ_run (Cert.AddWinRefIdeal.defs (F := Ideal)) (onTc (τ := Cert.AddWinRefIdeal.τ) (Cert.AddWinRefIdeal.main (F := Ideal))) ⟨m, fun _ => 0, g⟩ (fun r => (∀ c : Dev Cert.AddWinRefIdeal.nD,
      r.2.mem ((c.tc : Thread Cert.AddWinRefIdeal.nD Cert.AddWinRefIdeal.τ).loc Cert.AddWinRefIdeal.main_arg0) = m ((c.tc : Thread Cert.AddWinRefIdeal.nD Cert.AddWinRefIdeal.τ).loc Cert.AddWinRefIdeal.main_arg0)
      ∧ r.2.mem ((c.tc : Thread Cert.AddWinRefIdeal.nD Cert.AddWinRefIdeal.τ).loc Cert.AddWinRefIdeal.main_arg1) = m ((c.tc : Thread Cert.AddWinRefIdeal.nD Cert.AddWinRefIdeal.τ).loc Cert.AddWinRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumCctx [hSumCctx : Cert.SumCctx.Facts] : Prop :=
  ∀ (m : (ℓ : Loc Cert.SumCctx.nD Cert.SumCctx.τ Cert.SumCctx.sig) → Buf (Elt Bits) ℓ) (g : Dev Cert.SumCctx.nD → PrngReg), Pre_SumCctx m →
    θ_run (Cert.SumCctx.defs (F := Bits)) (onTc (τ := Cert.SumCctx.τ) (Cert.SumCctx.main (F := Bits))) ⟨m, fun _ => 0, g⟩ (fun r => (∀ c : Dev Cert.SumCctx.nD,
      r.2.mem ((c.tc : Thread Cert.SumCctx.nD Cert.SumCctx.τ).loc Cert.SumCctx.main_arg0) = m ((c.tc : Thread Cert.SumCctx.nD Cert.SumCctx.τ).loc Cert.SumCctx.main_arg0))
      ∧ r.2.sem = fun _ => 0)

def quiescent_SumCctxIdeal [hSumCctxIdeal : Cert.SumCctxIdeal.Facts] : Prop :=
  ∀ (m : (ℓ : Loc Cert.SumCctxIdeal.nD Cert.SumCctxIdeal.τ Cert.SumCctxIdeal.sig) → Buf (Elt Ideal) ℓ) (g : Dev Cert.SumCctxIdeal.nD → PrngReg), Pre_SumCctxIdeal m →
    θ_run (Cert.SumCctxIdeal.defs (F := Ideal)) (onTc (τ := Cert.SumCctxIdeal.τ) (Cert.SumCctxIdeal.main (F := Ideal))) ⟨m, fun _ => 0, g⟩ (fun r => (∀ c : Dev Cert.SumCctxIdeal.nD,
      r.2.mem ((c.tc : Thread Cert.SumCctxIdeal.nD Cert.SumCctxIdeal.τ).loc Cert.SumCctxIdeal.main_arg0) = m ((c.tc : Thread Cert.SumCctxIdeal.nD Cert.SumCctxIdeal.τ).loc Cert.SumCctxIdeal.main_arg0))
      ∧ r.2.sem = fun _ => 0)

def quiescent_SumCctxRefIdeal [hSumCctxRefIdeal : Cert.SumCctxRefIdeal.Facts] : Prop :=
  ∀ (m : (ℓ : Loc Cert.SumCctxRefIdeal.nD Cert.SumCctxRefIdeal.τ Cert.SumCctxRefIdeal.sig) → Buf (Elt Ideal) ℓ) (g : Dev Cert.SumCctxRefIdeal.nD → PrngReg), Pre_SumCctxRefIdeal m →
    θ_run (Cert.SumCctxRefIdeal.defs (F := Ideal)) (onTc (τ := Cert.SumCctxRefIdeal.τ) (Cert.SumCctxRefIdeal.main (F := Ideal))) ⟨m, fun _ => 0, g⟩ (fun r => (∀ c : Dev Cert.SumCctxRefIdeal.nD,
      r.2.mem ((c.tc : Thread Cert.SumCctxRefIdeal.nD Cert.SumCctxRefIdeal.τ).loc Cert.SumCctxRefIdeal.main_arg0) = m ((c.tc : Thread Cert.SumCctxRefIdeal.nD Cert.SumCctxRefIdeal.τ).loc Cert.SumCctxRefIdeal.main_arg0))
      ∧ r.2.sem = fun _ => 0)

def quiescent_Ln2Loss [hLn2Loss : Cert.Ln2Loss.Facts] : Prop :=
  ∀ (m : (ℓ : Loc Cert.Ln2Loss.nD Cert.Ln2Loss.τ Cert.Ln2Loss.sig) → Buf (Elt Bits) ℓ) (g : Dev Cert.Ln2Loss.nD → PrngReg), Pre_Ln2Loss m →
    θ_run (Cert.Ln2Loss.defs (F := Bits)) (onTc (τ := Cert.Ln2Loss.τ) (Cert.Ln2Loss.main (F := Bits))) ⟨m, fun _ => 0, g⟩ (fun r => (∀ c : Dev Cert.Ln2Loss.nD,
      r.2.mem ((c.tc : Thread Cert.Ln2Loss.nD Cert.Ln2Loss.τ).loc Cert.Ln2Loss.main_arg0) = m ((c.tc : Thread Cert.Ln2Loss.nD Cert.Ln2Loss.τ).loc Cert.Ln2Loss.main_arg0)
      ∧ r.2.mem ((c.tc : Thread Cert.Ln2Loss.nD Cert.Ln2Loss.τ).loc Cert.Ln2Loss.main_arg1) = m ((c.tc : Thread Cert.Ln2Loss.nD Cert.Ln2Loss.τ).loc Cert.Ln2Loss.main_arg1)
      ∧ r.2.mem ((c.tc : Thread Cert.Ln2Loss.nD Cert.Ln2Loss.τ).loc Cert.Ln2Loss.main_arg2) = m ((c.tc : Thread Cert.Ln2Loss.nD Cert.Ln2Loss.τ).loc Cert.Ln2Loss.main_arg2)
      ∧ r.2.mem ((c.tc : Thread Cert.Ln2Loss.nD Cert.Ln2Loss.τ).loc Cert.Ln2Loss.main_arg3) = m ((c.tc : Thread Cert.Ln2Loss.nD Cert.Ln2Loss.τ).loc Cert.Ln2Loss.main_arg3)
      ∧ r.2.mem ((c.tc : Thread Cert.Ln2Loss.nD Cert.Ln2Loss.τ).loc Cert.Ln2Loss.main_arg4) = m ((c.tc : Thread Cert.Ln2Loss.nD Cert.Ln2Loss.τ).loc Cert.Ln2Loss.main_arg4)
      ∧ r.2.mem ((c.tc : Thread Cert.Ln2Loss.nD Cert.Ln2Loss.τ).loc Cert.Ln2Loss.main_arg5) = m ((c.tc : Thread Cert.Ln2Loss.nD Cert.Ln2Loss.τ).loc Cert.Ln2Loss.main_arg5)
      ∧ r.2.mem ((c.tc : Thread Cert.Ln2Loss.nD Cert.Ln2Loss.τ).loc Cert.Ln2Loss.main_arg6) = m ((c.tc : Thread Cert.Ln2Loss.nD Cert.Ln2Loss.τ).loc Cert.Ln2Loss.main_arg6))
      ∧ r.2.sem = fun _ => 0)

def quiescent_Ln2LossIdeal [hLn2LossIdeal : Cert.Ln2LossIdeal.Facts] : Prop :=
  ∀ (m : (ℓ : Loc Cert.Ln2LossIdeal.nD Cert.Ln2LossIdeal.τ Cert.Ln2LossIdeal.sig) → Buf (Elt Ideal) ℓ) (g : Dev Cert.Ln2LossIdeal.nD → PrngReg), Pre_Ln2LossIdeal m →
    θ_run (Cert.Ln2LossIdeal.defs (F := Ideal)) (onTc (τ := Cert.Ln2LossIdeal.τ) (Cert.Ln2LossIdeal.main (F := Ideal))) ⟨m, fun _ => 0, g⟩ (fun r => (∀ c : Dev Cert.Ln2LossIdeal.nD,
      r.2.mem ((c.tc : Thread Cert.Ln2LossIdeal.nD Cert.Ln2LossIdeal.τ).loc Cert.Ln2LossIdeal.main_arg0) = m ((c.tc : Thread Cert.Ln2LossIdeal.nD Cert.Ln2LossIdeal.τ).loc Cert.Ln2LossIdeal.main_arg0)
      ∧ r.2.mem ((c.tc : Thread Cert.Ln2LossIdeal.nD Cert.Ln2LossIdeal.τ).loc Cert.Ln2LossIdeal.main_arg1) = m ((c.tc : Thread Cert.Ln2LossIdeal.nD Cert.Ln2LossIdeal.τ).loc Cert.Ln2LossIdeal.main_arg1)
      ∧ r.2.mem ((c.tc : Thread Cert.Ln2LossIdeal.nD Cert.Ln2LossIdeal.τ).loc Cert.Ln2LossIdeal.main_arg2) = m ((c.tc : Thread Cert.Ln2LossIdeal.nD Cert.Ln2LossIdeal.τ).loc Cert.Ln2LossIdeal.main_arg2)
      ∧ r.2.mem ((c.tc : Thread Cert.Ln2LossIdeal.nD Cert.Ln2LossIdeal.τ).loc Cert.Ln2LossIdeal.main_arg3) = m ((c.tc : Thread Cert.Ln2LossIdeal.nD Cert.Ln2LossIdeal.τ).loc Cert.Ln2LossIdeal.main_arg3)
      ∧ r.2.mem ((c.tc : Thread Cert.Ln2LossIdeal.nD Cert.Ln2LossIdeal.τ).loc Cert.Ln2LossIdeal.main_arg4) = m ((c.tc : Thread Cert.Ln2LossIdeal.nD Cert.Ln2LossIdeal.τ).loc Cert.Ln2LossIdeal.main_arg4)
      ∧ r.2.mem ((c.tc : Thread Cert.Ln2LossIdeal.nD Cert.Ln2LossIdeal.τ).loc Cert.Ln2LossIdeal.main_arg5) = m ((c.tc : Thread Cert.Ln2LossIdeal.nD Cert.Ln2LossIdeal.τ).loc Cert.Ln2LossIdeal.main_arg5)
      ∧ r.2.mem ((c.tc : Thread Cert.Ln2LossIdeal.nD Cert.Ln2LossIdeal.τ).loc Cert.Ln2LossIdeal.main_arg6) = m ((c.tc : Thread Cert.Ln2LossIdeal.nD Cert.Ln2LossIdeal.τ).loc Cert.Ln2LossIdeal.main_arg6))
      ∧ r.2.sem = fun _ => 0)

def quiescent_Ln2LossIdeal_pre_ln2_finite [hLn2LossIdeal : Cert.Ln2LossIdeal.Facts] [hPre_ln2_finite : Cert.Pre_ln2_finite.Facts] : Prop :=
  ∀ (m : (ℓ : Loc Cert.Ln2LossIdeal.nD Cert.Ln2LossIdeal.τ Cert.Ln2LossIdeal.sig) → Buf (Elt Ideal) ℓ) (g : Dev Cert.Ln2LossIdeal.nD → PrngReg), Pre_Ln2LossIdeal_ln2_finite m →
    θ_run (Cert.Ln2LossIdeal.defs (F := Ideal)) (onTc (τ := Cert.Ln2LossIdeal.τ) (Cert.Ln2LossIdeal.main (F := Ideal))) ⟨m, fun _ => 0, g⟩ (fun r => (∀ c : Dev Cert.Ln2LossIdeal.nD,
      r.2.mem ((c.tc : Thread Cert.Ln2LossIdeal.nD Cert.Ln2LossIdeal.τ).loc Cert.Ln2LossIdeal.main_arg0) = m ((c.tc : Thread Cert.Ln2LossIdeal.nD Cert.Ln2LossIdeal.τ).loc Cert.Ln2LossIdeal.main_arg0)
      ∧ r.2.mem ((c.tc : Thread Cert.Ln2LossIdeal.nD Cert.Ln2LossIdeal.τ).loc Cert.Ln2LossIdeal.main_arg1) = m ((c.tc : Thread Cert.Ln2LossIdeal.nD Cert.Ln2LossIdeal.τ).loc Cert.Ln2LossIdeal.main_arg1)
      ∧ r.2.mem ((c.tc : Thread Cert.Ln2LossIdeal.nD Cert.Ln2LossIdeal.τ).loc Cert.Ln2LossIdeal.main_arg2) = m ((c.tc : Thread Cert.Ln2LossIdeal.nD Cert.Ln2LossIdeal.τ).loc Cert.Ln2LossIdeal.main_arg2)
      ∧ r.2.mem ((c.tc : Thread Cert.Ln2LossIdeal.nD Cert.Ln2LossIdeal.τ).loc Cert.Ln2LossIdeal.main_arg3) = m ((c.tc : Thread Cert.Ln2LossIdeal.nD Cert.Ln2LossIdeal.τ).loc Cert.Ln2LossIdeal.main_arg3)
      ∧ r.2.mem ((c.tc : Thread Cert.Ln2LossIdeal.nD Cert.Ln2LossIdeal.τ).loc Cert.Ln2LossIdeal.main_arg4) = m ((c.tc : Thread Cert.Ln2LossIdeal.nD Cert.Ln2LossIdeal.τ).loc Cert.Ln2LossIdeal.main_arg4)
      ∧ r.2.mem ((c.tc : Thread Cert.Ln2LossIdeal.nD Cert.Ln2LossIdeal.τ).loc Cert.Ln2LossIdeal.main_arg5) = m ((c.tc : Thread Cert.Ln2LossIdeal.nD Cert.Ln2LossIdeal.τ).loc Cert.Ln2LossIdeal.main_arg5)
      ∧ r.2.mem ((c.tc : Thread Cert.Ln2LossIdeal.nD Cert.Ln2LossIdeal.τ).loc Cert.Ln2LossIdeal.main_arg6) = m ((c.tc : Thread Cert.Ln2LossIdeal.nD Cert.Ln2LossIdeal.τ).loc Cert.Ln2LossIdeal.main_arg6))
      ∧ r.2.sem = fun _ => 0)

def quiescent_Ln2LossRefIdeal [hLn2LossRefIdeal : Cert.Ln2LossRefIdeal.Facts] : Prop :=
  ∀ (m : (ℓ : Loc Cert.Ln2LossRefIdeal.nD Cert.Ln2LossRefIdeal.τ Cert.Ln2LossRefIdeal.sig) → Buf (Elt Ideal) ℓ) (g : Dev Cert.Ln2LossRefIdeal.nD → PrngReg), Pre_Ln2LossRefIdeal m →
    θ_run (Cert.Ln2LossRefIdeal.defs (F := Ideal)) (onTc (τ := Cert.Ln2LossRefIdeal.τ) (Cert.Ln2LossRefIdeal.main (F := Ideal))) ⟨m, fun _ => 0, g⟩ (fun r => (∀ c : Dev Cert.Ln2LossRefIdeal.nD,
      r.2.mem ((c.tc : Thread Cert.Ln2LossRefIdeal.nD Cert.Ln2LossRefIdeal.τ).loc Cert.Ln2LossRefIdeal.main_arg0) = m ((c.tc : Thread Cert.Ln2LossRefIdeal.nD Cert.Ln2LossRefIdeal.τ).loc Cert.Ln2LossRefIdeal.main_arg0)
      ∧ r.2.mem ((c.tc : Thread Cert.Ln2LossRefIdeal.nD Cert.Ln2LossRefIdeal.τ).loc Cert.Ln2LossRefIdeal.main_arg1) = m ((c.tc : Thread Cert.Ln2LossRefIdeal.nD Cert.Ln2LossRefIdeal.τ).loc Cert.Ln2LossRefIdeal.main_arg1)
      ∧ r.2.mem ((c.tc : Thread Cert.Ln2LossRefIdeal.nD Cert.Ln2LossRefIdeal.τ).loc Cert.Ln2LossRefIdeal.main_arg2) = m ((c.tc : Thread Cert.Ln2LossRefIdeal.nD Cert.Ln2LossRefIdeal.τ).loc Cert.Ln2LossRefIdeal.main_arg2)
      ∧ r.2.mem ((c.tc : Thread Cert.Ln2LossRefIdeal.nD Cert.Ln2LossRefIdeal.τ).loc Cert.Ln2LossRefIdeal.main_arg3) = m ((c.tc : Thread Cert.Ln2LossRefIdeal.nD Cert.Ln2LossRefIdeal.τ).loc Cert.Ln2LossRefIdeal.main_arg3)
      ∧ r.2.mem ((c.tc : Thread Cert.Ln2LossRefIdeal.nD Cert.Ln2LossRefIdeal.τ).loc Cert.Ln2LossRefIdeal.main_arg4) = m ((c.tc : Thread Cert.Ln2LossRefIdeal.nD Cert.Ln2LossRefIdeal.τ).loc Cert.Ln2LossRefIdeal.main_arg4)
      ∧ r.2.mem ((c.tc : Thread Cert.Ln2LossRefIdeal.nD Cert.Ln2LossRefIdeal.τ).loc Cert.Ln2LossRefIdeal.main_arg5) = m ((c.tc : Thread Cert.Ln2LossRefIdeal.nD Cert.Ln2LossRefIdeal.τ).loc Cert.Ln2LossRefIdeal.main_arg5)
      ∧ r.2.mem ((c.tc : Thread Cert.Ln2LossRefIdeal.nD Cert.Ln2LossRefIdeal.τ).loc Cert.Ln2LossRefIdeal.main_arg6) = m ((c.tc : Thread Cert.Ln2LossRefIdeal.nD Cert.Ln2LossRefIdeal.τ).loc Cert.Ln2LossRefIdeal.main_arg6))
      ∧ r.2.sem = fun _ => 0)

def quiescent_Ln2LossRefIdeal_pre_ln2_finite [hLn2LossRefIdeal : Cert.Ln2LossRefIdeal.Facts] [hPre_ln2_finite : Cert.Pre_ln2_finite.Facts] : Prop :=
  ∀ (m : (ℓ : Loc Cert.Ln2LossRefIdeal.nD Cert.Ln2LossRefIdeal.τ Cert.Ln2LossRefIdeal.sig) → Buf (Elt Ideal) ℓ) (g : Dev Cert.Ln2LossRefIdeal.nD → PrngReg), Pre_Ln2LossRefIdeal_ln2_finite m →
    θ_run (Cert.Ln2LossRefIdeal.defs (F := Ideal)) (onTc (τ := Cert.Ln2LossRefIdeal.τ) (Cert.Ln2LossRefIdeal.main (F := Ideal))) ⟨m, fun _ => 0, g⟩ (fun r => (∀ c : Dev Cert.Ln2LossRefIdeal.nD,
      r.2.mem ((c.tc : Thread Cert.Ln2LossRefIdeal.nD Cert.Ln2LossRefIdeal.τ).loc Cert.Ln2LossRefIdeal.main_arg0) = m ((c.tc : Thread Cert.Ln2LossRefIdeal.nD Cert.Ln2LossRefIdeal.τ).loc Cert.Ln2LossRefIdeal.main_arg0)
      ∧ r.2.mem ((c.tc : Thread Cert.Ln2LossRefIdeal.nD Cert.Ln2LossRefIdeal.τ).loc Cert.Ln2LossRefIdeal.main_arg1) = m ((c.tc : Thread Cert.Ln2LossRefIdeal.nD Cert.Ln2LossRefIdeal.τ).loc Cert.Ln2LossRefIdeal.main_arg1)
      ∧ r.2.mem ((c.tc : Thread Cert.Ln2LossRefIdeal.nD Cert.Ln2LossRefIdeal.τ).loc Cert.Ln2LossRefIdeal.main_arg2) = m ((c.tc : Thread Cert.Ln2LossRefIdeal.nD Cert.Ln2LossRefIdeal.τ).loc Cert.Ln2LossRefIdeal.main_arg2)
      ∧ r.2.mem ((c.tc : Thread Cert.Ln2LossRefIdeal.nD Cert.Ln2LossRefIdeal.τ).loc Cert.Ln2LossRefIdeal.main_arg3) = m ((c.tc : Thread Cert.Ln2LossRefIdeal.nD Cert.Ln2LossRefIdeal.τ).loc Cert.Ln2LossRefIdeal.main_arg3)
      ∧ r.2.mem ((c.tc : Thread Cert.Ln2LossRefIdeal.nD Cert.Ln2LossRefIdeal.τ).loc Cert.Ln2LossRefIdeal.main_arg4) = m ((c.tc : Thread Cert.Ln2LossRefIdeal.nD Cert.Ln2LossRefIdeal.τ).loc Cert.Ln2LossRefIdeal.main_arg4)
      ∧ r.2.mem ((c.tc : Thread Cert.Ln2LossRefIdeal.nD Cert.Ln2LossRefIdeal.τ).loc Cert.Ln2LossRefIdeal.main_arg5) = m ((c.tc : Thread Cert.Ln2LossRefIdeal.nD Cert.Ln2LossRefIdeal.τ).loc Cert.Ln2LossRefIdeal.main_arg5)
      ∧ r.2.mem ((c.tc : Thread Cert.Ln2LossRefIdeal.nD Cert.Ln2LossRefIdeal.τ).loc Cert.Ln2LossRefIdeal.main_arg6) = m ((c.tc : Thread Cert.Ln2LossRefIdeal.nD Cert.Ln2LossRefIdeal.τ).loc Cert.Ln2LossRefIdeal.main_arg6))
      ∧ r.2.sem = fun _ => 0)

def preserves_GdnBwd_GdnBwdIdeal : Prop :=
  True

def algebraic_GdnBwdIdeal_GdnDvRefIdeal_on_only_dv_pre_saved [hGdnBwdIdeal : Cert.GdnBwdIdeal.Facts] [hGdnDvRefIdeal : Cert.GdnDvRefIdeal.Facts] [hPre_saved : Cert.Pre_saved.Facts] [hOn_only_dv : Cert.On_only_dv.Facts] : Prop :=
  ∀ (m : (ℓ : Loc Cert.GdnBwdIdeal.nD Cert.GdnBwdIdeal.τ Cert.GdnBwdIdeal.sig) → Buf (Elt Ideal) ℓ) (g : Dev Cert.GdnBwdIdeal.nD → PrngReg)
    (m' : (ℓ : Loc Cert.GdnDvRefIdeal.nD Cert.GdnDvRefIdeal.τ Cert.GdnDvRefIdeal.sig) → Buf (Elt Ideal) ℓ) (g' : Dev Cert.GdnDvRefIdeal.nD → PrngReg), Pre_GdnBwdIdeal_saved m →
    (∀ c : Dev Cert.GdnBwdIdeal.nD,
      m' ((c.tc : Thread Cert.GdnDvRefIdeal.nD Cert.GdnDvRefIdeal.τ).loc Cert.GdnDvRefIdeal.main_arg0) = m ((c.tc : Thread Cert.GdnBwdIdeal.nD Cert.GdnBwdIdeal.τ).loc Cert.GdnBwdIdeal.main_arg0)
      ∧ m' ((c.tc : Thread Cert.GdnDvRefIdeal.nD Cert.GdnDvRefIdeal.τ).loc Cert.GdnDvRefIdeal.main_arg1) = m ((c.tc : Thread Cert.GdnBwdIdeal.nD Cert.GdnBwdIdeal.τ).loc Cert.GdnBwdIdeal.main_arg1)
      ∧ m' ((c.tc : Thread Cert.GdnDvRefIdeal.nD Cert.GdnDvRefIdeal.τ).loc Cert.GdnDvRefIdeal.main_arg2) = m ((c.tc : Thread Cert.GdnBwdIdeal.nD Cert.GdnBwdIdeal.τ).loc Cert.GdnBwdIdeal.main_arg2)
      ∧ m' ((c.tc : Thread Cert.GdnDvRefIdeal.nD Cert.GdnDvRefIdeal.τ).loc Cert.GdnDvRefIdeal.main_arg3) = m ((c.tc : Thread Cert.GdnBwdIdeal.nD Cert.GdnBwdIdeal.τ).loc Cert.GdnBwdIdeal.main_arg3)
      ∧ m' ((c.tc : Thread Cert.GdnDvRefIdeal.nD Cert.GdnDvRefIdeal.τ).loc Cert.GdnDvRefIdeal.main_arg4) = m ((c.tc : Thread Cert.GdnBwdIdeal.nD Cert.GdnBwdIdeal.τ).loc Cert.GdnBwdIdeal.main_arg4)
      ∧ m' ((c.tc : Thread Cert.GdnDvRefIdeal.nD Cert.GdnDvRefIdeal.τ).loc Cert.GdnDvRefIdeal.main_arg5) = m ((c.tc : Thread Cert.GdnBwdIdeal.nD Cert.GdnBwdIdeal.τ).loc Cert.GdnBwdIdeal.main_arg5)
      ∧ m' ((c.tc : Thread Cert.GdnDvRefIdeal.nD Cert.GdnDvRefIdeal.τ).loc Cert.GdnDvRefIdeal.main_arg6) = m ((c.tc : Thread Cert.GdnBwdIdeal.nD Cert.GdnBwdIdeal.τ).loc Cert.GdnBwdIdeal.main_arg6)) →
    ∃ (v0 : (c : Dev Cert.GdnBwdIdeal.nD) → Buf (Elt Ideal) ((c.tc : Thread Cert.GdnBwdIdeal.nD Cert.GdnBwdIdeal.τ).loc Cert.GdnBwdIdeal.main_v0_0)) (v1 : (c : Dev Cert.GdnBwdIdeal.nD) → Buf (Elt Ideal) ((c.tc : Thread Cert.GdnBwdIdeal.nD Cert.GdnBwdIdeal.τ).loc Cert.GdnBwdIdeal.main_v0_1)),
      θ_run (Cert.GdnBwdIdeal.defs (F := Ideal)) (onTc (τ := Cert.GdnBwdIdeal.τ) (Cert.GdnBwdIdeal.main (F := Ideal))) ⟨m, fun _ => 0, g⟩ (fun r => ∀ c : Dev Cert.GdnBwdIdeal.nD,
          (∀ i : (⟨5, ![2, 3, 16, 4352, 128]⟩ : Shape).Idx, (Cert.On_only_dv.fn (F := Ideal) (m ((c.tc : Thread Cert.GdnBwdIdeal.nD Cert.GdnBwdIdeal.τ).loc Cert.GdnBwdIdeal.main_arg0)) (m ((c.tc : Thread Cert.GdnBwdIdeal.nD Cert.GdnBwdIdeal.τ).loc Cert.GdnBwdIdeal.main_arg1)) (m ((c.tc : Thread Cert.GdnBwdIdeal.nD Cert.GdnBwdIdeal.τ).loc Cert.GdnBwdIdeal.main_arg2)) (m ((c.tc : Thread Cert.GdnBwdIdeal.nD Cert.GdnBwdIdeal.τ).loc Cert.GdnBwdIdeal.main_arg3)) (m ((c.tc : Thread Cert.GdnBwdIdeal.nD Cert.GdnBwdIdeal.τ).loc Cert.GdnBwdIdeal.main_arg4)) (m ((c.tc : Thread Cert.GdnBwdIdeal.nD Cert.GdnBwdIdeal.τ).loc Cert.GdnBwdIdeal.main_arg5)) (m ((c.tc : Thread Cert.GdnBwdIdeal.nD Cert.GdnBwdIdeal.τ).loc Cert.GdnBwdIdeal.main_arg6))).1 i = 1#1 → r.2.mem ((c.tc : Thread Cert.GdnBwdIdeal.nD Cert.GdnBwdIdeal.τ).loc Cert.GdnBwdIdeal.main_v0_0) i = v0 c i)
          ∧ (∀ i : (⟨3, ![2, 4352, 128]⟩ : Shape).Idx, (Cert.On_only_dv.fn (F := Ideal) (m ((c.tc : Thread Cert.GdnBwdIdeal.nD Cert.GdnBwdIdeal.τ).loc Cert.GdnBwdIdeal.main_arg0)) (m ((c.tc : Thread Cert.GdnBwdIdeal.nD Cert.GdnBwdIdeal.τ).loc Cert.GdnBwdIdeal.main_arg1)) (m ((c.tc : Thread Cert.GdnBwdIdeal.nD Cert.GdnBwdIdeal.τ).loc Cert.GdnBwdIdeal.main_arg2)) (m ((c.tc : Thread Cert.GdnBwdIdeal.nD Cert.GdnBwdIdeal.τ).loc Cert.GdnBwdIdeal.main_arg3)) (m ((c.tc : Thread Cert.GdnBwdIdeal.nD Cert.GdnBwdIdeal.τ).loc Cert.GdnBwdIdeal.main_arg4)) (m ((c.tc : Thread Cert.GdnBwdIdeal.nD Cert.GdnBwdIdeal.τ).loc Cert.GdnBwdIdeal.main_arg5)) (m ((c.tc : Thread Cert.GdnBwdIdeal.nD Cert.GdnBwdIdeal.τ).loc Cert.GdnBwdIdeal.main_arg6))).2 i = 1#1 → r.2.mem ((c.tc : Thread Cert.GdnBwdIdeal.nD Cert.GdnBwdIdeal.τ).loc Cert.GdnBwdIdeal.main_v0_1) i = v1 c i)
          ∧ r.2.mem ((c.tc : Thread Cert.GdnBwdIdeal.nD Cert.GdnBwdIdeal.τ).loc Cert.GdnBwdIdeal.main_arg0) = m ((c.tc : Thread Cert.GdnBwdIdeal.nD Cert.GdnBwdIdeal.τ).loc Cert.GdnBwdIdeal.main_arg0)
          ∧ r.2.mem ((c.tc : Thread Cert.GdnBwdIdeal.nD Cert.GdnBwdIdeal.τ).loc Cert.GdnBwdIdeal.main_arg1) = m ((c.tc : Thread Cert.GdnBwdIdeal.nD Cert.GdnBwdIdeal.τ).loc Cert.GdnBwdIdeal.main_arg1)
          ∧ r.2.mem ((c.tc : Thread Cert.GdnBwdIdeal.nD Cert.GdnBwdIdeal.τ).loc Cert.GdnBwdIdeal.main_arg2) = m ((c.tc : Thread Cert.GdnBwdIdeal.nD Cert.GdnBwdIdeal.τ).loc Cert.GdnBwdIdeal.main_arg2)
          ∧ r.2.mem ((c.tc : Thread Cert.GdnBwdIdeal.nD Cert.GdnBwdIdeal.τ).loc Cert.GdnBwdIdeal.main_arg3) = m ((c.tc : Thread Cert.GdnBwdIdeal.nD Cert.GdnBwdIdeal.τ).loc Cert.GdnBwdIdeal.main_arg3)
          ∧ r.2.mem ((c.tc : Thread Cert.GdnBwdIdeal.nD Cert.GdnBwdIdeal.τ).loc Cert.GdnBwdIdeal.main_arg4) = m ((c.tc : Thread Cert.GdnBwdIdeal.nD Cert.GdnBwdIdeal.τ).loc Cert.GdnBwdIdeal.main_arg4)
          ∧ r.2.mem ((c.tc : Thread Cert.GdnBwdIdeal.nD Cert.GdnBwdIdeal.τ).loc Cert.GdnBwdIdeal.main_arg5) = m ((c.tc : Thread Cert.GdnBwdIdeal.nD Cert.GdnBwdIdeal.τ).loc Cert.GdnBwdIdeal.main_arg5)
          ∧ r.2.mem ((c.tc : Thread Cert.GdnBwdIdeal.nD Cert.GdnBwdIdeal.τ).loc Cert.GdnBwdIdeal.main_arg6) = m ((c.tc : Thread Cert.GdnBwdIdeal.nD Cert.GdnBwdIdeal.τ).loc Cert.GdnBwdIdeal.main_arg6))
      ∧ θ_run (Cert.GdnDvRefIdeal.defs (F := Ideal)) (onTc (τ := Cert.GdnDvRefIdeal.τ) (Cert.GdnDvRefIdeal.main (F := Ideal))) ⟨m', fun _ => 0, g'⟩ (fun r => ∀ c : Dev Cert.GdnDvRefIdeal.nD,
          (∀ i : (⟨5, ![2, 3, 16, 4352, 128]⟩ : Shape).Idx, (Cert.On_only_dv.fn (F := Ideal) (m ((c.tc : Thread Cert.GdnBwdIdeal.nD Cert.GdnBwdIdeal.τ).loc Cert.GdnBwdIdeal.main_arg0)) (m ((c.tc : Thread Cert.GdnBwdIdeal.nD Cert.GdnBwdIdeal.τ).loc Cert.GdnBwdIdeal.main_arg1)) (m ((c.tc : Thread Cert.GdnBwdIdeal.nD Cert.GdnBwdIdeal.τ).loc Cert.GdnBwdIdeal.main_arg2)) (m ((c.tc : Thread Cert.GdnBwdIdeal.nD Cert.GdnBwdIdeal.τ).loc Cert.GdnBwdIdeal.main_arg3)) (m ((c.tc : Thread Cert.GdnBwdIdeal.nD Cert.GdnBwdIdeal.τ).loc Cert.GdnBwdIdeal.main_arg4)) (m ((c.tc : Thread Cert.GdnBwdIdeal.nD Cert.GdnBwdIdeal.τ).loc Cert.GdnBwdIdeal.main_arg5)) (m ((c.tc : Thread Cert.GdnBwdIdeal.nD Cert.GdnBwdIdeal.τ).loc Cert.GdnBwdIdeal.main_arg6))).1 i = 1#1 → r.2.mem ((c.tc : Thread Cert.GdnDvRefIdeal.nD Cert.GdnDvRefIdeal.τ).loc Cert.GdnDvRefIdeal.main_v83) i = v0 c i)
          ∧ (∀ i : (⟨3, ![2, 4352, 128]⟩ : Shape).Idx, (Cert.On_only_dv.fn (F := Ideal) (m ((c.tc : Thread Cert.GdnBwdIdeal.nD Cert.GdnBwdIdeal.τ).loc Cert.GdnBwdIdeal.main_arg0)) (m ((c.tc : Thread Cert.GdnBwdIdeal.nD Cert.GdnBwdIdeal.τ).loc Cert.GdnBwdIdeal.main_arg1)) (m ((c.tc : Thread Cert.GdnBwdIdeal.nD Cert.GdnBwdIdeal.τ).loc Cert.GdnBwdIdeal.main_arg2)) (m ((c.tc : Thread Cert.GdnBwdIdeal.nD Cert.GdnBwdIdeal.τ).loc Cert.GdnBwdIdeal.main_arg3)) (m ((c.tc : Thread Cert.GdnBwdIdeal.nD Cert.GdnBwdIdeal.τ).loc Cert.GdnBwdIdeal.main_arg4)) (m ((c.tc : Thread Cert.GdnBwdIdeal.nD Cert.GdnBwdIdeal.τ).loc Cert.GdnBwdIdeal.main_arg5)) (m ((c.tc : Thread Cert.GdnBwdIdeal.nD Cert.GdnBwdIdeal.τ).loc Cert.GdnBwdIdeal.main_arg6))).2 i = 1#1 → r.2.mem ((c.tc : Thread Cert.GdnDvRefIdeal.nD Cert.GdnDvRefIdeal.τ).loc Cert.GdnDvRefIdeal.main_v84) i = v1 c i)
          ∧ r.2.mem ((c.tc : Thread Cert.GdnDvRefIdeal.nD Cert.GdnDvRefIdeal.τ).loc Cert.GdnDvRefIdeal.main_arg0) = m' ((c.tc : Thread Cert.GdnDvRefIdeal.nD Cert.GdnDvRefIdeal.τ).loc Cert.GdnDvRefIdeal.main_arg0)
          ∧ r.2.mem ((c.tc : Thread Cert.GdnDvRefIdeal.nD Cert.GdnDvRefIdeal.τ).loc Cert.GdnDvRefIdeal.main_arg1) = m' ((c.tc : Thread Cert.GdnDvRefIdeal.nD Cert.GdnDvRefIdeal.τ).loc Cert.GdnDvRefIdeal.main_arg1)
          ∧ r.2.mem ((c.tc : Thread Cert.GdnDvRefIdeal.nD Cert.GdnDvRefIdeal.τ).loc Cert.GdnDvRefIdeal.main_arg2) = m' ((c.tc : Thread Cert.GdnDvRefIdeal.nD Cert.GdnDvRefIdeal.τ).loc Cert.GdnDvRefIdeal.main_arg2)
          ∧ r.2.mem ((c.tc : Thread Cert.GdnDvRefIdeal.nD Cert.GdnDvRefIdeal.τ).loc Cert.GdnDvRefIdeal.main_arg3) = m' ((c.tc : Thread Cert.GdnDvRefIdeal.nD Cert.GdnDvRefIdeal.τ).loc Cert.GdnDvRefIdeal.main_arg3)
          ∧ r.2.mem ((c.tc : Thread Cert.GdnDvRefIdeal.nD Cert.GdnDvRefIdeal.τ).loc Cert.GdnDvRefIdeal.main_arg4) = m' ((c.tc : Thread Cert.GdnDvRefIdeal.nD Cert.GdnDvRefIdeal.τ).loc Cert.GdnDvRefIdeal.main_arg4)
          ∧ r.2.mem ((c.tc : Thread Cert.GdnDvRefIdeal.nD Cert.GdnDvRefIdeal.τ).loc Cert.GdnDvRefIdeal.main_arg5) = m' ((c.tc : Thread Cert.GdnDvRefIdeal.nD Cert.GdnDvRefIdeal.τ).loc Cert.GdnDvRefIdeal.main_arg5)
          ∧ r.2.mem ((c.tc : Thread Cert.GdnDvRefIdeal.nD Cert.GdnDvRefIdeal.τ).loc Cert.GdnDvRefIdeal.main_arg6) = m' ((c.tc : Thread Cert.GdnDvRefIdeal.nD Cert.GdnDvRefIdeal.τ).loc Cert.GdnDvRefIdeal.main_arg6))

def preserves_Mlp2Dx_Mlp2DxIdeal : Prop :=
  True

def algebraic_Mlp2DxIdeal_Mlp2DxRefIdeal [hMlp2DxIdeal : Cert.Mlp2DxIdeal.Facts] [hMlp2DxRefIdeal : Cert.Mlp2DxRefIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxRefIdeal.nD Cert.Mlp2DxRefIdeal.τ Cert.Mlp2DxRefIdeal.sig) → Buf (Elt Ideal) ℓ) (g' : Dev Cert.Mlp2DxRefIdeal.nD → PrngReg), Pre_Mlp2DxIdeal m →
    (∀ c : Dev Cert.Mlp2DxIdeal.nD,
      m' ((c.tc : Thread Cert.Mlp2DxRefIdeal.nD Cert.Mlp2DxRefIdeal.τ).loc Cert.Mlp2DxRefIdeal.main_arg0) = m ((c.tc : Thread Cert.Mlp2DxIdeal.nD Cert.Mlp2DxIdeal.τ).loc Cert.Mlp2DxIdeal.main_arg0)
      ∧ m' ((c.tc : Thread Cert.Mlp2DxRefIdeal.nD Cert.Mlp2DxRefIdeal.τ).loc Cert.Mlp2DxRefIdeal.main_arg1) = m ((c.tc : Thread Cert.Mlp2DxIdeal.nD Cert.Mlp2DxIdeal.τ).loc Cert.Mlp2DxIdeal.main_arg1)
      ∧ m' ((c.tc : Thread Cert.Mlp2DxRefIdeal.nD Cert.Mlp2DxRefIdeal.τ).loc Cert.Mlp2DxRefIdeal.main_arg2) = m ((c.tc : Thread Cert.Mlp2DxIdeal.nD Cert.Mlp2DxIdeal.τ).loc Cert.Mlp2DxIdeal.main_arg2)
      ∧ m' ((c.tc : Thread Cert.Mlp2DxRefIdeal.nD Cert.Mlp2DxRefIdeal.τ).loc Cert.Mlp2DxRefIdeal.main_arg3) = m ((c.tc : Thread Cert.Mlp2DxIdeal.nD Cert.Mlp2DxIdeal.τ).loc Cert.Mlp2DxIdeal.main_arg3)) →
    ∃ (v0 : (c : Dev Cert.Mlp2DxIdeal.nD) → Buf (Elt Ideal) ((c.tc : Thread Cert.Mlp2DxIdeal.nD Cert.Mlp2DxIdeal.τ).loc Cert.Mlp2DxIdeal.main_v0)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v0) = v0 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
          ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ θ_run (Cert.Mlp2DxRefIdeal.defs (F := Ideal)) (onTc (τ := Cert.Mlp2DxRefIdeal.τ) (Cert.Mlp2DxRefIdeal.main (F := Ideal))) ⟨m', fun _ => 0, g'⟩ (fun r => ∀ c : Dev Cert.Mlp2DxRefIdeal.nD,
          r.2.mem ((c.tc : Thread Cert.Mlp2DxRefIdeal.nD Cert.Mlp2DxRefIdeal.τ).loc Cert.Mlp2DxRefIdeal.main_v16) = v0 c
          ∧ r.2.mem ((c.tc : Thread Cert.Mlp2DxRefIdeal.nD Cert.Mlp2DxRefIdeal.τ).loc Cert.Mlp2DxRefIdeal.main_arg0) = m' ((c.tc : Thread Cert.Mlp2DxRefIdeal.nD Cert.Mlp2DxRefIdeal.τ).loc Cert.Mlp2DxRefIdeal.main_arg0)
          ∧ r.2.mem ((c.tc : Thread Cert.Mlp2DxRefIdeal.nD Cert.Mlp2DxRefIdeal.τ).loc Cert.Mlp2DxRefIdeal.main_arg1) = m' ((c.tc : Thread Cert.Mlp2DxRefIdeal.nD Cert.Mlp2DxRefIdeal.τ).loc Cert.Mlp2DxRefIdeal.main_arg1)
          ∧ r.2.mem ((c.tc : Thread Cert.Mlp2DxRefIdeal.nD Cert.Mlp2DxRefIdeal.τ).loc Cert.Mlp2DxRefIdeal.main_arg2) = m' ((c.tc : Thread Cert.Mlp2DxRefIdeal.nD Cert.Mlp2DxRefIdeal.τ).loc Cert.Mlp2DxRefIdeal.main_arg2)
          ∧ r.2.mem ((c.tc : Thread Cert.Mlp2DxRefIdeal.nD Cert.Mlp2DxRefIdeal.τ).loc Cert.Mlp2DxRefIdeal.main_arg3) = m' ((c.tc : Thread Cert.Mlp2DxRefIdeal.nD Cert.Mlp2DxRefIdeal.τ).loc Cert.Mlp2DxRefIdeal.main_arg3))

def preserves_Mlp2Dw_Mlp2DwIdeal : Prop :=
  True

def algebraic_Mlp2DwIdeal_Mlp2DwRefIdeal [hMlp2DwIdeal : Cert.Mlp2DwIdeal.Facts] [hMlp2DwRefIdeal : Cert.Mlp2DwRefIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwRefIdeal.nD Cert.Mlp2DwRefIdeal.τ Cert.Mlp2DwRefIdeal.sig) → Buf (Elt Ideal) ℓ) (g' : Dev Cert.Mlp2DwRefIdeal.nD → PrngReg), Pre_Mlp2DwIdeal m →
    (∀ c : Dev Cert.Mlp2DwIdeal.nD,
      m' ((c.tc : Thread Cert.Mlp2DwRefIdeal.nD Cert.Mlp2DwRefIdeal.τ).loc Cert.Mlp2DwRefIdeal.main_arg0) = m ((c.tc : Thread Cert.Mlp2DwIdeal.nD Cert.Mlp2DwIdeal.τ).loc Cert.Mlp2DwIdeal.main_arg0)
      ∧ m' ((c.tc : Thread Cert.Mlp2DwRefIdeal.nD Cert.Mlp2DwRefIdeal.τ).loc Cert.Mlp2DwRefIdeal.main_arg1) = m ((c.tc : Thread Cert.Mlp2DwIdeal.nD Cert.Mlp2DwIdeal.τ).loc Cert.Mlp2DwIdeal.main_arg1)) →
    ∃ (v0 : (c : Dev Cert.Mlp2DwIdeal.nD) → Buf (Elt Ideal) ((c.tc : Thread Cert.Mlp2DwIdeal.nD Cert.Mlp2DwIdeal.τ).loc Cert.Mlp2DwIdeal.main_v0)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v0) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ θ_run (Cert.Mlp2DwRefIdeal.defs (F := Ideal)) (onTc (τ := Cert.Mlp2DwRefIdeal.τ) (Cert.Mlp2DwRefIdeal.main (F := Ideal))) ⟨m', fun _ => 0, g'⟩ (fun r => ∀ c : Dev Cert.Mlp2DwRefIdeal.nD,
          r.2.mem ((c.tc : Thread Cert.Mlp2DwRefIdeal.nD Cert.Mlp2DwRefIdeal.τ).loc Cert.Mlp2DwRefIdeal.main_v6) = v0 c
          ∧ r.2.mem ((c.tc : Thread Cert.Mlp2DwRefIdeal.nD Cert.Mlp2DwRefIdeal.τ).loc Cert.Mlp2DwRefIdeal.main_arg0) = m' ((c.tc : Thread Cert.Mlp2DwRefIdeal.nD Cert.Mlp2DwRefIdeal.τ).loc Cert.Mlp2DwRefIdeal.main_arg0)
          ∧ r.2.mem ((c.tc : Thread Cert.Mlp2DwRefIdeal.nD Cert.Mlp2DwRefIdeal.τ).loc Cert.Mlp2DwRefIdeal.main_arg1) = m' ((c.tc : Thread Cert.Mlp2DwRefIdeal.nD Cert.Mlp2DwRefIdeal.τ).loc Cert.Mlp2DwRefIdeal.main_arg1))

def preserves_Mlp1Dx_Mlp1DxIdeal : Prop :=
  True

def algebraic_Mlp1DxIdeal_Mlp1DxRefIdeal [hMlp1DxIdeal : Cert.Mlp1DxIdeal.Facts] [hMlp1DxRefIdeal : Cert.Mlp1DxRefIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxRefIdeal.nD Cert.Mlp1DxRefIdeal.τ Cert.Mlp1DxRefIdeal.sig) → Buf (Elt Ideal) ℓ) (g' : Dev Cert.Mlp1DxRefIdeal.nD → PrngReg), Pre_Mlp1DxIdeal m →
    (∀ c : Dev Cert.Mlp1DxIdeal.nD,
      m' ((c.tc : Thread Cert.Mlp1DxRefIdeal.nD Cert.Mlp1DxRefIdeal.τ).loc Cert.Mlp1DxRefIdeal.main_arg0) = m ((c.tc : Thread Cert.Mlp1DxIdeal.nD Cert.Mlp1DxIdeal.τ).loc Cert.Mlp1DxIdeal.main_arg0)
      ∧ m' ((c.tc : Thread Cert.Mlp1DxRefIdeal.nD Cert.Mlp1DxRefIdeal.τ).loc Cert.Mlp1DxRefIdeal.main_arg1) = m ((c.tc : Thread Cert.Mlp1DxIdeal.nD Cert.Mlp1DxIdeal.τ).loc Cert.Mlp1DxIdeal.main_arg1)
      ∧ m' ((c.tc : Thread Cert.Mlp1DxRefIdeal.nD Cert.Mlp1DxRefIdeal.τ).loc Cert.Mlp1DxRefIdeal.main_arg2) = m ((c.tc : Thread Cert.Mlp1DxIdeal.nD Cert.Mlp1DxIdeal.τ).loc Cert.Mlp1DxIdeal.main_arg2)) →
    ∃ (v0 : (c : Dev Cert.Mlp1DxIdeal.nD) → Buf (Elt Ideal) ((c.tc : Thread Cert.Mlp1DxIdeal.nD Cert.Mlp1DxIdeal.τ).loc Cert.Mlp1DxIdeal.main_v0)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v0) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
          ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ θ_run (Cert.Mlp1DxRefIdeal.defs (F := Ideal)) (onTc (τ := Cert.Mlp1DxRefIdeal.τ) (Cert.Mlp1DxRefIdeal.main (F := Ideal))) ⟨m', fun _ => 0, g'⟩ (fun r => ∀ c : Dev Cert.Mlp1DxRefIdeal.nD,
          r.2.mem ((c.tc : Thread Cert.Mlp1DxRefIdeal.nD Cert.Mlp1DxRefIdeal.τ).loc Cert.Mlp1DxRefIdeal.main_v6) = v0 c
          ∧ r.2.mem ((c.tc : Thread Cert.Mlp1DxRefIdeal.nD Cert.Mlp1DxRefIdeal.τ).loc Cert.Mlp1DxRefIdeal.main_arg0) = m' ((c.tc : Thread Cert.Mlp1DxRefIdeal.nD Cert.Mlp1DxRefIdeal.τ).loc Cert.Mlp1DxRefIdeal.main_arg0)
          ∧ r.2.mem ((c.tc : Thread Cert.Mlp1DxRefIdeal.nD Cert.Mlp1DxRefIdeal.τ).loc Cert.Mlp1DxRefIdeal.main_arg1) = m' ((c.tc : Thread Cert.Mlp1DxRefIdeal.nD Cert.Mlp1DxRefIdeal.τ).loc Cert.Mlp1DxRefIdeal.main_arg1)
          ∧ r.2.mem ((c.tc : Thread Cert.Mlp1DxRefIdeal.nD Cert.Mlp1DxRefIdeal.τ).loc Cert.Mlp1DxRefIdeal.main_arg2) = m' ((c.tc : Thread Cert.Mlp1DxRefIdeal.nD Cert.Mlp1DxRefIdeal.τ).loc Cert.Mlp1DxRefIdeal.main_arg2))

def preserves_Mlp1Dw_Mlp1DwIdeal : Prop :=
  True

def algebraic_Mlp1DwIdeal_Mlp1DwRefIdeal [hMlp1DwIdeal : Cert.Mlp1DwIdeal.Facts] [hMlp1DwRefIdeal : Cert.Mlp1DwRefIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwRefIdeal.nD Cert.Mlp1DwRefIdeal.τ Cert.Mlp1DwRefIdeal.sig) → Buf (Elt Ideal) ℓ) (g' : Dev Cert.Mlp1DwRefIdeal.nD → PrngReg), Pre_Mlp1DwIdeal m →
    (∀ c : Dev Cert.Mlp1DwIdeal.nD,
      m' ((c.tc : Thread Cert.Mlp1DwRefIdeal.nD Cert.Mlp1DwRefIdeal.τ).loc Cert.Mlp1DwRefIdeal.main_arg0) = m ((c.tc : Thread Cert.Mlp1DwIdeal.nD Cert.Mlp1DwIdeal.τ).loc Cert.Mlp1DwIdeal.main_arg0)
      ∧ m' ((c.tc : Thread Cert.Mlp1DwRefIdeal.nD Cert.Mlp1DwRefIdeal.τ).loc Cert.Mlp1DwRefIdeal.main_arg1) = m ((c.tc : Thread Cert.Mlp1DwIdeal.nD Cert.Mlp1DwIdeal.τ).loc Cert.Mlp1DwIdeal.main_arg1)) →
    ∃ (v0 : (c : Dev Cert.Mlp1DwIdeal.nD) → Buf (Elt Ideal) ((c.tc : Thread Cert.Mlp1DwIdeal.nD Cert.Mlp1DwIdeal.τ).loc Cert.Mlp1DwIdeal.main_v0)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v0) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ θ_run (Cert.Mlp1DwRefIdeal.defs (F := Ideal)) (onTc (τ := Cert.Mlp1DwRefIdeal.τ) (Cert.Mlp1DwRefIdeal.main (F := Ideal))) ⟨m', fun _ => 0, g'⟩ (fun r => ∀ c : Dev Cert.Mlp1DwRefIdeal.nD,
          r.2.mem ((c.tc : Thread Cert.Mlp1DwRefIdeal.nD Cert.Mlp1DwRefIdeal.τ).loc Cert.Mlp1DwRefIdeal.main_v8) = v0 c
          ∧ r.2.mem ((c.tc : Thread Cert.Mlp1DwRefIdeal.nD Cert.Mlp1DwRefIdeal.τ).loc Cert.Mlp1DwRefIdeal.main_arg0) = m' ((c.tc : Thread Cert.Mlp1DwRefIdeal.nD Cert.Mlp1DwRefIdeal.τ).loc Cert.Mlp1DwRefIdeal.main_arg0)
          ∧ r.2.mem ((c.tc : Thread Cert.Mlp1DwRefIdeal.nD Cert.Mlp1DwRefIdeal.τ).loc Cert.Mlp1DwRefIdeal.main_arg1) = m' ((c.tc : Thread Cert.Mlp1DwRefIdeal.nD Cert.Mlp1DwRefIdeal.τ).loc Cert.Mlp1DwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_ModDx_ModDxIdeal : Prop :=
  True

def algebraic_ModDxIdeal_ModDxRefIdeal [hModDxIdeal : Cert.ModDxIdeal.Facts] [hModDxRefIdeal : Cert.ModDxRefIdeal.Facts] : Prop :=
  ∀ (m : (ℓ : Loc Cert.ModDxIdeal.nD Cert.ModDxIdeal.τ Cert.ModDxIdeal.sig) → Buf (Elt Ideal) ℓ) (g : Dev Cert.ModDxIdeal.nD → PrngReg)
    (m' : (ℓ : Loc Cert.ModDxRefIdeal.nD Cert.ModDxRefIdeal.τ Cert.ModDxRefIdeal.sig) → Buf (Elt Ideal) ℓ) (g' : Dev Cert.ModDxRefIdeal.nD → PrngReg), Pre_ModDxIdeal m →
    (∀ c : Dev Cert.ModDxIdeal.nD,
      m' ((c.tc : Thread Cert.ModDxRefIdeal.nD Cert.ModDxRefIdeal.τ).loc Cert.ModDxRefIdeal.main_arg0) = m ((c.tc : Thread Cert.ModDxIdeal.nD Cert.ModDxIdeal.τ).loc Cert.ModDxIdeal.main_arg0)
      ∧ m' ((c.tc : Thread Cert.ModDxRefIdeal.nD Cert.ModDxRefIdeal.τ).loc Cert.ModDxRefIdeal.main_arg1) = m ((c.tc : Thread Cert.ModDxIdeal.nD Cert.ModDxIdeal.τ).loc Cert.ModDxIdeal.main_arg1)) →
    ∃ (v0 : (c : Dev Cert.ModDxIdeal.nD) → Buf (Elt Ideal) ((c.tc : Thread Cert.ModDxIdeal.nD Cert.ModDxIdeal.τ).loc Cert.ModDxIdeal.main_v0)),
      θ_run (Cert.ModDxIdeal.defs (F := Ideal)) (onTc (τ := Cert.ModDxIdeal.τ) (Cert.ModDxIdeal.main (F := Ideal))) ⟨m, fun _ => 0, g⟩ (fun r => ∀ c : Dev Cert.ModDxIdeal.nD,
          r.2.mem ((c.tc : Thread Cert.ModDxIdeal.nD Cert.ModDxIdeal.τ).loc Cert.ModDxIdeal.main_v0) = v0 c
          ∧ r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
          ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ θ_run (Cert.ModDxRefIdeal.defs (F := Ideal)) (onTc (τ := Cert.ModDxRefIdeal.τ) (Cert.ModDxRefIdeal.main (F := Ideal))) ⟨m', fun _ => 0, g'⟩ (fun r => ∀ c : Dev Cert.ModDxRefIdeal.nD,
          r.2.mem ((c.tc : Thread Cert.ModDxRefIdeal.nD Cert.ModDxRefIdeal.τ).loc Cert.ModDxRefIdeal.main_v2) = v0 c
          ∧ r.2.mem ((c.tc : Thread Cert.ModDxRefIdeal.nD Cert.ModDxRefIdeal.τ).loc Cert.ModDxRefIdeal.main_arg0) = m' ((c.tc : Thread Cert.ModDxRefIdeal.nD Cert.ModDxRefIdeal.τ).loc Cert.ModDxRefIdeal.main_arg0)
          ∧ r.2.mem ((c.tc : Thread Cert.ModDxRefIdeal.nD Cert.ModDxRefIdeal.τ).loc Cert.ModDxRefIdeal.main_arg1) = m' ((c.tc : Thread Cert.ModDxRefIdeal.nD Cert.ModDxRefIdeal.τ).loc Cert.ModDxRefIdeal.main_arg1))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)
      ∧ m' ((c.tc : Thread Cert.ModDwRefIdeal.nD Cert.ModDwRefIdeal.τ).loc Cert.ModDwRefIdeal.main_arg2) = m ((c.tc : Thread Cert.ModDwIdeal.nD Cert.ModDwIdeal.τ).loc Cert.ModDwIdeal.main_arg2)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
          ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1)
          ∧ r.2.mem ((c.tc : Thread Cert.ModDwRefIdeal.nD Cert.ModDwRefIdeal.τ).loc Cert.ModDwRefIdeal.main_arg2) = m' ((c.tc : Thread Cert.ModDwRefIdeal.nD Cert.ModDwRefIdeal.τ).loc Cert.ModDwRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_Mlp1Fwd_Mlp1FwdIdeal : Prop :=
  True

def algebraic_Mlp1FwdIdeal_Mlp1FwdRefIdeal [hMlp1FwdIdeal : Cert.Mlp1FwdIdeal.Facts] [hMlp1FwdRefIdeal : Cert.Mlp1FwdRefIdeal.Facts] : Prop :=
  ∀ (m : (ℓ : Loc Cert.Mlp1FwdIdeal.nD Cert.Mlp1FwdIdeal.τ Cert.Mlp1FwdIdeal.sig) → Buf (Elt Ideal) ℓ) (g : Dev Cert.Mlp1FwdIdeal.nD → PrngReg)
    (m' : (ℓ : Loc Cert.Mlp1FwdRefIdeal.nD Cert.Mlp1FwdRefIdeal.τ Cert.Mlp1FwdRefIdeal.sig) → Buf (Elt Ideal) ℓ) (g' : Dev Cert.Mlp1FwdRefIdeal.nD → PrngReg), Pre_Mlp1FwdIdeal m →
    (∀ c : Dev Cert.Mlp1FwdIdeal.nD,
      m' ((c.tc : Thread Cert.Mlp1FwdRefIdeal.nD Cert.Mlp1FwdRefIdeal.τ).loc Cert.Mlp1FwdRefIdeal.main_arg0) = m ((c.tc : Thread Cert.Mlp1FwdIdeal.nD Cert.Mlp1FwdIdeal.τ).loc Cert.Mlp1FwdIdeal.main_arg0)
      ∧ m' ((c.tc : Thread Cert.Mlp1FwdRefIdeal.nD Cert.Mlp1FwdRefIdeal.τ).loc Cert.Mlp1FwdRefIdeal.main_arg1) = m ((c.tc : Thread Cert.Mlp1FwdIdeal.nD Cert.Mlp1FwdIdeal.τ).loc Cert.Mlp1FwdIdeal.main_arg1)
      ∧ m' ((c.tc : Thread Cert.Mlp1FwdRefIdeal.nD Cert.Mlp1FwdRefIdeal.τ).loc Cert.Mlp1FwdRefIdeal.main_arg2) = m ((c.tc : Thread Cert.Mlp1FwdIdeal.nD Cert.Mlp1FwdIdeal.τ).loc Cert.Mlp1FwdIdeal.main_arg2)) →
    ∃ (v0 : (c : Dev Cert.Mlp1FwdIdeal.nD) → Buf (Elt Ideal) ((c.tc : Thread Cert.Mlp1FwdIdeal.nD Cert.Mlp1FwdIdeal.τ).loc Cert.Mlp1FwdIdeal.main_v0_0)) (v1 : (c : Dev Cert.Mlp1FwdIdeal.nD) → Buf (Elt Ideal) ((c.tc : Thread Cert.Mlp1FwdIdeal.nD Cert.Mlp1FwdIdeal.τ).loc Cert.Mlp1FwdIdeal.main_v0_1)),
      θ_run (Cert.Mlp1FwdIdeal.defs (F := Ideal)) (onTc (τ := Cert.Mlp1FwdIdeal.τ) (Cert.Mlp1FwdIdeal.main (F := Ideal))) ⟨m, fun _ => 0, g⟩ (fun r => ∀ c : Dev Cert.Mlp1FwdIdeal.nD,
          r.2.mem ((c.tc : Thread Cert.Mlp1FwdIdeal.nD Cert.Mlp1FwdIdeal.τ).loc Cert.Mlp1FwdIdeal.main_v0_0) = v0 c
          ∧ r.2.mem ((c.tc : Thread Cert.Mlp1FwdIdeal.nD Cert.Mlp1FwdIdeal.τ).loc Cert.Mlp1FwdIdeal.main_v0_1) = v1 c
          ∧ r.2.mem ((c.tc : Thread Cert.Mlp1FwdIdeal.nD Cert.Mlp1FwdIdeal.τ).loc Cert.Mlp1FwdIdeal.main_arg0) = m ((c.tc : Thread Cert.Mlp1FwdIdeal.nD Cert.Mlp1FwdIdeal.τ).loc Cert.Mlp1FwdIdeal.main_arg0)
          ∧ r.2.mem ((c.tc : Thread Cert.Mlp1FwdIdeal.nD Cert.Mlp1FwdIdeal.τ).loc Cert.Mlp1FwdIdeal.main_arg1) = m ((c.tc : Thread Cert.Mlp1FwdIdeal.nD Cert.Mlp1FwdIdeal.τ).loc Cert.Mlp1FwdIdeal.main_arg1)
          ∧ r.2.mem ((c.tc : Thread Cert.Mlp1FwdIdeal.nD Cert.Mlp1FwdIdeal.τ).loc Cert.Mlp1FwdIdeal.main_arg2) = m ((c.tc : Thread Cert.Mlp1FwdIdeal.nD Cert.Mlp1FwdIdeal.τ).loc Cert.Mlp1FwdIdeal.main_arg2))
      ∧ θ_run (Cert.Mlp1FwdRefIdeal.defs (F := Ideal)) (onTc (τ := Cert.Mlp1FwdRefIdeal.τ) (Cert.Mlp1FwdRefIdeal.main (F := Ideal))) ⟨m', fun _ => 0, g'⟩ (fun r => ∀ c : Dev Cert.Mlp1FwdRefIdeal.nD,
          r.2.mem ((c.tc : Thread Cert.Mlp1FwdRefIdeal.nD Cert.Mlp1FwdRefIdeal.τ).loc Cert.Mlp1FwdRefIdeal.main_v4) = v0 c
          ∧ r.2.mem ((c.tc : Thread Cert.Mlp1FwdRefIdeal.nD Cert.Mlp1FwdRefIdeal.τ).loc Cert.Mlp1FwdRefIdeal.main_v9) = v1 c
          ∧ r.2.mem ((c.tc : Thread Cert.Mlp1FwdRefIdeal.nD Cert.Mlp1FwdRefIdeal.τ).loc Cert.Mlp1FwdRefIdeal.main_arg0) = m' ((c.tc : Thread Cert.Mlp1FwdRefIdeal.nD Cert.Mlp1FwdRefIdeal.τ).loc Cert.Mlp1FwdRefIdeal.main_arg0)
          ∧ r.2.mem ((c.tc : Thread Cert.Mlp1FwdRefIdeal.nD Cert.Mlp1FwdRefIdeal.τ).loc Cert.Mlp1FwdRefIdeal.main_arg1) = m' ((c.tc : Thread Cert.Mlp1FwdRefIdeal.nD Cert.Mlp1FwdRefIdeal.τ).loc Cert.Mlp1FwdRefIdeal.main_arg1)
          ∧ r.2.mem ((c.tc : Thread Cert.Mlp1FwdRefIdeal.nD Cert.Mlp1FwdRefIdeal.τ).loc Cert.Mlp1FwdRefIdeal.main_arg2) = m' ((c.tc : Thread Cert.Mlp1FwdRefIdeal.nD Cert.Mlp1FwdRefIdeal.τ).loc Cert.Mlp1FwdRefIdeal.main_arg2))

def preserves_Mlp2Fwd_Mlp2FwdIdeal : Prop :=
  True

def algebraic_Mlp2FwdIdeal_Mlp2FwdRefIdeal [hMlp2FwdIdeal : Cert.Mlp2FwdIdeal.Facts] [hMlp2FwdRefIdeal : Cert.Mlp2FwdRefIdeal.Facts] : Prop :=
  ∀ (m : (ℓ : Loc Cert.Mlp2FwdIdeal.nD Cert.Mlp2FwdIdeal.τ Cert.Mlp2FwdIdeal.sig) → Buf (Elt Ideal) ℓ) (g : Dev Cert.Mlp2FwdIdeal.nD → PrngReg)
    (m' : (ℓ : Loc Cert.Mlp2FwdRefIdeal.nD Cert.Mlp2FwdRefIdeal.τ Cert.Mlp2FwdRefIdeal.sig) → Buf (Elt Ideal) ℓ) (g' : Dev Cert.Mlp2FwdRefIdeal.nD → PrngReg), Pre_Mlp2FwdIdeal m →
    (∀ c : Dev Cert.Mlp2FwdIdeal.nD,
      m' ((c.tc : Thread Cert.Mlp2FwdRefIdeal.nD Cert.Mlp2FwdRefIdeal.τ).loc Cert.Mlp2FwdRefIdeal.main_arg0) = m ((c.tc : Thread Cert.Mlp2FwdIdeal.nD Cert.Mlp2FwdIdeal.τ).loc Cert.Mlp2FwdIdeal.main_arg0)
      ∧ m' ((c.tc : Thread Cert.Mlp2FwdRefIdeal.nD Cert.Mlp2FwdRefIdeal.τ).loc Cert.Mlp2FwdRefIdeal.main_arg1) = m ((c.tc : Thread Cert.Mlp2FwdIdeal.nD Cert.Mlp2FwdIdeal.τ).loc Cert.Mlp2FwdIdeal.main_arg1)) →
    ∃ (v0 : (c : Dev Cert.Mlp2FwdIdeal.nD) → Buf (Elt Ideal) ((c.tc : Thread Cert.Mlp2FwdIdeal.nD Cert.Mlp2FwdIdeal.τ).loc Cert.Mlp2FwdIdeal.main_v0)),
      θ_run (Cert.Mlp2FwdIdeal.defs (F := Ideal)) (onTc (τ := Cert.Mlp2FwdIdeal.τ) (Cert.Mlp2FwdIdeal.main (F := Ideal))) ⟨m, fun _ => 0, g⟩ (fun r => ∀ c : Dev Cert.Mlp2FwdIdeal.nD,
          r.2.mem ((c.tc : Thread Cert.Mlp2FwdIdeal.nD Cert.Mlp2FwdIdeal.τ).loc Cert.Mlp2FwdIdeal.main_v0) = v0 c
          ∧ r.2.mem ((c.tc : Thread Cert.Mlp2FwdIdeal.nD Cert.Mlp2FwdIdeal.τ).loc Cert.Mlp2FwdIdeal.main_arg0) = m ((c.tc : Thread Cert.Mlp2FwdIdeal.nD Cert.Mlp2FwdIdeal.τ).loc Cert.Mlp2FwdIdeal.main_arg0)
          ∧ r.2.mem ((c.tc : Thread Cert.Mlp2FwdIdeal.nD Cert.Mlp2FwdIdeal.τ).loc Cert.Mlp2FwdIdeal.main_arg1) = m ((c.tc : Thread Cert.Mlp2FwdIdeal.nD Cert.Mlp2FwdIdeal.τ).loc Cert.Mlp2FwdIdeal.main_arg1))
      ∧ θ_run (Cert.Mlp2FwdRefIdeal.defs (F := Ideal)) (onTc (τ := Cert.Mlp2FwdRefIdeal.τ) (Cert.Mlp2FwdRefIdeal.main (F := Ideal))) ⟨m', fun _ => 0, g'⟩ (fun r => ∀ c : Dev Cert.Mlp2FwdRefIdeal.nD,
          r.2.mem ((c.tc : Thread Cert.Mlp2FwdRefIdeal.nD Cert.Mlp2FwdRefIdeal.τ).loc Cert.Mlp2FwdRefIdeal.main_v2) = v0 c
          ∧ r.2.mem ((c.tc : Thread Cert.Mlp2FwdRefIdeal.nD Cert.Mlp2FwdRefIdeal.τ).loc Cert.Mlp2FwdRefIdeal.main_arg0) = m' ((c.tc : Thread Cert.Mlp2FwdRefIdeal.nD Cert.Mlp2FwdRefIdeal.τ).loc Cert.Mlp2FwdRefIdeal.main_arg0)
          ∧ r.2.mem ((c.tc : Thread Cert.Mlp2FwdRefIdeal.nD Cert.Mlp2FwdRefIdeal.τ).loc Cert.Mlp2FwdRefIdeal.main_arg1) = m' ((c.tc : Thread Cert.Mlp2FwdRefIdeal.nD Cert.Mlp2FwdRefIdeal.τ).loc Cert.Mlp2FwdRefIdeal.main_arg1))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v2) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_LnInLat_LnInLatIdeal : Prop :=
  True

def algebraic_LnInLatIdeal_LnInLatRefIdeal_pre_ln_in_finite [hLnInLatIdeal : Cert.LnInLatIdeal.Facts] [hLnInLatRefIdeal : Cert.LnInLatRefIdeal.Facts] [hPre_ln_in_finite : Cert.Pre_ln_in_finite.Facts] : Prop :=
  ∀ (m : (ℓ : Loc Cert.LnInLatIdeal.nD Cert.LnInLatIdeal.τ Cert.LnInLatIdeal.sig) → Buf (Elt Ideal) ℓ) (g : Dev Cert.LnInLatIdeal.nD → PrngReg)
    (m' : (ℓ : Loc Cert.LnInLatRefIdeal.nD Cert.LnInLatRefIdeal.τ Cert.LnInLatRefIdeal.sig) → Buf (Elt Ideal) ℓ) (g' : Dev Cert.LnInLatRefIdeal.nD → PrngReg), Pre_LnInLatIdeal_ln_in_finite m →
    (∀ c : Dev Cert.LnInLatIdeal.nD,
      m' ((c.tc : Thread Cert.LnInLatRefIdeal.nD Cert.LnInLatRefIdeal.τ).loc Cert.LnInLatRefIdeal.main_arg0) = m ((c.tc : Thread Cert.LnInLatIdeal.nD Cert.LnInLatIdeal.τ).loc Cert.LnInLatIdeal.main_arg0)
      ∧ m' ((c.tc : Thread Cert.LnInLatRefIdeal.nD Cert.LnInLatRefIdeal.τ).loc Cert.LnInLatRefIdeal.main_arg1) = m ((c.tc : Thread Cert.LnInLatIdeal.nD Cert.LnInLatIdeal.τ).loc Cert.LnInLatIdeal.main_arg1)
      ∧ m' ((c.tc : Thread Cert.LnInLatRefIdeal.nD Cert.LnInLatRefIdeal.τ).loc Cert.LnInLatRefIdeal.main_arg2) = m ((c.tc : Thread Cert.LnInLatIdeal.nD Cert.LnInLatIdeal.τ).loc Cert.LnInLatIdeal.main_arg2)
      ∧ m' ((c.tc : Thread Cert.LnInLatRefIdeal.nD Cert.LnInLatRefIdeal.τ).loc Cert.LnInLatRefIdeal.main_arg3) = m ((c.tc : Thread Cert.LnInLatIdeal.nD Cert.LnInLatIdeal.τ).loc Cert.LnInLatIdeal.main_arg3)
      ∧ m' ((c.tc : Thread Cert.LnInLatRefIdeal.nD Cert.LnInLatRefIdeal.τ).loc Cert.LnInLatRefIdeal.main_arg4) = m ((c.tc : Thread Cert.LnInLatIdeal.nD Cert.LnInLatIdeal.τ).loc Cert.LnInLatIdeal.main_arg4)
      ∧ m' ((c.tc : Thread Cert.LnInLatRefIdeal.nD Cert.LnInLatRefIdeal.τ).loc Cert.LnInLatRefIdeal.main_arg5) = m ((c.tc : Thread Cert.LnInLatIdeal.nD Cert.LnInLatIdeal.τ).loc Cert.LnInLatIdeal.main_arg5)) →
    ∃ (v0 : (c : Dev Cert.LnInLatIdeal.nD) → Buf (Elt Ideal) ((c.tc : Thread Cert.LnInLatIdeal.nD Cert.LnInLatIdeal.τ).loc Cert.LnInLatIdeal.main_v0_0)) (v1 : (c : Dev Cert.LnInLatIdeal.nD) → Buf (Elt Ideal) ((c.tc : Thread Cert.LnInLatIdeal.nD Cert.LnInLatIdeal.τ).loc Cert.LnInLatIdeal.main_v0_1)) (v2 : (c : Dev Cert.LnInLatIdeal.nD) → Buf (Elt Ideal) ((c.tc : Thread Cert.LnInLatIdeal.nD Cert.LnInLatIdeal.τ).loc Cert.LnInLatIdeal.main_v0_2)) (v3 : (c : Dev Cert.LnInLatIdeal.nD) → Buf (Elt Ideal) ((c.tc : Thread Cert.LnInLatIdeal.nD Cert.LnInLatIdeal.τ).loc Cert.LnInLatIdeal.main_v0_3)) (v4 : (c : Dev Cert.LnInLatIdeal.nD) → Buf (Elt Ideal) ((c.tc : Thread Cert.LnInLatIdeal.nD Cert.LnInLatIdeal.τ).loc Cert.LnInLatIdeal.main_v0_4)),
      θ_run (Cert.LnInLatIdeal.defs (F := Ideal)) (onTc (τ := Cert.LnInLatIdeal.τ) (Cert.LnInLatIdeal.main (F := Ideal))) ⟨m, fun _ => 0, g⟩ (fun r => ∀ c : Dev Cert.LnInLatIdeal.nD,
          r.2.mem ((c.tc : Thread Cert.LnInLatIdeal.nD Cert.LnInLatIdeal.τ).loc Cert.LnInLatIdeal.main_v0_0) = v0 c
          ∧ r.2.mem ((c.tc : Thread Cert.LnInLatIdeal.nD Cert.LnInLatIdeal.τ).loc Cert.LnInLatIdeal.main_v0_1) = v1 c
          ∧ r.2.mem ((c.tc : Thread Cert.LnInLatIdeal.nD Cert.LnInLatIdeal.τ).loc Cert.LnInLatIdeal.main_v0_2) = v2 c
          ∧ r.2.mem ((c.tc : Thread Cert.LnInLatIdeal.nD Cert.LnInLatIdeal.τ).loc Cert.LnInLatIdeal.main_v0_3) = v3 c
          ∧ r.2.mem ((c.tc : Thread Cert.LnInLatIdeal.nD Cert.LnInLatIdeal.τ).loc Cert.LnInLatIdeal.main_v0_4) = v4 c
          ∧ r.2.mem ((c.tc : Thread Cert.LnInLatIdeal.nD Cert.LnInLatIdeal.τ).loc Cert.LnInLatIdeal.main_arg0) = m ((c.tc : Thread Cert.LnInLatIdeal.nD Cert.LnInLatIdeal.τ).loc Cert.LnInLatIdeal.main_arg0)
          ∧ r.2.mem ((c.tc : Thread Cert.LnInLatIdeal.nD Cert.LnInLatIdeal.τ).loc Cert.LnInLatIdeal.main_arg1) = m ((c.tc : Thread Cert.LnInLatIdeal.nD Cert.LnInLatIdeal.τ).loc Cert.LnInLatIdeal.main_arg1)
          ∧ r.2.mem ((c.tc : Thread Cert.LnInLatIdeal.nD Cert.LnInLatIdeal.τ).loc Cert.LnInLatIdeal.main_arg2) = m ((c.tc : Thread Cert.LnInLatIdeal.nD Cert.LnInLatIdeal.τ).loc Cert.LnInLatIdeal.main_arg2)
          ∧ r.2.mem ((c.tc : Thread Cert.LnInLatIdeal.nD Cert.LnInLatIdeal.τ).loc Cert.LnInLatIdeal.main_arg3) = m ((c.tc : Thread Cert.LnInLatIdeal.nD Cert.LnInLatIdeal.τ).loc Cert.LnInLatIdeal.main_arg3)
          ∧ r.2.mem ((c.tc : Thread Cert.LnInLatIdeal.nD Cert.LnInLatIdeal.τ).loc Cert.LnInLatIdeal.main_arg4) = m ((c.tc : Thread Cert.LnInLatIdeal.nD Cert.LnInLatIdeal.τ).loc Cert.LnInLatIdeal.main_arg4)
          ∧ r.2.mem ((c.tc : Thread Cert.LnInLatIdeal.nD Cert.LnInLatIdeal.τ).loc Cert.LnInLatIdeal.main_arg5) = m ((c.tc : Thread Cert.LnInLatIdeal.nD Cert.LnInLatIdeal.τ).loc Cert.LnInLatIdeal.main_arg5))
      ∧ θ_run (Cert.LnInLatRefIdeal.defs (F := Ideal)) (onTc (τ := Cert.LnInLatRefIdeal.τ) (Cert.LnInLatRefIdeal.main (F := Ideal))) ⟨m', fun _ => 0, g'⟩ (fun r => ∀ c : Dev Cert.LnInLatRefIdeal.nD,
          r.2.mem ((c.tc : Thread Cert.LnInLatRefIdeal.nD Cert.LnInLatRefIdeal.τ).loc Cert.LnInLatRefIdeal.main_v77) = v0 c
          ∧ r.2.mem ((c.tc : Thread Cert.LnInLatRefIdeal.nD Cert.LnInLatRefIdeal.τ).loc Cert.LnInLatRefIdeal.main_v41) = v1 c
          ∧ r.2.mem ((c.tc : Thread Cert.LnInLatRefIdeal.nD Cert.LnInLatRefIdeal.τ).loc Cert.LnInLatRefIdeal.main_v38) = v2 c
          ∧ r.2.mem ((c.tc : Thread Cert.LnInLatRefIdeal.nD Cert.LnInLatRefIdeal.τ).loc Cert.LnInLatRefIdeal.main_v51) = v3 c
          ∧ r.2.mem ((c.tc : Thread Cert.LnInLatRefIdeal.nD Cert.LnInLatRefIdeal.τ).loc Cert.LnInLatRefIdeal.main_v48) = v4 c
          ∧ r.2.mem ((c.tc : Thread Cert.LnInLatRefIdeal.nD Cert.LnInLatRefIdeal.τ).loc Cert.LnInLatRefIdeal.main_arg0) = m' ((c.tc : Thread Cert.LnInLatRefIdeal.nD Cert.LnInLatRefIdeal.τ).loc Cert.LnInLatRefIdeal.main_arg0)
          ∧ r.2.mem ((c.tc : Thread Cert.LnInLatRefIdeal.nD Cert.LnInLatRefIdeal.τ).loc Cert.LnInLatRefIdeal.main_arg1) = m' ((c.tc : Thread Cert.LnInLatRefIdeal.nD Cert.LnInLatRefIdeal.τ).loc Cert.LnInLatRefIdeal.main_arg1)
          ∧ r.2.mem ((c.tc : Thread Cert.LnInLatRefIdeal.nD Cert.LnInLatRefIdeal.τ).loc Cert.LnInLatRefIdeal.main_arg2) = m' ((c.tc : Thread Cert.LnInLatRefIdeal.nD Cert.LnInLatRefIdeal.τ).loc Cert.LnInLatRefIdeal.main_arg2)
          ∧ r.2.mem ((c.tc : Thread Cert.LnInLatRefIdeal.nD Cert.LnInLatRefIdeal.τ).loc Cert.LnInLatRefIdeal.main_arg3) = m' ((c.tc : Thread Cert.LnInLatRefIdeal.nD Cert.LnInLatRefIdeal.τ).loc Cert.LnInLatRefIdeal.main_arg3)
          ∧ r.2.mem ((c.tc : Thread Cert.LnInLatRefIdeal.nD Cert.LnInLatRefIdeal.τ).loc Cert.LnInLatRefIdeal.main_arg4) = m' ((c.tc : Thread Cert.LnInLatRefIdeal.nD Cert.LnInLatRefIdeal.τ).loc Cert.LnInLatRefIdeal.main_arg4)
          ∧ r.2.mem ((c.tc : Thread Cert.LnInLatRefIdeal.nD Cert.LnInLatRefIdeal.τ).loc Cert.LnInLatRefIdeal.main_arg5) = m' ((c.tc : Thread Cert.LnInLatRefIdeal.nD Cert.LnInLatRefIdeal.τ).loc Cert.LnInLatRefIdeal.main_arg5))

def preserves_LnInCtx_LnInCtxIdeal : Prop :=
  True

def algebraic_LnInCtxIdeal_LnInCtxRefIdeal [hLnInCtxIdeal : Cert.LnInCtxIdeal.Facts] [hLnInCtxRefIdeal : Cert.LnInCtxRefIdeal.Facts] : Prop :=
  ∀ (m : (ℓ : Loc Cert.LnInCtxIdeal.nD Cert.LnInCtxIdeal.τ Cert.LnInCtxIdeal.sig) → Buf (Elt Ideal) ℓ) (g : Dev Cert.LnInCtxIdeal.nD → PrngReg)
    (m' : (ℓ : Loc Cert.LnInCtxRefIdeal.nD Cert.LnInCtxRefIdeal.τ Cert.LnInCtxRefIdeal.sig) → Buf (Elt Ideal) ℓ) (g' : Dev Cert.LnInCtxRefIdeal.nD → PrngReg), Pre_LnInCtxIdeal m →
    (∀ c : Dev Cert.LnInCtxIdeal.nD,
      m' ((c.tc : Thread Cert.LnInCtxRefIdeal.nD Cert.LnInCtxRefIdeal.τ).loc Cert.LnInCtxRefIdeal.main_arg0) = m ((c.tc : Thread Cert.LnInCtxIdeal.nD Cert.LnInCtxIdeal.τ).loc Cert.LnInCtxIdeal.main_arg0)
      ∧ m' ((c.tc : Thread Cert.LnInCtxRefIdeal.nD Cert.LnInCtxRefIdeal.τ).loc Cert.LnInCtxRefIdeal.main_arg1) = m ((c.tc : Thread Cert.LnInCtxIdeal.nD Cert.LnInCtxIdeal.τ).loc Cert.LnInCtxIdeal.main_arg1)
      ∧ m' ((c.tc : Thread Cert.LnInCtxRefIdeal.nD Cert.LnInCtxRefIdeal.τ).loc Cert.LnInCtxRefIdeal.main_arg2) = m ((c.tc : Thread Cert.LnInCtxIdeal.nD Cert.LnInCtxIdeal.τ).loc Cert.LnInCtxIdeal.main_arg2)
      ∧ m' ((c.tc : Thread Cert.LnInCtxRefIdeal.nD Cert.LnInCtxRefIdeal.τ).loc Cert.LnInCtxRefIdeal.main_arg3) = m ((c.tc : Thread Cert.LnInCtxIdeal.nD Cert.LnInCtxIdeal.τ).loc Cert.LnInCtxIdeal.main_arg3)
      ∧ m' ((c.tc : Thread Cert.LnInCtxRefIdeal.nD Cert.LnInCtxRefIdeal.τ).loc Cert.LnInCtxRefIdeal.main_arg4) = m ((c.tc : Thread Cert.LnInCtxIdeal.nD Cert.LnInCtxIdeal.τ).loc Cert.LnInCtxIdeal.main_arg4)) →
    ∃ (v0 : (c : Dev Cert.LnInCtxIdeal.nD) → Buf (Elt Ideal) ((c.tc : Thread Cert.LnInCtxIdeal.nD Cert.LnInCtxIdeal.τ).loc Cert.LnInCtxIdeal.main_v0_0)) (v1 : (c : Dev Cert.LnInCtxIdeal.nD) → Buf (Elt Ideal) ((c.tc : Thread Cert.LnInCtxIdeal.nD Cert.LnInCtxIdeal.τ).loc Cert.LnInCtxIdeal.main_v0_1)) (v2 : (c : Dev Cert.LnInCtxIdeal.nD) → Buf (Elt Ideal) ((c.tc : Thread Cert.LnInCtxIdeal.nD Cert.LnInCtxIdeal.τ).loc Cert.LnInCtxIdeal.main_v0_2)) (v3 : (c : Dev Cert.LnInCtxIdeal.nD) → Buf (Elt Ideal) ((c.tc : Thread Cert.LnInCtxIdeal.nD Cert.LnInCtxIdeal.τ).loc Cert.LnInCtxIdeal.main_v0_3)),
      θ_run (Cert.LnInCtxIdeal.defs (F := Ideal)) (onTc (τ := Cert.LnInCtxIdeal.τ) (Cert.LnInCtxIdeal.main (F := Ideal))) ⟨m, fun _ => 0, g⟩ (fun r => ∀ c : Dev Cert.LnInCtxIdeal.nD,
          r.2.mem ((c.tc : Thread Cert.LnInCtxIdeal.nD Cert.LnInCtxIdeal.τ).loc Cert.LnInCtxIdeal.main_v0_0) = v0 c
          ∧ r.2.mem ((c.tc : Thread Cert.LnInCtxIdeal.nD Cert.LnInCtxIdeal.τ).loc Cert.LnInCtxIdeal.main_v0_1) = v1 c
          ∧ r.2.mem ((c.tc : Thread Cert.LnInCtxIdeal.nD Cert.LnInCtxIdeal.τ).loc Cert.LnInCtxIdeal.main_v0_2) = v2 c
          ∧ r.2.mem ((c.tc : Thread Cert.LnInCtxIdeal.nD Cert.LnInCtxIdeal.τ).loc Cert.LnInCtxIdeal.main_v0_3) = v3 c
          ∧ r.2.mem ((c.tc : Thread Cert.LnInCtxIdeal.nD Cert.LnInCtxIdeal.τ).loc Cert.LnInCtxIdeal.main_arg0) = m ((c.tc : Thread Cert.LnInCtxIdeal.nD Cert.LnInCtxIdeal.τ).loc Cert.LnInCtxIdeal.main_arg0)
          ∧ r.2.mem ((c.tc : Thread Cert.LnInCtxIdeal.nD Cert.LnInCtxIdeal.τ).loc Cert.LnInCtxIdeal.main_arg1) = m ((c.tc : Thread Cert.LnInCtxIdeal.nD Cert.LnInCtxIdeal.τ).loc Cert.LnInCtxIdeal.main_arg1)
          ∧ r.2.mem ((c.tc : Thread Cert.LnInCtxIdeal.nD Cert.LnInCtxIdeal.τ).loc Cert.LnInCtxIdeal.main_arg2) = m ((c.tc : Thread Cert.LnInCtxIdeal.nD Cert.LnInCtxIdeal.τ).loc Cert.LnInCtxIdeal.main_arg2)
          ∧ r.2.mem ((c.tc : Thread Cert.LnInCtxIdeal.nD Cert.LnInCtxIdeal.τ).loc Cert.LnInCtxIdeal.main_arg3) = m ((c.tc : Thread Cert.LnInCtxIdeal.nD Cert.LnInCtxIdeal.τ).loc Cert.LnInCtxIdeal.main_arg3)
          ∧ r.2.mem ((c.tc : Thread Cert.LnInCtxIdeal.nD Cert.LnInCtxIdeal.τ).loc Cert.LnInCtxIdeal.main_arg4) = m ((c.tc : Thread Cert.LnInCtxIdeal.nD Cert.LnInCtxIdeal.τ).loc Cert.LnInCtxIdeal.main_arg4))
      ∧ θ_run (Cert.LnInCtxRefIdeal.defs (F := Ideal)) (onTc (τ := Cert.LnInCtxRefIdeal.τ) (Cert.LnInCtxRefIdeal.main (F := Ideal))) ⟨m', fun _ => 0, g'⟩ (fun r => ∀ c : Dev Cert.LnInCtxRefIdeal.nD,
          r.2.mem ((c.tc : Thread Cert.LnInCtxRefIdeal.nD Cert.LnInCtxRefIdeal.τ).loc Cert.LnInCtxRefIdeal.main_v34) = v0 c
          ∧ r.2.mem ((c.tc : Thread Cert.LnInCtxRefIdeal.nD Cert.LnInCtxRefIdeal.τ).loc Cert.LnInCtxRefIdeal.main_v31) = v1 c
          ∧ r.2.mem ((c.tc : Thread Cert.LnInCtxRefIdeal.nD Cert.LnInCtxRefIdeal.τ).loc Cert.LnInCtxRefIdeal.main_v41) = v2 c
          ∧ r.2.mem ((c.tc : Thread Cert.LnInCtxRefIdeal.nD Cert.LnInCtxRefIdeal.τ).loc Cert.LnInCtxRefIdeal.main_v38) = v3 c
          ∧ r.2.mem ((c.tc : Thread Cert.LnInCtxRefIdeal.nD Cert.LnInCtxRefIdeal.τ).loc Cert.LnInCtxRefIdeal.main_arg0) = m' ((c.tc : Thread Cert.LnInCtxRefIdeal.nD Cert.LnInCtxRefIdeal.τ).loc Cert.LnInCtxRefIdeal.main_arg0)
          ∧ r.2.mem ((c.tc : Thread Cert.LnInCtxRefIdeal.nD Cert.LnInCtxRefIdeal.τ).loc Cert.LnInCtxRefIdeal.main_arg1) = m' ((c.tc : Thread Cert.LnInCtxRefIdeal.nD Cert.LnInCtxRefIdeal.τ).loc Cert.LnInCtxRefIdeal.main_arg1)
          ∧ r.2.mem ((c.tc : Thread Cert.LnInCtxRefIdeal.nD Cert.LnInCtxRefIdeal.τ).loc Cert.LnInCtxRefIdeal.main_arg2) = m' ((c.tc : Thread Cert.LnInCtxRefIdeal.nD Cert.LnInCtxRefIdeal.τ).loc Cert.LnInCtxRefIdeal.main_arg2)
          ∧ r.2.mem ((c.tc : Thread Cert.LnInCtxRefIdeal.nD Cert.LnInCtxRefIdeal.τ).loc Cert.LnInCtxRefIdeal.main_arg3) = m' ((c.tc : Thread Cert.LnInCtxRefIdeal.nD Cert.LnInCtxRefIdeal.τ).loc Cert.LnInCtxRefIdeal.main_arg3)
          ∧ r.2.mem ((c.tc : Thread Cert.LnInCtxRefIdeal.nD Cert.LnInCtxRefIdeal.τ).loc Cert.LnInCtxRefIdeal.main_arg4) = m' ((c.tc : Thread Cert.LnInCtxRefIdeal.nD Cert.LnInCtxRefIdeal.τ).loc Cert.LnInCtxRefIdeal.main_arg4))

def preserves_Ln1Bwd_Ln1BwdIdeal : Prop :=
  True

def algebraic_Ln1BwdIdeal_Ln1BwdRefIdeal_pre_ln1_finite [hLn1BwdIdeal : Cert.Ln1BwdIdeal.Facts] [hLn1BwdRefIdeal : Cert.Ln1BwdRefIdeal.Facts] [hPre_ln1_finite : Cert.Pre_ln1_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg)
    (m' : (ℓ : Loc Cert.Ln1BwdRefIdeal.nD Cert.Ln1BwdRefIdeal.τ Cert.Ln1BwdRefIdeal.sig) → Buf (Elt Ideal) ℓ) (g' : Dev Cert.Ln1BwdRefIdeal.nD → PrngReg), Pre_Ln1BwdIdeal_ln1_finite m →
    (∀ c : Dev Cert.Ln1BwdIdeal.nD,
      m' ((c.tc : Thread Cert.Ln1BwdRefIdeal.nD Cert.Ln1BwdRefIdeal.τ).loc Cert.Ln1BwdRefIdeal.main_arg0) = m ((c.tc : Thread Cert.Ln1BwdIdeal.nD Cert.Ln1BwdIdeal.τ).loc Cert.Ln1BwdIdeal.main_arg0)
      ∧ m' ((c.tc : Thread Cert.Ln1BwdRefIdeal.nD Cert.Ln1BwdRefIdeal.τ).loc Cert.Ln1BwdRefIdeal.main_arg1) = m ((c.tc : Thread Cert.Ln1BwdIdeal.nD Cert.Ln1BwdIdeal.τ).loc Cert.Ln1BwdIdeal.main_arg1)
      ∧ m' ((c.tc : Thread Cert.Ln1BwdRefIdeal.nD Cert.Ln1BwdRefIdeal.τ).loc Cert.Ln1BwdRefIdeal.main_arg2) = m ((c.tc : Thread Cert.Ln1BwdIdeal.nD Cert.Ln1BwdIdeal.τ).loc Cert.Ln1BwdIdeal.main_arg2)
      ∧ m' ((c.tc : Thread Cert.Ln1BwdRefIdeal.nD Cert.Ln1BwdRefIdeal.τ).loc Cert.Ln1BwdRefIdeal.main_arg3) = m ((c.tc : Thread Cert.Ln1BwdIdeal.nD Cert.Ln1BwdIdeal.τ).loc Cert.Ln1BwdIdeal.main_arg3)
      ∧ m' ((c.tc : Thread Cert.Ln1BwdRefIdeal.nD Cert.Ln1BwdRefIdeal.τ).loc Cert.Ln1BwdRefIdeal.main_arg4) = m ((c.tc : Thread Cert.Ln1BwdIdeal.nD Cert.Ln1BwdIdeal.τ).loc Cert.Ln1BwdIdeal.main_arg4)
      ∧ m' ((c.tc : Thread Cert.Ln1BwdRefIdeal.nD Cert.Ln1BwdRefIdeal.τ).loc Cert.Ln1BwdRefIdeal.main_arg5) = m ((c.tc : Thread Cert.Ln1BwdIdeal.nD Cert.Ln1BwdIdeal.τ).loc Cert.Ln1BwdIdeal.main_arg5)
      ∧ m' ((c.tc : Thread Cert.Ln1BwdRefIdeal.nD Cert.Ln1BwdRefIdeal.τ).loc Cert.Ln1BwdRefIdeal.main_arg6) = m ((c.tc : Thread Cert.Ln1BwdIdeal.nD Cert.Ln1BwdIdeal.τ).loc Cert.Ln1BwdIdeal.main_arg6)
      ∧ m' ((c.tc : Thread Cert.Ln1BwdRefIdeal.nD Cert.Ln1BwdRefIdeal.τ).loc Cert.Ln1BwdRefIdeal.main_arg7) = m ((c.tc : Thread Cert.Ln1BwdIdeal.nD Cert.Ln1BwdIdeal.τ).loc Cert.Ln1BwdIdeal.main_arg7)) →
    ∃ (v0 : (c : Dev Cert.Ln1BwdIdeal.nD) → Buf (Elt Ideal) ((c.tc : Thread Cert.Ln1BwdIdeal.nD Cert.Ln1BwdIdeal.τ).loc Cert.Ln1BwdIdeal.main_v0_0)) (v1 : (c : Dev Cert.Ln1BwdIdeal.nD) → Buf (Elt Ideal) ((c.tc : Thread Cert.Ln1BwdIdeal.nD Cert.Ln1BwdIdeal.τ).loc Cert.Ln1BwdIdeal.main_v0_1)) (v2 : (c : Dev Cert.Ln1BwdIdeal.nD) → Buf (Elt Ideal) ((c.tc : Thread Cert.Ln1BwdIdeal.nD Cert.Ln1BwdIdeal.τ).loc Cert.Ln1BwdIdeal.main_v0_2)) (v3 : (c : Dev Cert.Ln1BwdIdeal.nD) → Buf (Elt Ideal) ((c.tc : Thread Cert.Ln1BwdIdeal.nD Cert.Ln1BwdIdeal.τ).loc Cert.Ln1BwdIdeal.main_v0_3)) (v4 : (c : Dev Cert.Ln1BwdIdeal.nD) → Buf (Elt Ideal) ((c.tc : Thread Cert.Ln1BwdIdeal.nD Cert.Ln1BwdIdeal.τ).loc Cert.Ln1BwdIdeal.main_v0_4)) (v5 : (c : Dev Cert.Ln1BwdIdeal.nD) → Buf (Elt Ideal) ((c.tc : Thread Cert.Ln1BwdIdeal.nD Cert.Ln1BwdIdeal.τ).loc Cert.Ln1BwdIdeal.main_v0_5)) (v6 : (c : Dev Cert.Ln1BwdIdeal.nD) → Buf (Elt Ideal) ((c.tc : Thread Cert.Ln1BwdIdeal.nD Cert.Ln1BwdIdeal.τ).loc Cert.Ln1BwdIdeal.main_v0_6)),
      θ_run (Cert.Ln1BwdIdeal.defs (F := Ideal)) (onTc (τ := Cert.Ln1BwdIdeal.τ) (Cert.Ln1BwdIdeal.main (F := Ideal))) ⟨m, fun _ => 0, g⟩ (fun r => ∀ c : Dev Cert.Ln1BwdIdeal.nD,
          r.2.mem ((c.tc : Thread Cert.Ln1BwdIdeal.nD Cert.Ln1BwdIdeal.τ).loc Cert.Ln1BwdIdeal.main_v0_0) = v0 c
          ∧ r.2.mem ((c.tc : Thread Cert.Ln1BwdIdeal.nD Cert.Ln1BwdIdeal.τ).loc Cert.Ln1BwdIdeal.main_v0_1) = v1 c
          ∧ r.2.mem ((c.tc : Thread Cert.Ln1BwdIdeal.nD Cert.Ln1BwdIdeal.τ).loc Cert.Ln1BwdIdeal.main_v0_2) = v2 c
          ∧ r.2.mem ((c.tc : Thread Cert.Ln1BwdIdeal.nD Cert.Ln1BwdIdeal.τ).loc Cert.Ln1BwdIdeal.main_v0_3) = v3 c
          ∧ r.2.mem ((c.tc : Thread Cert.Ln1BwdIdeal.nD Cert.Ln1BwdIdeal.τ).loc Cert.Ln1BwdIdeal.main_v0_4) = v4 c
          ∧ r.2.mem ((c.tc : Thread Cert.Ln1BwdIdeal.nD Cert.Ln1BwdIdeal.τ).loc Cert.Ln1BwdIdeal.main_v0_5) = v5 c
          ∧ r.2.mem ((c.tc : Thread Cert.Ln1BwdIdeal.nD Cert.Ln1BwdIdeal.τ).loc Cert.Ln1BwdIdeal.main_v0_6) = v6 c
          ∧ r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
          ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
          ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
          ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
          ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
          ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
          ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
          ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7))
      ∧ θ_run (Cert.Ln1BwdRefIdeal.defs (F := Ideal)) (onTc (τ := Cert.Ln1BwdRefIdeal.τ) (Cert.Ln1BwdRefIdeal.main (F := Ideal))) ⟨m', fun _ => 0, g'⟩ (fun r => ∀ c : Dev Cert.Ln1BwdRefIdeal.nD,
          r.2.mem ((c.tc : Thread Cert.Ln1BwdRefIdeal.nD Cert.Ln1BwdRefIdeal.τ).loc Cert.Ln1BwdRefIdeal.main_v82) = v0 c
          ∧ r.2.mem ((c.tc : Thread Cert.Ln1BwdRefIdeal.nD Cert.Ln1BwdRefIdeal.τ).loc Cert.Ln1BwdRefIdeal.main_v88) = v1 c
          ∧ r.2.mem ((c.tc : Thread Cert.Ln1BwdRefIdeal.nD Cert.Ln1BwdRefIdeal.τ).loc Cert.Ln1BwdRefIdeal.main_v46) = v2 c
          ∧ r.2.mem ((c.tc : Thread Cert.Ln1BwdRefIdeal.nD Cert.Ln1BwdRefIdeal.τ).loc Cert.Ln1BwdRefIdeal.main_v43) = v3 c
          ∧ r.2.mem ((c.tc : Thread Cert.Ln1BwdRefIdeal.nD Cert.Ln1BwdRefIdeal.τ).loc Cert.Ln1BwdRefIdeal.main_v56) = v4 c
          ∧ r.2.mem ((c.tc : Thread Cert.Ln1BwdRefIdeal.nD Cert.Ln1BwdRefIdeal.τ).loc Cert.Ln1BwdRefIdeal.main_v53) = v5 c
          ∧ r.2.mem ((c.tc : Thread Cert.Ln1BwdRefIdeal.nD Cert.Ln1BwdRefIdeal.τ).loc Cert.Ln1BwdRefIdeal.main_v87) = v6 c
          ∧ r.2.mem ((c.tc : Thread Cert.Ln1BwdRefIdeal.nD Cert.Ln1BwdRefIdeal.τ).loc Cert.Ln1BwdRefIdeal.main_arg0) = m' ((c.tc : Thread Cert.Ln1BwdRefIdeal.nD Cert.Ln1BwdRefIdeal.τ).loc Cert.Ln1BwdRefIdeal.main_arg0)
          ∧ r.2.mem ((c.tc : Thread Cert.Ln1BwdRefIdeal.nD Cert.Ln1BwdRefIdeal.τ).loc Cert.Ln1BwdRefIdeal.main_arg1) = m' ((c.tc : Thread Cert.Ln1BwdRefIdeal.nD Cert.Ln1BwdRefIdeal.τ).loc Cert.Ln1BwdRefIdeal.main_arg1)
          ∧ r.2.mem ((c.tc : Thread Cert.Ln1BwdRefIdeal.nD Cert.Ln1BwdRefIdeal.τ).loc Cert.Ln1BwdRefIdeal.main_arg2) = m' ((c.tc : Thread Cert.Ln1BwdRefIdeal.nD Cert.Ln1BwdRefIdeal.τ).loc Cert.Ln1BwdRefIdeal.main_arg2)
          ∧ r.2.mem ((c.tc : Thread Cert.Ln1BwdRefIdeal.nD Cert.Ln1BwdRefIdeal.τ).loc Cert.Ln1BwdRefIdeal.main_arg3) = m' ((c.tc : Thread Cert.Ln1BwdRefIdeal.nD Cert.Ln1BwdRefIdeal.τ).loc Cert.Ln1BwdRefIdeal.main_arg3)
          ∧ r.2.mem ((c.tc : Thread Cert.Ln1BwdRefIdeal.nD Cert.Ln1BwdRefIdeal.τ).loc Cert.Ln1BwdRefIdeal.main_arg4) = m' ((c.tc : Thread Cert.Ln1BwdRefIdeal.nD Cert.Ln1BwdRefIdeal.τ).loc Cert.Ln1BwdRefIdeal.main_arg4)
          ∧ r.2.mem ((c.tc : Thread Cert.Ln1BwdRefIdeal.nD Cert.Ln1BwdRefIdeal.τ).loc Cert.Ln1BwdRefIdeal.main_arg5) = m' ((c.tc : Thread Cert.Ln1BwdRefIdeal.nD Cert.Ln1BwdRefIdeal.τ).loc Cert.Ln1BwdRefIdeal.main_arg5)
          ∧ r.2.mem ((c.tc : Thread Cert.Ln1BwdRefIdeal.nD Cert.Ln1BwdRefIdeal.τ).loc Cert.Ln1BwdRefIdeal.main_arg6) = m' ((c.tc : Thread Cert.Ln1BwdRefIdeal.nD Cert.Ln1BwdRefIdeal.τ).loc Cert.Ln1BwdRefIdeal.main_arg6)
          ∧ r.2.mem ((c.tc : Thread Cert.Ln1BwdRefIdeal.nD Cert.Ln1BwdRefIdeal.τ).loc Cert.Ln1BwdRefIdeal.main_arg7) = m' ((c.tc : Thread Cert.Ln1BwdRefIdeal.nD Cert.Ln1BwdRefIdeal.τ).loc Cert.Ln1BwdRefIdeal.main_arg7))

def preserves_B1Grad_B1GradIdeal : Prop :=
  True

def algebraic_B1GradIdeal_B1GradRefIdeal [hB1GradIdeal : Cert.B1GradIdeal.Facts] [hB1GradRefIdeal : Cert.B1GradRefIdeal.Facts] : Prop :=
  ∀ (m : (ℓ : Loc Cert.B1GradIdeal.nD Cert.B1GradIdeal.τ Cert.B1GradIdeal.sig) → Buf (Elt Ideal) ℓ) (g : Dev Cert.B1GradIdeal.nD → PrngReg)
    (m' : (ℓ : Loc Cert.B1GradRefIdeal.nD Cert.B1GradRefIdeal.τ Cert.B1GradRefIdeal.sig) → Buf (Elt Ideal) ℓ) (g' : Dev Cert.B1GradRefIdeal.nD → PrngReg), Pre_B1GradIdeal m →
    (∀ c : Dev Cert.B1GradIdeal.nD,
      m' ((c.tc : Thread Cert.B1GradRefIdeal.nD Cert.B1GradRefIdeal.τ).loc Cert.B1GradRefIdeal.main_arg0) = m ((c.tc : Thread Cert.B1GradIdeal.nD Cert.B1GradIdeal.τ).loc Cert.B1GradIdeal.main_arg0)) →
    ∃ (v0 : (c : Dev Cert.B1GradIdeal.nD) → Buf (Elt Ideal) ((c.tc : Thread Cert.B1GradIdeal.nD Cert.B1GradIdeal.τ).loc Cert.B1GradIdeal.main_v0)),
      θ_run (Cert.B1GradIdeal.defs (F := Ideal)) (onTc (τ := Cert.B1GradIdeal.τ) (Cert.B1GradIdeal.main (F := Ideal))) ⟨m, fun _ => 0, g⟩ (fun r => ∀ c : Dev Cert.B1GradIdeal.nD,
          r.2.mem ((c.tc : Thread Cert.B1GradIdeal.nD Cert.B1GradIdeal.τ).loc Cert.B1GradIdeal.main_v0) = v0 c
          ∧ r.2.mem ((c.tc : Thread Cert.B1GradIdeal.nD Cert.B1GradIdeal.τ).loc Cert.B1GradIdeal.main_arg0) = m ((c.tc : Thread Cert.B1GradIdeal.nD Cert.B1GradIdeal.τ).loc Cert.B1GradIdeal.main_arg0))
      ∧ θ_run (Cert.B1GradRefIdeal.defs (F := Ideal)) (onTc (τ := Cert.B1GradRefIdeal.τ) (Cert.B1GradRefIdeal.main (F := Ideal))) ⟨m', fun _ => 0, g'⟩ (fun r => ∀ c : Dev Cert.B1GradRefIdeal.nD,
          r.2.mem ((c.tc : Thread Cert.B1GradRefIdeal.nD Cert.B1GradRefIdeal.τ).loc Cert.B1GradRefIdeal.main_v6) = v0 c
          ∧ r.2.mem ((c.tc : Thread Cert.B1GradRefIdeal.nD Cert.B1GradRefIdeal.τ).loc Cert.B1GradRefIdeal.main_arg0) = m' ((c.tc : Thread Cert.B1GradRefIdeal.nD Cert.B1GradRefIdeal.τ).loc Cert.B1GradRefIdeal.main_arg0))

def preserves_BmodGrad_BmodGradIdeal : Prop :=
  True

def algebraic_BmodGradIdeal_BmodGradRefIdeal [hBmodGradIdeal : Cert.BmodGradIdeal.Facts] [hBmodGradRefIdeal : Cert.BmodGradRefIdeal.Facts] : Prop :=
  ∀ (m : (ℓ : Loc Cert.BmodGradIdeal.nD Cert.BmodGradIdeal.τ Cert.BmodGradIdeal.sig) → Buf (Elt Ideal) ℓ) (g : Dev Cert.BmodGradIdeal.nD → PrngReg)
    (m' : (ℓ : Loc Cert.BmodGradRefIdeal.nD Cert.BmodGradRefIdeal.τ Cert.BmodGradRefIdeal.sig) → Buf (Elt Ideal) ℓ) (g' : Dev Cert.BmodGradRefIdeal.nD → PrngReg), Pre_BmodGradIdeal m →
    (∀ c : Dev Cert.BmodGradIdeal.nD,
      m' ((c.tc : Thread Cert.BmodGradRefIdeal.nD Cert.BmodGradRefIdeal.τ).loc Cert.BmodGradRefIdeal.main_arg0) = m ((c.tc : Thread Cert.BmodGradIdeal.nD Cert.BmodGradIdeal.τ).loc Cert.BmodGradIdeal.main_arg0)) →
    ∃ (v0 : (c : Dev Cert.BmodGradIdeal.nD) → Buf (Elt Ideal) ((c.tc : Thread Cert.BmodGradIdeal.nD Cert.BmodGradIdeal.τ).loc Cert.BmodGradIdeal.main_v0)),
      θ_run (Cert.BmodGradIdeal.defs (F := Ideal)) (onTc (τ := Cert.BmodGradIdeal.τ) (Cert.BmodGradIdeal.main (F := Ideal))) ⟨m, fun _ => 0, g⟩ (fun r => ∀ c : Dev Cert.BmodGradIdeal.nD,
          r.2.mem ((c.tc : Thread Cert.BmodGradIdeal.nD Cert.BmodGradIdeal.τ).loc Cert.BmodGradIdeal.main_v0) = v0 c
          ∧ r.2.mem ((c.tc : Thread Cert.BmodGradIdeal.nD Cert.BmodGradIdeal.τ).loc Cert.BmodGradIdeal.main_arg0) = m ((c.tc : Thread Cert.BmodGradIdeal.nD Cert.BmodGradIdeal.τ).loc Cert.BmodGradIdeal.main_arg0))
      ∧ θ_run (Cert.BmodGradRefIdeal.defs (F := Ideal)) (onTc (τ := Cert.BmodGradRefIdeal.τ) (Cert.BmodGradRefIdeal.main (F := Ideal))) ⟨m', fun _ => 0, g'⟩ (fun r => ∀ c : Dev Cert.BmodGradRefIdeal.nD,
          r.2.mem ((c.tc : Thread Cert.BmodGradRefIdeal.nD Cert.BmodGradRefIdeal.τ).loc Cert.BmodGradRefIdeal.main_v5) = v0 c
          ∧ r.2.mem ((c.tc : Thread Cert.BmodGradRefIdeal.nD Cert.BmodGradRefIdeal.τ).loc Cert.BmodGradRefIdeal.main_arg0) = m' ((c.tc : Thread Cert.BmodGradRefIdeal.nD Cert.BmodGradRefIdeal.τ).loc Cert.BmodGradRefIdeal.main_arg0))

def preserves_CctxGrad_CctxGradIdeal : Prop :=
  True

def algebraic_CctxGradIdeal_CctxGradRefIdeal_pre_cctx_finite [hCctxGradIdeal : Cert.CctxGradIdeal.Facts] [hCctxGradRefIdeal : Cert.CctxGradRefIdeal.Facts] [hPre_cctx_finite : Cert.Pre_cctx_finite.Facts] : Prop :=
  ∀ (m : (ℓ : Loc Cert.CctxGradIdeal.nD Cert.CctxGradIdeal.τ Cert.CctxGradIdeal.sig) → Buf (Elt Ideal) ℓ) (g : Dev Cert.CctxGradIdeal.nD → PrngReg)
    (m' : (ℓ : Loc Cert.CctxGradRefIdeal.nD Cert.CctxGradRefIdeal.τ Cert.CctxGradRefIdeal.sig) → Buf (Elt Ideal) ℓ) (g' : Dev Cert.CctxGradRefIdeal.nD → PrngReg), Pre_CctxGradIdeal_cctx_finite m →
    (∀ c : Dev Cert.CctxGradIdeal.nD,
      m' ((c.tc : Thread Cert.CctxGradRefIdeal.nD Cert.CctxGradRefIdeal.τ).loc Cert.CctxGradRefIdeal.main_arg0) = m ((c.tc : Thread Cert.CctxGradIdeal.nD Cert.CctxGradIdeal.τ).loc Cert.CctxGradIdeal.main_arg0)
      ∧ m' ((c.tc : Thread Cert.CctxGradRefIdeal.nD Cert.CctxGradRefIdeal.τ).loc Cert.CctxGradRefIdeal.main_arg1) = m ((c.tc : Thread Cert.CctxGradIdeal.nD Cert.CctxGradIdeal.τ).loc Cert.CctxGradIdeal.main_arg1)) →
    ∃ (v0 : (c : Dev Cert.CctxGradIdeal.nD) → Buf (Elt Ideal) ((c.tc : Thread Cert.CctxGradIdeal.nD Cert.CctxGradIdeal.τ).loc Cert.CctxGradIdeal.main_v0)),
      θ_run (Cert.CctxGradIdeal.defs (F := Ideal)) (onTc (τ := Cert.CctxGradIdeal.τ) (Cert.CctxGradIdeal.main (F := Ideal))) ⟨m, fun _ => 0, g⟩ (fun r => ∀ c : Dev Cert.CctxGradIdeal.nD,
          r.2.mem ((c.tc : Thread Cert.CctxGradIdeal.nD Cert.CctxGradIdeal.τ).loc Cert.CctxGradIdeal.main_v0) = v0 c
          ∧ r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
          ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ θ_run (Cert.CctxGradRefIdeal.defs (F := Ideal)) (onTc (τ := Cert.CctxGradRefIdeal.τ) (Cert.CctxGradRefIdeal.main (F := Ideal))) ⟨m', fun _ => 0, g'⟩ (fun r => ∀ c : Dev Cert.CctxGradRefIdeal.nD,
          r.2.mem ((c.tc : Thread Cert.CctxGradRefIdeal.nD Cert.CctxGradRefIdeal.τ).loc Cert.CctxGradRefIdeal.main_v1) = v0 c
          ∧ r.2.mem ((c.tc : Thread Cert.CctxGradRefIdeal.nD Cert.CctxGradRefIdeal.τ).loc Cert.CctxGradRefIdeal.main_arg0) = m' ((c.tc : Thread Cert.CctxGradRefIdeal.nD Cert.CctxGradRefIdeal.τ).loc Cert.CctxGradRefIdeal.main_arg0)
          ∧ r.2.mem ((c.tc : Thread Cert.CctxGradRefIdeal.nD Cert.CctxGradRefIdeal.τ).loc Cert.CctxGradRefIdeal.main_arg1) = m' ((c.tc : Thread Cert.CctxGradRefIdeal.nD Cert.CctxGradRefIdeal.τ).loc Cert.CctxGradRefIdeal.main_arg1))

def preserves_LnLatFwd_LnLatFwdIdeal : Prop :=
  True

def algebraic_LnLatFwdIdeal_LnLatFwdRefIdeal [hLnLatFwdIdeal : Cert.LnLatFwdIdeal.Facts] [hLnLatFwdRefIdeal : Cert.LnLatFwdRefIdeal.Facts] : Prop :=
  ∀ (m : (ℓ : Loc Cert.LnLatFwdIdeal.nD Cert.LnLatFwdIdeal.τ Cert.LnLatFwdIdeal.sig) → Buf (Elt Ideal) ℓ) (g : Dev Cert.LnLatFwdIdeal.nD → PrngReg)
    (m' : (ℓ : Loc Cert.LnLatFwdRefIdeal.nD Cert.LnLatFwdRefIdeal.τ Cert.LnLatFwdRefIdeal.sig) → Buf (Elt Ideal) ℓ) (g' : Dev Cert.LnLatFwdRefIdeal.nD → PrngReg), Pre_LnLatFwdIdeal m →
    (∀ c : Dev Cert.LnLatFwdIdeal.nD,
      m' ((c.tc : Thread Cert.LnLatFwdRefIdeal.nD Cert.LnLatFwdRefIdeal.τ).loc Cert.LnLatFwdRefIdeal.main_arg0) = m ((c.tc : Thread Cert.LnLatFwdIdeal.nD Cert.LnLatFwdIdeal.τ).loc Cert.LnLatFwdIdeal.main_arg0)
      ∧ m' ((c.tc : Thread Cert.LnLatFwdRefIdeal.nD Cert.LnLatFwdRefIdeal.τ).loc Cert.LnLatFwdRefIdeal.main_arg1) = m ((c.tc : Thread Cert.LnLatFwdIdeal.nD Cert.LnLatFwdIdeal.τ).loc Cert.LnLatFwdIdeal.main_arg1)
      ∧ m' ((c.tc : Thread Cert.LnLatFwdRefIdeal.nD Cert.LnLatFwdRefIdeal.τ).loc Cert.LnLatFwdRefIdeal.main_arg2) = m ((c.tc : Thread Cert.LnLatFwdIdeal.nD Cert.LnLatFwdIdeal.τ).loc Cert.LnLatFwdIdeal.main_arg2)
      ∧ m' ((c.tc : Thread Cert.LnLatFwdRefIdeal.nD Cert.LnLatFwdRefIdeal.τ).loc Cert.LnLatFwdRefIdeal.main_arg3) = m ((c.tc : Thread Cert.LnLatFwdIdeal.nD Cert.LnLatFwdIdeal.τ).loc Cert.LnLatFwdIdeal.main_arg3)
      ∧ m' ((c.tc : Thread Cert.LnLatFwdRefIdeal.nD Cert.LnLatFwdRefIdeal.τ).loc Cert.LnLatFwdRefIdeal.main_arg4) = m ((c.tc : Thread Cert.LnLatFwdIdeal.nD Cert.LnLatFwdIdeal.τ).loc Cert.LnLatFwdIdeal.main_arg4)) →
    ∃ (v0 : (c : Dev Cert.LnLatFwdIdeal.nD) → Buf (Elt Ideal) ((c.tc : Thread Cert.LnLatFwdIdeal.nD Cert.LnLatFwdIdeal.τ).loc Cert.LnLatFwdIdeal.main_v0_0)) (v1 : (c : Dev Cert.LnLatFwdIdeal.nD) → Buf (Elt Ideal) ((c.tc : Thread Cert.LnLatFwdIdeal.nD Cert.LnLatFwdIdeal.τ).loc Cert.LnLatFwdIdeal.main_v0_1)),
      θ_run (Cert.LnLatFwdIdeal.defs (F := Ideal)) (onTc (τ := Cert.LnLatFwdIdeal.τ) (Cert.LnLatFwdIdeal.main (F := Ideal))) ⟨m, fun _ => 0, g⟩ (fun r => ∀ c : Dev Cert.LnLatFwdIdeal.nD,
          r.2.mem ((c.tc : Thread Cert.LnLatFwdIdeal.nD Cert.LnLatFwdIdeal.τ).loc Cert.LnLatFwdIdeal.main_v0_0) = v0 c
          ∧ r.2.mem ((c.tc : Thread Cert.LnLatFwdIdeal.nD Cert.LnLatFwdIdeal.τ).loc Cert.LnLatFwdIdeal.main_v0_1) = v1 c
          ∧ r.2.mem ((c.tc : Thread Cert.LnLatFwdIdeal.nD Cert.LnLatFwdIdeal.τ).loc Cert.LnLatFwdIdeal.main_arg0) = m ((c.tc : Thread Cert.LnLatFwdIdeal.nD Cert.LnLatFwdIdeal.τ).loc Cert.LnLatFwdIdeal.main_arg0)
          ∧ r.2.mem ((c.tc : Thread Cert.LnLatFwdIdeal.nD Cert.LnLatFwdIdeal.τ).loc Cert.LnLatFwdIdeal.main_arg1) = m ((c.tc : Thread Cert.LnLatFwdIdeal.nD Cert.LnLatFwdIdeal.τ).loc Cert.LnLatFwdIdeal.main_arg1)
          ∧ r.2.mem ((c.tc : Thread Cert.LnLatFwdIdeal.nD Cert.LnLatFwdIdeal.τ).loc Cert.LnLatFwdIdeal.main_arg2) = m ((c.tc : Thread Cert.LnLatFwdIdeal.nD Cert.LnLatFwdIdeal.τ).loc Cert.LnLatFwdIdeal.main_arg2)
          ∧ r.2.mem ((c.tc : Thread Cert.LnLatFwdIdeal.nD Cert.LnLatFwdIdeal.τ).loc Cert.LnLatFwdIdeal.main_arg3) = m ((c.tc : Thread Cert.LnLatFwdIdeal.nD Cert.LnLatFwdIdeal.τ).loc Cert.LnLatFwdIdeal.main_arg3)
          ∧ r.2.mem ((c.tc : Thread Cert.LnLatFwdIdeal.nD Cert.LnLatFwdIdeal.τ).loc Cert.LnLatFwdIdeal.main_arg4) = m ((c.tc : Thread Cert.LnLatFwdIdeal.nD Cert.LnLatFwdIdeal.τ).loc Cert.LnLatFwdIdeal.main_arg4))
      ∧ θ_run (Cert.LnLatFwdRefIdeal.defs (F := Ideal)) (onTc (τ := Cert.LnLatFwdRefIdeal.τ) (Cert.LnLatFwdRefIdeal.main (F := Ideal))) ⟨m', fun _ => 0, g'⟩ (fun r => ∀ c : Dev Cert.LnLatFwdRefIdeal.nD,
          r.2.mem ((c.tc : Thread Cert.LnLatFwdRefIdeal.nD Cert.LnLatFwdRefIdeal.τ).loc Cert.LnLatFwdRefIdeal.main_v21) = v0 c
          ∧ r.2.mem ((c.tc : Thread Cert.LnLatFwdRefIdeal.nD Cert.LnLatFwdRefIdeal.τ).loc Cert.LnLatFwdRefIdeal.main_v28) = v1 c
          ∧ r.2.mem ((c.tc : Thread Cert.LnLatFwdRefIdeal.nD Cert.LnLatFwdRefIdeal.τ).loc Cert.LnLatFwdRefIdeal.main_arg0) = m' ((c.tc : Thread Cert.LnLatFwdRefIdeal.nD Cert.LnLatFwdRefIdeal.τ).loc Cert.LnLatFwdRefIdeal.main_arg0)
          ∧ r.2.mem ((c.tc : Thread Cert.LnLatFwdRefIdeal.nD Cert.LnLatFwdRefIdeal.τ).loc Cert.LnLatFwdRefIdeal.main_arg1) = m' ((c.tc : Thread Cert.LnLatFwdRefIdeal.nD Cert.LnLatFwdRefIdeal.τ).loc Cert.LnLatFwdRefIdeal.main_arg1)
          ∧ r.2.mem ((c.tc : Thread Cert.LnLatFwdRefIdeal.nD Cert.LnLatFwdRefIdeal.τ).loc Cert.LnLatFwdRefIdeal.main_arg2) = m' ((c.tc : Thread Cert.LnLatFwdRefIdeal.nD Cert.LnLatFwdRefIdeal.τ).loc Cert.LnLatFwdRefIdeal.main_arg2)
          ∧ r.2.mem ((c.tc : Thread Cert.LnLatFwdRefIdeal.nD Cert.LnLatFwdRefIdeal.τ).loc Cert.LnLatFwdRefIdeal.main_arg3) = m' ((c.tc : Thread Cert.LnLatFwdRefIdeal.nD Cert.LnLatFwdRefIdeal.τ).loc Cert.LnLatFwdRefIdeal.main_arg3)
          ∧ r.2.mem ((c.tc : Thread Cert.LnLatFwdRefIdeal.nD Cert.LnLatFwdRefIdeal.τ).loc Cert.LnLatFwdRefIdeal.main_arg4) = m' ((c.tc : Thread Cert.LnLatFwdRefIdeal.nD Cert.LnLatFwdRefIdeal.τ).loc Cert.LnLatFwdRefIdeal.main_arg4))

def preserves_LnCtxFwd_LnCtxFwdIdeal : Prop :=
  True

def algebraic_LnCtxFwdIdeal_LnCtxFwdRefIdeal [hLnCtxFwdIdeal : Cert.LnCtxFwdIdeal.Facts] [hLnCtxFwdRefIdeal : Cert.LnCtxFwdRefIdeal.Facts] : Prop :=
  ∀ (m : (ℓ : Loc Cert.LnCtxFwdIdeal.nD Cert.LnCtxFwdIdeal.τ Cert.LnCtxFwdIdeal.sig) → Buf (Elt Ideal) ℓ) (g : Dev Cert.LnCtxFwdIdeal.nD → PrngReg)
    (m' : (ℓ : Loc Cert.LnCtxFwdRefIdeal.nD Cert.LnCtxFwdRefIdeal.τ Cert.LnCtxFwdRefIdeal.sig) → Buf (Elt Ideal) ℓ) (g' : Dev Cert.LnCtxFwdRefIdeal.nD → PrngReg), Pre_LnCtxFwdIdeal m →
    (∀ c : Dev Cert.LnCtxFwdIdeal.nD,
      m' ((c.tc : Thread Cert.LnCtxFwdRefIdeal.nD Cert.LnCtxFwdRefIdeal.τ).loc Cert.LnCtxFwdRefIdeal.main_arg0) = m ((c.tc : Thread Cert.LnCtxFwdIdeal.nD Cert.LnCtxFwdIdeal.τ).loc Cert.LnCtxFwdIdeal.main_arg0)
      ∧ m' ((c.tc : Thread Cert.LnCtxFwdRefIdeal.nD Cert.LnCtxFwdRefIdeal.τ).loc Cert.LnCtxFwdRefIdeal.main_arg1) = m ((c.tc : Thread Cert.LnCtxFwdIdeal.nD Cert.LnCtxFwdIdeal.τ).loc Cert.LnCtxFwdIdeal.main_arg1)
      ∧ m' ((c.tc : Thread Cert.LnCtxFwdRefIdeal.nD Cert.LnCtxFwdRefIdeal.τ).loc Cert.LnCtxFwdRefIdeal.main_arg2) = m ((c.tc : Thread Cert.LnCtxFwdIdeal.nD Cert.LnCtxFwdIdeal.τ).loc Cert.LnCtxFwdIdeal.main_arg2)
      ∧ m' ((c.tc : Thread Cert.LnCtxFwdRefIdeal.nD Cert.LnCtxFwdRefIdeal.τ).loc Cert.LnCtxFwdRefIdeal.main_arg3) = m ((c.tc : Thread Cert.LnCtxFwdIdeal.nD Cert.LnCtxFwdIdeal.τ).loc Cert.LnCtxFwdIdeal.main_arg3)
      ∧ m' ((c.tc : Thread Cert.LnCtxFwdRefIdeal.nD Cert.LnCtxFwdRefIdeal.τ).loc Cert.LnCtxFwdRefIdeal.main_arg4) = m ((c.tc : Thread Cert.LnCtxFwdIdeal.nD Cert.LnCtxFwdIdeal.τ).loc Cert.LnCtxFwdIdeal.main_arg4)) →
    ∃ (v0 : (c : Dev Cert.LnCtxFwdIdeal.nD) → Buf (Elt Ideal) ((c.tc : Thread Cert.LnCtxFwdIdeal.nD Cert.LnCtxFwdIdeal.τ).loc Cert.LnCtxFwdIdeal.main_v0_0)) (v1 : (c : Dev Cert.LnCtxFwdIdeal.nD) → Buf (Elt Ideal) ((c.tc : Thread Cert.LnCtxFwdIdeal.nD Cert.LnCtxFwdIdeal.τ).loc Cert.LnCtxFwdIdeal.main_v0_1)),
      θ_run (Cert.LnCtxFwdIdeal.defs (F := Ideal)) (onTc (τ := Cert.LnCtxFwdIdeal.τ) (Cert.LnCtxFwdIdeal.main (F := Ideal))) ⟨m, fun _ => 0, g⟩ (fun r => ∀ c : Dev Cert.LnCtxFwdIdeal.nD,
          r.2.mem ((c.tc : Thread Cert.LnCtxFwdIdeal.nD Cert.LnCtxFwdIdeal.τ).loc Cert.LnCtxFwdIdeal.main_v0_0) = v0 c
          ∧ r.2.mem ((c.tc : Thread Cert.LnCtxFwdIdeal.nD Cert.LnCtxFwdIdeal.τ).loc Cert.LnCtxFwdIdeal.main_v0_1) = v1 c
          ∧ r.2.mem ((c.tc : Thread Cert.LnCtxFwdIdeal.nD Cert.LnCtxFwdIdeal.τ).loc Cert.LnCtxFwdIdeal.main_arg0) = m ((c.tc : Thread Cert.LnCtxFwdIdeal.nD Cert.LnCtxFwdIdeal.τ).loc Cert.LnCtxFwdIdeal.main_arg0)
          ∧ r.2.mem ((c.tc : Thread Cert.LnCtxFwdIdeal.nD Cert.LnCtxFwdIdeal.τ).loc Cert.LnCtxFwdIdeal.main_arg1) = m ((c.tc : Thread Cert.LnCtxFwdIdeal.nD Cert.LnCtxFwdIdeal.τ).loc Cert.LnCtxFwdIdeal.main_arg1)
          ∧ r.2.mem ((c.tc : Thread Cert.LnCtxFwdIdeal.nD Cert.LnCtxFwdIdeal.τ).loc Cert.LnCtxFwdIdeal.main_arg2) = m ((c.tc : Thread Cert.LnCtxFwdIdeal.nD Cert.LnCtxFwdIdeal.τ).loc Cert.LnCtxFwdIdeal.main_arg2)
          ∧ r.2.mem ((c.tc : Thread Cert.LnCtxFwdIdeal.nD Cert.LnCtxFwdIdeal.τ).loc Cert.LnCtxFwdIdeal.main_arg3) = m ((c.tc : Thread Cert.LnCtxFwdIdeal.nD Cert.LnCtxFwdIdeal.τ).loc Cert.LnCtxFwdIdeal.main_arg3)
          ∧ r.2.mem ((c.tc : Thread Cert.LnCtxFwdIdeal.nD Cert.LnCtxFwdIdeal.τ).loc Cert.LnCtxFwdIdeal.main_arg4) = m ((c.tc : Thread Cert.LnCtxFwdIdeal.nD Cert.LnCtxFwdIdeal.τ).loc Cert.LnCtxFwdIdeal.main_arg4))
      ∧ θ_run (Cert.LnCtxFwdRefIdeal.defs (F := Ideal)) (onTc (τ := Cert.LnCtxFwdRefIdeal.τ) (Cert.LnCtxFwdRefIdeal.main (F := Ideal))) ⟨m', fun _ => 0, g'⟩ (fun r => ∀ c : Dev Cert.LnCtxFwdRefIdeal.nD,
          r.2.mem ((c.tc : Thread Cert.LnCtxFwdRefIdeal.nD Cert.LnCtxFwdRefIdeal.τ).loc Cert.LnCtxFwdRefIdeal.main_v21) = v0 c
          ∧ r.2.mem ((c.tc : Thread Cert.LnCtxFwdRefIdeal.nD Cert.LnCtxFwdRefIdeal.τ).loc Cert.LnCtxFwdRefIdeal.main_v28) = v1 c
          ∧ r.2.mem ((c.tc : Thread Cert.LnCtxFwdRefIdeal.nD Cert.LnCtxFwdRefIdeal.τ).loc Cert.LnCtxFwdRefIdeal.main_arg0) = m' ((c.tc : Thread Cert.LnCtxFwdRefIdeal.nD Cert.LnCtxFwdRefIdeal.τ).loc Cert.LnCtxFwdRefIdeal.main_arg0)
          ∧ r.2.mem ((c.tc : Thread Cert.LnCtxFwdRefIdeal.nD Cert.LnCtxFwdRefIdeal.τ).loc Cert.LnCtxFwdRefIdeal.main_arg1) = m' ((c.tc : Thread Cert.LnCtxFwdRefIdeal.nD Cert.LnCtxFwdRefIdeal.τ).loc Cert.LnCtxFwdRefIdeal.main_arg1)
          ∧ r.2.mem ((c.tc : Thread Cert.LnCtxFwdRefIdeal.nD Cert.LnCtxFwdRefIdeal.τ).loc Cert.LnCtxFwdRefIdeal.main_arg2) = m' ((c.tc : Thread Cert.LnCtxFwdRefIdeal.nD Cert.LnCtxFwdRefIdeal.τ).loc Cert.LnCtxFwdRefIdeal.main_arg2)
          ∧ r.2.mem ((c.tc : Thread Cert.LnCtxFwdRefIdeal.nD Cert.LnCtxFwdRefIdeal.τ).loc Cert.LnCtxFwdRefIdeal.main_arg3) = m' ((c.tc : Thread Cert.LnCtxFwdRefIdeal.nD Cert.LnCtxFwdRefIdeal.τ).loc Cert.LnCtxFwdRefIdeal.main_arg3)
          ∧ r.2.mem ((c.tc : Thread Cert.LnCtxFwdRefIdeal.nD Cert.LnCtxFwdRefIdeal.τ).loc Cert.LnCtxFwdRefIdeal.main_arg4) = m' ((c.tc : Thread Cert.LnCtxFwdRefIdeal.nD Cert.LnCtxFwdRefIdeal.τ).loc Cert.LnCtxFwdRefIdeal.main_arg4))

def preserves_Ln1Fwd_Ln1FwdIdeal : Prop :=
  True

def algebraic_Ln1FwdIdeal_Ln1FwdRefIdeal [hLn1FwdIdeal : Cert.Ln1FwdIdeal.Facts] [hLn1FwdRefIdeal : Cert.Ln1FwdRefIdeal.Facts] : Prop :=
  ∀ (m : (ℓ : Loc Cert.Ln1FwdIdeal.nD Cert.Ln1FwdIdeal.τ Cert.Ln1FwdIdeal.sig) → Buf (Elt Ideal) ℓ) (g : Dev Cert.Ln1FwdIdeal.nD → PrngReg)
    (m' : (ℓ : Loc Cert.Ln1FwdRefIdeal.nD Cert.Ln1FwdRefIdeal.τ Cert.Ln1FwdRefIdeal.sig) → Buf (Elt Ideal) ℓ) (g' : Dev Cert.Ln1FwdRefIdeal.nD → PrngReg), Pre_Ln1FwdIdeal m →
    (∀ c : Dev Cert.Ln1FwdIdeal.nD,
      m' ((c.tc : Thread Cert.Ln1FwdRefIdeal.nD Cert.Ln1FwdRefIdeal.τ).loc Cert.Ln1FwdRefIdeal.main_arg0) = m ((c.tc : Thread Cert.Ln1FwdIdeal.nD Cert.Ln1FwdIdeal.τ).loc Cert.Ln1FwdIdeal.main_arg0)
      ∧ m' ((c.tc : Thread Cert.Ln1FwdRefIdeal.nD Cert.Ln1FwdRefIdeal.τ).loc Cert.Ln1FwdRefIdeal.main_arg1) = m ((c.tc : Thread Cert.Ln1FwdIdeal.nD Cert.Ln1FwdIdeal.τ).loc Cert.Ln1FwdIdeal.main_arg1)
      ∧ m' ((c.tc : Thread Cert.Ln1FwdRefIdeal.nD Cert.Ln1FwdRefIdeal.τ).loc Cert.Ln1FwdRefIdeal.main_arg2) = m ((c.tc : Thread Cert.Ln1FwdIdeal.nD Cert.Ln1FwdIdeal.τ).loc Cert.Ln1FwdIdeal.main_arg2)
      ∧ m' ((c.tc : Thread Cert.Ln1FwdRefIdeal.nD Cert.Ln1FwdRefIdeal.τ).loc Cert.Ln1FwdRefIdeal.main_arg3) = m ((c.tc : Thread Cert.Ln1FwdIdeal.nD Cert.Ln1FwdIdeal.τ).loc Cert.Ln1FwdIdeal.main_arg3)
      ∧ m' ((c.tc : Thread Cert.Ln1FwdRefIdeal.nD Cert.Ln1FwdRefIdeal.τ).loc Cert.Ln1FwdRefIdeal.main_arg4) = m ((c.tc : Thread Cert.Ln1FwdIdeal.nD Cert.Ln1FwdIdeal.τ).loc Cert.Ln1FwdIdeal.main_arg4)
      ∧ m' ((c.tc : Thread Cert.Ln1FwdRefIdeal.nD Cert.Ln1FwdRefIdeal.τ).loc Cert.Ln1FwdRefIdeal.main_arg5) = m ((c.tc : Thread Cert.Ln1FwdIdeal.nD Cert.Ln1FwdIdeal.τ).loc Cert.Ln1FwdIdeal.main_arg5)
      ∧ m' ((c.tc : Thread Cert.Ln1FwdRefIdeal.nD Cert.Ln1FwdRefIdeal.τ).loc Cert.Ln1FwdRefIdeal.main_arg6) = m ((c.tc : Thread Cert.Ln1FwdIdeal.nD Cert.Ln1FwdIdeal.τ).loc Cert.Ln1FwdIdeal.main_arg6)) →
    ∃ (v0 : (c : Dev Cert.Ln1FwdIdeal.nD) → Buf (Elt Ideal) ((c.tc : Thread Cert.Ln1FwdIdeal.nD Cert.Ln1FwdIdeal.τ).loc Cert.Ln1FwdIdeal.main_v0_0)) (v1 : (c : Dev Cert.Ln1FwdIdeal.nD) → Buf (Elt Ideal) ((c.tc : Thread Cert.Ln1FwdIdeal.nD Cert.Ln1FwdIdeal.τ).loc Cert.Ln1FwdIdeal.main_v0_1)),
      θ_run (Cert.Ln1FwdIdeal.defs (F := Ideal)) (onTc (τ := Cert.Ln1FwdIdeal.τ) (Cert.Ln1FwdIdeal.main (F := Ideal))) ⟨m, fun _ => 0, g⟩ (fun r => ∀ c : Dev Cert.Ln1FwdIdeal.nD,
          r.2.mem ((c.tc : Thread Cert.Ln1FwdIdeal.nD Cert.Ln1FwdIdeal.τ).loc Cert.Ln1FwdIdeal.main_v0_0) = v0 c
          ∧ r.2.mem ((c.tc : Thread Cert.Ln1FwdIdeal.nD Cert.Ln1FwdIdeal.τ).loc Cert.Ln1FwdIdeal.main_v0_1) = v1 c
          ∧ r.2.mem ((c.tc : Thread Cert.Ln1FwdIdeal.nD Cert.Ln1FwdIdeal.τ).loc Cert.Ln1FwdIdeal.main_arg0) = m ((c.tc : Thread Cert.Ln1FwdIdeal.nD Cert.Ln1FwdIdeal.τ).loc Cert.Ln1FwdIdeal.main_arg0)
          ∧ r.2.mem ((c.tc : Thread Cert.Ln1FwdIdeal.nD Cert.Ln1FwdIdeal.τ).loc Cert.Ln1FwdIdeal.main_arg1) = m ((c.tc : Thread Cert.Ln1FwdIdeal.nD Cert.Ln1FwdIdeal.τ).loc Cert.Ln1FwdIdeal.main_arg1)
          ∧ r.2.mem ((c.tc : Thread Cert.Ln1FwdIdeal.nD Cert.Ln1FwdIdeal.τ).loc Cert.Ln1FwdIdeal.main_arg2) = m ((c.tc : Thread Cert.Ln1FwdIdeal.nD Cert.Ln1FwdIdeal.τ).loc Cert.Ln1FwdIdeal.main_arg2)
          ∧ r.2.mem ((c.tc : Thread Cert.Ln1FwdIdeal.nD Cert.Ln1FwdIdeal.τ).loc Cert.Ln1FwdIdeal.main_arg3) = m ((c.tc : Thread Cert.Ln1FwdIdeal.nD Cert.Ln1FwdIdeal.τ).loc Cert.Ln1FwdIdeal.main_arg3)
          ∧ r.2.mem ((c.tc : Thread Cert.Ln1FwdIdeal.nD Cert.Ln1FwdIdeal.τ).loc Cert.Ln1FwdIdeal.main_arg4) = m ((c.tc : Thread Cert.Ln1FwdIdeal.nD Cert.Ln1FwdIdeal.τ).loc Cert.Ln1FwdIdeal.main_arg4)
          ∧ r.2.mem ((c.tc : Thread Cert.Ln1FwdIdeal.nD Cert.Ln1FwdIdeal.τ).loc Cert.Ln1FwdIdeal.main_arg5) = m ((c.tc : Thread Cert.Ln1FwdIdeal.nD Cert.Ln1FwdIdeal.τ).loc Cert.Ln1FwdIdeal.main_arg5)
          ∧ r.2.mem ((c.tc : Thread Cert.Ln1FwdIdeal.nD Cert.Ln1FwdIdeal.τ).loc Cert.Ln1FwdIdeal.main_arg6) = m ((c.tc : Thread Cert.Ln1FwdIdeal.nD Cert.Ln1FwdIdeal.τ).loc Cert.Ln1FwdIdeal.main_arg6))
      ∧ θ_run (Cert.Ln1FwdRefIdeal.defs (F := Ideal)) (onTc (τ := Cert.Ln1FwdRefIdeal.τ) (Cert.Ln1FwdRefIdeal.main (F := Ideal))) ⟨m', fun _ => 0, g'⟩ (fun r => ∀ c : Dev Cert.Ln1FwdRefIdeal.nD,
          r.2.mem ((c.tc : Thread Cert.Ln1FwdRefIdeal.nD Cert.Ln1FwdRefIdeal.τ).loc Cert.Ln1FwdRefIdeal.main_v26) = v0 c
          ∧ r.2.mem ((c.tc : Thread Cert.Ln1FwdRefIdeal.nD Cert.Ln1FwdRefIdeal.τ).loc Cert.Ln1FwdRefIdeal.main_v33) = v1 c
          ∧ r.2.mem ((c.tc : Thread Cert.Ln1FwdRefIdeal.nD Cert.Ln1FwdRefIdeal.τ).loc Cert.Ln1FwdRefIdeal.main_arg0) = m' ((c.tc : Thread Cert.Ln1FwdRefIdeal.nD Cert.Ln1FwdRefIdeal.τ).loc Cert.Ln1FwdRefIdeal.main_arg0)
          ∧ r.2.mem ((c.tc : Thread Cert.Ln1FwdRefIdeal.nD Cert.Ln1FwdRefIdeal.τ).loc Cert.Ln1FwdRefIdeal.main_arg1) = m' ((c.tc : Thread Cert.Ln1FwdRefIdeal.nD Cert.Ln1FwdRefIdeal.τ).loc Cert.Ln1FwdRefIdeal.main_arg1)
          ∧ r.2.mem ((c.tc : Thread Cert.Ln1FwdRefIdeal.nD Cert.Ln1FwdRefIdeal.τ).loc Cert.Ln1FwdRefIdeal.main_arg2) = m' ((c.tc : Thread Cert.Ln1FwdRefIdeal.nD Cert.Ln1FwdRefIdeal.τ).loc Cert.Ln1FwdRefIdeal.main_arg2)
          ∧ r.2.mem ((c.tc : Thread Cert.Ln1FwdRefIdeal.nD Cert.Ln1FwdRefIdeal.τ).loc Cert.Ln1FwdRefIdeal.main_arg3) = m' ((c.tc : Thread Cert.Ln1FwdRefIdeal.nD Cert.Ln1FwdRefIdeal.τ).loc Cert.Ln1FwdRefIdeal.main_arg3)
          ∧ r.2.mem ((c.tc : Thread Cert.Ln1FwdRefIdeal.nD Cert.Ln1FwdRefIdeal.τ).loc Cert.Ln1FwdRefIdeal.main_arg4) = m' ((c.tc : Thread Cert.Ln1FwdRefIdeal.nD Cert.Ln1FwdRefIdeal.τ).loc Cert.Ln1FwdRefIdeal.main_arg4)
          ∧ r.2.mem ((c.tc : Thread Cert.Ln1FwdRefIdeal.nD Cert.Ln1FwdRefIdeal.τ).loc Cert.Ln1FwdRefIdeal.main_arg5) = m' ((c.tc : Thread Cert.Ln1FwdRefIdeal.nD Cert.Ln1FwdRefIdeal.τ).loc Cert.Ln1FwdRefIdeal.main_arg5)
          ∧ r.2.mem ((c.tc : Thread Cert.Ln1FwdRefIdeal.nD Cert.Ln1FwdRefIdeal.τ).loc Cert.Ln1FwdRefIdeal.main_arg6) = m' ((c.tc : Thread Cert.Ln1FwdRefIdeal.nD Cert.Ln1FwdRefIdeal.τ).loc Cert.Ln1FwdRefIdeal.main_arg6))

def preserves_ConfFwd_ConfFwdIdeal : Prop :=
  True

def algebraic_ConfFwdIdeal_ConfFwdRefIdeal [hConfFwdIdeal : Cert.ConfFwdIdeal.Facts] [hConfFwdRefIdeal : Cert.ConfFwdRefIdeal.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg)
    (m' : (ℓ : Loc Cert.ConfFwdRefIdeal.nD Cert.ConfFwdRefIdeal.τ Cert.ConfFwdRefIdeal.sig) → Buf (Elt Ideal) ℓ) (g' : Dev Cert.ConfFwdRefIdeal.nD → PrngReg), Pre_ConfFwdIdeal m →
    (∀ c : Dev Cert.ConfFwdIdeal.nD,
      m' ((c.tc : Thread Cert.ConfFwdRefIdeal.nD Cert.ConfFwdRefIdeal.τ).loc Cert.ConfFwdRefIdeal.main_arg0) = m ((c.tc : Thread Cert.ConfFwdIdeal.nD Cert.ConfFwdIdeal.τ).loc Cert.ConfFwdIdeal.main_arg0)
      ∧ m' ((c.tc : Thread Cert.ConfFwdRefIdeal.nD Cert.ConfFwdRefIdeal.τ).loc Cert.ConfFwdRefIdeal.main_arg1) = m ((c.tc : Thread Cert.ConfFwdIdeal.nD Cert.ConfFwdIdeal.τ).loc Cert.ConfFwdIdeal.main_arg1)
      ∧ m' ((c.tc : Thread Cert.ConfFwdRefIdeal.nD Cert.ConfFwdRefIdeal.τ).loc Cert.ConfFwdRefIdeal.main_arg2) = m ((c.tc : Thread Cert.ConfFwdIdeal.nD Cert.ConfFwdIdeal.τ).loc Cert.ConfFwdIdeal.main_arg2)
      ∧ m' ((c.tc : Thread Cert.ConfFwdRefIdeal.nD Cert.ConfFwdRefIdeal.τ).loc Cert.ConfFwdRefIdeal.main_arg3) = m ((c.tc : Thread Cert.ConfFwdIdeal.nD Cert.ConfFwdIdeal.τ).loc Cert.ConfFwdIdeal.main_arg3)) →
    ∃ (v0 : (c : Dev Cert.ConfFwdIdeal.nD) → Buf (Elt Ideal) ((c.tc : Thread Cert.ConfFwdIdeal.nD Cert.ConfFwdIdeal.τ).loc Cert.ConfFwdIdeal.main_v0)),
      θ_run (Cert.ConfFwdIdeal.defs (F := Ideal)) (onTc (τ := Cert.ConfFwdIdeal.τ) (Cert.ConfFwdIdeal.main (F := Ideal))) ⟨m, fun _ => 0, g⟩ (fun r => ∀ c : Dev Cert.ConfFwdIdeal.nD,
          r.2.mem ((c.tc : Thread Cert.ConfFwdIdeal.nD Cert.ConfFwdIdeal.τ).loc Cert.ConfFwdIdeal.main_v0) = v0 c
          ∧ r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
          ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
          ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
          ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3))
      ∧ θ_run (Cert.ConfFwdRefIdeal.defs (F := Ideal)) (onTc (τ := Cert.ConfFwdRefIdeal.τ) (Cert.ConfFwdRefIdeal.main (F := Ideal))) ⟨m', fun _ => 0, g'⟩ (fun r => ∀ c : Dev Cert.ConfFwdRefIdeal.nD,
          r.2.mem ((c.tc : Thread Cert.ConfFwdRefIdeal.nD Cert.ConfFwdRefIdeal.τ).loc Cert.ConfFwdRefIdeal.main_v25) = v0 c
          ∧ r.2.mem ((c.tc : Thread Cert.ConfFwdRefIdeal.nD Cert.ConfFwdRefIdeal.τ).loc Cert.ConfFwdRefIdeal.main_arg0) = m' ((c.tc : Thread Cert.ConfFwdRefIdeal.nD Cert.ConfFwdRefIdeal.τ).loc Cert.ConfFwdRefIdeal.main_arg0)
          ∧ r.2.mem ((c.tc : Thread Cert.ConfFwdRefIdeal.nD Cert.ConfFwdRefIdeal.τ).loc Cert.ConfFwdRefIdeal.main_arg1) = m' ((c.tc : Thread Cert.ConfFwdRefIdeal.nD Cert.ConfFwdRefIdeal.τ).loc Cert.ConfFwdRefIdeal.main_arg1)
          ∧ r.2.mem ((c.tc : Thread Cert.ConfFwdRefIdeal.nD Cert.ConfFwdRefIdeal.τ).loc Cert.ConfFwdRefIdeal.main_arg2) = m' ((c.tc : Thread Cert.ConfFwdRefIdeal.nD Cert.ConfFwdRefIdeal.τ).loc Cert.ConfFwdRefIdeal.main_arg2)
          ∧ r.2.mem ((c.tc : Thread Cert.ConfFwdRefIdeal.nD Cert.ConfFwdRefIdeal.τ).loc Cert.ConfFwdRefIdeal.main_arg3) = m' ((c.tc : Thread Cert.ConfFwdRefIdeal.nD Cert.ConfFwdRefIdeal.τ).loc Cert.ConfFwdRefIdeal.main_arg3))

def preserves_SiluC_SiluCIdeal : Prop :=
  True

def algebraic_SiluCIdeal_SiluCRefIdeal [hSiluCIdeal : Cert.SiluCIdeal.Facts] [hSiluCRefIdeal : Cert.SiluCRefIdeal.Facts] : Prop :=
  ∀ (m : (ℓ : Loc Cert.SiluCIdeal.nD Cert.SiluCIdeal.τ Cert.SiluCIdeal.sig) → Buf (Elt Ideal) ℓ) (g : Dev Cert.SiluCIdeal.nD → PrngReg)
    (m' : (ℓ : Loc Cert.SiluCRefIdeal.nD Cert.SiluCRefIdeal.τ Cert.SiluCRefIdeal.sig) → Buf (Elt Ideal) ℓ) (g' : Dev Cert.SiluCRefIdeal.nD → PrngReg), Pre_SiluCIdeal m →
    (∀ c : Dev Cert.SiluCIdeal.nD,
      m' ((c.tc : Thread Cert.SiluCRefIdeal.nD Cert.SiluCRefIdeal.τ).loc Cert.SiluCRefIdeal.main_arg0) = m ((c.tc : Thread Cert.SiluCIdeal.nD Cert.SiluCIdeal.τ).loc Cert.SiluCIdeal.main_arg0)) →
    ∃ (v0 : (c : Dev Cert.SiluCIdeal.nD) → Buf (Elt Ideal) ((c.tc : Thread Cert.SiluCIdeal.nD Cert.SiluCIdeal.τ).loc Cert.SiluCIdeal.main_v0)),
      θ_run (Cert.SiluCIdeal.defs (F := Ideal)) (onTc (τ := Cert.SiluCIdeal.τ) (Cert.SiluCIdeal.main (F := Ideal))) ⟨m, fun _ => 0, g⟩ (fun r => ∀ c : Dev Cert.SiluCIdeal.nD,
          r.2.mem ((c.tc : Thread Cert.SiluCIdeal.nD Cert.SiluCIdeal.τ).loc Cert.SiluCIdeal.main_v0) = v0 c
          ∧ r.2.mem ((c.tc : Thread Cert.SiluCIdeal.nD Cert.SiluCIdeal.τ).loc Cert.SiluCIdeal.main_arg0) = m ((c.tc : Thread Cert.SiluCIdeal.nD Cert.SiluCIdeal.τ).loc Cert.SiluCIdeal.main_arg0))
      ∧ θ_run (Cert.SiluCRefIdeal.defs (F := Ideal)) (onTc (τ := Cert.SiluCRefIdeal.τ) (Cert.SiluCRefIdeal.main (F := Ideal))) ⟨m', fun _ => 0, g'⟩ (fun r => ∀ c : Dev Cert.SiluCRefIdeal.nD,
          r.2.mem ((c.tc : Thread Cert.SiluCRefIdeal.nD Cert.SiluCRefIdeal.τ).loc Cert.SiluCRefIdeal.main_v0) = v0 c
          ∧ r.2.mem ((c.tc : Thread Cert.SiluCRefIdeal.nD Cert.SiluCRefIdeal.τ).loc Cert.SiluCRefIdeal.main_arg0) = m' ((c.tc : Thread Cert.SiluCRefIdeal.nD Cert.SiluCRefIdeal.τ).loc Cert.SiluCRefIdeal.main_arg0))

def preserves_AdamMod_AdamModIdeal : Prop :=
  IdealRules.named_const.Statement Cert.AdamModIdeal.κ "c1" .f32 0x3FC48605#32 ((8388608 / 5463681 : ℝ) : EReal)
  ∧ IdealRules.named_const.Statement Cert.AdamModIdeal.κ "c2" .f32 0x42C8E6D3#32 ((268435456 / 2672307 : ℝ) : EReal)

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg3) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamMlp2_AdamMlp2Ideal : Prop :=
  IdealRules.named_const.Statement Cert.AdamMlp2Ideal.κ "c1" .f32 0x3FC48605#32 ((8388608 / 5463681 : ℝ) : EReal)
  ∧ IdealRules.named_const.Statement Cert.AdamMlp2Ideal.κ "c2" .f32 0x42C8E6D3#32 ((268435456 / 2672307 : ℝ) : EReal)

def algebraic_AdamMlp2Ideal_AdamMlp2RefIdeal [hAdamMlp2Ideal : Cert.AdamMlp2Ideal.Facts] [hAdamMlp2RefIdeal : Cert.AdamMlp2RefIdeal.Facts] : Prop :=
  ∀ (m : (ℓ : Loc Cert.AdamMlp2Ideal.nD Cert.AdamMlp2Ideal.τ Cert.AdamMlp2Ideal.sig) → Buf (Elt Ideal) ℓ) (g : Dev Cert.AdamMlp2Ideal.nD → PrngReg)
    (m' : (ℓ : Loc Cert.AdamMlp2RefIdeal.nD Cert.AdamMlp2RefIdeal.τ Cert.AdamMlp2RefIdeal.sig) → Buf (Elt Ideal) ℓ) (g' : Dev Cert.AdamMlp2RefIdeal.nD → PrngReg), Pre_AdamMlp2Ideal m →
    (∀ c : Dev Cert.AdamMlp2Ideal.nD,
      m' ((c.tc : Thread Cert.AdamMlp2RefIdeal.nD Cert.AdamMlp2RefIdeal.τ).loc Cert.AdamMlp2RefIdeal.main_arg0) = m ((c.tc : Thread Cert.AdamMlp2Ideal.nD Cert.AdamMlp2Ideal.τ).loc Cert.AdamMlp2Ideal.main_arg0)
      ∧ m' ((c.tc : Thread Cert.AdamMlp2RefIdeal.nD Cert.AdamMlp2RefIdeal.τ).loc Cert.AdamMlp2RefIdeal.main_arg1) = m ((c.tc : Thread Cert.AdamMlp2Ideal.nD Cert.AdamMlp2Ideal.τ).loc Cert.AdamMlp2Ideal.main_arg1)
      ∧ m' ((c.tc : Thread Cert.AdamMlp2RefIdeal.nD Cert.AdamMlp2RefIdeal.τ).loc Cert.AdamMlp2RefIdeal.main_arg2) = m ((c.tc : Thread Cert.AdamMlp2Ideal.nD Cert.AdamMlp2Ideal.τ).loc Cert.AdamMlp2Ideal.main_arg2)
      ∧ m' ((c.tc : Thread Cert.AdamMlp2RefIdeal.nD Cert.AdamMlp2RefIdeal.τ).loc Cert.AdamMlp2RefIdeal.main_arg3) = m ((c.tc : Thread Cert.AdamMlp2Ideal.nD Cert.AdamMlp2Ideal.τ).loc Cert.AdamMlp2Ideal.main_arg3)) →
    ∃ (v0 : (c : Dev Cert.AdamMlp2Ideal.nD) → Buf (Elt Ideal) ((c.tc : Thread Cert.AdamMlp2Ideal.nD Cert.AdamMlp2Ideal.τ).loc Cert.AdamMlp2Ideal.main_v0_0)) (v1 : (c : Dev Cert.AdamMlp2Ideal.nD) → Buf (Elt Ideal) ((c.tc : Thread Cert.AdamMlp2Ideal.nD Cert.AdamMlp2Ideal.τ).loc Cert.AdamMlp2Ideal.main_v0_1)) (v2 : (c : Dev Cert.AdamMlp2Ideal.nD) → Buf (Elt Ideal) ((c.tc : Thread Cert.AdamMlp2Ideal.nD Cert.AdamMlp2Ideal.τ).loc Cert.AdamMlp2Ideal.main_v0_2)) (v3 : (c : Dev Cert.AdamMlp2Ideal.nD) → Buf (Elt Ideal) ((c.tc : Thread Cert.AdamMlp2Ideal.nD Cert.AdamMlp2Ideal.τ).loc Cert.AdamMlp2Ideal.main_v0_3)),
      θ_run (Cert.AdamMlp2Ideal.defs (F := Ideal)) (onTc (τ := Cert.AdamMlp2Ideal.τ) (Cert.AdamMlp2Ideal.main (F := Ideal))) ⟨m, fun _ => 0, g⟩ (fun r => ∀ c : Dev Cert.AdamMlp2Ideal.nD,
          r.2.mem ((c.tc : Thread Cert.AdamMlp2Ideal.nD Cert.AdamMlp2Ideal.τ).loc Cert.AdamMlp2Ideal.main_v0_0) = v0 c
          ∧ r.2.mem ((c.tc : Thread Cert.AdamMlp2Ideal.nD Cert.AdamMlp2Ideal.τ).loc Cert.AdamMlp2Ideal.main_v0_1) = v1 c
          ∧ r.2.mem ((c.tc : Thread Cert.AdamMlp2Ideal.nD Cert.AdamMlp2Ideal.τ).loc Cert.AdamMlp2Ideal.main_v0_2) = v2 c
          ∧ r.2.mem ((c.tc : Thread Cert.AdamMlp2Ideal.nD Cert.AdamMlp2Ideal.τ).loc Cert.AdamMlp2Ideal.main_v0_3) = v3 c
          ∧ r.2.mem ((c.tc : Thread Cert.AdamMlp2Ideal.nD Cert.AdamMlp2Ideal.τ).loc Cert.AdamMlp2Ideal.main_arg0) = m ((c.tc : Thread Cert.AdamMlp2Ideal.nD Cert.AdamMlp2Ideal.τ).loc Cert.AdamMlp2Ideal.main_arg0)
          ∧ r.2.mem ((c.tc : Thread Cert.AdamMlp2Ideal.nD Cert.AdamMlp2Ideal.τ).loc Cert.AdamMlp2Ideal.main_arg1) = m ((c.tc : Thread Cert.AdamMlp2Ideal.nD Cert.AdamMlp2Ideal.τ).loc Cert.AdamMlp2Ideal.main_arg1)
          ∧ r.2.mem ((c.tc : Thread Cert.AdamMlp2Ideal.nD Cert.AdamMlp2Ideal.τ).loc Cert.AdamMlp2Ideal.main_arg2) = m ((c.tc : Thread Cert.AdamMlp2Ideal.nD Cert.AdamMlp2Ideal.τ).loc Cert.AdamMlp2Ideal.main_arg2)
          ∧ r.2.mem ((c.tc : Thread Cert.AdamMlp2Ideal.nD Cert.AdamMlp2Ideal.τ).loc Cert.AdamMlp2Ideal.main_arg3) = m ((c.tc : Thread Cert.AdamMlp2Ideal.nD Cert.AdamMlp2Ideal.τ).loc Cert.AdamMlp2Ideal.main_arg3))
      ∧ θ_run (Cert.AdamMlp2RefIdeal.defs (F := Ideal)) (onTc (τ := Cert.AdamMlp2RefIdeal.τ) (Cert.AdamMlp2RefIdeal.main (F := Ideal))) ⟨m', fun _ => 0, g'⟩ (fun r => ∀ c : Dev Cert.AdamMlp2RefIdeal.nD,
          r.2.mem ((c.tc : Thread Cert.AdamMlp2RefIdeal.nD Cert.AdamMlp2RefIdeal.τ).loc Cert.AdamMlp2RefIdeal.main_v1) = v0 c
          ∧ r.2.mem ((c.tc : Thread Cert.AdamMlp2RefIdeal.nD Cert.AdamMlp2RefIdeal.τ).loc Cert.AdamMlp2RefIdeal.main_v25) = v1 c
          ∧ r.2.mem ((c.tc : Thread Cert.AdamMlp2RefIdeal.nD Cert.AdamMlp2RefIdeal.τ).loc Cert.AdamMlp2RefIdeal.main_v6) = v2 c
          ∧ r.2.mem ((c.tc : Thread Cert.AdamMlp2RefIdeal.nD Cert.AdamMlp2RefIdeal.τ).loc Cert.AdamMlp2RefIdeal.main_v12) = v3 c
          ∧ r.2.mem ((c.tc : Thread Cert.AdamMlp2RefIdeal.nD Cert.AdamMlp2RefIdeal.τ).loc Cert.AdamMlp2RefIdeal.main_arg0) = m' ((c.tc : Thread Cert.AdamMlp2RefIdeal.nD Cert.AdamMlp2RefIdeal.τ).loc Cert.AdamMlp2RefIdeal.main_arg0)
          ∧ r.2.mem ((c.tc : Thread Cert.AdamMlp2RefIdeal.nD Cert.AdamMlp2RefIdeal.τ).loc Cert.AdamMlp2RefIdeal.main_arg1) = m' ((c.tc : Thread Cert.AdamMlp2RefIdeal.nD Cert.AdamMlp2RefIdeal.τ).loc Cert.AdamMlp2RefIdeal.main_arg1)
          ∧ r.2.mem ((c.tc : Thread Cert.AdamMlp2RefIdeal.nD Cert.AdamMlp2RefIdeal.τ).loc Cert.AdamMlp2RefIdeal.main_arg2) = m' ((c.tc : Thread Cert.AdamMlp2RefIdeal.nD Cert.AdamMlp2RefIdeal.τ).loc Cert.AdamMlp2RefIdeal.main_arg2)
          ∧ r.2.mem ((c.tc : Thread Cert.AdamMlp2RefIdeal.nD Cert.AdamMlp2RefIdeal.τ).loc Cert.AdamMlp2RefIdeal.main_arg3) = m' ((c.tc : Thread Cert.AdamMlp2RefIdeal.nD Cert.AdamMlp2RefIdeal.τ).loc Cert.AdamMlp2RefIdeal.main_arg3))

def preserves_AdamMlp1_AdamMlp1Ideal : Prop :=
  IdealRules.named_const.Statement Cert.AdamMlp1Ideal.κ "c1" .f32 0x3FC48605#32 ((8388608 / 5463681 : ℝ) : EReal)
  ∧ IdealRules.named_const.Statement Cert.AdamMlp1Ideal.κ "c2" .f32 0x42C8E6D3#32 ((268435456 / 2672307 : ℝ) : EReal)

def algebraic_AdamMlp1Ideal_AdamMlp1RefIdeal [hAdamMlp1Ideal : Cert.AdamMlp1Ideal.Facts] [hAdamMlp1RefIdeal : Cert.AdamMlp1RefIdeal.Facts] : Prop :=
  ∀ (m : (ℓ : Loc Cert.AdamMlp1Ideal.nD Cert.AdamMlp1Ideal.τ Cert.AdamMlp1Ideal.sig) → Buf (Elt Ideal) ℓ) (g : Dev Cert.AdamMlp1Ideal.nD → PrngReg)
    (m' : (ℓ : Loc Cert.AdamMlp1RefIdeal.nD Cert.AdamMlp1RefIdeal.τ Cert.AdamMlp1RefIdeal.sig) → Buf (Elt Ideal) ℓ) (g' : Dev Cert.AdamMlp1RefIdeal.nD → PrngReg), Pre_AdamMlp1Ideal m →
    (∀ c : Dev Cert.AdamMlp1Ideal.nD,
      m' ((c.tc : Thread Cert.AdamMlp1RefIdeal.nD Cert.AdamMlp1RefIdeal.τ).loc Cert.AdamMlp1RefIdeal.main_arg0) = m ((c.tc : Thread Cert.AdamMlp1Ideal.nD Cert.AdamMlp1Ideal.τ).loc Cert.AdamMlp1Ideal.main_arg0)
      ∧ m' ((c.tc : Thread Cert.AdamMlp1RefIdeal.nD Cert.AdamMlp1RefIdeal.τ).loc Cert.AdamMlp1RefIdeal.main_arg1) = m ((c.tc : Thread Cert.AdamMlp1Ideal.nD Cert.AdamMlp1Ideal.τ).loc Cert.AdamMlp1Ideal.main_arg1)
      ∧ m' ((c.tc : Thread Cert.AdamMlp1RefIdeal.nD Cert.AdamMlp1RefIdeal.τ).loc Cert.AdamMlp1RefIdeal.main_arg2) = m ((c.tc : Thread Cert.AdamMlp1Ideal.nD Cert.AdamMlp1Ideal.τ).loc Cert.AdamMlp1Ideal.main_arg2)
      ∧ m' ((c.tc : Thread Cert.AdamMlp1RefIdeal.nD Cert.AdamMlp1RefIdeal.τ).loc Cert.AdamMlp1RefIdeal.main_arg3) = m ((c.tc : Thread Cert.AdamMlp1Ideal.nD Cert.AdamMlp1Ideal.τ).loc Cert.AdamMlp1Ideal.main_arg3)) →
    ∃ (v0 : (c : Dev Cert.AdamMlp1Ideal.nD) → Buf (Elt Ideal) ((c.tc : Thread Cert.AdamMlp1Ideal.nD Cert.AdamMlp1Ideal.τ).loc Cert.AdamMlp1Ideal.main_v0_0)) (v1 : (c : Dev Cert.AdamMlp1Ideal.nD) → Buf (Elt Ideal) ((c.tc : Thread Cert.AdamMlp1Ideal.nD Cert.AdamMlp1Ideal.τ).loc Cert.AdamMlp1Ideal.main_v0_1)) (v2 : (c : Dev Cert.AdamMlp1Ideal.nD) → Buf (Elt Ideal) ((c.tc : Thread Cert.AdamMlp1Ideal.nD Cert.AdamMlp1Ideal.τ).loc Cert.AdamMlp1Ideal.main_v0_2)) (v3 : (c : Dev Cert.AdamMlp1Ideal.nD) → Buf (Elt Ideal) ((c.tc : Thread Cert.AdamMlp1Ideal.nD Cert.AdamMlp1Ideal.τ).loc Cert.AdamMlp1Ideal.main_v0_3)),
      θ_run (Cert.AdamMlp1Ideal.defs (F := Ideal)) (onTc (τ := Cert.AdamMlp1Ideal.τ) (Cert.AdamMlp1Ideal.main (F := Ideal))) ⟨m, fun _ => 0, g⟩ (fun r => ∀ c : Dev Cert.AdamMlp1Ideal.nD,
          r.2.mem ((c.tc : Thread Cert.AdamMlp1Ideal.nD Cert.AdamMlp1Ideal.τ).loc Cert.AdamMlp1Ideal.main_v0_0) = v0 c
          ∧ r.2.mem ((c.tc : Thread Cert.AdamMlp1Ideal.nD Cert.AdamMlp1Ideal.τ).loc Cert.AdamMlp1Ideal.main_v0_1) = v1 c
          ∧ r.2.mem ((c.tc : Thread Cert.AdamMlp1Ideal.nD Cert.AdamMlp1Ideal.τ).loc Cert.AdamMlp1Ideal.main_v0_2) = v2 c
          ∧ r.2.mem ((c.tc : Thread Cert.AdamMlp1Ideal.nD Cert.AdamMlp1Ideal.τ).loc Cert.AdamMlp1Ideal.main_v0_3) = v3 c
          ∧ r.2.mem ((c.tc : Thread Cert.AdamMlp1Ideal.nD Cert.AdamMlp1Ideal.τ).loc Cert.AdamMlp1Ideal.main_arg0) = m ((c.tc : Thread Cert.AdamMlp1Ideal.nD Cert.AdamMlp1Ideal.τ).loc Cert.AdamMlp1Ideal.main_arg0)
          ∧ r.2.mem ((c.tc : Thread Cert.AdamMlp1Ideal.nD Cert.AdamMlp1Ideal.τ).loc Cert.AdamMlp1Ideal.main_arg1) = m ((c.tc : Thread Cert.AdamMlp1Ideal.nD Cert.AdamMlp1Ideal.τ).loc Cert.AdamMlp1Ideal.main_arg1)
          ∧ r.2.mem ((c.tc : Thread Cert.AdamMlp1Ideal.nD Cert.AdamMlp1Ideal.τ).loc Cert.AdamMlp1Ideal.main_arg2) = m ((c.tc : Thread Cert.AdamMlp1Ideal.nD Cert.AdamMlp1Ideal.τ).loc Cert.AdamMlp1Ideal.main_arg2)
          ∧ r.2.mem ((c.tc : Thread Cert.AdamMlp1Ideal.nD Cert.AdamMlp1Ideal.τ).loc Cert.AdamMlp1Ideal.main_arg3) = m ((c.tc : Thread Cert.AdamMlp1Ideal.nD Cert.AdamMlp1Ideal.τ).loc Cert.AdamMlp1Ideal.main_arg3))
      ∧ θ_run (Cert.AdamMlp1RefIdeal.defs (F := Ideal)) (onTc (τ := Cert.AdamMlp1RefIdeal.τ) (Cert.AdamMlp1RefIdeal.main (F := Ideal))) ⟨m', fun _ => 0, g'⟩ (fun r => ∀ c : Dev Cert.AdamMlp1RefIdeal.nD,
          r.2.mem ((c.tc : Thread Cert.AdamMlp1RefIdeal.nD Cert.AdamMlp1RefIdeal.τ).loc Cert.AdamMlp1RefIdeal.main_v1) = v0 c
          ∧ r.2.mem ((c.tc : Thread Cert.AdamMlp1RefIdeal.nD Cert.AdamMlp1RefIdeal.τ).loc Cert.AdamMlp1RefIdeal.main_v25) = v1 c
          ∧ r.2.mem ((c.tc : Thread Cert.AdamMlp1RefIdeal.nD Cert.AdamMlp1RefIdeal.τ).loc Cert.AdamMlp1RefIdeal.main_v6) = v2 c
          ∧ r.2.mem ((c.tc : Thread Cert.AdamMlp1RefIdeal.nD Cert.AdamMlp1RefIdeal.τ).loc Cert.AdamMlp1RefIdeal.main_v12) = v3 c
          ∧ r.2.mem ((c.tc : Thread Cert.AdamMlp1RefIdeal.nD Cert.AdamMlp1RefIdeal.τ).loc Cert.AdamMlp1RefIdeal.main_arg0) = m' ((c.tc : Thread Cert.AdamMlp1RefIdeal.nD Cert.AdamMlp1RefIdeal.τ).loc Cert.AdamMlp1RefIdeal.main_arg0)
          ∧ r.2.mem ((c.tc : Thread Cert.AdamMlp1RefIdeal.nD Cert.AdamMlp1RefIdeal.τ).loc Cert.AdamMlp1RefIdeal.main_arg1) = m' ((c.tc : Thread Cert.AdamMlp1RefIdeal.nD Cert.AdamMlp1RefIdeal.τ).loc Cert.AdamMlp1RefIdeal.main_arg1)
          ∧ r.2.mem ((c.tc : Thread Cert.AdamMlp1RefIdeal.nD Cert.AdamMlp1RefIdeal.τ).loc Cert.AdamMlp1RefIdeal.main_arg2) = m' ((c.tc : Thread Cert.AdamMlp1RefIdeal.nD Cert.AdamMlp1RefIdeal.τ).loc Cert.AdamMlp1RefIdeal.main_arg2)
          ∧ r.2.mem ((c.tc : Thread Cert.AdamMlp1RefIdeal.nD Cert.AdamMlp1RefIdeal.τ).loc Cert.AdamMlp1RefIdeal.main_arg3) = m' ((c.tc : Thread Cert.AdamMlp1RefIdeal.nD Cert.AdamMlp1RefIdeal.τ).loc Cert.AdamMlp1RefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg3) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddWin_AddWinIdeal : Prop :=
  True

def algebraic_AddWinIdeal_AddWinRefIdeal [hAddWinIdeal : Cert.AddWinIdeal.Facts] [hAddWinRefIdeal : Cert.AddWinRefIdeal.Facts] : Prop :=
  ∀ (m : (ℓ : Loc Cert.AddWinIdeal.nD Cert.AddWinIdeal.τ Cert.AddWinIdeal.sig) → Buf (Elt Ideal) ℓ) (g : Dev Cert.AddWinIdeal.nD → PrngReg)
    (m' : (ℓ : Loc Cert.AddWinRefIdeal.nD Cert.AddWinRefIdeal.τ Cert.AddWinRefIdeal.sig) → Buf (Elt Ideal) ℓ) (g' : Dev Cert.AddWinRefIdeal.nD → PrngReg), Pre_AddWinIdeal m →
    (∀ c : Dev Cert.AddWinIdeal.nD,
      m' ((c.tc : Thread Cert.AddWinRefIdeal.nD Cert.AddWinRefIdeal.τ).loc Cert.AddWinRefIdeal.main_arg0) = m ((c.tc : Thread Cert.AddWinIdeal.nD Cert.AddWinIdeal.τ).loc Cert.AddWinIdeal.main_arg0)
      ∧ m' ((c.tc : Thread Cert.AddWinRefIdeal.nD Cert.AddWinRefIdeal.τ).loc Cert.AddWinRefIdeal.main_arg1) = m ((c.tc : Thread Cert.AddWinIdeal.nD Cert.AddWinIdeal.τ).loc Cert.AddWinIdeal.main_arg1)) →
    ∃ (v0 : (c : Dev Cert.AddWinIdeal.nD) → Buf (Elt Ideal) ((c.tc : Thread Cert.AddWinIdeal.nD Cert.AddWinIdeal.τ).loc Cert.AddWinIdeal.main_v0)),
      θ_run (Cert.AddWinIdeal.defs (F := Ideal)) (onTc (τ := Cert.AddWinIdeal.τ) (Cert.AddWinIdeal.main (F := Ideal))) ⟨m, fun _ => 0, g⟩ (fun r => ∀ c : Dev Cert.AddWinIdeal.nD,
          r.2.mem ((c.tc : Thread Cert.AddWinIdeal.nD Cert.AddWinIdeal.τ).loc Cert.AddWinIdeal.main_v0) = v0 c
          ∧ r.2.mem ((c.tc : Thread Cert.AddWinIdeal.nD Cert.AddWinIdeal.τ).loc Cert.AddWinIdeal.main_arg0) = m ((c.tc : Thread Cert.AddWinIdeal.nD Cert.AddWinIdeal.τ).loc Cert.AddWinIdeal.main_arg0)
          ∧ r.2.mem ((c.tc : Thread Cert.AddWinIdeal.nD Cert.AddWinIdeal.τ).loc Cert.AddWinIdeal.main_arg1) = m ((c.tc : Thread Cert.AddWinIdeal.nD Cert.AddWinIdeal.τ).loc Cert.AddWinIdeal.main_arg1))
      ∧ θ_run (Cert.AddWinRefIdeal.defs (F := Ideal)) (onTc (τ := Cert.AddWinRefIdeal.τ) (Cert.AddWinRefIdeal.main (F := Ideal))) ⟨m', fun _ => 0, g'⟩ (fun r => ∀ c : Dev Cert.AddWinRefIdeal.nD,
          r.2.mem ((c.tc : Thread Cert.AddWinRefIdeal.nD Cert.AddWinRefIdeal.τ).loc Cert.AddWinRefIdeal.main_v3) = v0 c
          ∧ r.2.mem ((c.tc : Thread Cert.AddWinRefIdeal.nD Cert.AddWinRefIdeal.τ).loc Cert.AddWinRefIdeal.main_arg0) = m' ((c.tc : Thread Cert.AddWinRefIdeal.nD Cert.AddWinRefIdeal.τ).loc Cert.AddWinRefIdeal.main_arg0)
          ∧ r.2.mem ((c.tc : Thread Cert.AddWinRefIdeal.nD Cert.AddWinRefIdeal.τ).loc Cert.AddWinRefIdeal.main_arg1) = m' ((c.tc : Thread Cert.AddWinRefIdeal.nD Cert.AddWinRefIdeal.τ).loc Cert.AddWinRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumCctx_SumCctxIdeal : Prop :=
  True

def algebraic_SumCctxIdeal_SumCctxRefIdeal [hSumCctxIdeal : Cert.SumCctxIdeal.Facts] [hSumCctxRefIdeal : Cert.SumCctxRefIdeal.Facts] : Prop :=
  ∀ (m : (ℓ : Loc Cert.SumCctxIdeal.nD Cert.SumCctxIdeal.τ Cert.SumCctxIdeal.sig) → Buf (Elt Ideal) ℓ) (g : Dev Cert.SumCctxIdeal.nD → PrngReg)
    (m' : (ℓ : Loc Cert.SumCctxRefIdeal.nD Cert.SumCctxRefIdeal.τ Cert.SumCctxRefIdeal.sig) → Buf (Elt Ideal) ℓ) (g' : Dev Cert.SumCctxRefIdeal.nD → PrngReg), Pre_SumCctxIdeal m →
    (∀ c : Dev Cert.SumCctxIdeal.nD,
      m' ((c.tc : Thread Cert.SumCctxRefIdeal.nD Cert.SumCctxRefIdeal.τ).loc Cert.SumCctxRefIdeal.main_arg0) = m ((c.tc : Thread Cert.SumCctxIdeal.nD Cert.SumCctxIdeal.τ).loc Cert.SumCctxIdeal.main_arg0)) →
    ∃ (v0 : (c : Dev Cert.SumCctxIdeal.nD) → Buf (Elt Ideal) ((c.tc : Thread Cert.SumCctxIdeal.nD Cert.SumCctxIdeal.τ).loc Cert.SumCctxIdeal.main_v0)),
      θ_run (Cert.SumCctxIdeal.defs (F := Ideal)) (onTc (τ := Cert.SumCctxIdeal.τ) (Cert.SumCctxIdeal.main (F := Ideal))) ⟨m, fun _ => 0, g⟩ (fun r => ∀ c : Dev Cert.SumCctxIdeal.nD,
          r.2.mem ((c.tc : Thread Cert.SumCctxIdeal.nD Cert.SumCctxIdeal.τ).loc Cert.SumCctxIdeal.main_v0) = v0 c
          ∧ r.2.mem ((c.tc : Thread Cert.SumCctxIdeal.nD Cert.SumCctxIdeal.τ).loc Cert.SumCctxIdeal.main_arg0) = m ((c.tc : Thread Cert.SumCctxIdeal.nD Cert.SumCctxIdeal.τ).loc Cert.SumCctxIdeal.main_arg0))
      ∧ θ_run (Cert.SumCctxRefIdeal.defs (F := Ideal)) (onTc (τ := Cert.SumCctxRefIdeal.τ) (Cert.SumCctxRefIdeal.main (F := Ideal))) ⟨m', fun _ => 0, g'⟩ (fun r => ∀ c : Dev Cert.SumCctxRefIdeal.nD,
          r.2.mem ((c.tc : Thread Cert.SumCctxRefIdeal.nD Cert.SumCctxRefIdeal.τ).loc Cert.SumCctxRefIdeal.main_v1) = v0 c
          ∧ r.2.mem ((c.tc : Thread Cert.SumCctxRefIdeal.nD Cert.SumCctxRefIdeal.τ).loc Cert.SumCctxRefIdeal.main_arg0) = m' ((c.tc : Thread Cert.SumCctxRefIdeal.nD Cert.SumCctxRefIdeal.τ).loc Cert.SumCctxRefIdeal.main_arg0))

def preserves_Ln2Loss_Ln2LossIdeal : Prop :=
  True

def algebraic_Ln2LossIdeal_Ln2LossRefIdeal_pre_ln2_finite [hLn2LossIdeal : Cert.Ln2LossIdeal.Facts] [hLn2LossRefIdeal : Cert.Ln2LossRefIdeal.Facts] [hPre_ln2_finite : Cert.Pre_ln2_finite.Facts] : Prop :=
  ∀ (m : (ℓ : Loc Cert.Ln2LossIdeal.nD Cert.Ln2LossIdeal.τ Cert.Ln2LossIdeal.sig) → Buf (Elt Ideal) ℓ) (g : Dev Cert.Ln2LossIdeal.nD → PrngReg)
    (m' : (ℓ : Loc Cert.Ln2LossRefIdeal.nD Cert.Ln2LossRefIdeal.τ Cert.Ln2LossRefIdeal.sig) → Buf (Elt Ideal) ℓ) (g' : Dev Cert.Ln2LossRefIdeal.nD → PrngReg), Pre_Ln2LossIdeal_ln2_finite m →
    (∀ c : Dev Cert.Ln2LossIdeal.nD,
      m' ((c.tc : Thread Cert.Ln2LossRefIdeal.nD Cert.Ln2LossRefIdeal.τ).loc Cert.Ln2LossRefIdeal.main_arg0) = m ((c.tc : Thread Cert.Ln2LossIdeal.nD Cert.Ln2LossIdeal.τ).loc Cert.Ln2LossIdeal.main_arg0)
      ∧ m' ((c.tc : Thread Cert.Ln2LossRefIdeal.nD Cert.Ln2LossRefIdeal.τ).loc Cert.Ln2LossRefIdeal.main_arg1) = m ((c.tc : Thread Cert.Ln2LossIdeal.nD Cert.Ln2LossIdeal.τ).loc Cert.Ln2LossIdeal.main_arg1)
      ∧ m' ((c.tc : Thread Cert.Ln2LossRefIdeal.nD Cert.Ln2LossRefIdeal.τ).loc Cert.Ln2LossRefIdeal.main_arg2) = m ((c.tc : Thread Cert.Ln2LossIdeal.nD Cert.Ln2LossIdeal.τ).loc Cert.Ln2LossIdeal.main_arg2)
      ∧ m' ((c.tc : Thread Cert.Ln2LossRefIdeal.nD Cert.Ln2LossRefIdeal.τ).loc Cert.Ln2LossRefIdeal.main_arg3) = m ((c.tc : Thread Cert.Ln2LossIdeal.nD Cert.Ln2LossIdeal.τ).loc Cert.Ln2LossIdeal.main_arg3)
      ∧ m' ((c.tc : Thread Cert.Ln2LossRefIdeal.nD Cert.Ln2LossRefIdeal.τ).loc Cert.Ln2LossRefIdeal.main_arg4) = m ((c.tc : Thread Cert.Ln2LossIdeal.nD Cert.Ln2LossIdeal.τ).loc Cert.Ln2LossIdeal.main_arg4)
      ∧ m' ((c.tc : Thread Cert.Ln2LossRefIdeal.nD Cert.Ln2LossRefIdeal.τ).loc Cert.Ln2LossRefIdeal.main_arg5) = m ((c.tc : Thread Cert.Ln2LossIdeal.nD Cert.Ln2LossIdeal.τ).loc Cert.Ln2LossIdeal.main_arg5)
      ∧ m' ((c.tc : Thread Cert.Ln2LossRefIdeal.nD Cert.Ln2LossRefIdeal.τ).loc Cert.Ln2LossRefIdeal.main_arg6) = m ((c.tc : Thread Cert.Ln2LossIdeal.nD Cert.Ln2LossIdeal.τ).loc Cert.Ln2LossIdeal.main_arg6)) →
    ∃ (v0 : (c : Dev Cert.Ln2LossIdeal.nD) → Buf (Elt Ideal) ((c.tc : Thread Cert.Ln2LossIdeal.nD Cert.Ln2LossIdeal.τ).loc Cert.Ln2LossIdeal.main_v0_0)) (v1 : (c : Dev Cert.Ln2LossIdeal.nD) → Buf (Elt Ideal) ((c.tc : Thread Cert.Ln2LossIdeal.nD Cert.Ln2LossIdeal.τ).loc Cert.Ln2LossIdeal.main_v0_1)) (v2 : (c : Dev Cert.Ln2LossIdeal.nD) → Buf (Elt Ideal) ((c.tc : Thread Cert.Ln2LossIdeal.nD Cert.Ln2LossIdeal.τ).loc Cert.Ln2LossIdeal.main_v0_2)) (v3 : (c : Dev Cert.Ln2LossIdeal.nD) → Buf (Elt Ideal) ((c.tc : Thread Cert.Ln2LossIdeal.nD Cert.Ln2LossIdeal.τ).loc Cert.Ln2LossIdeal.main_v0_3)) (v4 : (c : Dev Cert.Ln2LossIdeal.nD) → Buf (Elt Ideal) ((c.tc : Thread Cert.Ln2LossIdeal.nD Cert.Ln2LossIdeal.τ).loc Cert.Ln2LossIdeal.main_v0_4)) (v5 : (c : Dev Cert.Ln2LossIdeal.nD) → Buf (Elt Ideal) ((c.tc : Thread Cert.Ln2LossIdeal.nD Cert.Ln2LossIdeal.τ).loc Cert.Ln2LossIdeal.main_v0_5)) (v6 : (c : Dev Cert.Ln2LossIdeal.nD) → Buf (Elt Ideal) ((c.tc : Thread Cert.Ln2LossIdeal.nD Cert.Ln2LossIdeal.τ).loc Cert.Ln2LossIdeal.main_v0_6)),
      θ_run (Cert.Ln2LossIdeal.defs (F := Ideal)) (onTc (τ := Cert.Ln2LossIdeal.τ) (Cert.Ln2LossIdeal.main (F := Ideal))) ⟨m, fun _ => 0, g⟩ (fun r => ∀ c : Dev Cert.Ln2LossIdeal.nD,
          r.2.mem ((c.tc : Thread Cert.Ln2LossIdeal.nD Cert.Ln2LossIdeal.τ).loc Cert.Ln2LossIdeal.main_v0_0) = v0 c
          ∧ r.2.mem ((c.tc : Thread Cert.Ln2LossIdeal.nD Cert.Ln2LossIdeal.τ).loc Cert.Ln2LossIdeal.main_v0_1) = v1 c
          ∧ r.2.mem ((c.tc : Thread Cert.Ln2LossIdeal.nD Cert.Ln2LossIdeal.τ).loc Cert.Ln2LossIdeal.main_v0_2) = v2 c
          ∧ r.2.mem ((c.tc : Thread Cert.Ln2LossIdeal.nD Cert.Ln2LossIdeal.τ).loc Cert.Ln2LossIdeal.main_v0_3) = v3 c
          ∧ r.2.mem ((c.tc : Thread Cert.Ln2LossIdeal.nD Cert.Ln2LossIdeal.τ).loc Cert.Ln2LossIdeal.main_v0_4) = v4 c
          ∧ r.2.mem ((c.tc : Thread Cert.Ln2LossIdeal.nD Cert.Ln2LossIdeal.τ).loc Cert.Ln2LossIdeal.main_v0_5) = v5 c
          ∧ r.2.mem ((c.tc : Thread Cert.Ln2LossIdeal.nD Cert.Ln2LossIdeal.τ).loc Cert.Ln2LossIdeal.main_v0_6) = v6 c
          ∧ r.2.mem ((c.tc : Thread Cert.Ln2LossIdeal.nD Cert.Ln2LossIdeal.τ).loc Cert.Ln2LossIdeal.main_arg0) = m ((c.tc : Thread Cert.Ln2LossIdeal.nD Cert.Ln2LossIdeal.τ).loc Cert.Ln2LossIdeal.main_arg0)
          ∧ r.2.mem ((c.tc : Thread Cert.Ln2LossIdeal.nD Cert.Ln2LossIdeal.τ).loc Cert.Ln2LossIdeal.main_arg1) = m ((c.tc : Thread Cert.Ln2LossIdeal.nD Cert.Ln2LossIdeal.τ).loc Cert.Ln2LossIdeal.main_arg1)
          ∧ r.2.mem ((c.tc : Thread Cert.Ln2LossIdeal.nD Cert.Ln2LossIdeal.τ).loc Cert.Ln2LossIdeal.main_arg2) = m ((c.tc : Thread Cert.Ln2LossIdeal.nD Cert.Ln2LossIdeal.τ).loc Cert.Ln2LossIdeal.main_arg2)
          ∧ r.2.mem ((c.tc : Thread Cert.Ln2LossIdeal.nD Cert.Ln2LossIdeal.τ).loc Cert.Ln2LossIdeal.main_arg3) = m ((c.tc : Thread Cert.Ln2LossIdeal.nD Cert.Ln2LossIdeal.τ).loc Cert.Ln2LossIdeal.main_arg3)
          ∧ r.2.mem ((c.tc : Thread Cert.Ln2LossIdeal.nD Cert.Ln2LossIdeal.τ).loc Cert.Ln2LossIdeal.main_arg4) = m ((c.tc : Thread Cert.Ln2LossIdeal.nD Cert.Ln2LossIdeal.τ).loc Cert.Ln2LossIdeal.main_arg4)
          ∧ r.2.mem ((c.tc : Thread Cert.Ln2LossIdeal.nD Cert.Ln2LossIdeal.τ).loc Cert.Ln2LossIdeal.main_arg5) = m ((c.tc : Thread Cert.Ln2LossIdeal.nD Cert.Ln2LossIdeal.τ).loc Cert.Ln2LossIdeal.main_arg5)
          ∧ r.2.mem ((c.tc : Thread Cert.Ln2LossIdeal.nD Cert.Ln2LossIdeal.τ).loc Cert.Ln2LossIdeal.main_arg6) = m ((c.tc : Thread Cert.Ln2LossIdeal.nD Cert.Ln2LossIdeal.τ).loc Cert.Ln2LossIdeal.main_arg6))
      ∧ θ_run (Cert.Ln2LossRefIdeal.defs (F := Ideal)) (onTc (τ := Cert.Ln2LossRefIdeal.τ) (Cert.Ln2LossRefIdeal.main (F := Ideal))) ⟨m', fun _ => 0, g'⟩ (fun r => ∀ c : Dev Cert.Ln2LossRefIdeal.nD,
          r.2.mem ((c.tc : Thread Cert.Ln2LossRefIdeal.nD Cert.Ln2LossRefIdeal.τ).loc Cert.Ln2LossRefIdeal.main_v80) = v0 c
          ∧ r.2.mem ((c.tc : Thread Cert.Ln2LossRefIdeal.nD Cert.Ln2LossRefIdeal.τ).loc Cert.Ln2LossRefIdeal.main_v88) = v1 c
          ∧ r.2.mem ((c.tc : Thread Cert.Ln2LossRefIdeal.nD Cert.Ln2LossRefIdeal.τ).loc Cert.Ln2LossRefIdeal.main_v54) = v2 c
          ∧ r.2.mem ((c.tc : Thread Cert.Ln2LossRefIdeal.nD Cert.Ln2LossRefIdeal.τ).loc Cert.Ln2LossRefIdeal.main_v51) = v3 c
          ∧ r.2.mem ((c.tc : Thread Cert.Ln2LossRefIdeal.nD Cert.Ln2LossRefIdeal.τ).loc Cert.Ln2LossRefIdeal.main_v85) = v4 c
          ∧ r.2.mem ((c.tc : Thread Cert.Ln2LossRefIdeal.nD Cert.Ln2LossRefIdeal.τ).loc Cert.Ln2LossRefIdeal.main_v87) = v5 c
          ∧ r.2.mem ((c.tc : Thread Cert.Ln2LossRefIdeal.nD Cert.Ln2LossRefIdeal.τ).loc Cert.Ln2LossRefIdeal.main_v89) = v6 c
          ∧ r.2.mem ((c.tc : Thread Cert.Ln2LossRefIdeal.nD Cert.Ln2LossRefIdeal.τ).loc Cert.Ln2LossRefIdeal.main_arg0) = m' ((c.tc : Thread Cert.Ln2LossRefIdeal.nD Cert.Ln2LossRefIdeal.τ).loc Cert.Ln2LossRefIdeal.main_arg0)
          ∧ r.2.mem ((c.tc : Thread Cert.Ln2LossRefIdeal.nD Cert.Ln2LossRefIdeal.τ).loc Cert.Ln2LossRefIdeal.main_arg1) = m' ((c.tc : Thread Cert.Ln2LossRefIdeal.nD Cert.Ln2LossRefIdeal.τ).loc Cert.Ln2LossRefIdeal.main_arg1)
          ∧ r.2.mem ((c.tc : Thread Cert.Ln2LossRefIdeal.nD Cert.Ln2LossRefIdeal.τ).loc Cert.Ln2LossRefIdeal.main_arg2) = m' ((c.tc : Thread Cert.Ln2LossRefIdeal.nD Cert.Ln2LossRefIdeal.τ).loc Cert.Ln2LossRefIdeal.main_arg2)
          ∧ r.2.mem ((c.tc : Thread Cert.Ln2LossRefIdeal.nD Cert.Ln2LossRefIdeal.τ).loc Cert.Ln2LossRefIdeal.main_arg3) = m' ((c.tc : Thread Cert.Ln2LossRefIdeal.nD Cert.Ln2LossRefIdeal.τ).loc Cert.Ln2LossRefIdeal.main_arg3)
          ∧ r.2.mem ((c.tc : Thread Cert.Ln2LossRefIdeal.nD Cert.Ln2LossRefIdeal.τ).loc Cert.Ln2LossRefIdeal.main_arg4) = m' ((c.tc : Thread Cert.Ln2LossRefIdeal.nD Cert.Ln2LossRefIdeal.τ).loc Cert.Ln2LossRefIdeal.main_arg4)
          ∧ r.2.mem ((c.tc : Thread Cert.Ln2LossRefIdeal.nD Cert.Ln2LossRefIdeal.τ).loc Cert.Ln2LossRefIdeal.main_arg5) = m' ((c.tc : Thread Cert.Ln2LossRefIdeal.nD Cert.Ln2LossRefIdeal.τ).loc Cert.Ln2LossRefIdeal.main_arg5)
          ∧ r.2.mem ((c.tc : Thread Cert.Ln2LossRefIdeal.nD Cert.Ln2LossRefIdeal.τ).loc Cert.Ln2LossRefIdeal.main_arg6) = m' ((c.tc : Thread Cert.Ln2LossRefIdeal.nD Cert.Ln2LossRefIdeal.τ).loc Cert.Ln2LossRefIdeal.main_arg6))

def Claim : Prop :=
  ∃ (hGdnBwd : Cert.GdnBwd.Facts) (hGdnBwdIdeal : Cert.GdnBwdIdeal.Facts) (hGdnDvRefIdeal : Cert.GdnDvRefIdeal.Facts) (hMlp2Dx : Cert.Mlp2Dx.Facts) (hMlp2DxIdeal : Cert.Mlp2DxIdeal.Facts) (hMlp2DxRefIdeal : Cert.Mlp2DxRefIdeal.Facts) (hMlp2Dw : Cert.Mlp2Dw.Facts) (hMlp2DwIdeal : Cert.Mlp2DwIdeal.Facts) (hMlp2DwRefIdeal : Cert.Mlp2DwRefIdeal.Facts) (hMlp1Dx : Cert.Mlp1Dx.Facts) (hMlp1DxIdeal : Cert.Mlp1DxIdeal.Facts) (hMlp1DxRefIdeal : Cert.Mlp1DxRefIdeal.Facts) (hMlp1Dw : Cert.Mlp1Dw.Facts) (hMlp1DwIdeal : Cert.Mlp1DwIdeal.Facts) (hMlp1DwRefIdeal : Cert.Mlp1DwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hModDx : Cert.ModDx.Facts) (hModDxIdeal : Cert.ModDxIdeal.Facts) (hModDxRefIdeal : Cert.ModDxRefIdeal.Facts) (hModDw : Cert.ModDw.Facts) (hModDwIdeal : Cert.ModDwIdeal.Facts) (hModDwRefIdeal : Cert.ModDwRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hMlp1Fwd : Cert.Mlp1Fwd.Facts) (hMlp1FwdIdeal : Cert.Mlp1FwdIdeal.Facts) (hMlp1FwdRefIdeal : Cert.Mlp1FwdRefIdeal.Facts) (hMlp2Fwd : Cert.Mlp2Fwd.Facts) (hMlp2FwdIdeal : Cert.Mlp2FwdIdeal.Facts) (hMlp2FwdRefIdeal : Cert.Mlp2FwdRefIdeal.Facts) (hModFwd : Cert.ModFwd.Facts) (hModFwdIdeal : Cert.ModFwdIdeal.Facts) (hModFwdRefIdeal : Cert.ModFwdRefIdeal.Facts) (hLnInLat : Cert.LnInLat.Facts) (hLnInLatIdeal : Cert.LnInLatIdeal.Facts) (hLnInLatRefIdeal : Cert.LnInLatRefIdeal.Facts) (hLnInCtx : Cert.LnInCtx.Facts) (hLnInCtxIdeal : Cert.LnInCtxIdeal.Facts) (hLnInCtxRefIdeal : Cert.LnInCtxRefIdeal.Facts) (hLn1Bwd : Cert.Ln1Bwd.Facts) (hLn1BwdIdeal : Cert.Ln1BwdIdeal.Facts) (hLn1BwdRefIdeal : Cert.Ln1BwdRefIdeal.Facts) (hB1Grad : Cert.B1Grad.Facts) (hB1GradIdeal : Cert.B1GradIdeal.Facts) (hB1GradRefIdeal : Cert.B1GradRefIdeal.Facts) (hBmodGrad : Cert.BmodGrad.Facts) (hBmodGradIdeal : Cert.BmodGradIdeal.Facts) (hBmodGradRefIdeal : Cert.BmodGradRefIdeal.Facts) (hCctxGrad : Cert.CctxGrad.Facts) (hCctxGradIdeal : Cert.CctxGradIdeal.Facts) (hCctxGradRefIdeal : Cert.CctxGradRefIdeal.Facts) (hLnLatFwd : Cert.LnLatFwd.Facts) (hLnLatFwdIdeal : Cert.LnLatFwdIdeal.Facts) (hLnLatFwdRefIdeal : Cert.LnLatFwdRefIdeal.Facts) (hLnCtxFwd : Cert.LnCtxFwd.Facts) (hLnCtxFwdIdeal : Cert.LnCtxFwdIdeal.Facts) (hLnCtxFwdRefIdeal : Cert.LnCtxFwdRefIdeal.Facts) (hLn1Fwd : Cert.Ln1Fwd.Facts) (hLn1FwdIdeal : Cert.Ln1FwdIdeal.Facts) (hLn1FwdRefIdeal : Cert.Ln1FwdRefIdeal.Facts) (hConfFwd : Cert.ConfFwd.Facts) (hConfFwdIdeal : Cert.ConfFwdIdeal.Facts) (hConfFwdRefIdeal : Cert.ConfFwdRefIdeal.Facts) (hSiluC : Cert.SiluC.Facts) (hSiluCIdeal : Cert.SiluCIdeal.Facts) (hSiluCRefIdeal : Cert.SiluCRefIdeal.Facts) (hAdamMod : Cert.AdamMod.Facts) (hAdamModIdeal : Cert.AdamModIdeal.Facts) (hAdamModRefIdeal : Cert.AdamModRefIdeal.Facts) (hAdamMlp2 : Cert.AdamMlp2.Facts) (hAdamMlp2Ideal : Cert.AdamMlp2Ideal.Facts) (hAdamMlp2RefIdeal : Cert.AdamMlp2RefIdeal.Facts) (hAdamMlp1 : Cert.AdamMlp1.Facts) (hAdamMlp1Ideal : Cert.AdamMlp1Ideal.Facts) (hAdamMlp1RefIdeal : Cert.AdamMlp1RefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hAddWin : Cert.AddWin.Facts) (hAddWinIdeal : Cert.AddWinIdeal.Facts) (hAddWinRefIdeal : Cert.AddWinRefIdeal.Facts) (hSumSmall : Cert.SumSmall.Facts) (hSumSmallIdeal : Cert.SumSmallIdeal.Facts) (hSumSmallRefIdeal : Cert.SumSmallRefIdeal.Facts) (hSumCctx : Cert.SumCctx.Facts) (hSumCctxIdeal : Cert.SumCctxIdeal.Facts) (hSumCctxRefIdeal : Cert.SumCctxRefIdeal.Facts) (hLn2Loss : Cert.Ln2Loss.Facts) (hLn2LossIdeal : Cert.Ln2LossIdeal.Facts) (hLn2LossRefIdeal : Cert.Ln2LossRefIdeal.Facts) (hPre_saved : Cert.Pre_saved.Facts) (hPre_ln_in_finite : Cert.Pre_ln_in_finite.Facts) (hPre_ln1_finite : Cert.Pre_ln1_finite.Facts) (hPre_cctx_finite : Cert.Pre_cctx_finite.Facts) (hPre_ln2_finite : Cert.Pre_ln2_finite.Facts) (hOn_only_dv : Cert.On_only_dv.Facts),
    quiescent_GdnBwd (hGdnBwd := hGdnBwd)
    ∧ quiescent_GdnBwdIdeal (hGdnBwdIdeal := hGdnBwdIdeal)
    ∧ quiescent_GdnBwdIdeal_pre_saved (hGdnBwdIdeal := hGdnBwdIdeal) (hPre_saved := hPre_saved)
    ∧ quiescent_GdnDvRefIdeal (hGdnDvRefIdeal := hGdnDvRefIdeal)
    ∧ quiescent_GdnDvRefIdeal_pre_saved (hGdnDvRefIdeal := hGdnDvRefIdeal) (hPre_saved := hPre_saved)
    ∧ quiescent_Mlp2Dx (hMlp2Dx := hMlp2Dx)
    ∧ quiescent_Mlp2DxIdeal (hMlp2DxIdeal := hMlp2DxIdeal)
    ∧ quiescent_Mlp2DxRefIdeal (hMlp2DxRefIdeal := hMlp2DxRefIdeal)
    ∧ quiescent_Mlp2Dw (hMlp2Dw := hMlp2Dw)
    ∧ quiescent_Mlp2DwIdeal (hMlp2DwIdeal := hMlp2DwIdeal)
    ∧ quiescent_Mlp2DwRefIdeal (hMlp2DwRefIdeal := hMlp2DwRefIdeal)
    ∧ quiescent_Mlp1Dx (hMlp1Dx := hMlp1Dx)
    ∧ quiescent_Mlp1DxIdeal (hMlp1DxIdeal := hMlp1DxIdeal)
    ∧ quiescent_Mlp1DxRefIdeal (hMlp1DxRefIdeal := hMlp1DxRefIdeal)
    ∧ quiescent_Mlp1Dw (hMlp1Dw := hMlp1Dw)
    ∧ quiescent_Mlp1DwIdeal (hMlp1DwIdeal := hMlp1DwIdeal)
    ∧ quiescent_Mlp1DwRefIdeal (hMlp1DwRefIdeal := hMlp1DwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_ModDx (hModDx := hModDx)
    ∧ quiescent_ModDxIdeal (hModDxIdeal := hModDxIdeal)
    ∧ quiescent_ModDxRefIdeal (hModDxRefIdeal := hModDxRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Mlp1Fwd (hMlp1Fwd := hMlp1Fwd)
    ∧ quiescent_Mlp1FwdIdeal (hMlp1FwdIdeal := hMlp1FwdIdeal)
    ∧ quiescent_Mlp1FwdRefIdeal (hMlp1FwdRefIdeal := hMlp1FwdRefIdeal)
    ∧ quiescent_Mlp2Fwd (hMlp2Fwd := hMlp2Fwd)
    ∧ quiescent_Mlp2FwdIdeal (hMlp2FwdIdeal := hMlp2FwdIdeal)
    ∧ quiescent_Mlp2FwdRefIdeal (hMlp2FwdRefIdeal := hMlp2FwdRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_LnInLat (hLnInLat := hLnInLat)
    ∧ quiescent_LnInLatIdeal (hLnInLatIdeal := hLnInLatIdeal)
    ∧ quiescent_LnInLatIdeal_pre_ln_in_finite (hLnInLatIdeal := hLnInLatIdeal) (hPre_ln_in_finite := hPre_ln_in_finite)
    ∧ quiescent_LnInLatRefIdeal (hLnInLatRefIdeal := hLnInLatRefIdeal)
    ∧ quiescent_LnInLatRefIdeal_pre_ln_in_finite (hLnInLatRefIdeal := hLnInLatRefIdeal) (hPre_ln_in_finite := hPre_ln_in_finite)
    ∧ quiescent_LnInCtx (hLnInCtx := hLnInCtx)
    ∧ quiescent_LnInCtxIdeal (hLnInCtxIdeal := hLnInCtxIdeal)
    ∧ quiescent_LnInCtxRefIdeal (hLnInCtxRefIdeal := hLnInCtxRefIdeal)
    ∧ quiescent_Ln1Bwd (hLn1Bwd := hLn1Bwd)
    ∧ quiescent_Ln1BwdIdeal (hLn1BwdIdeal := hLn1BwdIdeal)
    ∧ quiescent_Ln1BwdIdeal_pre_ln1_finite (hLn1BwdIdeal := hLn1BwdIdeal) (hPre_ln1_finite := hPre_ln1_finite)
    ∧ quiescent_Ln1BwdRefIdeal (hLn1BwdRefIdeal := hLn1BwdRefIdeal)
    ∧ quiescent_Ln1BwdRefIdeal_pre_ln1_finite (hLn1BwdRefIdeal := hLn1BwdRefIdeal) (hPre_ln1_finite := hPre_ln1_finite)
    ∧ quiescent_B1Grad (hB1Grad := hB1Grad)
    ∧ quiescent_B1GradIdeal (hB1GradIdeal := hB1GradIdeal)
    ∧ quiescent_B1GradRefIdeal (hB1GradRefIdeal := hB1GradRefIdeal)
    ∧ quiescent_BmodGrad (hBmodGrad := hBmodGrad)
    ∧ quiescent_BmodGradIdeal (hBmodGradIdeal := hBmodGradIdeal)
    ∧ quiescent_BmodGradRefIdeal (hBmodGradRefIdeal := hBmodGradRefIdeal)
    ∧ quiescent_CctxGrad (hCctxGrad := hCctxGrad)
    ∧ quiescent_CctxGradIdeal (hCctxGradIdeal := hCctxGradIdeal)
    ∧ quiescent_CctxGradIdeal_pre_cctx_finite (hCctxGradIdeal := hCctxGradIdeal) (hPre_cctx_finite := hPre_cctx_finite)
    ∧ quiescent_CctxGradRefIdeal (hCctxGradRefIdeal := hCctxGradRefIdeal)
    ∧ quiescent_CctxGradRefIdeal_pre_cctx_finite (hCctxGradRefIdeal := hCctxGradRefIdeal) (hPre_cctx_finite := hPre_cctx_finite)
    ∧ quiescent_LnLatFwd (hLnLatFwd := hLnLatFwd)
    ∧ quiescent_LnLatFwdIdeal (hLnLatFwdIdeal := hLnLatFwdIdeal)
    ∧ quiescent_LnLatFwdRefIdeal (hLnLatFwdRefIdeal := hLnLatFwdRefIdeal)
    ∧ quiescent_LnCtxFwd (hLnCtxFwd := hLnCtxFwd)
    ∧ quiescent_LnCtxFwdIdeal (hLnCtxFwdIdeal := hLnCtxFwdIdeal)
    ∧ quiescent_LnCtxFwdRefIdeal (hLnCtxFwdRefIdeal := hLnCtxFwdRefIdeal)
    ∧ quiescent_Ln1Fwd (hLn1Fwd := hLn1Fwd)
    ∧ quiescent_Ln1FwdIdeal (hLn1FwdIdeal := hLn1FwdIdeal)
    ∧ quiescent_Ln1FwdRefIdeal (hLn1FwdRefIdeal := hLn1FwdRefIdeal)
    ∧ quiescent_ConfFwd (hConfFwd := hConfFwd)
    ∧ quiescent_ConfFwdIdeal (hConfFwdIdeal := hConfFwdIdeal)
    ∧ quiescent_ConfFwdRefIdeal (hConfFwdRefIdeal := hConfFwdRefIdeal)
    ∧ quiescent_SiluC (hSiluC := hSiluC)
    ∧ quiescent_SiluCIdeal (hSiluCIdeal := hSiluCIdeal)
    ∧ quiescent_SiluCRefIdeal (hSiluCRefIdeal := hSiluCRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamMlp2 (hAdamMlp2 := hAdamMlp2)
    ∧ quiescent_AdamMlp2Ideal (hAdamMlp2Ideal := hAdamMlp2Ideal)
    ∧ quiescent_AdamMlp2RefIdeal (hAdamMlp2RefIdeal := hAdamMlp2RefIdeal)
    ∧ quiescent_AdamMlp1 (hAdamMlp1 := hAdamMlp1)
    ∧ quiescent_AdamMlp1Ideal (hAdamMlp1Ideal := hAdamMlp1Ideal)
    ∧ quiescent_AdamMlp1RefIdeal (hAdamMlp1RefIdeal := hAdamMlp1RefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AddWin (hAddWin := hAddWin)
    ∧ quiescent_AddWinIdeal (hAddWinIdeal := hAddWinIdeal)
    ∧ quiescent_AddWinRefIdeal (hAddWinRefIdeal := hAddWinRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumCctx (hSumCctx := hSumCctx)
    ∧ quiescent_SumCctxIdeal (hSumCctxIdeal := hSumCctxIdeal)
    ∧ quiescent_SumCctxRefIdeal (hSumCctxRefIdeal := hSumCctxRefIdeal)
    ∧ quiescent_Ln2Loss (hLn2Loss := hLn2Loss)
    ∧ quiescent_Ln2LossIdeal (hLn2LossIdeal := hLn2LossIdeal)
    ∧ quiescent_Ln2LossIdeal_pre_ln2_finite (hLn2LossIdeal := hLn2LossIdeal) (hPre_ln2_finite := hPre_ln2_finite)
    ∧ quiescent_Ln2LossRefIdeal (hLn2LossRefIdeal := hLn2LossRefIdeal)
    ∧ quiescent_Ln2LossRefIdeal_pre_ln2_finite (hLn2LossRefIdeal := hLn2LossRefIdeal) (hPre_ln2_finite := hPre_ln2_finite)
    ∧ preserves_GdnBwd_GdnBwdIdeal
    ∧ algebraic_GdnBwdIdeal_GdnDvRefIdeal_on_only_dv_pre_saved (hGdnBwdIdeal := hGdnBwdIdeal) (hGdnDvRefIdeal := hGdnDvRefIdeal) (hPre_saved := hPre_saved) (hOn_only_dv := hOn_only_dv)
    ∧ preserves_Mlp2Dx_Mlp2DxIdeal
    ∧ algebraic_Mlp2DxIdeal_Mlp2DxRefIdeal (hMlp2DxIdeal := hMlp2DxIdeal) (hMlp2DxRefIdeal := hMlp2DxRefIdeal)
    ∧ preserves_Mlp2Dw_Mlp2DwIdeal
    ∧ algebraic_Mlp2DwIdeal_Mlp2DwRefIdeal (hMlp2DwIdeal := hMlp2DwIdeal) (hMlp2DwRefIdeal := hMlp2DwRefIdeal)
    ∧ preserves_Mlp1Dx_Mlp1DxIdeal
    ∧ algebraic_Mlp1DxIdeal_Mlp1DxRefIdeal (hMlp1DxIdeal := hMlp1DxIdeal) (hMlp1DxRefIdeal := hMlp1DxRefIdeal)
    ∧ preserves_Mlp1Dw_Mlp1DwIdeal
    ∧ algebraic_Mlp1DwIdeal_Mlp1DwRefIdeal (hMlp1DwIdeal := hMlp1DwIdeal) (hMlp1DwRefIdeal := hMlp1DwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_ModDx_ModDxIdeal
    ∧ algebraic_ModDxIdeal_ModDxRefIdeal (hModDxIdeal := hModDxIdeal) (hModDxRefIdeal := hModDxRefIdeal)
    ∧ preserves_ModDw_ModDwIdeal
    ∧ algebraic_ModDwIdeal_ModDwRefIdeal (hModDwIdeal := hModDwIdeal) (hModDwRefIdeal := hModDwRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Mlp1Fwd_Mlp1FwdIdeal
    ∧ algebraic_Mlp1FwdIdeal_Mlp1FwdRefIdeal (hMlp1FwdIdeal := hMlp1FwdIdeal) (hMlp1FwdRefIdeal := hMlp1FwdRefIdeal)
    ∧ preserves_Mlp2Fwd_Mlp2FwdIdeal
    ∧ algebraic_Mlp2FwdIdeal_Mlp2FwdRefIdeal (hMlp2FwdIdeal := hMlp2FwdIdeal) (hMlp2FwdRefIdeal := hMlp2FwdRefIdeal)
    ∧ preserves_ModFwd_ModFwdIdeal
    ∧ algebraic_ModFwdIdeal_ModFwdRefIdeal (hModFwdIdeal := hModFwdIdeal) (hModFwdRefIdeal := hModFwdRefIdeal)
    ∧ preserves_LnInLat_LnInLatIdeal
    ∧ algebraic_LnInLatIdeal_LnInLatRefIdeal_pre_ln_in_finite (hLnInLatIdeal := hLnInLatIdeal) (hLnInLatRefIdeal := hLnInLatRefIdeal) (hPre_ln_in_finite := hPre_ln_in_finite)
    ∧ preserves_LnInCtx_LnInCtxIdeal
    ∧ algebraic_LnInCtxIdeal_LnInCtxRefIdeal (hLnInCtxIdeal := hLnInCtxIdeal) (hLnInCtxRefIdeal := hLnInCtxRefIdeal)
    ∧ preserves_Ln1Bwd_Ln1BwdIdeal
    ∧ algebraic_Ln1BwdIdeal_Ln1BwdRefIdeal_pre_ln1_finite (hLn1BwdIdeal := hLn1BwdIdeal) (hLn1BwdRefIdeal := hLn1BwdRefIdeal) (hPre_ln1_finite := hPre_ln1_finite)
    ∧ preserves_B1Grad_B1GradIdeal
    ∧ algebraic_B1GradIdeal_B1GradRefIdeal (hB1GradIdeal := hB1GradIdeal) (hB1GradRefIdeal := hB1GradRefIdeal)
    ∧ preserves_BmodGrad_BmodGradIdeal
    ∧ algebraic_BmodGradIdeal_BmodGradRefIdeal (hBmodGradIdeal := hBmodGradIdeal) (hBmodGradRefIdeal := hBmodGradRefIdeal)
    ∧ preserves_CctxGrad_CctxGradIdeal
    ∧ algebraic_CctxGradIdeal_CctxGradRefIdeal_pre_cctx_finite (hCctxGradIdeal := hCctxGradIdeal) (hCctxGradRefIdeal := hCctxGradRefIdeal) (hPre_cctx_finite := hPre_cctx_finite)
    ∧ preserves_LnLatFwd_LnLatFwdIdeal
    ∧ algebraic_LnLatFwdIdeal_LnLatFwdRefIdeal (hLnLatFwdIdeal := hLnLatFwdIdeal) (hLnLatFwdRefIdeal := hLnLatFwdRefIdeal)
    ∧ preserves_LnCtxFwd_LnCtxFwdIdeal
    ∧ algebraic_LnCtxFwdIdeal_LnCtxFwdRefIdeal (hLnCtxFwdIdeal := hLnCtxFwdIdeal) (hLnCtxFwdRefIdeal := hLnCtxFwdRefIdeal)
    ∧ preserves_Ln1Fwd_Ln1FwdIdeal
    ∧ algebraic_Ln1FwdIdeal_Ln1FwdRefIdeal (hLn1FwdIdeal := hLn1FwdIdeal) (hLn1FwdRefIdeal := hLn1FwdRefIdeal)
    ∧ preserves_ConfFwd_ConfFwdIdeal
    ∧ algebraic_ConfFwdIdeal_ConfFwdRefIdeal (hConfFwdIdeal := hConfFwdIdeal) (hConfFwdRefIdeal := hConfFwdRefIdeal)
    ∧ preserves_SiluC_SiluCIdeal
    ∧ algebraic_SiluCIdeal_SiluCRefIdeal (hSiluCIdeal := hSiluCIdeal) (hSiluCRefIdeal := hSiluCRefIdeal)
    ∧ preserves_AdamMod_AdamModIdeal
    ∧ algebraic_AdamModIdeal_AdamModRefIdeal (hAdamModIdeal := hAdamModIdeal) (hAdamModRefIdeal := hAdamModRefIdeal)
    ∧ preserves_AdamMlp2_AdamMlp2Ideal
    ∧ algebraic_AdamMlp2Ideal_AdamMlp2RefIdeal (hAdamMlp2Ideal := hAdamMlp2Ideal) (hAdamMlp2RefIdeal := hAdamMlp2RefIdeal)
    ∧ preserves_AdamMlp1_AdamMlp1Ideal
    ∧ algebraic_AdamMlp1Ideal_AdamMlp1RefIdeal (hAdamMlp1Ideal := hAdamMlp1Ideal) (hAdamMlp1RefIdeal := hAdamMlp1RefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddWin_AddWinIdeal
    ∧ algebraic_AddWinIdeal_AddWinRefIdeal (hAddWinIdeal := hAddWinIdeal) (hAddWinRefIdeal := hAddWinRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumCctx_SumCctxIdeal
    ∧ algebraic_SumCctxIdeal_SumCctxRefIdeal (hSumCctxIdeal := hSumCctxIdeal) (hSumCctxRefIdeal := hSumCctxRefIdeal)
    ∧ preserves_Ln2Loss_Ln2LossIdeal
    ∧ algebraic_Ln2LossIdeal_Ln2LossRefIdeal_pre_ln2_finite (hLn2LossIdeal := hLn2LossIdeal) (hLn2LossRefIdeal := hLn2LossRefIdeal) (hPre_ln2_finite := hPre_ln2_finite)
-- ==== On_only_dv.lean ====
abbrev S3x16x4352x128 : Shape := ⟨4, ![3, 16, 4352, 128]⟩
abbrev S2x4352x128 : Shape := ⟨3, ![2, 4352, 128]⟩
abbrev S2x68x16x128x128 : Shape := ⟨5, ![2, 68, 16, 128, 128]⟩
abbrev S2x68x16x64x64 : Shape := ⟨5, ![2, 68, 16, 64, 64]⟩
abbrev S2x16x4352x128 : Shape := ⟨4, ![2, 16, 4352, 128]⟩
abbrev S16x4096x128 : Shape := ⟨3, ![16, 4096, 128]⟩
abbrev S2x3x16x4352x128 : Shape := ⟨5, ![2, 3, 16, 4352, 128]⟩
abbrev S_ : Shape := ⟨0, ![]⟩

class Facts : Prop where
  bcast_S_S2x3x16x4352x128 : S_.BroadcastsInDim S2x3x16x4352x128 (![] : Fin 0 → Fin S2x3x16x4352x128.rank)
  bcast_S_S2x4352x128 : S_.BroadcastsInDim S2x4352x128 (![] : Fin 0 → Fin S2x4352x128.rank)

variable [Facts]

def fn {F : FTy → Type} [FloatOps F] (main_arg0 : FVec F S3x16x4352x128 .f32) (main_arg1 : FVec F S2x4352x128 .f32) (main_arg2 : FVec F S2x68x16x128x128 .f32) (main_arg3 : FVec F S2x68x16x64x64 .f32) (main_arg4 : FVec F S2x16x4352x128 .f32) (main_arg5 : FVec F S2x16x4352x128 .f32) (main_arg6 : FVec F S16x4096x128 .f32) : IVec S2x3x16x4352x128 1 × IVec S2x4352x128 1 :=
  let main_v0 : IVec S2x3x16x4352x128 32 := iotaInDim S2x3x16x4352x128 32 1
  let main_c : IVec S_ 32 := constantI S_ 32 2#32
  let main_v1 : IVec S2x3x16x4352x128 32 := broadcastInDim S2x3x16x4352x128 ![] bcast_S_S2x3x16x4352x128 main_c
  let main_v2 : IVec S2x3x16x4352x128 1 := cmpi .eq main_v0 main_v1
  let main_c_0 : IVec S_ 1 := constantI S_ 1 0#1
  let main_v3 : IVec S2x4352x128 1 := broadcastInDim S2x4352x128 ![] bcast_S_S2x4352x128 main_c_0
  (main_v2, main_v3)
-- ==== Pre_cctx_finite.lean ====
abbrev S1x4096 : Shape := ⟨2, ![1, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel

variable [Facts]

def fn {F : FTy → Type} [FloatOps F] (main_arg0 : FVec F S1x4096 .f32) (main_arg1 : FVec F S1x4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  main_v8
-- ==== Pre_ln1_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg5 : FVec F S1x4096 .f32) (main_arg7 : FVec F S1x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1x4096 .f32 := Host.absf main_arg7
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S1x4096 .f32) (main_arg5 : FVec F S1x4096 .f32) (main_arg6 : FVec F S1x4096 .f32) (main_arg7 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg7 main_v13 main_v16
-- ==== Pre_ln2_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg5 : FVec F S1x4096 .f32) (main_arg6 : FVec F S1x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S1x4096 .f32) (main_arg4 : FVec F S1x4096 .f32) (main_arg5 : FVec F S1x4096 .f32) (main_arg6 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_v13 main_v16
-- ==== Pre_ln_in_finite.lean ====
abbrev S4096x4096 : Shape := ⟨2, ![4096, 4096]⟩
abbrev S4352x4096 : Shape := ⟨2, ![4352, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4352x4096 : S_.BroadcastsInDim S4352x4096 (![] : Fin 0 → Fin S4352x4096.rank)
  reducesTo_S4352x4096_S_d0_1 : S4352x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg5 : FVec F S1x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  main_v28

def fn {F : FTy → Type} [FloatOps F] (main_arg0 : FVec F S4096x4096 .f32) (main_arg1 : FVec F S4096x4096 .f32) (main_arg2 : FVec F S4352x4096 .f32) (main_arg3 : FVec F S1x4096 .f32) (main_arg4 : FVec F S1x4096 .f32) (main_arg5 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4352x4096 .f32 := Host.absf main_arg2
  let main_cst_2 : FVec F S_ .f32 := constant S_ .f32 0x7F800000#32
  let main_v10 : FVec F S4352x4096 .f32 := broadcastInDim S4352x4096 ![] bcast_S_S4352x4096 main_cst_2
  let main_v11 : IVec S4352x4096 1 := cmpf .olt main_v9 main_v10
  let main_c_3 : IVec S_ 1 := constantI S_ 1 1#1
  let main_v12 : IVec S_ 1 := (fun x v => Host.reduce IntOp.andi x v reducesTo_S4352x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_v13 main_v16
-- ==== Pre_saved.lean ====
abbrev S3x16x4352x128 : Shape := ⟨4, ![3, 16, 4352, 128]⟩
abbrev S2x4352x128 : Shape := ⟨3, ![2, 4352, 128]⟩
abbrev S2x68x16x128x128 : Shape := ⟨5, ![2, 68, 16, 128, 128]⟩
abbrev S2x68x16x64x64 : Shape := ⟨5, ![2, 68, 16, 64, 64]⟩
abbrev S2x16x4352x128 : Shape := ⟨4, ![2, 16, 4352, 128]⟩
abbrev S16x4096x128 : Shape := ⟨3, ![16, 4096, 128]⟩
abbrev S_ : Shape := ⟨0, ![]⟩
abbrev S64x64 : Shape := ⟨2, ![64, 64]⟩
abbrev S1x64x64 : Shape := ⟨3, ![1, 64, 64]⟩
abbrev S2x64x64 : Shape := ⟨3, ![2, 64, 64]⟩
abbrev S1x16x4352x128 : Shape := ⟨4, ![1, 16, 4352, 128]⟩
abbrev S16x4352x128 : Shape := ⟨3, ![16, 4352, 128]⟩
abbrev S16x68x64x128 : Shape := ⟨4, ![16, 68, 64, 128]⟩
abbrev S2x4352x16 : Shape := ⟨3, ![2, 4352, 16]⟩
abbrev S2x68x64x16 : Shape := ⟨4, ![2, 68, 64, 16]⟩
abbrev S2x1x1x64x64 : Shape := ⟨5, ![2, 1, 1, 64, 64]⟩
abbrev S2x68x16x64 : Shape := ⟨4, ![2, 68, 16, 64]⟩
abbrev S2x68x16x1x64 : Shape := ⟨5, ![2, 68, 16, 1, 64]⟩
abbrev S68x16x64x64 : Shape := ⟨4, ![68, 16, 64, 64]⟩
abbrev S2x68x16x64x1 : Shape := ⟨5, ![2, 68, 16, 64, 1]⟩
abbrev S1x68x16x64x64 : Shape := ⟨5, ![1, 68, 16, 64, 64]⟩
abbrev S1x64x16x64x64 : Shape := ⟨5, ![1, 64, 16, 64, 64]⟩
abbrev S64x16x64x64 : Shape := ⟨4, ![64, 16, 64, 64]⟩
abbrev S1x4x16x64x64 : Shape := ⟨5, ![1, 4, 16, 64, 64]⟩
abbrev S4x16x64x64 : Shape := ⟨4, ![4, 16, 64, 64]⟩
abbrev S1x1x1x64x64 : Shape := ⟨5, ![1, 1, 1, 64, 64]⟩
abbrev S1x16x68x64x128 : Shape := ⟨5, ![1, 16, 68, 64, 128]⟩
abbrev S2x16x68x64 : Shape := ⟨4, ![2, 16, 68, 64]⟩
abbrev S2x16x68x64x1 : Shape := ⟨5, ![2, 16, 68, 64, 1]⟩
abbrev S2x16x68x64x128 : Shape := ⟨5, ![2, 16, 68, 64, 128]⟩

class Facts : Prop where
  bcast_S_S3x16x4352x128 : S_.BroadcastsInDim S3x16x4352x128 (![] : Fin 0 → Fin S3x16x4352x128.rank)
  reducesTo_S3x16x4352x128_S_d0_1_2_3 : S3x16x4352x128.ReducesTo [0, 1, 2, 3] S_
  h_S_ : 0 < S_.numel
  bcast_S_S2x4352x128 : S_.BroadcastsInDim S2x4352x128 (![] : Fin 0 → Fin S2x4352x128.rank)
  reducesTo_S2x4352x128_S_d0_1_2 : S2x4352x128.ReducesTo [0, 1, 2] S_
  bcast_S_S2x68x16x64x64 : S_.BroadcastsInDim S2x68x16x64x64 (![] : Fin 0 → Fin S2x68x16x64x64.rank)
  reducesTo_S2x68x16x64x64_S_d0_1_2_3_4 : S2x68x16x64x64.ReducesTo [0, 1, 2, 3, 4] S_
  bcast_S_S2x16x4352x128 : S_.BroadcastsInDim S2x16x4352x128 (![] : Fin 0 → Fin S2x16x4352x128.rank)
  reducesTo_S2x16x4352x128_S_d0_1_2_3 : S2x16x4352x128.ReducesTo [0, 1, 2, 3] S_
  bcast_S_S16x4096x128 : S_.BroadcastsInDim S16x4096x128 (![] : Fin 0 → Fin S16x4096x128.rank)
  reducesTo_S16x4096x128_S_d0_1_2 : S16x4096x128.ReducesTo [0, 1, 2] S_
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  slices_S3x16x4352x128_S1x16x4352x128_1_0_0_0 : S3x16x4352x128.Slices ![1, 0, 0, 0] S1x16x4352x128
  shapeCasts_S1x16x4352x128_S16x4352x128 : S1x16x4352x128.ShapeCasts S16x4352x128
  shapeCasts_S16x4352x128_S16x68x64x128 : S16x4352x128.ShapeCasts S16x68x64x128
  slices_S2x4352x128_S2x4352x16_0_0_0 : S2x4352x128.Slices ![0, 0, 0] S2x4352x16
  shapeCasts_S2x4352x16_S2x68x64x16 : S2x4352x16.ShapeCasts S2x68x64x16
  slices_S2x4352x128_S2x4352x16_0_0_16 : S2x4352x128.Slices ![0, 0, 16] S2x4352x16
  bcast_S2x64x64_S2x1x1x64x64_0_3_4 : S2x64x64.BroadcastsInDim S2x1x1x64x64 (![0, 3, 4] : Fin 3 → Fin S2x1x1x64x64.rank)
  transposes_S2x68x64x16_S2x68x16x64_0_1_3_2 : S2x68x64x16.Transposes [0, 1, 3, 2] S2x68x16x64
  bcast_S2x68x16x64_S2x68x16x1x64_0_1_2_4 : S2x68x16x64.BroadcastsInDim S2x68x16x1x64 (![0, 1, 2, 4] : Fin 4 → Fin S2x68x16x1x64.rank)
  bcast_S2x1x1x64x64_S2x68x16x64x64_0_1_2_3_4 : S2x1x1x64x64.BroadcastsInDim S2x68x16x64x64 (![0, 1, 2, 3, 4] : Fin 5 → Fin S2x68x16x64x64.rank)
  bcast_S2x68x16x1x64_S2x68x16x64x64_0_1_2_3_4 : S2x68x16x1x64.BroadcastsInDim S2x68x16x64x64 (![0, 1, 2, 3, 4] : Fin 5 → Fin S2x68x16x64x64.rank)
  reducesTo_S2x68x16x64x64_S2x68x16x64_d4 : S2x68x16x64x64.ReducesTo [4] S2x68x16x64
  bcast_S1x64x64_S2x64x64_0_1_2 : S1x64x64.BroadcastsInDim S2x64x64 (![0, 1, 2] : Fin 3 → Fin S2x64x64.rank)
  bcast_S2x68x16x64_S2x68x16x64x1_0_1_2_3 : S2x68x16x64.BroadcastsInDim S2x68x16x64x1 (![0, 1, 2, 3] : Fin 4 → Fin S2x68x16x64x1.rank)
  bcast_S2x68x16x64x1_S2x68x16x64x64_0_1_2_3_4 : S2x68x16x64x1.BroadcastsInDim S2x68x16x64x64 (![0, 1, 2, 3, 4] : Fin 5 → Fin S2x68x16x64x64.rank)
  bcast_S68x16x64x64_S1x68x16x64x64_1_2_3_4 : S68x16x64x64.BroadcastsInDim S1x68x16x64x64 (![1, 2, 3, 4] : Fin 4 → Fin S1x68x16x64x64.rank)
  bcast_S1x68x16x64x64_S2x68x16x64x64_0_1_2_3_4 : S1x68x16x64x64.BroadcastsInDim S2x68x16x64x64 (![0, 1, 2, 3, 4] : Fin 5 → Fin S2x68x16x64x64.rank)
  bcast_S_S64x64 : S_.BroadcastsInDim S64x64 (![] : Fin 0 → Fin S64x64.rank)
  slices_S2x68x16x64x64_S1x64x16x64x64_0_4_0_0_0 : S2x68x16x64x64.Slices ![0, 4, 0, 0, 0] S1x64x16x64x64
  shapeCasts_S1x64x16x64x64_S64x16x64x64 : S1x64x16x64x64.ShapeCasts S64x16x64x64
  slices_S2x68x16x64x64_S1x4x16x64x64_0_0_0_0_0 : S2x68x16x64x64.Slices ![0, 0, 0, 0, 0] S1x4x16x64x64
  shapeCasts_S1x4x16x64x64_S4x16x64x64 : S1x4x16x64x64.ShapeCasts S4x16x64x64
  concatenates_S64x16x64x64_S4x16x64x64_S68x16x64x64_d0 : Shape.Concatenates [S64x16x64x64, S4x16x64x64] S68x16x64x64 0
  slices_S2x68x16x64x64_S1x68x16x64x64_1_0_0_0_0 : S2x68x16x64x64.Slices ![1, 0, 0, 0, 0] S1x68x16x64x64
  shapeCasts_S1x68x16x64x64_S68x16x64x64 : S1x68x16x64x64.ShapeCasts S68x16x64x64
  concatenates_S1x68x16x64x64_S1x68x16x64x64_S2x68x16x64x64_d0 : Shape.Concatenates [S1x68x16x64x64, S1x68x16x64x64] S2x68x16x64x64 0
  bcast_S64x64_S1x1x1x64x64_3_4 : S64x64.BroadcastsInDim S1x1x1x64x64 (![3, 4] : Fin 2 → Fin S1x1x1x64x64.rank)
  bcast_S1x1x1x64x64_S2x68x16x64x64_0_1_2_3_4 : S1x1x1x64x64.BroadcastsInDim S2x68x16x64x64 (![0, 1, 2, 3, 4] : Fin 5 → Fin S2x68x16x64x64.rank)
  bcast_S16x68x64x128_S1x16x68x64x128_1_2_3_4 : S16x68x64x128.BroadcastsInDim S1x16x68x64x128 (![1, 2, 3, 4] : Fin 4 → Fin S1x16x68x64x128.rank)
  transposes_S2x68x16x64_S2x68x64x16_0_1_3_2 : S2x68x16x64.Transposes [0, 1, 3, 2] S2x68x64x16
  transposes_S2x68x64x16_S2x16x68x64_0_3_1_2 : S2x68x64x16.Transposes [0, 3, 1, 2] S2x16x68x64
  bcast_S2x16x68x64_S2x16x68x64x1_0_1_2_3 : S2x16x68x64.BroadcastsInDim S2x16x68x64x1 (![0, 1, 2, 3] : Fin 4 → Fin S2x16x68x64x1.rank)
  bcast_S1x16x68x64x128_S2x16x68x64x128_0_1_2_3_4 : S1x16x68x64x128.BroadcastsInDim S2x16x68x64x128 (![0, 1, 2, 3, 4] : Fin 5 → Fin S2x16x68x64x128.rank)
  bcast_S2x16x68x64x1_S2x16x68x64x128_0_1_2_3_4 : S2x16x68x64x1.BroadcastsInDim S2x16x68x64x128 (![0, 1, 2, 3, 4] : Fin 5 → Fin S2x16x68x64x128.rank)
  shapeCasts_S2x16x4352x128_S2x16x68x64x128 : S2x16x4352x128.ShapeCasts S2x16x68x64x128
  reducesTo_S2x16x68x64x128_S_d0_1_2_3_4 : S2x16x68x64x128.ReducesTo [0, 1, 2, 3, 4] S_
  dot_S16x68x64x128_S16x68x64x128_S68x16x64x64_3_3_2_2_10_10_wf : DotDims.WF S16x68x64x128 S16x68x64x128 S68x16x64x64 [3] [3] [2] [2] [1, 0] [1, 0]
  dot_S2x68x16x64x64_S2x68x16x64x64_S2x68x16x64x64_4_3_3_4_012_012_wf : DotDims.WF S2x68x16x64x64 S2x68x16x64x64 S2x68x16x64x64 [4] [3] [3] [4] [0, 1, 2] [0, 1, 2]
  dot_S2x68x16x64x64_S2x16x68x64x128_S2x16x68x64x128_4_3_3_4_021_012_wf : DotDims.WF S2x68x16x64x64 S2x16x68x64x128 S2x16x68x64x128 [4] [3] [3] [4] [0, 2, 1] [0, 1, 2]

variable [Facts]

def dot_S16x68x64x128_S16x68x64x128_S68x16x64x64_3_3_2_2_10_10 : DotDims S16x68x64x128 S16x68x64x128 S68x16x64x64 where
  lhsContracting := [3]
  rhsContracting := [3]
  lhsNonContracting := [2]
  rhsNonContracting := [2]
  lhsBatch := [1, 0]
  rhsBatch := [1, 0]
  wf := dot_S16x68x64x128_S16x68x64x128_S68x16x64x64_3_3_2_2_10_10_wf
def dot_S2x68x16x64x64_S2x68x16x64x64_S2x68x16x64x64_4_3_3_4_012_012 : DotDims S2x68x16x64x64 S2x68x16x64x64 S2x68x16x64x64 where
  lhsContracting := [4]
  rhsContracting := [3]
  lhsNonContracting := [3]
  rhsNonContracting := [4]
  lhsBatch := [0, 1, 2]
  rhsBatch := [0, 1, 2]
  wf := dot_S2x68x16x64x64_S2x68x16x64x64_S2x68x16x64x64_4_3_3_4_012_012_wf
def dot_S2x68x16x64x64_S2x16x68x64x128_S2x16x68x64x128_4_3_3_4_021_012 : DotDims S2x68x16x64x64 S2x16x68x64x128 S2x16x68x64x128 where
  lhsContracting := [4]
  rhsContracting := [3]
  lhsNonContracting := [3]
  rhsNonContracting := [4]
  lhsBatch := [0, 2, 1]
  rhsBatch := [0, 1, 2]
  wf := dot_S2x68x16x64x64_S2x16x68x64x128_S2x16x68x64x128_4_3_3_4_021_012_wf
def fn_where {F : FTy → Type} [FloatOps F] (arg0 : IVec S2x1x1x64x64 1) (arg1 : FVec F S2x68x16x1x64 .f32) (arg2 : FVec F S_ .f32) : FVec F S2x68x16x64x64 .f32 :=
  let v0 : FVec F S_ .f32 := id arg2
  let v1 : IVec S2x68x16x64x64 1 := broadcastInDim S2x68x16x64x64 ![0, 1, 2, 3, 4] bcast_S2x1x1x64x64_S2x68x16x64x64_0_1_2_3_4 arg0
  let v2 : FVec F S2x68x16x64x64 .f32 := broadcastInDim S2x68x16x64x64 ![0, 1, 2, 3, 4] bcast_S2x68x16x1x64_S2x68x16x64x64_0_1_2_3_4 arg1
  let v3 : FVec F S2x68x16x64x64 .f32 := broadcastInDim S2x68x16x64x64 ![] bcast_S_S2x68x16x64x64 v0
  let v4 : FVec F S2x68x16x64x64 .f32 := select v1 v2 v3
  v4

def fn_where_0 {F : FTy → Type} [FloatOps F] (arg0 : IVec S2x1x1x64x64 1) (arg1 : FVec F S2x68x16x64x64 .f32) (arg2 : FVec F S_ .f32) : FVec F S2x68x16x64x64 .f32 :=
  let v0 : FVec F S_ .f32 := id arg2
  let v1 : IVec S2x68x16x64x64 1 := broadcastInDim S2x68x16x64x64 ![0, 1, 2, 3, 4] bcast_S2x1x1x64x64_S2x68x16x64x64_0_1_2_3_4 arg0
  let v2 : FVec F S2x68x16x64x64 .f32 := broadcastInDim S2x68x16x64x64 ![] bcast_S_S2x68x16x64x64 v0
  let v3 : FVec F S2x68x16x64x64 .f32 := select v1 arg1 v2
  v3

def fn_where_1 {F : FTy → Type} [FloatOps F] (arg0 : IVec S64x64 1) (arg1 : FVec F S_ .f32) (arg2 : FVec F S_ .f32) : FVec F S64x64 .f32 :=
  let v0 : FVec F S64x64 .f32 := broadcastInDim S64x64 ![] bcast_S_S64x64 arg1
  let v1 : FVec F S64x64 .f32 := broadcastInDim S64x64 ![] bcast_S_S64x64 arg2
  let v2 : FVec F S64x64 .f32 := select arg0 v0 v1
  v2

def fn_part4 {F : FTy → Type} [FloatOps F] (main_arg5 : FVec F S2x16x4352x128 .f32) (main_v23 : IVec S_ 1) (main_v33 : FVec F S16x68x64x128 .f32) (main_v37 : FVec F S2x68x64x16 .f32) (main_v42 : FVec F S2x68x16x64 .f32) (main_v75 : FVec F S2x68x16x64x64 .f32) (main_v77 : FVec F S2x68x16x64x64 .f32) (main_v80 : FVec F S2x68x16x64x64 .f32) : IVec S_ 1 :=
  let main_v81 : IVec S2x68x16x64x64 1 := cmpf .oeq main_v77 main_v80
  let main_c_13 : IVec S_ 1 := constantI S_ 1 1#1
  let main_v82 : IVec S_ 1 := (fun x v => Host.reduce IntOp.andi x v reducesTo_S2x68x16x64x64_S_d0_1_2_3_4 h_S_) main_v81 main_c_13
  let main_v83 : FVec F S1x16x68x64x128 .f32 := broadcastInDim S1x16x68x64x128 ![1, 2, 3, 4] bcast_S16x68x64x128_S1x16x68x64x128_1_2_3_4 main_v33
  let main_v84 : FVec F S2x68x64x16 .f32 := (transpose S2x68x64x16 [0, 1, 3, 2] · transposes_S2x68x16x64_S2x68x64x16_0_1_3_2) main_v42
  let main_v85 : FVec F S2x68x64x16 .f32 := Host.exp main_v84
  let main_v86 : FVec F S2x68x64x16 .f32 := mulf main_v37 main_v85
  let main_v87 : FVec F S2x16x68x64 .f32 := (transpose S2x16x68x64 [0, 3, 1, 2] · transposes_S2x68x64x16_S2x16x68x64_0_3_1_2) main_v86
  let main_v88 : FVec F S2x16x68x64x1 .f32 := broadcastInDim S2x16x68x64x1 ![0, 1, 2, 3] bcast_S2x16x68x64_S2x16x68x64x1_0_1_2_3 main_v87
  let main_v89 : FVec F S2x16x68x64x128 .f32 := broadcastInDim S2x16x68x64x128 ![0, 1, 2, 3, 4] bcast_S1x16x68x64x128_S2x16x68x64x128_0_1_2_3_4 main_v83
  let main_v90 : FVec F S2x16x68x64x128 .f32 := broadcastInDim S2x16x68x64x128 ![0, 1, 2, 3, 4] bcast_S2x16x68x64x1_S2x16x68x64x128_0_1_2_3_4 main_v88
  let main_v91 : FVec F S2x16x68x64x128 .f32 := mulf main_v89 main_v90
  let main_v92 : FVec F S2x16x68x64x128 .f32 := shapeCast S2x16x68x64x128 main_arg5 shapeCasts_S2x16x4352x128_S2x16x68x64x128
  let main_v93 : FVec F S2x16x68x64x128 .f32 := (fun l r => Host.dotGeneral dot_S2x68x16x64x64_S2x16x68x64x128_S2x16x68x64x128_4_3_3_4_021_012 none l r) main_v75 main_v91
  let main_v94 : IVec S2x16x68x64x128 1 := cmpf .oeq main_v92 main_v93
  let main_c_14 : IVec S_ 1 := constantI S_ 1 1#1
  let main_v95 : IVec S_ 1 := (fun x v => Host.reduce IntOp.andi x v reducesTo_S2x16x68x64x128_S_d0_1_2_3_4 h_S_) main_v94 main_c_14
  let main_v96 : IVec S_ 1 := andi main_v23 main_v82
  let main_v97 : IVec S_ 1 := andi main_v96 main_v95
  main_v97

def fn_part3 {F : FTy → Type} [FloatOps F] (main_arg3 : FVec F S2x68x16x64x64 .f32) (main_arg5 : FVec F S2x16x4352x128 .f32) (main_v23 : IVec S_ 1) (main_v24 : IVec S64x64 32) (main_v25 : IVec S64x64 32) (main_v33 : FVec F S16x68x64x128 .f32) (main_v37 : FVec F S2x68x64x16 .f32) (main_v42 : FVec F S2x68x16x64 .f32) (main_v48 : IVec S2x1x1x64x64 1) (main_v57 : FVec F S2x68x16x64x64 .f32) (main_v59 : FVec F S2x68x16x64x1 .f32) : IVec S_ 1 :=
  let main_v60 : FVec F S2x68x16x64x64 .f32 := broadcastInDim S2x68x16x64x64 ![0, 1, 2, 3, 4] bcast_S2x68x16x64x1_S2x68x16x64x64_0_1_2_3_4 main_v59
  let main_v61 : FVec F S2x68x16x64x64 .f32 := mulf main_v57 main_v60
  let main_cst_10 : FVec F S_ .f32 := constant S_ .f32 0x00000000#32
  let main_v62 : FVec F S2x68x16x64x64 .f32 := fn_where_0 (F := F) main_v48 main_v61 main_cst_10
  let main_v63 : IVec S64x64 1 := cmpi .eq main_v24 main_v25
  let main_cst_11 : FVec F S_ .f32 := constant S_ .f32 0x3F800000#32
  let main_cst_12 : FVec F S_ .f32 := constant S_ .f32 0x00000000#32
  let main_v64 : FVec F S64x64 .f32 := fn_where_1 (F := F) main_v63 main_cst_11 main_cst_12
  let main_v65 : FVec F S1x64x16x64x64 .f32 := (extractStridedSlice S1x64x16x64x64 ![0, 4, 0, 0, 0] · slices_S2x68x16x64x64_S1x64x16x64x64_0_4_0_0_0) main_arg3
  let main_v66 : FVec F S64x16x64x64 .f32 := shapeCast S64x16x64x64 main_v65 shapeCasts_S1x64x16x64x64_S64x16x64x64
  let main_v67 : FVec F S1x4x16x64x64 .f32 := (extractStridedSlice S1x4x16x64x64 ![0, 0, 0, 0, 0] · slices_S2x68x16x64x64_S1x4x16x64x64_0_0_0_0_0) main_arg3
  let main_v68 : FVec F S4x16x64x64 .f32 := shapeCast S4x16x64x64 main_v67 shapeCasts_S1x4x16x64x64_S4x16x64x64
  let main_v69 : FVec F S68x16x64x64 .f32 := (fun a b => concatenate S68x16x64x64 0 [⟨S64x16x64x64, a⟩, ⟨S4x16x64x64, b⟩] concatenates_S64x16x64x64_S4x16x64x64_S68x16x64x64_d0) main_v66 main_v68
  let main_v70 : FVec F S1x68x16x64x64 .f32 := (extractStridedSlice S1x68x16x64x64 ![1, 0, 0, 0, 0] · slices_S2x68x16x64x64_S1x68x16x64x64_1_0_0_0_0) main_arg3
  let main_v71 : FVec F S1x68x16x64x64 .f32 := Host.reverse [1] main_v70
  let main_v72 : FVec F S68x16x64x64 .f32 := shapeCast S68x16x64x64 main_v71 shapeCasts_S1x68x16x64x64_S68x16x64x64
  let main_v73 : FVec F S1x68x16x64x64 .f32 := broadcastInDim S1x68x16x64x64 ![1, 2, 3, 4] bcast_S68x16x64x64_S1x68x16x64x64_1_2_3_4 main_v69
  let main_v74 : FVec F S1x68x16x64x64 .f32 := broadcastInDim S1x68x16x64x64 ![1, 2, 3, 4] bcast_S68x16x64x64_S1x68x16x64x64_1_2_3_4 main_v72
  let main_v75 : FVec F S2x68x16x64x64 .f32 := (fun a b => concatenate S2x68x16x64x64 0 [⟨S1x68x16x64x64, a⟩, ⟨S1x68x16x64x64, b⟩] concatenates_S1x68x16x64x64_S1x68x16x64x64_S2x68x16x64x64_d0) main_v73 main_v74
  let main_v76 : FVec F S2x68x16x64x64 .f32 := (fun l r => Host.dotGeneral dot_S2x68x16x64x64_S2x68x16x64x64_S2x68x16x64x64_4_3_3_4_012_012 none l r) main_v75 main_v62
  let main_v77 : FVec F S2x68x16x64x64 .f32 := addf main_v75 main_v76
  let main_v78 : FVec F S64x64 .f32 := id main_v64
  let main_v79 : FVec F S1x1x1x64x64 .f32 := broadcastInDim S1x1x1x64x64 ![3, 4] bcast_S64x64_S1x1x1x64x64_3_4 main_v78
  let main_v80 : FVec F S2x68x16x64x64 .f32 := broadcastInDim S2x68x16x64x64 ![0, 1, 2, 3, 4] bcast_S1x1x1x64x64_S2x68x16x64x64_0_1_2_3_4 main_v79
  fn_part4 (F := F) main_arg5 main_v23 main_v33 main_v37 main_v42 main_v75 main_v77 main_v80

def fn_part2 {F : FTy → Type} [FloatOps F] (main_arg3 : FVec F S2x68x16x64x64 .f32) (main_arg5 : FVec F S2x16x4352x128 .f32) (main_v23 : IVec S_ 1) (main_v24 : IVec S64x64 32) (main_v25 : IVec S64x64 32) (main_v30 : IVec S2x64x64 1) (main_v33 : FVec F S16x68x64x128 .f32) (main_v35 : FVec F S2x68x64x16 .f32) (main_v37 : FVec F S2x68x64x16 .f32) : IVec S_ 1 :=
  let main_v38 : IVec S2x1x1x64x64 1 := broadcastInDim S2x1x1x64x64 ![0, 3, 4] bcast_S2x64x64_S2x1x1x64x64_0_3_4 main_v30
  let main_v39 : FVec F S2x68x16x64 .f32 := (transpose S2x68x16x64 [0, 1, 3, 2] · transposes_S2x68x64x16_S2x68x16x64_0_1_3_2) main_v35
  let main_v40 : FVec F S2x68x16x1x64 .f32 := broadcastInDim S2x68x16x1x64 ![0, 1, 2, 4] bcast_S2x68x16x64_S2x68x16x1x64_0_1_2_4 main_v39
  let main_cst_8 : FVec F S_ .f32 := constant S_ .f32 0x00000000#32
  let main_v41 : FVec F S2x68x16x64x64 .f32 := fn_where (F := F) main_v38 main_v40 main_cst_8
  let main_cst_9 : FVec F S_ .f32 := constant S_ .f32 0x00000000#32
  let main_v42 : FVec F S2x68x16x64 .f32 := (fun x v => Host.reduceAdd x v reducesTo_S2x68x16x64x64_S2x68x16x64_d4 h_S_) main_v41 main_cst_9
  let main_v43 : FVec F S68x16x64x64 .f32 := (fun l r => Host.dotGeneral dot_S16x68x64x128_S16x68x64x128_S68x16x64x64_3_3_2_2_10_10 none l r) main_v33 main_v33
  let main_v44 : IVec S64x64 1 := cmpi .ne main_v24 main_v25
  let main_v45 : IVec S1x64x64 1 := broadcastInDim S1x64x64 ![1, 2] bcast_S64x64_S1x64x64_1_2 main_v44
  let main_v46 : IVec S2x64x64 1 := broadcastInDim S2x64x64 ![0, 1, 2] bcast_S1x64x64_S2x64x64_0_1_2 main_v45
  let main_v47 : IVec S2x64x64 1 := andi main_v30 main_v46
  let main_v48 : IVec S2x1x1x64x64 1 := broadcastInDim S2x1x1x64x64 ![0, 3, 4] bcast_S2x64x64_S2x1x1x64x64_0_3_4 main_v47
  let main_v49 : FVec F S2x68x16x64x1 .f32 := broadcastInDim S2x68x16x64x1 ![0, 1, 2, 3] bcast_S2x68x16x64_S2x68x16x64x1_0_1_2_3 main_v42
  let main_v50 : FVec F S2x68x16x1x64 .f32 := broadcastInDim S2x68x16x1x64 ![0, 1, 2, 4] bcast_S2x68x16x64_S2x68x16x1x64_0_1_2_4 main_v42
  let main_v51 : FVec F S2x68x16x64x64 .f32 := broadcastInDim S2x68x16x64x64 ![0, 1, 2, 3, 4] bcast_S2x68x16x64x1_S2x68x16x64x64_0_1_2_3_4 main_v49
  let main_v52 : FVec F S2x68x16x64x64 .f32 := broadcastInDim S2x68x16x64x64 ![0, 1, 2, 3, 4] bcast_S2x68x16x1x64_S2x68x16x64x64_0_1_2_3_4 main_v50
  let main_v53 : FVec F S2x68x16x64x64 .f32 := subf main_v51 main_v52
  let main_v54 : FVec F S2x68x16x64x64 .f32 := Host.exp main_v53
  let main_v55 : FVec F S1x68x16x64x64 .f32 := broadcastInDim S1x68x16x64x64 ![1, 2, 3, 4] bcast_S68x16x64x64_S1x68x16x64x64_1_2_3_4 main_v43
  let main_v56 : FVec F S2x68x16x64x64 .f32 := broadcastInDim S2x68x16x64x64 ![0, 1, 2, 3, 4] bcast_S1x68x16x64x64_S2x68x16x64x64_0_1_2_3_4 main_v55
  let main_v57 : FVec F S2x68x16x64x64 .f32 := mulf main_v54 main_v56
  let main_v58 : FVec F S2x68x16x64 .f32 := (transpose S2x68x16x64 [0, 1, 3, 2] · transposes_S2x68x64x16_S2x68x16x64_0_1_3_2) main_v37
  let main_v59 : FVec F S2x68x16x64x1 .f32 := broadcastInDim S2x68x16x64x1 ![0, 1, 2, 3] bcast_S2x68x16x64_S2x68x16x64x1_0_1_2_3 main_v58
  fn_part3 (F := F) main_arg3 main_arg5 main_v23 main_v24 main_v25 main_v33 main_v37 main_v42 main_v48 main_v57 main_v59

def fn_part1 {F : FTy → Type} [FloatOps F] (main_arg0 : FVec F S3x16x4352x128 .f32) (main_arg1 : FVec F S2x4352x128 .f32) (main_arg3 : FVec F S2x68x16x64x64 .f32) (main_arg5 : FVec F S2x16x4352x128 .f32) (main_arg6 : FVec F S16x4096x128 .f32) (main_v13 : IVec S_ 1) (main_v16 : IVec S2x16x4352x128 1) : IVec S_ 1 :=
  let main_c_5 : IVec S_ 1 := constantI S_ 1 1#1
  let main_v17 : IVec S_ 1 := (fun x v => Host.reduce IntOp.andi x v reducesTo_S2x16x4352x128_S_d0_1_2_3 h_S_) main_v16 main_c_5
  let main_v18 : IVec S_ 1 := andi main_v13 main_v17
  let main_v19 : FVec F S16x4096x128 .f32 := Host.absf main_arg6
  let main_cst_6 : FVec F S_ .f32 := constant S_ .f32 0x7F800000#32
  let main_v20 : FVec F S16x4096x128 .f32 := broadcastInDim S16x4096x128 ![] bcast_S_S16x4096x128 main_cst_6
  let main_v21 : IVec S16x4096x128 1 := cmpf .olt main_v19 main_v20
  let main_c_7 : IVec S_ 1 := constantI S_ 1 1#1
  let main_v22 : IVec S_ 1 := (fun x v => Host.reduce IntOp.andi x v reducesTo_S16x4096x128_S_d0_1_2 h_S_) main_v21 main_c_7
  let main_v23 : IVec S_ 1 := andi main_v18 main_v22
  let main_v24 : IVec S64x64 32 := iotaInDim S64x64 32 0
  let main_v25 : IVec S64x64 32 := iotaInDim S64x64 32 1
  let main_v26 : IVec S64x64 1 := cmpi .sle main_v25 main_v24
  let main_v27 : IVec S64x64 1 := cmpi .sge main_v25 main_v24
  let main_v28 : IVec S1x64x64 1 := broadcastInDim S1x64x64 ![1, 2] bcast_S64x64_S1x64x64_1_2 main_v26
  let main_v29 : IVec S1x64x64 1 := broadcastInDim S1x64x64 ![1, 2] bcast_S64x64_S1x64x64_1_2 main_v27
  let main_v30 : IVec S2x64x64 1 := (fun a b => concatenate S2x64x64 0 [⟨S1x64x64, a⟩, ⟨S1x64x64, b⟩] concatenates_S1x64x64_S1x64x64_S2x64x64_d0) main_v28 main_v29
  let main_v31 : FVec F S1x16x4352x128 .f32 := (extractStridedSlice S1x16x4352x128 ![1, 0, 0, 0] · slices_S3x16x4352x128_S1x16x4352x128_1_0_0_0) main_arg0
  let main_v32 : FVec F S16x4352x128 .f32 := shapeCast S16x4352x128 main_v31 shapeCasts_S1x16x4352x128_S16x4352x128
  let main_v33 : FVec F S16x68x64x128 .f32 := shapeCast S16x68x64x128 main_v32 shapeCasts_S16x4352x128_S16x68x64x128
  let main_v34 : FVec F S2x4352x16 .f32 := (extractStridedSlice S2x4352x16 ![0, 0, 0] · slices_S2x4352x128_S2x4352x16_0_0_0) main_arg1
  let main_v35 : FVec F S2x68x64x16 .f32 := shapeCast S2x68x64x16 main_v34 shapeCasts_S2x4352x16_S2x68x64x16
  let main_v36 : FVec F S2x4352x16 .f32 := (extractStridedSlice S2x4352x16 ![0, 0, 16] · slices_S2x4352x128_S2x4352x16_0_0_16) main_arg1
  let main_v37 : FVec F S2x68x64x16 .f32 := shapeCast S2x68x64x16 main_v36 shapeCasts_S2x4352x16_S2x68x64x16
  fn_part2 (F := F) main_arg3 main_arg5 main_v23 main_v24 main_v25 main_v30 main_v33 main_v35 main_v37

def fn {F : FTy → Type} [FloatOps F] (main_arg0 : FVec F S3x16x4352x128 .f32) (main_arg1 : FVec F S2x4352x128 .f32) (main_arg2 : FVec F S2x68x16x128x128 .f32) (main_arg3 : FVec F S2x68x16x64x64 .f32) (main_arg4 : FVec F S2x16x4352x128 .f32) (main_arg5 : FVec F S2x16x4352x128 .f32) (main_arg6 : FVec F S16x4096x128 .f32) : IVec S_ 1 :=
  let main_v0 : FVec F S3x16x4352x128 .f32 := Host.absf main_arg0
  let main_cst : FVec F S_ .f32 := constant S_ .f32 0x7F800000#32
  let main_v1 : FVec F S3x16x4352x128 .f32 := broadcastInDim S3x16x4352x128 ![] bcast_S_S3x16x4352x128 main_cst
  let main_v2 : IVec S3x16x4352x128 1 := cmpf .olt main_v0 main_v1
  let main_c : IVec S_ 1 := constantI S_ 1 1#1
  let main_v3 : IVec S_ 1 := (fun x v => Host.reduce IntOp.andi x v reducesTo_S3x16x4352x128_S_d0_1_2_3 h_S_) main_v2 main_c
  let main_v4 : FVec F S2x4352x128 .f32 := Host.absf main_arg1
  let main_cst_0 : FVec F S_ .f32 := constant S_ .f32 0x7F800000#32
  let main_v5 : FVec F S2x4352x128 .f32 := broadcastInDim S2x4352x128 ![] bcast_S_S2x4352x128 main_cst_0
  let main_v6 : IVec S2x4352x128 1 := cmpf .olt main_v4 main_v5
  let main_c_1 : IVec S_ 1 := constantI S_ 1 1#1
  let main_v7 : IVec S_ 1 := (fun x v => Host.reduce IntOp.andi x v reducesTo_S2x4352x128_S_d0_1_2 h_S_) main_v6 main_c_1
  let main_v8 : IVec S_ 1 := andi main_v3 main_v7
  let main_v9 : FVec F S2x68x16x64x64 .f32 := Host.absf main_arg3
  let main_cst_2 : FVec F S_ .f32 := constant S_ .f32 0x7F800000#32
  let main_v10 : FVec F S2x68x16x64x64 .f32 := broadcastInDim S2x68x16x64x64 ![] bcast_S_S2x68x16x64x64 main_cst_2
  let main_v11 : IVec S2x68x16x64x64 1 := cmpf .olt main_v9 main_v10
  let main_c_3 : IVec S_ 1 := constantI S_ 1 1#1
  let main_v12 : IVec S_ 1 := (fun x v => Host.reduce IntOp.andi x v reducesTo_S2x68x16x64x64_S_d0_1_2_3_4 h_S_) main_v11 main_c_3
  let main_v13 : IVec S_ 1 := andi main_v8 main_v12
  let main_v14 : FVec F S2x16x4352x128 .f32 := Host.absf main_arg5
  let main_cst_4 : FVec F S_ .f32 := constant S_ .f32 0x7F800000#32
  let main_v15 : FVec F S2x16x4352x128 .f32 := broadcastInDim S2x16x4352x128 ![] bcast_S_S2x16x4352x128 main_cst_4
  let main_v16 : IVec S2x16x4352x128 1 := cmpf .olt main_v14 main_v15
  fn_part1 (F := F) main_arg0 main_arg1 main_arg3 main_arg5 main_arg6 main_v13 main_v16
-- ==== GdnBwd.lean ====
abbrev S3x16x4352x128 : Shape := ⟨4, ![3, 16, 4352, 128]⟩
abbrev S2x4352x128 : Shape := ⟨3, ![2, 4352, 128]⟩
abbrev S2x68x16x128x128 : Shape := ⟨5, ![2, 68, 16, 128, 128]⟩
abbrev S2x68x16x64x64 : Shape := ⟨5, ![2, 68, 16, 64, 64]⟩
abbrev S2x16x4352x128 : Shape := ⟨4, ![2, 16, 4352, 128]⟩
abbrev S16x4096x128 : Shape := ⟨3, ![16, 4096, 128]⟩
abbrev S2x3x16x4352x128 : Shape := ⟨5, ![2, 3, 16, 4352, 128]⟩
abbrev S3x16x64x128 : Shape := ⟨4, ![3, 16, 64, 128]⟩
abbrev S1x64x128 : Shape := ⟨3, ![1, 64, 128]⟩
abbrev S1x1x16x128x128 : Shape := ⟨5, ![1, 1, 16, 128, 128]⟩
abbrev S1x1x16x64x64 : Shape := ⟨5, ![1, 1, 16, 64, 64]⟩
abbrev S1x16x64x128 : Shape := ⟨4, ![1, 16, 64, 128]⟩
abbrev S16x64x128 : Shape := ⟨3, ![16, 64, 128]⟩
abbrev S1x3x16x64x128 : Shape := ⟨5, ![1, 3, 16, 64, 128]⟩
abbrev S16x128x128 : Shape := ⟨3, ![16, 128, 128]⟩
abbrev S64x128 : Shape := ⟨2, ![64, 128]⟩
abbrev S16x64x64 : Shape := ⟨3, ![16, 64, 64]⟩
abbrev S64x1 : Shape := ⟨2, ![64, 1]⟩
abbrev S64x64 : Shape := ⟨2, ![64, 64]⟩
abbrev S1x64x64 : Shape := ⟨3, ![1, 64, 64]⟩
abbrev S128x64 : Shape := ⟨2, ![128, 64]⟩
abbrev S1x64 : Shape := ⟨2, ![1, 64]⟩
abbrev S16x1x128 : Shape := ⟨3, ![16, 1, 128]⟩
abbrev S16x128 : Shape := ⟨2, ![16, 128]⟩
abbrev S16x128x1 : Shape := ⟨3, ![16, 128, 1]⟩
abbrev S16x1 : Shape := ⟨2, ![16, 1]⟩
abbrev S16x1x1 : Shape := ⟨3, ![16, 1, 1]⟩
abbrev S1x1x16x64x128 : Shape := ⟨5, ![1, 1, 16, 64, 128]⟩
abbrev S16x64 : Shape := ⟨2, ![16, 64]⟩
abbrev S16x64x1 : Shape := ⟨3, ![16, 64, 1]⟩
abbrev S1x64x1 : Shape := ⟨3, ![1, 64, 1]⟩

abbrev nBuf : Space → Nat
  | .hbm => 9
  | .vmem => 19
  | .smem => 0
  | _ => 0

abbrev bufTy : (tb : Table) → Fin (tcTables nBuf tb) → BufTy
  | .hbm, ⟨0, _⟩ => ⟨S3x16x4352x128, .f32⟩
  | .hbm, ⟨1, _⟩ => ⟨S2x4352x128, .f32⟩
  | .hbm, ⟨2, _⟩ => ⟨S2x68x16x128x128, .f32⟩
  | .hbm, ⟨3, _⟩ => ⟨S2x68x16x64x64, .f32⟩
  | .hbm, ⟨4, _⟩ => ⟨S2x16x4352x128, .f32⟩
  | .hbm, ⟨5, _⟩ => ⟨S2x16x4352x128, .f32⟩
  | .hbm, ⟨6, _⟩ => ⟨S16x4096x128, .f32⟩
  | .hbm, ⟨7, _⟩ => ⟨S2x3x16x4352x128, .f32⟩
  | .hbm, ⟨8, _⟩ => ⟨S2x4352x128, .f32⟩
  | .local _ .vmem, ⟨0, _⟩ => ⟨S3x16x64x128, .f32⟩
  | .local _ .vmem, ⟨1, _⟩ => ⟨S3x16x64x128, .f32⟩
  | .local _ .vmem, ⟨2, _⟩ => ⟨S1x64x128, .f32⟩
  | .local _ .vmem, ⟨3, _⟩ => ⟨S1x64x128, .f32⟩
  | .local _ .vmem, ⟨4, _⟩ => ⟨S1x1x16x128x128, .f32⟩
  | .local _ .vmem, ⟨5, _⟩ => ⟨S1x1x16x128x128, .f32⟩
  | .local _ .vmem, ⟨6, _⟩ => ⟨S1x1x16x64x64, .f32⟩
  | .local _ .vmem, ⟨7, _⟩ => ⟨S1x1x16x64x64, .f32⟩
  | .local _ .vmem, ⟨8, _⟩ => ⟨S1x16x64x128, .f32⟩
  | .local _ .vmem, ⟨9, _⟩ => ⟨S1x16x64x128, .f32⟩
  | .local _ .vmem, ⟨10, _⟩ => ⟨S1x16x64x128, .f32⟩
  | .local _ .vmem, ⟨11, _⟩ => ⟨S1x16x64x128, .f32⟩
  | .local _ .vmem, ⟨12, _⟩ => ⟨S16x64x128, .f32⟩
  | .local _ .vmem, ⟨13, _⟩ => ⟨S16x64x128, .f32⟩
  | .local _ .vmem, ⟨14, _⟩ => ⟨S1x3x16x64x128, .f32⟩
  | .local _ .vmem, ⟨15, _⟩ => ⟨S1x3x16x64x128, .f32⟩
  | .local _ .vmem, ⟨16, _⟩ => ⟨S1x64x128, .f32⟩
  | .local _ .vmem, ⟨17, _⟩ => ⟨S1x64x128, .f32⟩
  | .local _ .vmem, ⟨18, _⟩ => ⟨S16x128x128, .f32⟩
  | _, _ => ⟨S3x16x4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 68], ![false, false]⟩

def cc0_transform_0 (i : grid0.Coords) : Fin 4 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v7.toNat, c0_i32_4.toNat]

def cc0_transform_1 (i : grid0.Coords) : Fin 3 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  ![arg0.toNat, v7.toNat, c0_i32_2.toNat]

def cc0_transform_2 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  let c0_i32_4 : BitVec 32 := 0#32
  ![arg0.toNat, c0_i32_2.toNat, v7.toNat, c0_i32_3.toNat]

def cc0_transform_5 (i : grid0.Coords) : Fin 4 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  let c0_i32_4 : BitVec 32 := 0#32
  ![arg0.toNat, c0_i32_2.toNat, v7.toNat, c0_i32_3.toNat]

def cc0_transform_6 (i : grid0.Coords) : Fin 3 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c63_i32 : BitVec 32 := 63#32
  let v8 : BitVec 32 := Scalar.minsi v7 c63_i32
  let c0_i32_2 : BitVec 32 := 0#32
  let c0_i32_3 : BitVec 32 := 0#32
  let c0_i32_4 : BitVec 32 := 0#32
  ![c0_i32_2.toNat, v8.toNat, c0_i32_3.toNat]

def cc0_transform_7 (i : grid0.Coords) : Fin 5 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  let c0_i32_4 : BitVec 32 := 0#32
  let c0_i32_5 : BitVec 32 := 0#32
  ![arg0.toNat, c0_i32_2.toNat, c0_i32_3.toNat, v7.toNat, c0_i32_4.toNat]

def cc0_transform_8 (i : grid0.Coords) : Fin 3 → Nat :=
  let arg0 : BitVec 32 := BitVec.ofNat 32 (i 0).val
  let arg1 : BitVec 32 := BitVec.ofNat 32 (i 1).val
  let c67_i32 : BitVec 32 := 67#32
  let v0 : BitVec 32 := Scalar.subi c67_i32 arg1
  let c4_i32 : BitVec 32 := 4#32
  let v1 : BitVec 1 := Scalar.cmpi .slt v0 c4_i32
  let c64_i32 : BitVec 32 := 64#32
  let v2 : BitVec 32 := Scalar.addi c64_i32 v0
  let c4_i32_0 : BitVec 32 := 4#32
  let v3 : BitVec 32 := Scalar.subi v0 c4_i32_0
  let v4 : BitVec 32 := Scalar.select v1 v2 v3
  let c0_i32 : BitVec 32 := 0#32
  let v5 : BitVec 1 := Scalar.cmpi .eq arg0 c0_i32
  let c67_i32_1 : BitVec 32 := 67#32
  let v6 : BitVec 32 := Scalar.subi c67_i32_1 v0
  let v7 : BitVec 32 := Scalar.select v5 v4 v6
  let c0_i32_2 : BitVec 32 := 0#32
  let c0_i32_3 : BitVec 32 := 0#32
  ![arg0.toNat, v7.toNat, c0_i32_2.toNat]

abbrev stage0_0 : Fin 2 → Memref sig .tc .vmem S3x16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x16x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GdnDvRefIdeal.lean ====
abbrev S3x16x4352x128 : Shape := ⟨4, ![3, 16, 4352, 128]⟩
abbrev S2x4352x128 : Shape := ⟨3, ![2, 4352, 128]⟩
abbrev S2x68x16x128x128 : Shape := ⟨5, ![2, 68, 16, 128, 128]⟩
abbrev S2x68x16x64x64 : Shape := ⟨5, ![2, 68, 16, 64, 64]⟩
abbrev S2x16x4352x128 : Shape := ⟨4, ![2, 16, 4352, 128]⟩
abbrev S16x4096x128 : Shape := ⟨3, ![16, 4096, 128]⟩
abbrev S3x4352x16x128 : Shape := ⟨4, ![3, 4352, 16, 128]⟩
abbrev S1x4352x16x128 : Shape := ⟨4, ![1, 4352, 16, 128]⟩
abbrev S4352x16x128 : Shape := ⟨3, ![4352, 16, 128]⟩
abbrev S4096x16x128 : Shape := ⟨3, ![4096, 16, 128]⟩
abbrev S256x16x128 : Shape := ⟨3, ![256, 16, 128]⟩
abbrev S4352x1x16x128 : Shape := ⟨4, ![4352, 1, 16, 128]⟩
abbrev S4352x2x16x128 : Shape := ⟨4, ![4352, 2, 16, 128]⟩
abbrev S1x4352x128 : Shape := ⟨3, ![1, 4352, 128]⟩
abbrev S4352x128 : Shape := ⟨2, ![4352, 128]⟩
abbrev S4096x128 : Shape := ⟨2, ![4096, 128]⟩
abbrev S256x128 : Shape := ⟨2, ![256, 128]⟩
abbrev S4352x1x128 : Shape := ⟨3, ![4352, 1, 128]⟩
abbrev S4352x2x128 : Shape := ⟨3, ![4352, 2, 128]⟩
abbrev S4352x2x16x128x1 : Shape := ⟨5, ![4352, 2, 16, 128, 1]⟩
abbrev S4352x2x16 : Shape := ⟨3, ![4352, 2, 16]⟩
abbrev S4352x2x16x1x1 : Shape := ⟨5, ![4352, 2, 16, 1, 1]⟩
abbrev S4352x2x16x1 : Shape := ⟨4, ![4352, 2, 16, 1]⟩
abbrev S_ : Shape := ⟨0, ![]⟩
abbrev S2x16x128x128 : Shape := ⟨4, ![2, 16, 128, 128]⟩
abbrev S1x2x16x128 : Shape := ⟨4, ![1, 2, 16, 128]⟩
abbrev S2x16x128 : Shape := ⟨3, ![2, 16, 128]⟩
abbrev S1x2x16x128x1 : Shape := ⟨5, ![1, 2, 16, 128, 1]⟩
abbrev S2x16x128x1 : Shape := ⟨4, ![2, 16, 128, 1]⟩
abbrev S1x2x16x1x1 : Shape := ⟨5, ![1, 2, 16, 1, 1]⟩
abbrev S2x16x1x1 : Shape := ⟨4, ![2, 16, 1, 1]⟩
abbrev S1x2x16x1 : Shape := ⟨4, ![1, 2, 16, 1]⟩
abbrev S2x16x1 : Shape := ⟨3, ![2, 16, 1]⟩
abbrev S2x16x1x128 : Shape := ⟨4, ![2, 16, 1, 128]⟩
abbrev S4096x1x16x128 : Shape := ⟨4, ![4096, 1, 16, 128]⟩
abbrev S256x1x16x128 : Shape := ⟨4, ![256, 1, 16, 128]⟩
abbrev S2x4352x16x128 : Shape := ⟨4, ![2, 4352, 16, 128]⟩
abbrev S2x1x16x4352x128 : Shape := ⟨5, ![2, 1, 16, 4352, 128]⟩
abbrev S2x3x16x4352x128 : Shape := ⟨5, ![2, 3, 16, 4352, 128]⟩

abbrev nBuf : Space → Nat
  | .hbm => 164
  | .vmem => 0
  | .smem => 0
  | _ => 0

abbrev hbmTy0_0 (i : Nat) : BufTy := match i % 128 with
  | 0 => ⟨S3x16x4352x128, .f32⟩
  | 1 => ⟨S2x4352x128, .f32⟩
  | 2 => ⟨S2x68x16x128x128, .f32⟩
  | 3 => ⟨S2x68x16x64x64, .f32⟩
  | 4 => ⟨S2x16x4352x128, .f32⟩
  | 5 => ⟨S2x16x4352x128, .f32⟩
  | 6 => ⟨S16x4096x128, .f32⟩
  | 7 => ⟨S3x4352x16x128, .f32⟩
  | 8 => ⟨S1x4352x16x128, .f32⟩
  | 9 => ⟨S4352x16x128, .f32⟩
  | 10 => ⟨S1x4352x16x128, .f32⟩
  | 11 => ⟨S4352x16x128, .f32⟩
  | 12 => ⟨S1x4352x16x128, .f32⟩
  | 13 => ⟨S4352x16x128, .f32⟩
  | 14 => ⟨S4096x16x128, .f32⟩
  | 15 => ⟨S4096x16x128, .f32⟩
  | 16 => ⟨S256x16x128, .f32⟩
  | 17 => ⟨S256x16x128, .f32⟩
  | 18 => ⟨S4352x16x128, .f32⟩
  | 19 => ⟨S4352x1x16x128, .f32⟩
  | 20 => ⟨S4352x1x16x128, .f32⟩
  | 21 => ⟨S4352x2x16x128, .f32⟩
  | 22 => ⟨S4096x16x128, .f32⟩
  | 23 => ⟨S4096x16x128, .f32⟩
  | 24 => ⟨S256x16x128, .f32⟩
  | 25 => ⟨S256x16x128, .f32⟩
  | 26 => ⟨S4352x16x128, .f32⟩
  | 27 => ⟨S4352x1x16x128, .f32⟩
  | 28 => ⟨S4352x1x16x128, .f32⟩
  | 29 => ⟨S4352x2x16x128, .f32⟩
  | 30 => ⟨S4096x16x128, .f32⟩
  | 31 => ⟨S4096x16x128, .f32⟩
  | 32 => ⟨S256x16x128, .f32⟩
  | 33 => ⟨S256x16x128, .f32⟩
  | 34 => ⟨S4352x16x128, .f32⟩
  | 35 => ⟨S4352x1x16x128, .f32⟩
  | 36 => ⟨S4352x1x16x128, .f32⟩
  | 37 => ⟨S4352x2x16x128, .f32⟩
  | 38 => ⟨S1x4352x128, .f32⟩
  | 39 => ⟨S4352x128, .f32⟩
  | 40 => ⟨S1x4352x128, .f32⟩
  | 41 => ⟨S4352x128, .f32⟩
  | 42 => ⟨S4096x128, .f32⟩
  | 43 => ⟨S4096x128, .f32⟩
  | 44 => ⟨S256x128, .f32⟩
  | 45 => ⟨S256x128, .f32⟩
  | 46 => ⟨S4352x128, .f32⟩
  | 47 => ⟨S4352x1x128, .f32⟩
  | 48 => ⟨S4352x1x128, .f32⟩
  | 49 => ⟨S4352x2x128, .f32⟩
  | 50 => ⟨S4352x2x16x128x1, .f32⟩
  | 51 => ⟨S4352x2x16x128x1, .f32⟩
  | 52 => ⟨S4352x2x16, .f32⟩
  | 53 => ⟨S4352x2x16, .f32⟩
  | 54 => ⟨S4352x2x16x1x1, .f32⟩
  | 55 => ⟨S4352x2x16, .f32⟩
  | 56 => ⟨S4352x2x16x1, .f32⟩
  | 57 => ⟨S4096x16x128, .f32⟩
  | 58 => ⟨S_, .f32⟩
  | 59 => ⟨S256x16x128, .f32⟩
  | 60 => ⟨S4352x16x128, .f32⟩
  | 61 => ⟨S_, .f32⟩
  | 62 => ⟨S2x16x128x128, .f32⟩
  | 63 => ⟨S4096x16x128, .f32⟩
  | 64 => ⟨S4096x16x128, .f32⟩
  | 65 => ⟨S256x16x128, .f32⟩
  | 66 => ⟨S256x16x128, .f32⟩
  | 67 => ⟨S4352x16x128, .f32⟩
  | 68 => ⟨S4352x1x16x128, .f32⟩
  | 69 => ⟨S4352x1x16x128, .f32⟩
  | 70 => ⟨S4352x2x16x128, .f32⟩
  | 71 => ⟨S_, .f32⟩
  | 72 => ⟨S2x16x128x128, .f32⟩
  | 73 => ⟨S_, .f32⟩
  | 74 => ⟨S4352x2x16x128, .f32⟩
  | 75 => ⟨S_, .i32⟩
  | 76 => ⟨S4352x2x16x128, .f32⟩
  | 77 => ⟨S4352x2x16x128x1, .f32⟩
  | 78 => ⟨S4352x2x16x128x1, .f32⟩
  | 79 => ⟨S4352x2x16x1x1, .f32⟩
  | 80 => ⟨S4352x2x16x1, .f32⟩
  | 81 => ⟨S_, .i32⟩
  | 82 => ⟨S2x16x128x128, .f32⟩
  | 83 => ⟨S4352x2x16x128, .f32⟩
  | 84 => ⟨S_, .i32⟩
  | 85 => ⟨S_, .i1⟩
  | 86 => ⟨S_, .i32⟩
  | 87 => ⟨S_, .i32⟩
  | 88 => ⟨S_, .i32⟩
  | 89 => ⟨S1x2x16x128, .f32⟩
  | 90 => ⟨S2x16x128, .f32⟩
  | 91 => ⟨S_, .i32⟩
  | 92 => ⟨S_, .i32⟩
  | 93 => ⟨S_, .i32⟩
  | 94 => ⟨S_, .i32⟩
  | 95 => ⟨S1x2x16x128x1, .f32⟩
  | 96 => ⟨S2x16x128x1, .f32⟩
  | 97 => ⟨S_, .i32⟩
  | 98 => ⟨S_, .i32⟩
  | 99 => ⟨S_, .i32⟩
  | 100 => ⟨S_, .i32⟩
  | 101 => ⟨S1x2x16x128x1, .f32⟩
  | 102 => ⟨S2x16x128x1, .f32⟩
  | 103 => ⟨S_, .i32⟩
  | 104 => ⟨S_, .i32⟩
  | 105 => ⟨S_, .i32⟩
  | 106 => ⟨S_, .i32⟩
  | 107 => ⟨S1x2x16x1x1, .f32⟩
  | 108 => ⟨S2x16x1x1, .f32⟩
  | 109 => ⟨S_, .i32⟩
  | 110 => ⟨S_, .i32⟩
  | 111 => ⟨S_, .i32⟩
  | 112 => ⟨S1x2x16x1, .f32⟩
  | 113 => ⟨S2x16x1, .f32⟩
  | 114 => ⟨S2x16x128x128, .f32⟩
  | 115 => ⟨S2x16x128x128, .f32⟩
  | 116 => ⟨S2x16x128x128, .f32⟩
  | 117 => ⟨S2x16x128x128, .f32⟩
  | 118 => ⟨S2x16x128x128, .f32⟩
  | 119 => ⟨S2x16x128x128, .f32⟩
  | 120 => ⟨S_, .f32⟩
  | 121 => ⟨S2x16x128, .f32⟩
  | 122 => ⟨S2x16x1x128, .f32⟩
  | 123 => ⟨S_, .f32⟩
  | 124 => ⟨S2x16x128, .f32⟩
  | 125 => ⟨S2x16x128, .f32⟩
  | 126 => ⟨S2x16x128, .f32⟩
  | 127 => ⟨S2x16x128, .f32⟩
  | _ => ⟨S3x16x4352x128, .f32⟩

abbrev hbmTy0_1 (i : Nat) : BufTy := match i % 128 with
  | 0 => ⟨S2x16x128x128, .f32⟩
  | 1 => ⟨S2x16x128x128, .f32⟩
  | 2 => ⟨S2x16x128x128, .f32⟩
  | 3 => ⟨S2x16x128x128, .f32⟩
  | 4 => ⟨S2x16x128x128, .f32⟩
  | 5 => ⟨S2x16x128x128, .f32⟩
  | 6 => ⟨S1x2x16x128, .f32⟩
  | 7 => ⟨S_, .i32⟩
  | 8 => ⟨S_, .i32⟩
  | 9 => ⟨S_, .i32⟩
  | 10 => ⟨S4352x2x16x128, .f32⟩
  | 11 => ⟨S_, .i32⟩
  | 12 => ⟨S_, .i32⟩
  | 13 => ⟨S4096x1x16x128, .f32⟩
  | 14 => ⟨S4096x16x128, .f32⟩
  | 15 => ⟨S4096x16x128, .f32⟩
  | 16 => ⟨S256x1x16x128, .f32⟩
  | 17 => ⟨S256x16x128, .f32⟩
  | 18 => ⟨S256x16x128, .f32⟩
  | 19 => ⟨S4352x16x128, .f32⟩
  | 20 => ⟨S4352x1x16x128, .f32⟩
  | 21 => ⟨S4352x16x128, .f32⟩
  | 22 => ⟨S1x4352x16x128, .f32⟩
  | 23 => ⟨S1x4352x16x128, .f32⟩
  | 24 => ⟨S2x4352x16x128, .f32⟩
  | 25 => ⟨S2x16x4352x128, .f32⟩
  | 26 => ⟨S_, .f32⟩
  | 27 => ⟨S2x16x4352x128, .f32⟩
  | 28 => ⟨S_, .f32⟩
  | 29 => ⟨S2x16x4352x128, .f32⟩
  | 30 => ⟨S2x1x16x4352x128, .f32⟩
  | 31 => ⟨S2x1x16x4352x128, .f32⟩
  | 32 => ⟨S2x1x16x4352x128, .f32⟩
  | 33 => ⟨S2x3x16x4352x128, .f32⟩
  | 34 => ⟨S_, .f32⟩
  | 35 => ⟨S2x4352x128, .f32⟩
  | _ => ⟨S3x16x4352x128, .f32⟩

abbrev hbmTy (i : Nat) : BufTy := match i / 128 with
  | 0 => hbmTy0_0 i
  | 1 => hbmTy0_1 i
  | _ => ⟨S3x16x4352x128, .f32⟩

abbrev bufTy : (tb : Table) → Fin (tcTables nBuf tb) → BufTy
  | .hbm, ⟨i, _⟩ => hbmTy i
  | _, _ => ⟨S3x16x4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst : Ref sig .tc := ⟨.hbm, 58, rfl⟩
abbrev main_v51 : Ref sig .tc := ⟨.hbm, 59, rfl⟩
abbrev main_v52 : Ref sig .tc := ⟨.hbm, 60, rfl⟩
abbrev main_cst_0 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_1 : Ref sig .tc := ⟨.hbm, 71, rfl⟩
abbrev main_v62 : Ref sig .tc := ⟨.hbm, 72, rfl⟩
abbrev main_cst_2 : Ref sig .tc := ⟨.hbm, 73, rfl⟩
abbrev main_v63 : Ref sig .tc := ⟨.hbm, 74, rfl⟩
abbrev main_c : Ref sig .tc := ⟨.hbm, 75, rfl⟩
abbrev main_v64_0 : Ref sig .tc := ⟨.hbm, 76, rfl⟩
abbrev main_v64_1 : Ref sig .tc := ⟨.hbm, 77, rfl⟩
abbrev main_v64_2 : Ref sig .tc := ⟨.hbm, 78, rfl⟩
abbrev main_v64_3 : Ref sig .tc := ⟨.hbm, 79, rfl⟩
abbrev main_v64_4 : Ref sig .tc := ⟨.hbm, 80, rfl⟩
abbrev main_v64_5 : Ref sig .tc := ⟨.hbm, 81, rfl⟩
abbrev main_v64_6 : Ref sig .tc := ⟨.hbm, 82, rfl⟩
abbrev main_v64_7 : Ref sig .tc := ⟨.hbm, 83, rfl⟩
abbrev main_while0c_c_13 : Ref sig .tc := ⟨.hbm, 84, rfl⟩
abbrev main_while0c_v85 : Ref sig .tc := ⟨.hbm, 85, rfl⟩
abbrev main_while0b_call0_c : Ref sig .tc := ⟨.hbm, 86, rfl⟩
abbrev main_while0b_call0_c_0 : Ref sig .tc := ⟨.hbm, 87, rfl⟩
abbrev main_while0b_call0_c_1 : Ref sig .tc := ⟨.hbm, 88, rfl⟩
abbrev main_while0b_call0_v0 : Ref sig .tc := ⟨.hbm, 89, rfl⟩
abbrev main_while0b_v85 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v86 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v87 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v88 : Ref sig .tc := ⟨.hbm, 108, rfl⟩
abbrev main_while0b_call4_c : Ref sig .tc := ⟨.hbm, 109, rfl⟩
abbrev main_while0b_call4_c_0 : Ref sig .tc := ⟨.hbm, 110, rfl⟩
abbrev main_while0b_call4_c_1 : Ref sig .tc := ⟨.hbm, 111, rfl⟩
abbrev main_while0b_call4_v0 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_v92 : Ref sig .tc := ⟨.hbm, 116, rfl⟩
abbrev main_while0b_v93 : Ref sig .tc := ⟨.hbm, 117, rfl⟩
abbrev main_while0b_v94 : Ref sig .tc := ⟨.hbm, 118, rfl⟩
abbrev main_while0b_v95 : Ref sig .tc := ⟨.hbm, 119, rfl⟩
abbrev main_while0b_cst_13 : Ref sig .tc := ⟨.hbm, 120, rfl⟩
abbrev main_while0b_v96 : Ref sig .tc := ⟨.hbm, 121, rfl⟩
abbrev main_while0b_v97 : Ref sig .tc := ⟨.hbm, 122, rfl⟩
abbrev main_while0b_cst_14 : Ref sig .tc := ⟨.hbm, 123, rfl⟩
abbrev main_while0b_v98 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_v102 : Ref sig .tc := ⟨.hbm, 128, rfl⟩
abbrev main_while0b_v103 : Ref sig .tc := ⟨.hbm, 129, rfl⟩
abbrev main_while0b_v104 : Ref sig .tc := ⟨.hbm, 130, rfl⟩
abbrev main_while0b_v105 : Ref sig .tc := ⟨.hbm, 131, rfl⟩
abbrev main_while0b_v106 : Ref sig .tc := ⟨.hbm, 132, rfl⟩
abbrev main_while0b_v107 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_v108 : Ref sig .tc := ⟨.hbm, 138, rfl⟩
abbrev main_while0b_c_15 : Ref sig .tc := ⟨.hbm, 139, rfl⟩
abbrev main_while0b_v109 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_3 : Ref sig .tc := ⟨.hbm, 154, rfl⟩
abbrev main_v78 : Ref sig .tc := ⟨.hbm, 155, rfl⟩
abbrev main_cst_4 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_cst_5 : Ref sig .tc := ⟨.hbm, 162, rfl⟩
abbrev main_v84 : Ref sig .tc := ⟨.hbm, 163, rfl⟩

abbrev nD : Nat := 1
abbrev τ : Topo := Topo.v7x

variable {F : FTy → Type} [FloatOps F]

abbrev main_while0_count : Scf.Loop 32 := ⟨0#32, 4352#32, 1#32⟩
-- ==== Mlp2Dx.lean ====
abbrev S4096x4096 : Shape := ⟨2, ![4096, 4096]⟩
abbrev S16384x4096 : Shape := ⟨2, ![16384, 4096]⟩
abbrev S4096x16384 : Shape := ⟨2, ![4096, 16384]⟩
abbrev S1x16384 : Shape := ⟨2, ![1, 16384]⟩
abbrev S1024x4096 : Shape := ⟨2, ![1024, 4096]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S1x16384, .f32⟩
  | .hbm, ⟨4, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Mlp2DxRefIdeal.lean ====
abbrev S4096x4096 : Shape := ⟨2, ![4096, 4096]⟩
abbrev S16384x4096 : Shape := ⟨2, ![16384, 4096]⟩
abbrev S4096x16384 : Shape := ⟨2, ![4096, 16384]⟩
abbrev S1x16384 : Shape := ⟨2, ![1, 16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S1x16384, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .i1⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S16384x4096, .f32⟩
  | .hbm, ⟨19, _⟩ => ⟨S4096x4096, .f32⟩
  | .hbm, ⟨20, _⟩ => ⟨S4096x4096, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Mlp2Dw.lean ====
abbrev S4096x16384 : Shape := ⟨2, ![4096, 16384]⟩
abbrev S4096x4096 : Shape := ⟨2, ![4096, 4096]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2DwRefIdeal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S_, .f32⟩
  | .hbm, ⟨3, _⟩ => ⟨S16384x4096, .f32⟩
  | .hbm, ⟨4, _⟩ => ⟨S4096x16384, .f32⟩
  | .hbm, ⟨5, _⟩ => ⟨S4096x4096, .f32⟩
  | .hbm, ⟨6, _⟩ => ⟨S4096x4096, .f32⟩
  | .hbm, ⟨7, _⟩ => ⟨S4096x16384, .f32⟩
  | .hbm, ⟨8, _⟩ => ⟨S16384x4096, .f32⟩
  | .hbm, ⟨9, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mlp1Dx.lean ====
abbrev S4096x16384 : Shape := ⟨2, ![4096, 16384]⟩
abbrev S8x4096x2048 : Shape := ⟨3, ![8, 4096, 2048]⟩
abbrev S8x128 : Shape := ⟨2, ![8, 128]⟩
abbrev S4096x4096 : Shape := ⟨2, ![4096, 4096]⟩
abbrev S1024x4096 : Shape := ⟨2, ![1024, 4096]⟩
abbrev S2x1024x2048 : Shape := ⟨3, ![2, 1024, 2048]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S8x128, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S2x1024x2048, .bf16⟩
  | .local _ .vmem, ⟨3, _⟩ => ⟨S2x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_11 : BitVec 32 := 3#32
  let v17 : BitVec 1 := Scalar.cmpi .eq arg2 c3_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DxRefIdeal.lean ====
abbrev S4096x16384 : Shape := ⟨2, ![4096, 16384]⟩
abbrev S8x4096x2048 : Shape := ⟨3, ![8, 4096, 2048]⟩
abbrev S8x128 : Shape := ⟨2, ![8, 128]⟩
abbrev S4096x8x2048 : Shape := ⟨3, ![4096, 8, 2048]⟩
abbrev S_ : Shape := ⟨0, ![]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S8x128, .f32⟩
  | .hbm, ⟨3, _⟩ => ⟨S4096x8x2048, .bf16⟩
  | .hbm, ⟨4, _⟩ => ⟨S4096x16384, .bf16⟩
  | .hbm, ⟨5, _⟩ => ⟨S4096x16384, .f32⟩
  | .hbm, ⟨6, _⟩ => ⟨S_, .f32⟩
  | .hbm, ⟨7, _⟩ => ⟨S4096x4096, .f32⟩
  | .hbm, ⟨8, _⟩ => ⟨S4096x16384, .f32⟩
  | .hbm, ⟨9, _⟩ => ⟨S4096x16384, .f32⟩
  | .hbm, ⟨10, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mlp1Dw.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwRefIdeal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .f32⟩
  | .hbm, ⟨3, _⟩ => ⟨S4096x16384, .f32⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x8x2048, .f32⟩
  | .hbm, ⟨10, _⟩ => ⟨S8x4096x2048, .f32⟩
  | .hbm, ⟨11, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4352x4096 : Shape := ⟨2, ![4352, 4096]⟩
abbrev S4352x12800 : Shape := ⟨2, ![4352, 12800]⟩
abbrev S4096x12800 : Shape := ⟨2, ![4096, 12800]⟩
abbrev S4352x1024 : Shape := ⟨2, ![4352, 1024]⟩
abbrev S4352x1280 : Shape := ⟨2, ![4352, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4352x12800, .bf16⟩
  | .hbm, ⟨2, _⟩ => ⟨S4096x12800, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1280, .bf16⟩
  | .local _ .vmem, ⟨3, _⟩ => ⟨S4352x1280, .bf16⟩
  | .local _ .vmem, ⟨4, _⟩ => ⟨S1024x1280, .bf16⟩
  | .local _ .vmem, ⟨5, _⟩ => ⟨S1024x1280, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4352x4096 : Shape := ⟨2, ![4352, 4096]⟩
abbrev S4352x12800 : Shape := ⟨2, ![4352, 12800]⟩
abbrev S_ : Shape := ⟨0, ![]⟩
abbrev S4096x12800 : Shape := ⟨2, ![4096, 12800]⟩
abbrev S12800x4096 : Shape := ⟨2, ![12800, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x12800, .bf16⟩
  | .hbm, ⟨2, _⟩ => ⟨S_, .f32⟩
  | .hbm, ⟨3, _⟩ => ⟨S4096x12800, .f32⟩
  | .hbm, ⟨4, _⟩ => ⟨S4352x4096, .f32⟩
  | .hbm, ⟨5, _⟩ => ⟨S4352x12800, .f32⟩
  | .hbm, ⟨6, _⟩ => ⟨S4352x12800, .f32⟩
  | .hbm, ⟨7, _⟩ => ⟨S12800x4096, .f32⟩
  | .hbm, ⟨8, _⟩ => ⟨S4096x12800, .f32⟩
  | .hbm, ⟨9, _⟩ => ⟨S4096x12800, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4352x12800 : Shape := ⟨2, ![4352, 12800]⟩
abbrev S4096x12800 : Shape := ⟨2, ![4096, 12800]⟩
abbrev S8x128 : Shape := ⟨2, ![8, 128]⟩
abbrev S4352x4096 : Shape := ⟨2, ![4352, 4096]⟩
abbrev S1088x2560 : Shape := ⟨2, ![1088, 2560]⟩
abbrev S1024x2560 : Shape := ⟨2, ![1024, 2560]⟩
abbrev S1088x1024 : Shape := ⟨2, ![1088, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x12800, .bf16⟩
  | .hbm, ⟨1, _⟩ => ⟨S4096x12800, .bf16⟩
  | .hbm, ⟨2, _⟩ => ⟨S8x128, .f32⟩
  | .hbm, ⟨3, _⟩ => ⟨S4352x4096, .f32⟩
  | .local _ .vmem, ⟨0, _⟩ => ⟨S1088x2560, .bf16⟩
  | .local _ .vmem, ⟨1, _⟩ => ⟨S1088x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4352x12800 : Shape := ⟨2, ![4352, 12800]⟩
abbrev S4096x12800 : Shape := ⟨2, ![4096, 12800]⟩
abbrev S8x128 : Shape := ⟨2, ![8, 128]⟩
abbrev S_ : Shape := ⟨0, ![]⟩
abbrev S4352x4096 : Shape := ⟨2, ![4352, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4352x12800, .bf16⟩
  | .hbm, ⟨1, _⟩ => ⟨S4096x12800, .bf16⟩
  | .hbm, ⟨2, _⟩ => ⟨S8x128, .f32⟩
  | .hbm, ⟨3, _⟩ => ⟨S_, .f32⟩
  | .hbm, ⟨4, _⟩ => ⟨S4352x4096, .f32⟩
  | .hbm, ⟨5, _⟩ => ⟨S4096x12800, .f32⟩
  | .hbm, ⟨6, _⟩ => ⟨S4352x12800, .f32⟩
  | .hbm, ⟨7, _⟩ => ⟨S4352x12800, .f32⟩
  | .hbm, ⟨8, _⟩ => ⟨S4352x4096, .f32⟩
  | _, _ => ⟨S4352x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ModDx.lean ====
abbrev S16x3072 : Shape := ⟨2, ![16, 3072]⟩
abbrev S4096x3072 : Shape := ⟨2, ![4096, 3072]⟩
abbrev S16x4096 : Shape := ⟨2, ![16, 4096]⟩
abbrev S1024x3072 : Shape := ⟨2, ![1024, 3072]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x3072, .f32⟩
  | .hbm, ⟨1, _⟩ => ⟨S4096x3072, .f32⟩
  | .hbm, ⟨2, _⟩ => ⟨S16x4096, .f32⟩
  | .local _ .vmem, ⟨0, _⟩ => ⟨S16x3072, .f32⟩
  | .local _ .vmem, ⟨1, _⟩ => ⟨S1024x3072, .f32⟩
  | .local _ .vmem, ⟨2, _⟩ => ⟨S1024x3072, .f32⟩
  | .local _ .vmem, ⟨3, _⟩ => ⟨S16x1024, .f32⟩
  | .local _ .vmem, ⟨4, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDxRefIdeal.lean ====
abbrev S16x3072 : Shape := ⟨2, ![16, 3072]⟩
abbrev S4096x3072 : Shape := ⟨2, ![4096, 3072]⟩
abbrev S_ : Shape := ⟨0, ![]⟩
abbrev S16x4096 : Shape := ⟨2, ![16, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S4096x3072, .f32⟩
  | .hbm, ⟨2, _⟩ => ⟨S_, .f32⟩
  | .hbm, ⟨3, _⟩ => ⟨S16x4096, .f32⟩
  | .hbm, ⟨4, _⟩ => ⟨S16x3072, .f32⟩
  | .hbm, ⟨5, _⟩ => ⟨S16x4096, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModDw.lean ====
abbrev S16x4096 : Shape := ⟨2, ![16, 4096]⟩
abbrev S16x3072 : Shape := ⟨2, ![16, 3072]⟩
abbrev S8x128 : Shape := ⟨2, ![8, 128]⟩
abbrev S4096x3072 : Shape := ⟨2, ![4096, 3072]⟩
abbrev S16x1024 : Shape := ⟨2, ![16, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S16x3072, .f32⟩
  | .hbm, ⟨2, _⟩ => ⟨S8x128, .f32⟩
  | .hbm, ⟨3, _⟩ => ⟨S4096x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S1024x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwRefIdeal.lean ====
abbrev S16x4096 : Shape := ⟨2, ![16, 4096]⟩
abbrev S16x3072 : Shape := ⟨2, ![16, 3072]⟩
abbrev S8x128 : Shape := ⟨2, ![8, 128]⟩
abbrev S_ : Shape := ⟨0, ![]⟩
abbrev S4096x3072 : Shape := ⟨2, ![4096, 3072]⟩
abbrev S3072x4096 : Shape := ⟨2, ![3072, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x3072, .f32⟩
  | .hbm, ⟨2, _⟩ => ⟨S8x128, .f32⟩
  | .hbm, ⟨3, _⟩ => ⟨S_, .f32⟩
  | .hbm, ⟨4, _⟩ => ⟨S4096x3072, .f32⟩
  | .hbm, ⟨5, _⟩ => ⟨S16x3072, .f32⟩
  | .hbm, ⟨6, _⟩ => ⟨S3072x4096, .f32⟩
  | .hbm, ⟨7, _⟩ => ⟨S4096x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InFwd.lean ====
abbrev S4352x4096 : Shape := ⟨2, ![4352, 4096]⟩
abbrev S4096x12800 : Shape := ⟨2, ![4096, 12800]⟩
abbrev S4352x12800 : Shape := ⟨2, ![4352, 12800]⟩
abbrev S1088x4096 : Shape := ⟨2, ![1088, 4096]⟩
abbrev S4096x1280 : Shape := ⟨2, ![4096, 1280]⟩
abbrev S1088x1280 : Shape := ⟨2, ![1088, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4096x12800, .bf16⟩
  | .hbm, ⟨2, _⟩ => ⟨S4352x12800, .f32⟩
  | .local _ .vmem, ⟨0, _⟩ => ⟨S1088x4096, .bf16⟩
  | .local _ .vmem, ⟨1, _⟩ => ⟨S1088x4096, .bf16⟩
  | .local _ .vmem, ⟨2, _⟩ => ⟨S4096x1280, .bf16⟩
  | .local _ .vmem, ⟨3, _⟩ => ⟨S4096x1280, .bf16⟩
  | .local _ .vmem, ⟨4, _⟩ => ⟨S1088x1280, .f32⟩
  | .local _ .vmem, ⟨5, _⟩ => ⟨S1088x1280, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4352x4096 : Shape := ⟨2, ![4352, 4096]⟩
abbrev S4096x12800 : Shape := ⟨2, ![4096, 12800]⟩
abbrev S4352x12800 : Shape := ⟨2, ![4352, 12800]⟩

abbrev nBuf : Space → Nat
  | .hbm => 5
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x12800, .bf16⟩
  | .hbm, ⟨2, _⟩ => ⟨S4352x4096, .f32⟩
  | .hbm, ⟨3, _⟩ => ⟨S4096x12800, .f32⟩
  | .hbm, ⟨4, _⟩ => ⟨S4352x12800, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mlp1Fwd.lean ====
abbrev S4096x4096 : Shape := ⟨2, ![4096, 4096]⟩
abbrev S8x4096x2048 : Shape := ⟨3, ![8, 4096, 2048]⟩
abbrev S1x16384 : Shape := ⟨2, ![1, 16384]⟩
abbrev S4096x16384 : Shape := ⟨2, ![4096, 16384]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S1x16384, .f32⟩
  | .hbm, ⟨3, _⟩ => ⟨S4096x16384, .f32⟩
  | .hbm, ⟨4, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Mlp1FwdRefIdeal.lean ====
abbrev S4096x4096 : Shape := ⟨2, ![4096, 4096]⟩
abbrev S8x4096x2048 : Shape := ⟨3, ![8, 4096, 2048]⟩
abbrev S1x16384 : Shape := ⟨2, ![1, 16384]⟩
abbrev S4096x8x2048 : Shape := ⟨3, ![4096, 8, 2048]⟩
abbrev S4096x16384 : Shape := ⟨2, ![4096, 16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S1x16384, .f32⟩
  | .hbm, ⟨3, _⟩ => ⟨S4096x8x2048, .bf16⟩
  | .hbm, ⟨4, _⟩ => ⟨S4096x16384, .bf16⟩
  | .hbm, ⟨5, _⟩ => ⟨S4096x16384, .f32⟩
  | .hbm, ⟨6, _⟩ => ⟨S4096x4096, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Mlp2Fwd.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2FwdRefIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ModFwd.lean ====
abbrev S16x4096 : Shape := ⟨2, ![16, 4096]⟩
abbrev S4096x3072 : Shape := ⟨2, ![4096, 3072]⟩
abbrev S1x3072 : Shape := ⟨2, ![1, 3072]⟩
abbrev S16x3072 : Shape := ⟨2, ![16, 3072]⟩
abbrev S4096x1024 : Shape := ⟨2, ![4096, 1024]⟩
abbrev S1x1024 : Shape := ⟨2, ![1, 1024]⟩
abbrev S16x1024 : Shape := ⟨2, ![16, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x3072, .f32⟩
  | .local _ .vmem, ⟨0, _⟩ => ⟨S16x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModFwdRefIdeal.lean ====
abbrev S16x4096 : Shape := ⟨2, ![16, 4096]⟩
abbrev S4096x3072 : Shape := ⟨2, ![4096, 3072]⟩
abbrev S1x3072 : Shape := ⟨2, ![1, 3072]⟩
abbrev S16x3072 : Shape := ⟨2, ![16, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x3072, .f32⟩
  | .hbm, ⟨4, _⟩ => ⟨S16x3072, .f32⟩
  | .hbm, ⟨5, _⟩ => ⟨S16x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LnInLat.lean ====
abbrev S4096x4096 : Shape := ⟨2, ![4096, 4096]⟩
abbrev S4352x4096 : Shape := ⟨2, ![4352, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 11
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4352x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== LnInLatRefIdeal.lean ====
abbrev S4096x4096 : Shape := ⟨2, ![4096, 4096]⟩
abbrev S4352x4096 : Shape := ⟨2, ![4352, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4352x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S4096x4096, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x4096, .f32⟩
  | .hbm, ⟨80, _⟩ => ⟨S4096x4096, .f32⟩
  | .hbm, ⟨81, _⟩ => ⟨S4096x1, .f32⟩
  | .hbm, ⟨82, _⟩ => ⟨S4096x4096, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x4096, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x4096, .f32⟩
  | .hbm, ⟨105, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== LnInCtx.lean ====
abbrev S256x4096 : Shape := ⟨2, ![256, 4096]⟩
abbrev S4352x4096 : Shape := ⟨2, ![4352, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 9
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S4352x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LnInCtxRefIdeal.lean ====
abbrev S256x4096 : Shape := ⟨2, ![256, 4096]⟩
abbrev S4352x4096 : Shape := ⟨2, ![4352, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S4096 : Shape := ⟨1, ![4096]⟩

abbrev nBuf : Space → Nat
  | .hbm => 58
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4352x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S256x4096, .f32⟩
  | .hbm, ⟨32, _⟩ => ⟨S256x4096, .f32⟩
  | .hbm, ⟨33, _⟩ => ⟨S256x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S256x4096, .f32⟩
  | .hbm, ⟨38, _⟩ => ⟨S256x4096, .f32⟩
  | .hbm, ⟨39, _⟩ => ⟨S256x4096, .f32⟩
  | .hbm, ⟨40, _⟩ => ⟨S256x4096, .f32⟩
  | .hbm, ⟨41, _⟩ => ⟨S256x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S256x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S256x4096, .f32⟩
  | .hbm, ⟨50, _⟩ => ⟨S256x4096, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S256x4096, .f32⟩
  | .hbm, ⟨55, _⟩ => ⟨S_, .f32⟩
  | .hbm, ⟨56, _⟩ => ⟨S4096, .f32⟩
  | .hbm, ⟨57, _⟩ => ⟨S1x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Ln1Bwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 15
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S4096x4096, .f32⟩
  | .hbm, ⟨9, _⟩ => ⟨S4096x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Ln1BwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S1x4096, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S1x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x4096, .f32⟩
  | .hbm, ⟨88, _⟩ => ⟨S4096x4096, .f32⟩
  | .hbm, ⟨89, _⟩ => ⟨S4096x1, .f32⟩
  | .hbm, ⟨90, _⟩ => ⟨S4096x4096, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x4096, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x4096, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .f32⟩
  | .hbm, ⟨117, _⟩ => ⟨S_, .f32⟩
  | .hbm, ⟨118, _⟩ => ⟨S4096, .f32⟩
  | .hbm, ⟨119, _⟩ => ⟨S1x4096, .f32⟩
  | .hbm, ⟨120, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_22 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== B1Grad.lean ====
abbrev S4096x16384 : Shape := ⟨2, ![4096, 16384]⟩
abbrev S1x16384 : Shape := ⟨2, ![1, 16384]⟩
abbrev S256x16384 : Shape := ⟨2, ![256, 16384]⟩
abbrev S16384 : Shape := ⟨1, ![16384]⟩

abbrev nBuf : Space → Nat
  | .hbm => 2
  | .vmem => 3
  | .smem => 0
  | _ => 0

abbrev bufTy : (tb : Table) → Fin (tcTables nBuf tb) → BufTy
  | .hbm, ⟨0, _⟩ => ⟨S4096x16384, .bf16⟩
  | .hbm, ⟨1, _⟩ => ⟨S1x16384, .f32⟩
  | .local _ .vmem, ⟨0, _⟩ => ⟨S256x16384, .bf16⟩
  | .local _ .vmem, ⟨1, _⟩ => ⟨S256x16384, .bf16⟩
  | .local _ .vmem, ⟨2, _⟩ => ⟨S1x16384, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== B1GradRefIdeal.lean ====
abbrev S4096x16384 : Shape := ⟨2, ![4096, 16384]⟩
abbrev S_ : Shape := ⟨0, ![]⟩
abbrev S1x16384 : Shape := ⟨2, ![1, 16384]⟩
abbrev S16384 : Shape := ⟨1, ![16384]⟩

abbrev nBuf : Space → Nat
  | .hbm => 11
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S_, .f32⟩
  | .hbm, ⟨2, _⟩ => ⟨S1x16384, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S_, .f32⟩
  | .hbm, ⟨9, _⟩ => ⟨S16384, .f32⟩
  | .hbm, ⟨10, _⟩ => ⟨S1x16384, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== BmodGrad.lean ====
abbrev S16x24576 : Shape := ⟨2, ![16, 24576]⟩
abbrev S1x24576 : Shape := ⟨2, ![1, 24576]⟩
abbrev S24576 : Shape := ⟨1, ![24576]⟩

abbrev nBuf : Space → Nat
  | .hbm => 2
  | .vmem => 2
  | .smem => 0
  | _ => 0

abbrev bufTy : (tb : Table) → Fin (tcTables nBuf tb) → BufTy
  | .hbm, ⟨0, _⟩ => ⟨S16x24576, .f32⟩
  | .hbm, ⟨1, _⟩ => ⟨S1x24576, .f32⟩
  | .local _ .vmem, ⟨0, _⟩ => ⟨S16x24576, .f32⟩
  | .local _ .vmem, ⟨1, _⟩ => ⟨S1x24576, .f32⟩
  | _, _ => ⟨S16x24576, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x24576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== BmodGradRefIdeal.lean ====
abbrev S16x24576 : Shape := ⟨2, ![16, 24576]⟩
abbrev S_ : Shape := ⟨0, ![]⟩
abbrev S1x24576 : Shape := ⟨2, ![1, 24576]⟩
abbrev S24576 : Shape := ⟨1, ![24576]⟩

abbrev nBuf : Space → Nat
  | .hbm => 10
  | .vmem => 0
  | .smem => 0
  | _ => 0

abbrev bufTy : (tb : Table) → Fin (tcTables nBuf tb) → BufTy
  | .hbm, ⟨0, _⟩ => ⟨S16x24576, .f32⟩
  | .hbm, ⟨1, _⟩ => ⟨S_, .f32⟩
  | .hbm, ⟨2, _⟩ => ⟨S1x24576, .f32⟩
  | .hbm, ⟨3, _⟩ => ⟨S_, .f32⟩
  | .hbm, ⟨4, _⟩ => ⟨S16x24576, .f32⟩
  | .hbm, ⟨5, _⟩ => ⟨S16x24576, .f32⟩
  | .hbm, ⟨6, _⟩ => ⟨S16x24576, .f32⟩
  | .hbm, ⟨7, _⟩ => ⟨S_, .f32⟩
  | .hbm, ⟨8, _⟩ => ⟨S24576, .f32⟩
  | .hbm, ⟨9, _⟩ => ⟨S1x24576, .f32⟩
  | _, _ => ⟨S16x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== CctxGrad.lean ====
abbrev S1x4096 : Shape := ⟨2, ![1, 4096]⟩

abbrev nBuf : Space → Nat
  | .hbm => 3
  | .vmem => 3
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]
-- ==== CctxGradRefIdeal.lean ====
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== LnLatFwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== LnLatFwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== LnCtxFwd.lean ====
abbrev S256x4096 : Shape := ⟨2, ![256, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S256x4096, .f32⟩
  | .hbm, ⟨6, _⟩ => ⟨S256x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== LnCtxFwdRefIdeal.lean ====
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩

abbrev nBuf : Space → Nat
  | .hbm => 40
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x4096, .f32⟩
  | .hbm, ⟨12, _⟩ => ⟨S256x4096, .f32⟩
  | .hbm, ⟨13, _⟩ => ⟨S256x4096, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S256x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S256x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S256x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Ln1Fwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .bf16⟩
  | .local _ .vmem, ⟨12, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== Ln1FwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S1x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== ConfFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== ConfFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== SiluC.lean ====
abbrev S16x4096 : Shape := ⟨2, ![16, 4096]⟩

abbrev nBuf : Space → Nat
  | .hbm => 2
  | .vmem => 2
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .local _ .vmem, ⟨0, _⟩ => ⟨S16x4096, .f32⟩
  | .local _ .vmem, ⟨1, _⟩ => ⟨S16x4096, .f32⟩
  | _, _ => ⟨S16x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]
-- ==== SiluCRefIdeal.lean ====
abbrev S16x4096 : Shape := ⟨2, ![16, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== AdamMod.lean ====
abbrev S4096x3072 : Shape := ⟨2, ![4096, 3072]⟩
abbrev S128x3072 : Shape := ⟨2, ![128, 3072]⟩

abbrev nBuf : Space → Nat
  | .hbm => 8
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModIdeal.lean ====
abbrev S4096x3072 : Shape := ⟨2, ![4096, 3072]⟩
abbrev S128x3072 : Shape := ⟨2, ![128, 3072]⟩

abbrev nBuf : Space → Nat
  | .hbm => 8
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlp2.lean ====
abbrev S2048x4096 : Shape := ⟨2, ![2048, 4096]⟩
abbrev S8x2048x4096 : Shape := ⟨3, ![8, 2048, 4096]⟩
abbrev S128x4096 : Shape := ⟨2, ![128, 4096]⟩
abbrev S8x128x4096 : Shape := ⟨3, ![8, 128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S8x128x4096, .bf16⟩
  | .local _ .vmem, ⟨7, _⟩ => ⟨S8x128x4096, .bf16⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlp2Ideal.lean ====
abbrev S2048x4096 : Shape := ⟨2, ![2048, 4096]⟩
abbrev S8x2048x4096 : Shape := ⟨3, ![8, 2048, 4096]⟩
abbrev S128x4096 : Shape := ⟨2, ![128, 4096]⟩
abbrev S8x128x4096 : Shape := ⟨3, ![8, 128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S8x128x4096, .bf16⟩
  | .local _ .vmem, ⟨7, _⟩ => ⟨S8x128x4096, .bf16⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlp2RefIdeal.lean ====
abbrev S2048x4096 : Shape := ⟨2, ![2048, 4096]⟩
abbrev S8x2048x4096 : Shape := ⟨3, ![8, 2048, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S8x2048x4096, .f32⟩
  | .hbm, ⟨5, _⟩ => ⟨S_, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S2048x4096, .f32⟩
  | .hbm, ⟨39, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMlp1.lean ====
abbrev S4096x2048 : Shape := ⟨2, ![4096, 2048]⟩
abbrev S8x4096x2048 : Shape := ⟨3, ![8, 4096, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlp1Ideal.lean ====
abbrev S4096x2048 : Shape := ⟨2, ![4096, 2048]⟩
abbrev S8x4096x2048 : Shape := ⟨3, ![8, 4096, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlp1RefIdeal.lean ====
abbrev S4096x2048 : Shape := ⟨2, ![4096, 2048]⟩
abbrev S8x4096x2048 : Shape := ⟨3, ![8, 4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S8x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S512x4096 : Shape := ⟨2, ![512, 4096]⟩
abbrev S8x512x4096 : Shape := ⟨3, ![8, 512, 4096]⟩
abbrev S128x4096 : Shape := ⟨2, ![128, 4096]⟩
abbrev S8x128x4096 : Shape := ⟨3, ![8, 128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S8x128x4096, .bf16⟩
  | .local _ .vmem, ⟨7, _⟩ => ⟨S8x128x4096, .bf16⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x4096 : Shape := ⟨2, ![512, 4096]⟩
abbrev S8x512x4096 : Shape := ⟨3, ![8, 512, 4096]⟩
abbrev S128x4096 : Shape := ⟨2, ![128, 4096]⟩
abbrev S8x128x4096 : Shape := ⟨3, ![8, 128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S8x128x4096, .bf16⟩
  | .local _ .vmem, ⟨7, _⟩ => ⟨S8x128x4096, .bf16⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x4096 : Shape := ⟨2, ![512, 4096]⟩
abbrev S8x512x4096 : Shape := ⟨3, ![8, 512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S4096x1544 : Shape := ⟨2, ![4096, 1544]⟩
abbrev S4x4096x1544 : Shape := ⟨3, ![4, 4096, 1544]⟩
abbrev S256x1544 : Shape := ⟨2, ![256, 1544]⟩
abbrev S4x256x1544 : Shape := ⟨3, ![4, 256, 1544]⟩
abbrev S1x256x1544 : Shape := ⟨3, ![1, 256, 1544]⟩

abbrev nBuf : Space → Nat
  | .hbm => 8
  | .vmem => 16
  | .smem => 0
  | _ => 0

abbrev bufTy : (tb : Table) → Fin (tcTables nBuf tb) → BufTy
  | .hbm, ⟨0, _⟩ => ⟨S4096x1544, .f32⟩
  | .hbm, ⟨1, _⟩ => ⟨S4096x1544, .f32⟩
  | .hbm, ⟨2, _⟩ => ⟨S4096x1544, .f32⟩
  | .hbm, ⟨3, _⟩ => ⟨S4x4096x1544, .bf16⟩
  | .hbm, ⟨4, _⟩ => ⟨S4096x1544, .f32⟩
  | .hbm, ⟨5, _⟩ => ⟨S4096x1544, .f32⟩
  | .hbm, ⟨6, _⟩ => ⟨S4096x1544, .f32⟩
  | .hbm, ⟨7, _⟩ => ⟨S4096x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S4x256x1544, .bf16⟩
  | .local _ .vmem, ⟨7, _⟩ => ⟨S4x256x1544, .bf16⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | .local _ .vmem, ⟨14, _⟩ => ⟨S256x1544, .f32⟩
  | .local _ .vmem, ⟨15, _⟩ => ⟨S256x1544, .f32⟩
  | _, _ => ⟨S4096x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1544 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4096x1544 : Shape := ⟨2, ![4096, 1544]⟩
abbrev S4x4096x1544 : Shape := ⟨3, ![4, 4096, 1544]⟩
abbrev S256x1544 : Shape := ⟨2, ![256, 1544]⟩
abbrev S4x256x1544 : Shape := ⟨3, ![4, 256, 1544]⟩
abbrev S1x256x1544 : Shape := ⟨3, ![1, 256, 1544]⟩

abbrev nBuf : Space → Nat
  | .hbm => 8
  | .vmem => 16
  | .smem => 0
  | _ => 0

abbrev bufTy : (tb : Table) → Fin (tcTables nBuf tb) → BufTy
  | .hbm, ⟨0, _⟩ => ⟨S4096x1544, .f32⟩
  | .hbm, ⟨1, _⟩ => ⟨S4096x1544, .f32⟩
  | .hbm, ⟨2, _⟩ => ⟨S4096x1544, .f32⟩
  | .hbm, ⟨3, _⟩ => ⟨S4x4096x1544, .bf16⟩
  | .hbm, ⟨4, _⟩ => ⟨S4096x1544, .f32⟩
  | .hbm, ⟨5, _⟩ => ⟨S4096x1544, .f32⟩
  | .hbm, ⟨6, _⟩ => ⟨S4096x1544, .f32⟩
  | .hbm, ⟨7, _⟩ => ⟨S4096x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S4x256x1544, .bf16⟩
  | .local _ .vmem, ⟨7, _⟩ => ⟨S4x256x1544, .bf16⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | .local _ .vmem, ⟨14, _⟩ => ⟨S256x1544, .f32⟩
  | .local _ .vmem, ⟨15, _⟩ => ⟨S256x1544, .f32⟩
  | _, _ => ⟨S4096x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1544 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4096x1544 : Shape := ⟨2, ![4096, 1544]⟩
abbrev S4x4096x1544 : Shape := ⟨3, ![4, 4096, 1544]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1544, .f32⟩
  | .hbm, ⟨1, _⟩ => ⟨S4096x1544, .f32⟩
  | .hbm, ⟨2, _⟩ => ⟨S4096x1544, .f32⟩
  | .hbm, ⟨3, _⟩ => ⟨S4x4096x1544, .bf16⟩
  | .hbm, ⟨4, _⟩ => ⟨S4x4096x1544, .f32⟩
  | .hbm, ⟨5, _⟩ => ⟨S_, .f32⟩
  | .hbm, ⟨6, _⟩ => ⟨S4096x1544, .f32⟩
  | .hbm, ⟨7, _⟩ => ⟨S_, .f32⟩
  | .hbm, ⟨8, _⟩ => ⟨S4096x1544, .f32⟩
  | .hbm, ⟨9, _⟩ => ⟨S4096x1544, .f32⟩
  | .hbm, ⟨10, _⟩ => ⟨S_, .f32⟩
  | .hbm, ⟨11, _⟩ => ⟨S4096x1544, .f32⟩
  | .hbm, ⟨12, _⟩ => ⟨S4096x1544, .f32⟩
  | .hbm, ⟨13, _⟩ => ⟨S4096x1544, .f32⟩
  | .hbm, ⟨14, _⟩ => ⟨S_, .f32⟩
  | .hbm, ⟨15, _⟩ => ⟨S4096x1544, .f32⟩
  | .hbm, ⟨16, _⟩ => ⟨S4096x1544, .f32⟩
  | .hbm, ⟨17, _⟩ => ⟨S4096x1544, .f32⟩
  | .hbm, ⟨18, _⟩ => ⟨S_, .f32⟩
  | .hbm, ⟨19, _⟩ => ⟨S4096x1544, .f32⟩
  | .hbm, ⟨20, _⟩ => ⟨S4096x1544, .f32⟩
  | .hbm, ⟨21, _⟩ => ⟨S4096x1544, .f32⟩
  | .hbm, ⟨22, _⟩ => ⟨S_, .f32⟩
  | .hbm, ⟨23, _⟩ => ⟨S4096x1544, .f32⟩
  | .hbm, ⟨24, _⟩ => ⟨S4096x1544, .f32⟩
  | .hbm, ⟨25, _⟩ => ⟨S_, .f32⟩
  | .hbm, ⟨26, _⟩ => ⟨S4096x1544, .f32⟩
  | .hbm, ⟨27, _⟩ => ⟨S4096x1544, .f32⟩
  | .hbm, ⟨28, _⟩ => ⟨S4096x1544, .f32⟩
  | .hbm, ⟨29, _⟩ => ⟨S_, .f32⟩
  | .hbm, ⟨30, _⟩ => ⟨S4096x1544, .f32⟩
  | .hbm, ⟨31, _⟩ => ⟨S4096x1544, .f32⟩
  | .hbm, ⟨32, _⟩ => ⟨S4096x1544, .f32⟩
  | .hbm, ⟨33, _⟩ => ⟨S_, .f32⟩
  | .hbm, ⟨34, _⟩ => ⟨S4096x1544, .f32⟩
  | .hbm, ⟨35, _⟩ => ⟨S4096x1544, .f32⟩
  | .hbm, ⟨36, _⟩ => ⟨S4096x1544, .f32⟩
  | .hbm, ⟨37, _⟩ => ⟨S_, .f32⟩
  | .hbm, ⟨38, _⟩ => ⟨S4096x1544, .f32⟩
  | .hbm, ⟨39, _⟩ => ⟨S4096x1544, .f32⟩
  | _, _ => ⟨S4096x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S1x94208 : Shape := ⟨2, ![1, 94208]⟩

abbrev nBuf : Space → Nat
  | .hbm => 8
  | .vmem => 8
  | .smem => 0
  | _ => 0

abbrev bufTy : (tb : Table) → Fin (tcTables nBuf tb) → BufTy
  | .hbm, ⟨0, _⟩ => ⟨S1x94208, .f32⟩
  | .hbm, ⟨1, _⟩ => ⟨S1x94208, .f32⟩
  | .hbm, ⟨2, _⟩ => ⟨S1x94208, .f32⟩
  | .hbm, ⟨3, _⟩ => ⟨S1x94208, .f32⟩
  | .hbm, ⟨4, _⟩ => ⟨S1x94208, .f32⟩
  | .hbm, ⟨5, _⟩ => ⟨S1x94208, .f32⟩
  | .hbm, ⟨6, _⟩ => ⟨S1x94208, .f32⟩
  | .hbm, ⟨7, _⟩ => ⟨S1x94208, .f32⟩
  | .local _ .vmem, ⟨0, _⟩ => ⟨S1x94208, .f32⟩
  | .local _ .vmem, ⟨1, _⟩ => ⟨S1x94208, .f32⟩
  | .local _ .vmem, ⟨2, _⟩ => ⟨S1x94208, .f32⟩
  | .local _ .vmem, ⟨3, _⟩ => ⟨S1x94208, .f32⟩
  | .local _ .vmem, ⟨4, _⟩ => ⟨S1x94208, .f32⟩
  | .local _ .vmem, ⟨5, _⟩ => ⟨S1x94208, .f32⟩
  | .local _ .vmem, ⟨6, _⟩ => ⟨S1x94208, .f32⟩
  | .local _ .vmem, ⟨7, _⟩ => ⟨S1x94208, .f32⟩
  | _, _ => ⟨S1x94208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x94208 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x94208 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x94208 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x94208 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x94208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x94208 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x94208 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x94208 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallRefIdeal.lean ====
abbrev S1x94208 : Shape := ⟨2, ![1, 94208]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x94208, .f32⟩
  | .hbm, ⟨1, _⟩ => ⟨S1x94208, .f32⟩
  | .hbm, ⟨2, _⟩ => ⟨S1x94208, .f32⟩
  | .hbm, ⟨3, _⟩ => ⟨S1x94208, .f32⟩
  | .hbm, ⟨4, _⟩ => ⟨S_, .f32⟩
  | .hbm, ⟨5, _⟩ => ⟨S1x94208, .f32⟩
  | .hbm, ⟨6, _⟩ => ⟨S1x94208, .f32⟩
  | .hbm, ⟨7, _⟩ => ⟨S_, .f32⟩
  | .hbm, ⟨8, _⟩ => ⟨S1x94208, .f32⟩
  | .hbm, ⟨9, _⟩ => ⟨S1x94208, .f32⟩
  | .hbm, ⟨10, _⟩ => ⟨S1x94208, .f32⟩
  | .hbm, ⟨11, _⟩ => ⟨S_, .f32⟩
  | .hbm, ⟨12, _⟩ => ⟨S1x94208, .f32⟩
  | .hbm, ⟨13, _⟩ => ⟨S1x94208, .f32⟩
  | .hbm, ⟨14, _⟩ => ⟨S1x94208, .f32⟩
  | .hbm, ⟨15, _⟩ => ⟨S_, .f32⟩
  | .hbm, ⟨16, _⟩ => ⟨S1x94208, .f32⟩
  | .hbm, ⟨17, _⟩ => ⟨S1x94208, .f32⟩
  | .hbm, ⟨18, _⟩ => ⟨S1x94208, .f32⟩
  | .hbm, ⟨19, _⟩ => ⟨S_, .f32⟩
  | .hbm, ⟨20, _⟩ => ⟨S1x94208, .f32⟩
  | .hbm, ⟨21, _⟩ => ⟨S1x94208, .f32⟩
  | .hbm, ⟨22, _⟩ => ⟨S_, .f32⟩
  | .hbm, ⟨23, _⟩ => ⟨S1x94208, .f32⟩
  | .hbm, ⟨24, _⟩ => ⟨S1x94208, .f32⟩
  | .hbm, ⟨25, _⟩ => ⟨S1x94208, .f32⟩
  | .hbm, ⟨26, _⟩ => ⟨S_, .f32⟩
  | .hbm, ⟨27, _⟩ => ⟨S1x94208, .f32⟩
  | .hbm, ⟨28, _⟩ => ⟨S1x94208, .f32⟩
  | .hbm, ⟨29, _⟩ => ⟨S1x94208, .f32⟩
  | .hbm, ⟨30, _⟩ => ⟨S_, .f32⟩
  | .hbm, ⟨31, _⟩ => ⟨S1x94208, .f32⟩
  | .hbm, ⟨32, _⟩ => ⟨S1x94208, .f32⟩
  | .hbm, ⟨33, _⟩ => ⟨S1x94208, .f32⟩
  | .hbm, ⟨34, _⟩ => ⟨S_, .f32⟩
  | .hbm, ⟨35, _⟩ => ⟨S1x94208, .f32⟩
  | .hbm, ⟨36, _⟩ => ⟨S1x94208, .f32⟩
  | _, _ => ⟨S1x94208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AddWin.lean ====
abbrev S16384x1544 : Shape := ⟨2, ![16384, 1544]⟩
abbrev S256x1544 : Shape := ⟨2, ![256, 1544]⟩

abbrev nBuf : Space → Nat
  | .hbm => 3
  | .vmem => 6
  | .smem => 0
  | _ => 0

abbrev bufTy : (tb : Table) → Fin (tcTables nBuf tb) → BufTy
  | .hbm, ⟨0, _⟩ => ⟨S16384x1544, .bf16⟩
  | .hbm, ⟨1, _⟩ => ⟨S16384x1544, .bf16⟩
  | .hbm, ⟨2, _⟩ => ⟨S16384x1544, .bf16⟩
  | .local _ .vmem, ⟨0, _⟩ => ⟨S256x1544, .bf16⟩
  | .local _ .vmem, ⟨1, _⟩ => ⟨S256x1544, .bf16⟩
  | .local _ .vmem, ⟨2, _⟩ => ⟨S256x1544, .bf16⟩
  | .local _ .vmem, ⟨3, _⟩ => ⟨S256x1544, .bf16⟩
  | .local _ .vmem, ⟨4, _⟩ => ⟨S256x1544, .bf16⟩
  | .local _ .vmem, ⟨5, _⟩ => ⟨S256x1544, .bf16⟩
  | _, _ => ⟨S16384x1544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1544 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== AddWinRefIdeal.lean ====
abbrev S16384x1544 : Shape := ⟨2, ![16384, 1544]⟩

abbrev nBuf : Space → Nat
  | .hbm => 6
  | .vmem => 0
  | .smem => 0
  | _ => 0

abbrev bufTy : (tb : Table) → Fin (tcTables nBuf tb) → BufTy
  | .hbm, ⟨0, _⟩ => ⟨S16384x1544, .bf16⟩
  | .hbm, ⟨1, _⟩ => ⟨S16384x1544, .bf16⟩
  | .hbm, ⟨2, _⟩ => ⟨S16384x1544, .f32⟩
  | .hbm, ⟨3, _⟩ => ⟨S16384x1544, .f32⟩
  | .hbm, ⟨4, _⟩ => ⟨S16384x1544, .f32⟩
  | .hbm, ⟨5, _⟩ => ⟨S16384x1544, .bf16⟩
  | _, _ => ⟨S16384x1544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SumSmall.lean ====
abbrev S8x183296 : Shape := ⟨2, ![8, 183296]⟩
abbrev S1x183296 : Shape := ⟨2, ![1, 183296]⟩

abbrev nBuf : Space → Nat
  | .hbm => 2
  | .vmem => 2
  | .smem => 0
  | _ => 0

abbrev bufTy : (tb : Table) → Fin (tcTables nBuf tb) → BufTy
  | .hbm, ⟨0, _⟩ => ⟨S8x183296, .f32⟩
  | .hbm, ⟨1, _⟩ => ⟨S1x183296, .f32⟩
  | .local _ .vmem, ⟨0, _⟩ => ⟨S8x183296, .f32⟩
  | .local _ .vmem, ⟨1, _⟩ => ⟨S1x183296, .f32⟩
  | _, _ => ⟨S8x183296, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x183296 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x183296 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x183296 : Shape := ⟨2, ![8, 183296]⟩
abbrev S_ : Shape := ⟨0, ![]⟩
abbrev S183296 : Shape := ⟨1, ![183296]⟩
abbrev S1x183296 : Shape := ⟨2, ![1, 183296]⟩

abbrev nBuf : Space → Nat
  | .hbm => 4
  | .vmem => 0
  | .smem => 0
  | _ => 0

abbrev bufTy : (tb : Table) → Fin (tcTables nBuf tb) → BufTy
  | .hbm, ⟨0, _⟩ => ⟨S8x183296, .f32⟩
  | .hbm, ⟨1, _⟩ => ⟨S_, .f32⟩
  | .hbm, ⟨2, _⟩ => ⟨S183296, .f32⟩
  | .hbm, ⟨3, _⟩ => ⟨S1x183296, .f32⟩
  | _, _ => ⟨S8x183296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCctx.lean ====
abbrev S8x4096 : Shape := ⟨2, ![8, 4096]⟩
abbrev S1x4096 : Shape := ⟨2, ![1, 4096]⟩

abbrev nBuf : Space → Nat
  | .hbm => 2
  | .vmem => 2
  | .smem => 0
  | _ => 0

abbrev bufTy : (tb : Table) → Fin (tcTables nBuf tb) → BufTy
  | .hbm, ⟨0, _⟩ => ⟨S8x4096, .f32⟩
  | .hbm, ⟨1, _⟩ => ⟨S1x4096, .f32⟩
  | .local _ .vmem, ⟨0, _⟩ => ⟨S8x4096, .f32⟩
  | .local _ .vmem, ⟨1, _⟩ => ⟨S1x4096, .f32⟩
  | _, _ => ⟨S8x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumCctxRefIdeal.lean ====
abbrev S8x4096 : Shape := ⟨2, ![8, 4096]⟩
abbrev S_ : Shape := ⟨0, ![]⟩
abbrev S4096 : Shape := ⟨1, ![4096]⟩
abbrev S1x4096 : Shape := ⟨2, ![1, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S_, .f32⟩
  | .hbm, ⟨2, _⟩ => ⟨S4096, .f32⟩
  | .hbm, ⟨3, _⟩ => ⟨S1x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ln2Loss.lean ====
abbrev S4096x4096 : Shape := ⟨2, ![4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1x1 : Shape := ⟨3, ![1, 1, 1]⟩
abbrev S1x1 : Shape := ⟨2, ![1, 1]⟩
abbrev S4096 : Shape := ⟨1, ![4096]⟩

abbrev nBuf : Space → Nat
  | .hbm => 14
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | .local _ .vmem, ⟨18, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Ln2LossRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x4096, .f32⟩
  | .hbm, ⟨88, _⟩ => ⟨S4096x4096, .f32⟩
  | .hbm, ⟨89, _⟩ => ⟨S4096x1, .f32⟩
  | .hbm, ⟨90, _⟩ => ⟨S4096x4096, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x4096, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x4096, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .f32⟩
  | .hbm, ⟨117, _⟩ => ⟨S_, .f32⟩
  | .hbm, ⟨118, _⟩ => ⟨S4096, .f32⟩
  | .hbm, ⟨119, _⟩ => ⟨S1x4096, .f32⟩
  | .hbm, ⟨120, _⟩ => ⟨S_, .f32⟩
  | .hbm, ⟨121, _⟩ => ⟨S4096, .f32⟩
  | .hbm, ⟨122, _⟩ => ⟨S1x4096, .f32⟩
  | .hbm, ⟨123, _⟩ => ⟨S4096x4096, .bf16⟩
  | .hbm, ⟨124, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_cst_13 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_cst_20 : Ref sig .tc := ⟨.hbm, 94, rfl⟩
abbrev main_v66 : Ref sig .tc := ⟨.hbm, 95, rfl⟩
abbrev main_v67 : Ref sig .tc := ⟨.hbm, 96, rfl⟩
abbrev main_cst_21 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_22 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_23 : Ref sig .tc := ⟨.hbm, 107, rfl⟩
abbrev main_v76 : Ref sig .tc := ⟨.hbm, 108, rfl⟩
abbrev main_v77 : Ref sig .tc := ⟨.hbm, 109, rfl⟩
abbrev main_cst_24 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_25 : Ref sig .tc := ⟨.hbm, 117, rfl⟩
abbrev main_v84 : Ref sig .tc := ⟨.hbm, 118, rfl⟩
abbrev main_v85 : Ref sig .tc := ⟨.hbm, 119, rfl⟩
abbrev main_cst_26 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]
-- ==== Proof.GdnRefEntry.lean ====
/-
  Hand-written, untrusted; what the plain reference's operations before its loop leave.
-/
module

public import proofs.«01_k».proof.Proof.Gen.GdnDvRefIdeal.Run
public import proofs.«01_k».proof.Proof.Gen.GdnDvRefIdeal.Step

@[expose] public section

noncomputable section

namespace Cert.GdnDvRefIdeal.Entry

open Idealize.ShloMosaic Idealize.ShloMosaic.TcCoe Idealize.SL.Sem Idealize.ShloMosaic.StableHlo
open Cert.GdnDvRefIdeal Cert.GdnDvRefIdeal.Gen Cert.GdnDvRefIdeal.Value
open Cert.GdnDvRefIdeal.Step (State step init)

variable {F : FTy → Type} [FloatOps F]

variable (m : (ℓ : Loc nD τ sig) → Buf (Elt F) ℓ) (c : Dev nD)

/-- A concatenation of equal pieces. -/
theorem cat2 {α : Type} {t s₁ s₂ : Shape} {a : Fin t.rank} {x₁ y₁ : s₁.Idx → α} {x₂ y₂ : s₂.Idx → α}
    (h : Shape.Concatenates [s₁, s₂] t a) (h₁ : x₁ = y₁) (h₂ : x₂ = y₂) :
    concatenate t a [⟨s₁, x₁⟩, ⟨s₂, x₂⟩] h = concatenate t a [⟨s₁, y₁⟩, ⟨s₂, y₂⟩] h := by
  subst h₁ h₂; rfl

theorem e_6 : entryContents preI m c (Proc.devRef .tc main_v64_6) = Step.K_main_v62  := by
  simp only [entryContents, afterL_cons, afterL_nil]; after_reads_simp
  unfold Step.K_main_v62 Step.K_main_cst_1
  rfl

theorem e_7 : entryContents preI m c (Proc.devRef .tc main_v64_7) = Step.K_main_v63  := by
  simp only [entryContents, afterL_cons, afterL_nil]; after_reads_simp
  unfold Step.K_main_v63 Step.K_main_cst_2
  rfl

theorem e_1 : entryContents preI m c (Proc.devRef .tc main_v64_1) = Step.A_main_v43 (m (c.tc.loc main_arg0)) (m (c.tc.loc main_arg1)) (m (c.tc.loc main_arg6)) := by
  simp only [entryContents, afterL_cons, afterL_nil]; after_reads_simp
  unfold Step.A_main_v43 Step.A_main_v14
  refine congrArg (broadcastInDim _ _ _) (cat2 _ ?_ ?_)
  · after_reads_simp
    unfold Step.A_main_v12 Step.A_main_v11
    refine congrArg (broadcastInDim _ _ _) (cat2 _ ?_ ?_)
    · after_reads_simp
      rfl
    · after_reads_simp
      rfl
  · after_reads_simp
    rfl

theorem e_2 : entryContents preI m c (Proc.devRef .tc main_v64_2) = Step.A_main_v44 (m (c.tc.loc main_arg0)) (m (c.tc.loc main_arg1)) (m (c.tc.loc main_arg6)) := by
  simp only [entryContents, afterL_cons, afterL_nil]; after_reads_simp
  unfold Step.A_main_v44 Step.A_main_v22
  refine congrArg (broadcastInDim _ _ _) (cat2 _ ?_ ?_)
  · after_reads_simp
    unfold Step.A_main_v20 Step.A_main_v19
    refine congrArg (broadcastInDim _ _ _) (cat2 _ ?_ ?_)
    · after_reads_simp
      rfl
    · after_reads_simp
      rfl
  · after_reads_simp
    rfl

theorem e_3 : entryContents preI m c (Proc.devRef .tc main_v64_3) = Step.A_main_v47 (m (c.tc.loc main_arg0)) (m (c.tc.loc main_arg1)) (m (c.tc.loc main_arg6)) := by
  simp only [entryContents, afterL_cons, afterL_nil]; after_reads_simp
  unfold Step.A_main_v47 Step.A_main_v46 Step.A_main_v45 Step.A_main_v42
  refine congrArg (broadcastInDim _ _ _) (congrArg Host.exp (congrArg (fun z => extractStridedSlice _ _ z _) (cat2 _ ?_ ?_)))
  · after_reads_simp
    unfold Step.A_main_v40 Step.A_main_v39
    refine congrArg (broadcastInDim _ _ _) (cat2 _ ?_ ?_)
    · after_reads_simp
      rfl
    · after_reads_simp
      rfl
  · after_reads_simp
    rfl

theorem e_4 : entryContents preI m c (Proc.devRef .tc main_v64_4) = Step.A_main_v49 (m (c.tc.loc main_arg0)) (m (c.tc.loc main_arg1)) (m (c.tc.loc main_arg6)) := by
  simp only [entryContents, afterL_cons, afterL_nil]; after_reads_simp
  unfold Step.A_main_v49 Step.A_main_v48 Step.A_main_v42
  refine congrArg (broadcastInDim _ _ _) (congrArg (fun z => extractStridedSlice _ _ z _) (cat2 _ ?_ ?_))
  · after_reads_simp
    unfold Step.A_main_v40 Step.A_main_v39
    refine congrArg (broadcastInDim _ _ _) (cat2 _ ?_ ?_)
    · after_reads_simp
      rfl
    · after_reads_simp
      rfl
  · after_reads_simp
    rfl

theorem e_0 : entryContents preI m c (Proc.devRef .tc main_v64_0) = Step.A_main_v61 (m (c.tc.loc main_arg0)) (m (c.tc.loc main_arg1)) (m (c.tc.loc main_arg6)) := by
  simp only [entryContents, afterL_cons, afterL_nil]; after_reads_simp
  unfold Step.A_main_v61
  refine cat2 _ ?_ ?_
  · after_reads_simp
    unfold Step.A_main_v59 Step.A_main_v58
    refine congrArg (broadcastInDim _ _ _) (cat2 _ ?_ ?_)
    · after_reads_simp
      unfold Step.A_main_v55 Step.A_main_v54 Step.A_main_v52
      refine congrArg (Host.reverse [0]) (congrArg (fun z => extractStridedSlice _ _ z _) (cat2 _ ?_ ?_))
      · after_reads_simp
        rfl
      · after_reads_simp
        rfl
    · after_reads_simp
      unfold Step.A_main_v57 Step.A_main_v56 Step.A_main_v52
      refine congrArg (Host.reverse [0]) (congrArg (fun z => extractStridedSlice _ _ z _) (cat2 _ ?_ ?_))
      · after_reads_simp
        rfl
      · after_reads_simp
        rfl
  · after_reads_simp
    unfold Step.A_main_v60 Step.A_main_v52
    refine congrArg (broadcastInDim _ _ _) (cat2 _ ?_ ?_)
    · after_reads_simp
      rfl
    · after_reads_simp
      rfl

theorem e_5 : entryContents preI m c (Proc.devRef .tc main_v64_5) = constantI S_ 32 (BitVec.ofNat 32 0) := by
  simp only [entryContents, afterL_cons, afterL_nil]; after_reads_simp
  rfl

end Cert.GdnDvRefIdeal.Entry

end
-- ==== Proof.GdnRefRun.lean ====
/-
  Hand-written, untrusted; after the generated run's own statement over one trip's step. The plain reference's results are
  those of its step, iterated.
-/
module

public import proofs.«01_k».proof.Proof.Gen.GdnDvRefIdeal.Run
public import proofs.«01_k».proof.Proof.Gen.GdnDvRefIdeal.Step
public import proofs.«01_k».proof.Proof.GdnRefEntry

@[expose] public section

noncomputable section

namespace Cert.GdnDvRefIdeal.Iter

open Idealize.ShloMosaic Idealize.ShloMosaic.TcCoe Idealize.SL.Sem Idealize.ShloMosaic.StableHlo
open Cert.GdnDvRefIdeal Cert.GdnDvRefIdeal.Gen Cert.GdnDvRefIdeal.Value
open Cert.GdnDvRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v64_6) = s.main_v64_6
  f_7 : V0 (Proc.devRef .tc main_v64_7) = s.main_v64_7
  f_0 : V0 (Proc.devRef .tc main_v64_0) = s.main_v64_0
  f_1 : V0 (Proc.devRef .tc main_v64_1) = s.main_v64_1
  f_2 : V0 (Proc.devRef .tc main_v64_2) = s.main_v64_2
  f_3 : V0 (Proc.devRef .tc main_v64_3) = s.main_v64_3
  f_4 : V0 (Proc.devRef .tc main_v64_4) = s.main_v64_4
  n_5 : V0 (Proc.devRef .tc main_v64_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.GdnDvRefIdeal.Step.b0 j s := by
  unfold Cert.GdnDvRefIdeal.Step.b0
  rfl
set_option maxRecDepth 8192 in
theorem al_1 (h : Holds V0 s j) : (constantI S_ 32 0#32 : (Proc.devRef .tc main_while0b_call0_c_0 : DevRef τ sig).ty.Contents (Elt F)) = Cert.GdnDvRefIdeal.Step.b1 j s := by
  unfold Cert.GdnDvRefIdeal.Step.b1
  rfl
set_option maxRecDepth 8192 in
theorem al_2 (h : Holds V0 s j) : (constantI S_ 32 0#32 : (Proc.devRef .tc main_while0b_call0_c_1 : DevRef τ sig).ty.Contents (Elt F)) = Cert.GdnDvRefIdeal.Step.b2 j s := by
  unfold Cert.GdnDvRefIdeal.Step.b2
  rfl
set_option maxRecDepth 8192 in
theorem al_3 (h : Holds V0 s j) : (Host.dynamicSlice S1x2x16x128 (V0 (Proc.devRef .tc main_v64_0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x128_S1x2x16x128 : (Proc.devRef .tc main_while0b_call0_v0 : DevRef τ sig).ty.Contents (Elt F)) = Cert.GdnDvRefIdeal.Step.b3 j s := by
  unfold Cert.GdnDvRefIdeal.Step.b3
  rw [← al_0 h, ← al_1 h, ← al_2 h, h.f_0, h.n_5]
  try rfl
set_option maxRecDepth 8192 in
theorem al_4 (h : Holds V0 s j) : (shapeCast S2x16x128 (Host.dynamicSlice S1x2x16x128 (V0 (Proc.devRef .tc main_v64_0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x128_S1x2x16x128) shapeCasts_S1x2x16x128_S2x16x128 : (Proc.devRef .tc main_while0b_v85 : DevRef τ sig).ty.Contents (Elt F)) = Cert.GdnDvRefIdeal.Step.b4 j s := by
  unfold Cert.GdnDvRefIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.GdnDvRefIdeal.Step.b5 j s := by
  unfold Cert.GdnDvRefIdeal.Step.b5
  rfl
set_option maxRecDepth 8192 in
theorem al_6 (h : Holds V0 s j) : (constantI S_ 32 0#32 : (Proc.devRef .tc main_while0b_call1_c_0 : DevRef τ sig).ty.Contents (Elt F)) = Cert.GdnDvRefIdeal.Step.b6 j s := by
  unfold Cert.GdnDvRefIdeal.Step.b6
  rfl
set_option maxRecDepth 8192 in
theorem al_7 (h : Holds V0 s j) : (constantI S_ 32 0#32 : (Proc.devRef .tc main_while0b_call1_c_1 : DevRef τ sig).ty.Contents (Elt F)) = Cert.GdnDvRefIdeal.Step.b7 j s := by
  unfold Cert.GdnDvRefIdeal.Step.b7
  rfl
set_option maxRecDepth 8192 in
theorem al_8 (h : Holds V0 s j) : (constantI S_ 32 0#32 : (Proc.devRef .tc main_while0b_call1_c_2 : DevRef τ sig).ty.Contents (Elt F)) = Cert.GdnDvRefIdeal.Step.b8 j s := by
  unfold Cert.GdnDvRefIdeal.Step.b8
  rfl
set_option maxRecDepth 8192 in
theorem al_9 (h : Holds V0 s j) : (Host.dynamicSlice S1x2x16x128x1 (V0 (Proc.devRef .tc main_v64_1)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x128x1_S1x2x16x128x1 : (Proc.devRef .tc main_while0b_call1_v0 : DevRef τ sig).ty.Contents (Elt F)) = Cert.GdnDvRefIdeal.Step.b9 j s := by
  unfold Cert.GdnDvRefIdeal.Step.b9
  rw [← al_5 h, ← al_6 h, ← al_7 h, ← al_8 h, h.f_1, h.n_5]
  try rfl
set_option maxRecDepth 8192 in
theorem al_10 (h : Holds V0 s j) : (shapeCast S2x16x128x1 (Host.dynamicSlice S1x2x16x128x1 (V0 (Proc.devRef .tc main_v64_1)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x128x1_S1x2x16x128x1) shapeCasts_S1x2x16x128x1_S2x16x128x1 : (Proc.devRef .tc main_while0b_v86 : DevRef τ sig).ty.Contents (Elt F)) = Cert.GdnDvRefIdeal.Step.b10 j s := by
  unfold Cert.GdnDvRefIdeal.Step.b10
  rw [← al_9 h]
  try rfl
set_option maxRecDepth 8192 in
theorem al_11 (h : Holds V0 s j) : (constantI S_ 32 0#32 : (Proc.devRef .tc main_while0b_call2_c : DevRef τ sig).ty.Contents (Elt F)) = Cert.GdnDvRefIdeal.Step.b11 j s := by
  unfold Cert.GdnDvRefIdeal.Step.b11
  rfl
set_option maxRecDepth 8192 in
theorem al_12 (h : Holds V0 s j) : (constantI S_ 32 0#32 : (Proc.devRef .tc main_while0b_call2_c_0 : DevRef τ sig).ty.Contents (Elt F)) = Cert.GdnDvRefIdeal.Step.b12 j s := by
  unfold Cert.GdnDvRefIdeal.Step.b12
  rfl
set_option maxRecDepth 8192 in
theorem al_13 (h : Holds V0 s j) : (constantI S_ 32 0#32 : (Proc.devRef .tc main_while0b_call2_c_1 : DevRef τ sig).ty.Contents (Elt F)) = Cert.GdnDvRefIdeal.Step.b13 j s := by
  unfold Cert.GdnDvRefIdeal.Step.b13
  rfl
set_option maxRecDepth 8192 in
theorem al_14 (h : Holds V0 s j) : (constantI S_ 32 0#32 : (Proc.devRef .tc main_while0b_call2_c_2 : DevRef τ sig).ty.Contents (Elt F)) = Cert.GdnDvRefIdeal.Step.b14 j s := by
  unfold Cert.GdnDvRefIdeal.Step.b14
  rfl
set_option maxRecDepth 8192 in
theorem al_15 (h : Holds V0 s j) : (Host.dynamicSlice S1x2x16x128x1 (V0 (Proc.devRef .tc main_v64_2)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x128x1_S1x2x16x128x1 : (Proc.devRef .tc main_while0b_call2_v0 : DevRef τ sig).ty.Contents (Elt F)) = Cert.GdnDvRefIdeal.Step.b15 j s := by
  unfold Cert.GdnDvRefIdeal.Step.b15
  rw [← al_11 h, ← al_12 h, ← al_13 h, ← al_14 h, h.f_2, h.n_5]
  try rfl
set_option maxRecDepth 8192 in
theorem al_16 (h : Holds V0 s j) : (res_main_while0b_v87 V0 : (Proc.devRef .tc main_while0b_v87 : DevRef τ sig).ty.Contents (Elt F)) = Cert.GdnDvRefIdeal.Step.b16 j s := by
  unfold res_main_while0b_v87 Cert.GdnDvRefIdeal.Step.b16
  rw [← al_15 h]
  try rfl
set_option maxRecDepth 8192 in
theorem al_17 (h : Holds V0 s j) : (constantI S_ 32 0#32 : (Proc.devRef .tc main_while0b_call3_c : DevRef τ sig).ty.Contents (Elt F)) = Cert.GdnDvRefIdeal.Step.b17 j s := by
  unfold Cert.GdnDvRefIdeal.Step.b17
  rfl
set_option maxRecDepth 8192 in
theorem al_18 (h : Holds V0 s j) : (constantI S_ 32 0#32 : (Proc.devRef .tc main_while0b_call3_c_0 : DevRef τ sig).ty.Contents (Elt F)) = Cert.GdnDvRefIdeal.Step.b18 j s := by
  unfold Cert.GdnDvRefIdeal.Step.b18
  rfl
set_option maxRecDepth 8192 in
theorem al_19 (h : Holds V0 s j) : (constantI S_ 32 0#32 : (Proc.devRef .tc main_while0b_call3_c_1 : DevRef τ sig).ty.Contents (Elt F)) = Cert.GdnDvRefIdeal.Step.b19 j s := by
  unfold Cert.GdnDvRefIdeal.Step.b19
  rfl
set_option maxRecDepth 8192 in
theorem al_20 (h : Holds V0 s j) : (constantI S_ 32 0#32 : (Proc.devRef .tc main_while0b_call3_c_2 : DevRef τ sig).ty.Contents (Elt F)) = Cert.GdnDvRefIdeal.Step.b20 j s := by
  unfold Cert.GdnDvRefIdeal.Step.b20
  rfl
set_option maxRecDepth 8192 in
theorem al_21 (h : Holds V0 s j) : (Host.dynamicSlice S1x2x16x1x1 (V0 (Proc.devRef .tc main_v64_3)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x1x1_S1x2x16x1x1 : (Proc.devRef .tc main_while0b_call3_v0 : DevRef τ sig).ty.Contents (Elt F)) = Cert.GdnDvRefIdeal.Step.b21 j s := by
  unfold Cert.GdnDvRefIdeal.Step.b21
  rw [← al_17 h, ← al_18 h, ← al_19 h, ← al_20 h, h.f_3, h.n_5]
  try rfl
set_option maxRecDepth 8192 in
theorem al_22 (h : Holds V0 s j) : (shapeCast S2x16x1x1 (Host.dynamicSlice S1x2x16x1x1 (V0 (Proc.devRef .tc main_v64_3)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x1x1_S1x2x16x1x1) shapeCasts_S1x2x16x1x1_S2x16x1x1 : (Proc.devRef .tc main_while0b_v88 : DevRef τ sig).ty.Contents (Elt F)) = Cert.GdnDvRefIdeal.Step.b22 j s := by
  unfold Cert.GdnDvRefIdeal.Step.b22
  rw [← al_21 h]
  try rfl
set_option maxRecDepth 8192 in
theorem al_23 (h : Holds V0 s j) : (constantI S_ 32 0#32 : (Proc.devRef .tc main_while0b_call4_c : DevRef τ sig).ty.Contents (Elt F)) = Cert.GdnDvRefIdeal.Step.b23 j s := by
  unfold Cert.GdnDvRefIdeal.Step.b23
  rfl
set_option maxRecDepth 8192 in
theorem al_24 (h : Holds V0 s j) : (constantI S_ 32 0#32 : (Proc.devRef .tc main_while0b_call4_c_0 : DevRef τ sig).ty.Contents (Elt F)) = Cert.GdnDvRefIdeal.Step.b24 j s := by
  unfold Cert.GdnDvRefIdeal.Step.b24
  rfl
set_option maxRecDepth 8192 in
theorem al_25 (h : Holds V0 s j) : (constantI S_ 32 0#32 : (Proc.devRef .tc main_while0b_call4_c_1 : DevRef τ sig).ty.Contents (Elt F)) = Cert.GdnDvRefIdeal.Step.b25 j s := by
  unfold Cert.GdnDvRefIdeal.Step.b25
  rfl
set_option maxRecDepth 8192 in
theorem al_26 (h : Holds V0 s j) : (Host.dynamicSlice S1x2x16x1 (V0 (Proc.devRef .tc main_v64_4)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x1_S1x2x16x1 : (Proc.devRef .tc main_while0b_call4_v0 : DevRef τ sig).ty.Contents (Elt F)) = Cert.GdnDvRefIdeal.Step.b26 j s := by
  unfold Cert.GdnDvRefIdeal.Step.b26
  rw [← al_23 h, ← al_24 h, ← al_25 h, h.f_4, h.n_5]
  try rfl
set_option maxRecDepth 8192 in
theorem al_27 (h : Holds V0 s j) : (shapeCast S2x16x1 (Host.dynamicSlice S1x2x16x1 (V0 (Proc.devRef .tc main_v64_4)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x1_S1x2x16x1) shapeCasts_S1x2x16x1_S2x16x1 : (Proc.devRef .tc main_while0b_v89 : DevRef τ sig).ty.Contents (Elt F)) = Cert.GdnDvRefIdeal.Step.b27 j s := by
  unfold Cert.GdnDvRefIdeal.Step.b27
  rw [← al_26 h]
  try rfl
set_option maxRecDepth 8192 in
theorem al_28 (h : Holds V0 s j) : (broadcastInDim S2x16x128x128 ![0, 1, 3] bcast_S2x16x128_S2x16x128x128_0_1_3 (shapeCast S2x16x128 (Host.dynamicSlice S1x2x16x128 (V0 (Proc.devRef .tc main_v64_0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x128_S1x2x16x128) shapeCasts_S1x2x16x128_S2x16x128) : (Proc.devRef .tc main_while0b_v90 : DevRef τ sig).ty.Contents (Elt F)) = Cert.GdnDvRefIdeal.Step.b28 j s := by
  unfold Cert.GdnDvRefIdeal.Step.b28
  rw [← al_4 h]
  try rfl
set_option maxRecDepth 8192 in
theorem al_29 (h : Holds V0 s j) : (broadcastInDim S2x16x128x128 ![0, 1, 2, 3] bcast_S2x16x128x1_S2x16x128x128_0_1_2_3 (shapeCast S2x16x128x1 (Host.dynamicSlice S1x2x16x128x1 (V0 (Proc.devRef .tc main_v64_1)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x128x1_S1x2x16x128x1) shapeCasts_S1x2x16x128x1_S2x16x128x1) : (Proc.devRef .tc main_while0b_v91 : DevRef τ sig).ty.Contents (Elt F)) = Cert.GdnDvRefIdeal.Step.b29 j s := by
  unfold Cert.GdnDvRefIdeal.Step.b29
  rw [← al_10 h]
  try rfl
set_option maxRecDepth 8192 in
theorem al_30 (h : Holds V0 s j) : (mulf (broadcastInDim S2x16x128x128 ![0, 1, 2, 3] bcast_S2x16x128x1_S2x16x128x128_0_1_2_3 (shapeCast S2x16x128x1 (Host.dynamicSlice S1x2x16x128x1 (V0 (Proc.devRef .tc main_v64_1)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x128x1_S1x2x16x128x1) shapeCasts_S1x2x16x128x1_S2x16x128x1)) (broadcastInDim S2x16x128x128 ![0, 1, 3] bcast_S2x16x128_S2x16x128x128_0_1_3 (shapeCast S2x16x128 (Host.dynamicSlice S1x2x16x128 (V0 (Proc.devRef .tc main_v64_0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x128_S1x2x16x128) shapeCasts_S1x2x16x128_S2x16x128)) : (Proc.devRef .tc main_while0b_v92 : DevRef τ sig).ty.Contents (Elt F)) = Cert.GdnDvRefIdeal.Step.b30 j s := by
  unfold Cert.GdnDvRefIdeal.Step.b30
  rw [← al_29 h, ← al_28 h]
  try rfl
set_option maxRecDepth 8192 in
theorem al_31 (h : Holds V0 s j) : (res_main_while0b_v93 V0 : (Proc.devRef .tc main_while0b_v93 : DevRef τ sig).ty.Contents (Elt F)) = Cert.GdnDvRefIdeal.Step.b31 j s := by
  unfold res_main_while0b_v93 Cert.GdnDvRefIdeal.Step.b31
  rw [← al_30 h, h.f_6]
  try rfl
set_option maxRecDepth 8192 in
theorem al_32 (h : Holds V0 s j) : (broadcastInDim S2x16x128x128 ![0, 1, 2, 3] bcast_S2x16x128x1_S2x16x128x128_0_1_2_3 (res_main_while0b_v87 V0) : (Proc.devRef .tc main_while0b_v94 : DevRef τ sig).ty.Contents (Elt F)) = Cert.GdnDvRefIdeal.Step.b32 j s := by
  unfold Cert.GdnDvRefIdeal.Step.b32
  rw [← al_16 h]
  try rfl
set_option maxRecDepth 8192 in
theorem al_33 (h : Holds V0 s j) : (mulf (broadcastInDim S2x16x128x128 ![0, 1, 2, 3] bcast_S2x16x128x1_S2x16x128x128_0_1_2_3 (res_main_while0b_v87 V0)) (res_main_while0b_v93 V0) : (Proc.devRef .tc main_while0b_v95 : DevRef τ sig).ty.Contents (Elt F)) = Cert.GdnDvRefIdeal.Step.b33 j s := by
  unfold Cert.GdnDvRefIdeal.Step.b33
  rw [← al_32 h, ← al_31 h]
  try rfl
set_option maxRecDepth 8192 in
theorem al_34 (h : Holds V0 s j) : (constant S_ .f32 0x00000000#32 : (Proc.devRef .tc main_while0b_cst_13 : DevRef τ sig).ty.Contents (Elt F)) = Cert.GdnDvRefIdeal.Step.b34 j s := by
  unfold Cert.GdnDvRefIdeal.Step.b34
  rfl
set_option maxRecDepth 8192 in
theorem al_35 (h : Holds V0 s j) : (Host.reduceAdd (mulf (broadcastInDim S2x16x128x128 ![0, 1, 2, 3] bcast_S2x16x128x1_S2x16x128x128_0_1_2_3 (res_main_while0b_v87 V0)) (res_main_while0b_v93 V0)) (constant S_ .f32 0x00000000#32) reducesTo_S2x16x128x128_S2x16x128_d2 h_S_ : (Proc.devRef .tc main_while0b_v96 : DevRef τ sig).ty.Contents (Elt F)) = Cert.GdnDvRefIdeal.Step.b35 j s := by
  unfold Cert.GdnDvRefIdeal.Step.b35
  rw [← al_33 h, ← al_34 h]
  try rfl
set_option maxRecDepth 8192 in
theorem al_36 (h : Holds V0 s j) : (shapeCast S2x16x1x128 (Host.reduceAdd (mulf (broadcastInDim S2x16x128x128 ![0, 1, 2, 3] bcast_S2x16x128x1_S2x16x128x128_0_1_2_3 (res_main_while0b_v87 V0)) (res_main_while0b_v93 V0)) (constant S_ .f32 0x00000000#32) reducesTo_S2x16x128x128_S2x16x128_d2 h_S_) shapeCasts_S2x16x128_S2x16x1x128 : (Proc.devRef .tc main_while0b_v97 : DevRef τ sig).ty.Contents (Elt F)) = Cert.GdnDvRefIdeal.Step.b36 j s := by
  unfold Cert.GdnDvRefIdeal.Step.b36
  rw [← al_35 h]
  try rfl
set_option maxRecDepth 8192 in
theorem al_37 (h : Holds V0 s j) : (constant S_ .f32 0x00000000#32 : (Proc.devRef .tc main_while0b_cst_14 : DevRef τ sig).ty.Contents (Elt F)) = Cert.GdnDvRefIdeal.Step.b37 j s := by
  unfold Cert.GdnDvRefIdeal.Step.b37
  rfl
set_option maxRecDepth 8192 in
theorem al_38 (h : Holds V0 s j) : (Host.reduceAdd (shapeCast S2x16x1x128 (Host.reduceAdd (mulf (broadcastInDim S2x16x128x128 ![0, 1, 2, 3] bcast_S2x16x128x1_S2x16x128x128_0_1_2_3 (res_main_while0b_v87 V0)) (res_main_while0b_v93 V0)) (constant S_ .f32 0x00000000#32) reducesTo_S2x16x128x128_S2x16x128_d2 h_S_) shapeCasts_S2x16x128_S2x16x1x128) (constant S_ .f32 0x00000000#32) reducesTo_S2x16x1x128_S2x16x128_d2 h_S_ : (Proc.devRef .tc main_while0b_v98 : DevRef τ sig).ty.Contents (Elt F)) = Cert.GdnDvRefIdeal.Step.b38 j s := by
  unfold Cert.GdnDvRefIdeal.Step.b38
  rw [← al_36 h, ← al_37 h]
  try rfl
set_option maxRecDepth 8192 in
theorem al_39 (h : Holds V0 s j) : (broadcastInDim S2x16x128 ![0, 1, 2] bcast_S2x16x1_S2x16x128_0_1_2 (shapeCast S2x16x1 (Host.dynamicSlice S1x2x16x1 (V0 (Proc.devRef .tc main_v64_4)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) sliceFits_S4352x2x16x1_S1x2x16x1) shapeCasts_S1x2x16x1_S2x16x1) : (Proc.devRef .tc main_while0b_v99 : DevRef τ sig).ty.Contents (Elt F)) = Cert.GdnDvRefIdeal.Step.b39 j s := by
  unfold Cert.GdnDvRefIdeal.Step.b39
  rw [← al_27 h]
  try rfl
set_option maxRecDepth 8192 in
theorem al_40 (h : Holds V0 s j) : (res_main_while0b_v100 V0 : (Proc.devRef .tc main_while0b_v100 : DevRef τ sig).ty.Contents (Elt F)) = Cert.GdnDvRefIdeal.Step.b40 j s := by
  unfold res_main_while0b_v100 Cert.GdnDvRefIdeal.Step.b40
  rw [← al_38 h, ← al_39 h]
  try rfl
set_option maxRecDepth 8192 in
theorem al_41 (h : Holds V0 s j) : (Host.negf (res_main_while0b_v100 V0) : (Proc.devRef .tc main_while0b_v101 : DevRef τ sig).ty.Contents (Elt F)) = Cert.GdnDvRefIdeal.Step.b41 j s := by
  unfold Cert.GdnDvRefIdeal.Step.b41
  rw [← al_40 h]
  try rfl
set_option maxRecDepth 8192 in
theorem al_42 (h : Holds V0 s j) : (broadcastInDim S2x16x128x128 ![0, 1, 3] bcast_S2x16x128_S2x16x128x128_0_1_3 (Host.negf (res_main_while0b_v100 V0)) : (Proc.devRef .tc main_while0b_v102 : DevRef τ sig).ty.Contents (Elt F)) = Cert.GdnDvRefIdeal.Step.b42 j s := by
  unfold Cert.GdnDvRefIdeal.Step.b42
  rw [← al_41 h]
  try rfl
set_option maxRecDepth 8192 in
theorem al_43 (h : Holds V0 s j) : (broadcastInDim S2x16x128x128 ![0, 1, 2, 3] bcast_S2x16x128x1_S2x16x128x128_0_1_2_3 (res_main_while0b_v87 V0) : (Proc.devRef .tc main_while0b_v103 : DevRef τ sig).ty.Contents (Elt F)) = Cert.GdnDvRefIdeal.Step.b43 j s := by
  unfold Cert.GdnDvRefIdeal.Step.b43
  rw [← al_16 h]
  try rfl
set_option maxRecDepth 8192 in
theorem al_44 (h : Holds V0 s j) : (mulf (broadcastInDim S2x16x128x128 ![0, 1, 2, 3] bcast_S2x16x128x1_S2x16x128x128_0_1_2_3 (res_main_while0b_v87 V0)) (broadcastInDim S2x16x128x128 ![0, 1, 3] bcast_S2x16x128_S2x16x128x128_0_1_3 (Host.negf (res_main_while0b_v100 V0))) : (Proc.devRef .tc main_while0b_v104 : DevRef τ sig).ty.Contents (Elt F)) = Cert.GdnDvRefIdeal.Step.b44 j s := by
  unfold Cert.GdnDvRefIdeal.Step.b44
  rw [← al_43 h, ← al_42 h]
  try rfl
set_option maxRecDepth 8192 in
theorem al_45 (h : Holds V0 s j) : (addf (res_main_while0b_v93 V0) (mulf (broadcastInDim S2x16x128x128 ![0, 1, 2, 3] bcast_S2x16x128x1_S2x16x128x128_0_1_2_3 (res_main_while0b_v87 V0)) (broadcastInDim S2x16x128x128 ![0, 1, 3] bcast_S2x16x128_S2x16x128x128_0_1_3 (Host.negf (res_main_while0b_v100 V0)))) : (Proc.devRef .tc main_while0b_v105 : DevRef τ sig).ty.Contents (Elt F)) = Cert.GdnDvRefIdeal.Step.b45 j s := by
  unfold Cert.GdnDvRefIdeal.Step.b45
  rw [← al_31 h, ← al_44 h]
  try rfl
set_option maxRecDepth 8192 in
theorem al_46 (h : Holds V0 s j) : (broadcastInDim S2x16x128x128 ![0, 1, 2, 3] bcast_S2x16x1x1_S2x16x128x128_0_1_2_3 (shapeCast S2x16x1x1 (Host.dynamicSlice S1x2x16x1x1 (V0 (Proc.devRef .tc main_v64_3)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x1x1_S1x2x16x1x1) shapeCasts_S1x2x16x1x1_S2x16x1x1) : (Proc.devRef .tc main_while0b_v106 : DevRef τ sig).ty.Contents (Elt F)) = Cert.GdnDvRefIdeal.Step.b46 j s := by
  unfold Cert.GdnDvRefIdeal.Step.b46
  rw [← al_22 h]
  try rfl
set_option maxRecDepth 8192 in
theorem al_47 (h : Holds V0 s j) : (mulf (addf (res_main_while0b_v93 V0) (mulf (broadcastInDim S2x16x128x128 ![0, 1, 2, 3] bcast_S2x16x128x1_S2x16x128x128_0_1_2_3 (res_main_while0b_v87 V0)) (broadcastInDim S2x16x128x128 ![0, 1, 3] bcast_S2x16x128_S2x16x128x128_0_1_3 (Host.negf (res_main_while0b_v100 V0))))) (broadcastInDim S2x16x128x128 ![0, 1, 2, 3] bcast_S2x16x1x1_S2x16x128x128_0_1_2_3 (shapeCast S2x16x1x1 (Host.dynamicSlice S1x2x16x1x1 (V0 (Proc.devRef .tc main_v64_3)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x1x1_S1x2x16x1x1) shapeCasts_S1x2x16x1x1_S2x16x1x1)) : (Proc.devRef .tc main_while0b_v107 : DevRef τ sig).ty.Contents (Elt F)) = Cert.GdnDvRefIdeal.Step.b47 j s := by
  unfold Cert.GdnDvRefIdeal.Step.b47
  rw [← al_45 h, ← al_46 h]
  try rfl
set_option maxRecDepth 8192 in
theorem al_48 (h : Holds V0 s j) : (broadcastInDim S1x2x16x128 ![1, 2, 3] bcast_S2x16x128_S1x2x16x128_1_2_3 (res_main_while0b_v100 V0) : (Proc.devRef .tc main_while0b_call5_v0 : DevRef τ sig).ty.Contents (Elt F)) = Cert.GdnDvRefIdeal.Step.b48 j s := by
  unfold Cert.GdnDvRefIdeal.Step.b48
  rw [← al_40 h]
  try rfl
set_option maxRecDepth 8192 in
theorem al_49 (h : Holds V0 s j) : (constantI S_ 32 0#32 : (Proc.devRef .tc main_while0b_call5_c : DevRef τ sig).ty.Contents (Elt F)) = Cert.GdnDvRefIdeal.Step.b49 j s := by
  unfold Cert.GdnDvRefIdeal.Step.b49
  rfl
set_option maxRecDepth 8192 in
theorem al_50 (h : Holds V0 s j) : (constantI S_ 32 0#32 : (Proc.devRef .tc main_while0b_call5_c_0 : DevRef τ sig).ty.Contents (Elt F)) = Cert.GdnDvRefIdeal.Step.b50 j s := by
  unfold Cert.GdnDvRefIdeal.Step.b50
  rfl
set_option maxRecDepth 8192 in
theorem al_51 (h : Holds V0 s j) : (constantI S_ 32 0#32 : (Proc.devRef .tc main_while0b_call5_c_1 : DevRef τ sig).ty.Contents (Elt F)) = Cert.GdnDvRefIdeal.Step.b51 j s := by
  unfold Cert.GdnDvRefIdeal.Step.b51
  rfl
set_option maxRecDepth 8192 in
theorem al_52 (h : Holds V0 s j) : (Host.dynamicUpdateSlice (V0 (Proc.devRef .tc main_v64_7)) (broadcastInDim S1x2x16x128 ![1, 2, 3] bcast_S2x16x128_S1x2x16x128_1_2_3 (res_main_while0b_v100 V0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) updateFits_S4352x2x16x128_S1x2x16x128 : (Proc.devRef .tc main_while0b_v108 : DevRef τ sig).ty.Contents (Elt F)) = Cert.GdnDvRefIdeal.Step.b52 j s := by
  unfold Cert.GdnDvRefIdeal.Step.b52
  rw [← al_48 h, ← al_49 h, ← al_50 h, ← al_51 h, h.f_7, h.n_5]
  try rfl

/-! One trip's step of the carried values is `step`, field by field; a counter steps to the next number. -/

theorem step_6 (h : Holds V0 s j) : step_main_v64_6 V0 = (step j s).main_v64_6 := by
  unfold step_main_v64_6 Cert.GdnDvRefIdeal.Step.step
  show id (mulf (addf (res_main_while0b_v93 V0) (mulf (broadcastInDim S2x16x128x128 ![0, 1, 2, 3] bcast_S2x16x128x1_S2x16x128x128_0_1_2_3 (res_main_while0b_v87 V0)) (broadcastInDim S2x16x128x128 ![0, 1, 3] bcast_S2x16x128_S2x16x128x128_0_1_3 (Host.negf (res_main_while0b_v100 V0))))) (broadcastInDim S2x16x128x128 ![0, 1, 2, 3] bcast_S2x16x1x1_S2x16x128x128_0_1_2_3 (shapeCast S2x16x1x1 (Host.dynamicSlice S1x2x16x1x1 (V0 (Proc.devRef .tc main_v64_3)) (fun k => (((![V0 (Proc.devRef .tc main_v64_5), constantI S_ 32 0#32, constantI S_ 32 0#32, constantI S_ 32 0#32, constantI S_ 32 0#32] : Fin 5 → (⟨S_, .i32⟩ : BufTy).Contents (Elt F))) k (Shape.Idx.first h_S_)).toInt) sliceFits_S4352x2x16x1x1_S1x2x16x1x1) shapeCasts_S1x2x16x1x1_S2x16x1x1))) = _
  rw [al_47 h]
  try rfl
theorem step_7 (h : Holds V0 s j) : step_main_v64_7 V0 = (step j s).main_v64_7 := by
  unfold step_main_v64_7 Cert.GdnDvRefIdeal.Step.step
  show id (Host.dynamicUpdateSlice (V0 (Proc.devRef .tc main_v64_7)) (broadcastInDim S1x2x16x128 ![1, 2, 3] bcast_S2x16x128_S1x2x16x128_1_2_3 (res_main_while0b_v100 V0)) (fun k => (((![V0 (Proc.devRef .tc main_v64_5), constantI S_ 32 0#32, constantI S_ 32 0#32, constantI S_ 32 0#32] : Fin 4 → (⟨S_, .i32⟩ : BufTy).Contents (Elt F))) k (Shape.Idx.first h_S_)).toInt) updateFits_S4352x2x16x128_S1x2x16x128) = _
  exact al_52 h
theorem step_5 (h : Holds V0 s j) : step_main_v64_5 V0 = constantI S_ 32 (BitVec.ofNat 32 (j + 1)) := by
  unfold step_main_v64_5
  rw [h.n_5]
  funext i
  show BitVec.ofNat 32 j + 1#32 = BitVec.ofNat 32 (j + 1)
  simp only [BitVec.ofNat_add]

set_option maxRecDepth 8192 in
theorem out_main_v83_holds (h : Holds V0 s j) : out_main_v83 V0 = Cert.GdnDvRefIdeal.Step.R_main_v83 s := by
  unfold out_main_v83 Cert.GdnDvRefIdeal.Step.R_main_v83
  rw [h.f_7]
  try rfl

set_option maxRecDepth 8192 in
theorem out_main_v84_holds (h : Holds V0 s j) : out_main_v84 V0 = Cert.GdnDvRefIdeal.Step.R_main_v84 s := by
  unfold out_main_v84 Cert.GdnDvRefIdeal.Step.R_main_v84
  rw []
  try rfl

/-- One trip keeps the valuation holding: `step` of the state, the same set-up values, the next number. -/
theorem holds_step (h : Holds V0 s j) : Holds (STEP V0) (step j s) (j + 1) where
  f_6 := (STEP_main_v64_6 V0).trans (step_6 h)
  f_7 := (STEP_main_v64_7 V0).trans (step_7 h)
  n_5 := (STEP_main_v64_5 V0).trans (step_5 h)
  f_0 := (STEP_main_v64_0 V0).trans h.f_0
  f_1 := (STEP_main_v64_1 V0).trans h.f_1
  f_2 := (STEP_main_v64_2 V0).trans h.f_2
  f_3 := (STEP_main_v64_3 V0).trans h.f_3
  f_4 := (STEP_main_v64_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg6))

variable (m : (ℓ : Loc nD τ sig) → Buf (Elt F) ℓ) (c : Dev nD)

/-- What @main's operations before the loop leave: the set-up values, number 0, the initial state. -/
theorem entry_holds : Holds (entryContents preI m c) (initState m c) 0 :=
  ⟨Entry.e_6 m c, Entry.e_7 m c, Entry.e_0 m c, Entry.e_1 m c, Entry.e_2 m c, Entry.e_3 m c, Entry.e_4 m c, Entry.e_5 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GdnDvRefIdeal` terminates with each result at its field of state
    number 4352 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v83) = Cert.GdnDvRefIdeal.Step.R_main_v83 (it c 4352)
      ∧ r.2.mem ((c.tc : Thread nD τ).loc main_v84) = Cert.GdnDvRefIdeal.Step.R_main_v84 (it c 4352)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 4352
    ⟨(h c).1.trans (out_main_v83_holds hk), (h c).2.1.trans (out_main_v84_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.GdnDvRefIdeal.Iter

end
-- ==== Proof.GdnFacts.lean ====
/-
  Hand-written, untrusted. The side conditions that the precondition and the mask of the gated delta rule's gradient state.
-/
module

public import proofs.«01_k».proof.Pre_saved
public import proofs.«01_k».proof.On_only_dv
public import Idealize.ShloMosaic.Lib.Decide

@[expose] public section

namespace Cert.Pre_saved

/-- The precondition's side conditions hold. -/
theorem facts : Facts where
  bcast_S_S3x16x4352x128 := by decide
  reducesTo_S3x16x4352x128_S_d0_1_2_3 := by decide
  h_S_ := by decide
  bcast_S_S2x4352x128 := by decide
  reducesTo_S2x4352x128_S_d0_1_2 := by decide
  bcast_S_S2x68x16x64x64 := by decide
  reducesTo_S2x68x16x64x64_S_d0_1_2_3_4 := by decide
  bcast_S_S2x16x4352x128 := by decide
  reducesTo_S2x16x4352x128_S_d0_1_2_3 := by decide
  bcast_S_S16x4096x128 := by decide
  reducesTo_S16x4096x128_S_d0_1_2 := by decide
  bcast_S64x64_S1x64x64_1_2 := by decide
  concatenates_S1x64x64_S1x64x64_S2x64x64_d0 := by decide
  slices_S3x16x4352x128_S1x16x4352x128_1_0_0_0 := by decide
  shapeCasts_S1x16x4352x128_S16x4352x128 := by decide
  shapeCasts_S16x4352x128_S16x68x64x128 := by decide
  slices_S2x4352x128_S2x4352x16_0_0_0 := by decide
  shapeCasts_S2x4352x16_S2x68x64x16 := by decide
  slices_S2x4352x128_S2x4352x16_0_0_16 := by decide
  bcast_S2x64x64_S2x1x1x64x64_0_3_4 := by decide
  transposes_S2x68x64x16_S2x68x16x64_0_1_3_2 := by decide
  bcast_S2x68x16x64_S2x68x16x1x64_0_1_2_4 := by decide
  bcast_S2x1x1x64x64_S2x68x16x64x64_0_1_2_3_4 := by decide
  bcast_S2x68x16x1x64_S2x68x16x64x64_0_1_2_3_4 := by decide
  reducesTo_S2x68x16x64x64_S2x68x16x64_d4 := by decide
  bcast_S1x64x64_S2x64x64_0_1_2 := by decide
  bcast_S2x68x16x64_S2x68x16x64x1_0_1_2_3 := by decide
  bcast_S2x68x16x64x1_S2x68x16x64x64_0_1_2_3_4 := by decide
  bcast_S68x16x64x64_S1x68x16x64x64_1_2_3_4 := by decide
  bcast_S1x68x16x64x64_S2x68x16x64x64_0_1_2_3_4 := by decide
  bcast_S_S64x64 := by decide
  slices_S2x68x16x64x64_S1x64x16x64x64_0_4_0_0_0 := by decide
  shapeCasts_S1x64x16x64x64_S64x16x64x64 := by decide
  slices_S2x68x16x64x64_S1x4x16x64x64_0_0_0_0_0 := by decide
  shapeCasts_S1x4x16x64x64_S4x16x64x64 := by decide
  concatenates_S64x16x64x64_S4x16x64x64_S68x16x64x64_d0 := by decide
  slices_S2x68x16x64x64_S1x68x16x64x64_1_0_0_0_0 := by decide
  shapeCasts_S1x68x16x64x64_S68x16x64x64 := by decide
  concatenates_S1x68x16x64x64_S1x68x16x64x64_S2x68x16x64x64_d0 := by decide
  bcast_S64x64_S1x1x1x64x64_3_4 := by decide
  bcast_S1x1x1x64x64_S2x68x16x64x64_0_1_2_3_4 := by decide
  bcast_S16x68x64x128_S1x16x68x64x128_1_2_3_4 := by decide
  transposes_S2x68x16x64_S2x68x64x16_0_1_3_2 := by decide
  transposes_S2x68x64x16_S2x16x68x64_0_3_1_2 := by decide
  bcast_S2x16x68x64_S2x16x68x64x1_0_1_2_3 := by decide
  bcast_S1x16x68x64x128_S2x16x68x64x128_0_1_2_3_4 := by decide
  bcast_S2x16x68x64x1_S2x16x68x64x128_0_1_2_3_4 := by decide
  shapeCasts_S2x16x4352x128_S2x16x68x64x128 := by decide
  reducesTo_S2x16x68x64x128_S_d0_1_2_3_4 := by decide
  dot_S16x68x64x128_S16x68x64x128_S68x16x64x64_3_3_2_2_10_10_wf := by decide
  dot_S2x68x16x64x64_S2x68x16x64x64_S2x68x16x64x64_4_3_3_4_012_012_wf := by decide
  dot_S2x68x16x64x64_S2x16x68x64x128_S2x16x68x64x128_4_3_3_4_021_012_wf := by decide

end Cert.Pre_saved

namespace Cert.On_only_dv

/-- The mask's side conditions hold. -/
theorem facts : Facts where
  bcast_S_S2x3x16x4352x128 := by decide
  bcast_S_S2x4352x128 := by decide

end Cert.On_only_dv

end
-- ==== Proof.GdnMath.lean ====
/-
  Hand-written, untrusted. The gated delta rule's backward recurrence over the reals, token by token, and what a whole
  chunk of tokens makes of it at once.
-/
module

public import Idealize.ShloMosaic.Lib.Pipeline.ValueKit
public import Mathlib.LinearAlgebra.Matrix.SemiringInverse

@[expose] public section

noncomputable section

namespace Cert.Gdn

open Finset

section Tokens

variable {K V : Type} [Fintype K] [Fintype V]

/-- The gradient of one token's update `d`, of the state's gradient after the token. -/
def ddTok (X : K → V → ℝ) (q k : K → ℝ) (o : V → ℝ) (v : V) : ℝ :=
  ∑ a, k a * (X a v + q a * o v)

/-- The gradient of the state before a token, of the one after it. -/
def stepTok (X : K → V → ℝ) (q k : K → ℝ) (o : V → ℝ) (g b : ℝ) (a : K) (v : V) : ℝ :=
  Real.exp g * (X a v + q a * o v - k a * (b * ddTok X q k o v))

variable (X : ℕ → K → V → ℝ) (q k : ℕ → K → ℝ) (o : ℕ → V → ℝ) (g b : ℕ → ℝ)

/-- The sum of the first `n` log-decays, counted backwards from the chunk's end. -/
def H (g : ℕ → ℝ) (n : ℕ) : ℝ := ∑ l ∈ range n, g l

/-- The state's gradient after `n` tokens, in one sum. -/
theorem closed (hX : ∀ n, X (n + 1) = stepTok (X n) (q n) (k n) (o n) (g n) (b n)) (n : ℕ) (a : K) (v : V) :
    X n a v = Real.exp (H g n) * X 0 a v
      + ∑ l ∈ range n, Real.exp (H g n - H g l) * (q l a * o l v - k l a * (b l * ddTok (X l) (q l) (k l) (o l) v)) := by
  induction n with
  | zero => simp [H]
  | succ n ih =>
    have hH : H g (n + 1) = g n + H g n := by simp only [H, sum_range_succ]; ring
    rw [hX, stepTok, sum_range_succ, ih, hH, Real.exp_add, add_sub_assoc, mul_add, mul_add, Finset.mul_sum]
    rw [show g n + H g n - H g n = g n by ring, mul_assoc, add_assoc]
    congr 2
    · refine sum_congr rfl fun l _ => ?_
      rw [add_sub_assoc, Real.exp_add, mul_assoc]

/-- The triangular system that the updates' gradients of a chunk solve. -/
theorem dd_eq (hX : ∀ n, X (n + 1) = stepTok (X n) (q n) (k n) (o n) (g n) (b n)) (n : ℕ) (v : V) :
    ddTok (X n) (q n) (k n) (o n) v
      + ∑ l ∈ range n, b l * Real.exp (H g n - H g l) * (∑ a, k l a * k n a) * ddTok (X l) (q l) (k l) (o l) v
    = ∑ l ∈ range (n + 1), Real.exp (H g n - H g l) * (∑ a, q l a * k n a) * o l v
      + ∑ a, k n a * Real.exp (H g n) * X 0 a v := by
  conv_lhs => arg 1; rw [ddTok]
  have h1 : ∀ a, k n a * (X n a v + q n a * o n v) = k n a * Real.exp (H g n) * X 0 a v
      + (∑ l ∈ range n, Real.exp (H g n - H g l) * (q l a * k n a) * o l v)
      - (∑ l ∈ range n, b l * Real.exp (H g n - H g l) * (k l a * k n a) * ddTok (X l) (q l) (k l) (o l) v)
      + q n a * k n a * o n v := by
    intro a
    rw [closed X q k o g b hX, add_sub_assoc, ← sum_sub_distrib, mul_add, mul_add, mul_sum]
    rw [show k n a * (q n a * o n v) = q n a * k n a * o n v by ring]
    congr 1
    congr 1
    · ring
    · exact sum_congr rfl fun l _ => by ring
  simp only [h1]
  rw [sum_add_distrib, sum_sub_distrib, sum_add_distrib, sum_range_succ, sub_self, Real.exp_zero, one_mul]
  rw [sum_comm (s := univ) (t := range n), sum_comm (s := univ) (t := range n)]
  simp only [← sum_mul, ← mul_sum]
  ring

end Tokens

section Chunk

variable {N : ℕ} {K V : Type} [Fintype K] [Fintype V]
variable (pos : Fin N ≃ Fin N) (q k : Fin N → K → ℝ) (o : Fin N → V → ℝ) (g b : Fin N → ℝ)

/-- The cumulative log-decay at a row of a chunk: over the rows that the scan has met by then. `pos` counts the rows
    backwards from the last that the scan meets. -/
def Gc (i : Fin N) : ℝ := ∑ j, if pos i ≤ pos j then g j else 0

/-- The chunk's triangular matrix. -/
def Am (i j : Fin N) : ℝ :=
  if pos i < pos j then (∑ a, k i a * b i * k j a) * Real.exp (Gc pos g i - Gc pos g j) else 0

/-- The chunk's masked products of queries and keys. -/
def Pm (i j : Fin N) : ℝ :=
  if pos i ≤ pos j then (∑ a, q i a * k j a) * Real.exp (Gc pos g i - Gc pos g j) else 0

/-- The gradient of the chunk's new values. -/
def dvn (gl : ℝ) (X : K → V → ℝ) (i : Fin N) (v : V) : ℝ :=
  (∑ j, Pm pos q k g j i * o j v) + ∑ a, k i a * Real.exp (gl - Gc pos g i) * X a v

/-- What follows the row at a position, of a sequence over rows; nothing beyond the chunk. -/
def ext {α : Type} [Zero α] (f : Fin N → α) (n : ℕ) : α := if h : n < N then f (pos.symm ⟨n, h⟩) else 0

theorem ext_pos {α : Type} [Zero α] (f : Fin N → α) (i : Fin N) : ext pos f (pos i).val = f i := by
  simp [ext]

theorem sum_ext {α : Type} [AddCommMonoid α] (f : ℕ → α) : ∑ l ∈ range N, f l = ∑ i : Fin N, f (pos i).val := by
  rw [Finset.sum_range]
  exact (Equiv.sum_comp pos fun i : Fin N => f i.val).symm

theorem sum_ext_lt {α : Type} [AddCommMonoid α] (f : ℕ → α) (n : ℕ) (hn : n ≤ N) :
    ∑ l ∈ range n, f l = ∑ i : Fin N, if (pos i).val < n then f (pos i).val else 0 := by
  rw [← sum_ext pos fun l => if l < n then f l else 0, ← Finset.sum_filter]
  congr 1
  ext l
  simp only [mem_range, mem_filter]
  omega

/-- The whole chunk's log-decay. -/
def Gl : ℝ := ∑ j, g j

theorem H_pos (i : Fin N) : H (ext pos g) (pos i).val = Gl g - Gc pos g i := by
  rw [H, sum_ext_lt pos _ _ (pos i).2.le, Gl, Gc, ← sum_sub_distrib]
  refine sum_congr rfl fun j _ => ?_
  rw [ext_pos]
  by_cases h : pos j < pos i
  · rw [if_pos (Fin.lt_def.mp h), if_neg (not_le.mpr h), sub_zero]
  · rw [if_neg (fun h' => h (Fin.lt_def.mpr h')), if_pos (not_lt.mp h), sub_self]

theorem H_all : H (ext pos g) N = Gl g := by
  rw [H, sum_ext pos, Gl]
  exact sum_congr rfl fun j _ => ext_pos pos g j

variable (X : ℕ → K → V → ℝ)

/-- Over a chunk, solving with the inverse of the chunk's matrix gives each token's gradient of its update, and the
    state's gradient before the chunk. -/
theorem chunk (hX : ∀ i : Fin N, X ((pos i).val + 1) = stepTok (X (pos i).val) (q i) (k i) (o i) (g i) (b i))
    (T : Fin N → Fin N → ℝ) (w : Fin N → K → ℝ)
    (hT : ∀ i j, T i j + ∑ l, T i l * Am pos k g b l j = if i = j then 1 else 0)
    (hw : ∀ i a, w i a = ∑ j, T i j * (k j a * (b j * Real.exp (Gc pos g j)))) :
    (∀ i v, ∑ j, T j i * dvn pos q k o g (Gl g) (X 0) j v = ddTok (X (pos i).val) (q i) (k i) (o i) v)
    ∧ ∀ a v, X N a v = (∑ i, q i a * Real.exp (Gc pos g i) * o i v) + X 0 a v * Real.exp (Gl g)
        - ∑ i, w i a * dvn pos q k o g (Gl g) (X 0) i v := by
  -- the same recurrence, going on beyond the chunk
  let Y : ℕ → K → V → ℝ := fun n => Nat.rec (X 0) (fun n Y => stepTok Y (ext pos q n) (ext pos k n) (ext pos o n) (ext pos g n) (ext pos b n)) n
  have hY : ∀ n, Y (n + 1) = stepTok (Y n) (ext pos q n) (ext pos k n) (ext pos o n) (ext pos g n) (ext pos b n) := fun n => rfl
  have hYX : ∀ n, n ≤ N → Y n = X n := by
    intro n
    induction n with
    | zero => intro _; rfl
    | succ n ih =>
      intro hn
      have h := hX (pos.symm ⟨n, hn⟩)
      simp only [Equiv.apply_symm_apply] at h
      rw [hY, ih (by omega), h]
      simp only [ext, dif_pos (show n < N from hn)]
  let D : Fin N → V → ℝ := fun i v => ddTok (X (pos i).val) (q i) (k i) (o i) v
  have hD : ∀ i v, ddTok (Y (pos i).val) (q i) (k i) (o i) v = D i v := by
    intro i v
    rw [hYX _ (pos i).2.le]
  have hsys : ∀ i v, D i v + ∑ j, Am pos k g b j i * D j v = dvn pos q k o g (Gl g) (X 0) i v := by
    intro i v
    have h := dd_eq Y (ext pos q) (ext pos k) (ext pos o) (ext pos g) (ext pos b) hY (pos i).val v
    rw [ext_pos, ext_pos, ext_pos, hD, sum_ext_lt pos _ _ (pos i).2.le, sum_ext_lt pos _ ((pos i).val + 1) (by omega)] at h
    simp only [H_pos, ext_pos, hD] at h
    have hY0 : Y 0 = X 0 := rfl
    rw [hY0] at h
    rw [dvn]
    refine Eq.trans ?_ (h.trans ?_)
    · congr 1
      refine sum_congr rfl fun j _ => ?_
      rw [Am]
      by_cases hj : pos j < pos i
      · rw [if_pos hj, if_pos (Fin.lt_def.mp hj)]
        rw [show Gl g - Gc pos g i - (Gl g - Gc pos g j) = Gc pos g j - Gc pos g i by ring]
        have : ∑ a, k j a * b j * k i a = b j * ∑ a, k j a * k i a := by
          rw [mul_sum]; exact sum_congr rfl fun a _ => by ring
        rw [this]; ring
      · rw [if_neg hj, if_neg (fun h' => hj (Fin.lt_def.mpr h')), zero_mul]
    · congr 1
      refine sum_congr rfl fun j _ => ?_
      rw [Pm]
      by_cases hj : pos j ≤ pos i
      · rw [if_pos hj, if_pos (Nat.lt_succ_of_le (Fin.le_def.mp hj))]
        rw [show Gl g - Gc pos g i - (Gl g - Gc pos g j) = Gc pos g j - Gc pos g i by ring]
        ring
      · rw [if_neg hj, if_neg (fun h' => hj (Fin.le_def.mpr (Nat.le_of_lt_succ h'))), zero_mul]
  -- the inverse on the other side
  have hT' : ∀ i j, T i j + ∑ l, Am pos k g b i l * T l j = if i = j then 1 else 0 := by
    let TM : Matrix (Fin N) (Fin N) ℝ := T
    let AM : Matrix (Fin N) (Fin N) ℝ := Am pos k g b
    have h1 : TM * (1 + AM) = 1 := by
      ext i j
      rw [Matrix.mul_add, Matrix.mul_one, Matrix.add_apply, Matrix.mul_apply, Matrix.one_apply]
      exact hT i j
    have h2 := mul_eq_one_comm.mp h1
    intro i j
    have h3 := congrFun (congrFun h2 i) j
    rw [Matrix.add_mul, Matrix.one_mul, Matrix.add_apply, Matrix.mul_apply, Matrix.one_apply] at h3
    exact h3
  have hsolve : ∀ i v, ∑ j, T j i * dvn pos q k o g (Gl g) (X 0) j v = D i v := by
    intro i v
    have h1 : ∀ j, T j i * dvn pos q k o g (Gl g) (X 0) j v = T j i * D j v + ∑ l, Am pos k g b l j * T j i * D l v := by
      intro j
      rw [← hsys j v, mul_add, mul_sum]
      congr 1
      exact sum_congr rfl fun l _ => by ring
    simp only [h1]
    rw [sum_add_distrib, sum_comm, ← sum_add_distrib]
    have h2 : ∀ l, T l i * D l v + ∑ j, Am pos k g b l j * T j i * D l v = if l = i then D l v else 0 := by
      intro l
      rw [← sum_mul, ← add_mul, hT' l i]
      by_cases h : l = i <;> simp [h]
    simp only [h2]
    simp
  refine ⟨fun i v => hsolve i v, fun a v => ?_⟩
  have h := closed Y (ext pos q) (ext pos k) (ext pos o) (ext pos g) (ext pos b) hY N a v
  rw [hYX N le_rfl, H_all, sum_ext pos] at h
  simp only [H_pos, ext_pos, hD] at h
  have hY0 : Y 0 = X 0 := rfl
  rw [hY0] at h
  rw [h]
  have h1 : ∑ i, w i a * dvn pos q k o g (Gl g) (X 0) i v = ∑ j, k j a * (b j * Real.exp (Gc pos g j)) * D j v := by
    simp only [hw, sum_mul]
    rw [sum_comm]
    refine sum_congr rfl fun j _ => ?_
    rw [← hsolve j v, mul_sum]
    exact sum_congr rfl fun i _ => by ring
  rw [h1, add_comm (Real.exp (Gl g) * X 0 a v), mul_comm (Real.exp (Gl g))]
  rw [add_sub_right_comm, ← sum_sub_distrib]
  congr 1
  refine sum_congr rfl fun i _ => ?_
  rw [show Gl g - (Gl g - Gc pos g i) = Gc pos g i by ring]
  ring

end Chunk

end Cert.Gdn

end
-- ==== Proof.GdnPay.lean ====
/-
  Hand-written, untrusted. What the gated delta rule's backward kernel computes at one grid point, read at an index: each
  of its named values as a real number, of real inputs.
-/
module

public import proofs.«01_k».proof.Proof.Gen.GdnBwdIdeal.Value
public import proofs.«01_k».proof.Proof.GdnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GdnBwdIdeal.Pay

open Cert.GdnBwdIdeal Cert.GdnBwdIdeal.Gen Cert.Gdn
open Idealize.ShloMosaic Idealize.ShloMosaic.TcCoe Idealize.SL.Sem

/-- A sum of real numbers. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The bit that tells the second direction. -/
def rv (d : Fin 2) : BitVec 1 := Scalar.cmpi CmpIPredicate.eq (BitVec.ofNat 32 d.val) 1#32

theorem rv_zero : rv 0 = 0#1 := rfl
theorem rv_one : rv 1 = 1#1 := rfl

/-- Rows counted backwards from the last that a direction meets. -/
def pos (d : Fin 2) : Fin 64 ≃ Fin 64 := if d = 0 then Fin.revPerm else Equiv.refl _

theorem pos_zero : pos 0 = Fin.revPerm := rfl
theorem pos_one : pos 1 = Equiv.refl _ := rfl

/-- A head's lane of the log-decays. -/
def lane (h : Fin 16) : Fin 128 := ⟨h.val, by omega⟩

/-- A head's lane of the betas. -/
def blane (h : Fin 16) : Fin 128 := ⟨16 + h.val, by omega⟩

/-- Sums of `w` rows that end at a row. -/
def winD (w : ℕ) (g : Fin 64 → ℝ) (i : Fin 64) : ℝ := ∑ j : Fin 64, if j.val ≤ i.val ∧ i.val < j.val + w then g j else 0

/-- Sums of `w` rows that begin at a row. -/
def winU (w : ℕ) (g : Fin 64 → ℝ) (i : Fin 64) : ℝ := ∑ j : Fin 64, if i.val ≤ j.val ∧ j.val < i.val + w then g j else 0

theorem winD_double (w : ℕ) (g : Fin 64 → ℝ) (i : Fin 64) :
    winD (2 * w) g i = winD w g i + if h : w ≤ i.val then winD w g ⟨i.val - w, by omega⟩ else 0 := by
  unfold winD
  by_cases h : w ≤ i.val
  · rw [dif_pos h, ← Finset.sum_add_distrib]
    refine Finset.sum_congr rfl fun j _ => ?_
    dsimp only
    split_ifs <;> first | omega | simp
  · rw [dif_neg h, add_zero]
    refine Finset.sum_congr rfl fun j _ => ?_
    split_ifs <;> first | omega | rfl

theorem winU_double (w : ℕ) (g : Fin 64 → ℝ) (i : Fin 64) :
    winU (2 * w) g i = winU w g i + if h : i.val + w < 64 then winU w g ⟨i.val + w, h⟩ else 0 := by
  unfold winU
  by_cases h : i.val + w < 64
  · rw [dif_pos h, ← Finset.sum_add_distrib]
    refine Finset.sum_congr rfl fun j _ => ?_
    dsimp only
    split_ifs <;> first | omega | simp
  · rw [dif_neg h, add_zero]
    refine Finset.sum_congr rfl fun j _ => ?_
    have := j.2
    split_ifs <;> first | omega | rfl

theorem winD_one (g : Fin 64 → ℝ) (i : Fin 64) : winD 1 g i = g i := by
  unfold winD
  rw [Finset.sum_eq_single i]
  · rw [if_pos (by omega)]
  · intro j _ hj
    rw [if_neg]
    exact fun h => hj (Fin.ext (by omega))
  · intro h; exact absurd (Finset.mem_univ i) h

theorem winU_one (g : Fin 64 → ℝ) (i : Fin 64) : winU 1 g i = g i := by
  unfold winU
  rw [Finset.sum_eq_single i]
  · rw [if_pos (by omega)]
  · intro j _ hj
    rw [if_neg]
    exact fun h => hj (Fin.ext (by omega))
  · intro h; exact absurd (Finset.mem_univ i) h

theorem winD_all (g : Fin 64 → ℝ) (i : Fin 64) : winD 64 g i = Gc (pos 0) g i := by
  unfold winD Gc
  rw [pos_zero]
  refine Finset.sum_congr rfl fun j _ => if_congr ?_ rfl rfl
  rw [Fin.revPerm_apply, Fin.revPerm_apply, Fin.rev_le_rev, Fin.le_def]
  omega

theorem winU_all (g : Fin 64 → ℝ) (i : Fin 64) : winU 64 g i = Gc (pos 1) g i := by
  unfold winU Gc
  rw [pos_one]
  refine Finset.sum_congr rfl fun j _ => if_congr ?_ rfl rfl
  rw [Equiv.refl_apply, Equiv.refl_apply, Fin.le_def]
  omega

/-- Row numbers. -/
abbrev IO : IVec S64x128 32 := iota .tc S64x128 32 [0] iota_S64x128_d0_w32

/-- One step of the sums downwards. -/
def dn (s : BitVec 32) (x : FVec Ideal S64x128 .f32) : FVec Ideal S64x128 .f32 :=
  addf x (select (cmpi .sge IO (broadcast S64x128 s)) (dynamicRotate 0 s none x rotates_S64x128_d0)
    (broadcast S64x128 (Scalar.ofBits .f32 0x00000000#32)))

/-- One step of the sums upwards. -/
def up (s : BitVec 32) (x : FVec Ideal S64x128 .f32) : FVec Ideal S64x128 .f32 :=
  addf x (select (cmpi .slt IO (broadcast S64x128 s)) (dynamicRotate 0 s none x rotates_S64x128_d0)
    (broadcast S64x128 (Scalar.ofBits .f32 0x00000000#32)))

theorem sge_bit : ∀ (w : Fin 64) (i : Fin 64), IntOp.cmpi CmpIPredicate.sge (BitVec.ofNat 32 i.val) (BitVec.ofNat 32 w.val)
    = if w.val ≤ i.val then 1#1 else 0#1 := by decide +kernel

theorem slt_bit : ∀ (w : Fin 64) (i : Fin 64), IntOp.cmpi CmpIPredicate.slt (BitVec.ofNat 32 i.val) (BitVec.ofNat 32 w.val)
    = if i.val < w.val then 1#1 else 0#1 := by decide +kernel

theorem dn_at (w : ℕ) (hw0 : 0 < w) (hw : w < 64) (x : FVec Ideal S64x128 .f32) (g : Fin 64 → Fin 128 → ℝ)
    (hx : ∀ i l, (x (ix2 i l) : EReal) = (winD w (fun j => g j l) i : ℝ)) (i : Fin 64) (l : Fin 128) :
    (dn (BitVec.ofNat 32 w) x (ix2 i l) : EReal) = (winD (2 * w) (fun j => g j l) i : ℝ) := by
  unfold dn
  pointwise
  have e : (BitVec.ofNat 32 w).toNat = w := by rw [BitVec.toNat_ofNat]; exact Nat.mod_eq_of_lt (by omega)
  refine (congrArg₂ (· + ·) (hx i l) ?_).trans ((EReal.coe_add _ _).symm.trans (congrArg _ (winD_double w _ i).symm))
  by_cases h : w ≤ i.val
  · rw [dif_pos h]
    refine (if_pos ((sge_bit ⟨w, hw⟩ i).trans (if_pos h))).trans ((congrArg (fun q => x (ix2 q l)) (Fin.ext ?_)).trans (hx ⟨i.val - w, by omega⟩ l))
    show (i.val + 64 - (BitVec.ofNat 32 w).toNat % 64) % 64 = i.val - w
    rw [e]
    have := i.2
    omega
  · rw [dif_neg h]
    refine if_neg ?_
    rw [sge_bit ⟨w, hw⟩ i, if_neg h]
    decide

theorem up_at (w : ℕ) (hw0 : 0 < w) (hw : w < 64) (x : FVec Ideal S64x128 .f32) (g : Fin 64 → Fin 128 → ℝ)
    (hx : ∀ i l, (x (ix2 i l) : EReal) = (winU w (fun j => g j l) i : ℝ)) (i : Fin 64) (l : Fin 128) :
    (up (BitVec.ofNat 32 (64 - w)) x (ix2 i l) : EReal) = (winU (2 * w) (fun j => g j l) i : ℝ) := by
  unfold up
  pointwise
  have e : (BitVec.ofNat 32 (64 - w)).toNat = 64 - w := by rw [BitVec.toNat_ofNat]; exact Nat.mod_eq_of_lt (by omega)
  refine (congrArg₂ (· + ·) (hx i l) ?_).trans ((EReal.coe_add _ _).symm.trans (congrArg _ (winU_double w _ i).symm))
  by_cases h : i.val + w < 64
  · rw [dif_pos h]
    refine (if_pos ((slt_bit ⟨64 - w, by omega⟩ i).trans (if_pos (show i.val < 64 - w by omega)))).trans
      ((congrArg (fun q => x (ix2 q l)) (Fin.ext ?_)).trans (hx ⟨i.val + w, h⟩ l))
    show (i.val + 64 - (BitVec.ofNat 32 (64 - w)).toNat % 64) % 64 = i.val + w
    rw [e]
    omega
  · rw [dif_neg h]
    refine if_neg ?_
    rw [slt_bit ⟨64 - w, by omega⟩ i, if_neg (show ¬ i.val < 64 - w by omega)]
    decide

/-- The cumulative log-decays of a chunk, of its gates. -/
def g20 (b : BitVec 1) (x : FVec Ideal S64x128 .f32) : FVec Ideal S64x128 .f32 := k0_pay20 b IO (k0_pay18 x) (k0_pay19 x)

theorem g20_at (d : Fin 2) (x : FVec Ideal S64x128 .f32) (g : Fin 64 → Fin 128 → ℝ)
    (hx : ∀ i l, (x (ix2 i l) : EReal) = (g i l : ℝ)) (i : Fin 64) (l : Fin 128) :
    (g20 (rv d) x (ix2 i l) : EReal) = (Gc (pos d) (fun j => g j l) i : ℝ) := by
  have hd := dn_at 32 (by decide) (by decide) _ g (dn_at 16 (by decide) (by decide) _ g (dn_at 8 (by decide) (by decide) _ g
    (dn_at 4 (by decide) (by decide) _ g (dn_at 2 (by decide) (by decide) _ g (dn_at 1 (by decide) (by decide) x g
      (fun i l => by rw [winD_one, hx]))))))
  have hu := up_at 32 (by decide) (by decide) _ g (up_at 16 (by decide) (by decide) _ g (up_at 8 (by decide) (by decide) _ g
    (up_at 4 (by decide) (by decide) _ g (up_at 2 (by decide) (by decide) _ g (up_at 1 (by decide) (by decide) x g
      (fun i l => by rw [winU_one, hx]))))))
  match d with
  | 0 => rw [← winD_all]; exact hd i l
  | 1 => rw [← winU_all]; exact hu i l

/-- The transposed cumulative log-decays. -/
def g21 (b : BitVec 1) (x : FVec Ideal S64x128 .f32) : FVec Ideal S128x64 .f32 := k0_pay21 b IO (k0_pay18 x) (k0_pay19 x)

theorem g21_at (b : BitVec 1) (x : FVec Ideal S64x128 .f32) (l : Fin 128) (i : Fin 64) : g21 b x (ix2 l i) = g20 b x (ix2 i l) := by
  unfold g21 k0_pay21 g20
  pointwise

theorem p40_at (x0 x1 x2 x3 x4 x5 x6 x7 x8 x9 x10 x11 x12 x13 x14 x15 : FVec Ideal S1x64x128 .f32) (h : Fin 16) (i : Fin 64) (l : Fin 128) :
    k0_pay40 x0 x1 x2 x3 x4 x5 x6 x7 x8 x9 x10 x11 x12 x13 x14 x15 (ix3 h i l) = (![x0, x1, x2, x3, x4, x5, x6, x7, x8, x9, x10, x11, x12, x13, x14, x15] : Fin 16 → FVec Ideal S1x64x128 .f32) h (ix3 0 i l) := by
  refine concatenate_ofFn_unit_apply (t := S16x64x128) (s₁ := S1x64x128) 0 (![x0, x1, x2, x3, x4, x5, x6, x7, x8, x9, x10, x11, x12, x13, x14, x15] : Fin 16 → FVec Ideal S1x64x128 .f32)
    concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 rfl rfl (ix3 h i l) h rfl (ix3 0 i l) fun a ha => ?_
  match a with
  | 0 => exact absurd rfl ha
  | 1 => rfl
  | 2 => rfl

/-- The cumulative log-decays of every head, along the lanes. -/
def gcS (b : BitVec 1) (x : FVec Ideal S64x128 .f32) : FVec Ideal S16x64x128 .f32 :=
  k0_pay40 (k0_pay24 (k0_pay22 b IO (k0_pay18 x) (k0_pay19 x)))
    (k0_pay25 (k0_pay23 b IO (k0_pay18 x) (k0_pay19 x)))
    (k0_pay26 (g20 b x)) (k0_pay27 (g20 b x)) (k0_pay28 (g20 b x)) (k0_pay29 (g20 b x)) (k0_pay30 (g20 b x)) (k0_pay31 (g20 b x)) (k0_pay32 (g20 b x)) (k0_pay33 (g20 b x)) (k0_pay34 (g20 b x)) (k0_pay35 (g20 b x)) (k0_pay36 (g20 b x)) (k0_pay37 (g20 b x)) (k0_pay38 (g20 b x)) (k0_pay39 (g20 b x))

theorem gcS_at (b : BitVec 1) (x : FVec Ideal S64x128 .f32) (h : Fin 16) (i : Fin 64) (l : Fin 128) :
    gcS b x (ix3 h i l) = g20 b x (ix2 i (lane h)) := by
  unfold gcS
  rw [p40_at]
  fin_cases h
  · show k0_pay24 (k0_pay22 b IO (k0_pay18 x) (k0_pay19 x)) (ix3 0 i l) = _
    unfold k0_pay24 k0_pay22
    pointwise
    rfl
  · show k0_pay25 (k0_pay23 b IO (k0_pay18 x) (k0_pay19 x)) (ix3 0 i l) = _
    unfold k0_pay25 k0_pay23
    pointwise
    rfl
  · show k0_pay26 (g20 b x) (ix3 0 i l) = _
    unfold k0_pay26
    pointwise
    rfl
  · show k0_pay27 (g20 b x) (ix3 0 i l) = _
    unfold k0_pay27
    pointwise
    rfl
  · show k0_pay28 (g20 b x) (ix3 0 i l) = _
    unfold k0_pay28
    pointwise
    rfl
  · show k0_pay29 (g20 b x) (ix3 0 i l) = _
    unfold k0_pay29
    pointwise
    rfl
  · show k0_pay30 (g20 b x) (ix3 0 i l) = _
    unfold k0_pay30
    pointwise
    rfl
  · show k0_pay31 (g20 b x) (ix3 0 i l) = _
    unfold k0_pay31
    pointwise
    rfl
  · show k0_pay32 (g20 b x) (ix3 0 i l) = _
    unfold k0_pay32
    pointwise
    rfl
  · show k0_pay33 (g20 b x) (ix3 0 i l) = _
    unfold k0_pay33
    pointwise
    rfl
  · show k0_pay34 (g20 b x) (ix3 0 i l) = _
    unfold k0_pay34
    pointwise
    rfl
  · show k0_pay35 (g20 b x) (ix3 0 i l) = _
    unfold k0_pay35
    pointwise
    rfl
  · show k0_pay36 (g20 b x) (ix3 0 i l) = _
    unfold k0_pay36
    pointwise
    rfl
  · show k0_pay37 (g20 b x) (ix3 0 i l) = _
    unfold k0_pay37
    pointwise
    rfl
  · show k0_pay38 (g20 b x) (ix3 0 i l) = _
    unfold k0_pay38
    pointwise
    rfl
  · show k0_pay39 (g20 b x) (ix3 0 i l) = _
    unfold k0_pay39
    pointwise
    rfl
/-- Sixteen heads' matrices, side by side. -/
theorem cat64_at (x0 x1 x2 x3 x4 x5 x6 x7 x8 x9 x10 x11 x12 x13 x14 x15 : FVec Ideal S1x64x64 .f32) (h : Fin 16) (i j : Fin 64) :
    concatenate S16x64x64 0 [⟨S1x64x64, x0⟩, ⟨S1x64x64, x1⟩, ⟨S1x64x64, x2⟩, ⟨S1x64x64, x3⟩, ⟨S1x64x64, x4⟩, ⟨S1x64x64, x5⟩, ⟨S1x64x64, x6⟩, ⟨S1x64x64, x7⟩, ⟨S1x64x64, x8⟩, ⟨S1x64x64, x9⟩, ⟨S1x64x64, x10⟩, ⟨S1x64x64, x11⟩, ⟨S1x64x64, x12⟩, ⟨S1x64x64, x13⟩, ⟨S1x64x64, x14⟩, ⟨S1x64x64, x15⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 h i j)
      = (![x0, x1, x2, x3, x4, x5, x6, x7, x8, x9, x10, x11, x12, x13, x14, x15] : Fin 16 → FVec Ideal S1x64x64 .f32) h (ix3 0 i j) := by
  refine concatenate_ofFn_unit_apply (t := S16x64x64) (s₁ := S1x64x64) 0 (![x0, x1, x2, x3, x4, x5, x6, x7, x8, x9, x10, x11, x12, x13, x14, x15] : Fin 16 → FVec Ideal S1x64x64 .f32)
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 rfl rfl (ix3 h i j) h rfl (ix3 0 i j) fun a ha => ?_
  match a with
  | 0 => exact absurd rfl ha
  | 1 => rfl
  | 2 => rfl

/-- Sixteen heads' rows, side by side. -/
theorem cat128_at (x0 x1 x2 x3 x4 x5 x6 x7 x8 x9 x10 x11 x12 x13 x14 x15 : FVec Ideal S1x64x128 .f32) (h : Fin 16) (i : Fin 64) (l : Fin 128) :
    concatenate S16x64x128 0 [⟨S1x64x128, x0⟩, ⟨S1x64x128, x1⟩, ⟨S1x64x128, x2⟩, ⟨S1x64x128, x3⟩, ⟨S1x64x128, x4⟩, ⟨S1x64x128, x5⟩, ⟨S1x64x128, x6⟩, ⟨S1x64x128, x7⟩, ⟨S1x64x128, x8⟩, ⟨S1x64x128, x9⟩, ⟨S1x64x128, x10⟩, ⟨S1x64x128, x11⟩, ⟨S1x64x128, x12⟩, ⟨S1x64x128, x13⟩, ⟨S1x64x128, x14⟩, ⟨S1x64x128, x15⟩] concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 (ix3 h i l)
      = (![x0, x1, x2, x3, x4, x5, x6, x7, x8, x9, x10, x11, x12, x13, x14, x15] : Fin 16 → FVec Ideal S1x64x128 .f32) h (ix3 0 i l) :=
  p40_at x0 x1 x2 x3 x4 x5 x6 x7 x8 x9 x10 x11 x12 x13 x14 x15 h i l

/-- The betas of every head, along the lanes. -/
def bS (v9 : Vec Ideal S1x64x128 .f32) : FVec Ideal S16x64x128 .f32 :=
  k0_pay13 (k0_pay6 v9) (k0_pay10 v9) (k0_pay11 v9) (k0_pay12 v9)

theorem bS_at (v9 : Vec Ideal S1x64x128 .f32) (h : Fin 16) (i : Fin 64) (l : Fin 128) :
    (bS v9 (ix3 h i l) : EReal) = v9 (ix3 0 i (blane h)) := by
  unfold bS k0_pay13
  refine (cat128_at _ _ _ _ _ _ _ _ _ _ _ _ _ _ _ _ h i l).trans ?_
  fin_cases h
  · refine Eq.trans (b := v9 (ix3 0 i 16)) ?_ rfl
    show shapeCast S1x64x128 (k0_pay10 v9) shapeCasts_S64x128_S1x64x128 (ix3 0 i l) = _
    unfold k0_pay10 k0_pay6
    pointwise
  · refine Eq.trans (b := v9 (ix3 0 i 17)) ?_ rfl
    show shapeCast S1x64x128 (k0_pay11 v9) shapeCasts_S64x128_S1x64x128 (ix3 0 i l) = _
    unfold k0_pay11 k0_pay6
    pointwise
  · refine Eq.trans (b := v9 (ix3 0 i 18)) ?_ rfl
    show shapeCast S1x64x128 (broadcastTo S64x128 (k0_pay12 v9) broadcasts_S64x1_S64x128) shapeCasts_S64x128_S1x64x128 (ix3 0 i l) = _
    unfold k0_pay12 k0_pay6
    pointwise
  · refine Eq.trans (b := v9 (ix3 0 i 19)) ?_ rfl
    show shapeCast S1x64x128 (broadcastTo S64x128 (shapeCast S64x1 (extractStridedSlice S64x1 ![0, 19] (k0_pay6 v9) slices_S64x128_o0_19_S64x1) shapeCasts_S64x1_S64x1) broadcasts_S64x1_S64x128) shapeCasts_S64x128_S1x64x128 (ix3 0 i l) = _
    unfold k0_pay6
    pointwise
  · refine Eq.trans (b := v9 (ix3 0 i 20)) ?_ rfl
    show shapeCast S1x64x128 (broadcastTo S64x128 (shapeCast S64x1 (extractStridedSlice S64x1 ![0, 20] (k0_pay6 v9) slices_S64x128_o0_20_S64x1) shapeCasts_S64x1_S64x1) broadcasts_S64x1_S64x128) shapeCasts_S64x128_S1x64x128 (ix3 0 i l) = _
    unfold k0_pay6
    pointwise
  · refine Eq.trans (b := v9 (ix3 0 i 21)) ?_ rfl
    show shapeCast S1x64x128 (broadcastTo S64x128 (shapeCast S64x1 (extractStridedSlice S64x1 ![0, 21] (k0_pay6 v9) slices_S64x128_o0_21_S64x1) shapeCasts_S64x1_S64x1) broadcasts_S64x1_S64x128) shapeCasts_S64x128_S1x64x128 (ix3 0 i l) = _
    unfold k0_pay6
    pointwise
  · refine Eq.trans (b := v9 (ix3 0 i 22)) ?_ rfl
    show shapeCast S1x64x128 (broadcastTo S64x128 (shapeCast S64x1 (extractStridedSlice S64x1 ![0, 22] (k0_pay6 v9) slices_S64x128_o0_22_S64x1) shapeCasts_S64x1_S64x1) broadcasts_S64x1_S64x128) shapeCasts_S64x128_S1x64x128 (ix3 0 i l) = _
    unfold k0_pay6
    pointwise
  · refine Eq.trans (b := v9 (ix3 0 i 23)) ?_ rfl
    show shapeCast S1x64x128 (broadcastTo S64x128 (shapeCast S64x1 (extractStridedSlice S64x1 ![0, 23] (k0_pay6 v9) slices_S64x128_o0_23_S64x1) shapeCasts_S64x1_S64x1) broadcasts_S64x1_S64x128) shapeCasts_S64x128_S1x64x128 (ix3 0 i l) = _
    unfold k0_pay6
    pointwise
  · refine Eq.trans (b := v9 (ix3 0 i 24)) ?_ rfl
    show shapeCast S1x64x128 (broadcastTo S64x128 (shapeCast S64x1 (extractStridedSlice S64x1 ![0, 24] (k0_pay6 v9) slices_S64x128_o0_24_S64x1) shapeCasts_S64x1_S64x1) broadcasts_S64x1_S64x128) shapeCasts_S64x128_S1x64x128 (ix3 0 i l) = _
    unfold k0_pay6
    pointwise
  · refine Eq.trans (b := v9 (ix3 0 i 25)) ?_ rfl
    show shapeCast S1x64x128 (broadcastTo S64x128 (shapeCast S64x1 (extractStridedSlice S64x1 ![0, 25] (k0_pay6 v9) slices_S64x128_o0_25_S64x1) shapeCasts_S64x1_S64x1) broadcasts_S64x1_S64x128) shapeCasts_S64x128_S1x64x128 (ix3 0 i l) = _
    unfold k0_pay6
    pointwise
  · refine Eq.trans (b := v9 (ix3 0 i 26)) ?_ rfl
    show shapeCast S1x64x128 (broadcastTo S64x128 (shapeCast S64x1 (extractStridedSlice S64x1 ![0, 26] (k0_pay6 v9) slices_S64x128_o0_26_S64x1) shapeCasts_S64x1_S64x1) broadcasts_S64x1_S64x128) shapeCasts_S64x128_S1x64x128 (ix3 0 i l) = _
    unfold k0_pay6
    pointwise
  · refine Eq.trans (b := v9 (ix3 0 i 27)) ?_ rfl
    show shapeCast S1x64x128 (broadcastTo S64x128 (shapeCast S64x1 (extractStridedSlice S64x1 ![0, 27] (k0_pay6 v9) slices_S64x128_o0_27_S64x1) shapeCasts_S64x1_S64x1) broadcasts_S64x1_S64x128) shapeCasts_S64x128_S1x64x128 (ix3 0 i l) = _
    unfold k0_pay6
    pointwise
  · refine Eq.trans (b := v9 (ix3 0 i 28)) ?_ rfl
    show shapeCast S1x64x128 (broadcastTo S64x128 (shapeCast S64x1 (extractStridedSlice S64x1 ![0, 28] (k0_pay6 v9) slices_S64x128_o0_28_S64x1) shapeCasts_S64x1_S64x1) broadcasts_S64x1_S64x128) shapeCasts_S64x128_S1x64x128 (ix3 0 i l) = _
    unfold k0_pay6
    pointwise
  · refine Eq.trans (b := v9 (ix3 0 i 29)) ?_ rfl
    show shapeCast S1x64x128 (broadcastTo S64x128 (shapeCast S64x1 (extractStridedSlice S64x1 ![0, 29] (k0_pay6 v9) slices_S64x128_o0_29_S64x1) shapeCasts_S64x1_S64x1) broadcasts_S64x1_S64x128) shapeCasts_S64x128_S1x64x128 (ix3 0 i l) = _
    unfold k0_pay6
    pointwise
  · refine Eq.trans (b := v9 (ix3 0 i 30)) ?_ rfl
    show shapeCast S1x64x128 (broadcastTo S64x128 (shapeCast S64x1 (extractStridedSlice S64x1 ![0, 30] (k0_pay6 v9) slices_S64x128_o0_30_S64x1) shapeCasts_S64x1_S64x1) broadcasts_S64x1_S64x128) shapeCasts_S64x128_S1x64x128 (ix3 0 i l) = _
    unfold k0_pay6
    pointwise
  · refine Eq.trans (b := v9 (ix3 0 i 31)) ?_ rfl
    show shapeCast S1x64x128 (broadcastTo S64x128 (shapeCast S64x1 (extractStridedSlice S64x1 ![0, 31] (k0_pay6 v9) slices_S64x128_o0_31_S64x1) shapeCasts_S64x1_S64x1) broadcasts_S64x1_S64x128) shapeCasts_S64x128_S1x64x128 (ix3 0 i l) = _
    unfold k0_pay6
    pointwise

/-- The mask of a chunk's pairs of rows. -/
def mk (b : BitVec 1) : IVec S1x64x64 1 :=
  k0_pay16 b (iota .tc S64x64 32 [0] iota_S64x64_d0_w32) (iota .tc S64x64 32 [1] iota_S64x64_d1_w32) (k0_pay14 b)

theorem sge_pair : ∀ (i j : Fin 64), IntOp.cmpi CmpIPredicate.sge (BitVec.ofNat 32 i.val) (BitVec.ofNat 32 j.val)
    = if j.val ≤ i.val then 1#1 else 0#1 := by decide +kernel

theorem mk_at (d : Fin 2) (i j : Fin 64) : mk (rv d) (ix3 0 i j) = if pos d i ≤ pos d j then 1#1 else 0#1 := by
  unfold mk k0_pay16 k0_pay15 k0_pay14
  pointwise
  match d with
  | 0 =>
    refine (sge_pair i j).trans (if_congr ?_ rfl rfl)
    rw [pos_zero, Fin.revPerm_apply, Fin.revPerm_apply, Fin.rev_le_rev, Fin.le_def]
  | 1 =>
    refine (sge_pair j i).trans (if_congr ?_ rfl rfl)
    rw [pos_one, Equiv.refl_apply, Equiv.refl_apply, Fin.le_def]

/-- The chunk's decays from row to row. -/
def gam (b : BitVec 1) (x : FVec Ideal S64x128 .f32) : FVec Ideal S16x64x64 .f32 :=
  k0_pay57 (mk b) (gcS b x) (k0_pay41 (g21 b x)) (k0_pay42 (g21 b x)) (k0_pay43 (g21 b x)) (k0_pay44 (g21 b x)) (k0_pay45 (g21 b x)) (k0_pay46 (g21 b x)) (k0_pay47 (g21 b x)) (k0_pay48 (g21 b x)) (k0_pay49 (g21 b x)) (k0_pay50 (g21 b x)) (k0_pay51 (g21 b x)) (k0_pay52 (g21 b x)) (k0_pay53 (g21 b x)) (k0_pay54 (g21 b x)) (k0_pay55 (g21 b x)) (k0_pay56 (g21 b x))

theorem gam_at (b : BitVec 1) (x : FVec Ideal S64x128 .f32) (h : Fin 16) (i j : Fin 64) :
    (gam b x (ix3 h i j) : EReal) = Scalar.select (mk b (ix3 0 i j)) (Ideal.exp (Scalar.select (mk b (ix3 0 i j))
      (g20 b x (ix2 i (lane h)) - g20 b x (ix2 j (lane h))) 0)) 0 := by
  have hc : ∀ i j, (concatenate S16x64x64 0 [⟨S1x64x64, k0_pay46 (g21 b x)⟩, ⟨S1x64x64, k0_pay47 (g21 b x)⟩, ⟨S1x64x64, k0_pay48 (g21 b x)⟩, ⟨S1x64x64, k0_pay49 (g21 b x)⟩, ⟨S1x64x64, k0_pay50 (g21 b x)⟩, ⟨S1x64x64, k0_pay51 (g21 b x)⟩, ⟨S1x64x64, k0_pay52 (g21 b x)⟩, ⟨S1x64x64, k0_pay53 (g21 b x)⟩, ⟨S1x64x64, k0_pay54 (g21 b x)⟩, ⟨S1x64x64, k0_pay55 (g21 b x)⟩, ⟨S1x64x64, k0_pay56 (g21 b x)⟩, ⟨S1x64x64, shapeCast S1x64x64 (k0_pay41 (g21 b x)) shapeCasts_S64x64_S1x64x64⟩, ⟨S1x64x64, shapeCast S1x64x64 (k0_pay42 (g21 b x)) shapeCasts_S64x64_S1x64x64⟩, ⟨S1x64x64, shapeCast S1x64x64 (k0_pay43 (g21 b x)) shapeCasts_S64x64_S1x64x64⟩, ⟨S1x64x64, shapeCast S1x64x64 (k0_pay44 (g21 b x)) shapeCasts_S64x64_S1x64x64⟩, ⟨S1x64x64, shapeCast S1x64x64 (k0_pay45 (g21 b x)) shapeCasts_S64x64_S1x64x64⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0
      (ix3 h i j) : EReal) = g20 b x (ix2 j (lane h)) := by
    intro i j
    refine (cat64_at _ _ _ _ _ _ _ _ _ _ _ _ _ _ _ _ h i j).trans ?_
    fin_cases h
    · refine Eq.trans (b := g21 b x (ix2 0 j)) ?_ (g21_at b x _ _)
      show k0_pay46 (g21 b x) (ix3 0 i j) = _
      unfold k0_pay46
      pointwise
    · refine Eq.trans (b := g21 b x (ix2 1 j)) ?_ (g21_at b x _ _)
      show k0_pay47 (g21 b x) (ix3 0 i j) = _
      unfold k0_pay47
      pointwise
    · refine Eq.trans (b := g21 b x (ix2 2 j)) ?_ (g21_at b x _ _)
      show k0_pay48 (g21 b x) (ix3 0 i j) = _
      unfold k0_pay48
      pointwise
    · refine Eq.trans (b := g21 b x (ix2 3 j)) ?_ (g21_at b x _ _)
      show k0_pay49 (g21 b x) (ix3 0 i j) = _
      unfold k0_pay49
      pointwise
    · refine Eq.trans (b := g21 b x (ix2 4 j)) ?_ (g21_at b x _ _)
      show k0_pay50 (g21 b x) (ix3 0 i j) = _
      unfold k0_pay50
      pointwise
    · refine Eq.trans (b := g21 b x (ix2 5 j)) ?_ (g21_at b x _ _)
      show k0_pay51 (g21 b x) (ix3 0 i j) = _
      unfold k0_pay51
      pointwise
    · refine Eq.trans (b := g21 b x (ix2 6 j)) ?_ (g21_at b x _ _)
      show k0_pay52 (g21 b x) (ix3 0 i j) = _
      unfold k0_pay52
      pointwise
    · refine Eq.trans (b := g21 b x (ix2 7 j)) ?_ (g21_at b x _ _)
      show k0_pay53 (g21 b x) (ix3 0 i j) = _
      unfold k0_pay53
      pointwise
    · refine Eq.trans (b := g21 b x (ix2 8 j)) ?_ (g21_at b x _ _)
      show k0_pay54 (g21 b x) (ix3 0 i j) = _
      unfold k0_pay54
      pointwise
    · refine Eq.trans (b := g21 b x (ix2 9 j)) ?_ (g21_at b x _ _)
      show k0_pay55 (g21 b x) (ix3 0 i j) = _
      unfold k0_pay55
      pointwise
    · refine Eq.trans (b := g21 b x (ix2 10 j)) ?_ (g21_at b x _ _)
      show k0_pay56 (g21 b x) (ix3 0 i j) = _
      unfold k0_pay56
      pointwise
    · refine Eq.trans (b := g21 b x (ix2 11 j)) ?_ (g21_at b x _ _)
      show shapeCast S1x64x64 (k0_pay41 (g21 b x)) shapeCasts_S64x64_S1x64x64 (ix3 0 i j) = _
      unfold k0_pay41
      pointwise
    · refine Eq.trans (b := g21 b x (ix2 12 j)) ?_ (g21_at b x _ _)
      show shapeCast S1x64x64 (k0_pay42 (g21 b x)) shapeCasts_S64x64_S1x64x64 (ix3 0 i j) = _
      unfold k0_pay42
      pointwise
    · refine Eq.trans (b := g21 b x (ix2 13 j)) ?_ (g21_at b x _ _)
      show shapeCast S1x64x64 (k0_pay43 (g21 b x)) shapeCasts_S64x64_S1x64x64 (ix3 0 i j) = _
      unfold k0_pay43
      pointwise
    · refine Eq.trans (b := g21 b x (ix2 14 j)) ?_ (g21_at b x _ _)
      show shapeCast S1x64x64 (k0_pay44 (g21 b x)) shapeCasts_S64x64_S1x64x64 (ix3 0 i j) = _
      unfold k0_pay44
      pointwise
    · refine Eq.trans (b := g21 b x (ix2 15 j)) ?_ (g21_at b x _ _)
      show shapeCast S1x64x64 (k0_pay45 (g21 b x)) shapeCasts_S64x64_S1x64x64 (ix3 0 i j) = _
      unfold k0_pay45
      pointwise
  have hg := gcS_at b x h i ⟨j.val, by omega⟩
  unfold gam k0_pay57
  generalize concatenate S16x64x64 0 _ _ = Z at hc ⊢
  pointwise
  rw [hc i j]
  generalize mk b (ix3 0 i j) = e
  generalize gcS b x = Y at hg ⊢
  exact congrArg (fun q => Scalar.select e (Ideal.exp (Scalar.select e (q - _) 0)) 0) hg

end Cert.GdnBwdIdeal.Pay

end
-- ==== Proof.GdnPoint.lean ====
/-
  Hand-written, untrusted. The gated delta rule's backward kernel at one grid point, over the reals: the gradient of the
  new values, of the values, and the state's gradient that it hands on, are the chunk's of GdnMath.lean.
-/
module

public import proofs.«01_k».proof.Proof.GdnPay

@[expose] public section

set_option maxRecDepth 16384

noncomputable section

namespace Cert.GdnBwdIdeal.Pay

open Cert.GdnBwdIdeal Cert.GdnBwdIdeal.Gen Cert.Gdn
open Idealize.ShloMosaic Idealize.ShloMosaic.TcCoe Idealize.SL.Sem

/-- The log-decays of a head. -/
abbrev gh (g : Fin 64 → Fin 128 → ℝ) (h : Fin 16) (j : Fin 64) : ℝ := g j (lane h)

/-- The betas of a head. -/
abbrev bh (g : Fin 64 → Fin 128 → ℝ) (h : Fin 16) (j : Fin 64) : ℝ := g j (blane h)

theorem Gc_last (d : Fin 2) (g : Fin 64 → ℝ) (i : Fin 64) (hi : (pos d i).val = 0) : Gc (pos d) g i = Gl g := by
  unfold Gc Gl
  refine Finset.sum_congr rfl fun j _ => if_pos ?_
  rw [Fin.le_def]
  omega

theorem select_mul (c : BitVec 1) (a b : EReal) : Scalar.select c 0 (a * b) = a * Scalar.select c 0 b := by
  unfold Scalar.select
  split
  · rw [mul_zero]
  · rfl

variable (d : Fin 2) (qv kv : Vec Ideal S1x16x64x128 .f32) (gv : Vec Ideal S1x64x128 .f32)
  (q k : Fin 16 → Fin 64 → Fin 128 → ℝ) (g : Fin 64 → Fin 128 → ℝ)

theorem gc_at (hg : ∀ i l, (gv (ix3 0 i l) : EReal) = (g i l : ℝ)) (h : Fin 16) (i : Fin 64) (l : Fin 128) :
    (gcS (rv d) (k0_pay6 gv) (ix3 h i l) : EReal) = (Gc (pos d) (gh g h) i : ℝ) := by
  rw [gcS_at]
  refine g20_at d _ g (fun i l => ?_) i (lane h)
  unfold k0_pay6
  pointwise
  exact hg i l

theorem gl_at (hg : ∀ i l, (gv (ix3 0 i l) : EReal) = (g i l : ℝ)) (h : Fin 16) (l : Fin 128) :
    (k0_pay59 (rv d) (gcS (rv d) (k0_pay6 gv)) (ix3 h 0 l) : EReal) = (Gl (gh g h) : ℝ) := by
  have h0 := gc_at d gv g hg h 0 l
  have h1 := gc_at d gv g hg h 63 l
  unfold k0_pay59
  generalize gcS (rv d) (k0_pay6 gv) = Y at h0 h1 ⊢
  pointwise
  match d with
  | 0 => exact h1.trans (congrArg _ (Gc_last 0 _ 63 rfl))
  | 1 => exact h0.trans (congrArg _ (Gc_last 1 _ 0 rfl))

theorem el_at (hg : ∀ i l, (gv (ix3 0 i l) : EReal) = (g i l : ℝ)) (h : Fin 16) (l : Fin 128) :
    (k0_pay60 (rv d) (gcS (rv d) (k0_pay6 gv)) (ix3 h 0 l) : EReal) = (Real.exp (Gl (gh g h)) : ℝ) := by
  have h0 := gl_at d gv g hg h l
  unfold k0_pay60
  pointwise
  rw [h0, Ideal.exp_coe]

theorem qd_at (hq : ∀ h i a, (qv (ix4 0 h i a) : EReal) = (q h i a : ℝ)) (hg : ∀ i l, (gv (ix3 0 i l) : EReal) = (g i l : ℝ))
    (h : Fin 16) (i : Fin 64) (a : Fin 128) :
    (k0_pay65 (k0_pay3 qv) (gcS (rv d) (k0_pay6 gv)) (ix3 h i a) : EReal)
      = (q h i a * Real.exp (Gc (pos d) (gh g h) i) : ℝ) := by
  have h0 := gc_at d gv g hg h i a
  unfold k0_pay65 k0_pay58 k0_pay3
  pointwise
  rw [h0, hq, Ideal.exp_coe, EReal.coe_mul]

theorem kd_at (hk : ∀ h i a, (kv (ix4 0 h i a) : EReal) = (k h i a : ℝ)) (hg : ∀ i l, (gv (ix3 0 i l) : EReal) = (g i l : ℝ))
    (h : Fin 16) (i : Fin 64) (a : Fin 128) :
    (k0_pay66 (k0_pay4 kv) (rv d) (gcS (rv d) (k0_pay6 gv)) (ix3 h i a) : EReal)
      = (k h i a * Real.exp (Gl (gh g h) - Gc (pos d) (gh g h) i) : ℝ) := by
  have h0 := gc_at d gv g hg h i a
  have h1 := gl_at d gv g hg h a
  unfold k0_pay66 k0_pay61 k0_pay4
  pointwise
  rw [h0, h1, hk, ← EReal.coe_sub, Ideal.exp_coe, EReal.coe_mul]

/-- The masked products of queries and keys. -/
def pS (b : BitVec 1) (qv kv : Vec Ideal S1x16x64x128 .f32) (x : FVec Ideal S64x128 .f32) : FVec Ideal S16x64x64 .f32 :=
  k0_pay64 (k0_pay3 qv) (k0_pay4 kv) (mk b) (gcS b x) (k0_pay41 (g21 b x)) (k0_pay42 (g21 b x)) (k0_pay43 (g21 b x)) (k0_pay44 (g21 b x)) (k0_pay45 (g21 b x)) (k0_pay46 (g21 b x)) (k0_pay47 (g21 b x)) (k0_pay48 (g21 b x)) (k0_pay49 (g21 b x)) (k0_pay50 (g21 b x)) (k0_pay51 (g21 b x)) (k0_pay52 (g21 b x)) (k0_pay53 (g21 b x)) (k0_pay54 (g21 b x)) (k0_pay55 (g21 b x)) (k0_pay56 (g21 b x))

theorem p_at (hq : ∀ h i a, (qv (ix4 0 h i a) : EReal) = (q h i a : ℝ)) (hk : ∀ h i a, (kv (ix4 0 h i a) : EReal) = (k h i a : ℝ))
    (hg : ∀ i l, (gv (ix3 0 i l) : EReal) = (g i l : ℝ)) (h : Fin 16) (i j : Fin 64) :
    (pS (rv d) qv kv (k0_pay6 gv) (ix3 h i j) : EReal) = (Pm (pos d) (q h) (k h) (gh g h) i j : ℝ) := by
  have h0 := gam_at (rv d) (k0_pay6 gv) h i j
  have h1 := gc_at d gv g hg h i 0
  have h2 := gc_at d gv g hg h j 0
  rw [gcS_at] at h1 h2
  rw [h1, h2, mk_at, ← EReal.coe_sub] at h0
  have h3 := mk_at d i j
  unfold pS k0_pay64 k0_pay3 k0_pay4
  show Scalar.select _ _ _ = _
  unfold gam at h0
  generalize k0_pay57 (F := Ideal) _ _ _ _ _ _ _ _ _ _ _ _ _ _ _ _ _ _ = Z at h0 ⊢
  pointwise
  unfold Pm
  rw [h3, h0]
  by_cases hp : pos d i ≤ pos d j
  · rw [if_pos hp, if_pos hp]
    refine (if_pos rfl).trans ?_
    rw [EReal.coe_mul, ← coe_sum]
    refine congrArg₂ (· * ·) (Finset.sum_congr rfl fun a _ => ?_) ?_
    · rw [hq, hk, EReal.coe_mul]
    · refine (if_pos rfl).trans ?_
      exact (congrArg Ideal.exp (if_pos rfl)).trans (Ideal.exp_coe _)
  · rw [if_neg hp, if_neg hp]
    refine (if_neg (by decide)).trans ?_
    simp

variable (c : BitVec 1) (ov : Vec Ideal S16x64x128 .f32) (o : Fin 16 → Fin 64 → Fin 128 → ℝ)
  (Xv : Vec Ideal S16x128x128 .f32) (X : Fin 16 → Fin 128 → Fin 128 → ℝ)

/-- The gradient of a chunk's new values. -/
def dvnS (b : BitVec 1) : FVec Ideal S16x64x128 .f32 :=
  k0_pay70 (pS b qv kv (k0_pay6 gv)) (k0_pay66 (k0_pay4 kv) b (gcS b (k0_pay6 gv))) c Xv ov

theorem dvn_at (hq : ∀ h i a, (qv (ix4 0 h i a) : EReal) = (q h i a : ℝ)) (hk : ∀ h i a, (kv (ix4 0 h i a) : EReal) = (k h i a : ℝ))
    (hg : ∀ i l, (gv (ix3 0 i l) : EReal) = (g i l : ℝ)) (ho : ∀ h i l, (Scalar.select c 0 (ov (ix3 h i l)) : EReal) = (o h i l : ℝ))
    (hX : ∀ h a l, (Xv (ix3 h a l) : EReal) = (X h a l : ℝ)) (h : Fin 16) (i : Fin 64) (l : Fin 128) :
    (dvnS qv kv gv c ov Xv (rv d) (ix3 h i l) : EReal)
      = (dvn (pos d) (q h) (k h) (o h) (gh g h) (Gl (gh g h)) (X h) i l : ℝ) := by
  have h0 := p_at d qv kv gv q k g hq hk hg h
  have h1 := kd_at d kv gv k g hk hg h
  unfold dvnS k0_pay70 k0_pay68
  generalize pS _ _ _ _ = P at h0 ⊢
  generalize k0_pay66 (F := Ideal) _ _ _ = D at h1 ⊢
  pointwise
  unfold dvn
  rw [EReal.coe_add, ← coe_sum, ← coe_sum]
  refine congrArg₂ (· + ·) (Finset.sum_congr rfl fun j _ => ?_) (Finset.sum_congr rfl fun a _ => ?_)
  · rw [select_mul, ho, h0, EReal.coe_mul]
  · simp only [h1, hX, EReal.coe_mul]

theorem state_at (wv : Vec Ideal S1x16x64x128 .f32) (w : Fin 16 → Fin 64 → Fin 128 → ℝ)
    (hq : ∀ h i a, (qv (ix4 0 h i a) : EReal) = (q h i a : ℝ)) (hk : ∀ h i a, (kv (ix4 0 h i a) : EReal) = (k h i a : ℝ))
    (hg : ∀ i l, (gv (ix3 0 i l) : EReal) = (g i l : ℝ)) (ho : ∀ h i l, (Scalar.select c 0 (ov (ix3 h i l)) : EReal) = (o h i l : ℝ))
    (hX : ∀ h a l, (Xv (ix3 h a l) : EReal) = (X h a l : ℝ)) (hw : ∀ h i a, (wv (ix4 0 h i a) : EReal) = (w h i a : ℝ))
    (h : Fin 16) (a l : Fin 128) :
    (k0_pay74 (k0_pay9 wv) (k0_pay60 (rv d) (gcS (rv d) (k0_pay6 gv))) (pS (rv d) qv kv (k0_pay6 gv))
        (k0_pay65 (k0_pay3 qv) (gcS (rv d) (k0_pay6 gv))) (k0_pay66 (k0_pay4 kv) (rv d) (gcS (rv d) (k0_pay6 gv))) c Xv ov (ix3 h a l) : EReal)
      = ((∑ i, q h i a * Real.exp (Gc (pos d) (gh g h) i) * o h i l) + X h a l * Real.exp (Gl (gh g h))
          - ∑ i, w h i a * dvn (pos d) (q h) (k h) (o h) (gh g h) (Gl (gh g h)) (X h) i l : ℝ) := by
  have h0 := dvn_at d qv kv gv q k g c ov o Xv X hq hk hg ho hX h
  have h1 := qd_at d qv gv q g hq hg h
  have h2 := el_at d gv g hg h
  unfold dvnS at h0
  unfold k0_pay74 k0_pay68 k0_pay9
  generalize k0_pay70 (F := Ideal) _ _ _ _ _ = D at h0 ⊢
  generalize k0_pay65 (F := Ideal) _ _ = E at h1 ⊢
  generalize k0_pay60 (F := Ideal) _ _ = L at h2 ⊢
  pointwise
  rw [EReal.coe_sub, EReal.coe_add, ← coe_sum, ← coe_sum, EReal.coe_mul, hX, h2]
  refine congrArg₂ (· - ·) (congrArg (· + _) (Finset.sum_congr rfl fun j _ => ?_)) (Finset.sum_congr rfl fun j _ => ?_)
  · simp only [select_mul, ho, h1, EReal.coe_mul]
  · rw [h0, hw, EReal.coe_mul]

theorem dv_at (tv : Vec Ideal S1x1x16x64x64 .f32) (T : Fin 16 → Fin 64 → Fin 64 → ℝ)
    (hq : ∀ h i a, (qv (ix4 0 h i a) : EReal) = (q h i a : ℝ)) (hk : ∀ h i a, (kv (ix4 0 h i a) : EReal) = (k h i a : ℝ))
    (hg : ∀ i l, (gv (ix3 0 i l) : EReal) = (g i l : ℝ)) (ho : ∀ h i l, (Scalar.select c 0 (ov (ix3 h i l)) : EReal) = (o h i l : ℝ))
    (hX : ∀ h a l, (Xv (ix3 h a l) : EReal) = (X h a l : ℝ)) (hT : ∀ h i j, (tv (ix5 0 0 h i j) : EReal) = (T h i j : ℝ))
    (h : Fin 16) (i : Fin 64) (l : Fin 128) :
    (k0_pay90 (bS gv) (k0_pay78 (k0_pay7 tv) (dvnS qv kv gv c ov Xv (rv d))) (ix5 0 0 h i l) : EReal)
      = ((∑ j, T h j i * dvn (pos d) (q h) (k h) (o h) (gh g h) (Gl (gh g h)) (X h) j l) * bh g h i : ℝ) := by
  have h0 := dvn_at d qv kv gv q k g c ov o Xv X hq hk hg ho hX h
  have h1 := bS_at gv h i l
  rw [hg] at h1
  unfold k0_pay90 k0_pay78 k0_pay7
  generalize dvnS _ _ _ _ _ _ _ = D at h0 ⊢
  generalize bS _ = B at h1 ⊢
  pointwise
  rw [h1, EReal.coe_mul]
  refine congrArg (· * _) ?_
  have e' : ∀ r : ℝ, (r : EReal) - (r : EReal) = 0 := fun r => by rw [← EReal.coe_sub, sub_self]; rfl
  simp only [hT, h0, e']
  simp [← EReal.coe_mul, coe_sum]

end Cert.GdnBwdIdeal.Pay

end
-- ==== Proof.GdnTok.lean ====
/-
  Hand-written, untrusted. The gradient of the gated delta rule over the reals, token by token from the last: the rows
  that each direction meets, the state's gradient, the gradient of v, and what a chunk of 64 rows makes of them when the
  saved matrices are what the forward call saves.
-/
module

public import proofs.«01_k».proof.Proof.GdnPay

@[expose] public section

set_option maxRecDepth 16384

noncomputable section

namespace Cert.Gdn

open Cert.GdnBwdIdeal.Pay

/-- The arguments that the gradient of v reads, as real numbers. -/
structure Arr where
  A : Fin 3 → Fin 16 → Fin 4352 → Fin 128 → ℝ
  G : Fin 2 → Fin 4352 → Fin 128 → ℝ
  T : Fin 2 → Fin 68 → Fin 16 → Fin 64 → Fin 64 → ℝ
  W : Fin 2 → Fin 16 → Fin 4352 → Fin 128 → ℝ
  O : Fin 16 → Fin 4096 → Fin 128 → ℝ

open Idealize.ShloMosaic in
/-- The arguments are the real arrays'. -/
structure Real (M : Arr) (x0 : FVec Ideal ⟨4, ![3, 16, 4352, 128]⟩ .f32) (x1 : FVec Ideal ⟨3, ![2, 4352, 128]⟩ .f32)
    (x3 : FVec Ideal ⟨5, ![2, 68, 16, 64, 64]⟩ .f32) (x5 : FVec Ideal ⟨4, ![2, 16, 4352, 128]⟩ .f32) (x6 : FVec Ideal ⟨3, ![16, 4096, 128]⟩ .f32) : Prop where
  a0 : ∀ p h r a, x0 (ix4 p h r a) = ((M.A p h r a : ℝ) : EReal)
  a1 : ∀ d r l, x1 (ix3 d r l) = ((M.G d r l : ℝ) : EReal)
  a3 : ∀ d n h i j, x3 (ix5 d n h i j) = ((M.T d n h i j : ℝ) : EReal)
  a5 : ∀ d h r a, x5 (ix4 d h r a) = ((M.W d h r a : ℝ) : EReal)
  a6 : ∀ h r v, x6 (ix3 h r v) = ((M.O h r v : ℝ) : EReal)

/-- The row of a token, counted from the one that the direction meets last. -/
def row (d : Fin 2) (t : Fin 4352) : Fin 4352 :=
  ⟨if d = 0 then (if t.val < 4096 then 4095 - t.val else 8447 - t.val) else t.val, by split <;> [split; skip] <;> omega⟩

/-- The chunk of rows that the backward scan meets at its step n. -/
def rc (d : Fin 2) (n : Fin 68) : Fin 68 :=
  ⟨if d = 0 then (if n.val < 64 then 63 - n.val else 131 - n.val) else n.val, by split <;> [split; skip] <;> omega⟩

/-- Row i of that chunk. -/
def crow (d : Fin 2) (n : Fin 68) (i : Fin 64) : Fin 4352 := ⟨64 * (rc d n).val + i.val, by omega⟩

theorem row_tok (d : Fin 2) (n : Fin 68) (i : Fin 64) (h : 64 * n.val + (pos d i).val < 4352) :
    row d ⟨64 * n.val + (pos d i).val, h⟩ = crow d n i := by
  apply Fin.ext
  match d, h with
  | 0, h =>
    have e : (pos 0 i).val = 63 - i.val := by
      show (Fin.rev i).val = _
      rw [Fin.val_rev]; omega
    show (if 64 * n.val + (pos 0 i).val < 4096 then 4095 - (64 * n.val + (pos 0 i).val) else 8447 - (64 * n.val + (pos 0 i).val))
      = 64 * (if n.val < 64 then 63 - n.val else 131 - n.val) + i.val
    rw [e]
    split <;> split <;> omega
  | 1, h => rfl

namespace Arr

variable (M : Arr)

/-- The output's gradient, zero on the context's rows. -/
def Oc (h : Fin 16) (r : Fin 4352) (v : Fin 128) : ℝ := if hr : r.val < 4096 then M.O h ⟨r.val, hr⟩ v else 0

/-- One token of the transposed rule. -/
def tok (d : Fin 2) (h : Fin 16) (t : Fin 4352) (X : Fin 128 → Fin 128 → ℝ) : Fin 128 → Fin 128 → ℝ :=
  stepTok X (M.A 0 h (row d t)) (M.A 1 h (row d t)) (M.Oc h (row d t)) (M.G d (row d t) (lane h)) (M.G d (row d t) (blane h))

/-- The state's gradient after n tokens. -/
def St (d : Fin 2) (h : Fin 16) : ℕ → Fin 128 → Fin 128 → ℝ
  | 0 => fun _ _ => 0
  | n + 1 => if hn : n < 4352 then M.tok d h ⟨n, hn⟩ (St d h n) else St d h n

/-- The gradient of v at a token. -/
def dv (d : Fin 2) (h : Fin 16) (t : Fin 4352) (v : Fin 128) : ℝ :=
  ddTok (M.St d h t.val) (M.A 0 h (row d t)) (M.A 1 h (row d t)) (M.Oc h (row d t)) v * M.G d (row d t) (blane h)

/-- The saved matrices are the inverses of the chunks' unit triangular matrices, and their products with the scaled keys. -/
structure Saved : Prop where
  hT : ∀ d n h i j, M.T d n.rev h i j + ∑ l, M.T d n.rev h i l * Am (pos d) (fun i => M.A 1 h (crow d n i))
      (fun i => M.G d (crow d n i) (lane h)) (fun i => M.G d (crow d n i) (blane h)) l j = if i = j then 1 else 0
  hW : ∀ d n h i a, M.W d h (crow d n i) a = ∑ j, M.T d n.rev h i j * (M.A 1 h (crow d n j) a *
      (M.G d (crow d n j) (blane h) * Real.exp (Gc (pos d) (fun i => M.G d (crow d n i) (lane h)) j)))

variable {M}

theorem chunk_at (S : M.Saved) (d : Fin 2) (n : Fin 68) (h : Fin 16) :
    (∀ (i : Fin 64) v (ht : 64 * n.val + (pos d i).val < 4352),
      (∑ j, M.T d n.rev h j i * dvn (pos d) (fun i => M.A 0 h (crow d n i)) (fun i => M.A 1 h (crow d n i)) (fun i => M.Oc h (crow d n i))
          (fun i => M.G d (crow d n i) (lane h)) (Gl fun i => M.G d (crow d n i) (lane h)) (M.St d h (64 * n.val)) j v)
        * M.G d (crow d n i) (blane h) = M.dv d h ⟨64 * n.val + (pos d i).val, ht⟩ v) ∧
    ∀ a v, M.St d h (64 * n.val + 64) a v
      = (∑ i, M.A 0 h (crow d n i) a * Real.exp (Gc (pos d) (fun i => M.G d (crow d n i) (lane h)) i) * M.Oc h (crow d n i) v)
        + M.St d h (64 * n.val) a v * Real.exp (Gl fun i => M.G d (crow d n i) (lane h))
        - ∑ i, M.W d h (crow d n i) a * dvn (pos d) (fun i => M.A 0 h (crow d n i)) (fun i => M.A 1 h (crow d n i)) (fun i => M.Oc h (crow d n i))
          (fun i => M.G d (crow d n i) (lane h)) (Gl fun i => M.G d (crow d n i) (lane h)) (M.St d h (64 * n.val)) i v := by
  have key := chunk (pos d) (fun i => M.A 0 h (crow d n i)) (fun i => M.A 1 h (crow d n i)) (fun i => M.Oc h (crow d n i))
    (fun i => M.G d (crow d n i) (lane h)) (fun i => M.G d (crow d n i) (blane h)) (fun m => M.St d h (64 * n.val + m))
    (fun i => by
      have hi : 64 * n.val + (pos d i).val < 4352 := by omega
      show M.St d h (64 * n.val + (pos d i).val + 1) = _
      rw [St, dif_pos hi, tok, row_tok])
    (fun i j => M.T d n.rev h i j) (fun i a => M.W d h (crow d n i) a) (S.hT d n h) (S.hW d n h)
  refine ⟨fun i v ht => ?_, key.2⟩
  refine (congrArg (· * _) (key.1 i v)).trans ?_
  rw [dv, row_tok]

end Arr

end Cert.Gdn

end
-- ==== Proof.GdnRun.lean ====
/-
  Hand-written, untrusted. The gated delta rule's backward kernel point by point: the scratch after a point is the
  state's gradient after the point's chunk, and what it writes for v is the gradient of v at the chunk's rows.
-/
module

public import proofs.«01_k».proof.Proof.GdnPoint
public import proofs.«01_k».proof.Proof.GdnTok
public import proofs.«01_k».proof.Proof.Gen.GdnBwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GdnBwdIdeal.RefValue

open Cert.GdnBwdIdeal Cert.GdnBwdIdeal.Gen Cert.Gdn Cert.GdnBwdIdeal.Pay
open Idealize.ShloMosaic Idealize.ShloMosaic.TcCoe Idealize.SL.Sem
open Idealize.ShloMosaic.Pipeline (Dat)

variable (m : (ℓ : Loc nD τ sig) → Buf (Elt Ideal) ℓ)

/-- The direction of a grid point. -/
abbrev dT (t : Fin cfg0.N) : Fin 2 := grid0.coords t 0

/-- The step of a grid point. -/
abbrev nT (t : Fin cfg0.N) : Fin 68 := grid0.coords t 1

/-- Where each window's block stands at a grid point. -/
theorem idx : ∀ t : Fin cfg0.N,
    win0_0.index t = ![0, 0, (rc (dT t) (nT t)).val, 0]
    ∧ win0_1.index t = ![(dT t).val, (rc (dT t) (nT t)).val, 0]
    ∧ win0_3.index t = ![(dT t).val, (nT t).rev.val, 0, 0, 0]
    ∧ win0_5.index t = ![(dT t).val, 0, (rc (dT t) (nT t)).val, 0]
    ∧ win0_6.index t = ![0, min (rc (dT t) (nT t)).val 63, 0]
    ∧ win0_7.index t = ![(dT t).val, 0, 0, (rc (dT t) (nT t)).val, 0]
    ∧ (dT t).val = t.val / 68 ∧ (nT t).val = t.val % 68 :=
  (by decide +kernel : ∀ t : Fin grid0.N, _)

/-- The arguments are the real arrays'. -/
abbrev RealAt (M : Arr) (c : Dev nD) : Prop :=
  Real M (m ((c : Thread nD τ).loc main_arg0)) (m ((c : Thread nD τ).loc main_arg1)) (m ((c : Thread nD τ).loc main_arg3))
    (m ((c : Thread nD τ).loc main_arg5)) (m ((c : Thread nD τ).loc main_arg6))

theorem blk0 (c : Dev nD) (t : Fin cfg0.N) (p : Fin 3) (h : Fin 16) (i : Fin 64) (a : Fin 128) :
    (iblk m c 0 t : Vec Ideal S3x16x64x128 .f32) (ix4 p h i a) = m ((c : Thread nD τ).loc main_arg0) (ix4 p h (crow (dT t) (nT t) i) a) := by
  blk_point [iblk, V, idx t, crow]

theorem blk1 (c : Dev nD) (t : Fin cfg0.N) (i : Fin 64) (a : Fin 128) :
    (iblk m c 1 t : Vec Ideal S1x64x128 .f32) (ix3 0 i a) = m ((c : Thread nD τ).loc main_arg1) (ix3 (dT t) (crow (dT t) (nT t) i) a) := by
  blk_point [iblk, V, idx t, crow]

theorem blk3 (c : Dev nD) (t : Fin cfg0.N) (h : Fin 16) (i j : Fin 64) :
    (iblk m c 3 t : Vec Ideal S1x1x16x64x64 .f32) (ix5 0 0 h i j) = m ((c : Thread nD τ).loc main_arg3) (ix5 (dT t) (nT t).rev h i j) := by
  blk_point [iblk, V, idx t, crow]

theorem blk5 (c : Dev nD) (t : Fin cfg0.N) (h : Fin 16) (i : Fin 64) (a : Fin 128) :
    (iblk m c 5 t : Vec Ideal S1x16x64x128 .f32) (ix4 0 h i a) = m ((c : Thread nD τ).loc main_arg5) (ix4 (dT t) h (crow (dT t) (nT t) i) a) := by
  blk_point [iblk, V, idx t, crow]

theorem blk6 (c : Dev nD) (t : Fin cfg0.N) (h : Fin 16) (i : Fin 64) (a : Fin 128) (hr : (crow (dT t) (nT t) i).val < 4096) :
    (iblk m c 6 t : Vec Ideal S16x64x128 .f32) (ix3 h i a) = m ((c : Thread nD τ).loc main_arg6) (ix3 h ⟨(crow (dT t) (nT t) i).val, hr⟩ a) := by
  have hr' : 64 * (rc (dT t) (nT t)).val + i.val < 4096 := hr
  blk_point [iblk, V, idx t, crow]

/-- The bit that tells a context's step. -/
theorem inCtx : ∀ n : Fin 68, Scalar.cmpi .slt (Scalar.subi (67#32) (BitVec.ofNat 32 n.val)) 4#32 = if n.val < 64 then 0#1 else 1#1 := by
  decide +kernel

theorem crow_lt (d : Fin 2) (n : Fin 68) (i : Fin 64) : (crow d n i).val < 4096 ↔ n.val < 64 := by
  show 64 * (if d = 0 then (if n.val < 64 then 63 - n.val else 131 - n.val) else n.val) + i.val < 4096 ↔ _
  split <;> [split; skip] <;> omega

theorem do_at {M : Arr} {c : Dev nD} (R : RealAt m M c) (t : Fin cfg0.N) (h : Fin 16) (i : Fin 64) (l : Fin 128) :
    (Scalar.select (Scalar.cmpi .slt (Scalar.subi (67#32) (BitVec.ofNat 32 (nT t).val)) 4#32) 0
      ((iblk m c 6 t : Vec Ideal S16x64x128 .f32) (ix3 h i l)) : EReal) = ((M.Oc h (crow (dT t) (nT t) i) l : ℝ) : EReal) := by
  rw [inCtx, Arr.Oc]
  by_cases hn : (nT t).val < 64
  · have hr := (crow_lt (dT t) (nT t) i).mpr hn
    rw [if_pos hn, dif_pos hr, blk6 m c t h i l hr]
    exact (if_neg (by decide)).trans (R.a6 _ _ _)
  · rw [if_neg hn, dif_neg fun hr => hn ((crow_lt (dT t) (nT t) i).mp hr)]
    exact if_pos rfl

/-- The queries of a point. -/
abbrev qB (c : Dev nD) (t : Fin cfg0.N) : Vec Ideal S1x16x64x128 .f32 :=
  View.ld (iblk m c 0 t) (Rect.unit ![0, 0, 0, 0] ![1, 16, 64, 128] inb_S3x16x64x128_S1x16x64x128_0_0_0_0)

/-- The keys of a point. -/
abbrev kB (c : Dev nD) (t : Fin cfg0.N) : Vec Ideal S1x16x64x128 .f32 :=
  View.ld (iblk m c 0 t) (Rect.unit ![1, 0, 0, 0] ![1, 16, 64, 128] inb_S3x16x64x128_S1x16x64x128_1_0_0_0)

theorem q_at {M : Arr} {c : Dev nD} (R : RealAt m M c) (t : Fin cfg0.N) (h : Fin 16) (i : Fin 64) (a : Fin 128) :
    qB m c t (ix4 0 h i a) = ((M.A 0 h (crow (dT t) (nT t) i) a : ℝ) : EReal) := by
  have h0 := (blk0 m c t 0 h i a).trans (R.a0 _ _ _ _)
  unfold qB
  generalize iblk m c 0 t = X at h0 ⊢
  pointwise
  exact h0

theorem k_at {M : Arr} {c : Dev nD} (R : RealAt m M c) (t : Fin cfg0.N) (h : Fin 16) (i : Fin 64) (a : Fin 128) :
    kB m c t (ix4 0 h i a) = ((M.A 1 h (crow (dT t) (nT t) i) a : ℝ) : EReal) := by
  have h0 := (blk0 m c t 1 h i a).trans (R.a0 _ _ _ _)
  unfold kB
  generalize iblk m c 0 t = X at h0 ⊢
  pointwise
  exact h0

/-- What a point leaves in the scratch, of what it found there. -/
def next (c : Dev nD) (t : Fin cfg0.N) (X : Vec Ideal S16x128x128 .f32) : Vec Ideal S16x128x128 .f32 :=
  k0_pay75 (k0_pay74 (k0_pay9 (iblk m c 5 t)) (k0_pay60 (rv (dT t)) (gcS (rv (dT t)) (k0_pay6 (iblk m c 1 t))))
    (pS (rv (dT t)) (qB m c t) (kB m c t) (k0_pay6 (iblk m c 1 t)))
    (k0_pay65 (k0_pay3 (qB m c t)) (gcS (rv (dT t)) (k0_pay6 (iblk m c 1 t))))
    (k0_pay66 (k0_pay4 (kB m c t)) (rv (dT t)) (gcS (rv (dT t)) (k0_pay6 (iblk m c 1 t))))
    (Scalar.cmpi .slt (Scalar.subi (67#32) (BitVec.ofNat 32 (nT t).val)) 4#32) X (iblk m c 6 t))

theorem next_at {M : Arr} {c : Dev nD} (R : RealAt m M c) (S : M.Saved) (t : Fin cfg0.N) (X : Vec Ideal S16x128x128 .f32)
    (hX : ∀ h a l, X (ix3 h a l) = ((M.St (dT t) h (64 * (nT t).val) a l : ℝ) : EReal)) (h : Fin 16) (a l : Fin 128) :
    next m c t X (ix3 h a l) = ((M.St (dT t) h (64 * (nT t).val + 64) a l : ℝ) : EReal) := by
  have key := state_at (dT t) (qB m c t) (kB m c t) (iblk m c 1 t) (fun h i => M.A 0 h (crow (dT t) (nT t) i))
    (fun h i => M.A 1 h (crow (dT t) (nT t) i)) (fun i => M.G (dT t) (crow (dT t) (nT t) i)) _ (iblk m c 6 t)
    (fun h i => M.Oc h (crow (dT t) (nT t) i)) X (fun h => M.St (dT t) h (64 * (nT t).val)) (iblk m c 5 t)
    (fun h i => M.W (dT t) h (crow (dT t) (nT t) i)) (q_at m R t) (k_at m R t) (fun i l => (blk1 m c t i l).trans (R.a1 _ _ _))
    (do_at m R t) hX (fun h i a => (blk5 m c t h i a).trans (R.a5 _ _ _ _)) h a l
  rw [(Arr.chunk_at S (dT t) (nT t) h).2 a l]
  refine Eq.trans ?_ key
  unfold next k0_pay75
  generalize k0_pay74 (F := Ideal) _ _ _ _ _ _ _ _ = Y
  pointwise

theorem after_A (c : Dev nD) (t : Fin cfg0.N) (h0 : t.val % 68 = 0) : (outsAt0 m c t.val t.isLt).2.2 = next m c t (k0_pay2 (F := Ideal)) := by
  rw [outsAt0_A m c t h0]
  frame_out
  rfl

theorem after_B (c : Dev nD) (t : Fin cfg0.N) (h0 : ¬ t.val % 68 = 0) : (outsAt0 m c t.val t.isLt).2.2
    = next m c t (outsAt0 m c (t.val - 1) (Nat.lt_of_le_of_lt (Nat.sub_le _ _) t.isLt)).2.2 := by
  rw [outsAt0_B m c t h0]
  frame_out
  rw [read_unread_whole]
  rfl

/-- The scratch after a point. -/
theorem scratch {M : Arr} {c : Dev nD} (R : RealAt m M c) (S : M.Saved) : ∀ (n : ℕ) (hn : n < cfg0.N) (h : Fin 16) (a l : Fin 128),
    (outsAt0 m c n hn).2.2 (ix3 h a l)
      = ((M.St (dT ⟨n, hn⟩) h (64 * (nT ⟨n, hn⟩).val + 64) a l : ℝ) : EReal) := by
  intro n
  induction n with
  | zero =>
    intro hn h a l
    rw [after_A m c ⟨0, hn⟩ rfl]
    refine next_at m R S ⟨0, hn⟩ _ (fun h a l => ?_) h a l
    have e : (nT ⟨0, hn⟩).val = 0 := (idx ⟨0, hn⟩).2.2.2.2.2.2.2
    rw [e]
    unfold k0_pay2
    pointwise
    rfl
  | succ n ih =>
    intro hn h a l
    obtain ⟨e1, e2⟩ := (idx ⟨n + 1, hn⟩).2.2.2.2.2.2
    simp only [] at e1 e2
    by_cases h0 : (n + 1) % 68 = 0
    · rw [after_A m c ⟨n + 1, hn⟩ h0]
      refine next_at m R S ⟨n + 1, hn⟩ _ (fun h a l => ?_) h a l
      rw [e2, h0]
      unfold k0_pay2
      pointwise
      rfl
    · rw [after_B m c ⟨n + 1, hn⟩ h0]
      refine next_at m R S ⟨n + 1, hn⟩ _ (fun h a l => ?_) h a l
      have hn' : n < cfg0.N := by omega
      obtain ⟨f1, f2⟩ := (idx ⟨n, hn'⟩).2.2.2.2.2.2
      simp only [] at f1 f2
      have g1 : dT ⟨n + 1, hn⟩ = dT ⟨n, hn'⟩ := Fin.ext (by omega)
      have g2 : 64 * (nT ⟨n + 1, hn⟩).val = 64 * (nT ⟨n, hn'⟩).val + 64 := by omega
      rw [g1, g2]
      exact ih hn' h a l

/-- What a point writes for v. -/
def wr (c : Dev nD) (t : Fin cfg0.N) (X : Vec Ideal S16x128x128 .f32) : Vec Ideal S1x1x16x64x128 .f32 :=
  k0_pay90 (bS (iblk m c 1 t)) (k0_pay78 (k0_pay7 (iblk m c 3 t)) (dvnS (qB m c t) (kB m c t) (iblk m c 1 t)
    (Scalar.cmpi .slt (Scalar.subi (67#32) (BitVec.ofNat 32 (nT t).val)) 4#32) (iblk m c 6 t) X (rv (dT t))))

theorem wr_at {M : Arr} {c : Dev nD} (R : RealAt m M c) (S : M.Saved) (t : Fin cfg0.N) (X : Vec Ideal S16x128x128 .f32)
    (hX : ∀ h a l, X (ix3 h a l) = ((M.St (dT t) h (64 * (nT t).val) a l : ℝ) : EReal)) (h : Fin 16) (i : Fin 64) (l : Fin 128) :
    wr m c t X (ix5 0 0 h i l)
      = ((M.dv (dT t) h ⟨64 * (nT t).val + (pos (dT t) i).val, by omega⟩ l : ℝ) : EReal) := by
  have key := dv_at (dT t) (qB m c t) (kB m c t) (iblk m c 1 t) (fun h i => M.A 0 h (crow (dT t) (nT t) i))
    (fun h i => M.A 1 h (crow (dT t) (nT t) i)) (fun i => M.G (dT t) (crow (dT t) (nT t) i)) _ (iblk m c 6 t)
    (fun h i => M.Oc h (crow (dT t) (nT t) i)) X (fun h => M.St (dT t) h (64 * (nT t).val)) (iblk m c 3 t)
    (fun h i j => M.T (dT t) (nT t).rev h i j) (q_at m R t) (k_at m R t) (fun i l => (blk1 m c t i l).trans (R.a1 _ _ _))
    (do_at m R t) hX (fun h i j => (blk3 m c t h i j).trans (R.a3 _ _ _ _ _)) h i l
  rw [← (Arr.chunk_at S (dT t) (nT t) h).1 i l]
  exact key

end Cert.GdnBwdIdeal.RefValue

end
-- ==== Proof.GdnOut.lean ====
/-
  Hand-written, untrusted. The kernel's result after the run: in the third of the first result that holds the gradient of
  v, every row holds the token rule's gradient.
-/
module

public import proofs.«01_k».proof.Proof.GdnRun

@[expose] public section

set_option maxRecDepth 16384

noncomputable section

namespace Cert.GdnBwdIdeal.RefValue

open Cert.GdnBwdIdeal Cert.GdnBwdIdeal.Gen Cert.Gdn Cert.GdnBwdIdeal.Pay
open Idealize.ShloMosaic Idealize.ShloMosaic.TcCoe Idealize.SL.Sem
open Idealize.ShloMosaic.Pipeline (Dat)

variable (m : (ℓ : Loc nD τ sig) → Buf (Elt Ideal) ℓ)

/-- The third block, stored last, at an index. -/
theorem third (w : Vec Ideal S1x1x16x64x128 .f32) (L : List (View.Piece (Elt Ideal) S1x3x16x64x128 .f32)) (h : Fin 16) (i : Fin 64) (l : Fin 128) :
    (View.canon (Val := Elt Ideal) (⟨Rect.unit (s := S1x3x16x64x128) ![0, 2, 0, 0, 0] ![1, 1, 16, 64, 128]
      inb_S1x3x16x64x128_S1x1x16x64x128_0_2_0_0_0, w⟩ :: L) : Vec Ideal S1x3x16x64x128 .f32) (ix5 0 2 h i l) = w (ix5 0 0 h i l) := by
  have e : (ix5 0 2 h i l : S1x3x16x64x128.Idx) = (Rect.unit (s := S1x3x16x64x128) ![0, 2, 0, 0, 0] ![1, 1, 16, 64, 128]
      inb_S1x3x16x64x128_S1x1x16x64x128_0_2_0_0_0).emb (ix5 0 0 h i l : S1x1x16x64x128.Idx) := by
    funext a
    apply Fin.ext
    rw [Rect.emb_apply]
    fin_cases a <;> simp [Rect.unit]
  rw [e]
  exact View.canon_cons_emb _ _ _ _

theorem stored_A (c : Dev nD) (t : Fin cfg0.N) (h0 : t.val % 68 = 0) : ∃ L : List (View.Piece (Elt Ideal) S1x3x16x64x128 .f32), (outsAt0 m c t.val t.isLt).1
    = View.canon (Val := Elt Ideal) (⟨Rect.unit (s := S1x3x16x64x128) ![0, 2, 0, 0, 0] ![1, 1, 16, 64, 128]
      inb_S1x3x16x64x128_S1x1x16x64x128_0_2_0_0_0, wr m c t (k0_pay2 (F := Ideal))⟩ :: L) := by
  rw [outsAt0_A m c t h0]
  frame_out
  exact ⟨_, rfl⟩

theorem stored_B (c : Dev nD) (t : Fin cfg0.N) (h0 : ¬ t.val % 68 = 0) : ∃ L : List (View.Piece (Elt Ideal) S1x3x16x64x128 .f32), (outsAt0 m c t.val t.isLt).1
    = View.canon (Val := Elt Ideal) (⟨Rect.unit (s := S1x3x16x64x128) ![0, 2, 0, 0, 0] ![1, 1, 16, 64, 128]
      inb_S1x3x16x64x128_S1x1x16x64x128_0_2_0_0_0, wr m c t (outsAt0 m c (t.val - 1) (Nat.lt_of_le_of_lt (Nat.sub_le _ _) t.isLt)).2.2⟩ :: L) := by
  rw [outsAt0_B m c t h0]
  frame_out
  rw [read_unread_whole]
  exact ⟨_, rfl⟩

variable {m} {M : Arr} {c : Dev nD} (R : RealAt m M c) (S : M.Saved)
include R S

/-- The scratch before a point. -/
theorem before (t : Fin cfg0.N) (h0 : ¬ t.val % 68 = 0) (h : Fin 16) (a l : Fin 128) :
    (outsAt0 m c (t.val - 1) (Nat.lt_of_le_of_lt (Nat.sub_le _ _) t.isLt)).2.2 (ix3 h a l)
      = ((M.St (dT t) h (64 * (nT t).val) a l : ℝ) : EReal) := by
  have ht := t.isLt
  refine (scratch m R S (t.val - 1) (by omega) h a l).trans ?_
  have e1 := (idx t).2.2.2.2.2.2
  have e2 := (idx ⟨t.val - 1, by omega⟩).2.2.2.2.2.2
  have ed : dT ⟨t.val - 1, by omega⟩ = dT t := Fin.ext (by
    rw [e2.1, e1.1]
    show (t.val - 1) / 68 = t.val / 68
    omega)
  have en : (nT t).val = (nT ⟨t.val - 1, by omega⟩).val + 1 := by
    rw [e2.2, e1.2]
    show t.val % 68 = (t.val - 1) % 68 + 1
    omega
  rw [ed, en]
  rfl

/-- The third block of a point's result. -/
theorem out_at (t : Fin cfg0.N) (h : Fin 16) (i : Fin 64) (l : Fin 128) : (outsAt0 m c t.val t.isLt).1 (ix5 0 2 h i l)
    = ((M.dv (dT t) h ⟨64 * (nT t).val + (pos (dT t) i).val, by omega⟩ l : ℝ) : EReal) := by
  by_cases h0 : t.val % 68 = 0
  · obtain ⟨L, e⟩ := stored_A m c t h0
    rw [e, third]
    refine wr_at m R S t _ (fun h a l => ?_) h i l
    have e : (nT t).val = 0 := (idx t).2.2.2.2.2.2.2.trans h0
    rw [e]
    unfold k0_pay2
    pointwise
    rfl
  · obtain ⟨L, e⟩ := stored_B m c t h0
    rw [e, third]
    exact wr_at m R S t _ (before R S t h0) h i l

omit R S in
theorem row_row (d : Fin 2) (t : Fin 4352) : row d (row d t) = t := by
  rcases (by decide : ∀ d : Fin 2, d = 0 ∨ d = 1) d with rfl | rfl
  · apply Fin.ext
    show (if (if t.val < 4096 then 4095 - t.val else 8447 - t.val) < 4096 then 4095 - (if t.val < 4096 then 4095 - t.val else 8447 - t.val)
      else 8447 - (if t.val < 4096 then 4095 - t.val else 8447 - t.val)) = t.val
    split <;> split <;> omega
  · rfl

/-- The first result after the run, where it holds the gradient of v. -/
theorem final (d : Fin 2) (h : Fin 16) (r : Fin 4352) (l : Fin 128) :
    (dats m 0 c).arrAt 7 cfg0.N (ix5 d 2 h r l) = ((M.dv d h (row d r) l : ℝ) : EReal) := by
  have key := (dats m 0 c).arrAt_forall_of_covers 7 (fun i v => ∀ d h r l, i = ix5 d 2 h r l → v = ((M.dv d h (row d r) l : ℝ) : EReal))
    (by decide +kernel) (fun t hf y => ?_) (ix5 d 2 h r l)
  · exact key d h r l rfl
  blk_simp
  rw [after0_7]
  intro d h r l e
  have hi := (idx t).2.2.2.2.2.1
  have e' : ∀ a, win0_7.index t a * win0_7.block.size a + 1 * (y a).val = ((ix5 d 2 h r l : S2x3x16x4352x128.Idx) a).val :=
    fun a => congrArg (fun i : S2x3x16x4352x128.Idx => (i a).val) e
  rw [hi] at e'
  idx_vars y
  have e0 : (dT t).val * 1 + 1 * y0.val = d.val := e' 0
  have e1 : 0 * 3 + 1 * y1.val = 2 := e' 1
  have e2 : 0 * 16 + 1 * y2.val = h.val := e' 2
  have e3 : (rc (dT t) (nT t)).val * 64 + 1 * y3.val = r.val := e' 3
  have e4 : 0 * 128 + 1 * y4.val = l.val := e' 4
  obtain rfl : y0 = 0 := Subsingleton.elim _ _
  obtain rfl : y1 = 2 := Fin.ext (by show y1.val = 2; omega)
  obtain rfl : y2 = h := Fin.ext (by omega)
  obtain rfl : y4 = l := Fin.ext (by omega)
  obtain rfl : dT t = d := Fin.ext (by
    have : ((0 : Fin 1).val) = 0 := rfl
    omega)
  have er : crow (dT t) (nT t) y3 = r := Fin.ext (by
    show 64 * (rc (dT t) (nT t)).val + y3.val = r.val
    omega)
  refine (out_at R S t y2 y3 y4).trans (congrArg (fun k : Fin 4352 => ((M.dv (dT t) y2 k y4 : ℝ) : EReal)) ?_)
  rw [← er, ← row_tok (dT t) (nT t) y3 (by omega), row_row]

end Cert.GdnBwdIdeal.RefValue

end
-- ==== Proof.GdnRef.lean ====
/-
  Hand-written, untrusted. The plain reference's loop over the reals: its rows in the order that each direction meets
  them, one trip, and the gradient of v after the loop.
-/
module

public import proofs.«01_k».proof.Proof.GdnTok
public import proofs.«01_k».proof.Proof.Gen.GdnDvRefIdeal.Step
public import Idealize.ShloMosaic.Lib.Pointwise

@[expose] public section

set_option maxRecDepth 200000

noncomputable section

namespace Cert.GdnDvRefIdeal.RefValue

open Cert.GdnDvRefIdeal Cert.GdnDvRefIdeal.Gen Cert.GdnDvRefIdeal.Step Cert.Gdn
open Cert.GdnBwdIdeal.Pay (lane blane)
open Idealize.ShloMosaic Idealize.ShloMosaic.TcCoe Idealize.SL.Sem

variable (x0 : FVec Ideal S3x16x4352x128 .f32) (x1 : FVec Ideal S2x4352x128 .f32) (x6 : FVec Ideal S16x4096x128 .f32)

theorem dir (d : Fin 2) : d = 0 ∨ d = 1 := by
  revert d
  decide

theorem row_lo (t : Fin 4352) (ht : t.val < 4096) : row 0 t = ⟨(Fin.rev (⟨t.val, ht⟩ : Fin 4096)).val, by omega⟩ := by
  apply Fin.ext
  show (if t.val < 4096 then 4095 - t.val else 8447 - t.val) = (Fin.rev (⟨t.val, ht⟩ : Fin 4096)).val
  rw [if_pos ht, Fin.val_rev]
  show _ = 4096 - (t.val + 1)
  omega

theorem row_hi (t : Fin 4352) (ht : ¬ t.val < 4096) :
    row 0 t = ⟨4096 + (Fin.rev (⟨t.val - 4096, by omega⟩ : Fin 256)).val, by omega⟩ := by
  apply Fin.ext
  show (if t.val < 4096 then 4095 - t.val else 8447 - t.val) = 4096 + (Fin.rev (⟨t.val - 4096, _⟩ : Fin 256)).val
  rw [if_neg ht, Fin.val_rev]
  show _ = 4096 + (256 - (t.val - 4096 + 1))
  omega

theorem ord43 (t : Fin 4352) (d : Fin 2) (h : Fin 16) (a : Fin 128) :
    (A_main_v43 (F := Ideal) x0 x1 x6 (ix5 t d h a 0) : EReal) = x0 (ix4 0 h (row d t) a) := by
  unfold A_main_v43 A_main_v14 A_main_v12 A_main_v13 A_main_v11 A_main_v10 A_main_v9 A_main_v8 A_main_v7 A_main_v2 A_main_v1 A_main_v0
  pointwise
  rcases dir d with rfl | rfl
  · by_cases ht : t.val < 4096
    · refine (dif_pos (show (0 : Fin 2).val < 1 by decide)).trans ((dif_pos ht).trans ?_)
      exact congrArg (fun r => x0 (ix4 0 h r a)) (row_lo t ht).symm
    · refine (dif_pos (show (0 : Fin 2).val < 1 by decide)).trans ((dif_neg ht).trans ?_)
      exact congrArg (fun r => x0 (ix4 0 h r a)) (row_hi t ht).symm
  · exact dif_neg (by decide)

theorem ord44 (t : Fin 4352) (d : Fin 2) (h : Fin 16) (a : Fin 128) :
    (A_main_v44 (F := Ideal) x0 x1 x6 (ix5 t d h a 0) : EReal) = x0 (ix4 1 h (row d t) a) := by
  unfold A_main_v44 A_main_v22 A_main_v20 A_main_v21 A_main_v19 A_main_v18 A_main_v17 A_main_v16 A_main_v15 A_main_v4 A_main_v3 A_main_v0
  pointwise
  rcases dir d with rfl | rfl
  · by_cases ht : t.val < 4096
    · refine (dif_pos (show (0 : Fin 2).val < 1 by decide)).trans ((dif_pos ht).trans ?_)
      exact congrArg (fun r => x0 (ix4 1 h r a)) (row_lo t ht).symm
    · refine (dif_pos (show (0 : Fin 2).val < 1 by decide)).trans ((dif_neg ht).trans ?_)
      exact congrArg (fun r => x0 (ix4 1 h r a)) (row_hi t ht).symm
  · exact dif_neg (by decide)

theorem ord42 (t : Fin 4352) (d : Fin 2) (l : Fin 128) :
    (A_main_v42 (F := Ideal) x0 x1 x6 (ix3 t d l) : EReal) = x1 (ix3 d (row d t) l) := by
  unfold A_main_v42 A_main_v41 A_main_v40 A_main_v39 A_main_v38 A_main_v37 A_main_v36 A_main_v35 A_main_v34 A_main_v33 A_main_v32 A_main_v31
  pointwise
  rcases dir d with rfl | rfl
  · by_cases ht : t.val < 4096
    · refine (dif_pos (show (0 : Fin 2).val < 1 by decide)).trans ((dif_pos ht).trans ?_)
      exact congrArg (fun r => x1 (ix3 0 r l)) (row_lo t ht).symm
    · refine (dif_pos (show (0 : Fin 2).val < 1 by decide)).trans ((dif_neg ht).trans ?_)
      exact congrArg (fun r => x1 (ix3 0 r l)) (row_hi t ht).symm
  · exact dif_neg (by decide)

theorem ord47 (t : Fin 4352) (d : Fin 2) (h : Fin 16) :
    (A_main_v47 (F := Ideal) x0 x1 x6 (ix5 t d h 0 0) : EReal) = Ideal.exp (x1 (ix3 d (row d t) (lane h))) := by
  rw [← ord42 x0 x1 x6 t d]
  unfold A_main_v47 A_main_v46 A_main_v45
  generalize A_main_v42 (F := Ideal) _ _ _ = Y
  pointwise
  rfl

theorem ord49 (t : Fin 4352) (d : Fin 2) (h : Fin 16) :
    (A_main_v49 (F := Ideal) x0 x1 x6 (ix4 t d h 0) : EReal) = x1 (ix3 d (row d t) (blane h)) := by
  rw [← ord42 x0 x1 x6 t d]
  unfold A_main_v49 A_main_v48
  generalize A_main_v42 (F := Ideal) _ _ _ = Y
  pointwise
  rfl

theorem ord52 (r : Fin 4352) (h : Fin 16) (v : Fin 128) :
    (A_main_v52 (F := Ideal) x0 x1 x6 (ix3 r h v) : EReal) = if hr : r.val < 4096 then x6 (ix3 h ⟨r.val, hr⟩ v) else 0 := by
  unfold A_main_v52 A_main_v50 K_main_v51 K_main_cst
  pointwise

theorem ord61 (t : Fin 4352) (d : Fin 2) (h : Fin 16) (v : Fin 128) :
    (A_main_v61 (F := Ideal) x0 x1 x6 (ix4 t d h v) : EReal) = A_main_v52 (F := Ideal) x0 x1 x6 (ix3 (row d t) h v) := by
  unfold A_main_v61 A_main_v60 A_main_v59 A_main_v58 A_main_v57 A_main_v56 A_main_v55 A_main_v54
  generalize A_main_v52 (F := Ideal) x0 x1 x6 = Y
  pointwise
  rcases dir d with rfl | rfl
  · by_cases ht : t.val < 4096
    · refine (dif_pos (show (0 : Fin 2).val < 1 by decide)).trans ((dif_pos ht).trans ?_)
      exact congrArg (fun r => Y (ix3 r h v)) (row_lo t ht).symm
    · refine (dif_pos (show (0 : Fin 2).val < 1 by decide)).trans ((dif_neg ht).trans ?_)
      exact congrArg (fun r => Y (ix3 r h v)) (row_hi t ht).symm
  · exact dif_neg (by decide)

theorem row_row (d : Fin 2) (t : Fin 4352) : row d (row d t) = t := by
  rcases dir d with rfl | rfl
  · apply Fin.ext
    show (if (if t.val < 4096 then 4095 - t.val else 8447 - t.val) < 4096 then 4095 - (if t.val < 4096 then 4095 - t.val else 8447 - t.val)
      else 8447 - (if t.val < 4096 then 4095 - t.val else 8447 - t.val)) = t.val
    split <;> split <;> omega
  · rfl

theorem res' (s : State Ideal) (t : Fin 4352) (d : Fin 2) (h : Fin 16) (v : Fin 128) :
    (R_main_v83 (F := Ideal) s (ix5 d 2 h t v) : EReal) = s.main_v64_7 (ix4 (row d t) d h v) := by
  unfold R_main_v83
  generalize s.main_v64_7 = X
  pointwise
  rcases dir d with rfl | rfl
  · by_cases ht : t.val < 4096
    · refine (dif_pos (show (0 : Fin 2).val < 1 by decide)).trans ((dif_pos ht).trans ?_)
      exact congrArg (fun r => X (ix4 r 0 h v)) (row_lo t ht).symm
    · refine (dif_pos (show (0 : Fin 2).val < 1 by decide)).trans ((dif_neg ht).trans ?_)
      exact congrArg (fun r => X (ix4 r 0 h v)) (row_hi t ht).symm
  · exact dif_neg (by decide)

/-- The last operations put a token's gradient at its row. -/
theorem res (s : State Ideal) (t : Fin 4352) (d : Fin 2) (h : Fin 16) (v : Fin 128) :
    (R_main_v83 (F := Ideal) s (ix5 d 2 h (row d t) v) : EReal) = s.main_v64_7 (ix4 t d h v) := by
  rw [res', row_row]

theorem start_j (j : ℕ) (hj : j < 4352) : (BitVec.ofNat 32 j).toInt = (j : ℤ) := by
  rw [BitVec.toInt_eq_toNat_of_lt] <;> rw [BitVec.toNat_ofNat, Nat.mod_eq_of_lt] <;> omega

theorem at_zero {s t : Shape} (ht : t.rank = s.rank) (start : Fin s.rank → Int) (a : Fin s.rank) (h : s.size a = t.size (a.cast ht.symm)) :
    Host.clampedStart s t ht start a = 0 := by
  unfold Host.clampedStart
  omega

theorem add_zero' {s t : Shape} {ht : t.rank = s.rank} {start : Fin s.rank → Int} {a : Fin s.rank} (x : ℕ) (h : s.size a = t.size (a.cast ht.symm)) :
    Host.clampedStart s t ht start a + x = x := by
  rw [at_zero ht start a h, Nat.zero_add]

theorem sub_zero' {s t : Shape} {ht : t.rank = s.rank} {start : Fin s.rank → Int} {a : Fin s.rank} (x : ℕ) (h : s.size a = t.size (a.cast ht.symm)) :
    x - Host.clampedStart s t ht start a = x := by
  rw [at_zero ht start a h, Nat.sub_zero]

theorem at_j {s t : Shape} {ht : t.rank = s.rank} {start : Fin s.rank → Int} {a : Fin s.rank} {j n : ℕ} (hj : j < n) (hs : start a = (j : ℤ))
    (h1 : t.size (a.cast ht.symm) = 1) (hn : s.size a = n) : Host.clampedStart s t ht start a = j :=
  Host.clampedStart_of_le ht start a j hs (by omega)

theorem c3 {A B C : ℕ} {α : Type} (X : (⟨3, ![A, B, C]⟩ : Shape).Idx → α) {a a' : Fin A} {b b' : Fin B} {c c' : Fin C}
    (ha : a = a') (hb : b = b') (hc : c = c') : X (ix3 a b c) = X (ix3 a' b' c') := by
  subst ha hb hc; rfl

theorem c4 {A B C D : ℕ} {α : Type} (X : (⟨4, ![A, B, C, D]⟩ : Shape).Idx → α) {a a' : Fin A} {b b' : Fin B} {c c' : Fin C} {d d' : Fin D}
    (ha : a = a') (hb : b = b') (hc : c = c') (hd : d = d') : X (ix4 a b c d) = X (ix4 a' b' c' d') := by
  subst ha hb hc hd; rfl

theorem c5 {A B C D E : ℕ} {α : Type} (X : (⟨5, ![A, B, C, D, E]⟩ : Shape).Idx → α) {a a' : Fin A} {b b' : Fin B} {c c' : Fin C} {d d' : Fin D} {e e' : Fin E}
    (ha : a = a') (hb : b = b') (hc : c = c') (hd : d = d') (he : e = e') : X (ix5 a b c d e) = X (ix5 a' b' c' d' e') := by
  subst ha hb hc hd he; rfl

theorem one_zero (a b : Fin 1) : a = b := Subsingleton.elim _ _

variable (j : ℕ) (hj : j < 4352) (s : State Ideal) (d : Fin 2) (h : Fin 16)
include hj

theorem b4_at (v : Fin 128) : (b4 j s (ix3 d h v) : EReal) = s.main_v64_0 (ix4 ⟨j, hj⟩ d h v) := by
  have e : Host.clampedStart S4352x2x16x128 S1x2x16x128 rfl (fun k =>
      BitVec.toInt (![constantI S_ 32 (BitVec.ofNat 32 j), b0 j s, b1 j s, b2 j s] k (Shape.Idx.first h_S_))) 0 = j :=
    at_j hj (by show (BitVec.ofNat 32 j).toInt = _; exact start_j j hj) (by rfl) (by rfl)
  unfold b4 b3
  pointwise
  exact c4 s.main_v64_0 (Fin.ext e) (Fin.ext (add_zero' _ rfl))
    (Fin.ext (add_zero' _ rfl)) (Fin.ext (add_zero' _ rfl))

theorem b10_at (a : Fin 128) : (b10 j s (ix4 d h a 0) : EReal) = s.main_v64_1 (ix5 ⟨j, hj⟩ d h a 0) := by
  have e : Host.clampedStart S4352x2x16x128x1 S1x2x16x128x1 rfl (fun k =>
      BitVec.toInt (![constantI S_ 32 (BitVec.ofNat 32 j), b5 j s, b6 j s, b7 j s, b8 j s] k (Shape.Idx.first h_S_))) 0 = j :=
    at_j hj (by show (BitVec.ofNat 32 j).toInt = _; exact start_j j hj) (by rfl) (by rfl)
  unfold b10 b9
  pointwise
  exact c5 s.main_v64_1 (Fin.ext e) (Fin.ext (add_zero' _ rfl))
    (Fin.ext (add_zero' _ rfl)) (Fin.ext (add_zero' _ rfl)) (one_zero _ _)

theorem b16_at (a : Fin 128) : (b16 j s (ix4 d h a 0) : EReal) = s.main_v64_2 (ix5 ⟨j, hj⟩ d h a 0) := by
  have e : Host.clampedStart S4352x2x16x128x1 S1x2x16x128x1 rfl (fun k =>
      BitVec.toInt (![constantI S_ 32 (BitVec.ofNat 32 j), b11 j s, b12 j s, b13 j s, b14 j s] k (Shape.Idx.first h_S_))) 0 = j :=
    at_j hj (by show (BitVec.ofNat 32 j).toInt = _; exact start_j j hj) (by rfl) (by rfl)
  unfold b16 b15
  pointwise
  exact c5 s.main_v64_2 (Fin.ext e) (Fin.ext (add_zero' _ rfl))
    (Fin.ext (add_zero' _ rfl)) (Fin.ext (add_zero' _ rfl)) (one_zero _ _)

theorem b22_at : (b22 j s (ix4 d h 0 0) : EReal) = s.main_v64_3 (ix5 ⟨j, hj⟩ d h 0 0) := by
  have e : Host.clampedStart S4352x2x16x1x1 S1x2x16x1x1 rfl (fun k =>
      BitVec.toInt (![constantI S_ 32 (BitVec.ofNat 32 j), b17 j s, b18 j s, b19 j s, b20 j s] k (Shape.Idx.first h_S_))) 0 = j :=
    at_j hj (by show (BitVec.ofNat 32 j).toInt = _; exact start_j j hj) (by rfl) (by rfl)
  unfold b22 b21
  pointwise
  exact c5 s.main_v64_3 (Fin.ext e) (Fin.ext (add_zero' _ rfl))
    (Fin.ext (add_zero' _ rfl)) (one_zero _ _) (one_zero _ _)

theorem b27_at : (b27 j s (ix3 d h 0) : EReal) = s.main_v64_4 (ix4 ⟨j, hj⟩ d h 0) := by
  have e : Host.clampedStart S4352x2x16x1 S1x2x16x1 rfl (fun k =>
      BitVec.toInt (![constantI S_ 32 (BitVec.ofNat 32 j), b23 j s, b24 j s, b25 j s] k (Shape.Idx.first h_S_))) 0 = j :=
    at_j hj (by show (BitVec.ofNat 32 j).toInt = _; exact start_j j hj) (by rfl) (by rfl)
  unfold b27 b26
  pointwise
  exact c4 s.main_v64_4 (Fin.ext e) (Fin.ext (add_zero' _ rfl))
    (Fin.ext (add_zero' _ rfl)) (one_zero _ _)

theorem b52_at (t : Fin 4352) (v : Fin 128) :
    (b52 j s (ix4 t d h v) : EReal) = if t.val = j then b40 j s (ix3 d h v) else s.main_v64_7 (ix4 t d h v) := by
  have e : Host.clampedStart S4352x2x16x128 S1x2x16x128 rfl (fun k =>
      BitVec.toInt (![constantI S_ 32 (BitVec.ofNat 32 j), b49 j s, b50 j s, b51 j s] k (Shape.Idx.first h_S_))) 0 = j :=
    at_j hj (by show (BitVec.ofNat 32 j).toInt = _; exact start_j j hj) (by rfl) (by rfl)
  unfold b52 b48
  pointwise
  by_cases ht : t.val = j
  · rw [if_pos ht]
    refine (dif_pos ?_).trans (c3 (b40 j s) (Fin.ext (sub_zero' _ rfl)) (Fin.ext (sub_zero' _ rfl)) (Fin.ext (sub_zero' _ rfl)))
    refine ⟨⟨?_, ?_⟩, ?_, ?_, ?_⟩
    · rw [e, ht]
    · rw [e, ht]
      exact Nat.lt_succ_self j
    · exact (at_zero _ _ _ rfl).trans_le (Nat.zero_le _)
    · exact (at_zero _ _ _ rfl).trans_le (Nat.zero_le _)
    · exact (at_zero _ _ _ rfl).trans_le (Nat.zero_le _)
  · rw [if_neg ht]
    refine dif_neg fun hc => ht ?_
    have h1 := hc.1
    rw [e] at h1
    omega

omit hj in
theorem b40_eq (v : Fin 128) : (b40 j s (ix3 d h v) : EReal)
    = (∑ a, b16 j s (ix4 d h a 0) * (s.main_v64_6 (ix4 d h a v) + b10 j s (ix4 d h a 0) * b4 j s (ix3 d h v)) : EReal) * b27 j s (ix3 d h 0) := by
  unfold b40 b39 b38 b37 b36 b35 b34 b33 b32 b31 b30 b29 b28
  generalize b16 j s = K
  generalize b10 j s = Q
  generalize b4 j s = O
  generalize b27 j s = B
  pointwise
  refine congrArg (· * _) ?_
  simp

omit hj in
theorem b47_eq (a v : Fin 128) : (b47 j s (ix4 d h a v) : EReal)
    = (s.main_v64_6 (ix4 d h a v) + b10 j s (ix4 d h a 0) * b4 j s (ix3 d h v) + b16 j s (ix4 d h a 0) * (- b40 j s (ix3 d h v)) : EReal)
      * b22 j s (ix4 d h 0 0) := by
  unfold b47 b46 b45 b44 b43 b42 b41 b31 b30 b29 b28
  generalize b16 j s = K
  generalize b10 j s = Q
  generalize b4 j s = O
  generalize b40 j s = B
  generalize b22 j s = G
  pointwise

end Cert.GdnDvRefIdeal.RefValue

end
-- ==== Proof.GdnIter.lean ====
/-
  Hand-written, untrusted. The plain reference's loop, trip by trip over the reals: the state is the state's gradient, and
  the rows already met hold the gradient of v.
-/
module

public import proofs.«01_k».proof.Proof.GdnRef
public import proofs.«01_k».proof.Proof.GdnRefRun

@[expose] public section

set_option maxRecDepth 16384

noncomputable section

namespace Cert.GdnDvRefIdeal.RefValue

open Cert.GdnDvRefIdeal Cert.GdnDvRefIdeal.Gen Cert.GdnDvRefIdeal.Step Cert.Gdn
open Cert.GdnBwdIdeal.Pay (lane blane coe_sum)
open Idealize.ShloMosaic Idealize.ShloMosaic.TcCoe Idealize.SL.Sem

variable (x0 : FVec Ideal S3x16x4352x128 .f32) (x1 : FVec Ideal S2x4352x128 .f32) (x6 : FVec Ideal S16x4096x128 .f32)

/-- What holds before trip n. -/
structure Inv (M : Arr) (n : ℕ) (s : State Ideal) : Prop where
  k0 : s.main_v64_0 = A_main_v61 x0 x1 x6
  k1 : s.main_v64_1 = A_main_v43 x0 x1 x6
  k2 : s.main_v64_2 = A_main_v44 x0 x1 x6
  k3 : s.main_v64_3 = A_main_v47 x0 x1 x6
  k4 : s.main_v64_4 = A_main_v49 x0 x1 x6
  st : ∀ d h a v, s.main_v64_6 (ix4 d h a v) = ((M.St d h n a v : ℝ) : EReal)
  out : ∀ (t : Fin 4352) d h v, t.val < n → s.main_v64_7 (ix4 t d h v) = ((M.dv d h t v : ℝ) : EReal)

theorem inv_zero (M : Arr) : Inv x0 x1 x6 M 0 (init x0 x1 x6) where
  k0 := rfl
  k1 := rfl
  k2 := rfl
  k3 := rfl
  k4 := rfl
  st d h a v := by
    show K_main_v62 (F := Ideal) (ix4 d h a v) = _
    unfold K_main_v62 K_main_cst_1
    pointwise
    rfl
  out t d h v ht := absurd ht (Nat.not_lt_zero _)

variable {x0 x1 x6}

theorem inv_succ {M : Arr} {x3 : FVec Ideal ⟨5, ![2, 68, 16, 64, 64]⟩ .f32} {x5 : FVec Ideal ⟨4, ![2, 16, 4352, 128]⟩ .f32}
    (R : Real M x0 x1 x3 x5 x6) {n : ℕ} (hn : n < 4352) {s : State Ideal} (I : Inv x0 x1 x6 M n s) : Inv x0 x1 x6 M (n + 1) (step n s) := by
  have hK : ∀ d h a, (b16 n s (ix4 d h a 0) : EReal) = ((M.A 1 h (row d ⟨n, hn⟩) a : ℝ) : EReal) := fun d h a => by
    rw [b16_at n hn, I.k2, ord44, R.a0]
  have hQ : ∀ d h a, (b10 n s (ix4 d h a 0) : EReal) = ((M.A 0 h (row d ⟨n, hn⟩) a : ℝ) : EReal) := fun d h a => by
    rw [b10_at n hn, I.k1, ord43, R.a0]
  have hO : ∀ d h v, (b4 n s (ix3 d h v) : EReal) = ((M.Oc h (row d ⟨n, hn⟩) v : ℝ) : EReal) := fun d h v => by
    rw [b4_at n hn, I.k0, ord61, ord52, Arr.Oc]
    by_cases hr : (row d ⟨n, hn⟩).val < 4096
    · rw [dif_pos hr, dif_pos hr, R.a6]
    · rw [dif_neg hr, dif_neg hr]; rfl
  have hG : ∀ d h, (b22 n s (ix4 d h 0 0) : EReal) = ((Real.exp (M.G d (row d ⟨n, hn⟩) (lane h)) : ℝ) : EReal) := fun d h => by
    rw [b22_at n hn, I.k3, ord47, R.a1, Ideal.exp_coe]
  have hB : ∀ d h, (b27 n s (ix3 d h 0) : EReal) = ((M.G d (row d ⟨n, hn⟩) (blane h) : ℝ) : EReal) := fun d h => by
    rw [b27_at n hn, I.k4, ord49, R.a1]
  have hD : ∀ d h v, (b40 n s (ix3 d h v) : EReal) = ((M.dv d h ⟨n, hn⟩ v : ℝ) : EReal) := fun d h v => by
    rw [b40_eq, hB, hO]
    simp only [hK, hQ, I.st, ← EReal.coe_mul, ← EReal.coe_add, coe_sum]
    rfl
  exact {
    k0 := I.k0
    k1 := I.k1
    k2 := I.k2
    k3 := I.k3
    k4 := I.k4
    st := fun d h a v => by
      rw [step_main_v64_6, b47_eq, hD, hK, hQ, hO, hG, I.st, Arr.St, dif_pos hn]
      rw [← EReal.coe_neg, ← EReal.coe_mul, ← EReal.coe_mul, ← EReal.coe_add, ← EReal.coe_add, ← EReal.coe_mul]
      refine congrArg _ ?_
      unfold Arr.tok stepTok Arr.dv
      ring
    out := fun t d h v ht => by
      rw [step_main_v64_7, b52_at n hn]
      by_cases e : t.val = n
      · rw [if_pos e, hD]
        obtain rfl : t = ⟨n, hn⟩ := Fin.ext e
        rfl
      · rw [if_neg e]
        exact I.out t d h v (by omega) }

/-- After the loop. -/
theorem inv_all {M : Arr} {x3 : FVec Ideal ⟨5, ![2, 68, 16, 64, 64]⟩ .f32} {x5 : FVec Ideal ⟨4, ![2, 16, 4352, 128]⟩ .f32}
    (R : Real M x0 x1 x3 x5 x6) (it : ℕ → State Ideal) (h0 : it 0 = init x0 x1 x6) (hs : ∀ n, it (n + 1) = step n (it n)) :
    ∀ n ≤ 4352, Inv x0 x1 x6 M n (it n) := by
  intro n
  induction n with
  | zero => intro _; rw [h0]; exact inv_zero x0 x1 x6 M
  | succ n ih => intro hn; rw [hs]; exact inv_succ R (by omega) (ih (by omega))

end Cert.GdnDvRefIdeal.RefValue

end
-- ==== Proof.GdnPre.lean ====
/-
  Hand-written, untrusted. What the precondition says of the arguments: real numbers, the saved matrices are the inverses of
  the chunks' unit triangular matrices, and the saved keys are their products.
-/
module

public import proofs.«01_k».proof.Pre_saved
public import proofs.«01_k».proof.Proof.GdnTok
public import Idealize.ShloMosaic.Lib.Pointwise
public import Idealize.ShloMosaic.Lib.ReduceAll

@[expose] public section

set_option maxRecDepth 200000

noncomputable section

namespace Cert.Pre_saved.Read

open Cert.Pre_saved Cert.Gdn Idealize.ShloMosaic
open Cert.GdnBwdIdeal.Pay (lane blane coe_sum)

variable [Cert.Pre_saved.Facts]
open Cert.Pre_saved.Facts

/-- The arguments that the precondition reads. -/
abbrev A0 := FVec Ideal S3x16x4352x128 .f32
abbrev A1 := FVec Ideal S2x4352x128 .f32
abbrev A3 := FVec Ideal S2x68x16x64x64 .f32
abbrev A5 := FVec Ideal S2x16x4352x128 .f32
abbrev A6 := FVec Ideal S16x4096x128 .f32

/-! The precondition's operations, one at a time. -/

def P0 (x0 : A0) (x1 : A1) (x3 : A3) (x5 : A5) (x6 : A6) : FVec Ideal S3x16x4352x128 .f32 := Host.absf x0
def P1 (x0 : A0) (x1 : A1) (x3 : A3) (x5 : A5) (x6 : A6) : FVec Ideal S3x16x4352x128 .f32 := broadcastInDim S3x16x4352x128 ![] bcast_S_S3x16x4352x128 (constant S_ .f32 0x7F800000#32)
def P2 (x0 : A0) (x1 : A1) (x3 : A3) (x5 : A5) (x6 : A6) : IVec S3x16x4352x128 1 := cmpf .olt (P0 x0 x1 x3 x5 x6) (P1 x0 x1 x3 x5 x6)
def P3 (x0 : A0) (x1 : A1) (x3 : A3) (x5 : A5) (x6 : A6) : IVec S_ 1 := (fun x v => Host.reduce IntOp.andi x v reducesTo_S3x16x4352x128_S_d0_1_2_3 h_S_) (P2 x0 x1 x3 x5 x6) (constantI S_ 1 1#1)
def P4 (x0 : A0) (x1 : A1) (x3 : A3) (x5 : A5) (x6 : A6) : FVec Ideal S2x4352x128 .f32 := Host.absf x1
def P5 (x0 : A0) (x1 : A1) (x3 : A3) (x5 : A5) (x6 : A6) : FVec Ideal S2x4352x128 .f32 := broadcastInDim S2x4352x128 ![] bcast_S_S2x4352x128 (constant S_ .f32 0x7F800000#32)
def P6 (x0 : A0) (x1 : A1) (x3 : A3) (x5 : A5) (x6 : A6) : IVec S2x4352x128 1 := cmpf .olt (P4 x0 x1 x3 x5 x6) (P5 x0 x1 x3 x5 x6)
def P7 (x0 : A0) (x1 : A1) (x3 : A3) (x5 : A5) (x6 : A6) : IVec S_ 1 := (fun x v => Host.reduce IntOp.andi x v reducesTo_S2x4352x128_S_d0_1_2 h_S_) (P6 x0 x1 x3 x5 x6) (constantI S_ 1 1#1)
def P8 (x0 : A0) (x1 : A1) (x3 : A3) (x5 : A5) (x6 : A6) : IVec S_ 1 := andi (P3 x0 x1 x3 x5 x6) (P7 x0 x1 x3 x5 x6)
def P9 (x0 : A0) (x1 : A1) (x3 : A3) (x5 : A5) (x6 : A6) : FVec Ideal S2x68x16x64x64 .f32 := Host.absf x3
def P10 (x0 : A0) (x1 : A1) (x3 : A3) (x5 : A5) (x6 : A6) : FVec Ideal S2x68x16x64x64 .f32 := broadcastInDim S2x68x16x64x64 ![] bcast_S_S2x68x16x64x64 (constant S_ .f32 0x7F800000#32)
def P11 (x0 : A0) (x1 : A1) (x3 : A3) (x5 : A5) (x6 : A6) : IVec S2x68x16x64x64 1 := cmpf .olt (P9 x0 x1 x3 x5 x6) (P10 x0 x1 x3 x5 x6)
def P12 (x0 : A0) (x1 : A1) (x3 : A3) (x5 : A5) (x6 : A6) : IVec S_ 1 := (fun x v => Host.reduce IntOp.andi x v reducesTo_S2x68x16x64x64_S_d0_1_2_3_4 h_S_) (P11 x0 x1 x3 x5 x6) (constantI S_ 1 1#1)
def P13 (x0 : A0) (x1 : A1) (x3 : A3) (x5 : A5) (x6 : A6) : IVec S_ 1 := andi (P8 x0 x1 x3 x5 x6) (P12 x0 x1 x3 x5 x6)
def P14 (x0 : A0) (x1 : A1) (x3 : A3) (x5 : A5) (x6 : A6) : FVec Ideal S2x16x4352x128 .f32 := Host.absf x5
def P15 (x0 : A0) (x1 : A1) (x3 : A3) (x5 : A5) (x6 : A6) : FVec Ideal S2x16x4352x128 .f32 := broadcastInDim S2x16x4352x128 ![] bcast_S_S2x16x4352x128 (constant S_ .f32 0x7F800000#32)
def P16 (x0 : A0) (x1 : A1) (x3 : A3) (x5 : A5) (x6 : A6) : IVec S2x16x4352x128 1 := cmpf .olt (P14 x0 x1 x3 x5 x6) (P15 x0 x1 x3 x5 x6)
def P17 (x0 : A0) (x1 : A1) (x3 : A3) (x5 : A5) (x6 : A6) : IVec S_ 1 := (fun x v => Host.reduce IntOp.andi x v reducesTo_S2x16x4352x128_S_d0_1_2_3 h_S_) (P16 x0 x1 x3 x5 x6) (constantI S_ 1 1#1)
def P18 (x0 : A0) (x1 : A1) (x3 : A3) (x5 : A5) (x6 : A6) : IVec S_ 1 := andi (P13 x0 x1 x3 x5 x6) (P17 x0 x1 x3 x5 x6)
def P19 (x0 : A0) (x1 : A1) (x3 : A3) (x5 : A5) (x6 : A6) : FVec Ideal S16x4096x128 .f32 := Host.absf x6
def P20 (x0 : A0) (x1 : A1) (x3 : A3) (x5 : A5) (x6 : A6) : FVec Ideal S16x4096x128 .f32 := broadcastInDim S16x4096x128 ![] bcast_S_S16x4096x128 (constant S_ .f32 0x7F800000#32)
def P21 (x0 : A0) (x1 : A1) (x3 : A3) (x5 : A5) (x6 : A6) : IVec S16x4096x128 1 := cmpf .olt (P19 x0 x1 x3 x5 x6) (P20 x0 x1 x3 x5 x6)
def P22 (x0 : A0) (x1 : A1) (x3 : A3) (x5 : A5) (x6 : A6) : IVec S_ 1 := (fun x v => Host.reduce IntOp.andi x v reducesTo_S16x4096x128_S_d0_1_2 h_S_) (P21 x0 x1 x3 x5 x6) (constantI S_ 1 1#1)
def P23 (x0 : A0) (x1 : A1) (x3 : A3) (x5 : A5) (x6 : A6) : IVec S_ 1 := andi (P18 x0 x1 x3 x5 x6) (P22 x0 x1 x3 x5 x6)
def P24 (x0 : A0) (x1 : A1) (x3 : A3) (x5 : A5) (x6 : A6) : IVec S64x64 32 := iotaInDim S64x64 32 0
def P25 (x0 : A0) (x1 : A1) (x3 : A3) (x5 : A5) (x6 : A6) : IVec S64x64 32 := iotaInDim S64x64 32 1
def P26 (x0 : A0) (x1 : A1) (x3 : A3) (x5 : A5) (x6 : A6) : IVec S64x64 1 := cmpi .sle (P25 x0 x1 x3 x5 x6) (P24 x0 x1 x3 x5 x6)
def P27 (x0 : A0) (x1 : A1) (x3 : A3) (x5 : A5) (x6 : A6) : IVec S64x64 1 := cmpi .sge (P25 x0 x1 x3 x5 x6) (P24 x0 x1 x3 x5 x6)
def P28 (x0 : A0) (x1 : A1) (x3 : A3) (x5 : A5) (x6 : A6) : IVec S1x64x64 1 := broadcastInDim S1x64x64 ![1, 2] bcast_S64x64_S1x64x64_1_2 (P26 x0 x1 x3 x5 x6)
def P29 (x0 : A0) (x1 : A1) (x3 : A3) (x5 : A5) (x6 : A6) : IVec S1x64x64 1 := broadcastInDim S1x64x64 ![1, 2] bcast_S64x64_S1x64x64_1_2 (P27 x0 x1 x3 x5 x6)
def P30 (x0 : A0) (x1 : A1) (x3 : A3) (x5 : A5) (x6 : A6) : IVec S2x64x64 1 := (fun a b => concatenate S2x64x64 0 [⟨S1x64x64, a⟩, ⟨S1x64x64, b⟩] concatenates_S1x64x64_S1x64x64_S2x64x64_d0) (P28 x0 x1 x3 x5 x6) (P29 x0 x1 x3 x5 x6)
def P31 (x0 : A0) (x1 : A1) (x3 : A3) (x5 : A5) (x6 : A6) : FVec Ideal S1x16x4352x128 .f32 := (extractStridedSlice S1x16x4352x128 ![1, 0, 0, 0] · slices_S3x16x4352x128_S1x16x4352x128_1_0_0_0) x0
def P32 (x0 : A0) (x1 : A1) (x3 : A3) (x5 : A5) (x6 : A6) : FVec Ideal S16x4352x128 .f32 := shapeCast S16x4352x128 (P31 x0 x1 x3 x5 x6) shapeCasts_S1x16x4352x128_S16x4352x128
def P33 (x0 : A0) (x1 : A1) (x3 : A3) (x5 : A5) (x6 : A6) : FVec Ideal S16x68x64x128 .f32 := shapeCast S16x68x64x128 (P32 x0 x1 x3 x5 x6) shapeCasts_S16x4352x128_S16x68x64x128
def P34 (x0 : A0) (x1 : A1) (x3 : A3) (x5 : A5) (x6 : A6) : FVec Ideal S2x4352x16 .f32 := (extractStridedSlice S2x4352x16 ![0, 0, 0] · slices_S2x4352x128_S2x4352x16_0_0_0) x1
def P35 (x0 : A0) (x1 : A1) (x3 : A3) (x5 : A5) (x6 : A6) : FVec Ideal S2x68x64x16 .f32 := shapeCast S2x68x64x16 (P34 x0 x1 x3 x5 x6) shapeCasts_S2x4352x16_S2x68x64x16
def P36 (x0 : A0) (x1 : A1) (x3 : A3) (x5 : A5) (x6 : A6) : FVec Ideal S2x4352x16 .f32 := (extractStridedSlice S2x4352x16 ![0, 0, 16] · slices_S2x4352x128_S2x4352x16_0_0_16) x1
def P37 (x0 : A0) (x1 : A1) (x3 : A3) (x5 : A5) (x6 : A6) : FVec Ideal S2x68x64x16 .f32 := shapeCast S2x68x64x16 (P36 x0 x1 x3 x5 x6) shapeCasts_S2x4352x16_S2x68x64x16
def P38 (x0 : A0) (x1 : A1) (x3 : A3) (x5 : A5) (x6 : A6) : IVec S2x1x1x64x64 1 := broadcastInDim S2x1x1x64x64 ![0, 3, 4] bcast_S2x64x64_S2x1x1x64x64_0_3_4 (P30 x0 x1 x3 x5 x6)
def P39 (x0 : A0) (x1 : A1) (x3 : A3) (x5 : A5) (x6 : A6) : FVec Ideal S2x68x16x64 .f32 := (transpose S2x68x16x64 [0, 1, 3, 2] · transposes_S2x68x64x16_S2x68x16x64_0_1_3_2) (P35 x0 x1 x3 x5 x6)
def P40 (x0 : A0) (x1 : A1) (x3 : A3) (x5 : A5) (x6 : A6) : FVec Ideal S2x68x16x1x64 .f32 := broadcastInDim S2x68x16x1x64 ![0, 1, 2, 4] bcast_S2x68x16x64_S2x68x16x1x64_0_1_2_4 (P39 x0 x1 x3 x5 x6)
def P41 (x0 : A0) (x1 : A1) (x3 : A3) (x5 : A5) (x6 : A6) : FVec Ideal S2x68x16x64x64 .f32 := fn_where (F := Ideal) (P38 x0 x1 x3 x5 x6) (P40 x0 x1 x3 x5 x6) (constant S_ .f32 0x00000000#32)
def P42 (x0 : A0) (x1 : A1) (x3 : A3) (x5 : A5) (x6 : A6) : FVec Ideal S2x68x16x64 .f32 := (fun x v => Host.reduceAdd x v reducesTo_S2x68x16x64x64_S2x68x16x64_d4 h_S_) (P41 x0 x1 x3 x5 x6) (constant S_ .f32 0x00000000#32)
def P43 (x0 : A0) (x1 : A1) (x3 : A3) (x5 : A5) (x6 : A6) : FVec Ideal S68x16x64x64 .f32 := (fun l r => Host.dotGeneral dot_S16x68x64x128_S16x68x64x128_S68x16x64x64_3_3_2_2_10_10 none l r) (P33 x0 x1 x3 x5 x6) (P33 x0 x1 x3 x5 x6)
def P44 (x0 : A0) (x1 : A1) (x3 : A3) (x5 : A5) (x6 : A6) : IVec S64x64 1 := cmpi .ne (P24 x0 x1 x3 x5 x6) (P25 x0 x1 x3 x5 x6)
def P45 (x0 : A0) (x1 : A1) (x3 : A3) (x5 : A5) (x6 : A6) : IVec S1x64x64 1 := broadcastInDim S1x64x64 ![1, 2] bcast_S64x64_S1x64x64_1_2 (P44 x0 x1 x3 x5 x6)
def P46 (x0 : A0) (x1 : A1) (x3 : A3) (x5 : A5) (x6 : A6) : IVec S2x64x64 1 := broadcastInDim S2x64x64 ![0, 1, 2] bcast_S1x64x64_S2x64x64_0_1_2 (P45 x0 x1 x3 x5 x6)
def P47 (x0 : A0) (x1 : A1) (x3 : A3) (x5 : A5) (x6 : A6) : IVec S2x64x64 1 := andi (P30 x0 x1 x3 x5 x6) (P46 x0 x1 x3 x5 x6)
def P48 (x0 : A0) (x1 : A1) (x3 : A3) (x5 : A5) (x6 : A6) : IVec S2x1x1x64x64 1 := broadcastInDim S2x1x1x64x64 ![0, 3, 4] bcast_S2x64x64_S2x1x1x64x64_0_3_4 (P47 x0 x1 x3 x5 x6)
def P49 (x0 : A0) (x1 : A1) (x3 : A3) (x5 : A5) (x6 : A6) : FVec Ideal S2x68x16x64x1 .f32 := broadcastInDim S2x68x16x64x1 ![0, 1, 2, 3] bcast_S2x68x16x64_S2x68x16x64x1_0_1_2_3 (P42 x0 x1 x3 x5 x6)
def P50 (x0 : A0) (x1 : A1) (x3 : A3) (x5 : A5) (x6 : A6) : FVec Ideal S2x68x16x1x64 .f32 := broadcastInDim S2x68x16x1x64 ![0, 1, 2, 4] bcast_S2x68x16x64_S2x68x16x1x64_0_1_2_4 (P42 x0 x1 x3 x5 x6)
def P51 (x0 : A0) (x1 : A1) (x3 : A3) (x5 : A5) (x6 : A6) : FVec Ideal S2x68x16x64x64 .f32 := broadcastInDim S2x68x16x64x64 ![0, 1, 2, 3, 4] bcast_S2x68x16x64x1_S2x68x16x64x64_0_1_2_3_4 (P49 x0 x1 x3 x5 x6)
def P52 (x0 : A0) (x1 : A1) (x3 : A3) (x5 : A5) (x6 : A6) : FVec Ideal S2x68x16x64x64 .f32 := broadcastInDim S2x68x16x64x64 ![0, 1, 2, 3, 4] bcast_S2x68x16x1x64_S2x68x16x64x64_0_1_2_3_4 (P50 x0 x1 x3 x5 x6)
def P53 (x0 : A0) (x1 : A1) (x3 : A3) (x5 : A5) (x6 : A6) : FVec Ideal S2x68x16x64x64 .f32 := subf (P51 x0 x1 x3 x5 x6) (P52 x0 x1 x3 x5 x6)
def P54 (x0 : A0) (x1 : A1) (x3 : A3) (x5 : A5) (x6 : A6) : FVec Ideal S2x68x16x64x64 .f32 := Host.exp (P53 x0 x1 x3 x5 x6)
def P55 (x0 : A0) (x1 : A1) (x3 : A3) (x5 : A5) (x6 : A6) : FVec Ideal S1x68x16x64x64 .f32 := broadcastInDim S1x68x16x64x64 ![1, 2, 3, 4] bcast_S68x16x64x64_S1x68x16x64x64_1_2_3_4 (P43 x0 x1 x3 x5 x6)
def P56 (x0 : A0) (x1 : A1) (x3 : A3) (x5 : A5) (x6 : A6) : FVec Ideal S2x68x16x64x64 .f32 := broadcastInDim S2x68x16x64x64 ![0, 1, 2, 3, 4] bcast_S1x68x16x64x64_S2x68x16x64x64_0_1_2_3_4 (P55 x0 x1 x3 x5 x6)
def P57 (x0 : A0) (x1 : A1) (x3 : A3) (x5 : A5) (x6 : A6) : FVec Ideal S2x68x16x64x64 .f32 := mulf (P54 x0 x1 x3 x5 x6) (P56 x0 x1 x3 x5 x6)
def P58 (x0 : A0) (x1 : A1) (x3 : A3) (x5 : A5) (x6 : A6) : FVec Ideal S2x68x16x64 .f32 := (transpose S2x68x16x64 [0, 1, 3, 2] · transposes_S2x68x64x16_S2x68x16x64_0_1_3_2) (P37 x0 x1 x3 x5 x6)
def P59 (x0 : A0) (x1 : A1) (x3 : A3) (x5 : A5) (x6 : A6) : FVec Ideal S2x68x16x64x1 .f32 := broadcastInDim S2x68x16x64x1 ![0, 1, 2, 3] bcast_S2x68x16x64_S2x68x16x64x1_0_1_2_3 (P58 x0 x1 x3 x5 x6)
def P60 (x0 : A0) (x1 : A1) (x3 : A3) (x5 : A5) (x6 : A6) : FVec Ideal S2x68x16x64x64 .f32 := broadcastInDim S2x68x16x64x64 ![0, 1, 2, 3, 4] bcast_S2x68x16x64x1_S2x68x16x64x64_0_1_2_3_4 (P59 x0 x1 x3 x5 x6)
def P61 (x0 : A0) (x1 : A1) (x3 : A3) (x5 : A5) (x6 : A6) : FVec Ideal S2x68x16x64x64 .f32 := mulf (P57 x0 x1 x3 x5 x6) (P60 x0 x1 x3 x5 x6)
def P62 (x0 : A0) (x1 : A1) (x3 : A3) (x5 : A5) (x6 : A6) : FVec Ideal S2x68x16x64x64 .f32 := fn_where_0 (F := Ideal) (P48 x0 x1 x3 x5 x6) (P61 x0 x1 x3 x5 x6) (constant S_ .f32 0x00000000#32)
def P63 (x0 : A0) (x1 : A1) (x3 : A3) (x5 : A5) (x6 : A6) : IVec S64x64 1 := cmpi .eq (P24 x0 x1 x3 x5 x6) (P25 x0 x1 x3 x5 x6)
def P64 (x0 : A0) (x1 : A1) (x3 : A3) (x5 : A5) (x6 : A6) : FVec Ideal S64x64 .f32 := fn_where_1 (F := Ideal) (P63 x0 x1 x3 x5 x6) (constant S_ .f32 0x3F800000#32) (constant S_ .f32 0x00000000#32)
def P65 (x0 : A0) (x1 : A1) (x3 : A3) (x5 : A5) (x6 : A6) : FVec Ideal S1x64x16x64x64 .f32 := (extractStridedSlice S1x64x16x64x64 ![0, 4, 0, 0, 0] · slices_S2x68x16x64x64_S1x64x16x64x64_0_4_0_0_0) x3
def P66 (x0 : A0) (x1 : A1) (x3 : A3) (x5 : A5) (x6 : A6) : FVec Ideal S64x16x64x64 .f32 := shapeCast S64x16x64x64 (P65 x0 x1 x3 x5 x6) shapeCasts_S1x64x16x64x64_S64x16x64x64
def P67 (x0 : A0) (x1 : A1) (x3 : A3) (x5 : A5) (x6 : A6) : FVec Ideal S1x4x16x64x64 .f32 := (extractStridedSlice S1x4x16x64x64 ![0, 0, 0, 0, 0] · slices_S2x68x16x64x64_S1x4x16x64x64_0_0_0_0_0) x3
def P68 (x0 : A0) (x1 : A1) (x3 : A3) (x5 : A5) (x6 : A6) : FVec Ideal S4x16x64x64 .f32 := shapeCast S4x16x64x64 (P67 x0 x1 x3 x5 x6) shapeCasts_S1x4x16x64x64_S4x16x64x64
def P69 (x0 : A0) (x1 : A1) (x3 : A3) (x5 : A5) (x6 : A6) : FVec Ideal S68x16x64x64 .f32 := (fun a b => concatenate S68x16x64x64 0 [⟨S64x16x64x64, a⟩, ⟨S4x16x64x64, b⟩] concatenates_S64x16x64x64_S4x16x64x64_S68x16x64x64_d0) (P66 x0 x1 x3 x5 x6) (P68 x0 x1 x3 x5 x6)
def P70 (x0 : A0) (x1 : A1) (x3 : A3) (x5 : A5) (x6 : A6) : FVec Ideal S1x68x16x64x64 .f32 := (extractStridedSlice S1x68x16x64x64 ![1, 0, 0, 0, 0] · slices_S2x68x16x64x64_S1x68x16x64x64_1_0_0_0_0) x3
def P71 (x0 : A0) (x1 : A1) (x3 : A3) (x5 : A5) (x6 : A6) : FVec Ideal S1x68x16x64x64 .f32 := Host.reverse [1] (P70 x0 x1 x3 x5 x6)
def P72 (x0 : A0) (x1 : A1) (x3 : A3) (x5 : A5) (x6 : A6) : FVec Ideal S68x16x64x64 .f32 := shapeCast S68x16x64x64 (P71 x0 x1 x3 x5 x6) shapeCasts_S1x68x16x64x64_S68x16x64x64
def P73 (x0 : A0) (x1 : A1) (x3 : A3) (x5 : A5) (x6 : A6) : FVec Ideal S1x68x16x64x64 .f32 := broadcastInDim S1x68x16x64x64 ![1, 2, 3, 4] bcast_S68x16x64x64_S1x68x16x64x64_1_2_3_4 (P69 x0 x1 x3 x5 x6)
def P74 (x0 : A0) (x1 : A1) (x3 : A3) (x5 : A5) (x6 : A6) : FVec Ideal S1x68x16x64x64 .f32 := broadcastInDim S1x68x16x64x64 ![1, 2, 3, 4] bcast_S68x16x64x64_S1x68x16x64x64_1_2_3_4 (P72 x0 x1 x3 x5 x6)
def P75 (x0 : A0) (x1 : A1) (x3 : A3) (x5 : A5) (x6 : A6) : FVec Ideal S2x68x16x64x64 .f32 := (fun a b => concatenate S2x68x16x64x64 0 [⟨S1x68x16x64x64, a⟩, ⟨S1x68x16x64x64, b⟩] concatenates_S1x68x16x64x64_S1x68x16x64x64_S2x68x16x64x64_d0) (P73 x0 x1 x3 x5 x6) (P74 x0 x1 x3 x5 x6)
def P76 (x0 : A0) (x1 : A1) (x3 : A3) (x5 : A5) (x6 : A6) : FVec Ideal S2x68x16x64x64 .f32 := (fun l r => Host.dotGeneral dot_S2x68x16x64x64_S2x68x16x64x64_S2x68x16x64x64_4_3_3_4_012_012 none l r) (P75 x0 x1 x3 x5 x6) (P62 x0 x1 x3 x5 x6)
def P77 (x0 : A0) (x1 : A1) (x3 : A3) (x5 : A5) (x6 : A6) : FVec Ideal S2x68x16x64x64 .f32 := addf (P75 x0 x1 x3 x5 x6) (P76 x0 x1 x3 x5 x6)
def P78 (x0 : A0) (x1 : A1) (x3 : A3) (x5 : A5) (x6 : A6) : FVec Ideal S64x64 .f32 := id (P64 x0 x1 x3 x5 x6)
def P79 (x0 : A0) (x1 : A1) (x3 : A3) (x5 : A5) (x6 : A6) : FVec Ideal S1x1x1x64x64 .f32 := broadcastInDim S1x1x1x64x64 ![3, 4] bcast_S64x64_S1x1x1x64x64_3_4 (P78 x0 x1 x3 x5 x6)
def P80 (x0 : A0) (x1 : A1) (x3 : A3) (x5 : A5) (x6 : A6) : FVec Ideal S2x68x16x64x64 .f32 := broadcastInDim S2x68x16x64x64 ![0, 1, 2, 3, 4] bcast_S1x1x1x64x64_S2x68x16x64x64_0_1_2_3_4 (P79 x0 x1 x3 x5 x6)
def P81 (x0 : A0) (x1 : A1) (x3 : A3) (x5 : A5) (x6 : A6) : IVec S2x68x16x64x64 1 := cmpf .oeq (P77 x0 x1 x3 x5 x6) (P80 x0 x1 x3 x5 x6)
def P82 (x0 : A0) (x1 : A1) (x3 : A3) (x5 : A5) (x6 : A6) : IVec S_ 1 := (fun x v => Host.reduce IntOp.andi x v reducesTo_S2x68x16x64x64_S_d0_1_2_3_4 h_S_) (P81 x0 x1 x3 x5 x6) (constantI S_ 1 1#1)
def P83 (x0 : A0) (x1 : A1) (x3 : A3) (x5 : A5) (x6 : A6) : FVec Ideal S1x16x68x64x128 .f32 := broadcastInDim S1x16x68x64x128 ![1, 2, 3, 4] bcast_S16x68x64x128_S1x16x68x64x128_1_2_3_4 (P33 x0 x1 x3 x5 x6)
def P84 (x0 : A0) (x1 : A1) (x3 : A3) (x5 : A5) (x6 : A6) : FVec Ideal S2x68x64x16 .f32 := (transpose S2x68x64x16 [0, 1, 3, 2] · transposes_S2x68x16x64_S2x68x64x16_0_1_3_2) (P42 x0 x1 x3 x5 x6)
def P85 (x0 : A0) (x1 : A1) (x3 : A3) (x5 : A5) (x6 : A6) : FVec Ideal S2x68x64x16 .f32 := Host.exp (P84 x0 x1 x3 x5 x6)
def P86 (x0 : A0) (x1 : A1) (x3 : A3) (x5 : A5) (x6 : A6) : FVec Ideal S2x68x64x16 .f32 := mulf (P37 x0 x1 x3 x5 x6) (P85 x0 x1 x3 x5 x6)
def P87 (x0 : A0) (x1 : A1) (x3 : A3) (x5 : A5) (x6 : A6) : FVec Ideal S2x16x68x64 .f32 := (transpose S2x16x68x64 [0, 3, 1, 2] · transposes_S2x68x64x16_S2x16x68x64_0_3_1_2) (P86 x0 x1 x3 x5 x6)
def P88 (x0 : A0) (x1 : A1) (x3 : A3) (x5 : A5) (x6 : A6) : FVec Ideal S2x16x68x64x1 .f32 := broadcastInDim S2x16x68x64x1 ![0, 1, 2, 3] bcast_S2x16x68x64_S2x16x68x64x1_0_1_2_3 (P87 x0 x1 x3 x5 x6)
def P89 (x0 : A0) (x1 : A1) (x3 : A3) (x5 : A5) (x6 : A6) : FVec Ideal S2x16x68x64x128 .f32 := broadcastInDim S2x16x68x64x128 ![0, 1, 2, 3, 4] bcast_S1x16x68x64x128_S2x16x68x64x128_0_1_2_3_4 (P83 x0 x1 x3 x5 x6)
def P90 (x0 : A0) (x1 : A1) (x3 : A3) (x5 : A5) (x6 : A6) : FVec Ideal S2x16x68x64x128 .f32 := broadcastInDim S2x16x68x64x128 ![0, 1, 2, 3, 4] bcast_S2x16x68x64x1_S2x16x68x64x128_0_1_2_3_4 (P88 x0 x1 x3 x5 x6)
def P91 (x0 : A0) (x1 : A1) (x3 : A3) (x5 : A5) (x6 : A6) : FVec Ideal S2x16x68x64x128 .f32 := mulf (P89 x0 x1 x3 x5 x6) (P90 x0 x1 x3 x5 x6)
def P92 (x0 : A0) (x1 : A1) (x3 : A3) (x5 : A5) (x6 : A6) : FVec Ideal S2x16x68x64x128 .f32 := shapeCast S2x16x68x64x128 x5 shapeCasts_S2x16x4352x128_S2x16x68x64x128
def P93 (x0 : A0) (x1 : A1) (x3 : A3) (x5 : A5) (x6 : A6) : FVec Ideal S2x16x68x64x128 .f32 := (fun l r => Host.dotGeneral dot_S2x68x16x64x64_S2x16x68x64x128_S2x16x68x64x128_4_3_3_4_021_012 none l r) (P75 x0 x1 x3 x5 x6) (P91 x0 x1 x3 x5 x6)
def P94 (x0 : A0) (x1 : A1) (x3 : A3) (x5 : A5) (x6 : A6) : IVec S2x16x68x64x128 1 := cmpf .oeq (P92 x0 x1 x3 x5 x6) (P93 x0 x1 x3 x5 x6)
def P95 (x0 : A0) (x1 : A1) (x3 : A3) (x5 : A5) (x6 : A6) : IVec S_ 1 := (fun x v => Host.reduce IntOp.andi x v reducesTo_S2x16x68x64x128_S_d0_1_2_3_4 h_S_) (P94 x0 x1 x3 x5 x6) (constantI S_ 1 1#1)
def P96 (x0 : A0) (x1 : A1) (x3 : A3) (x5 : A5) (x6 : A6) : IVec S_ 1 := andi (P23 x0 x1 x3 x5 x6) (P82 x0 x1 x3 x5 x6)
def P97 (x0 : A0) (x1 : A1) (x3 : A3) (x5 : A5) (x6 : A6) : IVec S_ 1 := andi (P96 x0 x1 x3 x5 x6) (P95 x0 x1 x3 x5 x6)

variable (x0 : A0) (x1 : A1) (x3 : A3) (x5 : A5) (x6 : A6)

theorem fn_eq (x2 : FVec Ideal S2x68x16x128x128 .f32) (x4 : FVec Ideal S2x16x4352x128 .f32) :
    fn (F := Ideal) x0 x1 x2 x3 x4 x5 x6 = P97 x0 x1 x3 x5 x6 := rfl

instance : Subsingleton S_.Idx := ⟨fun a b => funext fun k => k.elim0⟩

theorem bits (x2 : FVec Ideal S2x68x16x128x128 .f32) (x4 : FVec Ideal S2x16x4352x128 .f32) (h : fn (F := Ideal) x0 x1 x2 x3 x4 x5 x6 = fun _ => 1#1) :
    (∀ i, P2 x0 x1 x3 x5 x6 i = 1#1) ∧ (∀ i, P6 x0 x1 x3 x5 x6 i = 1#1) ∧ (∀ i, P11 x0 x1 x3 x5 x6 i = 1#1) ∧ (∀ i, P16 x0 x1 x3 x5 x6 i = 1#1)
    ∧ (∀ i, P21 x0 x1 x3 x5 x6 i = 1#1) ∧ (∀ i, P81 x0 x1 x3 x5 x6 i = 1#1) ∧ (∀ i, P94 x0 x1 x3 x5 x6 i = 1#1) := by
  have two : ∀ a b : BitVec 1, a &&& b = 1#1 → a = 1#1 ∧ b = 1#1 := by decide
  have e := congrFun ((fn_eq x0 x1 x3 x5 x6 x2 x4).symm.trans h) (Shape.Idx.first h_S_)
  obtain ⟨e, h95⟩ := two _ _ e
  obtain ⟨e, h82⟩ := two _ _ e
  obtain ⟨e, h22⟩ := two _ _ e
  obtain ⟨e, h17⟩ := two _ _ e
  obtain ⟨e, h12⟩ := two _ _ e
  obtain ⟨h3, h7⟩ := two _ _ e
  exact ⟨Host.reduce_andi_all (P2 x0 x1 x3 x5 x6) (constantI S_ 1 1#1) reducesTo_S3x16x4352x128_S_d0_1_2_3 h_S_ (Shape.Idx.first h_S_) h3,
    Host.reduce_andi_all (P6 x0 x1 x3 x5 x6) (constantI S_ 1 1#1) reducesTo_S2x4352x128_S_d0_1_2 h_S_ (Shape.Idx.first h_S_) h7,
    Host.reduce_andi_all (P11 x0 x1 x3 x5 x6) (constantI S_ 1 1#1) reducesTo_S2x68x16x64x64_S_d0_1_2_3_4 h_S_ (Shape.Idx.first h_S_) h12,
    Host.reduce_andi_all (P16 x0 x1 x3 x5 x6) (constantI S_ 1 1#1) reducesTo_S2x16x4352x128_S_d0_1_2_3 h_S_ (Shape.Idx.first h_S_) h17,
    Host.reduce_andi_all (P21 x0 x1 x3 x5 x6) (constantI S_ 1 1#1) reducesTo_S16x4096x128_S_d0_1_2 h_S_ (Shape.Idx.first h_S_) h22,
    Host.reduce_andi_all (P81 x0 x1 x3 x5 x6) (constantI S_ 1 1#1) reducesTo_S2x68x16x64x64_S_d0_1_2_3_4 h_S_ (Shape.Idx.first h_S_) h82,
    Host.reduce_andi_all (P94 x0 x1 x3 x5 x6) (constantI S_ 1 1#1) reducesTo_S2x16x68x64x128_S_d0_1_2_3_4 h_S_ (Shape.Idx.first h_S_) h95⟩

/-- A number whose absolute value is below infinity is real. -/
theorem fin_of (x : EReal) (h : Ideal.cmp .olt (max x (-x)) (FloatOps.ofBits (F := Ideal) .f32 0x7F800000#32) = 1#1) :
    ((x.toReal : ℝ) : EReal) = x := by
  have htop : (FloatOps.ofBits (F := Ideal) .f32 0x7F800000#32 : EReal) = ⊤ := by
    show Ideal.ofBits .f32 0x7F800000#32 = ⊤
    simp [Ideal.ofBits, Ideal.ieee]
  rw [htop] at h
  have h1 : max x (-x) < ⊤ := of_decide_eq_true (Bool.eq_true_of_not_eq_false fun e => by
    rw [show Ideal.cmp .olt (max x (-x)) ⊤ = BitVec.ofBool (decide (max x (-x) < ⊤)) from rfl, e] at h
    exact absurd h (by decide))
  have h2 := max_lt_iff.mp h1
  refine EReal.coe_toReal h2.1.ne fun e => ?_
  rw [e] at h2
  exact absurd h2.2 (by simp)

theorem fin0 (i) (h : P2 x0 x1 x3 x5 x6 i = 1#1) : (((x0 i : EReal).toReal : ℝ) : EReal) = x0 i := fin_of (x0 i) h
theorem fin1 (i) (h : P6 x0 x1 x3 x5 x6 i = 1#1) : (((x1 i : EReal).toReal : ℝ) : EReal) = x1 i := fin_of (x1 i) h
theorem fin3 (i) (h : P11 x0 x1 x3 x5 x6 i = 1#1) : (((x3 i : EReal).toReal : ℝ) : EReal) = x3 i := fin_of (x3 i) h
theorem fin5 (i) (h : P16 x0 x1 x3 x5 x6 i = 1#1) : (((x5 i : EReal).toReal : ℝ) : EReal) = x5 i := fin_of (x5 i) h
theorem fin6 (i) (h : P21 x0 x1 x3 x5 x6 i = 1#1) : (((x6 i : EReal).toReal : ℝ) : EReal) = x6 i := fin_of (x6 i) h

/-- The arguments as real numbers. -/
def arr : Arr where
  A p h r a := (x0 (ix4 p h r a) : EReal).toReal
  G d r l := (x1 (ix3 d r l) : EReal).toReal
  T d n h i j := (x3 (ix5 d n h i j) : EReal).toReal
  W d h r a := (x5 (ix4 d h r a) : EReal).toReal
  O h r v := (x6 (ix3 h r v) : EReal).toReal

end Cert.Pre_saved.Read

end
-- ==== Proof.GdnPreAt.lean ====
/-
  Hand-written, untrusted. The precondition's arrays at an index: the saved matrices and keys are what the chunked rule
  takes them to be.
-/
module

public import proofs.«01_k».proof.Proof.GdnPre
public import Idealize.ShloMosaic.Lib.WordCmp
public import Idealize.ShloMosaic.Lib.IdealHost

@[expose] public section

set_option maxRecDepth 200000

noncomputable section

namespace Cert.Pre_saved.Read

open Cert.Pre_saved Cert.Gdn Idealize.ShloMosaic
open Cert.GdnBwdIdeal.Pay (lane blane coe_sum pos)

variable [Cert.Pre_saved.Facts]
open Cert.Pre_saved.Facts

variable (x0 : A0) (x1 : A1) (x3 : A3) (x5 : A5) (x6 : A6)

theorem dir (d : Fin 2) : d = 0 ∨ d = 1 := by
  revert d
  decide

theorem le_pos (d : Fin 2) (i j : Fin 64) : pos d i ≤ pos d j ↔ if d = 0 then j ≤ i else i ≤ j := by
  rcases dir d with rfl | rfl
  · exact Fin.rev_le_rev
  · exact Iff.rfl

/-- Row i of chunk c. -/
def rw' (c : Fin 68) (i : Fin 64) : Fin 4352 := ⟨64 * c.val + i.val, by omega⟩

theorem bit_if (p : Prop) [Decidable p] : BitVec.ofBool (decide p) = if p then 1#1 else 0#1 := by
  by_cases h : p <;> simp [h]

theorem sel_if {α : Type} (p : Prop) [Decidable p] (x y : α) : Scalar.select (if p then 1#1 else 0#1) x y = if p then x else y := by
  by_cases h : p
  · rw [if_pos h, if_pos h]; exact if_pos rfl
  · rw [if_neg h, if_neg h]; exact if_neg (by decide)

theorem p30 (d : Fin 2) (i j : Fin 64) : P30 x0 x1 x3 x5 x6 (ix3 d i j) = if pos d i ≤ pos d j then 1#1 else 0#1 := by
  unfold P30 P29 P28 P27 P26 P25 P24
  pointwise
  rcases dir d with rfl | rfl
  · refine (dif_pos (show (0 : Fin 2).val < 1 by decide)).trans ?_
    rw [WordCmp.cmpi_sle_ofNat (by omega) (by omega), bit_if]
    exact if_congr (le_pos 0 i j).symm rfl rfl
  · refine (dif_neg (by decide)).trans ?_
    rw [WordCmp.cmpi_sge_ofNat (by omega) (by omega), bit_if]
    exact if_congr (le_pos 1 i j).symm rfl rfl

theorem p33 (h : Fin 16) (c : Fin 68) (i : Fin 64) (a : Fin 128) : P33 x0 x1 x3 x5 x6 (ix4 h c i a) = x0 (ix4 1 h (rw' c i) a) := by
  unfold P33 P32 P31
  pointwise
  exact congrArg (fun r => x0 (ix4 1 h r a)) (Fin.ext (by show c.val * 64 + i.val = 64 * c.val + i.val; omega))

theorem p35 (d : Fin 2) (c : Fin 68) (i : Fin 64) (h : Fin 16) : P35 x0 x1 x3 x5 x6 (ix4 d c i h) = x1 (ix3 d (rw' c i) (lane h)) := by
  unfold P35 P34
  pointwise
  exact congrArg (fun r => x1 (ix3 d r (lane h))) (Fin.ext (by show c.val * 64 + i.val = 64 * c.val + i.val; omega))

theorem p37 (d : Fin 2) (c : Fin 68) (i : Fin 64) (h : Fin 16) : P37 x0 x1 x3 x5 x6 (ix4 d c i h) = x1 (ix3 d (rw' c i) (blane h)) := by
  unfold P37 P36
  pointwise
  exact congrArg (fun r => x1 (ix3 d r (blane h))) (Fin.ext (by show c.val * 64 + i.val = 64 * c.val + i.val; omega))

theorem zero_at {i : S_.Idx} : (constant (F := Ideal) S_ .f32 0#32 i : EReal) = 0 := by
  show Ideal.ofBits .f32 0#32 = 0
  simp [Ideal.ofBits, Ideal.ieee]

theorem one_at {i : S_.Idx} : (constant (F := Ideal) S_ .f32 1065353216#32 i : EReal) = 1 := by
  exact Ideal.ofBits_one_f32

theorem ne_pos (d : Fin 2) (i j : Fin 64) : IntOp.andi (if pos d i ≤ pos d j then 1#1 else 0#1)
    (IntOp.cmpi .ne (BitVec.ofNat 32 i.val) (BitVec.ofNat 32 j.val)) = if pos d i < pos d j then 1#1 else 0#1 := by
  have e : IntOp.cmpi .ne (BitVec.ofNat 32 i.val) (BitVec.ofNat 32 j.val) = if i ≠ j then 1#1 else 0#1 := by
    by_cases h : i = j
    · subst h
      rw [if_neg (by simp)]
      simp [IntOp.cmpi]
    · rw [if_pos h]
      refine IntOp.cmpi_ne.mpr fun e => h (Fin.ext ?_)
      have := congrArg BitVec.toNat e
      rwa [BitVec.toNat_ofNat, BitVec.toNat_ofNat, Nat.mod_eq_of_lt (by omega), Nat.mod_eq_of_lt (by omega)] at this
  rw [e]
  by_cases h : i = j
  · subst h
    rw [if_pos le_rfl, if_neg (by simp), if_neg (lt_irrefl _)]
    rfl
  · have h' : pos d i ≠ pos d j := fun e => h ((pos d).injective e)
    rw [if_pos h]
    by_cases hl : pos d i ≤ pos d j
    · rw [if_pos hl, if_pos (lt_of_le_of_ne hl h')]; rfl
    · rw [if_neg hl, if_neg fun h => hl h.le]; rfl

theorem p42 (d : Fin 2) (c : Fin 68) (h : Fin 16) (i : Fin 64) : (P42 x0 x1 x3 x5 x6 (ix4 d c h i) : EReal)
    = ∑ j, if pos d i ≤ pos d j then P35 x0 x1 x3 x5 x6 (ix4 d c j h) else 0 := by
  unfold P42 P41 P40 P39 P38 fn_where
  pointwise [p30 x0 x1 x3 x5 x6]
  refine Finset.sum_congr rfl fun j _ => (sel_if _ _ _).trans (congrArg _ zero_at)

theorem p43 (c : Fin 68) (h : Fin 16) (i j : Fin 64) : (P43 x0 x1 x3 x5 x6 (ix4 c h i j) : EReal)
    = ∑ a, P33 x0 x1 x3 x5 x6 (ix4 h c i a) * P33 x0 x1 x3 x5 x6 (ix4 h c j a) := by
  unfold P43
  pointwise

theorem p62 (d : Fin 2) (c : Fin 68) (h : Fin 16) (i j : Fin 64) : (P62 x0 x1 x3 x5 x6 (ix5 d c h i j) : EReal)
    = if pos d i < pos d j then Ideal.exp (P42 x0 x1 x3 x5 x6 (ix4 d c h i) - P42 x0 x1 x3 x5 x6 (ix4 d c h j))
        * P43 x0 x1 x3 x5 x6 (ix4 c h i j) * P37 x0 x1 x3 x5 x6 (ix4 d c i h) else 0 := by
  unfold P62 P61 P60 P59 P58 P57 P56 P55 P54 P53 P52 P51 P50 P49 P48 P47 P46 P45 P44 P24 P25 fn_where_0
  pointwise [p30 x0 x1 x3 x5 x6]
  rw [ne_pos d, sel_if]
  exact congrArg _ zero_at

theorem p75 (d : Fin 2) (n : Fin 68) (h : Fin 16) (i j : Fin 64) : P75 x0 x1 x3 x5 x6 (ix5 d (rc d n) h i j) = x3 (ix5 d n.rev h i j) := by
  unfold P75 P74 P73 P72 P71 P70 P69 P68 P67 P66 P65
  pointwise
  have e1 : n.rev.val = 67 - n.val := by rw [Fin.val_rev]; omega
  rcases dir d with rfl | rfl
  · refine (dif_pos (show (0 : Fin 2).val < 1 by decide)).trans ?_
    have e2 : (rc 0 n).val = if n.val < 64 then 63 - n.val else 131 - n.val := rfl
    by_cases hn : (rc 0 n).val < 64
    · refine (dif_pos hn).trans (congrArg (fun r => x3 (ix5 0 r h i j)) (Fin.ext ?_))
      show 4 + (rc 0 n).val = n.rev.val
      split at e2 <;> omega
    · refine (dif_neg hn).trans (congrArg (fun r => x3 (ix5 0 r h i j)) (Fin.ext ?_))
      show (rc 0 n).val - 64 = n.rev.val
      split at e2 <;> omega
  · exact dif_neg (by decide)

theorem p77 (d : Fin 2) (c : Fin 68) (h : Fin 16) (i j : Fin 64) : (P77 x0 x1 x3 x5 x6 (ix5 d c h i j) : EReal)
    = P75 x0 x1 x3 x5 x6 (ix5 d c h i j) + ∑ l, P75 x0 x1 x3 x5 x6 (ix5 d c h i l) * P62 x0 x1 x3 x5 x6 (ix5 d c h l j) := by
  unfold P77 P76
  pointwise

theorem p80 (d : Fin 2) (c : Fin 68) (h : Fin 16) (i j : Fin 64) : (P80 x0 x1 x3 x5 x6 (ix5 d c h i j) : EReal) = if i = j then 1 else 0 := by
  unfold P80 P79 P78 P64 P63 P24 P25 fn_where_1
  pointwise
  show Scalar.select (IntOp.cmpi .eq (BitVec.ofNat 32 i.val) (BitVec.ofNat 32 j.val)) (constant (F := Ideal) S_ .f32 1065353216#32 _)
    (constant (F := Ideal) S_ .f32 0#32 _) = _
  rw [WordCmp.cmpi_eq_eq_toNat, BitVec.toNat_ofNat, BitVec.toNat_ofNat, Nat.mod_eq_of_lt (by omega), Nat.mod_eq_of_lt (by omega), bit_if, sel_if]
  refine (if_congr Fin.ext_iff.symm rfl rfl).trans ?_
  exact congrArg₂ (fun a b => if i = j then a else b) one_at zero_at

theorem p91 (d : Fin 2) (h : Fin 16) (c : Fin 68) (i : Fin 64) (a : Fin 128) : (P91 x0 x1 x3 x5 x6 (ix5 d h c i a) : EReal)
    = P33 x0 x1 x3 x5 x6 (ix4 h c i a) * (P37 x0 x1 x3 x5 x6 (ix4 d c i h) * Ideal.exp (P42 x0 x1 x3 x5 x6 (ix4 d c h i))) := by
  unfold P91 P90 P89 P88 P87 P86 P85 P84 P83
  pointwise

theorem p92 (d : Fin 2) (h : Fin 16) (c : Fin 68) (i : Fin 64) (a : Fin 128) : P92 x0 x1 x3 x5 x6 (ix5 d h c i a) = x5 (ix4 d h (rw' c i) a) := by
  unfold P92
  pointwise
  exact congrArg (fun r => x5 (ix4 d h r a)) (Fin.ext (by show c.val * 64 + i.val = 64 * c.val + i.val; omega))

theorem p93 (d : Fin 2) (h : Fin 16) (c : Fin 68) (i : Fin 64) (a : Fin 128) : (P93 x0 x1 x3 x5 x6 (ix5 d h c i a) : EReal)
    = ∑ j, P75 x0 x1 x3 x5 x6 (ix5 d c h i j) * P91 x0 x1 x3 x5 x6 (ix5 d h c j a) := by
  unfold P93
  pointwise

section Values

variable {x0 x1 x3 x5 x6}
variable (b2 : ∀ i, P2 x0 x1 x3 x5 x6 i = 1#1) (b6 : ∀ i, P6 x0 x1 x3 x5 x6 i = 1#1) (b11 : ∀ i, P11 x0 x1 x3 x5 x6 i = 1#1)
  (b16 : ∀ i, P16 x0 x1 x3 x5 x6 i = 1#1) (b21 : ∀ i, P21 x0 x1 x3 x5 x6 i = 1#1)
include b2 b6 b11 b16 b21

theorem real : Real (arr x0 x1 x3 x5 x6) x0 x1 x3 x5 x6 where
  a0 p h r a := (fin0 _ _ _ _ _ _ (b2 _)).symm
  a1 d r l := (fin1 _ _ _ _ _ _ (b6 _)).symm
  a3 d n h i j := (fin3 _ _ _ _ _ _ (b11 _)).symm
  a5 d h r a := (fin5 _ _ _ _ _ _ (b16 _)).symm
  a6 h r v := (fin6 _ _ _ _ _ _ (b21 _)).symm

omit b2 b6 b11 b16 b21 in
theorem of_oeq {x y : EReal} (h : Ideal.cmp .oeq x y = 1#1) : x = y := by
  by_contra e
  rw [show Ideal.cmp .oeq x y = BitVec.ofBool (decide (x = y)) from rfl, decide_eq_false e] at h
  exact absurd h (by decide)

omit b2 b6 b11 b16 b21 in
theorem sum_if {M : Arr} (R : Real M x0 x1 x3 x5 x6) (d : Fin 2) (n : Fin 68) (h : Fin 16) (i : Fin 64) :
    (P42 x0 x1 x3 x5 x6 (ix4 d (rc d n) h i) : EReal) = ((Gc (pos d) (fun i => M.G d (crow d n i) (lane h)) i : ℝ) : EReal) := by
  rw [p42, Gc, ← coe_sum]
  refine Finset.sum_congr rfl fun j _ => ?_
  rw [p35, R.a1]
  split <;> rfl

omit b2 b6 b11 b16 b21 in
theorem saved {M : Arr} (R : Real M x0 x1 x3 x5 x6) (b81 : ∀ i, P81 x0 x1 x3 x5 x6 i = 1#1) (b94 : ∀ i, P94 x0 x1 x3 x5 x6 i = 1#1) : M.Saved where
  hT d n h i j := by
    have e : (P77 x0 x1 x3 x5 x6 (ix5 d (rc d n) h i j) : EReal) = P80 x0 x1 x3 x5 x6 (ix5 d (rc d n) h i j) := of_oeq (b81 _)
    have hA : ∀ l, (P62 x0 x1 x3 x5 x6 (ix5 d (rc d n) h l j) : EReal) = ((Am (pos d) (fun i => M.A 1 h (crow d n i))
      (fun i => M.G d (crow d n i) (lane h)) (fun i => M.G d (crow d n i) (blane h)) l j : ℝ) : EReal) := by
      intro l
      rw [p62, Am]
      split
      · rw [sum_if R, sum_if R, p37, p43, R.a1, ← EReal.coe_sub, Ideal.exp_coe]
        simp only [p33, R.a0, ← EReal.coe_mul, coe_sum]
        refine congrArg _ ?_
        rw [Finset.sum_mul, Finset.mul_sum, Finset.sum_mul]
        refine Finset.sum_congr rfl fun a _ => ?_
        show _ * (M.A 1 h (crow d n l) a * M.A 1 h (crow d n j) a) * M.G d (crow d n l) (blane h) = _
        ring
      · rfl
    rw [p77, p80] at e
    simp only [p75, R.a3, hA, ← EReal.coe_mul, coe_sum, ← EReal.coe_add] at e
    have e' : ((if i = j then 1 else 0 : EReal)) = ((if i = j then 1 else 0 : ℝ) : EReal) := by split <;> rfl
    rw [e'] at e
    exact EReal.coe_injective e
  hW d n h i a := by
    have e : (P92 x0 x1 x3 x5 x6 (ix5 d h (rc d n) i a) : EReal) = P93 x0 x1 x3 x5 x6 (ix5 d h (rc d n) i a) := of_oeq (b94 _)
    rw [p92, p93] at e
    simp only [p75, p91, R.a3, R.a5, p33, p37, R.a0, R.a1, sum_if R, Ideal.exp_coe, ← EReal.coe_mul, coe_sum] at e
    exact EReal.coe_injective e

end Values

end Cert.Pre_saved.Read

end
-- ==== Proof.GdnDv.lean ====
/-
  Hand-written, untrusted. The kernel's gradient of v is the plain reference's.
-/
module

public import proofs.«01_k».proof.Defs
public import proofs.«01_k».proof.Proof.GdnOut
public import proofs.«01_k».proof.Proof.GdnIter
public import proofs.«01_k».proof.Proof.GdnPreAt
public import proofs.«01_k».proof.Proof.Gen.GdnBwdIdeal.Value

@[expose] public section

set_option maxRecDepth 16384

noncomputable section

namespace Cert.GdnDv

open Cert.Gdn Idealize.ShloMosaic Idealize.ShloMosaic.TcCoe Idealize.SL.Sem

/-- The plain reference's result, where it holds the gradient of v. -/
theorem reference {M : Arr} {x0 : FVec Ideal ⟨4, ![3, 16, 4352, 128]⟩ .f32} {x1 : FVec Ideal ⟨3, ![2, 4352, 128]⟩ .f32}
    {x3 : FVec Ideal ⟨5, ![2, 68, 16, 64, 64]⟩ .f32} {x5 : FVec Ideal ⟨4, ![2, 16, 4352, 128]⟩ .f32} {x6 : FVec Ideal ⟨3, ![16, 4096, 128]⟩ .f32}
    (R : Real M x0 x1 x3 x5 x6) (it : ℕ → Cert.GdnDvRefIdeal.Step.State Ideal) (h0 : it 0 = Cert.GdnDvRefIdeal.Step.init x0 x1 x6)
    (hs : ∀ n, it (n + 1) = Cert.GdnDvRefIdeal.Step.step n (it n)) (d : Fin 2) (h : Fin 16) (r : Fin 4352) (v : Fin 128) :
    (Cert.GdnDvRefIdeal.Step.R_main_v83 (it 4352) (ix5 d 2 h r v) : EReal) = ((M.dv d h (row d r) v : ℝ) : EReal) := by
  have I := Cert.GdnDvRefIdeal.RefValue.inv_all R it h0 hs 4352 le_rfl
  have e := Cert.GdnDvRefIdeal.RefValue.res (it 4352) (row d r) d h v
  rw [Cert.GdnDvRefIdeal.RefValue.row_row] at e
  exact e.trans (I.out (row d r) d h v (row d r).isLt)

variable [Cert.Pre_saved.Facts] [Cert.On_only_dv.Facts]

/-- Where the mask selects the first result, it is the gradient of v. -/
theorem mask (x0 x1 x2 x3 x4 x5 x6) (i : (⟨5, ![2, 3, 16, 4352, 128]⟩ : Shape).Idx)
    (h : (Cert.On_only_dv.fn (F := Ideal) x0 x1 x2 x3 x4 x5 x6).1 i = 1#1) : ∃ d h r v, i = ix5 d 2 h r v := by
  have h2 : IntOp.cmpi .eq (BitVec.ofNat 32 (i 1).val) 2#32 = 1#1 := h
  have h3 := congrArg BitVec.toNat (IntOp.cmpi_eq.mp h2)
  have h4 : (i 1).val < 3 := (i 1).isLt
  rw [BitVec.toNat_ofNat, Nat.mod_eq_of_lt (by omega)] at h3
  have h5 : i 1 = (2 : Fin 3) := Fin.ext h3
  refine ⟨i 0, i 2, i 3, i 4, ?_⟩
  funext a
  fin_cases a
  · rfl
  · exact h5
  · rfl
  · rfl
  · rfl

theorem nomask (x0 x1 x2 x3 x4 x5 x6) (i : (⟨3, ![2, 4352, 128]⟩ : Shape).Idx)
    (h : (Cert.On_only_dv.fn (F := Ideal) x0 x1 x2 x3 x4 x5 x6).2 i = 1#1) : False := by
  have h2 : (0#1 : BitVec 1) = 1#1 := h
  exact absurd h2 (by decide)

theorem algebraic : Cert.algebraic_GdnBwdIdeal_GdnDvRefIdeal_on_only_dv_pre_saved (hGdnBwdIdeal := Cert.GdnBwdIdeal.Gen.facts)
    (hGdnDvRefIdeal := Cert.GdnDvRefIdeal.Gen.facts) := by
  intro m g m' g' hpre hag
  -- the arguments as real numbers
  have key : ∀ c : Dev Cert.GdnBwdIdeal.nD, ∃ M : Arr, Cert.GdnBwdIdeal.RefValue.RealAt m M c ∧ M.Saved := fun c => by
    obtain ⟨b2, b6, b11, b16, b21, b81, b94⟩ := Cert.Pre_saved.Read.bits _ _ _ _ _ _ _ (hpre c)
    exact ⟨_, Cert.Pre_saved.Read.real b2 b6 b11 b16 b21, Cert.Pre_saved.Read.saved (Cert.Pre_saved.Read.real b2 b6 b11 b16 b21) b81 b94⟩
  let it : Dev Cert.GdnDvRefIdeal.nD → ℕ → Cert.GdnDvRefIdeal.Step.State Ideal := fun c n =>
    Nat.rec (Cert.GdnDvRefIdeal.Iter.initState m' c) (fun n s => Cert.GdnDvRefIdeal.Step.step n s) n
  have same : ∀ (c : Dev Cert.GdnBwdIdeal.nD) (i : (⟨5, ![2, 3, 16, 4352, 128]⟩ : Shape).Idx), (Cert.On_only_dv.fn (F := Ideal)
      (m ((c : Thread Cert.GdnBwdIdeal.nD Cert.GdnBwdIdeal.τ).loc Cert.GdnBwdIdeal.main_arg0)) (m ((c : Thread Cert.GdnBwdIdeal.nD Cert.GdnBwdIdeal.τ).loc Cert.GdnBwdIdeal.main_arg1))
      (m ((c : Thread Cert.GdnBwdIdeal.nD Cert.GdnBwdIdeal.τ).loc Cert.GdnBwdIdeal.main_arg2)) (m ((c : Thread Cert.GdnBwdIdeal.nD Cert.GdnBwdIdeal.τ).loc Cert.GdnBwdIdeal.main_arg3))
      (m ((c : Thread Cert.GdnBwdIdeal.nD Cert.GdnBwdIdeal.τ).loc Cert.GdnBwdIdeal.main_arg4)) (m ((c : Thread Cert.GdnBwdIdeal.nD Cert.GdnBwdIdeal.τ).loc Cert.GdnBwdIdeal.main_arg5))
      (m ((c : Thread Cert.GdnBwdIdeal.nD Cert.GdnBwdIdeal.τ).loc Cert.GdnBwdIdeal.main_arg6))).1 i = 1#1 →
      Cert.GdnDvRefIdeal.Step.R_main_v83 (it c 4352) i = (Cert.GdnBwdIdeal.Gen.dats m 0 c).arrAt 7 Cert.GdnBwdIdeal.cfg0.N i := by
    intro c i hi
    obtain ⟨d, hd, r, v, rfl⟩ := mask _ _ _ _ _ _ _ i hi
    obtain ⟨M, R, S⟩ := key c
    refine (reference (M := M) (x3 := m ((c : Thread Cert.GdnBwdIdeal.nD Cert.GdnBwdIdeal.τ).loc Cert.GdnBwdIdeal.main_arg3))
      (x5 := m ((c : Thread Cert.GdnBwdIdeal.nD Cert.GdnBwdIdeal.τ).loc Cert.GdnBwdIdeal.main_arg5)) R (it c) ?_ (fun _ => rfl) d hd r v).trans
      (Cert.GdnBwdIdeal.RefValue.final R S d hd r v).symm
    show Cert.GdnDvRefIdeal.Step.init _ _ _ = _
    rw [(hag c).1, (hag c).2.1, (hag c).2.2.2.2.2.2]
  refine ⟨fun c => (Cert.GdnBwdIdeal.Gen.dats m 0 c).arrAt 7 Cert.GdnBwdIdeal.cfg0.N, fun c => (Cert.GdnBwdIdeal.Gen.dats m 0 c).arrAt 8 Cert.GdnBwdIdeal.cfg0.N,
    (θ_run _ _ _).mono (fun _ h c => ⟨fun i _ => congrFun (h c).1 i, fun i _ => congrFun (h c).2.1 i, (h c).2.2⟩) (Cert.GdnBwdIdeal.Value.run_blocks m g),
    (θ_run _ _ _).mono (fun _ h c => ⟨fun i hi => (congrFun (h c).1 i).trans (same c i hi), fun i hi => (nomask _ _ _ _ _ _ _ i hi).elim, (h c).2.2⟩)
      (Cert.GdnDvRefIdeal.Iter.run_iter m' g' it (fun _ => rfl) fun _ _ => rfl)⟩

end Cert.GdnDv

end
-- ==== Proof.Mlp2DxValue.lean ====
/-
  Hand-written, untrusted. The value of `Mlp2DxIdeal`: the gradient of the squared rectifier under the second MLP product, which is what
  `Mlp2DxRefIdeal` computes on the host.
-/
module

public import proofs.«01_k».proof.Defs
public import proofs.«01_k».proof.Proof.Gen.Mlp2DxIdeal.Value
public import proofs.«01_k».proof.Proof.Gen.Mlp2DxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp2DxIdeal.RefValue

open Cert.Mlp2DxIdeal Cert.Mlp2DxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val]
    ∧ win0_3.index t = ![0, (grid0.coords t 1).val]
    ∧ win0_4.index t = ![(grid0.coords t 0).val, (grid0.coords t 1).val] :=
  (by decide +kernel : ∀ t : Fin grid0.N, _)

/-- The gradient at an index: row of the incoming gradient times row of the weight, times twice the rectified value. -/
def G (dy : Vec Ideal S4096x4096 .bf16) (w : Vec Ideal S16384x4096 .bf16) (h : Vec Ideal S4096x16384 .f32)
    (b1 : Vec Ideal S1x16384 .f32) : Vec Ideal S4096x16384 .bf16 := fun j =>
  (∑ k : Fin 4096, dy (ix2 (j 0) k) * w (ix2 (j 1) k)) * (Ideal.ofBits .f32 0x40000000#32 * max (h j + b1 (ix2 0 (j 1))) 0)

/-- The result array after the run. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  unfold k0_pay1 G
  pointwise
  blk_point [iblk, V, idx t]

end Cert.Mlp2DxIdeal.RefValue

namespace Cert.Mlp2DxRefIdeal.RefValue

open Cert.Mlp2DxRefIdeal Cert.Mlp2DxRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v16) = Cert.Mlp2DxIdeal.RefValue.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  funext j
  idx_vars j
  unfold Cert.Mlp2DxIdeal.RefValue.G
  pointwise
  split_ifs with hp
  · rfl
  · rw [max_eq_right (not_lt.mp hp), mul_zero, mul_zero]

end Cert.Mlp2DxRefIdeal.RefValue

namespace Cert.Mlp2DxIdeal.RefValue

open Idealize.ShloMosaic Idealize.SL.Sem

/-- The kernel and the plain reference compute one function. -/
theorem algebraic : Cert.algebraic_Mlp2DxIdeal_Mlp2DxRefIdeal (hMlp2DxIdeal := Cert.Mlp2DxIdeal.Gen.facts)
    (hMlp2DxRefIdeal := Cert.Mlp2DxRefIdeal.Gen.facts) :=
  fun m ρ m' ρ' _ hag => ⟨_, (θ_run _ _ _).mono (fun _ h c => ⟨(h c).1.trans (final m c), (h c).2⟩) (Cert.Mlp2DxIdeal.Value.run_blocks m ρ),
    (θ_run _ _ _).mono (fun _ h c => ⟨(h c).1.trans (by rw [(hag c).1, (hag c).2.1, (hag c).2.2.1, (hag c).2.2.2]), (h c).2⟩) (Cert.Mlp2DxRefIdeal.RefValue.run m' ρ')⟩

end Cert.Mlp2DxIdeal.RefValue

end
-- ==== Proof.Mlp2DwValue.lean ====
/-
  Hand-written, untrusted. The value of `Mlp2DwIdeal`: the gradient of the second MLP weight, which is what `Mlp2DwRefIdeal` computes on the
  host.
-/
module

public import proofs.«01_k».proof.Defs
public import proofs.«01_k».proof.Proof.Gen.Mlp2DwIdeal.Value
public import proofs.«01_k».proof.Proof.Gen.Mlp2DwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp2DwIdeal.RefValue

open Cert.Mlp2DwIdeal Cert.Mlp2DwIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The gradient at an index: the sum over the tokens. -/
def G (act : Vec Ideal S4096x16384 .bf16) (dy : Vec Ideal S4096x4096 .bf16) : Vec Ideal S16384x4096 .bf16 := fun j =>
  ∑ k : Fin 4096, act (ix2 k (j 0)) * dy (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.Mlp2DwIdeal.RefValue

namespace Cert.Mlp2DwRefIdeal.RefValue

open Cert.Mlp2DwRefIdeal Cert.Mlp2DwRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v6) = Cert.Mlp2DwIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.Mlp2DwIdeal.RefValue.G
  pointwise
  exact Finset.sum_congr rfl fun k _ => mul_comm _ _

end Cert.Mlp2DwRefIdeal.RefValue

namespace Cert.Mlp2DwIdeal.RefValue

open Idealize.ShloMosaic Idealize.SL.Sem

/-- The kernel and the plain reference compute one function. -/
theorem algebraic : Cert.algebraic_Mlp2DwIdeal_Mlp2DwRefIdeal (hMlp2DwIdeal := Cert.Mlp2DwIdeal.Gen.facts)
    (hMlp2DwRefIdeal := Cert.Mlp2DwRefIdeal.Gen.facts) :=
  fun m ρ m' ρ' _ hag => ⟨_, (θ_run _ _ _).mono (fun _ h c => ⟨(h c).1.trans (final m c), (h c).2⟩) (Cert.Mlp2DwIdeal.Value.run_blocks m ρ),
    (θ_run _ _ _).mono (fun _ h c => ⟨(h c).1.trans (by rw [(hag c).1, (hag c).2]), (h c).2⟩) (Cert.Mlp2DwRefIdeal.RefValue.run m' ρ')⟩

end Cert.Mlp2DwIdeal.RefValue

end
-- ==== Proof.Mlp1DxValue.lean ====
/-
  Hand-written, untrusted. The value of `Mlp1DxIdeal`: the gradient of the first MLP product's input, accumulated over four steps of the
  contraction, which is what `Mlp1DxRefIdeal` computes on the host.
-/
module

public import proofs.«01_k».proof.Defs
public import proofs.«01_k».proof.Proof.Gen.Mlp1DxIdeal.Value
public import proofs.«01_k».proof.Proof.Gen.Mlp1DxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp1DxIdeal.RefValue

open Cert.Mlp1DxIdeal Cert.Mlp1DxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, t.val % 4] ∧ win0_1.index t = ![t.val % 4, (grid0.coords t 1).val, 0]
    ∧ win0_2.index t = ![(grid0.coords t 0).val, (grid0.coords t 1).val]
    ∧ (grid0.coords t 0).val = t.val / 16 ∧ (grid0.coords t 1).val = t.val / 4 % 4 ∧ (grid0.coords t 2).val = t.val % 4 :=
  (by decide +kernel : ∀ t : Fin grid0.N, _)

/-- Term `k` of the contraction at row `i`, column `j`: column `k` of the weight is column `k % 2048` of device `k / 2048`. -/
def term (dh : Vec Ideal S4096x16384 .bf16) (g : Vec Ideal S8x4096x2048 .bf16) (i j : Fin 4096) (k : ℕ) : EReal :=
  if h : k < 16384 then dh (ix2 i ⟨k, h⟩) * g (ix3 ⟨k / 2048, by omega⟩ j ⟨k % 2048, by omega⟩) else 0

/-- The gradient at an index: the sum over the hidden columns. -/
def G (dh : Vec Ideal S4096x16384 .bf16) (g : Vec Ideal S8x4096x2048 .bf16) : Vec Ideal S4096x4096 .f32 := fun j =>
  ∑ k ∈ Finset.range 16384, term dh g (j 0) (j 1) k

/-- What a point adds, of its two blocks. -/
def part (x0 : Vec Ideal S1024x4096 .bf16) (x1 : Vec Ideal S2x1024x2048 .bf16) : Vec Ideal S1024x1024 .f32 :=
  k0_pay1 (View.ld x0 (Rect.unit ![0, 0] ![1024, 2048] inb_S1024x4096_S1024x2048_0_0))
    (View.ld x1 (Rect.unit ![0, 0, 0] ![1, 1024, 2048] inb_S2x1024x2048_S1x1024x2048_0_0_0))
    (View.ld x0 (Rect.unit ![0, 2048] ![1024, 2048] inb_S1024x4096_S1024x2048_0_2048))
    (View.ld x1 (Rect.unit ![1, 0, 0] ![1, 1024, 2048] inb_S2x1024x2048_S1x1024x2048_1_0_0))

/-- What a point adds at an index. -/
theorem part_apply (x0 : Vec Ideal S1024x4096 .bf16) (x1 : Vec Ideal S2x1024x2048 .bf16) (a b : Fin 1024) :
    part x0 x1 (ix2 a b) = (∑ k : Fin 2048, x0 (ix2 a ⟨k.val, by omega⟩) * x1 (ix3 0 b k))
      + ∑ k : Fin 2048, x0 (ix2 a ⟨2048 + k.val, by omega⟩) * x1 (ix3 1 b k) := by
  unfold part k0_pay1
  pointwise

/-- What point `t` adds at an index: the terms of its part of the contraction. -/
theorem part_eq (c : Dev nD) (t : Fin cfg0.N) (a b : Fin 1024) (i j : Fin 4096) (hi : i.val = t.val / 16 * 1024 + a.val)
    (hj : j.val = t.val / 4 % 4 * 1024 + b.val) (s : ℕ) (hs : t.val % 4 = s) :
    part (iblk m c 0 t) (iblk m c 1 t) (ix2 a b)
    = ∑ q ∈ Finset.range 4096, term (m ((c : Thread nD τ).loc main_arg0)) (m ((c : Thread nD τ).loc main_arg1)) i j (s * 4096 + q) := by
  rw [part_apply, Finset.sum_range_add _ 2048 2048, Finset.sum_range, Finset.sum_range]
  refine congrArg₂ (· + ·) (Finset.sum_congr rfl fun k _ => ?_) (Finset.sum_congr rfl fun k _ => ?_)
  all_goals
    have hk := k.isLt
    unfold term
    rw [dif_pos (by omega)]
    exact congrArg₂ (· * ·) (by blk_ext [iblk, V, idx t]) (by blk_ext [iblk, V, idx t])

/-- The accumulator after the first point of a run. -/
theorem sc_A (c : Dev nD) (t : Fin cfg0.N) (h : t.val % 4 = 0) :
    (outsAt0 m c t.val t.isLt).2 = part (iblk m c 0 t) (iblk m c 1 t) := by
  rw [outsAt0_A m c t h (by omega) (by omega)]
  funext y
  frame_out
  unfold k0_pay2
  rw [shapeCast_self]
  rfl

/-- The accumulator after a middle point of a run. -/
theorem sc_B (c : Dev nD) (t : Fin cfg0.N) (h : 1 ≤ t.val % 4 ∧ t.val % 4 ≤ 2) (y : S1024x1024.Idx) :
    ((outsAt0 m c t.val t.isLt).2 y : EReal) = (outsAt0 m c (t.val - 1) (Nat.lt_of_le_of_lt (Nat.sub_le _ _) t.isLt)).2 y
      + part (iblk m c 0 t) (iblk m c 1 t) y := by
  rw [outsAt0_B m c t (by omega) h (by omega)]
  frame_out
  unfold k0_pay3
  rw [shapeCast_self, read_unread_whole]
  rfl

/-- The result's block after the last point of a run. -/
theorem out_C (c : Dev nD) (t : Fin cfg0.N) (h : t.val % 4 = 3) (y : S1024x1024.Idx) :
    ((outsAt0 m c t.val t.isLt).1 y : EReal) = (outsAt0 m c (t.val - 1) (Nat.lt_of_le_of_lt (Nat.sub_le _ _) t.isLt)).2 y
      + part (iblk m c 0 t) (iblk m c 1 t) y := by
  rw [outsAt0_C m c t (by omega) (by omega) h]
  frame_out
  unfold k0_pay4
  rw [read_unread_whole]
  rfl

/-- The result's block after the last point of a run, at an index. -/
theorem out_eq (c : Dev nD) (t : Fin cfg0.N) (h : t.val % 4 = 3) (a b : Fin 1024) (i j : Fin 4096)
    (hi : i.val = t.val / 16 * 1024 + a.val) (hj : j.val = t.val / 4 % 4 * 1024 + b.val) :
    (outsAt0 m c t.val t.isLt).1 (ix2 a b)
      = ∑ k ∈ Finset.range 16384, term (m ((c : Thread nD τ).loc main_arg0)) (m ((c : Thread nD τ).loc main_arg1)) i j k := by
  have ht := t.isLt
  have h0 := sc_A m c (⟨t.val - 1 - 1 - 1, by omega⟩ : Fin cfg0.N) (by dsimp only; omega)
  have h1 := sc_B m c (⟨t.val - 1 - 1, by omega⟩ : Fin cfg0.N) (by dsimp only; omega) (ix2 a b)
  have h2 := sc_B m c (⟨t.val - 1, by omega⟩ : Fin cfg0.N) (by dsimp only; omega) (ix2 a b)
  have p0 := part_eq m c (⟨t.val - 1 - 1 - 1, by omega⟩ : Fin cfg0.N) a b i j (by dsimp only; omega) (by dsimp only; omega) 0 (by dsimp only; omega)
  have p1 := part_eq m c (⟨t.val - 1 - 1, by omega⟩ : Fin cfg0.N) a b i j (by dsimp only; omega) (by dsimp only; omega) 1 (by dsimp only; omega)
  have p2 := part_eq m c (⟨t.val - 1, by omega⟩ : Fin cfg0.N) a b i j (by dsimp only; omega) (by dsimp only; omega) 2 (by dsimp only; omega)
  have p3 := part_eq m c t a b i j hi hj 3 h
  dsimp only at h0 h1 h2
  rw [out_C m c t h, h2, h1, h0]
  rw [p0, p1, p2, p3, Finset.sum_range_add _ 12288 4096, Finset.sum_range_add _ 8192 4096, Finset.sum_range_add _ 4096 4096]
  simp only [Nat.zero_mul, Nat.zero_add, Nat.one_mul, show 2 * 4096 = 8192 from rfl, show 3 * 4096 = 12288 from rfl]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h3 := (flush0_2 t).mp hf
  have hi := idx t
  blk_simp
  rw [after0_2]
  idx_vars y
  unfold G
  refine out_eq m c t h3 y0 y1 _ _ ?_ ?_
  all_goals
    blk_simp [hi]

end Cert.Mlp1DxIdeal.RefValue

namespace Cert.Mlp1DxRefIdeal.RefValue

open Cert.Mlp1DxRefIdeal Cert.Mlp1DxRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v6) = Cert.Mlp1DxIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext j
  idx_vars j
  unfold Cert.Mlp1DxIdeal.RefValue.G
  rw [Finset.sum_range]
  pointwise
  refine Finset.sum_congr rfl fun k _ => ?_
  unfold Cert.Mlp1DxIdeal.RefValue.term
  rw [dif_pos k.isLt]

end Cert.Mlp1DxRefIdeal.RefValue

namespace Cert.Mlp1DxIdeal.RefValue

open Idealize.ShloMosaic Idealize.SL.Sem

/-- The kernel and the plain reference compute one function. -/
theorem algebraic : Cert.algebraic_Mlp1DxIdeal_Mlp1DxRefIdeal (hMlp1DxIdeal := Cert.Mlp1DxIdeal.Gen.facts)
    (hMlp1DxRefIdeal := Cert.Mlp1DxRefIdeal.Gen.facts) :=
  fun m ρ m' ρ' _ hag => ⟨_, (θ_run _ _ _).mono (fun _ h c => ⟨(h c).1.trans (final m c), (h c).2⟩) (Cert.Mlp1DxIdeal.Value.run_blocks m ρ),
    (θ_run _ _ _).mono (fun _ h c => ⟨(h c).1.trans (by rw [(hag c).1, (hag c).2.1]), (h c).2⟩) (Cert.Mlp1DxRefIdeal.RefValue.run m' ρ')⟩

end Cert.Mlp1DxIdeal.RefValue

end
-- ==== Proof.Mlp1DwValue.lean ====
/-
  Hand-written, untrusted. The value of `Mlp1DwIdeal`: the gradient of the first MLP weight, its columns split over the devices, which is what
  `Mlp1DwRefIdeal` computes on the host.
-/
module

public import proofs.«01_k».proof.Defs
public import proofs.«01_k».proof.Proof.Gen.Mlp1DwIdeal.Value
public import proofs.«01_k».proof.Proof.Gen.Mlp1DwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp1DwIdeal.RefValue

open Cert.Mlp1DwIdeal Cert.Mlp1DwIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![0, (grid0.coords t 0).val] ∧ win0_1.index t = ![0, (grid0.coords t 1).val]
    ∧ win0_2.index t = ![(grid0.coords t 1).val / 2, (grid0.coords t 0).val, (grid0.coords t 1).val % 2] :=
  (by decide +kernel : ∀ t : Fin grid0.N, _)

/-- The gradient at an index: the sum over the tokens; column `n` of device `d` is column `2048 d + n` of the weight. -/
def G (u : Vec Ideal S4096x4096 .bf16) (dh : Vec Ideal S4096x16384 .bf16) : Vec Ideal S8x4096x2048 .bf16 := fun j =>
  ∑ k : Fin 4096, u (ix2 k (j 1)) * dh (ix2 k ⟨(j 0).val * 2048 + (j 2).val, by
    have h0 : (j 0).val < 8 := (j 0).isLt
    have h2 : (j 2).val < 2048 := (j 2).isLt
    omega⟩)

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.Mlp1DwIdeal.RefValue

namespace Cert.Mlp1DwRefIdeal.RefValue

open Cert.Mlp1DwRefIdeal Cert.Mlp1DwRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v8) = Cert.Mlp1DwIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.Mlp1DwIdeal.RefValue.G
  pointwise
  exact Finset.sum_congr rfl fun k _ => mul_comm _ _

end Cert.Mlp1DwRefIdeal.RefValue

namespace Cert.Mlp1DwIdeal.RefValue

open Idealize.ShloMosaic Idealize.SL.Sem

/-- The kernel and the plain reference compute one function. -/
theorem algebraic : Cert.algebraic_Mlp1DwIdeal_Mlp1DwRefIdeal (hMlp1DwIdeal := Cert.Mlp1DwIdeal.Gen.facts)
    (hMlp1DwRefIdeal := Cert.Mlp1DwRefIdeal.Gen.facts) :=
  fun m ρ m' ρ' _ hag => ⟨_, (θ_run _ _ _).mono (fun _ h c => ⟨(h c).1.trans (final m c), (h c).2⟩) (Cert.Mlp1DwIdeal.Value.run_blocks m ρ),
    (θ_run _ _ _).mono (fun _ h c => ⟨(h c).1.trans (by rw [(hag c).1, (hag c).2]), (h c).2⟩) (Cert.Mlp1DwRefIdeal.RefValue.run m' ρ')⟩

end Cert.Mlp1DwIdeal.RefValue

end
-- ==== Proof.OutDxValue.lean ====
/-
  Hand-written, untrusted. The value of `OutDxIdeal`: the gradient of the output projection's input, which is what `OutDxRefIdeal` computes on the
  host.
-/
module

public import proofs.«01_k».proof.Defs
public import proofs.«01_k».proof.Proof.Gen.OutDxIdeal.Value
public import proofs.«01_k».proof.Proof.Gen.OutDxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutDxIdeal.RefValue

open Cert.OutDxIdeal Cert.OutDxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- The gradient at an index: a row of the incoming gradient times a row of the weight. -/
def G (a : Vec Ideal S4096x4096 .bf16) (b : Vec Ideal S4096x4096 .bf16) : Vec Ideal S4096x4096 .f32 := fun j =>
  ∑ k : Fin 4096, a (ix2 (j 0) k) * b (ix2 (j 1) k)

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.OutDxIdeal.RefValue

namespace Cert.OutDxRefIdeal.RefValue

open Cert.OutDxRefIdeal Cert.OutDxRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v4) = Cert.OutDxIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.OutDxIdeal.RefValue.G
  pointwise

end Cert.OutDxRefIdeal.RefValue

namespace Cert.OutDxIdeal.RefValue

open Idealize.ShloMosaic Idealize.SL.Sem

/-- The kernel and the plain reference compute one function. -/
theorem algebraic : Cert.algebraic_OutDxIdeal_OutDxRefIdeal (hOutDxIdeal := Cert.OutDxIdeal.Gen.facts)
    (hOutDxRefIdeal := Cert.OutDxRefIdeal.Gen.facts) :=
  fun m ρ m' ρ' _ hag => ⟨_, (θ_run _ _ _).mono (fun _ h c => ⟨(h c).1.trans (final m c), (h c).2⟩) (Cert.OutDxIdeal.Value.run_blocks m ρ),
    (θ_run _ _ _).mono (fun _ h c => ⟨(h c).1.trans (by rw [(hag c).1, (hag c).2]), (h c).2⟩) (Cert.OutDxRefIdeal.RefValue.run m' ρ')⟩

end Cert.OutDxIdeal.RefValue

end
-- ==== Proof.OutDwValue.lean ====
/-
  Hand-written, untrusted. The value of `OutDwIdeal`: the gradient of the output projection's weight, which is what `OutDwRefIdeal` computes on the
  host.
-/
module

public import proofs.«01_k».proof.Defs
public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutDwIdeal.RefValue

open Cert.OutDwIdeal Cert.OutDwIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The gradient at an index: the sum over the tokens. -/
def G (a : Vec Ideal S4096x4096 .bf16) (b : Vec Ideal S4096x4096 .bf16) : Vec Ideal S4096x4096 .bf16 := fun j =>
  ∑ k : Fin 4096, a (ix2 k (j 0)) * b (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.OutDwIdeal.RefValue

namespace Cert.OutDwRefIdeal.RefValue

open Cert.OutDwRefIdeal Cert.OutDwRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v6) = Cert.OutDwIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.OutDwIdeal.RefValue.G
  pointwise
  exact Finset.sum_congr rfl fun k _ => mul_comm _ _

end Cert.OutDwRefIdeal.RefValue

namespace Cert.OutDwIdeal.RefValue

open Idealize.ShloMosaic Idealize.SL.Sem

/-- The kernel and the plain reference compute one function. -/
theorem algebraic : Cert.algebraic_OutDwIdeal_OutDwRefIdeal (hOutDwIdeal := Cert.OutDwIdeal.Gen.facts)
    (hOutDwRefIdeal := Cert.OutDwRefIdeal.Gen.facts) :=
  fun m ρ m' ρ' _ hag => ⟨_, (θ_run _ _ _).mono (fun _ h c => ⟨(h c).1.trans (final m c), (h c).2⟩) (Cert.OutDwIdeal.Value.run_blocks m ρ),
    (θ_run _ _ _).mono (fun _ h c => ⟨(h c).1.trans (by rw [(hag c).1, (hag c).2]), (h c).2⟩) (Cert.OutDwRefIdeal.RefValue.run m' ρ')⟩

end Cert.OutDwIdeal.RefValue

end
-- ==== Proof.InDwValue.lean ====
/-
  Hand-written, untrusted. The value of `InDwIdeal`: the gradient of the input projection's weight, which is what `InDwRefIdeal` computes on the
  host.
-/
module

public import proofs.«01_k».proof.Defs
public import proofs.«01_k».proof.Proof.Gen.InDwIdeal.Value
public import proofs.«01_k».proof.Proof.Gen.InDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InDwIdeal.RefValue

open Cert.InDwIdeal Cert.InDwIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The gradient at an index: the sum over the tokens, latent and context. -/
def G (a : Vec Ideal S4352x4096 .bf16) (b : Vec Ideal S4352x12800 .bf16) : Vec Ideal S4096x12800 .bf16 := fun j =>
  ∑ k : Fin 4352, a (ix2 k (j 0)) * b (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.InDwIdeal.RefValue

namespace Cert.InDwRefIdeal.RefValue

open Cert.InDwRefIdeal Cert.InDwRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v6) = Cert.InDwIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.InDwIdeal.RefValue.G
  pointwise
  exact Finset.sum_congr rfl fun k _ => mul_comm _ _

end Cert.InDwRefIdeal.RefValue

namespace Cert.InDwIdeal.RefValue

open Idealize.ShloMosaic Idealize.SL.Sem

/-- The kernel and the plain reference compute one function. -/
theorem algebraic : Cert.algebraic_InDwIdeal_InDwRefIdeal (hInDwIdeal := Cert.InDwIdeal.Gen.facts)
    (hInDwRefIdeal := Cert.InDwRefIdeal.Gen.facts) :=
  fun m ρ m' ρ' _ hag => ⟨_, (θ_run _ _ _).mono (fun _ h c => ⟨(h c).1.trans (final m c), (h c).2⟩) (Cert.InDwIdeal.Value.run_blocks m ρ),
    (θ_run _ _ _).mono (fun _ h c => ⟨(h c).1.trans (by rw [(hag c).1, (hag c).2]), (h c).2⟩) (Cert.InDwRefIdeal.RefValue.run m' ρ')⟩

end Cert.InDwIdeal.RefValue

end
-- ==== Proof.InDxValue.lean ====
/-
  Hand-written, untrusted. The value of `InDxIdeal`: the gradient of the input projection's input, accumulated over five steps of the
  contraction, which is what `InDxRefIdeal` computes on the host.
-/
module

public import proofs.«01_k».proof.Defs
public import proofs.«01_k».proof.Proof.Gen.InDxIdeal.Value
public import proofs.«01_k».proof.Proof.Gen.InDxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InDxIdeal.RefValue

open Cert.InDxIdeal Cert.InDxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, t.val % 5] ∧ win0_1.index t = ![(grid0.coords t 1).val, t.val % 5]
    ∧ win0_2.index t = ![(grid0.coords t 0).val, (grid0.coords t 1).val]
    ∧ (grid0.coords t 0).val = t.val / 20 ∧ (grid0.coords t 1).val = t.val / 5 % 4 ∧ (grid0.coords t 2).val = t.val % 5 :=
  (by decide +kernel : ∀ t : Fin grid0.N, _)

/-- Term `k` of the contraction at row `i`, column `j`. -/
def term (a : Vec Ideal S4352x12800 .bf16) (b : Vec Ideal S4096x12800 .bf16) (i : Fin 4352) (j : Fin 4096) (k : ℕ) : EReal :=
  if h : k < 12800 then a (ix2 i ⟨k, h⟩) * b (ix2 j ⟨k, h⟩) else 0

/-- The product at an index: the sum over the contraction. -/
def G (a : Vec Ideal S4352x12800 .bf16) (b : Vec Ideal S4096x12800 .bf16) : Vec Ideal S4352x4096 .f32 := fun j =>
  ∑ k ∈ Finset.range 12800, term a b (j 0) (j 1) k

/-- What a point adds at an index. -/
theorem part_apply (x0 : Vec Ideal S1088x2560 .bf16) (x1 : Vec Ideal S1024x2560 .bf16) (a : Fin 1088) (b : Fin 1024) :
    k0_pay1 x0 x1 (ix2 a b) = ∑ k : Fin 2560, x0 (ix2 a k) * x1 (ix2 b k) := by
  unfold k0_pay1
  pointwise

/-- What point `t` adds at an index: the terms of its part of the contraction. -/
theorem part_eq (c : Dev nD) (t : Fin cfg0.N) (a : Fin 1088) (b : Fin 1024) (i : Fin 4352) (j : Fin 4096) (hi : i.val = t.val / 20 * 1088 + a.val)
    (hj : j.val = t.val / 5 % 4 * 1024 + b.val) (s : ℕ) (hs : t.val % 5 = s) :
    k0_pay1 (iblk m c 0 t) (iblk m c 1 t) (ix2 a b)
    = ∑ q ∈ Finset.range 2560, term (m ((c : Thread nD τ).loc main_arg0)) (m ((c : Thread nD τ).loc main_arg1)) i j (s * 2560 + q) := by
  refine (part_apply (iblk m c 0 t) (iblk m c 1 t) a b).trans ?_
  rw [Finset.sum_range]
  refine Finset.sum_congr rfl fun k _ => ?_
  have hk := k.isLt
  unfold term
  rw [dif_pos (by omega)]
  exact congrArg₂ (· * ·) (by blk_ext [iblk, V, idx t]) (by blk_ext [iblk, V, idx t])

/-- The accumulator after the first point of a run. -/
theorem sc_A (c : Dev nD) (t : Fin cfg0.N) (h : t.val % 5 = 0) :
    (outsAt0 m c t.val t.isLt).2 = k0_pay1 (iblk m c 0 t) (iblk m c 1 t) := by
  rw [outsAt0_A m c t h (by omega) (by omega)]
  funext y
  frame_out
  unfold k0_pay2
  rw [shapeCast_self]

/-- The accumulator after a middle point of a run. -/
theorem sc_B (c : Dev nD) (t : Fin cfg0.N) (h : 1 ≤ t.val % 5 ∧ t.val % 5 ≤ 3) (y : S1088x1024.Idx) :
    ((outsAt0 m c t.val t.isLt).2 y : EReal) = (outsAt0 m c (t.val - 1) (Nat.lt_of_le_of_lt (Nat.sub_le _ _) t.isLt)).2 y
      + k0_pay1 (iblk m c 0 t) (iblk m c 1 t) y := by
  rw [outsAt0_B m c t (by omega) h (by omega)]
  frame_out
  unfold k0_pay3
  rw [shapeCast_self, read_unread_whole]
  rfl

/-- The result's block after the last point of a run. -/
theorem out_C (c : Dev nD) (t : Fin cfg0.N) (h : t.val % 5 = 4) (y : S1088x1024.Idx) :
    ((outsAt0 m c t.val t.isLt).1 y : EReal) = (outsAt0 m c (t.val - 1) (Nat.lt_of_le_of_lt (Nat.sub_le _ _) t.isLt)).2 y
      + k0_pay1 (iblk m c 0 t) (iblk m c 1 t) y := by
  rw [outsAt0_C m c t (by omega) (by omega) h]
  frame_out
  unfold k0_pay4
  rw [read_unread_whole]
  rfl

/-- The result's block after the last point of a run, at an index. -/
theorem out_eq (c : Dev nD) (t : Fin cfg0.N) (h : t.val % 5 = 4) (a : Fin 1088) (b : Fin 1024) (i : Fin 4352) (j : Fin 4096)
    (hi : i.val = t.val / 20 * 1088 + a.val) (hj : j.val = t.val / 5 % 4 * 1024 + b.val) :
    (outsAt0 m c t.val t.isLt).1 (ix2 a b) = ∑ k ∈ Finset.range 12800, term (m ((c : Thread nD τ).loc main_arg0)) (m ((c : Thread nD τ).loc main_arg1)) i j k := by
  have ht := t.isLt
  have h0 := sc_A m c (⟨t.val - 1 - 1 - 1 - 1, by omega⟩ : Fin cfg0.N) (by dsimp only; omega)
  have h1 := sc_B m c (⟨t.val - 1 - 1 - 1, by omega⟩ : Fin cfg0.N) (by dsimp only; omega) (ix2 a b)
  have h2 := sc_B m c (⟨t.val - 1 - 1, by omega⟩ : Fin cfg0.N) (by dsimp only; omega) (ix2 a b)
  have h3 := sc_B m c (⟨t.val - 1, by omega⟩ : Fin cfg0.N) (by dsimp only; omega) (ix2 a b)
  have p0 := part_eq m c (⟨t.val - 1 - 1 - 1 - 1, by omega⟩ : Fin cfg0.N) a b i j (by dsimp only; omega) (by dsimp only; omega) 0 (by dsimp only; omega)
  have p1 := part_eq m c (⟨t.val - 1 - 1 - 1, by omega⟩ : Fin cfg0.N) a b i j (by dsimp only; omega) (by dsimp only; omega) 1 (by dsimp only; omega)
  have p2 := part_eq m c (⟨t.val - 1 - 1, by omega⟩ : Fin cfg0.N) a b i j (by dsimp only; omega) (by dsimp only; omega) 2 (by dsimp only; omega)
  have p3 := part_eq m c (⟨t.val - 1, by omega⟩ : Fin cfg0.N) a b i j (by dsimp only; omega) (by dsimp only; omega) 3 (by dsimp only; omega)
  have p4 := part_eq m c t a b i j hi hj 4 h
  dsimp only at h0 h1 h2 h3
  rw [out_C m c t h, h3, h2, h1, h0]
  rw [p0, p1, p2, p3, p4, Finset.sum_range_add _ 10240 2560, Finset.sum_range_add _ 7680 2560, Finset.sum_range_add _ 5120 2560, Finset.sum_range_add _ 2560 2560]
  simp only [Nat.zero_mul, Nat.zero_add, Nat.one_mul, show 2 * 2560 = 5120 from rfl, show 3 * 2560 = 7680 from rfl, show 4 * 2560 = 10240 from rfl]

/-- The result array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 := (flush0_2 t).mp hf
  have hi := idx t
  blk_simp
  rw [after0_2]
  idx_vars y
  unfold G
  refine out_eq m c t h3 y0 y1 _ _ ?_ ?_
  all_goals
    blk_simp [hi]

end Cert.InDxIdeal.RefValue

namespace Cert.InDxRefIdeal.RefValue

open Cert.InDxRefIdeal Cert.InDxRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v4) = Cert.InDxIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext j
  idx_vars j
  unfold Cert.InDxIdeal.RefValue.G
  rw [Finset.sum_range]
  pointwise
  refine Finset.sum_congr rfl fun k _ => ?_
  unfold Cert.InDxIdeal.RefValue.term
  rw [dif_pos k.isLt]

end Cert.InDxRefIdeal.RefValue

namespace Cert.InDxIdeal.RefValue

open Idealize.ShloMosaic Idealize.SL.Sem

/-- The kernel and the plain reference compute one function. -/
theorem algebraic : Cert.algebraic_InDxIdeal_InDxRefIdeal (hInDxIdeal := Cert.InDxIdeal.Gen.facts)
    (hInDxRefIdeal := Cert.InDxRefIdeal.Gen.facts) :=
  fun m ρ m' ρ' _ hag => ⟨_, (θ_run _ _ _).mono (fun _ h c => ⟨(h c).1.trans (final m c), (h c).2⟩) (Cert.InDxIdeal.Value.run_blocks m ρ),
    (θ_run _ _ _).mono (fun _ h c => ⟨(h c).1.trans (by rw [(hag c).1, (hag c).2.1]), (h c).2⟩) (Cert.InDxRefIdeal.RefValue.run m' ρ')⟩

end Cert.InDxIdeal.RefValue

end
-- ==== Proof.ModDxValue.lean ====
/-
  Hand-written, untrusted. The value of `ModDxIdeal`: the gradient of the modulation's input, which is what `ModDxRefIdeal` computes on the
  host.
-/
module

public import proofs.«01_k».proof.Defs
public import proofs.«01_k».proof.Proof.Gen.ModDxIdeal.Value
public import proofs.«01_k».proof.Proof.Gen.ModDxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ModDxIdeal.RefValue

open Cert.ModDxIdeal Cert.ModDxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- The gradient at an index: a row of the incoming gradient times a row of the weight. -/
def G (a : Vec Ideal S16x3072 .f32) (b : Vec Ideal S4096x3072 .f32) : Vec Ideal S16x4096 .f32 := fun j =>
  ∑ k : Fin 3072, a (ix2 (j 0) k) * b (ix2 (j 1) k)

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.ModDxIdeal.RefValue

namespace Cert.ModDxRefIdeal.RefValue

open Cert.ModDxRefIdeal Cert.ModDxRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v2) = Cert.ModDxIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.ModDxIdeal.RefValue.G
  pointwise

end Cert.ModDxRefIdeal.RefValue

namespace Cert.ModDxIdeal.RefValue

open Idealize.ShloMosaic Idealize.SL.Sem

/-- The kernel and the plain reference compute one function. -/
theorem algebraic : Cert.algebraic_ModDxIdeal_ModDxRefIdeal (hModDxIdeal := Cert.ModDxIdeal.Gen.facts)
    (hModDxRefIdeal := Cert.ModDxRefIdeal.Gen.facts) :=
  fun m ρ m' ρ' _ hag => ⟨_, (θ_run _ _ _).mono (fun _ h c => ⟨(h c).1.trans (final m c), (h c).2⟩) (Cert.ModDxIdeal.Value.run_blocks m ρ),
    (θ_run _ _ _).mono (fun _ h c => ⟨(h c).1.trans (by rw [(hag c).1, (hag c).2]), (h c).2⟩) (Cert.ModDxRefIdeal.RefValue.run m' ρ')⟩

end Cert.ModDxIdeal.RefValue

end
-- ==== Proof.ModDwValue.lean ====
/-
  Hand-written, untrusted. The value of `ModDwIdeal`: the gradient of the modulation's weight, which is what `ModDwRefIdeal` computes on the
  host.
-/
module

public import proofs.«01_k».proof.Defs
public import proofs.«01_k».proof.Proof.Gen.ModDwIdeal.Value
public import proofs.«01_k».proof.Proof.Gen.ModDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ModDwIdeal.RefValue

open Cert.ModDwIdeal Cert.ModDwIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The gradient at an index: the sum over the rows. -/
def G (a : Vec Ideal S16x4096 .f32) (b : Vec Ideal S16x3072 .f32) : Vec Ideal S4096x3072 .f32 := fun j =>
  ∑ k : Fin 16, a (ix2 k (j 0)) * b (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  unfold k0_pay1 G
  pointwise
  blk_point [iblk, V, idx t]

end Cert.ModDwIdeal.RefValue

namespace Cert.ModDwRefIdeal.RefValue

open Cert.ModDwRefIdeal Cert.ModDwRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v3) = Cert.ModDwIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext j
  idx_vars j
  unfold Cert.ModDwIdeal.RefValue.G
  pointwise
  exact Finset.sum_congr rfl fun k _ => mul_comm _ _

end Cert.ModDwRefIdeal.RefValue

namespace Cert.ModDwIdeal.RefValue

open Idealize.ShloMosaic Idealize.SL.Sem

/-- The kernel and the plain reference compute one function. -/
theorem algebraic : Cert.algebraic_ModDwIdeal_ModDwRefIdeal (hModDwIdeal := Cert.ModDwIdeal.Gen.facts)
    (hModDwRefIdeal := Cert.ModDwRefIdeal.Gen.facts) :=
  fun m ρ m' ρ' _ hag => ⟨_, (θ_run _ _ _).mono (fun _ h c => ⟨(h c).1.trans (final m c), (h c).2⟩) (Cert.ModDwIdeal.Value.run_blocks m ρ),
    (θ_run _ _ _).mono (fun _ h c => ⟨(h c).1.trans (by rw [(hag c).1, (hag c).2.1]), (h c).2⟩) (Cert.ModDwRefIdeal.RefValue.run m' ρ')⟩

end Cert.ModDwIdeal.RefValue

end
-- ==== Proof.InFwdValue.lean ====
/-
  Hand-written, untrusted. The value of `InFwdIdeal`: the input projection, which is what `InFwdRefIdeal` computes on the
  host.
-/
module

public import proofs.«01_k».proof.Defs
public import proofs.«01_k».proof.Proof.Gen.InFwdIdeal.Value
public import proofs.«01_k».proof.Proof.Gen.InFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InFwdIdeal.RefValue

open Cert.InFwdIdeal Cert.InFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The product at an index. -/
def G (a : Vec Ideal S4352x4096 .bf16) (b : Vec Ideal S4096x12800 .bf16) : Vec Ideal S4352x12800 .f32 := fun j =>
  ∑ k : Fin 4096, a (ix2 (j 0) k) * b (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.InFwdIdeal.RefValue

namespace Cert.InFwdRefIdeal.RefValue

open Cert.InFwdRefIdeal Cert.InFwdRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v2) = Cert.InFwdIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.InFwdIdeal.RefValue.G
  pointwise

end Cert.InFwdRefIdeal.RefValue

namespace Cert.InFwdIdeal.RefValue

open Idealize.ShloMosaic Idealize.SL.Sem

/-- The kernel and the plain reference compute one function. -/
theorem algebraic : Cert.algebraic_InFwdIdeal_InFwdRefIdeal (hInFwdIdeal := Cert.InFwdIdeal.Gen.facts)
    (hInFwdRefIdeal := Cert.InFwdRefIdeal.Gen.facts) :=
  fun m ρ m' ρ' _ hag => ⟨_, (θ_run _ _ _).mono (fun _ h c => ⟨(h c).1.trans (final m c), (h c).2⟩) (Cert.InFwdIdeal.Value.run_blocks m ρ),
    (θ_run _ _ _).mono (fun _ h c => ⟨(h c).1.trans (by rw [(hag c).1, (hag c).2]), (h c).2⟩) (Cert.InFwdRefIdeal.RefValue.run m' ρ')⟩

end Cert.InFwdIdeal.RefValue

end
-- ==== Proof.OutFwdValue.lean ====
/-
  Hand-written, untrusted. The value of `OutFwdIdeal`: the output projection, which is what `OutFwdRefIdeal` computes on the
  host.
-/
module

public import proofs.«01_k».proof.Defs
public import proofs.«01_k».proof.Proof.Gen.OutFwdIdeal.Value
public import proofs.«01_k».proof.Proof.Gen.OutFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutFwdIdeal.RefValue

open Cert.OutFwdIdeal Cert.OutFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The product at an index. -/
def G (a : Vec Ideal S4096x4096 .bf16) (b : Vec Ideal S4096x4096 .bf16) : Vec Ideal S4096x4096 .f32 := fun j =>
  ∑ k : Fin 4096, a (ix2 (j 0) k) * b (ix2 k (j 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 G
  pointwise
  blk_point [iblk, V, idx t]

end Cert.OutFwdIdeal.RefValue

namespace Cert.OutFwdRefIdeal.RefValue

open Cert.OutFwdRefIdeal Cert.OutFwdRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v2) = Cert.OutFwdIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.OutFwdIdeal.RefValue.G
  pointwise

end Cert.OutFwdRefIdeal.RefValue

namespace Cert.OutFwdIdeal.RefValue

open Idealize.ShloMosaic Idealize.SL.Sem

/-- The kernel and the plain reference compute one function. -/
theorem algebraic : Cert.algebraic_OutFwdIdeal_OutFwdRefIdeal (hOutFwdIdeal := Cert.OutFwdIdeal.Gen.facts)
    (hOutFwdRefIdeal := Cert.OutFwdRefIdeal.Gen.facts) :=
  fun m ρ m' ρ' _ hag => ⟨_, (θ_run _ _ _).mono (fun _ h c => ⟨(h c).1.trans (final m c), (h c).2⟩) (Cert.OutFwdIdeal.Value.run_blocks m ρ),
    (θ_run _ _ _).mono (fun _ h c => ⟨(h c).1.trans (by rw [(hag c).1, (hag c).2]), (h c).2⟩) (Cert.OutFwdRefIdeal.RefValue.run m' ρ')⟩

end Cert.OutFwdIdeal.RefValue

end
-- ==== Proof.Mlp1FwdValue.lean ====
/-
  Hand-written, untrusted. The values of `Mlp1FwdIdeal`: the first MLP product and its squared rectifier, which is what `Mlp1FwdRefIdeal`
  computes on the host.
-/
module

public import proofs.«01_k».proof.Defs
public import proofs.«01_k».proof.Proof.Gen.Mlp1FwdIdeal.Value
public import proofs.«01_k».proof.Proof.Gen.Mlp1FwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp1FwdIdeal.RefValue

open Cert.Mlp1FwdIdeal Cert.Mlp1FwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0] ∧ win0_1.index t = ![(grid0.coords t 1).val / 2, 0, (grid0.coords t 1).val % 2]
    ∧ win0_2.index t = ![0, (grid0.coords t 1).val] ∧ win0_3.index t = ![(grid0.coords t 0).val, (grid0.coords t 1).val] ∧ win0_4.index t = ![(grid0.coords t 0).val, (grid0.coords t 1).val] :=
  (by decide +kernel : ∀ t : Fin grid0.N, _)

/-- The hidden layer before the rectifier at an index; column `n` of the weight is column `n % 2048` of device `n / 2048`. -/
def H (u : Vec Ideal S4096x4096 .bf16) (g : Vec Ideal S8x4096x2048 .bf16) : Vec Ideal S4096x16384 .f32 := fun j =>
  ∑ k : Fin 4096, u (ix2 (j 0) k) * g (ix3 ⟨(j 1).val / 2048, by have h : (j 1).val < 16384 := (j 1).isLt; omega⟩ k ⟨(j 1).val % 2048, by omega⟩)

/-- The hidden layer after the squared rectifier at an index. -/
def G (u : Vec Ideal S4096x4096 .bf16) (g : Vec Ideal S8x4096x2048 .bf16) (b1 : Vec Ideal S1x16384 .f32) :
    Vec Ideal S4096x16384 .bf16 := fun j =>
  max ((H u g j : EReal) + b1 (ix2 0 (j 1))) 0 * max ((H u g j : EReal) + b1 (ix2 0 (j 1))) 0

/-- The first result array after the run. -/
theorem final3 (c : Dev nD) : (dats m 0 c).arrAt 3 cfg0.N
    = H (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  unfold k0_pay1 H
  pointwise
  blk_point [iblk, V, idx t]

/-- The second result array after the run. -/
theorem final4 (c : Dev nD) : (dats m 0 c).arrAt 4 cfg0.N = G (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  unfold k0_pay2 k0_pay1 G H
  pointwise
  blk_point [iblk, V, idx t]

end Cert.Mlp1FwdIdeal.RefValue

namespace Cert.Mlp1FwdRefIdeal.RefValue

open Cert.Mlp1FwdRefIdeal Cert.Mlp1FwdRefIdeal.Gen
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v4) = Cert.Mlp1FwdIdeal.RefValue.H (m ((c.tc : Thread nD τ).loc main_arg0)) (m ((c.tc : Thread nD τ).loc main_arg1))
      ∧ r.2.mem ((c.tc : Thread nD τ).loc main_v9) = Cert.Mlp1FwdIdeal.RefValue.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  all_goals
    funext j
    idx_vars j
    first | unfold Cert.Mlp1FwdIdeal.RefValue.G Cert.Mlp1FwdIdeal.RefValue.H | unfold Cert.Mlp1FwdIdeal.RefValue.H
    pointwise

end Cert.Mlp1FwdRefIdeal.RefValue

namespace Cert.Mlp1FwdIdeal.RefValue

open Idealize.ShloMosaic Idealize.SL.Sem

/-- The kernel and the plain reference compute the same two functions. -/
theorem algebraic : Cert.algebraic_Mlp1FwdIdeal_Mlp1FwdRefIdeal (hMlp1FwdIdeal := Cert.Mlp1FwdIdeal.Gen.facts)
    (hMlp1FwdRefIdeal := Cert.Mlp1FwdRefIdeal.Gen.facts) :=
  fun m ρ m' ρ' _ hag => ⟨_, _, (θ_run _ _ _).mono (fun _ h c => ⟨(h c).1.trans (final3 m c), (h c).2.1.trans (final4 m c), (h c).2.2⟩) (Cert.Mlp1FwdIdeal.Value.run_blocks m ρ),
    (θ_run _ _ _).mono (fun _ h c => ⟨(h c).1.trans (by rw [(hag c).1, (hag c).2.1]), (h c).2.1.trans (by rw [(hag c).1, (hag c).2.1, (hag c).2.2]), (h c).2.2⟩) (Cert.Mlp1FwdRefIdeal.RefValue.run m' ρ')⟩

end Cert.Mlp1FwdIdeal.RefValue

end
-- ==== Proof.Mlp2FwdValue.lean ====
/-
  Hand-written, untrusted. The value of `Mlp2FwdIdeal`: the second MLP product, accumulated over four steps of the contraction, which is what
  `Mlp2FwdRefIdeal` computes on the host.
-/
module

public import proofs.«01_k».proof.Defs
public import proofs.«01_k».proof.Proof.Gen.Mlp2FwdIdeal.Value
public import proofs.«01_k».proof.Proof.Gen.Mlp2FwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mlp2FwdIdeal.RefValue

open Cert.Mlp2FwdIdeal Cert.Mlp2FwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, t.val % 4] ∧ win0_1.index t = ![t.val % 4, (grid0.coords t 1).val]
    ∧ win0_2.index t = ![(grid0.coords t 0).val, (grid0.coords t 1).val]
    ∧ (grid0.coords t 0).val = t.val / 16 ∧ (grid0.coords t 1).val = t.val / 4 % 4 ∧ (grid0.coords t 2).val = t.val % 4 :=
  (by decide +kernel : ∀ t : Fin grid0.N, _)

/-- Term `k` of the contraction at row `i`, column `j`. -/
def term (a : Vec Ideal S4096x16384 .bf16) (b : Vec Ideal S16384x4096 .bf16) (i : Fin 4096) (j : Fin 4096) (k : ℕ) : EReal :=
  if h : k < 16384 then a (ix2 i ⟨k, h⟩) * b (ix2 ⟨k, h⟩ j) else 0

/-- The product at an index: the sum over the contraction. -/
def G (a : Vec Ideal S4096x16384 .bf16) (b : Vec Ideal S16384x4096 .bf16) : Vec Ideal S4096x4096 .f32 := fun j =>
  ∑ k ∈ Finset.range 16384, term a b (j 0) (j 1) k

/-- What a point adds at an index. -/
theorem part_apply (x0 : Vec Ideal S1024x4096 .bf16) (x1 : Vec Ideal S4096x1024 .bf16) (a : Fin 1024) (b : Fin 1024) :
    k0_pay1 x0 x1 (ix2 a b) = ∑ k : Fin 4096, x0 (ix2 a k) * x1 (ix2 k b) := by
  unfold k0_pay1
  pointwise

/-- What point `t` adds at an index: the terms of its part of the contraction. -/
theorem part_eq (c : Dev nD) (t : Fin cfg0.N) (a : Fin 1024) (b : Fin 1024) (i : Fin 4096) (j : Fin 4096) (hi : i.val = t.val / 16 * 1024 + a.val)
    (hj : j.val = t.val / 4 % 4 * 1024 + b.val) (s : ℕ) (hs : t.val % 4 = s) :
    k0_pay1 (iblk m c 0 t) (iblk m c 1 t) (ix2 a b)
    = ∑ q ∈ Finset.range 4096, term (m ((c : Thread nD τ).loc main_arg0)) (m ((c : Thread nD τ).loc main_arg1)) i j (s * 4096 + q) := by
  refine (part_apply (iblk m c 0 t) (iblk m c 1 t) a b).trans ?_
  rw [Finset.sum_range]
  refine Finset.sum_congr rfl fun k _ => ?_
  have hk := k.isLt
  unfold term
  rw [dif_pos (by omega)]
  exact congrArg₂ (· * ·) (by blk_ext [iblk, V, idx t]) (by blk_ext [iblk, V, idx t])

/-- The accumulator after the first point of a run. -/
theorem sc_A (c : Dev nD) (t : Fin cfg0.N) (h : t.val % 4 = 0) :
    (outsAt0 m c t.val t.isLt).2 = k0_pay1 (iblk m c 0 t) (iblk m c 1 t) := by
  rw [outsAt0_A m c t h (by omega) (by omega)]
  funext y
  frame_out
  unfold k0_pay2
  rw [shapeCast_self]

/-- The accumulator after a middle point of a run. -/
theorem sc_B (c : Dev nD) (t : Fin cfg0.N) (h : 1 ≤ t.val % 4 ∧ t.val % 4 ≤ 2) (y : S1024x1024.Idx) :
    ((outsAt0 m c t.val t.isLt).2 y : EReal) = (outsAt0 m c (t.val - 1) (Nat.lt_of_le_of_lt (Nat.sub_le _ _) t.isLt)).2 y
      + k0_pay1 (iblk m c 0 t) (iblk m c 1 t) y := by
  rw [outsAt0_B m c t (by omega) h (by omega)]
  frame_out
  unfold k0_pay3
  rw [shapeCast_self, read_unread_whole]
  rfl

/-- The result's block after the last point of a run. -/
theorem out_C (c : Dev nD) (t : Fin cfg0.N) (h : t.val % 4 = 3) (y : S1024x1024.Idx) :
    ((outsAt0 m c t.val t.isLt).1 y : EReal) = (outsAt0 m c (t.val - 1) (Nat.lt_of_le_of_lt (Nat.sub_le _ _) t.isLt)).2 y
      + k0_pay1 (iblk m c 0 t) (iblk m c 1 t) y := by
  rw [outsAt0_C m c t (by omega) (by omega) h]
  frame_out
  unfold k0_pay4
  rw [read_unread_whole]
  rfl

/-- The result's block after the last point of a run, at an index. -/
theorem out_eq (c : Dev nD) (t : Fin cfg0.N) (h : t.val % 4 = 3) (a : Fin 1024) (b : Fin 1024) (i : Fin 4096) (j : Fin 4096)
    (hi : i.val = t.val / 16 * 1024 + a.val) (hj : j.val = t.val / 4 % 4 * 1024 + b.val) :
    (outsAt0 m c t.val t.isLt).1 (ix2 a b) = ∑ k ∈ Finset.range 16384, term (m ((c : Thread nD τ).loc main_arg0)) (m ((c : Thread nD τ).loc main_arg1)) i j k := by
  have ht := t.isLt
  have h0 := sc_A m c (⟨t.val - 1 - 1 - 1, by omega⟩ : Fin cfg0.N) (by dsimp only; omega)
  have h1 := sc_B m c (⟨t.val - 1 - 1, by omega⟩ : Fin cfg0.N) (by dsimp only; omega) (ix2 a b)
  have h2 := sc_B m c (⟨t.val - 1, by omega⟩ : Fin cfg0.N) (by dsimp only; omega) (ix2 a b)
  have p0 := part_eq m c (⟨t.val - 1 - 1 - 1, by omega⟩ : Fin cfg0.N) a b i j (by dsimp only; omega) (by dsimp only; omega) 0 (by dsimp only; omega)
  have p1 := part_eq m c (⟨t.val - 1 - 1, by omega⟩ : Fin cfg0.N) a b i j (by dsimp only; omega) (by dsimp only; omega) 1 (by dsimp only; omega)
  have p2 := part_eq m c (⟨t.val - 1, by omega⟩ : Fin cfg0.N) a b i j (by dsimp only; omega) (by dsimp only; omega) 2 (by dsimp only; omega)
  have p3 := part_eq m c t a b i j hi hj 3 h
  dsimp only at h0 h1 h2
  rw [out_C m c t h, h2, h1, h0]
  rw [p0, p1, p2, p3, Finset.sum_range_add _ 12288 4096, Finset.sum_range_add _ 8192 4096, Finset.sum_range_add _ 4096 4096]
  simp only [Nat.zero_mul, Nat.zero_add, Nat.one_mul, show 2 * 4096 = 8192 from rfl, show 3 * 4096 = 12288 from rfl]

/-- The result array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have h3 := (flush0_2 t).mp hf
  have hi := idx t
  blk_simp
  rw [after0_2]
  idx_vars y
  unfold G
  refine out_eq m c t h3 y0 y1 _ _ ?_ ?_
  all_goals
    blk_simp [hi]

end Cert.Mlp2FwdIdeal.RefValue

namespace Cert.Mlp2FwdRefIdeal.RefValue

open Cert.Mlp2FwdRefIdeal Cert.Mlp2FwdRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v2) = Cert.Mlp2FwdIdeal.RefValue.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  unfold Cert.Mlp2FwdIdeal.RefValue.G
  rw [Finset.sum_range]
  pointwise
  refine Finset.sum_congr rfl fun k _ => ?_
  unfold Cert.Mlp2FwdIdeal.RefValue.term
  rw [dif_pos k.isLt]

end Cert.Mlp2FwdRefIdeal.RefValue

namespace Cert.Mlp2FwdIdeal.RefValue

open Idealize.ShloMosaic Idealize.SL.Sem

/-- The kernel and the plain reference compute one function. -/
theorem algebraic : Cert.algebraic_Mlp2FwdIdeal_Mlp2FwdRefIdeal (hMlp2FwdIdeal := Cert.Mlp2FwdIdeal.Gen.facts)
    (hMlp2FwdRefIdeal := Cert.Mlp2FwdRefIdeal.Gen.facts) :=
  fun m ρ m' ρ' _ hag => ⟨_, (θ_run _ _ _).mono (fun _ h c => ⟨(h c).1.trans (final m c), (h c).2⟩) (Cert.Mlp2FwdIdeal.Value.run_blocks m ρ),
    (θ_run _ _ _).mono (fun _ h c => ⟨(h c).1.trans (by rw [(hag c).1, (hag c).2]), (h c).2⟩) (Cert.Mlp2FwdRefIdeal.RefValue.run m' ρ')⟩

end Cert.Mlp2FwdIdeal.RefValue

end
-- ==== Proof.ModFwdValue.lean ====
/-
  Hand-written, untrusted. The value of `ModFwdIdeal`: the modulation, which is what `ModFwdRefIdeal` computes on the
  host.
-/
module

public import proofs.«01_k».proof.Defs
public import proofs.«01_k».proof.Proof.Gen.ModFwdIdeal.Value
public import proofs.«01_k».proof.Proof.Gen.ModFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ModFwdIdeal.RefValue

open Cert.ModFwdIdeal Cert.ModFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N,
    win0_0.index t = ![(grid0.coords t 0).val, 0]
    ∧ win0_1.index t = ![0, (grid0.coords t 1).val]
    ∧ win0_2.index t = ![0, (grid0.coords t 1).val]
    ∧ win0_3.index t = ![(grid0.coords t 0).val, (grid0.coords t 1).val] :=
  (by decide +kernel : ∀ t : Fin grid0.N, _)

/-- The product at an index, plus the bias. -/
def G (a : Vec Ideal S16x4096 .f32) (b : Vec Ideal S4096x3072 .f32) (r : Vec Ideal S1x3072 .f32) : Vec Ideal S16x3072 .f32 := fun j =>
  (∑ k : Fin 4096, a (ix2 (j 0) k) * b (ix2 k (j 1))) + r (ix2 0 (j 1))

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  unfold k0_pay1 G
  pointwise
  blk_point [iblk, V, idx t]

end Cert.ModFwdIdeal.RefValue

namespace Cert.ModFwdRefIdeal.RefValue

open Cert.ModFwdRefIdeal Cert.ModFwdRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v2) = Cert.ModFwdIdeal.RefValue.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext j
  idx_vars j
  unfold Cert.ModFwdIdeal.RefValue.G
  pointwise

end Cert.ModFwdRefIdeal.RefValue

namespace Cert.ModFwdIdeal.RefValue

open Idealize.ShloMosaic Idealize.SL.Sem

/-- The kernel and the plain reference compute one function. -/
theorem algebraic : Cert.algebraic_ModFwdIdeal_ModFwdRefIdeal (hModFwdIdeal := Cert.ModFwdIdeal.Gen.facts)
    (hModFwdRefIdeal := Cert.ModFwdRefIdeal.Gen.facts) :=
  fun m ρ m' ρ' _ hag => ⟨_, (θ_run _ _ _).mono (fun _ h c => ⟨(h c).1.trans (final m c), (h c).2⟩) (Cert.ModFwdIdeal.Value.run_blocks m ρ),
    (θ_run _ _ _).mono (fun _ h c => ⟨(h c).1.trans (by rw [(hag c).1, (hag c).2.1, (hag c).2.2]), (h c).2⟩) (Cert.ModFwdRefIdeal.RefValue.run m' ρ')⟩

end Cert.ModFwdIdeal.RefValue

end
-- ==== Proof.LnRow.lean ====
/-
  Hand-written, untrusted. Layer normalisation of one row of numbers, and its derivative: the form a kernel computes and the form
  differentiating the formula line by line gives are one number wherever the row and the cotangent are real.
-/
module

public import proofs.«01_k».proof.Defs
public import Idealize.ShloMosaic.Lib.Pointwise
public import Mathlib.Tactic.Ring
public import Mathlib.Tactic.FieldSimp
public import Mathlib.Tactic.Positivity

@[expose] public section

noncomputable section

namespace Cert.LnRow

open Idealize.ShloMosaic

/-- A sum of real numbers, read as an extended real. -/
theorem coe_sum {n : ℕ} (f : Fin n → ℝ) : ∑ i, (f i : EReal) = ((∑ i, f i : ℝ) : EReal) := by
  refine Finset.induction_on (motive := fun s => ∑ i ∈ s, (f i : EReal) = ((∑ i ∈ s, f i : ℝ) : EReal)) Finset.univ (by simp) ?_
  intro a s ha ih
  rw [Finset.sum_insert ha, Finset.sum_insert ha, ih, EReal.coe_add]

/-- The length of a row, as the programs write it. -/
theorem len_eq : Ideal.ofBits .f32 0x45800000#32 = ((4096 : ℝ) : EReal) := by
  simp [Ideal.ofBits, Ideal.ieee, -EReal.coe_mul]
  norm_num

/-- The length of a narrow row, as the programs write it. -/
theorem len_eq' : Ideal.ofBits .f32 0x45000000#32 = ((2048 : ℝ) : EReal) := by
  simp [Ideal.ofBits, Ideal.ieee, -EReal.coe_mul]
  norm_num

/-- Two, as the programs write it. -/
theorem two_eq : Ideal.ofBits .f32 0x40000000#32 = ((2 : ℝ) : EReal) := by
  simp [Ideal.ofBits, Ideal.ieee, -EReal.coe_mul]
  norm_num

/-- Minus one half, as the programs write it. -/
theorem mhalf_eq : Ideal.ofBits .f32 0xBF000000#32 = ((-1 / 2 : ℝ) : EReal) := by
  simp [Ideal.ofBits, Ideal.ieee, -EReal.coe_mul]
  norm_num

/-- The number added to the variance is real and above zero. -/
theorem eps_eq : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]
  norm_num

/-- The fourth root of two, as the programs write it, is real. -/
theorem alpha_eq : ∃ a : ℝ, Ideal.ofBits .f32 0x3F9837F0#32 = (a : EReal) := by
  refine ⟨(9975792 : ℝ) / 2 ^ 23, ?_⟩
  simp [Ideal.ofBits, Ideal.ieee, -EReal.coe_mul]
  norm_num

/-- The length of a row, and of a narrow row. -/
abbrev len : EReal := Ideal.ofBits .f32 0x45800000#32
abbrev len' : EReal := Ideal.ofBits .f32 0x45000000#32

variable {n : ℕ}

/-- The mean of a row. -/
def mu (L : EReal) (x : Fin n → EReal) : EReal := Ideal.div (∑ k, x k) L

/-- A row less its mean. -/
def xc (L : EReal) (x : Fin n → EReal) (b : Fin n) : EReal := x b - mu L x

/-- The variance of a row, and a little more. -/
def ve (L : EReal) (x : Fin n → EReal) : EReal :=
  Ideal.div (∑ k, xc L x k * xc L x k) L + Ideal.ofBits .f32 0x3727C5AC#32

/-- What scales a row. -/
def rs (L : EReal) (x : Fin n → EReal) : EReal := Ideal.rsqrt (ve L x)

/-- The normalised row. -/
def xh (L : EReal) (x : Fin n → EReal) (b : Fin n) : EReal := xc L x b * rs L x

/-- The derivative in the row along a cotangent of the normalised row, as a kernel computes it. -/
def dx (L : EReal) (x d : Fin n → EReal) (b : Fin n) : EReal :=
  rs L x * (d b - Ideal.div (∑ k, d k) L
    - xh L x b * Ideal.div (∑ k, d k * xh L x k) L)

/-- What the variance passes back. -/
def qv (L : EReal) (x d : Fin n → EReal) : EReal :=
  Ideal.div ((∑ k, xc L x k * d k) * (Ideal.ofBits .f32 0xBF000000#32 * Ideal.div (rs L x) (ve L x))) L

/-- The derivative in the row, line by line. -/
def dr (L : EReal) (x d : Fin n → EReal) (b : Fin n) : EReal :=
  d b * rs L x + qv L x d * (Ideal.ofBits .f32 0x40000000#32 * xc L x b)
    + Ideal.div ((∑ k, -(d k * rs L x)) + ∑ k, -(qv L x d * (Ideal.ofBits .f32 0x40000000#32 * xc L x k))) L

/-- The identity over the real numbers: `c` sums to nothing, `r` squared is one over `v`. -/
theorem real_eq (c d : Fin n → ℝ) (r v : ℝ) (b : Fin n) (hc : ∑ k, c k = 0) (hv : v ≠ 0) (hr : r * r = 1 / v) :
    r * (d b - (∑ k, d k) * (1 / (n : ℝ)) - c b * r * ((∑ k, d k * (c k * r)) * (1 / (n : ℝ))))
      = d b * r + (∑ k, c k * d k) * (-1 / 2 * (r * (1 / v))) * (1 / (n : ℝ)) * (2 * c b)
        + ((∑ k, -(d k * r)) + ∑ k, -((∑ k, c k * d k) * (-1 / 2 * (r * (1 / v))) * (1 / (n : ℝ)) * (2 * c k))) * (1 / (n : ℝ)) := by
  have h1 : ∑ k, d k * (c k * r) = (∑ k, c k * d k) * r := by
    rw [Finset.sum_mul]
    exact Finset.sum_congr rfl fun k _ => by ring
  have h2 : ∑ k, -(d k * r) = -((∑ k, d k) * r) := by
    rw [Finset.sum_neg_distrib, Finset.sum_mul]
  have h3 : ∀ q : ℝ, ∑ k, -(q * (2 * c k)) = 0 := fun q => by
    rw [Finset.sum_neg_distrib, ← Finset.mul_sum, ← Finset.mul_sum, hc, mul_zero, mul_zero, neg_zero]
  rw [h1, h2, h3, ← hr]
  ring

/-- The two forms of the derivative agree on real rows. -/
theorem dx_eq (hn : (n : ℝ) ≠ 0) (L : EReal) (hL : L = ((n : ℝ) : EReal)) (x d : Fin n → ℝ) (b : Fin n) : dx L (fun k => (x k : EReal)) (fun k => (d k : EReal)) b
    = dr L (fun k => (x k : EReal)) (fun k => (d k : EReal)) b := by
  subst hL
  obtain ⟨e, he, hE⟩ := eps_eq
  have h0 : (n : ℝ) ≠ 0 := hn
  have hm : mu ((n : ℝ) : EReal) (fun k => (x k : EReal)) = (((∑ k, x k) * (1 / (n : ℝ)) : ℝ) : EReal) := by
    unfold mu
    rw [Ideal.div_coe h0, coe_sum, ← EReal.coe_mul]
  have hx : ∀ k, xc ((n : ℝ) : EReal) (fun k => (x k : EReal)) k = ((x k - (∑ k, x k) * (1 / (n : ℝ)) : ℝ) : EReal) := fun k => by
    unfold xc
    rw [hm, ← EReal.coe_sub]
  generalize hg : (fun k => x k - (∑ k, x k) * (1 / (n : ℝ))) = c at *
  have hx' : ∀ k, xc ((n : ℝ) : EReal) (fun k => (x k : EReal)) k = (c k : EReal) := fun k => by rw [hx k, ← hg]
  have hc : ∑ k, c k = 0 := by
    rw [← hg, Finset.sum_sub_distrib, Finset.sum_const, Finset.card_univ, Fintype.card_fin, nsmul_eq_mul]
    field_simp
    ring
  have hv : ve ((n : ℝ) : EReal) (fun k => (x k : EReal)) = (((∑ k, c k * c k) * (1 / (n : ℝ)) + e : ℝ) : EReal) := by
    unfold ve
    simp only [hx']
    simp only [Ideal.div_coe h0, ← EReal.coe_mul, coe_sum, hE, ← EReal.coe_add]
  have hp : 0 < (∑ k, c k * c k) * (1 / (n : ℝ)) + e :=
    add_pos_of_nonneg_of_pos (mul_nonneg (Finset.sum_nonneg fun k _ => mul_self_nonneg _) (by positivity)) he
  generalize (∑ k, c k * c k) * (1 / (n : ℝ)) + e = v at hv hp
  have hr : rs ((n : ℝ) : EReal) (fun k => (x k : EReal)) = (((Real.sqrt v)⁻¹ : ℝ) : EReal) := by
    unfold rs
    rw [hv, Ideal.rsqrt_coe, if_neg (not_lt.mpr hp.le), if_neg hp.ne']
  have hrr : (Real.sqrt v)⁻¹ * (Real.sqrt v)⁻¹ = 1 / v := by
    rw [← mul_inv, Real.mul_self_sqrt hp.le, one_div]
  generalize (Real.sqrt v)⁻¹ = r at hr hrr
  unfold dx dr qv xh
  simp only [hx', hr, hv, two_eq, mhalf_eq, Ideal.div_coe h0, Ideal.div_coe hp.ne', ← EReal.coe_mul, coe_sum, ← EReal.coe_add,
    ← EReal.coe_sub, ← EReal.coe_neg]
  exact congrArg _ (real_eq c d r v b hc hp.ne' hrr)

theorem dx_len (x d : Fin 4096 → ℝ) (b : Fin 4096) : dx len (fun k => (x k : EReal)) (fun k => (d k : EReal)) b
    = dr len (fun k => (x k : EReal)) (fun k => (d k : EReal)) b :=
  dx_eq (by norm_num) len (len_eq.trans (by norm_num)) x d b

theorem dx_len' (x d : Fin 2048 → ℝ) (b : Fin 2048) : dx len' (fun k => (x k : EReal)) (fun k => (d k : EReal)) b
    = dr len' (fun k => (x k : EReal)) (fun k => (d k : EReal)) b :=
  dx_eq (by norm_num) len' (len_eq'.trans (by norm_num)) x d b

end Cert.LnRow

end
-- ==== Proof.LnInLatValue.lean ====
/-
  Hand-written, untrusted. The value of `LnInLatIdeal`: the gradient of the first normalisation of the latent rows, with the gradients of
  its four vectors accumulated over the points of the grid, which is what `LnInLatRefIdeal` computes on the host.
-/
module

public import proofs.«01_k».proof.Defs
public import proofs.«01_k».proof.Proof.LnRow
public import proofs.«01_k».proof.Proof.Gen.LnInLatIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnInLatIdeal.RefValue

open Cert.LnInLatIdeal Cert.LnInLatIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, 0] ∧ win0_10.index t = ![0, 0] :=
  (by decide +kernel : ∀ t : Fin grid0.N, _)

/-! ## What the body computes of its blocks -/

theorem pay9_apply (x0 : Vec Ideal S128x4096 .f32) (a : Fin 128) (b : Fin 4096) :
    k0_pay9 x0 (ix2 a b) = LnRow.xh LnRow.len (fun k => x0 (ix2 a k)) b := by
  unfold k0_pay9 k0_pay8 k0_pay7
  pointwise
  rfl

theorem pay8_apply (x0 : Vec Ideal S128x4096 .f32) (a : Fin 128) :
    k0_pay8 x0 (ix2 a 0) = LnRow.rs LnRow.len (fun k => x0 (ix2 a k)) := by
  unfold k0_pay8 k0_pay7
  pointwise
  rfl

theorem pay11_apply (x1 x2 : Vec Ideal S128x4096 .f32) (x5 : Vec Ideal S1x4096 .f32) (a : Fin 128) (b : Fin 4096) :
    k0_pay11 x1 x2 x5 (ix2 a b) = (Ideal.ofBits .f32 0x3F9837F0#32 * x1 (ix2 a b) + x2 (ix2 a b) * (1 + x5 (ix2 0 b)) : EReal) := by
  unfold k0_pay11
  pointwise

theorem pay14_apply (x0 x1 x2 : Vec Ideal S128x4096 .f32) (x3 x5 : Vec Ideal S1x4096 .f32) (a : Fin 128) (b : Fin 4096) :
    k0_pay14 (k0_pay8 x0) (k0_pay9 x0) (k0_pay12 x1 x2 x3 x5) (k0_pay13 x1 x2 x3 x5) (Scalar.ofBits .f32 0x45800000#32) (ix2 a b)
    = LnRow.dx LnRow.len (fun k => x0 (ix2 a k)) (fun k => (k0_pay11 x1 x2 x5 (ix2 a k) : EReal) * x3 (ix2 0 k)) b := by
  unfold k0_pay14 k0_pay13 k0_pay12
  pointwise
  simp only [pay8_apply, pay9_apply]
  rfl

/-- What a point adds to the gradient of the scale. -/
theorem pay19_apply (x0 x2 : Vec Ideal S128x4096 .f32) (x3 x4 y : Vec Ideal S1x4096 .f32) (b : Fin 4096) :
    k0_pay19 x2 (k0_pay10 x0 x3 x4) y (ix2 0 b)
    = (y (ix2 0 b) + ∑ a : Fin 128, x2 (ix2 a b) * (LnRow.xh LnRow.len (fun k => x0 (ix2 a k)) b * x3 (ix2 0 b) + x4 (ix2 0 b)) : EReal) := by
  unfold k0_pay19 k0_pay10
  pointwise
  simp only [pay9_apply]

/-- What a point adds to the gradient of the shift. -/
theorem pay2_apply (x2 : Vec Ideal S128x4096 .f32) (y : Vec Ideal S1x4096 .f32) (b : Fin 4096) :
    k0_pay2 (k0_pay15 x2) y (ix2 0 b) = (y (ix2 0 b) + ∑ a : Fin 128, x2 (ix2 a b) : EReal) := by
  unfold k0_pay2 k0_pay15
  pointwise

/-- What a point adds to the gradient of the normalisation's scale. -/
theorem pay4_apply (x0 d : FVec Ideal S128x4096 .f32) (y : Vec Ideal S1x4096 .f32) (b : Fin 4096) :
    k0_pay4 (k0_pay16 (k0_pay9 x0) d) y (ix2 0 b)
    = (y (ix2 0 b) + ∑ a : Fin 128, d (ix2 a b) * LnRow.xh LnRow.len (fun k => x0 (ix2 a k)) b : EReal) := by
  unfold k0_pay4 k0_pay16
  pointwise
  simp only [pay9_apply]

/-- What a point adds to the gradient of the normalisation's shift. -/
theorem pay6_apply (d : FVec Ideal S128x4096 .f32) (y : Vec Ideal S1x4096 .f32) (b : Fin 4096) :
    k0_pay6 (k0_pay17 d) y (ix2 0 b) = (y (ix2 0 b) + ∑ a : Fin 128, d (ix2 a b) : EReal) := by
  unfold k0_pay6 k0_pay17
  pointwise

/-! ## The results as functions of the arguments -/

/-- The cotangent of the normalised and scaled row. -/
def dn (r : Vec Ideal S4096x4096 .f32) (x : Vec Ideal S4352x4096 .f32) (s : Vec Ideal S1x4096 .f32) (i b : Fin 4096) : EReal :=
  Ideal.ofBits .f32 0x3F9837F0#32 * r (ix2 i b) + x (ix2 ⟨i.val, by omega⟩ b) * (1 + s (ix2 0 b))

/-- A row of an array. -/
def row (x : Vec Ideal S4096x4096 .f32) (i : Fin 4096) : Fin 4096 → EReal := fun k => x (ix2 i k)

/-- The rows' gradient. -/
def Gx (x r : Vec Ideal S4096x4096 .f32) (d : Vec Ideal S4352x4096 .f32) (g s : Vec Ideal S1x4096 .f32) : Vec Ideal S4096x4096 .f32 := fun j =>
  LnRow.dx LnRow.len (row x (j 0)) (fun k => dn r d s (j 0) k * g (ix2 0 k)) (j 1)

/-- What row `i` adds to the gradient of the scale. -/
def T1 (x : Vec Ideal S4096x4096 .f32) (d : Vec Ideal S4352x4096 .f32) (g b0 : Vec Ideal S1x4096 .f32) (b i : Fin 4096) : EReal :=
  d (ix2 ⟨i.val, by omega⟩ b) * (LnRow.xh LnRow.len (row x i) b * g (ix2 0 b) + b0 (ix2 0 b))

/-- What row `i` adds to the gradient of the shift. -/
def T2 (d : Vec Ideal S4352x4096 .f32) (b i : Fin 4096) : EReal := d (ix2 ⟨i.val, by omega⟩ b)

/-- What row `i` adds to the gradient of the normalisation's scale. -/
def T3 (x r : Vec Ideal S4096x4096 .f32) (d : Vec Ideal S4352x4096 .f32) (s : Vec Ideal S1x4096 .f32) (b i : Fin 4096) : EReal :=
  dn r d s i b * LnRow.xh LnRow.len (row x i) b

/-- What row `i` adds to the gradient of the normalisation's shift. -/
def T4 (r : Vec Ideal S4096x4096 .f32) (d : Vec Ideal S4352x4096 .f32) (s : Vec Ideal S1x4096 .f32) (b i : Fin 4096) : EReal := dn r d s i b

/-- Sums over the rows, as a vector. -/
def V (T : Fin 4096 → Fin 4096 → EReal) : Vec Ideal S1x4096 .f32 := fun j => ∑ i : Fin 4096, T (j 1) i

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x4096 .f32 := iblk m c 0 t
def X1 (c : Dev nD) (t : Fin cfg0.N) : Vec Ideal S128x4096 .f32 := iblk m c 1 t
def X2 (c : Dev nD) (t : Fin cfg0.N) : Vec Ideal S128x4096 .f32 := iblk m c 2 t
def X3 (c : Dev nD) (t : Fin cfg0.N) : Vec Ideal S1x4096 .f32 := iblk m c 3 t
def X4 (c : Dev nD) (t : Fin cfg0.N) : Vec Ideal S1x4096 .f32 := iblk m c 4 t
def X5 (c : Dev nD) (t : Fin cfg0.N) : Vec Ideal S1x4096 .f32 := iblk m c 5 t

theorem x0_eq (c : Dev nD) (t : Fin cfg0.N) (a : Fin 128) (k : Fin 4096) :
    X0 m c t (ix2 a k) = m ((c : Thread nD τ).loc main_arg0) (ix2 (at_ t a) k) := by
  unfold X0 at_
  blk_ext [iblk, Gen.V, idx t]
theorem x1_eq (c : Dev nD) (t : Fin cfg0.N) (a : Fin 128) (k : Fin 4096) :
    X1 m c t (ix2 a k) = m ((c : Thread nD τ).loc main_arg1) (ix2 (at_ t a) k) := by
  unfold X1 at_
  blk_ext [iblk, Gen.V, idx t]
theorem x2_eq (c : Dev nD) (t : Fin cfg0.N) (a : Fin 128) (k : Fin 4096) :
    X2 m c t (ix2 a k) = m ((c : Thread nD τ).loc main_arg2) (ix2 ⟨(at_ t a).val, by have := (at_ t a).isLt; omega⟩ k) := by
  unfold X2 at_
  blk_ext [iblk, Gen.V, idx t]
theorem x3_eq (c : Dev nD) (t : Fin cfg0.N) (k : Fin 4096) : X3 m c t (ix2 0 k) = m ((c : Thread nD τ).loc main_arg3) (ix2 0 k) := by
  unfold X3
  blk_ext [iblk, Gen.V, idx t]
theorem x4_eq (c : Dev nD) (t : Fin cfg0.N) (k : Fin 4096) : X4 m c t (ix2 0 k) = m ((c : Thread nD τ).loc main_arg4) (ix2 0 k) := by
  unfold X4
  blk_ext [iblk, Gen.V, idx t]
theorem x5_eq (c : Dev nD) (t : Fin cfg0.N) (k : Fin 4096) : X5 m c t (ix2 0 k) = m ((c : Thread nD τ).loc main_arg5) (ix2 0 k) := by
  unfold X5
  blk_ext [iblk, Gen.V, idx t]

/-- The cotangent at a point. -/
theorem dn_eq (c : Dev nD) (t : Fin cfg0.N) (a : Fin 128) (k : Fin 4096) : k0_pay11 (X1 m c t) (X2 m c t) (X5 m c t) (ix2 a k)
    = dn (m ((c : Thread nD τ).loc main_arg1)) (m ((c : Thread nD τ).loc main_arg2)) (m ((c : Thread nD τ).loc main_arg5)) (at_ t a) k := by
  rw [pay11_apply, x1_eq, x2_eq, x5_eq]
  rfl

/-- The row at a point. -/
theorem row_eq (c : Dev nD) (t : Fin cfg0.N) (a : Fin 128) :
    (fun k => (X0 m c t (ix2 a k) : EReal)) = row (m ((c : Thread nD τ).loc main_arg0)) (at_ t a) :=
  funext fun k => x0_eq m c t a k

/-! ## The rows' gradient -/

/-- What every point leaves of the rows' gradient. -/
theorem out6 (c : Dev nD) (t : Fin cfg0.N) (a : Fin 128) (b : Fin 4096) : (outsAt0 m c t.val t.isLt).1 (ix2 a b)
    = Gx (m ((c : Thread nD τ).loc main_arg0)) (m ((c : Thread nD τ).loc main_arg1)) (m ((c : Thread nD τ).loc main_arg2))
        (m ((c : Thread nD τ).loc main_arg3)) (m ((c : Thread nD τ).loc main_arg5)) (ix2 (at_ t a) b) := by
  have key : k0_pay14 (k0_pay8 (X0 m c t)) (k0_pay9 (X0 m c t)) (k0_pay12 (X1 m c t) (X2 m c t) (X3 m c t) (X5 m c t))
      (k0_pay13 (X1 m c t) (X2 m c t) (X3 m c t) (X5 m c t)) (Scalar.ofBits .f32 0x45800000#32) (ix2 a b)
      = Gx (m ((c : Thread nD τ).loc main_arg0)) (m ((c : Thread nD τ).loc main_arg1)) (m ((c : Thread nD τ).loc main_arg2))
        (m ((c : Thread nD τ).loc main_arg3)) (m ((c : Thread nD τ).loc main_arg5)) (ix2 (at_ t a) b) := by
    rw [pay14_apply, row_eq]
    simp only [dn_eq, x3_eq]
    rfl
  by_cases h : t.val % 32 = 0
  · rw [outsAt0_A m c t h h h h]
    frame_out
    exact key
  · rw [outsAt0_B m c t h h h h]
    frame_out
    exact key

/-- The rows' gradient after the run. -/
theorem final6 (c : Dev nD) : (dats m 0 c).arrAt 6 cfg0.N
    = Gx (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 6 _ (by decide +kernel) fun t hf y => ?_
  have hi := idx t
  blk_simp
  rw [after0_6]
  idx_vars y
  refine (out6 m c t y0 y1).trans (congrArg₂ (fun i b => Gx (m ((c : Thread nD τ).loc main_arg0)) (m ((c : Thread nD τ).loc main_arg1))
    (m ((c : Thread nD τ).loc main_arg2)) (m ((c : Thread nD τ).loc main_arg3)) (m ((c : Thread nD τ).loc main_arg5)) (ix2 i b)) ?_ ?_)
  · apply Fin.ext
    refine (show (at_ t y0).val = 128 * t.val + y0.val from rfl).trans ?_
    blk_simp [hi]
    omega
  · apply Fin.ext
    blk_simp [hi]

/-! ## The vectors' gradients -/

/-- A row's term by the row's number. -/
def ext (T : Fin 4096 → EReal) (k : ℕ) : EReal := if h : k < 4096 then T ⟨k, h⟩ else 0

theorem ext_sum (T : Fin 4096 → EReal) : ∑ k ∈ Finset.range 4096, ext T k = ∑ i : Fin 4096, T i := by
  rw [Finset.sum_range]
  exact Finset.sum_congr rfl fun k _ => dif_pos k.isLt

theorem ext_blk (T : Fin 4096 → EReal) (t : Fin cfg0.N) :
    ∑ a : Fin 128, T (at_ t a) = ∑ q ∈ Finset.range 128, ext T (128 * t.val + q) := by
  rw [Finset.sum_range]
  refine Finset.sum_congr rfl fun a _ => ?_
  exact (dif_pos (at_ t a).isLt : ext T (at_ t a).val = _).symm

/-- A sum that starts at the first point and to which every point adds its rows holds every row after the last. -/
theorem acc (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a)) :
    ∀ (n : ℕ) (hn : n < cfg0.N), o n hn = ∑ k ∈ Finset.range (128 * (n + 1)), ext T k := by
  intro n
  induction n with
  | zero =>
    intro hn
    refine (hA ⟨0, hn⟩ (Nat.zero_mod _)).trans ((ext_blk T ⟨0, hn⟩).trans ?_)
    simp only [Nat.mul_zero, Nat.zero_add, Nat.mul_one]
  | succ n ih =>
    intro hn
    have hN : n + 1 < 32 := lt_of_lt_of_eq hn (show cfg0.N = 32 from N_0)
    refine (hB ⟨n + 1, hn⟩ (by dsimp only; omega)).trans ?_
    rw [ext_blk T ⟨n + 1, hn⟩, Nat.mul_succ 128 (n + 1), Finset.sum_range_add]
    exact congrArg (· + _) (ih (Nat.lt_of_succ_lt hn))

theorem acc_last (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a))
    (t : Fin cfg0.N) (h : t.val % 32 = 31) : o t.val t.isLt = ∑ i : Fin 4096, T i := by
  have ht : t.val < 32 := lt_of_lt_of_eq t.isLt (show cfg0.N = 32 from N_0)
  rw [acc T o hA hB t.val t.isLt, show 128 * (t.val + 1) = 4096 by omega, ext_sum]

/-- Vector 7 after the last point. -/
theorem out7 (c : Dev nD) (t : Fin cfg0.N) (h : t.val % 32 = 31) (b : Fin 4096) : ((outsAt0 m c t.val t.isLt).2.1 (ix2 0 b) : EReal)
    = ∑ i : Fin 4096, T1 (m ((c : Thread nD τ).loc main_arg0)) (m ((c : Thread nD τ).loc main_arg2)) (m ((c : Thread nD τ).loc main_arg3)) (m ((c : Thread nD τ).loc main_arg4)) b i := by
  refine acc_last _ (fun n hn => ((outsAt0 m c n hn).2.1 (ix2 0 b) : EReal)) (fun t h => ?_) (fun t h => ?_) t h
  · rw [outsAt0_A m c t h h h h]
    frame_out
    refine (pay19_apply (X0 m c t) (X2 m c t) (X3 m c t) (X4 m c t) _ b).trans ?_
    simp only [row_eq, x2_eq, x3_eq, x4_eq]
    unfold k0_pay18
    pointwise
    rfl
  · rw [outsAt0_B m c t h h h h]
    frame_out
    refine (pay19_apply (X0 m c t) (X2 m c t) (X3 m c t) (X4 m c t) _ b).trans ?_
    simp only [row_eq, x2_eq, x3_eq, x4_eq]
    rfl

/-- Vector 7 after the run. -/
theorem final7 (c : Dev nD) : (dats m 0 c).arrAt 7 cfg0.N = V (T1 (m ((c : Thread nD τ).loc main_arg0)) (m ((c : Thread nD τ).loc main_arg2)) (m ((c : Thread nD τ).loc main_arg3)) (m ((c : Thread nD τ).loc main_arg4))) := by
  refine (dats m 0 c).arrAt_eq_of_covers 7 _ (by decide +kernel) fun t hf y => ?_
  have h3 := (flush0_7 t).mp hf
  have hi := idx t
  blk_simp
  rw [after0_7]
  idx_vars y
  obtain rfl : y0 = 0 := Subsingleton.elim _ _
  refine (out7 m c t h3 y1).trans ?_
  unfold V
  refine Finset.sum_congr rfl fun k _ => congrArg (fun j => T1 (m ((c : Thread nD τ).loc main_arg0)) (m ((c : Thread nD τ).loc main_arg2)) (m ((c : Thread nD τ).loc main_arg3)) (m ((c : Thread nD τ).loc main_arg4)) j k) ?_
  apply Fin.ext
  blk_simp [hi]

/-- Vector 8 after the last point. -/
theorem out8 (c : Dev nD) (t : Fin cfg0.N) (h : t.val % 32 = 31) (b : Fin 4096) : ((outsAt0 m c t.val t.isLt).2.2.1 (ix2 0 b) : EReal)
    = ∑ i : Fin 4096, T2 (m ((c : Thread nD τ).loc main_arg2)) b i := by
  refine acc_last _ (fun n hn => ((outsAt0 m c n hn).2.2.1 (ix2 0 b) : EReal)) (fun t h => ?_) (fun t h => ?_) t h
  · rw [outsAt0_A m c t h h h h]
    frame_out
    refine (pay2_apply (X2 m c t) _ b).trans ?_
    simp only [x2_eq]
    unfold k0_pay1
    pointwise
    rfl
  · rw [outsAt0_B m c t h h h h]
    frame_out
    refine (pay2_apply (X2 m c t) _ b).trans ?_
    simp only [x2_eq]
    rfl

/-- Vector 8 after the run. -/
theorem final8 (c : Dev nD) : (dats m 0 c).arrAt 8 cfg0.N = V (T2 (m ((c : Thread nD τ).loc main_arg2))) := by
  refine (dats m 0 c).arrAt_eq_of_covers 8 _ (by decide +kernel) fun t hf y => ?_
  have h3 := (flush0_8 t).mp hf
  have hi := idx t
  blk_simp
  rw [after0_8]
  idx_vars y
  obtain rfl : y0 = 0 := Subsingleton.elim _ _
  refine (out8 m c t h3 y1).trans ?_
  unfold V
  refine Finset.sum_congr rfl fun k _ => congrArg (fun j => T2 (m ((c : Thread nD τ).loc main_arg2)) j k) ?_
  apply Fin.ext
  blk_simp [hi]

/-- Vector 9 after the last point. -/
theorem out9 (c : Dev nD) (t : Fin cfg0.N) (h : t.val % 32 = 31) (b : Fin 4096) : ((outsAt0 m c t.val t.isLt).2.2.2.1 (ix2 0 b) : EReal)
    = ∑ i : Fin 4096, T3 (m ((c : Thread nD τ).loc main_arg0)) (m ((c : Thread nD τ).loc main_arg1)) (m ((c : Thread nD τ).loc main_arg2)) (m ((c : Thread nD τ).loc main_arg5)) b i := by
  refine acc_last _ (fun n hn => ((outsAt0 m c n hn).2.2.2.1 (ix2 0 b) : EReal)) (fun t h => ?_) (fun t h => ?_) t h
  · rw [outsAt0_A m c t h h h h]
    frame_out
    refine (pay4_apply (X0 m c t) (k0_pay11 (X1 m c t) (X2 m c t) (X5 m c t)) _ b).trans ?_
    simp only [row_eq, dn_eq]
    unfold k0_pay3
    pointwise
    rfl
  · rw [outsAt0_B m c t h h h h]
    frame_out
    refine (pay4_apply (X0 m c t) (k0_pay11 (X1 m c t) (X2 m c t) (X5 m c t)) _ b).trans ?_
    simp only [row_eq, dn_eq]
    rfl

/-- Vector 9 after the run. -/
theorem final9 (c : Dev nD) : (dats m 0 c).arrAt 9 cfg0.N = V (T3 (m ((c : Thread nD τ).loc main_arg0)) (m ((c : Thread nD τ).loc main_arg1)) (m ((c : Thread nD τ).loc main_arg2)) (m ((c : Thread nD τ).loc main_arg5))) := by
  refine (dats m 0 c).arrAt_eq_of_covers 9 _ (by decide +kernel) fun t hf y => ?_
  have h3 := (flush0_9 t).mp hf
  have hi := idx t
  blk_simp
  rw [after0_9]
  idx_vars y
  obtain rfl : y0 = 0 := Subsingleton.elim _ _
  refine (out9 m c t h3 y1).trans ?_
  unfold V
  refine Finset.sum_congr rfl fun k _ => congrArg (fun j => T3 (m ((c : Thread nD τ).loc main_arg0)) (m ((c : Thread nD τ).loc main_arg1)) (m ((c : Thread nD τ).loc main_arg2)) (m ((c : Thread nD τ).loc main_arg5)) j k) ?_
  apply Fin.ext
  blk_simp [hi]

/-- Vector 10 after the last point. -/
theorem out10 (c : Dev nD) (t : Fin cfg0.N) (h : t.val % 32 = 31) (b : Fin 4096) : ((outsAt0 m c t.val t.isLt).2.2.2.2 (ix2 0 b) : EReal)
    = ∑ i : Fin 4096, T4 (m ((c : Thread nD τ).loc main_arg1)) (m ((c : Thread nD τ).loc main_arg2)) (m ((c : Thread nD τ).loc main_arg5)) b i := by
  refine acc_last _ (fun n hn => ((outsAt0 m c n hn).2.2.2.2 (ix2 0 b) : EReal)) (fun t h => ?_) (fun t h => ?_) t h
  · rw [outsAt0_A m c t h h h h]
    frame_out
    refine (pay6_apply (k0_pay11 (X1 m c t) (X2 m c t) (X5 m c t)) _ b).trans ?_
    simp only [dn_eq]
    unfold k0_pay5
    pointwise
    rfl
  · rw [outsAt0_B m c t h h h h]
    frame_out
    refine (pay6_apply (k0_pay11 (X1 m c t) (X2 m c t) (X5 m c t)) _ b).trans ?_
    simp only [dn_eq]
    rfl

/-- Vector 10 after the run. -/
theorem final10 (c : Dev nD) : (dats m 0 c).arrAt 10 cfg0.N = V (T4 (m ((c : Thread nD τ).loc main_arg1)) (m ((c : Thread nD τ).loc main_arg2)) (m ((c : Thread nD τ).loc main_arg5))) := by
  refine (dats m 0 c).arrAt_eq_of_covers 10 _ (by decide +kernel) fun t hf y => ?_
  have h3 := (flush0_10 t).mp hf
  have hi := idx t
  blk_simp
  rw [after0_10]
  idx_vars y
  obtain rfl : y0 = 0 := Subsingleton.elim _ _
  refine (out10 m c t h3 y1).trans ?_
  unfold V
  refine Finset.sum_congr rfl fun k _ => congrArg (fun j => T4 (m ((c : Thread nD τ).loc main_arg1)) (m ((c : Thread nD τ).loc main_arg2)) (m ((c : Thread nD τ).loc main_arg5)) j k) ?_
  apply Fin.ext
  blk_simp [hi]

end Cert.LnInLatIdeal.RefValue

end
-- ==== Proof.LnInLatRef.lean ====
/-
  Hand-written, untrusted. The value of `LnInLatRefIdeal`: the derivative of the first normalisation of the latent rows, line by line.
-/
module

public import proofs.«01_k».proof.Defs
public import proofs.«01_k».proof.Proof.LnInLatValue
public import proofs.«01_k».proof.Proof.Gen.LnInLatRefIdeal.Run
public import Idealize.ShloMosaic.Lib.Pointwise

@[expose] public section

set_option maxRecDepth 16384

noncomputable section

namespace Cert.LnInLatRefIdeal.RefValue

open Cert.LnInLatRefIdeal Cert.LnInLatRefIdeal.Gen
open Cert.LnInLatIdeal.RefValue (dn row Gx T1 T2 T3 T4 V)
open Idealize.ShloMosaic Idealize.ShloMosaic.TcCoe Idealize.SL.Sem

variable (m : (ℓ : Loc nD τ sig) → Buf (Elt Ideal) ℓ) (ρ : Dev nD → PrngReg)

/-- The cotangent with its two parts the other way round. -/
theorem swap (r : Vec Ideal S4096x4096 .f32) (x : Vec Ideal S4352x4096 .f32) (s g : Vec Ideal S1x4096 .f32) (a : Fin 4096) :
    (fun k => dn r x s a k * g (ix2 0 k))
      = fun k => ((x (ix2 ⟨a.val, by omega⟩ k) * (1 + s (ix2 0 k)) + Ideal.ofBits .f32 0x3F9837F0#32 * r (ix2 a k)) * g (ix2 0 k) : EReal) :=
  funext fun _ => congrArg (· * _) (add_comm _ _)

set_option maxHeartbeats 1000000 in
/-- The rows' gradient, line by line. -/
theorem res_eq (c : Dev nD) (a b : Fin 4096) : Value.res_main_v77 m c (ix2 a b)
    = LnRow.dr LnRow.len (row (m ((c.tc : Thread nD τ).loc main_arg0)) a)
        (fun k => dn (m ((c.tc : Thread nD τ).loc main_arg1)) (m ((c.tc : Thread nD τ).loc main_arg2)) (m ((c.tc : Thread nD τ).loc main_arg5)) a k
          * m ((c.tc : Thread nD τ).loc main_arg3) (ix2 0 k)) b := by
  refine Eq.trans ?_ (congrArg (fun d => LnRow.dr LnRow.len (row (m ((c.tc : Thread nD τ).loc main_arg0)) a) d b) (swap _ _ _ _ a).symm)
  unfold Value.res_main_v77
  pointwise
  simp only [Finset.univ_unique, Finset.sum_singleton]
  rfl

/-- The host's run leaves the same functions of its arguments. -/
theorem run : θ_run defs (onTc (τ := τ) (main (F := Ideal))) ⟨m, fun _ => 0, ρ⟩ fun r => ∀ c : Dev nD,
      r.2.mem ((c.tc : Thread nD τ).loc main_v77) = Value.res_main_v77 m c
      ∧ r.2.mem ((c.tc : Thread nD τ).loc main_v41) = V (T1 (m ((c.tc : Thread nD τ).loc main_arg0)) (m ((c.tc : Thread nD τ).loc main_arg2))
          (m ((c.tc : Thread nD τ).loc main_arg3)) (m ((c.tc : Thread nD τ).loc main_arg4)))
      ∧ r.2.mem ((c.tc : Thread nD τ).loc main_v38) = V (T2 (m ((c.tc : Thread nD τ).loc main_arg2)))
      ∧ r.2.mem ((c.tc : Thread nD τ).loc main_v51) = V (T3 (m ((c.tc : Thread nD τ).loc main_arg0)) (m ((c.tc : Thread nD τ).loc main_arg1))
          (m ((c.tc : Thread nD τ).loc main_arg2)) (m ((c.tc : Thread nD τ).loc main_arg5)))
      ∧ r.2.mem ((c.tc : Thread nD τ).loc main_v48) = V (T4 (m ((c.tc : Thread nD τ).loc main_arg1))
          (m ((c.tc : Thread nD τ).loc main_arg2)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1, (h c).2.1.trans ?_, (h c).2.2.1.trans ?_, (h c).2.2.2.1.trans ?_,
    (h c).2.2.2.2.1.trans ?_, (h c).2.2.2.2.2⟩) (Value.run m ρ)
  all_goals
    funext j
    idx_vars j
    unfold V
    pointwise
    refine Finset.sum_congr rfl fun i _ => ?_
  · unfold T1
    exact EReal.mul_comm _ _
  · rfl
  · unfold T3 dn
    rw [EReal.mul_comm]
    exact congrArg (· * _) (add_comm _ _)
  · unfold T4 dn
    exact add_comm _ _

end Cert.LnInLatRefIdeal.RefValue

end
-- ==== Proof.LnInLatAlg.lean ====
/-
  Hand-written, untrusted. `LnInLatIdeal` and `LnInLatRefIdeal` compute one function of real arguments.
-/
module

public import proofs.«01_k».proof.Defs
public import proofs.«01_k».proof.Proof.LnInLatRef
public import Idealize.ShloMosaic.Lib.ReduceAll

@[expose] public section

set_option maxRecDepth 200000

noncomputable section

namespace Cert.Pre_ln_in_finite

open Idealize.ShloMosaic

/-- The precondition's side conditions hold. -/
theorem facts : Facts where
  bcast_S_S4096x4096 := by decide
  reducesTo_S4096x4096_S_d0_1 := by decide
  h_S_ := by decide
  bcast_S_S4352x4096 := by decide
  reducesTo_S4352x4096_S_d0_1 := by decide
  bcast_S_S1x4096 := by decide
  reducesTo_S1x4096_S_d0_1 := by decide

instance : Subsingleton S_.Idx := ⟨fun a b => funext fun k => k.elim0⟩

/-- A number whose absolute value is below infinity is real. -/
theorem real_of (x : EReal) (h : Ideal.cmp .olt (max x (-x)) (FloatOps.ofBits (F := Ideal) .f32 0x7F800000#32) = 1#1) :
    ∃ r : ℝ, x = (r : EReal) := by
  have htop : (FloatOps.ofBits (F := Ideal) .f32 0x7F800000#32 : EReal) = ⊤ := by
    show Ideal.ofBits .f32 0x7F800000#32 = ⊤
    simp [Ideal.ofBits, Ideal.ieee]
  rw [htop] at h
  have h1 : max x (-x) < ⊤ := of_decide_eq_true (Bool.eq_true_of_not_eq_false fun e => by
    rw [show Ideal.cmp .olt (max x (-x)) ⊤ = BitVec.ofBool (decide (max x (-x) < ⊤)) from rfl, e] at h
    exact absurd h (by decide))
  have h2 := max_lt_iff.mp h1
  refine ⟨x.toReal, (EReal.coe_toReal h2.1.ne fun e => ?_).symm⟩
  rw [e] at h2
  exact absurd h2.2 (by simp)

variable [Facts]
open Facts

/-- Whether each number is below infinity. -/
def small (s : Shape) (h : S_.BroadcastsInDim s (![] : Fin 0 → Fin s.rank)) (x : FVec Ideal s .f32) : IVec s 1 :=
  cmpf .olt (Host.absf x) (broadcastInDim s ![] h (constant S_ .f32 0x7F800000#32))

/-- Whether every number is below infinity. -/
def every (s : Shape) (d : List (Fin s.rank)) (h : S_.BroadcastsInDim s (![] : Fin 0 → Fin s.rank)) (hr : s.ReducesTo d S_) (x : FVec Ideal s .f32) : IVec S_ 1 :=
  Host.reduce IntOp.andi (small s h x) (constantI S_ 1 1#1) hr h_S_

/-- What the precondition says. -/
theorem real (x0 x1 : FVec Ideal S4096x4096 .f32) (x2 : FVec Ideal S4352x4096 .f32) (x3 x4 x5 : FVec Ideal S1x4096 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x5 i = (r : EReal)) := by
  have two : ∀ a b : BitVec 1, a &&& b = 1#1 → a = 1#1 ∧ b = 1#1 := by decide
  have e0 : fn (F := Ideal) x0 x1 x2 x3 x4 x5 = andi (andi (andi (andi (andi
      (every S4096x4096 [0, 1] bcast_S_S4096x4096 reducesTo_S4096x4096_S_d0_1 x0)
      (every S4096x4096 [0, 1] bcast_S_S4096x4096 reducesTo_S4096x4096_S_d0_1 x1))
      (every S4352x4096 [0, 1] bcast_S_S4352x4096 reducesTo_S4352x4096_S_d0_1 x2))
      (every S1x4096 [0, 1] bcast_S_S1x4096 reducesTo_S1x4096_S_d0_1 x3))
      (every S1x4096 [0, 1] bcast_S_S1x4096 reducesTo_S1x4096_S_d0_1 x4))
      (every S1x4096 [0, 1] bcast_S_S1x4096 reducesTo_S1x4096_S_d0_1 x5) := rfl
  have e := congrFun (e0.symm.trans h) (Shape.Idx.first h_S_)
  obtain ⟨e, h5⟩ := two _ _ e
  obtain ⟨e, h4⟩ := two _ _ e
  obtain ⟨e, h3⟩ := two _ _ e
  obtain ⟨e, h2⟩ := two _ _ e
  obtain ⟨h0, h1⟩ := two _ _ e
  refine ⟨fun i => real_of _ (Host.reduce_andi_all (small _ _ x0) (constantI S_ 1 1#1) _ h_S_ (Shape.Idx.first h_S_) h0 i),
    fun i => real_of _ (Host.reduce_andi_all (small _ _ x1) (constantI S_ 1 1#1) _ h_S_ (Shape.Idx.first h_S_) h1 i),
    fun i => real_of _ (Host.reduce_andi_all (small _ _ x2) (constantI S_ 1 1#1) _ h_S_ (Shape.Idx.first h_S_) h2 i),
    fun i => real_of _ (Host.reduce_andi_all (small _ _ x3) (constantI S_ 1 1#1) _ h_S_ (Shape.Idx.first h_S_) h3 i),
    fun i => real_of _ (Host.reduce_andi_all (small _ _ x5) (constantI S_ 1 1#1) _ h_S_ (Shape.Idx.first h_S_) h5 i)⟩

end Cert.Pre_ln_in_finite

namespace Cert.LnInLatIdeal.RefValue

open Idealize.ShloMosaic Idealize.SL.Sem

/-- On real arguments the rows' gradient is the derivative line by line. -/
theorem Gx_eq (x r : Vec Ideal Cert.LnInLatIdeal.S4096x4096 .f32) (d : Vec Ideal Cert.LnInLatIdeal.S4352x4096 .f32) (g s : Vec Ideal Cert.LnInLatIdeal.S1x4096 .f32)
    (hx : ∀ i, ∃ q : ℝ, x i = (q : EReal)) (hr : ∀ i, ∃ q : ℝ, r i = (q : EReal)) (hd : ∀ i, ∃ q : ℝ, d i = (q : EReal))
    (hg : ∀ i, ∃ q : ℝ, g i = (q : EReal)) (hs : ∀ i, ∃ q : ℝ, s i = (q : EReal)) (a b : Fin 4096) :
    Gx x r d g s (ix2 a b) = LnRow.dr LnRow.len (row x a) (fun k => dn r d s a k * g (ix2 0 k)) b := by
  choose X hX using hx
  choose R hR using hr
  choose D hD using hd
  choose G hG using hg
  choose S hS using hs
  obtain ⟨al, hal⟩ := LnRow.alpha_eq
  have e1 : row x a = fun k => ((X (ix2 a k) : ℝ) : EReal) := funext fun k => hX _
  have e2 : (fun k => dn r d s a k * (g (ix2 0 k) : EReal))
      = fun k => (((al * R (ix2 a k) + D (ix2 ⟨a.val, by omega⟩ k) * (1 + S (ix2 0 k))) * G (ix2 0 k) : ℝ) : EReal) := by
    funext k
    unfold dn
    rw [hal, hR, hD, hS, hG]
    push_cast
    rfl
  show LnRow.dx LnRow.len (row x a) (fun k => dn r d s a k * (g (ix2 0 k) : EReal)) b = _
  rw [e1, e2]
  exact LnRow.dx_len _ _ _

/-- The kernel and the derivative of the plain reference compute one function. -/
theorem algebraic : Cert.algebraic_LnInLatIdeal_LnInLatRefIdeal_pre_ln_in_finite (hLnInLatIdeal := Cert.LnInLatIdeal.Gen.facts)
    (hLnInLatRefIdeal := Cert.LnInLatRefIdeal.Gen.facts) (hPre_ln_in_finite := Cert.Pre_ln_in_finite.facts) := by
  intro m ρ m' ρ' hpre hag
  refine ⟨_, _, _, _, _, (θ_run _ _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (Cert.LnInLatIdeal.Value.run_blocks m ρ),
    (θ_run _ _ _).mono (fun _ h c => ⟨(h c).1.trans ?_, (h c).2.1.trans ?_, (h c).2.2.1.trans ?_, (h c).2.2.2.1.trans ?_,
      (h c).2.2.2.2.1.trans ?_, (h c).2.2.2.2.2⟩) (Cert.LnInLatRefIdeal.RefValue.run m' ρ')⟩
  · obtain ⟨a0, a1, a2, a3, a4, a5⟩ := hag c
    haveI := Cert.Pre_ln_in_finite.facts
    obtain ⟨r0, r1, r2, r3, r5⟩ := Cert.Pre_ln_in_finite.real _ _ _ _ _ _ (hpre c)
    funext j
    idx_vars j
    rw [Cert.LnInLatRefIdeal.RefValue.res_eq, a0, a1, a2, a3, a5]
    exact (Gx_eq _ _ _ _ _ r0 r1 r2 r3 r5 j0 j1).symm
  all_goals
    obtain ⟨a0, a1, a2, a3, a4, a5⟩ := hag c
    simp only [a0, a1, a2, a3, a4, a5]

end Cert.LnInLatIdeal.RefValue

end
-- ==== Proof.LnInCtxValue.lean ====
/-
  Hand-written, untrusted. The value of `LnInCtxIdeal`: the gradients of the four vectors of the first normalisation, over the context rows, which is what
  `LnInCtxRefIdeal` computes on the host.
-/
module

public import proofs.«01_k».proof.Defs
public import proofs.«01_k».proof.Proof.LnRow
public import proofs.«01_k».proof.Proof.Gen.LnInCtxIdeal.Value
public import proofs.«01_k».proof.Proof.Gen.LnInCtxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnInCtxIdeal.RefValue

open Cert.LnInCtxIdeal Cert.LnInCtxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val + 32, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-! ## What the body computes of its blocks -/

theorem pay3_apply (x0 : Vec Ideal S128x4096 .f32) (a : Fin 128) (b : Fin 4096) :
    k0_pay3 x0 (ix2 a b) = LnRow.xh LnRow.len (fun k => x0 (ix2 a k)) b := by
  unfold k0_pay3
  pointwise
  rfl

/-- What a point adds to the gradient of the scale. -/
theorem pay11_apply (x0 x1 : Vec Ideal S128x4096 .f32) (x2 x3 y : Vec Ideal S1x4096 .f32) (b : Fin 4096) :
    k0_pay11 (k0_pay5 x0 x1 x2 x3) y (ix2 0 b)
    = (y (ix2 0 b) + ∑ a : Fin 128, x1 (ix2 a b) * (LnRow.xh LnRow.len (fun k => x0 (ix2 a k)) b * x2 (ix2 0 b) + x3 (ix2 0 b)) : EReal) := by
  unfold k0_pay11 k0_pay5
  pointwise
  simp only [pay3_apply]

/-- What a point adds to the gradient of the shift. -/
theorem pay13_apply (x1 : Vec Ideal S128x4096 .f32) (y : Vec Ideal S1x4096 .f32) (b : Fin 4096) :
    k0_pay13 (k0_pay6 x1) y (ix2 0 b) = (y (ix2 0 b) + ∑ a : Fin 128, x1 (ix2 a b) : EReal) := by
  unfold k0_pay13 k0_pay6
  pointwise

/-- What a point adds to the gradient of the normalisation's scale. -/
theorem pay15_apply (x0 x1 : Vec Ideal S128x4096 .f32) (x4 y : Vec Ideal S1x4096 .f32) (b : Fin 4096) :
    k0_pay15 (k0_pay7 x0 x1 x4) y (ix2 0 b)
    = (y (ix2 0 b) + ∑ a : Fin 128, x1 (ix2 a b) * (1 + x4 (ix2 0 b)) * LnRow.xh LnRow.len (fun k => x0 (ix2 a k)) b : EReal) := by
  unfold k0_pay15 k0_pay7 k0_pay4
  pointwise
  simp only [pay3_apply]

/-- What a point adds to the gradient of the normalisation's shift. -/
theorem pay2_apply (x1 : Vec Ideal S128x4096 .f32) (x4 y : Vec Ideal S1x4096 .f32) (b : Fin 4096) :
    k0_pay2 (k0_pay9 (k0_pay8 x1 x4)) y (ix2 0 b) = (y (ix2 0 b) + ∑ a : Fin 128, x1 (ix2 a b) * (1 + x4 (ix2 0 b)) : EReal) := by
  unfold k0_pay2 k0_pay9 k0_pay8 k0_pay4
  pointwise

/-! ## The results as functions of the arguments -/

/-- A row of an array. -/
def row (x : Vec Ideal S256x4096 .f32) (i : Fin 256) : Fin 4096 → EReal := fun k => x (ix2 i k)

/-- A context row of the cotangent. -/
def ct (d : Vec Ideal S4352x4096 .f32) (i : Fin 256) (b : Fin 4096) : EReal := d (ix2 ⟨4096 + i.val, by omega⟩ b)

/-- What row `i` adds to the gradient of the scale. -/
def T1 (x : Vec Ideal S256x4096 .f32) (d : Vec Ideal S4352x4096 .f32) (g b0 : Vec Ideal S1x4096 .f32) (b : Fin 4096) (i : Fin 256) : EReal :=
  ct d i b * (LnRow.xh LnRow.len (row x i) b * g (ix2 0 b) + b0 (ix2 0 b))

/-- What row `i` adds to the gradient of the shift. -/
def T2 (d : Vec Ideal S4352x4096 .f32) (b : Fin 4096) (i : Fin 256) : EReal := ct d i b

/-- What row `i` adds to the gradient of the normalisation's scale. -/
def T3 (x : Vec Ideal S256x4096 .f32) (d : Vec Ideal S4352x4096 .f32) (s : Vec Ideal S1x4096 .f32) (b : Fin 4096) (i : Fin 256) : EReal :=
  ct d i b * (1 + s (ix2 0 b)) * LnRow.xh LnRow.len (row x i) b

/-- What row `i` adds to the gradient of the normalisation's shift. -/
def T4 (d : Vec Ideal S4352x4096 .f32) (s : Vec Ideal S1x4096 .f32) (b : Fin 4096) (i : Fin 256) : EReal := ct d i b * (1 + s (ix2 0 b))

/-- Sums over the rows, as a vector. -/
def V (T : Fin 4096 → Fin 256 → EReal) : Vec Ideal S1x4096 .f32 := fun j => ∑ i : Fin 256, T (j 1) i

/-! ## The blocks of a point -/

/-- Row `a` of the block of point `t`. -/
def at_ (t : Fin cfg0.N) (a : Fin 128) : Fin 256 :=
  ⟨128 * t.val + a.val, by have := lt_of_lt_of_eq t.isLt (show cfg0.N = 2 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = ct (m ((c : Thread nD τ).loc main_arg1)) (at_ t a) k := by
  unfold X1 ct at_
  blk_ext [iblk, Gen.V, idx t]
def X2 (c : Dev nD) (t : Fin cfg0.N) : Vec Ideal S1x4096 .f32 := iblk m c 2 t
theorem x2_eq (c : Dev nD) (t : Fin cfg0.N) (k : Fin 4096) : X2 m c t (ix2 0 k) = (m ((c : Thread nD τ).loc main_arg2)) (ix2 0 k) := by
  unfold X2
  blk_ext [iblk, Gen.V, idx t]
def X3 (c : Dev nD) (t : Fin cfg0.N) : Vec Ideal S1x4096 .f32 := iblk m c 3 t
theorem x3_eq (c : Dev nD) (t : Fin cfg0.N) (k : Fin 4096) : X3 m c t (ix2 0 k) = (m ((c : Thread nD τ).loc main_arg3)) (ix2 0 k) := by
  unfold X3
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]

/-- The row at a point. -/
theorem row_eq (c : Dev nD) (t : Fin cfg0.N) (a : Fin 128) :
    (fun k => (X0 m c t (ix2 a k) : EReal)) = row (m ((c : Thread nD τ).loc main_arg0)) (at_ t a) :=
  funext fun k => x0_eq m c t a k

/-! ## Sums over the rows -/

/-- A row's term by the row's number. -/
def ext (T : Fin 256 → EReal) (k : ℕ) : EReal := if h : k < 256 then T ⟨k, h⟩ else 0

theorem ext_sum (T : Fin 256 → EReal) : ∑ k ∈ Finset.range 256, ext T k = ∑ i : Fin 256, T i := by
  rw [Finset.sum_range]
  exact Finset.sum_congr rfl fun k _ => dif_pos k.isLt

theorem ext_blk (T : Fin 256 → EReal) (t : Fin cfg0.N) :
    ∑ a : Fin 128, T (at_ t a) = ∑ q ∈ Finset.range 128, ext T (128 * t.val + q) := by
  rw [Finset.sum_range]
  refine Finset.sum_congr rfl fun a _ => ?_
  exact (dif_pos (at_ t a).isLt : ext T (at_ t a).val = _).symm

/-- A sum that starts at the first point and to which every point adds its rows holds every row after the last. -/
theorem acc (T : Fin 256 → EReal) (o : (n : ℕ) → n < cfg0.N → EReal)
    (hA : ∀ t : Fin cfg0.N, t.val % 2 = 0 → o t.val t.isLt = ∑ a : Fin 128, T (at_ t a))
    (hB : ∀ t : Fin cfg0.N, ¬ t.val % 2 = 0 →
      o t.val t.isLt = o (t.val - 1) (Nat.lt_of_le_of_lt (Nat.sub_le _ _) t.isLt) + ∑ a : Fin 128, T (at_ t a)) :
    ∀ (n : ℕ) (hn : n < cfg0.N), o n hn = ∑ k ∈ Finset.range (128 * (n + 1)), ext T k := by
  intro n
  induction n with
  | zero =>
    intro hn
    refine (hA ⟨0, hn⟩ (Nat.zero_mod _)).trans ((ext_blk T ⟨0, hn⟩).trans ?_)
    simp only [Nat.mul_zero, Nat.zero_add, Nat.mul_one]
  | succ n ih =>
    intro hn
    have hN : n + 1 < 2 := lt_of_lt_of_eq hn (show cfg0.N = 2 from N_0)
    refine (hB ⟨n + 1, hn⟩ (by dsimp only; omega)).trans ?_
    rw [ext_blk T ⟨n + 1, hn⟩, Nat.mul_succ 128 (n + 1), Finset.sum_range_add]
    exact congrArg (· + _) (ih (Nat.lt_of_succ_lt hn))

theorem acc_last (T : Fin 256 → EReal) (o : (n : ℕ) → n < cfg0.N → EReal)
    (hA : ∀ t : Fin cfg0.N, t.val % 2 = 0 → o t.val t.isLt = ∑ a : Fin 128, T (at_ t a))
    (hB : ∀ t : Fin cfg0.N, ¬ t.val % 2 = 0 →
      o t.val t.isLt = o (t.val - 1) (Nat.lt_of_le_of_lt (Nat.sub_le _ _) t.isLt) + ∑ a : Fin 128, T (at_ t a))
    (t : Fin cfg0.N) (h : t.val % 2 = 1) : o t.val t.isLt = ∑ i : Fin 256, T i := by
  have ht : t.val < 2 := lt_of_lt_of_eq t.isLt (show cfg0.N = 2 from N_0)
  rw [acc T o hA hB t.val t.isLt, show 128 * (t.val + 1) = 256 by omega, ext_sum]

/-- Vector 5 after the last point. -/
theorem out5 (c : Dev nD) (t : Fin cfg0.N) (h : t.val % 2 = 1) (b : Fin 4096) : ((outsAt0 m c t.val t.isLt).1 (ix2 0 b) : EReal)
    = ∑ i : Fin 256, T1 (m ((c : Thread nD τ).loc main_arg0)) (m ((c : Thread nD τ).loc main_arg1)) (m ((c : Thread nD τ).loc main_arg2)) (m ((c : Thread nD τ).loc main_arg3)) b i := by
  refine acc_last _ (fun n hn => ((outsAt0 m c n hn).1 (ix2 0 b) : EReal)) (fun t h => ?_) (fun t h => ?_) t h
  · rw [outsAt0_A m c t h h h h]
    frame_out
    refine (pay11_apply (X0 m c t) (X1 m c t) (X2 m c t) (X3 m c t) _ b).trans ?_
    simp only [row_eq, x1_eq, x2_eq, x3_eq]
    unfold k0_pay10
    pointwise
    rfl
  · rw [outsAt0_B m c t h h h h]
    frame_out
    refine (pay11_apply (X0 m c t) (X1 m c t) (X2 m c t) (X3 m c t) _ b).trans ?_
    simp only [row_eq, x1_eq, x2_eq, x3_eq]
    rfl

/-- Vector 5 after the run. -/
theorem final5 (c : Dev nD) : (dats m 0 c).arrAt 5 cfg0.N = V (T1 (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have h3 := (flush0_5 t).mp hf
  have hi := idx t
  blk_simp
  rw [after0_5]
  idx_vars y
  obtain rfl : y0 = 0 := Subsingleton.elim _ _
  refine (out5 m c t h3 y1).trans ?_
  unfold V
  refine Finset.sum_congr rfl fun k _ => congrArg (fun j => T1 (m ((c : Thread nD τ).loc main_arg0)) (m ((c : Thread nD τ).loc main_arg1)) (m ((c : Thread nD τ).loc main_arg2)) (m ((c : Thread nD τ).loc main_arg3)) j k) ?_
  apply Fin.ext
  blk_simp [hi]

/-- Vector 6 after the last point. -/
theorem out6 (c : Dev nD) (t : Fin cfg0.N) (h : t.val % 2 = 1) (b : Fin 4096) : ((outsAt0 m c t.val t.isLt).2.1 (ix2 0 b) : EReal)
    = ∑ i : Fin 256, T2 (m ((c : Thread nD τ).loc main_arg1)) b i := by
  refine acc_last _ (fun n hn => ((outsAt0 m c n hn).2.1 (ix2 0 b) : EReal)) (fun t h => ?_) (fun t h => ?_) t h
  · rw [outsAt0_A m c t h h h h]
    frame_out
    refine (pay13_apply (X1 m c t) _ b).trans ?_
    simp only [x1_eq]
    unfold k0_pay12
    pointwise
    rfl
  · rw [outsAt0_B m c t h h h h]
    frame_out
    refine (pay13_apply (X1 m c t) _ b).trans ?_
    simp only [x1_eq]
    rfl

/-- Vector 6 after the run. -/
theorem final6 (c : Dev nD) : (dats m 0 c).arrAt 6 cfg0.N = V (T2 (m ((c : Thread nD τ).loc main_arg1))) := by
  refine (dats m 0 c).arrAt_eq_of_covers 6 _ (by decide +kernel) fun t hf y => ?_
  have h3 := (flush0_6 t).mp hf
  have hi := idx t
  blk_simp
  rw [after0_6]
  idx_vars y
  obtain rfl : y0 = 0 := Subsingleton.elim _ _
  refine (out6 m c t h3 y1).trans ?_
  unfold V
  refine Finset.sum_congr rfl fun k _ => congrArg (fun j => T2 (m ((c : Thread nD τ).loc main_arg1)) j k) ?_
  apply Fin.ext
  blk_simp [hi]

/-- Vector 7 after the last point. -/
theorem out7 (c : Dev nD) (t : Fin cfg0.N) (h : t.val % 2 = 1) (b : Fin 4096) : ((outsAt0 m c t.val t.isLt).2.2.1 (ix2 0 b) : EReal)
    = ∑ i : Fin 256, T3 (m ((c : Thread nD τ).loc main_arg0)) (m ((c : Thread nD τ).loc main_arg1)) (m ((c : Thread nD τ).loc main_arg4)) b i := by
  refine acc_last _ (fun n hn => ((outsAt0 m c n hn).2.2.1 (ix2 0 b) : EReal)) (fun t h => ?_) (fun t h => ?_) t h
  · rw [outsAt0_A m c t h h h h]
    frame_out
    refine (pay15_apply (X0 m c t) (X1 m c t) (X4 m c t) _ b).trans ?_
    simp only [row_eq, x1_eq, x4_eq]
    unfold k0_pay14
    pointwise
    rfl
  · rw [outsAt0_B m c t h h h h]
    frame_out
    refine (pay15_apply (X0 m c t) (X1 m c t) (X4 m c t) _ b).trans ?_
    simp only [row_eq, x1_eq, x4_eq]
    rfl

/-- Vector 7 after the run. -/
theorem final7 (c : Dev nD) : (dats m 0 c).arrAt 7 cfg0.N = V (T3 (m ((c : Thread nD τ).loc main_arg0)) (m ((c : Thread nD τ).loc main_arg1)) (m ((c : Thread nD τ).loc main_arg4))) := by
  refine (dats m 0 c).arrAt_eq_of_covers 7 _ (by decide +kernel) fun t hf y => ?_
  have h3 := (flush0_7 t).mp hf
  have hi := idx t
  blk_simp
  rw [after0_7]
  idx_vars y
  obtain rfl : y0 = 0 := Subsingleton.elim _ _
  refine (out7 m c t h3 y1).trans ?_
  unfold V
  refine Finset.sum_congr rfl fun k _ => congrArg (fun j => T3 (m ((c : Thread nD τ).loc main_arg0)) (m ((c : Thread nD τ).loc main_arg1)) (m ((c : Thread nD τ).loc main_arg4)) j k) ?_
  apply Fin.ext
  blk_simp [hi]

/-- Vector 8 after the last point. -/
theorem out8 (c : Dev nD) (t : Fin cfg0.N) (h : t.val % 2 = 1) (b : Fin 4096) : ((outsAt0 m c t.val t.isLt).2.2.2 (ix2 0 b) : EReal)
    = ∑ i : Fin 256, T4 (m ((c : Thread nD τ).loc main_arg1)) (m ((c : Thread nD τ).loc main_arg4)) b i := by
  refine acc_last _ (fun n hn => ((outsAt0 m c n hn).2.2.2 (ix2 0 b) : EReal)) (fun t h => ?_) (fun t h => ?_) t h
  · rw [outsAt0_A m c t h h h h]
    frame_out
    refine (pay2_apply (X1 m c t) (X4 m c t) _ b).trans ?_
    simp only [x1_eq, x4_eq]
    unfold k0_pay1
    pointwise
    rfl
  · rw [outsAt0_B m c t h h h h]
    frame_out
    refine (pay2_apply (X1 m c t) (X4 m c t) _ b).trans ?_
    simp only [x1_eq, x4_eq]
    rfl

/-- Vector 8 after the run. -/
theorem final8 (c : Dev nD) : (dats m 0 c).arrAt 8 cfg0.N = V (T4 (m ((c : Thread nD τ).loc main_arg1)) (m ((c : Thread nD τ).loc main_arg4))) := by
  refine (dats m 0 c).arrAt_eq_of_covers 8 _ (by decide +kernel) fun t hf y => ?_
  have h3 := (flush0_8 t).mp hf
  have hi := idx t
  blk_simp
  rw [after0_8]
  idx_vars y
  obtain rfl : y0 = 0 := Subsingleton.elim _ _
  refine (out8 m c t h3 y1).trans ?_
  unfold V
  refine Finset.sum_congr rfl fun k _ => congrArg (fun j => T4 (m ((c : Thread nD τ).loc main_arg1)) (m ((c : Thread nD τ).loc main_arg4)) j k) ?_
  apply Fin.ext
  blk_simp [hi]

end Cert.LnInCtxIdeal.RefValue

namespace Cert.LnInCtxRefIdeal.RefValue

open Cert.LnInCtxRefIdeal Cert.LnInCtxRefIdeal.Gen
open Cert.LnInCtxIdeal.RefValue (row ct T1 T2 T3 T4 V)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v34) = V (T1 (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_v31) = V (T2 (m ((c.tc : Thread nD τ).loc main_arg1)))
      ∧ r.2.mem ((c.tc : Thread nD τ).loc main_v41) = V (T3 (m ((c.tc : Thread nD τ).loc main_arg0)) (m ((c.tc : Thread nD τ).loc main_arg1))
          (m ((c.tc : Thread nD τ).loc main_arg4)))
      ∧ r.2.mem ((c.tc : Thread nD τ).loc main_v38) = V (T4 (m ((c.tc : Thread nD τ).loc main_arg1)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_,
    (h c).2.2.2.2⟩) (Value.run m ρ)
  all_goals
    funext j
    idx_vars j
    unfold V
    pointwise
    refine Finset.sum_congr rfl fun i _ => ?_
  · unfold T1
    exact EReal.mul_comm _ _
  · rfl
  · unfold T3
    exact EReal.mul_comm _ _
  · rfl

end Cert.LnInCtxRefIdeal.RefValue

namespace Cert.LnInCtxIdeal.RefValue

open Idealize.ShloMosaic Idealize.SL.Sem

/-- The kernel and the derivative of the plain reference compute one function. -/
theorem algebraic : Cert.algebraic_LnInCtxIdeal_LnInCtxRefIdeal (hLnInCtxIdeal := Cert.LnInCtxIdeal.Gen.facts)
    (hLnInCtxRefIdeal := Cert.LnInCtxRefIdeal.Gen.facts) := by
  intro m ρ m' ρ' _ hag
  refine ⟨_, _, _, _, (θ_run _ _ _).mono (fun _ h c => ⟨(h c).1.trans (final5 m c), (h c).2.1.trans (final6 m c), (h c).2.2.1.trans (final7 m c),
    (h c).2.2.2.1.trans (final8 m c), (h c).2.2.2.2⟩) (Cert.LnInCtxIdeal.Value.run_blocks m ρ),
    (θ_run _ _ _).mono (fun _ h c => ⟨(h c).1.trans ?_, (h c).2.1.trans ?_, (h c).2.2.1.trans ?_, (h c).2.2.2.1.trans ?_,
      (h c).2.2.2.2⟩) (Cert.LnInCtxRefIdeal.RefValue.run m' ρ')⟩
  all_goals
    obtain ⟨a0, a1, a2, a3, a4⟩ := hag c
    simp only [a0, a1, a2, a3, a4]

end Cert.LnInCtxIdeal.RefValue

end
-- ==== Proof.Finite.lean ====
/-
  Hand-written, untrusted. Arrays whose numbers are all below infinity in absolute value, as the preconditions say it.
-/
module

public import proofs.«01_k».proof.Defs
public import Idealize.ShloMosaic.Lib.ReduceAll

@[expose] public section

noncomputable section

namespace Cert.Finite

open Idealize.ShloMosaic

/-- The shape of a single number. -/
abbrev S0 : Shape := ⟨0, ![]⟩

instance : Subsingleton S0.Idx := ⟨fun a b => funext fun k => k.elim0⟩

/-- A number whose absolute value is below infinity is real. -/
theorem real_of (x : EReal) (h : Ideal.cmp .olt (max x (-x)) (FloatOps.ofBits (F := Ideal) .f32 0x7F800000#32) = 1#1) :
    ∃ r : ℝ, x = (r : EReal) := by
  have htop : (FloatOps.ofBits (F := Ideal) .f32 0x7F800000#32 : EReal) = ⊤ := by
    show Ideal.ofBits .f32 0x7F800000#32 = ⊤
    simp [Ideal.ofBits, Ideal.ieee]
  rw [htop] at h
  have h1 : max x (-x) < ⊤ := of_decide_eq_true (Bool.eq_true_of_not_eq_false fun e => by
    rw [show Ideal.cmp .olt (max x (-x)) ⊤ = BitVec.ofBool (decide (max x (-x) < ⊤)) from rfl, e] at h
    exact absurd h (by decide))
  have h2 := max_lt_iff.mp h1
  refine ⟨x.toReal, (EReal.coe_toReal h2.1.ne fun e => ?_).symm⟩
  rw [e] at h2
  exact absurd h2.2 (by simp)

/-- Both of two conditions hold. -/
theorem two : ∀ a b : BitVec 1, a &&& b = 1#1 → a = 1#1 ∧ b = 1#1 := by decide

/-- Whether each number is below infinity. -/
def small (s : Shape) (h : S0.BroadcastsInDim s (![] : Fin 0 → Fin s.rank)) (x : FVec Ideal s .f32) : IVec s 1 :=
  cmpf .olt (Host.absf x) (broadcastInDim s ![] h (constant S0 .f32 0x7F800000#32))

/-- Whether every number is below infinity. -/
def every (s : Shape) (d : List (Fin s.rank)) (h : S0.BroadcastsInDim s (![] : Fin 0 → Fin s.rank)) (hr : s.ReducesTo d S0) (h0 : 0 < S0.numel)
    (x : FVec Ideal s .f32) : IVec S0 1 :=
  Host.reduce IntOp.andi (small s h x) (constantI S0 1 1#1) hr h0

/-- Where every number is below infinity, each is real. -/
theorem every_real (s : Shape) (d : List (Fin s.rank)) (h : S0.BroadcastsInDim s (![] : Fin 0 → Fin s.rank)) (hr : s.ReducesTo d S0)
    (h0 : 0 < S0.numel) (x : FVec Ideal s .f32) (he : every s d h hr h0 x (Shape.Idx.first h0) = 1#1) (i : s.Idx) : ∃ r : ℝ, x i = (r : EReal) :=
  real_of _ (Host.reduce_andi_all (small s h x) (constantI S0 1 1#1) hr h0 (Shape.Idx.first h0) he i)

end Cert.Finite

end
-- ==== Proof.Ln1BwdValue.lean ====
/-
  Hand-written, untrusted. The value of `Ln1BwdIdeal`: the gradient of the normalisation after the mixing, with the gradients of its five vectors accumulated
  over the points of the grid.
-/
module

public import proofs.«01_k».proof.Defs
public import proofs.«01_k».proof.Proof.LnRow
public import proofs.«01_k».proof.Proof.Gen.Ln1BwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ln1BwdIdeal.RefValue

open Cert.Ln1BwdIdeal Cert.Ln1BwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-! ## What the body computes of its blocks -/

/-- The row that is normalised. -/
theorem pay4_apply (x2 x3 : Vec Ideal S128x4096 .f32) (x4 : Vec Ideal S1x4096 .f32) (a : Fin 128) (b : Fin 4096) :
    k0_pay4 x2 x3 x4 (ix2 a b) = LnRow.xc LnRow.len (fun k => (Ideal.ofBits .f32 0x3F9837F0#32 * x2 (ix2 a k) + x4 (ix2 0 k) * x3 (ix2 a k) : EReal)) b := by
  unfold k0_pay4
  pointwise
  rfl

theorem pay5_apply (x2 x3 : Vec Ideal S128x4096 .f32) (x4 : Vec Ideal S1x4096 .f32) (a : Fin 128) :
    k0_pay5 x2 x3 x4 (ix2 a 0) = LnRow.rs LnRow.len (fun k => (Ideal.ofBits .f32 0x3F9837F0#32 * x2 (ix2 a k) + x4 (ix2 0 k) * x3 (ix2 a k) : EReal)) := by
  unfold k0_pay5
  pointwise
  simp only [pay4_apply]
  rfl

theorem pay6_apply (x2 x3 : Vec Ideal S128x4096 .f32) (x4 : Vec Ideal S1x4096 .f32) (a : Fin 128) (b : Fin 4096) :
    k0_pay6 x2 x3 x4 (ix2 a b) = LnRow.xh LnRow.len (fun k => (Ideal.ofBits .f32 0x3F9837F0#32 * x2 (ix2 a k) + x4 (ix2 0 k) * x3 (ix2 a k) : EReal)) b := by
  unfold k0_pay6
  pointwise
  simp only [pay4_apply, pay5_apply]
  rfl

theorem pay9_apply (x0 x1 : Vec Ideal S128x4096 .f32) (x7 : Vec Ideal S1x4096 .f32) (a : Fin 128) (b : Fin 4096) :
    k0_pay9 x1 x7 (k0_pay8 x0) (ix2 a b) = (Ideal.ofBits .f32 0x3F9837F0#32 * x0 (ix2 a b) + x1 (ix2 a b) * (1 + x7 (ix2 0 b)) : EReal) := by
  unfold k0_pay9 k0_pay8
  pointwise

theorem pay10_apply (x0 x1 x2 x3 : Vec Ideal S128x4096 .f32) (x4 x5 x7 : Vec Ideal S1x4096 .f32) (a : Fin 128) (b : Fin 4096) :
    k0_pay10 x1 x5 x7 (k0_pay5 x2 x3 x4) (k0_pay6 x2 x3 x4) (k0_pay8 x0) (ix2 a b)
    = LnRow.dx LnRow.len (fun k => (Ideal.ofBits .f32 0x3F9837F0#32 * x2 (ix2 a k) + x4 (ix2 0 k) * x3 (ix2 a k) : EReal))
        (fun k => (k0_pay9 x1 x7 (k0_pay8 x0) (ix2 a k) : EReal) * x5 (ix2 0 k)) b := by
  unfold k0_pay10
  pointwise
  simp only [pay5_apply, pay6_apply]
  rfl

/-- What a point adds to the gradient of the scale. -/
theorem pay18_apply (x1 x2 x3 : Vec Ideal S128x4096 .f32) (x4 x5 x6 y : Vec Ideal S1x4096 .f32) (b : Fin 4096) :
    k0_pay18 (k0_pay11 x1 (k0_pay7 x2 x3 x4 x5 x6)) y (ix2 0 b)
    = (y (ix2 0 b) + ∑ a : Fin 128, x1 (ix2 a b) * (k0_pay6 x2 x3 x4 (ix2 a b) * x5 (ix2 0 b) + x6 (ix2 0 b)) : EReal) := by
  unfold k0_pay18 k0_pay11 k0_pay7
  pointwise

/-- What a point adds to the gradient of the shift. -/
theorem pay20_apply (x1 : Vec Ideal S128x4096 .f32) (y : Vec Ideal S1x4096 .f32) (b : Fin 4096) :
    k0_pay20 (k0_pay12 x1) y (ix2 0 b) = (y (ix2 0 b) + ∑ a : Fin 128, x1 (ix2 a b) : EReal) := by
  unfold k0_pay20 k0_pay12
  pointwise

/-- What a point adds to the gradient of the normalisation's scale. -/
theorem pay22_apply (x1 : Vec Ideal S128x4096 .f32) (x7 : Vec Ideal S1x4096 .f32) (h d : FVec Ideal S128x4096 .f32) (y : Vec Ideal S1x4096 .f32) (b : Fin 4096) :
    k0_pay22 (k0_pay13 x1 x7 h d) y (ix2 0 b)
    = (y (ix2 0 b) + ∑ a : Fin 128, k0_pay9 x1 x7 d (ix2 a b) * h (ix2 a b) : EReal) := by
  unfold k0_pay22 k0_pay13
  pointwise

/-- What a point adds to the gradient of the normalisation's shift. -/
theorem pay1_apply (x1 : Vec Ideal S128x4096 .f32) (x7 : Vec Ideal S1x4096 .f32) (d : FVec Ideal S128x4096 .f32) (y : Vec Ideal S1x4096 .f32) (b : Fin 4096) :
    k0_pay1 (k0_pay14 x1 x7 d) y (ix2 0 b) = (y (ix2 0 b) + ∑ a : Fin 128, k0_pay9 x1 x7 d (ix2 a b) : EReal) := by
  unfold k0_pay1 k0_pay14
  pointwise

/-- What a point adds to the gradient of the gate. -/
theorem pay3_apply (x1 x3 : Vec Ideal S128x4096 .f32) (x5 x7 : Vec Ideal S1x4096 .f32) (r : FVec Ideal S128x1 .f32) (h d : FVec Ideal S128x4096 .f32) (y : Vec Ideal S1x4096 .f32) (b : Fin 4096) :
    k0_pay3 (k0_pay15 x1 x3 x5 x7 r h d) y (ix2 0 b)
    = (y (ix2 0 b) + ∑ a : Fin 128, k0_pay10 x1 x5 x7 r h d (ix2 a b) * x3 (ix2 a b) : EReal) := by
  unfold k0_pay3 k0_pay15
  pointwise

/-- The mixing's gradient. -/
theorem pay16_apply (x1 : Vec Ideal S128x4096 .f32) (x4 x5 x7 : Vec Ideal S1x4096 .f32) (r : FVec Ideal S128x1 .f32) (h d : FVec Ideal S128x4096 .f32) (a : Fin 128) (b : Fin 4096) :
    k0_pay16 x1 x4 x5 x7 r h d (ix2 a b) = (k0_pay10 x1 x5 x7 r h d (ix2 a b) * x4 (ix2 0 b) : EReal) := by
  unfold k0_pay16
  pointwise

/-! ## The results as functions of the arguments -/

/-- The row that is normalised. -/
def row (x y : Vec Ideal S4096x4096 .f32) (ga : Vec Ideal S1x4096 .f32) (i : Fin 4096) : Fin 4096 → EReal := fun k => Ideal.ofBits .f32 0x3F9837F0#32 * x (ix2 i k) + ga (ix2 0 k) * y (ix2 i k)

/-- The cotangent of the normalised and scaled row. -/
def dn (r d : Vec Ideal S4096x4096 .f32) (s : Vec Ideal S1x4096 .f32) (i b : Fin 4096) : EReal := Ideal.ofBits .f32 0x3F9837F0#32 * r (ix2 i b) + d (ix2 i b) * (1 + s (ix2 0 b))

/-- The rows' gradient. -/
def Gx (r d x y : Vec Ideal S4096x4096 .f32) (ga g s : Vec Ideal S1x4096 .f32) : Vec Ideal S4096x4096 .f32 := fun j =>
  LnRow.dx LnRow.len (row x y ga (j 0)) (fun k => dn r d s (j 0) k * g (ix2 0 k)) (j 1)

/-- The mixing's gradient, of the rows' gradient. -/
def Gy (e : Vec Ideal S4096x4096 .f32) (ga : Vec Ideal S1x4096 .f32) : Vec Ideal S4096x4096 .bf16 := fun j => (e (ix2 (j 0) (j 1)) * ga (ix2 0 (j 1)) : EReal)

/-- What row `i` adds to the gradient of the scale. -/
def T1 (d x y : Vec Ideal S4096x4096 .f32) (ga g b0 : Vec Ideal S1x4096 .f32) (b i : Fin 4096) : EReal :=
  d (ix2 i b) * (LnRow.xh LnRow.len (row x y ga i) b * g (ix2 0 b) + b0 (ix2 0 b))

/-- What row `i` adds to the gradient of the shift. -/
def T2 (d : Vec Ideal S4096x4096 .f32) (b i : Fin 4096) : EReal := d (ix2 i b)

/-- What row `i` adds to the gradient of the normalisation's scale. -/
def T3 (r d x y : Vec Ideal S4096x4096 .f32) (ga s : Vec Ideal S1x4096 .f32) (b i : Fin 4096) : EReal := dn r d s i b * LnRow.xh LnRow.len (row x y ga i) b

/-- What row `i` adds to the gradient of the normalisation's shift. -/
def T4 (r d : Vec Ideal S4096x4096 .f32) (s : Vec Ideal S1x4096 .f32) (b i : Fin 4096) : EReal := dn r d s i b

/-- What row `i` adds to the gradient of the gate, of the rows' gradient. -/
def T5 (e y : Vec Ideal S4096x4096 .f32) (b i : Fin 4096) : EReal := e (ix2 i b) * y (ix2 i b)

/-- Sums over the rows, as a vector. -/
def V (T : Fin 4096 → Fin 4096 → EReal) : Vec Ideal S1x4096 .f32 := fun j => ∑ i : Fin 4096, T (j 1) i

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S128x4096 .f32 := iblk m c 2 t
theorem x2_eq (c : Dev nD) (t : Fin cfg0.N) (a : Fin 128) (k : Fin 4096) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S128x4096 .f32 := iblk m c 3 t
theorem x3_eq (c : Dev nD) (t : Fin cfg0.N) (a : Fin 128) (k : Fin 4096) :
    X3 m c t (ix2 a k) = (m ((c : Thread nD τ).loc main_arg3)) (ix2 (at_ t a) k) := by
  unfold X3 at_
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]
def X5 (c : Dev nD) (t : Fin cfg0.N) : Vec Ideal S1x4096 .f32 := iblk m c 5 t
theorem x5_eq (c : Dev nD) (t : Fin cfg0.N) (k : Fin 4096) : X5 m c t (ix2 0 k) = (m ((c : Thread nD τ).loc main_arg5)) (ix2 0 k) := by
  unfold X5
  blk_ext [iblk, Gen.V, idx t]
def X6 (c : Dev nD) (t : Fin cfg0.N) : Vec Ideal S1x4096 .f32 := iblk m c 6 t
theorem x6_eq (c : Dev nD) (t : Fin cfg0.N) (k : Fin 4096) : X6 m c t (ix2 0 k) = (m ((c : Thread nD τ).loc main_arg6)) (ix2 0 k) := by
  unfold X6
  blk_ext [iblk, Gen.V, idx t]
def X7 (c : Dev nD) (t : Fin cfg0.N) : Vec Ideal S1x4096 .f32 := iblk m c 7 t
theorem x7_eq (c : Dev nD) (t : Fin cfg0.N) (k : Fin 4096) : X7 m c t (ix2 0 k) = (m ((c : Thread nD τ).loc main_arg7)) (ix2 0 k) := by
  unfold X7
  blk_ext [iblk, Gen.V, idx t]

/-- The cotangent at a point. -/
theorem dn_eq (c : Dev nD) (t : Fin cfg0.N) (a : Fin 128) (k : Fin 4096) : k0_pay9 (X1 m c t) (X7 m c t) (k0_pay8 (X0 m c t)) (ix2 a k) = dn (m ((c : Thread nD τ).loc main_arg0)) (m ((c : Thread nD τ).loc main_arg1)) (m ((c : Thread nD τ).loc main_arg7)) (at_ t a) k := by
  rw [pay9_apply, x0_eq, x1_eq, x7_eq]
  rfl

/-- The row at a point. -/
theorem row_eq (c : Dev nD) (t : Fin cfg0.N) (a : Fin 128) :
    (fun k => (Ideal.ofBits .f32 0x3F9837F0#32 * X2 m c t (ix2 a k) + X4 m c t (ix2 0 k) * X3 m c t (ix2 a k) : EReal)) = row (m ((c : Thread nD τ).loc main_arg2)) (m ((c : Thread nD τ).loc main_arg3)) (m ((c : Thread nD τ).loc main_arg4)) (at_ t a) := by
  funext k
  rw [x2_eq, x3_eq, x4_eq]
  rfl

/-- The normalised row at a point. -/
theorem xh_eq (c : Dev nD) (t : Fin cfg0.N) (a : Fin 128) (k : Fin 4096) : k0_pay6 (X2 m c t) (X3 m c t) (X4 m c t) (ix2 a k)
    = LnRow.xh LnRow.len (row (m ((c : Thread nD τ).loc main_arg2)) (m ((c : Thread nD τ).loc main_arg3)) (m ((c : Thread nD τ).loc main_arg4)) (at_ t a)) k := by
  rw [pay6_apply, row_eq]

/-- The rows' gradient at a point. -/
theorem gx_eq (c : Dev nD) (t : Fin cfg0.N) (a : Fin 128) (k : Fin 4096) : k0_pay10 (X1 m c t) (X5 m c t) (X7 m c t) (k0_pay5 (X2 m c t) (X3 m c t) (X4 m c t)) (k0_pay6 (X2 m c t) (X3 m c t) (X4 m c t)) (k0_pay8 (X0 m c t)) (ix2 a k) = Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix2 (at_ t a) k) := by
  rw [pay10_apply, row_eq]
  simp only [dn_eq, x5_eq]
  rfl

/-- What every point leaves of window 8. -/
theorem out8 (c : Dev nD) (t : Fin cfg0.N) (a : Fin 128) (b : Fin 4096) : ((outsAt0 m c t.val t.isLt).1 (ix2 a b) : EReal)
    = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (ix2 (at_ t a) b) := by
  have key : k0_pay10 (X1 m c t) (X5 m c t) (X7 m c t) (k0_pay5 (X2 m c t) (X3 m c t) (X4 m c t)) (k0_pay6 (X2 m c t) (X3 m c t) (X4 m c t)) (k0_pay8 (X0 m c t)) (ix2 a b) = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (ix2 (at_ t a) b) := by
    exact gx_eq m c t a b

  by_cases h : t.val % 32 = 0
  · rw [outsAt0_A m c t h h h h h]
    frame_out
    exact key
  · rw [outsAt0_B m c t h h h h h]
    frame_out
    exact key

/-- Window 8 after the run. -/
theorem final8 (c : Dev nD) : (dats m 0 c).arrAt 8 cfg0.N = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) := by
  refine (dats m 0 c).arrAt_eq_of_covers 8 _ (by decide +kernel) fun t hf y => ?_
  have hi := idx t
  blk_simp
  rw [after0_8]
  idx_vars y
  refine (out8 m c t y0 y1).trans (congrArg₂ (fun i b => (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (ix2 i b)) ?_ ?_)
  · apply Fin.ext
    refine (show (at_ t y0).val = 128 * t.val + y0.val from rfl).trans ?_
    blk_simp [hi]
    omega
  · apply Fin.ext
    blk_simp [hi]

/-- What every point leaves of window 9. -/
theorem out9 (c : Dev nD) (t : Fin cfg0.N) (a : Fin 128) (b : Fin 4096) : ((outsAt0 m c t.val t.isLt).2.1 (ix2 a b) : EReal)
    = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg4))) (ix2 (at_ t a) b) := by
  have key : k0_pay16 (X1 m c t) (X4 m c t) (X5 m c t) (X7 m c t) (k0_pay5 (X2 m c t) (X3 m c t) (X4 m c t)) (k0_pay6 (X2 m c t) (X3 m c t) (X4 m c t)) (k0_pay8 (X0 m c t)) (ix2 a b) = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg4))) (ix2 (at_ t a) b) := by
    rw [pay16_apply, gx_eq, x4_eq]
    rfl

  by_cases h : t.val % 32 = 0
  · rw [outsAt0_A m c t h h h h h]
    frame_out
    exact key
  · rw [outsAt0_B m c t h h h h h]
    frame_out
    exact key

/-- Window 9 after the run. -/
theorem final9 (c : Dev nD) : (dats m 0 c).arrAt 9 cfg0.N = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg4))) := by
  refine (dats m 0 c).arrAt_eq_of_covers 9 _ (by decide +kernel) fun t hf y => ?_
  have hi := idx t
  blk_simp
  rw [after0_9]
  idx_vars y
  refine (out9 m c t y0 y1).trans (congrArg₂ (fun i b => (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg4))) (ix2 i b)) ?_ ?_)
  · apply Fin.ext
    refine (show (at_ t y0).val = 128 * t.val + y0.val from rfl).trans ?_
    blk_simp [hi]
    omega
  · apply Fin.ext
    blk_simp [hi]

/-! ## Sums over the rows -/

/-- A row's term by the row's number. -/
def ext (T : Fin 4096 → EReal) (k : ℕ) : EReal := if h : k < 4096 then T ⟨k, h⟩ else 0

theorem ext_sum (T : Fin 4096 → EReal) : ∑ k ∈ Finset.range 4096, ext T k = ∑ i : Fin 4096, T i := by
  rw [Finset.sum_range]
  exact Finset.sum_congr rfl fun k _ => dif_pos k.isLt

theorem ext_blk (T : Fin 4096 → EReal) (t : Fin cfg0.N) :
    ∑ a : Fin 128, T (at_ t a) = ∑ q ∈ Finset.range 128, ext T (128 * t.val + q) := by
  rw [Finset.sum_range]
  refine Finset.sum_congr rfl fun a _ => ?_
  exact (dif_pos (at_ t a).isLt : ext T (at_ t a).val = _).symm

/-- A sum that starts at the first point and to which every point adds its rows holds every row after the last. -/
theorem acc (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a)) :
    ∀ (n : ℕ) (hn : n < cfg0.N), o n hn = ∑ k ∈ Finset.range (128 * (n + 1)), ext T k := by
  intro n
  induction n with
  | zero =>
    intro hn
    refine (hA ⟨0, hn⟩ (Nat.zero_mod _)).trans ((ext_blk T ⟨0, hn⟩).trans ?_)
    simp only [Nat.mul_zero, Nat.zero_add, Nat.mul_one]
  | succ n ih =>
    intro hn
    have hN : n + 1 < 32 := lt_of_lt_of_eq hn (show cfg0.N = 32 from N_0)
    refine (hB ⟨n + 1, hn⟩ (by dsimp only; omega)).trans ?_
    rw [ext_blk T ⟨n + 1, hn⟩, Nat.mul_succ 128 (n + 1), Finset.sum_range_add]
    exact congrArg (· + _) (ih (Nat.lt_of_succ_lt hn))

theorem acc_last (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a))
    (t : Fin cfg0.N) (h : t.val % 32 = 31) : o t.val t.isLt = ∑ i : Fin 4096, T i := by
  have ht : t.val < 32 := lt_of_lt_of_eq t.isLt (show cfg0.N = 32 from N_0)
  rw [acc T o hA hB t.val t.isLt, show 128 * (t.val + 1) = 4096 by omega, ext_sum]

/-- Vector 10 after the last point. -/
theorem out10 (c : Dev nD) (t : Fin cfg0.N) (h : t.val % 32 = 31) (b : Fin 4096) : ((outsAt0 m c t.val t.isLt).2.2.1 (ix2 0 b) : EReal)
    = ∑ i : Fin 4096, T1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i := by
  refine acc_last _ (fun n hn => ((outsAt0 m c n hn).2.2.1 (ix2 0 b) : EReal)) (fun t h => ?_) (fun t h => ?_) t h
  · rw [outsAt0_A m c t h h h h h]
    frame_out
    refine (pay18_apply (X1 m c t) (X2 m c t) (X3 m c t) (X4 m c t) (X5 m c t) (X6 m c t) _ b).trans ?_
    simp only [xh_eq, x1_eq, x5_eq, x6_eq]
    unfold k0_pay17
    pointwise
    rfl
  · rw [outsAt0_B m c t h h h h h]
    frame_out
    refine (pay18_apply (X1 m c t) (X2 m c t) (X3 m c t) (X4 m c t) (X5 m c t) (X6 m c t) _ b).trans ?_
    simp only [xh_eq, x1_eq, x5_eq, x6_eq]
    rfl

/-- Vector 10 after the run. -/
theorem final10 (c : Dev nD) : (dats m 0 c).arrAt 10 cfg0.N = V (T1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 10 _ (by decide +kernel) fun t hf y => ?_
  have h3 := (flush0_10 t).mp hf
  have hi := idx t
  blk_simp
  rw [after0_10]
  idx_vars y
  obtain rfl : y0 = 0 := Subsingleton.elim _ _
  refine (out10 m c t h3 y1).trans ?_
  unfold V
  refine Finset.sum_congr rfl fun k _ => congrArg (fun j => T1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j k) ?_
  apply Fin.ext
  blk_simp [hi]

/-- Vector 11 after the last point. -/
theorem out11 (c : Dev nD) (t : Fin cfg0.N) (h : t.val % 32 = 31) (b : Fin 4096) : ((outsAt0 m c t.val t.isLt).2.2.2.1 (ix2 0 b) : EReal)
    = ∑ i : Fin 4096, T2 (m ((c : Thread nD τ).loc main_arg1)) b i := by
  refine acc_last _ (fun n hn => ((outsAt0 m c n hn).2.2.2.1 (ix2 0 b) : EReal)) (fun t h => ?_) (fun t h => ?_) t h
  · rw [outsAt0_A m c t h h h h h]
    frame_out
    refine (pay20_apply (X1 m c t) _ b).trans ?_
    simp only [x1_eq]
    unfold k0_pay19
    pointwise
    rfl
  · rw [outsAt0_B m c t h h h h h]
    frame_out
    refine (pay20_apply (X1 m c t) _ b).trans ?_
    simp only [x1_eq]
    rfl

/-- Vector 11 after the run. -/
theorem final11 (c : Dev nD) : (dats m 0 c).arrAt 11 cfg0.N = V (T2 (m ((c : Thread nD τ).loc main_arg1))) := by
  refine (dats m 0 c).arrAt_eq_of_covers 11 _ (by decide +kernel) fun t hf y => ?_
  have h3 := (flush0_11 t).mp hf
  have hi := idx t
  blk_simp
  rw [after0_11]
  idx_vars y
  obtain rfl : y0 = 0 := Subsingleton.elim _ _
  refine (out11 m c t h3 y1).trans ?_
  unfold V
  refine Finset.sum_congr rfl fun k _ => congrArg (fun j => T2 (m ((c : Thread nD τ).loc main_arg1)) j k) ?_
  apply Fin.ext
  blk_simp [hi]

/-- Vector 12 after the last point. -/
theorem out12 (c : Dev nD) (t : Fin cfg0.N) (h : t.val % 32 = 31) (b : Fin 4096) : ((outsAt0 m c t.val t.isLt).2.2.2.2.1 (ix2 0 b) : EReal)
    = ∑ i : Fin 4096, T3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) b i := by
  refine acc_last _ (fun n hn => ((outsAt0 m c n hn).2.2.2.2.1 (ix2 0 b) : EReal)) (fun t h => ?_) (fun t h => ?_) t h
  · rw [outsAt0_A m c t h h h h h]
    frame_out
    refine (pay22_apply (X1 m c t) (X7 m c t) (k0_pay6 (X2 m c t) (X3 m c t) (X4 m c t)) (k0_pay8 (X0 m c t)) _ b).trans ?_
    simp only [xh_eq, dn_eq]
    unfold k0_pay21
    pointwise
    rfl
  · rw [outsAt0_B m c t h h h h h]
    frame_out
    refine (pay22_apply (X1 m c t) (X7 m c t) (k0_pay6 (X2 m c t) (X3 m c t) (X4 m c t)) (k0_pay8 (X0 m c t)) _ b).trans ?_
    simp only [xh_eq, dn_eq]
    rfl

/-- Vector 12 after the run. -/
theorem final12 (c : Dev nD) : (dats m 0 c).arrAt 12 cfg0.N = V (T3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) := by
  refine (dats m 0 c).arrAt_eq_of_covers 12 _ (by decide +kernel) fun t hf y => ?_
  have h3 := (flush0_12 t).mp hf
  have hi := idx t
  blk_simp
  rw [after0_12]
  idx_vars y
  obtain rfl : y0 = 0 := Subsingleton.elim _ _
  refine (out12 m c t h3 y1).trans ?_
  unfold V
  refine Finset.sum_congr rfl fun k _ => congrArg (fun j => T3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) j k) ?_
  apply Fin.ext
  blk_simp [hi]

/-- Vector 13 after the last point. -/
theorem out13 (c : Dev nD) (t : Fin cfg0.N) (h : t.val % 32 = 31) (b : Fin 4096) : ((outsAt0 m c t.val t.isLt).2.2.2.2.2.1 (ix2 0 b) : EReal)
    = ∑ i : Fin 4096, T4 (m ((c : Thread nD τ).loc main_arg0)) (m ((c : Thread nD τ).loc main_arg1)) (m ((c : Thread nD τ).loc main_arg7)) b i := by
  refine acc_last _ (fun n hn => ((outsAt0 m c n hn).2.2.2.2.2.1 (ix2 0 b) : EReal)) (fun t h => ?_) (fun t h => ?_) t h
  · rw [outsAt0_A m c t h h h h h]
    frame_out
    refine (pay1_apply (X1 m c t) (X7 m c t) (k0_pay8 (X0 m c t)) _ b).trans ?_
    simp only [dn_eq]
    unfold k0_pay23
    pointwise
    rfl
  · rw [outsAt0_B m c t h h h h h]
    frame_out
    refine (pay1_apply (X1 m c t) (X7 m c t) (k0_pay8 (X0 m c t)) _ b).trans ?_
    simp only [dn_eq]
    rfl

/-- Vector 13 after the run. -/
theorem final13 (c : Dev nD) : (dats m 0 c).arrAt 13 cfg0.N = V (T4 (m ((c : Thread nD τ).loc main_arg0)) (m ((c : Thread nD τ).loc main_arg1)) (m ((c : Thread nD τ).loc main_arg7))) := by
  refine (dats m 0 c).arrAt_eq_of_covers 13 _ (by decide +kernel) fun t hf y => ?_
  have h3 := (flush0_13 t).mp hf
  have hi := idx t
  blk_simp
  rw [after0_13]
  idx_vars y
  obtain rfl : y0 = 0 := Subsingleton.elim _ _
  refine (out13 m c t h3 y1).trans ?_
  unfold V
  refine Finset.sum_congr rfl fun k _ => congrArg (fun j => T4 (m ((c : Thread nD τ).loc main_arg0)) (m ((c : Thread nD τ).loc main_arg1)) (m ((c : Thread nD τ).loc main_arg7)) j k) ?_
  apply Fin.ext
  blk_simp [hi]

/-- Vector 14 after the last point. -/
theorem out14 (c : Dev nD) (t : Fin cfg0.N) (h : t.val % 32 = 31) (b : Fin 4096) : ((outsAt0 m c t.val t.isLt).2.2.2.2.2.2 (ix2 0 b) : EReal)
    = ∑ i : Fin 4096, T5 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg3)) b i := by
  refine acc_last _ (fun n hn => ((outsAt0 m c n hn).2.2.2.2.2.2 (ix2 0 b) : EReal)) (fun t h => ?_) (fun t h => ?_) t h
  · rw [outsAt0_A m c t h h h h h]
    frame_out
    refine (pay3_apply (X1 m c t) (X3 m c t) (X5 m c t) (X7 m c t) (k0_pay5 (X2 m c t) (X3 m c t) (X4 m c t)) (k0_pay6 (X2 m c t) (X3 m c t) (X4 m c t)) (k0_pay8 (X0 m c t)) _ b).trans ?_
    simp only [gx_eq, x3_eq]
    unfold k0_pay2
    pointwise
    rfl
  · rw [outsAt0_B m c t h h h h h]
    frame_out
    refine (pay3_apply (X1 m c t) (X3 m c t) (X5 m c t) (X7 m c t) (k0_pay5 (X2 m c t) (X3 m c t) (X4 m c t)) (k0_pay6 (X2 m c t) (X3 m c t) (X4 m c t)) (k0_pay8 (X0 m c t)) _ b).trans ?_
    simp only [gx_eq, x3_eq]
    rfl

/-- Vector 14 after the run. -/
theorem final14 (c : Dev nD) : (dats m 0 c).arrAt 14 cfg0.N = V (T5 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg3))) := by
  refine (dats m 0 c).arrAt_eq_of_covers 14 _ (by decide +kernel) fun t hf y => ?_
  have h3 := (flush0_14 t).mp hf
  have hi := idx t
  blk_simp
  rw [after0_14]
  idx_vars y
  obtain rfl : y0 = 0 := Subsingleton.elim _ _
  refine (out14 m c t h3 y1).trans ?_
  unfold V
  refine Finset.sum_congr rfl fun k _ => congrArg (fun j => T5 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) (m ((c : Thread nD τ).loc main_arg3)) j k) ?_
  apply Fin.ext
  blk_simp [hi]

end Cert.Ln1BwdIdeal.RefValue

end
-- ==== Proof.Ln1BwdRef.lean ====
/-
  Hand-written, untrusted. The value of `Ln1BwdRefIdeal`: the derivative of the normalisation after the mixing, line by line.
-/
module

public import proofs.«01_k».proof.Defs
public import proofs.«01_k».proof.Proof.Ln1BwdValue
public import proofs.«01_k».proof.Proof.Gen.Ln1BwdRefIdeal.Run
public import Idealize.ShloMosaic.Lib.Pointwise

@[expose] public section

set_option maxRecDepth 16384

noncomputable section

namespace Cert.Ln1BwdRefIdeal.RefValue

open Cert.Ln1BwdRefIdeal Cert.Ln1BwdRefIdeal.Gen
open Cert.Ln1BwdIdeal.RefValue (dn row Gy T1 T2 T3 T4 T5 V)
open Idealize.ShloMosaic Idealize.ShloMosaic.TcCoe Idealize.SL.Sem

variable (m : (ℓ : Loc nD τ sig) → Buf (Elt Ideal) ℓ) (ρ : Dev nD → PrngReg)

/-- The rows' gradient, line by line. -/
def Dr (r d x y : Vec Ideal S4096x4096 .f32) (ga g s : Vec Ideal S1x4096 .f32) : Vec Ideal S4096x4096 .f32 := fun j =>
  LnRow.dr LnRow.len (row x y ga (j 0)) (fun k => dn r d s (j 0) k * g (ix2 0 k)) (j 1)

/-- The cotangent with its two parts the other way round. -/
theorem swap (r d x y : Vec Ideal S4096x4096 .f32) (ga g s : Vec Ideal S1x4096 .f32) (a b : Fin 4096) : Dr r d x y ga g s (ix2 a b)
    = LnRow.dr LnRow.len (row x y ga a) (fun k => ((d (ix2 a k) * (1 + s (ix2 0 k)) + Ideal.ofBits .f32 0x3F9837F0#32 * r (ix2 a k)) * g (ix2 0 k) : EReal)) b :=
  congrArg (fun d => LnRow.dr LnRow.len (row x y ga a) d b) (funext fun _ => congrArg (· * _) (add_comm _ _))

set_option maxHeartbeats 1000000 in
theorem res_eq (c : Dev nD) (a b : Fin 4096) : Value.res_main_v82 m c (ix2 a b) = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (ix2 a b) := by
  refine Eq.trans ?_ (swap _ _ _ _ _ _ _ a b).symm
  unfold Value.res_main_v82
  pointwise
  simp only [Finset.univ_unique, Finset.sum_singleton]
  rfl

/-- The rows' gradient. -/
theorem res_dr (c : Dev nD) : Value.res_main_v82 m c = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) := by
  funext j
  idx_vars j
  exact res_eq m c j0 j1

/-- A cotangent, gated. -/
def dyH (q : FVec Ideal S4096x4096 .f32) (ga : FVec Ideal S1x4096 .f32) : FVec Ideal S4096x4096 .bf16 :=
  truncf .bf16 (mulf (broadcastInDim S4096x4096 ![0, 1] bcast_S1x4096_S4096x4096_0_1 ga) q) bitsLt_bf16_f32

/-- The sum of the rows of a product. -/
def dgH (q y : FVec Ideal S4096x4096 .f32) : FVec Ideal S1x4096 .f32 :=
  shapeCast _ (Host.reduceAdd (mulf q y) (constant S_ .f32 0x00000000#32) reducesTo_S4096x4096_S4096_d0 h_S_) shapeCasts_S4096_S1x4096

/-- The mixing's gradient is the rows' gradient, gated. -/
theorem res_dy (c : Dev nD) : Value.res_main_v88 m c = Gy (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))) (m ((c.tc : Thread nD τ).loc main_arg4)) := by
  rw [← res_dr m c]
  have e : Value.res_main_v88 m c = dyH (Value.res_main_v82 m c) (m ((c.tc : Thread nD τ).loc main_arg4)) := rfl
  rw [e]
  generalize Value.res_main_v82 m c = q
  funext j
  idx_vars j
  unfold dyH
  pointwise
  exact EReal.mul_comm _ _

/-- The gate's gradient is the sum of the rows' gradient times the mixing. -/
theorem res_dg (c : Dev nD) : Value.res_main_v87 m c = V (T5 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))) (m ((c.tc : Thread nD τ).loc main_arg3))) := by
  rw [← res_dr m c]
  have e : Value.res_main_v87 m c = dgH (Value.res_main_v82 m c) (m ((c.tc : Thread nD τ).loc main_arg3)) := rfl
  rw [e]
  generalize Value.res_main_v82 m c = q
  funext j
  idx_vars j
  unfold V dgH
  pointwise
  rfl

/-- The host's run leaves the same functions of its arguments. -/
theorem run : θ_run defs (onTc (τ := τ) (main (F := Ideal))) ⟨m, fun _ => 0, ρ⟩ fun r => ∀ c : Dev nD,
      r.2.mem ((c.tc : Thread nD τ).loc main_v82) = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v88) = Gy (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))) (m ((c.tc : Thread nD τ).loc main_arg4))
      ∧ r.2.mem ((c.tc : Thread nD τ).loc main_v46) = V (T1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v43) = V (T2 (m ((c.tc : Thread nD τ).loc main_arg1)))
      ∧ r.2.mem ((c.tc : Thread nD τ).loc main_v56) = V (T3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)))
      ∧ r.2.mem ((c.tc : Thread nD τ).loc main_v53) = V (T4 (m ((c.tc : Thread nD τ).loc main_arg0)) (m ((c.tc : Thread nD τ).loc main_arg1)) (m ((c.tc : Thread nD τ).loc main_arg7)))
      ∧ r.2.mem ((c.tc : Thread nD τ).loc main_v87) = V (T5 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans (res_dr m c), (h c).2.1.trans (res_dy m c), (h c).2.2.1.trans ?_, (h c).2.2.2.1.trans ?_,
    (h c).2.2.2.2.1.trans ?_, (h c).2.2.2.2.2.1.trans ?_, (h c).2.2.2.2.2.2.1.trans (res_dg m c), (h c).2.2.2.2.2.2.2⟩) (Value.run m ρ)
  all_goals
    funext j
    idx_vars j
    unfold V
    pointwise
    refine Finset.sum_congr rfl fun i _ => ?_
  · unfold T1
    exact EReal.mul_comm _ _
  · rfl
  · unfold T3 dn
    rw [EReal.mul_comm]
    exact congrArg (· * _) (add_comm _ _)
  · unfold T4 dn
    exact add_comm _ _

end Cert.Ln1BwdRefIdeal.RefValue

end
-- ==== Proof.Ln1BwdAlg.lean ====
/-
  Hand-written, untrusted. `Ln1BwdIdeal` and `Ln1BwdRefIdeal` compute one function of real arguments.
-/
module

public import proofs.«01_k».proof.Defs
public import proofs.«01_k».proof.Proof.Finite
public import proofs.«01_k».proof.Proof.Ln1BwdRef

@[expose] public section

set_option maxRecDepth 200000

noncomputable section

namespace Cert.Pre_ln1_finite

open Idealize.ShloMosaic Cert.Finite

/-- The precondition's side conditions hold. -/
theorem facts : Facts where
  bcast_S_S4096x4096 := by decide
  reducesTo_S4096x4096_S_d0_1 := by decide
  h_S_ := by decide
  bcast_S_S1x4096 := by decide
  reducesTo_S1x4096_S_d0_1 := by decide

variable [Facts]
open Facts

/-- What the precondition says. -/
theorem real (x0 x1 x2 x3 : FVec Ideal S4096x4096 .f32) (x4 x5 x6 x7 : FVec Ideal S1x4096 .f32) (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x7 i = (r : EReal)) := by
  have e0 : fn (F := Ideal) x0 x1 x2 x3 x4 x5 x6 x7 = andi (andi (andi (andi (andi (andi ((every S4096x4096 [0, 1] bcast_S_S4096x4096 reducesTo_S4096x4096_S_d0_1 h_S_ x0))
      (every S4096x4096 [0, 1] bcast_S_S4096x4096 reducesTo_S4096x4096_S_d0_1 h_S_ x1))
      (every S4096x4096 [0, 1] bcast_S_S4096x4096 reducesTo_S4096x4096_S_d0_1 h_S_ x2))
      (every S4096x4096 [0, 1] bcast_S_S4096x4096 reducesTo_S4096x4096_S_d0_1 h_S_ x3))
      (every S1x4096 [0, 1] bcast_S_S1x4096 reducesTo_S1x4096_S_d0_1 h_S_ x4))
      (every S1x4096 [0, 1] bcast_S_S1x4096 reducesTo_S1x4096_S_d0_1 h_S_ x5))
      (every S1x4096 [0, 1] bcast_S_S1x4096 reducesTo_S1x4096_S_d0_1 h_S_ x7) := rfl
  have e := congrFun (e0.symm.trans h) (Shape.Idx.first h_S_)
  obtain ⟨e, h7⟩ := two _ _ e
  obtain ⟨e, h5⟩ := two _ _ e
  obtain ⟨e, h4⟩ := two _ _ e
  obtain ⟨e, h3⟩ := two _ _ e
  obtain ⟨e, h2⟩ := two _ _ e
  obtain ⟨h0, h1⟩ := two _ _ e
  exact ⟨every_real _ _ _ _ _ _ h0, every_real _ _ _ _ _ _ h1, every_real _ _ _ _ _ _ h2, every_real _ _ _ _ _ _ h3, every_real _ _ _ _ _ _ h4, every_real _ _ _ _ _ _ h5, every_real _ _ _ _ _ _ h7⟩

end Cert.Pre_ln1_finite

namespace Cert.Ln1BwdIdeal.RefValue

open Idealize.ShloMosaic Idealize.SL.Sem

/-- On real arguments the rows' gradient is the derivative line by line. -/
theorem Gx_eq (r d x y : Vec Ideal Cert.Ln1BwdIdeal.S4096x4096 .f32) (ga g s : Vec Ideal Cert.Ln1BwdIdeal.S1x4096 .f32)
    (hr : ∀ i, ∃ q : ℝ, r i = (q : EReal)) (hd : ∀ i, ∃ q : ℝ, d i = (q : EReal)) (hx : ∀ i, ∃ q : ℝ, x i = (q : EReal))
    (hy : ∀ i, ∃ q : ℝ, y i = (q : EReal)) (hga : ∀ i, ∃ q : ℝ, ga i = (q : EReal)) (hg : ∀ i, ∃ q : ℝ, g i = (q : EReal))
    (hs : ∀ i, ∃ q : ℝ, s i = (q : EReal)) : Cert.Ln1BwdRefIdeal.RefValue.Dr r d x y ga g s = Gx r d x y ga g s := by
  choose R hR using hr
  choose D hD using hd
  choose X hX using hx
  choose Y hY using hy
  choose A hA using hga
  choose G hG using hg
  choose S hS using hs
  obtain ⟨al, hal⟩ := LnRow.alpha_eq
  funext j
  idx_vars j
  have e1 : row x y ga j0 = fun k => ((al * X (ix2 j0 k) + A (ix2 0 k) * Y (ix2 j0 k) : ℝ) : EReal) := by
    funext k
    unfold row
    rw [hal, hX, hY, hA]
    push_cast
    rfl
  have e2 : (fun k => dn r d s j0 k * (g (ix2 0 k) : EReal))
      = fun k => (((al * R (ix2 j0 k) + D (ix2 j0 k) * (1 + S (ix2 0 k))) * G (ix2 0 k) : ℝ) : EReal) := by
    funext k
    unfold dn
    rw [hal, hR, hD, hS, hG]
    push_cast
    rfl
  show LnRow.dr LnRow.len (row x y ga j0) (fun k => dn r d s j0 k * (g (ix2 0 k) : EReal)) j1
    = LnRow.dx LnRow.len (row x y ga j0) (fun k => dn r d s j0 k * (g (ix2 0 k) : EReal)) j1
  rw [e1, e2]
  exact (LnRow.dx_len _ _ _).symm

/-- The kernel and the derivative of the plain reference compute one function. -/
theorem algebraic : Cert.algebraic_Ln1BwdIdeal_Ln1BwdRefIdeal_pre_ln1_finite (hLn1BwdIdeal := Cert.Ln1BwdIdeal.Gen.facts)
    (hLn1BwdRefIdeal := Cert.Ln1BwdRefIdeal.Gen.facts) (hPre_ln1_finite := Cert.Pre_ln1_finite.facts) := by
  intro m ρ m' ρ' hpre hag
  refine ⟨_, _, _, _, _, _, _, (θ_run _ _ _).mono (fun _ h c => ⟨(h c).1.trans (final8 m c), (h c).2.1.trans (final9 m c), (h c).2.2.1.trans (final10 m c),
    (h c).2.2.2.1.trans (final11 m c), (h c).2.2.2.2.1.trans (final12 m c), (h c).2.2.2.2.2.1.trans (final13 m c),
    (h c).2.2.2.2.2.2.1.trans (final14 m c), (h c).2.2.2.2.2.2.2⟩) (Cert.Ln1BwdIdeal.Value.run_blocks m ρ),
    (θ_run _ _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩) (Cert.Ln1BwdRefIdeal.RefValue.run m' ρ')⟩
  all_goals
    obtain ⟨a0, a1, a2, a3, a4, a5, a6, a7⟩ := hag c
    haveI := Cert.Pre_ln1_finite.facts
    obtain ⟨r0, r1, r2, r3, r4, r5, r7⟩ := Cert.Pre_ln1_finite.real _ _ _ _ _ _ _ _ (hpre c)
    simp only [a0, a1, a2, a3, a4, a5, a6, a7]
  · exact Gx_eq _ _ _ _ _ _ _ r0 r1 r2 r3 r4 r5 r7
  · exact congrArg (fun e => Gy e _) (Gx_eq _ _ _ _ _ _ _ r0 r1 r2 r3 r4 r5 r7)
  · exact congrArg (fun e => V (T5 e _)) (Gx_eq _ _ _ _ _ _ _ r0 r1 r2 r3 r4 r5 r7)

end Cert.Ln1BwdIdeal.RefValue

end
-- ==== Proof.B1GradValue.lean ====
/-
  Hand-written, untrusted. The value of `B1GradIdeal`: the sum of the rows of an array, accumulated over the points of the grid, which is what
  `B1GradRefIdeal` computes on the host.
-/
module

public import proofs.«01_k».proof.Defs
public import proofs.«01_k».proof.Proof.Gen.B1GradIdeal.Value
public import proofs.«01_k».proof.Proof.Gen.B1GradRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.B1GradIdeal.RefValue

open Cert.B1GradIdeal Cert.B1GradIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![0, 0] :=
  (by decide +kernel : ∀ t : Fin grid0.N, _)

/-- Row `k` of the argument at column `j`. -/
def term (x : Vec Ideal S4096x16384 .bf16) (j : Fin 16384) (k : ℕ) : EReal := if h : k < 4096 then x (ix2 ⟨k, h⟩ j) else 0

/-- The sum of the rows. -/
def G (x : Vec Ideal S4096x16384 .bf16) : Vec Ideal S1x16384 .f32 := fun j => ∑ k ∈ Finset.range 4096, term x (j 1) k

/-- What the body leaves of the sum so far and its block. -/
theorem pay_apply (x0 : Vec Ideal S256x16384 .bf16) (y : Vec Ideal S1x16384 .f32) (b : Fin 16384) :
    k0_pay2 x0 y (ix2 0 b) = (y (ix2 0 b) : EReal) + ∑ a : Fin 256, x0 (ix2 a b) := by
  unfold k0_pay2
  pointwise

/-- The block of a point. -/
def xblk (c : Dev nD) (t : Fin cfg0.N) : Vec Ideal S256x16384 .bf16 := iblk m c 0 t

/-- The block's rows are the argument's. -/
theorem blk_eq (c : Dev nD) (t : Fin cfg0.N) (b : Fin 16384) :
    (∑ a : Fin 256, (xblk m c t (ix2 a b) : EReal))
      = ∑ q ∈ Finset.range 256, term (m ((c : Thread nD τ).loc main_arg0)) b (256 * t.val + q) := by
  have ht : t.val < 16 := lt_of_lt_of_eq t.isLt (show cfg0.N = 16 from N_0)
  rw [Finset.sum_range]
  refine Finset.sum_congr rfl fun a _ => ?_
  have ha := a.isLt
  unfold term
  rw [dif_pos (by omega)]
  unfold xblk
  blk_ext [iblk, V, idx t]

/-- The sum after point `n`: the rows up to there. -/
theorem acc (c : Dev nD) (b : Fin 16384) : ∀ (n : ℕ) (hn : n < cfg0.N), (outsAt0 m c n hn (ix2 0 b) : EReal)
    = ∑ k ∈ Finset.range (256 * (n + 1)), term (m ((c : Thread nD τ).loc main_arg0)) b k := by
  intro n
  induction n with
  | zero =>
    intro hn
    have h := outsAt0_A m c ⟨0, hn⟩ (Nat.zero_mod _)
    dsimp only at h
    rw [h]
    frame_out
    refine (pay_apply (xblk m c _) _ b).trans ?_
    rw [blk_eq m c ⟨0, hn⟩ b]
    unfold k0_pay1
    pointwise
  | succ n ih =>
    intro hn
    have hN : n + 1 < 16 := lt_of_lt_of_eq hn (show cfg0.N = 16 from N_0)
    have h := outsAt0_B m c ⟨n + 1, hn⟩ (by dsimp only; omega)
    dsimp only at h
    rw [h]
    frame_out
    refine (pay_apply (xblk m c _) _ b).trans ?_
    rw [blk_eq m c ⟨n + 1, hn⟩ b, Nat.mul_succ 256 (n + 1), Finset.sum_range_add]
    exact congrArg (· + _) (ih (Nat.lt_of_succ_lt hn))

/-- The result array after the run. -/
theorem final (c : Dev nD) : (dats m 0 c).arrAt 1 cfg0.N = G (m ((c : Thread nD τ).loc main_arg0)) := by
  refine (dats m 0 c).arrAt_eq_of_covers 1 _ (by decide +kernel) fun t hf y => ?_
  have ht : t.val = 16 - 1 := by
    have := lt_of_lt_of_eq t.isLt (show cfg0.N = 16 from N_0)
    have := (flush0_1 t).mp hf
    omega
  have hi := idx t
  blk_simp
  rw [after0_1]
  idx_vars y
  unfold G
  have e := acc m c y1 t.val t.isLt
  rw [show 256 * (t.val + 1) = 4096 by omega] at e
  obtain rfl : y0 = 0 := Subsingleton.elim _ _
  refine e.trans ?_
  · refine Finset.sum_congr rfl fun k _ => congrArg (fun j => term _ j k) ?_
    apply Fin.ext
    blk_simp [hi]

end Cert.B1GradIdeal.RefValue

namespace Cert.B1GradRefIdeal.RefValue

open Cert.B1GradRefIdeal Cert.B1GradRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v6) = Cert.B1GradIdeal.RefValue.G (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext j
  idx_vars j
  unfold Cert.B1GradIdeal.RefValue.G
  rw [Finset.sum_range]
  pointwise
  refine Finset.sum_congr rfl fun k _ => ?_
  unfold Cert.B1GradIdeal.RefValue.term
  rw [dif_pos k.isLt]

end Cert.B1GradRefIdeal.RefValue

namespace Cert.B1GradIdeal.RefValue

open Idealize.ShloMosaic Idealize.SL.Sem

/-- The kernel and the plain reference compute one function. -/
theorem algebraic : Cert.algebraic_B1GradIdeal_B1GradRefIdeal (hB1GradIdeal := Cert.B1GradIdeal.Gen.facts)
    (hB1GradRefIdeal := Cert.B1GradRefIdeal.Gen.facts) :=
  fun m ρ m' ρ' _ hag => ⟨_, (θ_run _ _ _).mono (fun _ h c => ⟨(h c).1.trans (final m c), (h c).2⟩) (Cert.B1GradIdeal.Value.run_blocks m ρ),
    (θ_run _ _ _).mono (fun _ h c => ⟨(h c).1.trans (by rw [hag c]), (h c).2⟩) (Cert.B1GradRefIdeal.RefValue.run m' ρ')⟩

end Cert.B1GradIdeal.RefValue

end
-- ==== Proof.BmodGradValue.lean ====
/-
  Hand-written, untrusted. The value of `BmodGradIdeal`: the sum of the rows of an array, accumulated over the points of the grid, which is what
  `BmodGradRefIdeal` computes on the host.
-/
module

public import proofs.«01_k».proof.Defs
public import proofs.«01_k».proof.Proof.Gen.BmodGradIdeal.Value
public import proofs.«01_k».proof.Proof.Gen.BmodGradRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BmodGradIdeal.RefValue

open Cert.BmodGradIdeal Cert.BmodGradIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![0, 0] :=
  (by decide +kernel : ∀ t : Fin grid0.N, _)

/-- Row `k` of the argument at column `j`. -/
def term (x : Vec Ideal S16x24576 .f32) (j : Fin 24576) (k : ℕ) : EReal := if h : k < 16 then x (ix2 ⟨k, h⟩ j) else 0

/-- The sum of the rows. -/
def G (x : Vec Ideal S16x24576 .f32) : Vec Ideal S1x24576 .f32 := fun j => ∑ k ∈ Finset.range 16, term x (j 1) k

/-- What the body leaves of the sum so far and its block. -/
theorem pay_apply (x0 : Vec Ideal S16x24576 .f32) (y : Vec Ideal S1x24576 .f32) (b : Fin 24576) :
    k0_pay2 x0 y (ix2 0 b) = (y (ix2 0 b) : EReal) + ∑ a : Fin 16, x0 (ix2 a b) := by
  unfold k0_pay2
  pointwise

/-- The block of a point. -/
def xblk (c : Dev nD) (t : Fin cfg0.N) : Vec Ideal S16x24576 .f32 := iblk m c 0 t

/-- The block's rows are the argument's. -/
theorem blk_eq (c : Dev nD) (t : Fin cfg0.N) (b : Fin 24576) :
    (∑ a : Fin 16, (xblk m c t (ix2 a b) : EReal))
      = ∑ q ∈ Finset.range 16, term (m ((c : Thread nD τ).loc main_arg0)) b (16 * t.val + q) := by
  have ht : t.val < 1 := lt_of_lt_of_eq t.isLt (show cfg0.N = 1 from N_0)
  rw [Finset.sum_range]
  refine Finset.sum_congr rfl fun a _ => ?_
  have ha := a.isLt
  unfold term
  rw [dif_pos (by omega)]
  unfold xblk
  blk_ext [iblk, V, idx t]

/-- The sum after the one point. -/
theorem acc (c : Dev nD) (t : Fin cfg0.N) (b : Fin 24576) : (outsAt0 m c t (ix2 0 b) : EReal)
    = ∑ k ∈ Finset.range 16, term (m ((c : Thread nD τ).loc main_arg0)) b k := by
  have ht : t.val < 1 := lt_of_lt_of_eq t.isLt (show cfg0.N = 1 from N_0)
  unfold outsAt0
  frame_out
  refine (pay_apply (xblk m c _) _ b).trans ?_
  rw [blk_eq m c t b, show t.val = 0 by omega]
  unfold k0_pay1
  pointwise

/-- The result array after the run. -/
theorem final (c : Dev nD) : (dats m 0 c).arrAt 1 cfg0.N = G (m ((c : Thread nD τ).loc main_arg0)) := by
  refine (dats m 0 c).arrAt_eq_of_covers 1 _ (by decide +kernel) fun t hf y => ?_
  have hi := idx t
  blk_simp
  rw [after0_1]
  idx_vars y
  unfold G
  have e := acc m c t y1
  obtain rfl : y0 = 0 := Subsingleton.elim _ _
  refine e.trans ?_
  · refine Finset.sum_congr rfl fun k _ => congrArg (fun j => term _ j k) ?_
    apply Fin.ext
    blk_simp [hi]

end Cert.BmodGradIdeal.RefValue

namespace Cert.BmodGradRefIdeal.RefValue

open Cert.BmodGradRefIdeal Cert.BmodGradRefIdeal.Gen
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v5) = Cert.BmodGradIdeal.RefValue.G (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext j
  idx_vars j
  unfold Cert.BmodGradIdeal.RefValue.G
  rw [Finset.sum_range]
  pointwise
  refine Finset.sum_congr rfl fun k _ => ?_
  unfold Cert.BmodGradIdeal.RefValue.term
  rw [dif_pos k.isLt]

end Cert.BmodGradRefIdeal.RefValue

namespace Cert.BmodGradIdeal.RefValue

open Idealize.ShloMosaic Idealize.SL.Sem

/-- The kernel and the plain reference compute one function. -/
theorem algebraic : Cert.algebraic_BmodGradIdeal_BmodGradRefIdeal (hBmodGradIdeal := Cert.BmodGradIdeal.Gen.facts)
    (hBmodGradRefIdeal := Cert.BmodGradRefIdeal.Gen.facts) :=
  fun m ρ m' ρ' _ hag => ⟨_, (θ_run _ _ _).mono (fun _ h c => ⟨(h c).1.trans (final m c), (h c).2⟩) (Cert.BmodGradIdeal.Value.run_blocks m ρ),
    (θ_run _ _ _).mono (fun _ h c => ⟨(h c).1.trans (by rw [hag c]), (h c).2⟩) (Cert.BmodGradRefIdeal.RefValue.run m' ρ')⟩

end Cert.BmodGradIdeal.RefValue

end
-- ==== Proof.LnSilu.lean ====
/-
  Hand-written, untrusted. The activation beside the normalisation: its derivative in the two forms the programs write, and both on
  real numbers.
-/
module

public import proofs.«01_k».proof.Proof.LnRow

@[expose] public section

noncomputable section

namespace Cert.LnRow

open Idealize.ShloMosaic

variable {n : ℕ}

/-- The normalised row of a real row is real. -/
theorem xh_real (hn : (n : ℝ) ≠ 0) (x : Fin n → ℝ) (b : Fin n) : ∃ r : ℝ, xh ((n : ℝ) : EReal) (fun k => (x k : EReal)) b = (r : EReal) := by
  obtain ⟨e, he, hE⟩ := eps_eq
  have hm : mu ((n : ℝ) : EReal) (fun k => (x k : EReal)) = (((∑ k, x k) * (1 / (n : ℝ)) : ℝ) : EReal) := by
    unfold mu
    rw [Ideal.div_coe hn, coe_sum, ← EReal.coe_mul]
  have hx : ∀ k, xc ((n : ℝ) : EReal) (fun k => (x k : EReal)) k = ((x k - (∑ k, x k) * (1 / (n : ℝ)) : ℝ) : EReal) := fun k => by
    unfold xc
    rw [hm, ← EReal.coe_sub]
  generalize hg : (fun k => x k - (∑ k, x k) * (1 / (n : ℝ))) = c at *
  have hx' : ∀ k, xc ((n : ℝ) : EReal) (fun k => (x k : EReal)) k = (c k : EReal) := fun k => by rw [hx k, ← hg]
  have hv : ve ((n : ℝ) : EReal) (fun k => (x k : EReal)) = (((∑ k, c k * c k) * (1 / (n : ℝ)) + e : ℝ) : EReal) := by
    unfold ve
    simp only [hx']
    simp only [Ideal.div_coe hn, ← EReal.coe_mul, coe_sum, hE, ← EReal.coe_add]
  have hp : 0 < (∑ k, c k * c k) * (1 / (n : ℝ)) + e :=
    add_pos_of_nonneg_of_pos (mul_nonneg (Finset.sum_nonneg fun k _ => mul_self_nonneg _) (by positivity)) he
  refine ⟨c b * (Real.sqrt ((∑ k, c k * c k) * (1 / (n : ℝ)) + e))⁻¹, ?_⟩
  unfold xh rs
  rw [hx', hv, Ideal.rsqrt_coe, if_neg (not_lt.mpr hp.le), if_neg hp.ne', ← EReal.coe_mul]

theorem xh_real' (x : Fin 2048 → ℝ) (b : Fin 2048) : ∃ r : ℝ, xh len' (fun k => (x k : EReal)) b = (r : EReal) := by
  have h := xh_real (n := 2048) (by norm_num) x b
  rwa [show (((2048 : ℕ) : ℝ) : EReal) = len' from ((len_eq'.trans (by norm_num)).symm)] at h

/-- The logistic function, as the programs write it out. -/
def sg (z : EReal) : EReal := Ideal.div 1 (1 + Ideal.exp (-z))

/-- The activation. -/
def silu (z : EReal) : EReal := z * sg z

/-- The activation's derivative along a cotangent, as a kernel computes it. -/
def dsilu (d z : EReal) : EReal := d * (sg z * (1 + z * (1 - sg z)))

/-- The activation's derivative along a cotangent, line by line. -/
def dsilu' (d z : EReal) : EReal := d * sg z + z * d * (sg z * (1 - sg z))

/-- The two forms agree on real numbers. -/
theorem dsilu_eq (d z : ℝ) : dsilu (d : EReal) (z : EReal) = dsilu' (d : EReal) (z : EReal) := by
  have h : sg (z : EReal) = (((1 + Real.exp (-z))⁻¹ : ℝ) : EReal) := Ideal.logistic_coe z
  unfold dsilu dsilu'
  rw [h]
  generalize (1 + Real.exp (-z))⁻¹ = s
  rw [← EReal.coe_one]
  simp only [← EReal.coe_mul, ← EReal.coe_add, ← EReal.coe_sub]
  exact congrArg _ (by ring)

/-- The derivative is real at real numbers. -/
theorem dsilu_real (d z : ℝ) : ∃ r : ℝ, dsilu (d : EReal) (z : EReal) = (r : EReal) := by
  have h : sg (z : EReal) = (((1 + Real.exp (-z))⁻¹ : ℝ) : EReal) := Ideal.logistic_coe z
  unfold dsilu
  rw [h]
  generalize (1 + Real.exp (-z))⁻¹ = s
  rw [← EReal.coe_one]
  simp only [← EReal.coe_mul, ← EReal.coe_add, ← EReal.coe_sub]
  exact ⟨_, rfl⟩

end Cert.LnRow

end
-- ==== Proof.CctxGradValue.lean ====
/-
  Hand-written, untrusted. The value of `CctxGradIdeal`: the gradient of the context's conditioning vector through its activation; on real arguments it is what
  `CctxGradRefIdeal` computes on the host.
-/
module

public import proofs.«01_k».proof.Defs
public import proofs.«01_k».proof.Proof.Finite
public import proofs.«01_k».proof.Proof.LnSilu
public import proofs.«01_k».proof.Proof.Gen.CctxGradIdeal.Value
public import proofs.«01_k».proof.Proof.Gen.CctxGradRefIdeal.Run
public import Idealize.ShloMosaic.Lib.Pipeline.ValueKit
public import Idealize.ShloMosaic.Lib.Pipeline.ReadBack
public import Idealize.ShloMosaic.Lib.Pointwise

@[expose] public section

set_option maxRecDepth 200000

noncomputable section

namespace Cert.CctxGradIdeal.RefValue

open Cert.CctxGradIdeal Cert.CctxGradIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![t.val, 0] :=
  (by decide +kernel : ∀ t : Fin grid0.N, _)

/-- What the body computes of its blocks. -/
theorem pay1_apply (x0 x1 : Vec Ideal S1x4096 .f32) (b : Fin 4096) : k0_pay1 x0 x1 (ix2 0 b) = LnRow.dsilu (x0 (ix2 0 b)) (x1 (ix2 0 b)) := by
  unfold k0_pay1
  pointwise
  simp only [zero_sub]
  rfl

/-- The result as a function of the arguments. -/
def N (x y : Vec Ideal S1x4096 .f32) : Vec Ideal S1x4096 .f32 := fun j => LnRow.dsilu (x (ix2 0 (j 1))) (y (ix2 0 (j 1)))

def X0 (c : Dev nD) (t : Fin cfg0.N) : Vec Ideal S1x4096 .f32 := iblk m c 0 t
theorem x0_eq (c : Dev nD) (t : Fin cfg0.N) (k : Fin 4096) : X0 m c t (ix2 0 k) = (m ((c : Thread nD τ).loc main_arg0)) (ix2 0 k) := by
  unfold X0
  blk_ext [iblk, Gen.V, idx t]
def X1 (c : Dev nD) (t : Fin cfg0.N) : Vec Ideal S1x4096 .f32 := iblk m c 1 t
theorem x1_eq (c : Dev nD) (t : Fin cfg0.N) (k : Fin 4096) : X1 m c t (ix2 0 k) = (m ((c : Thread nD τ).loc main_arg1)) (ix2 0 k) := by
  unfold X1
  blk_ext [iblk, Gen.V, idx t]

/-- What the one point leaves. -/
theorem out2 (c : Dev nD) (t : Fin cfg0.N) (b : Fin 4096) : (out0_2 (iblk m c 0 t) (iblk m c 1 t) (ix2 0 b) : EReal)
    = LnRow.dsilu ((m ((c : Thread nD τ).loc main_arg0)) (ix2 0 b)) ((m ((c : Thread nD τ).loc main_arg1)) (ix2 0 b)) := by
  have key : k0_pay1 (X0 m c t) (X1 m c t) (ix2 0 b) = LnRow.dsilu ((m ((c : Thread nD τ).loc main_arg0)) (ix2 0 b)) ((m ((c : Thread nD τ).loc main_arg1)) (ix2 0 b)) := by
    rw [pay1_apply, x0_eq, x1_eq]
  frame_out
  exact key

/-- The result after the run. -/
theorem final2 (c : Dev nD) : (dats m 0 c).arrAt 2 cfg0.N = N (m ((c : Thread nD τ).loc main_arg0)) (m ((c : Thread nD τ).loc main_arg1)) := by
  refine (dats m 0 c).arrAt_eq_of_covers 2 _ (by decide +kernel) fun t hf y => ?_
  have hi := idx t
  blk_simp
  rw [after0_2]
  idx_vars y
  obtain rfl : y0 = 0 := Subsingleton.elim _ _
  refine (out2 m c t y1).trans ?_
  unfold N
  refine congrArg (fun k : Fin 4096 => LnRow.dsilu ((m ((c : Thread nD τ).loc main_arg0)) (ix2 0 k)) ((m ((c : Thread nD τ).loc main_arg1)) (ix2 0 k))) ?_
  apply Fin.ext
  blk_simp [hi]

end Cert.CctxGradIdeal.RefValue

namespace Cert.Pre_cctx_finite

open Idealize.ShloMosaic Cert.Finite

/-- The precondition's side conditions hold. -/
theorem facts : Facts where
  bcast_S_S1x4096 := by decide
  reducesTo_S1x4096_S_d0_1 := by decide
  h_S_ := by decide

variable [Facts]
open Facts

/-- What the precondition says. -/
theorem real (x0 x1 : FVec Ideal S1x4096 .f32) (h : fn (F := Ideal) x0 x1 = fun _ => 1#1) :
    (∀ i, ∃ r : ℝ, x0 i = (r : EReal)) ∧ (∀ i, ∃ r : ℝ, x1 i = (r : EReal)) := by
  have e0 : fn (F := Ideal) x0 x1 = andi (every S1x4096 [0, 1] bcast_S_S1x4096 reducesTo_S1x4096_S_d0_1 h_S_ x0)
      (every S1x4096 [0, 1] bcast_S_S1x4096 reducesTo_S1x4096_S_d0_1 h_S_ x1) := rfl
  obtain ⟨h0, h1⟩ := two _ _ (congrFun (e0.symm.trans h) (Shape.Idx.first h_S_))
  exact ⟨every_real _ _ _ _ _ _ h0, every_real _ _ _ _ _ _ h1⟩

end Cert.Pre_cctx_finite

namespace Cert.CctxGradRefIdeal.RefValue

open Cert.CctxGradRefIdeal Cert.CctxGradRefIdeal.Gen
open Idealize.ShloMosaic Idealize.ShloMosaic.TcCoe Idealize.SL.Sem

variable (m : (ℓ : Loc nD τ sig) → Buf (Elt Ideal) ℓ) (ρ : Dev nD → PrngReg)

/-- The gradient line by line. -/
def N (x y : Vec Ideal S1x4096 .f32) : Vec Ideal S1x4096 .f32 := fun j => LnRow.dsilu' (x (ix2 0 (j 1))) (y (ix2 0 (j 1)))

/-- The host's run leaves the gradient line by line. -/
theorem run : θ_run defs (onTc (τ := τ) (main (F := Ideal))) ⟨m, fun _ => 0, ρ⟩ fun r => ∀ c : Dev nD,
      r.2.mem ((c.tc : Thread nD τ).loc main_v1) = N (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  obtain rfl : j0 = 0 := Subsingleton.elim _ _
  unfold N
  pointwise
  rfl

end Cert.CctxGradRefIdeal.RefValue

namespace Cert.CctxGradIdeal.RefValue

open Idealize.ShloMosaic Idealize.SL.Sem

/-- On real arguments the two forms of the gradient agree. -/
theorem N_eq (x y : Vec Ideal Cert.CctxGradIdeal.S1x4096 .f32) (hx : ∀ i, ∃ q : ℝ, x i = (q : EReal)) (hy : ∀ i, ∃ q : ℝ, y i = (q : EReal)) :
    Cert.CctxGradRefIdeal.RefValue.N x y = N x y := by
  choose P hP using hx
  choose Q hQ using hy
  funext j
  show LnRow.dsilu' (x _) (y _) = LnRow.dsilu (x _) (y _)
  rw [hP, hQ]
  exact (LnRow.dsilu_eq _ _).symm

/-- The kernel and the derivative of the plain reference compute one function. -/
theorem algebraic : Cert.algebraic_CctxGradIdeal_CctxGradRefIdeal_pre_cctx_finite (hCctxGradIdeal := Cert.CctxGradIdeal.Gen.facts)
    (hCctxGradRefIdeal := Cert.CctxGradRefIdeal.Gen.facts) (hPre_cctx_finite := Cert.Pre_cctx_finite.facts) := by
  intro m ρ m' ρ' hpre hag
  refine ⟨_, (θ_run _ _ _).mono (fun _ h c => ⟨(h c).1.trans (final2 m c), (h c).2⟩) (Cert.CctxGradIdeal.Value.run_blocks m ρ),
    (θ_run _ _ _).mono (fun _ h c => ⟨(h c).1.trans ?_, (h c).2⟩) (Cert.CctxGradRefIdeal.RefValue.run m' ρ')⟩
  obtain ⟨a0, a1⟩ := hag c
  haveI := Cert.Pre_cctx_finite.facts
  obtain ⟨r0, r1⟩ := Cert.Pre_cctx_finite.real _ _ (hpre c)
  simp only [a0, a1]
  exact N_eq _ _ r0 r1

end Cert.CctxGradIdeal.RefValue

end
-- ==== Proof.LnLatFwdValue.lean ====
/-
  Hand-written, untrusted. The value of `LnLatFwdIdeal`: the first normalisation of the latent rows, and the normalised rows modulated, which is what
  `LnLatFwdRefIdeal` computes on the host.
-/
module

public import proofs.«01_k».proof.Defs
public import proofs.«01_k».proof.Proof.LnRow
public import proofs.«01_k».proof.Proof.Gen.LnLatFwdIdeal.Value
public import proofs.«01_k».proof.Proof.Gen.LnLatFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnLatFwdIdeal.RefValue

open Cert.LnLatFwdIdeal Cert.LnLatFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

/-! ## What the body computes of its blocks -/

theorem pay1_apply (x0 : Vec Ideal S128x4096 .f32) (x1 x2 : Vec Ideal S1x4096 .f32) (a : Fin 128) (b : Fin 4096) :
    k0_pay1 x0 x1 x2 (ix2 a b) = (LnRow.xh LnRow.len (fun k => x0 (ix2 a k)) b * x1 (ix2 0 b) + x2 (ix2 0 b) : EReal) := by
  unfold k0_pay1
  pointwise
  rfl

theorem pay2_apply (x0 : Vec Ideal S128x4096 .f32) (x1 x2 x3 x4 : Vec Ideal S1x4096 .f32) (a : Fin 128) (b : Fin 4096) :
    k0_pay2 x0 x1 x2 x3 x4 (ix2 a b) = (k0_pay1 x0 x1 x2 (ix2 a b) * (1 + x4 (ix2 0 b)) + x3 (ix2 0 b) : EReal) := by
  unfold k0_pay2
  pointwise

/-! ## The results as functions of the arguments -/

/-- The normalised rows, scaled and shifted. -/
def N (x : Vec Ideal S4096x4096 .f32) (g b : Vec Ideal S1x4096 .f32) : Vec Ideal S4096x4096 .f32 := fun j =>
  (LnRow.xh LnRow.len (fun k => x (ix2 (j 0) k)) (j 1) * g (ix2 0 (j 1)) + b (ix2 0 (j 1)) : EReal)

/-- The normalised rows, modulated. -/
def Md (x : Vec Ideal S4096x4096 .f32) (g b sh sc : Vec Ideal S1x4096 .f32) : Vec Ideal S4096x4096 .bf16 := fun j =>
  (N x g b (ix2 (j 0) (j 1)) * (1 + sc (ix2 0 (j 1))) + sh (ix2 0 (j 1)) : EReal)

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S1x4096 .f32 := iblk m c 1 t
theorem x1_eq (c : Dev nD) (t : Fin cfg0.N) (k : Fin 4096) : X1 m c t (ix2 0 k) = (m ((c : Thread nD τ).loc main_arg1)) (ix2 0 k) := by
  unfold X1
  blk_ext [iblk, Gen.V, idx t]
def X2 (c : Dev nD) (t : Fin cfg0.N) : Vec Ideal S1x4096 .f32 := iblk m c 2 t
theorem x2_eq (c : Dev nD) (t : Fin cfg0.N) (k : Fin 4096) : X2 m c t (ix2 0 k) = (m ((c : Thread nD τ).loc main_arg2)) (ix2 0 k) := by
  unfold X2
  blk_ext [iblk, Gen.V, idx t]
def X3 (c : Dev nD) (t : Fin cfg0.N) : Vec Ideal S1x4096 .f32 := iblk m c 3 t
theorem x3_eq (c : Dev nD) (t : Fin cfg0.N) (k : Fin 4096) : X3 m c t (ix2 0 k) = (m ((c : Thread nD τ).loc main_arg3)) (ix2 0 k) := by
  unfold X3
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]

/-- The normalised rows at a point. -/
theorem n_eq (c : Dev nD) (t : Fin cfg0.N) (a : Fin 128) (b : Fin 4096) : k0_pay1 (X0 m c t) (X1 m c t) (X2 m c t) (ix2 a b) = (N (m ((c : Thread nD τ).loc main_arg0)) (m ((c : Thread nD τ).loc main_arg1)) (m ((c : Thread nD τ).loc main_arg2))) (ix2 (at_ t a) b) := by
  rw [pay1_apply, x1_eq, x2_eq]
  simp only [x0_eq]
  rfl

/-- What every point leaves of window 5. -/
theorem out5 (c : Dev nD) (t : Fin cfg0.N) (a : Fin 128) (b : Fin 4096) : (out0_5 (iblk m c 0 t) (iblk m c 1 t) (iblk m c 2 t) (iblk m c 3 t) (iblk m c 4 t) (ix2 a b) : EReal)
    = (N (m ((c : Thread nD τ).loc main_arg0)) (m ((c : Thread nD τ).loc main_arg1)) (m ((c : Thread nD τ).loc main_arg2))) (ix2 (at_ t a) b) := by
  have key : k0_pay1 (X0 m c t) (X1 m c t) (X2 m c t) (ix2 a b) = (N (m ((c : Thread nD τ).loc main_arg0)) (m ((c : Thread nD τ).loc main_arg1)) (m ((c : Thread nD τ).loc main_arg2))) (ix2 (at_ t a) b) := by
    exact n_eq m c t a b

  frame_out
  exact key

/-- Window 5 after the run. -/
theorem final5 (c : Dev nD) : (dats m 0 c).arrAt 5 cfg0.N = (N (m ((c : Thread nD τ).loc main_arg0)) (m ((c : Thread nD τ).loc main_arg1)) (m ((c : Thread nD τ).loc main_arg2))) := by
  refine (dats m 0 c).arrAt_eq_of_covers 5 _ (by decide +kernel) fun t hf y => ?_
  have hi := idx t
  blk_simp
  rw [after0_5]
  idx_vars y
  refine (out5 m c t y0 y1).trans (congrArg₂ (fun i b => (N (m ((c : Thread nD τ).loc main_arg0)) (m ((c : Thread nD τ).loc main_arg1)) (m ((c : Thread nD τ).loc main_arg2))) (ix2 i b)) ?_ ?_)
  · apply Fin.ext
    refine (show (at_ t y0).val = 128 * t.val + y0.val from rfl).trans ?_
    blk_simp [hi]
    omega
  · apply Fin.ext
    blk_simp [hi]

/-- What every point leaves of window 6. -/
theorem out6 (c : Dev nD) (t : Fin cfg0.N) (a : Fin 128) (b : Fin 4096) : (out0_6 (iblk m c 0 t) (iblk m c 1 t) (iblk m c 2 t) (iblk m c 3 t) (iblk m c 4 t) (ix2 a b) : EReal)
    = (Md (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
  have key : k0_pay2 (X0 m c t) (X1 m c t) (X2 m c t) (X3 m c t) (X4 m c t) (ix2 a b) = (Md (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
    rw [pay2_apply, n_eq, x3_eq, x4_eq]
    rfl

  frame_out
  exact key

/-- Window 6 after the run. -/
theorem final6 (c : Dev nD) : (dats m 0 c).arrAt 6 cfg0.N = (Md (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 6 _ (by decide +kernel) fun t hf y => ?_
  have hi := idx t
  blk_simp
  rw [after0_6]
  idx_vars y
  refine (out6 m c t y0 y1).trans (congrArg₂ (fun i b => (Md (m ((c : Thread nD τ).loc main_arg0)) (m ((c : Thread nD τ).loc main_arg1)) (m ((c : Thread nD τ).loc main_arg2)) (m ((c : Thread nD τ).loc main_arg3)) (m ((c : Thread nD τ).loc main_arg4))) (ix2 i b)) ?_ ?_)
  · apply Fin.ext
    refine (show (at_ t y0).val = 128 * t.val + y0.val from rfl).trans ?_
    blk_simp [hi]
    omega
  · apply Fin.ext
    blk_simp [hi]

end Cert.LnLatFwdIdeal.RefValue

namespace Cert.LnLatFwdRefIdeal.RefValue

open Cert.LnLatFwdRefIdeal Cert.LnLatFwdRefIdeal.Gen
open Cert.LnLatFwdIdeal.RefValue (N Md)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v21) = N (m ((c.tc : Thread nD τ).loc main_arg0)) (m ((c.tc : Thread nD τ).loc main_arg1)) (m ((c.tc : Thread nD τ).loc main_arg2))
      ∧ r.2.mem ((c.tc : Thread nD τ).loc main_v28) = Md (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  all_goals
    funext j
    idx_vars j
    pointwise
    rfl

end Cert.LnLatFwdRefIdeal.RefValue

namespace Cert.LnLatFwdIdeal.RefValue

open Idealize.ShloMosaic Idealize.SL.Sem

/-- The kernel and the plain reference compute one function. -/
theorem algebraic : Cert.algebraic_LnLatFwdIdeal_LnLatFwdRefIdeal (hLnLatFwdIdeal := Cert.LnLatFwdIdeal.Gen.facts)
    (hLnLatFwdRefIdeal := Cert.LnLatFwdRefIdeal.Gen.facts) := by
  intro m ρ m' ρ' _ hag
  refine ⟨_, _, (θ_run _ _ _).mono (fun _ h c => ⟨(h c).1.trans (final5 m c), (h c).2.1.trans (final6 m c), (h c).2.2⟩) (Cert.LnLatFwdIdeal.Value.run_blocks m ρ),
    (θ_run _ _ _).mono (fun _ h c => ⟨(h c).1.trans ?_, (h c).2.1.trans ?_, (h c).2.2⟩) (Cert.LnLatFwdRefIdeal.RefValue.run m' ρ')⟩
  all_goals
    obtain ⟨a0, a1, a2, a3, a4⟩ := hag c
    simp only [a0, a1, a2, a3, a4]

end Cert.LnLatFwdIdeal.RefValue

end
-- ==== Proof.LnCtxFwdValue.lean ====
/-
  Hand-written, untrusted. The value of `LnCtxFwdIdeal`: the first normalisation of the context rows, and the normalised rows modulated, which is what
  `LnCtxFwdRefIdeal` computes on the host.
-/
module

public import proofs.«01_k».proof.Defs
public import proofs.«01_k».proof.Proof.LnRow
public import proofs.«01_k».proof.Proof.Gen.LnCtxFwdIdeal.Value
public import proofs.«01_k».proof.Proof.Gen.LnCtxFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnCtxFwdIdeal.RefValue

open Cert.LnCtxFwdIdeal Cert.LnCtxFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

/-! ## What the body computes of its blocks -/

theorem pay1_apply (x0 : Vec Ideal S128x4096 .f32) (x1 x2 : Vec Ideal S1x4096 .f32) (a : Fin 128) (b : Fin 4096) :
    k0_pay1 x0 x1 x2 (ix2 a b) = (LnRow.xh LnRow.len (fun k => x0 (ix2 a k)) b * x1 (ix2 0 b) + x2 (ix2 0 b) : EReal) := by
  unfold k0_pay1
  pointwise
  rfl

theorem pay2_apply (x0 : Vec Ideal S128x4096 .f32) (x1 x2 x3 x4 : Vec Ideal S1x4096 .f32) (a : Fin 128) (b : Fin 4096) :
    k0_pay2 x0 x1 x2 x3 x4 (ix2 a b) = (k0_pay1 x0 x1 x2 (ix2 a b) * (1 + x4 (ix2 0 b)) + x3 (ix2 0 b) : EReal) := by
  unfold k0_pay2
  pointwise

/-! ## The results as functions of the arguments -/

/-- The normalised rows, scaled and shifted. -/
def N (x : Vec Ideal S256x4096 .f32) (g b : Vec Ideal S1x4096 .f32) : Vec Ideal S256x4096 .f32 := fun j =>
  (LnRow.xh LnRow.len (fun k => x (ix2 (j 0) k)) (j 1) * g (ix2 0 (j 1)) + b (ix2 0 (j 1)) : EReal)

/-- The normalised rows, modulated. -/
def Md (x : Vec Ideal S256x4096 .f32) (g b sh sc : Vec Ideal S1x4096 .f32) : Vec Ideal S256x4096 .bf16 := fun j =>
  (N x g b (ix2 (j 0) (j 1)) * (1 + sc (ix2 0 (j 1))) + sh (ix2 0 (j 1)) : EReal)

/-! ## The blocks of a point -/

/-- Row `a` of the block of point `t`. -/
def at_ (t : Fin cfg0.N) (a : Fin 128) : Fin 256 :=
  ⟨128 * t.val + a.val, by have := lt_of_lt_of_eq t.isLt (show cfg0.N = 2 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S1x4096 .f32 := iblk m c 1 t
theorem x1_eq (c : Dev nD) (t : Fin cfg0.N) (k : Fin 4096) : X1 m c t (ix2 0 k) = (m ((c : Thread nD τ).loc main_arg1)) (ix2 0 k) := by
  unfold X1
  blk_ext [iblk, Gen.V, idx t]
def X2 (c : Dev nD) (t : Fin cfg0.N) : Vec Ideal S1x4096 .f32 := iblk m c 2 t
theorem x2_eq (c : Dev nD) (t : Fin cfg0.N) (k : Fin 4096) : X2 m c t (ix2 0 k) = (m ((c : Thread nD τ).loc main_arg2)) (ix2 0 k) := by
  unfold X2
  blk_ext [iblk, Gen.V, idx t]
def X3 (c : Dev nD) (t : Fin cfg0.N) : Vec Ideal S1x4096 .f32 := iblk m c 3 t
theorem x3_eq (c : Dev nD) (t : Fin cfg0.N) (k : Fin 4096) : X3 m c t (ix2 0 k) = (m ((c : Thread nD τ).loc main_arg3)) (ix2 0 k) := by
  unfold X3
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]

/-- The normalised rows at a point. -/
theorem n_eq (c : Dev nD) (t : Fin cfg0.N) (a : Fin 128) (b : Fin 4096) : k0_pay1 (X0 m c t) (X1 m c t) (X2 m c t) (ix2 a b) = (N (m ((c : Thread nD τ).loc main_arg0)) (m ((c : Thread nD τ).loc main_arg1)) (m ((c : Thread nD τ).loc main_arg2))) (ix2 (at_ t a) b) := by
  rw [pay1_apply, x1_eq, x2_eq]
  simp only [x0_eq]
  rfl

/-- What every point leaves of window 5. -/
theorem out5 (c : Dev nD) (t : Fin cfg0.N) (a : Fin 128) (b : Fin 4096) : (out0_5 (iblk m c 0 t) (iblk m c 1 t) (iblk m c 2 t) (iblk m c 3 t) (iblk m c 4 t) (ix2 a b) : EReal)
    = (N (m ((c : Thread nD τ).loc main_arg0)) (m ((c : Thread nD τ).loc main_arg1)) (m ((c : Thread nD τ).loc main_arg2))) (ix2 (at_ t a) b) := by
  have key : k0_pay1 (X0 m c t) (X1 m c t) (X2 m c t) (ix2 a b) = (N (m ((c : Thread nD τ).loc main_arg0)) (m ((c : Thread nD τ).loc main_arg1)) (m ((c : Thread nD τ).loc main_arg2))) (ix2 (at_ t a) b) := by
    exact n_eq m c t a b

  frame_out
  exact key

/-- Window 5 after the run. -/
theorem final5 (c : Dev nD) : (dats m 0 c).arrAt 5 cfg0.N = (N (m ((c : Thread nD τ).loc main_arg0)) (m ((c : Thread nD τ).loc main_arg1)) (m ((c : Thread nD τ).loc main_arg2))) := by
  refine (dats m 0 c).arrAt_eq_of_covers 5 _ (by decide +kernel) fun t hf y => ?_
  have hi := idx t
  blk_simp
  rw [after0_5]
  idx_vars y
  refine (out5 m c t y0 y1).trans (congrArg₂ (fun i b => (N (m ((c : Thread nD τ).loc main_arg0)) (m ((c : Thread nD τ).loc main_arg1)) (m ((c : Thread nD τ).loc main_arg2))) (ix2 i b)) ?_ ?_)
  · apply Fin.ext
    refine (show (at_ t y0).val = 128 * t.val + y0.val from rfl).trans ?_
    blk_simp [hi]
    omega
  · apply Fin.ext
    blk_simp [hi]

/-- What every point leaves of window 6. -/
theorem out6 (c : Dev nD) (t : Fin cfg0.N) (a : Fin 128) (b : Fin 4096) : (out0_6 (iblk m c 0 t) (iblk m c 1 t) (iblk m c 2 t) (iblk m c 3 t) (iblk m c 4 t) (ix2 a b) : EReal)
    = (Md (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
  have key : k0_pay2 (X0 m c t) (X1 m c t) (X2 m c t) (X3 m c t) (X4 m c t) (ix2 a b) = (Md (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
    rw [pay2_apply, n_eq, x3_eq, x4_eq]
    rfl

  frame_out
  exact key

/-- Window 6 after the run. -/
theorem final6 (c : Dev nD) : (dats m 0 c).arrAt 6 cfg0.N = (Md (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 6 _ (by decide +kernel) fun t hf y => ?_
  have hi := idx t
  blk_simp
  rw [after0_6]
  idx_vars y
  refine (out6 m c t y0 y1).trans (congrArg₂ (fun i b => (Md (m ((c : Thread nD τ).loc main_arg0)) (m ((c : Thread nD τ).loc main_arg1)) (m ((c : Thread nD τ).loc main_arg2)) (m ((c : Thread nD τ).loc main_arg3)) (m ((c : Thread nD τ).loc main_arg4))) (ix2 i b)) ?_ ?_)
  · apply Fin.ext
    refine (show (at_ t y0).val = 128 * t.val + y0.val from rfl).trans ?_
    blk_simp [hi]
    omega
  · apply Fin.ext
    blk_simp [hi]

end Cert.LnCtxFwdIdeal.RefValue

namespace Cert.LnCtxFwdRefIdeal.RefValue

open Cert.LnCtxFwdRefIdeal Cert.LnCtxFwdRefIdeal.Gen
open Cert.LnCtxFwdIdeal.RefValue (N Md)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v21) = N (m ((c.tc : Thread nD τ).loc main_arg0)) (m ((c.tc : Thread nD τ).loc main_arg1)) (m ((c.tc : Thread nD τ).loc main_arg2))
      ∧ r.2.mem ((c.tc : Thread nD τ).loc main_v28) = Md (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  all_goals
    funext j
    idx_vars j
    pointwise
    rfl

end Cert.LnCtxFwdRefIdeal.RefValue

namespace Cert.LnCtxFwdIdeal.RefValue

open Idealize.ShloMosaic Idealize.SL.Sem

/-- The kernel and the plain reference compute one function. -/
theorem algebraic : Cert.algebraic_LnCtxFwdIdeal_LnCtxFwdRefIdeal (hLnCtxFwdIdeal := Cert.LnCtxFwdIdeal.Gen.facts)
    (hLnCtxFwdRefIdeal := Cert.LnCtxFwdRefIdeal.Gen.facts) := by
  intro m ρ m' ρ' _ hag
  refine ⟨_, _, (θ_run _ _ _).mono (fun _ h c => ⟨(h c).1.trans (final5 m c), (h c).2.1.trans (final6 m c), (h c).2.2⟩) (Cert.LnCtxFwdIdeal.Value.run_blocks m ρ),
    (θ_run _ _ _).mono (fun _ h c => ⟨(h c).1.trans ?_, (h c).2.1.trans ?_, (h c).2.2⟩) (Cert.LnCtxFwdRefIdeal.RefValue.run m' ρ')⟩
  all_goals
    obtain ⟨a0, a1, a2, a3, a4⟩ := hag c
    simp only [a0, a1, a2, a3, a4]

end Cert.LnCtxFwdIdeal.RefValue

end
-- ==== Proof.Ln1FwdValue.lean ====
/-
  Hand-written, untrusted. The value of `Ln1FwdIdeal`: the normalisation after the mixing, and the normalised rows modulated, which is what
  `Ln1FwdRefIdeal` computes on the host.
-/
module

public import proofs.«01_k».proof.Defs
public import proofs.«01_k».proof.Proof.LnRow
public import proofs.«01_k».proof.Proof.Gen.Ln1FwdIdeal.Value
public import proofs.«01_k».proof.Proof.Gen.Ln1FwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ln1FwdIdeal.RefValue

open Cert.Ln1FwdIdeal Cert.Ln1FwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-! ## What the body computes of its blocks -/

theorem pay2_apply (x0 x1 : Vec Ideal S128x4096 .f32) (x2 x3 x4 : Vec Ideal S1x4096 .f32) (a : Fin 128) (b : Fin 4096) :
    k0_pay2 x0 x1 x2 x3 x4 (ix2 a b) = (LnRow.xh LnRow.len (fun k => (Ideal.ofBits .f32 0x3F9837F0#32 * x0 (ix2 a k) + x2 (ix2 0 k) * x1 (ix2 a k) : EReal)) b
      * x3 (ix2 0 b) + x4 (ix2 0 b) : EReal) := by
  unfold k0_pay2
  pointwise
  rfl

theorem pay1_apply (x0 x1 : Vec Ideal S128x4096 .f32) (x2 x3 x4 x5 x6 : Vec Ideal S1x4096 .f32) (a : Fin 128) (b : Fin 4096) :
    k0_pay1 (k0_pay3 x0 x1 x2 x3 x4 x6) (k0_pay4 x5) (ix2 a b)
    = (k0_pay2 x0 x1 x2 x3 x4 (ix2 a b) * (1 + x6 (ix2 0 b)) + x5 (ix2 0 b) : EReal) := by
  unfold k0_pay1 k0_pay3 k0_pay4
  pointwise

/-! ## The results as functions of the arguments -/

/-- The normalised rows, scaled and shifted. -/
def N (x y : Vec Ideal S4096x4096 .f32) (ga g b : Vec Ideal S1x4096 .f32) : Vec Ideal S4096x4096 .f32 := fun j =>
  (LnRow.xh LnRow.len (fun k => (Ideal.ofBits .f32 0x3F9837F0#32 * x (ix2 (j 0) k) + ga (ix2 0 k) * y (ix2 (j 0) k) : EReal)) (j 1) * g (ix2 0 (j 1)) + b (ix2 0 (j 1)) : EReal)

/-- The normalised rows, modulated. -/
def Md (x y : Vec Ideal S4096x4096 .f32) (ga g b sh sc : Vec Ideal S1x4096 .f32) : Vec Ideal S4096x4096 .bf16 := fun j =>
  (N x y ga g b (ix2 (j 0) (j 1)) * (1 + sc (ix2 0 (j 1))) + sh (ix2 0 (j 1)) : EReal)

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S1x4096 .f32 := iblk m c 2 t
theorem x2_eq (c : Dev nD) (t : Fin cfg0.N) (k : Fin 4096) : X2 m c t (ix2 0 k) = (m ((c : Thread nD τ).loc main_arg2)) (ix2 0 k) := by
  unfold X2
  blk_ext [iblk, Gen.V, idx t]
def X3 (c : Dev nD) (t : Fin cfg0.N) : Vec Ideal S1x4096 .f32 := iblk m c 3 t
theorem x3_eq (c : Dev nD) (t : Fin cfg0.N) (k : Fin 4096) : X3 m c t (ix2 0 k) = (m ((c : Thread nD τ).loc main_arg3)) (ix2 0 k) := by
  unfold X3
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]
def X5 (c : Dev nD) (t : Fin cfg0.N) : Vec Ideal S1x4096 .f32 := iblk m c 5 t
theorem x5_eq (c : Dev nD) (t : Fin cfg0.N) (k : Fin 4096) : X5 m c t (ix2 0 k) = (m ((c : Thread nD τ).loc main_arg5)) (ix2 0 k) := by
  unfold X5
  blk_ext [iblk, Gen.V, idx t]
def X6 (c : Dev nD) (t : Fin cfg0.N) : Vec Ideal S1x4096 .f32 := iblk m c 6 t
theorem x6_eq (c : Dev nD) (t : Fin cfg0.N) (k : Fin 4096) : X6 m c t (ix2 0 k) = (m ((c : Thread nD τ).loc main_arg6)) (ix2 0 k) := by
  unfold X6
  blk_ext [iblk, Gen.V, idx t]

/-- The normalised rows at a point. -/
theorem n_eq (c : Dev nD) (t : Fin cfg0.N) (a : Fin 128) (b : Fin 4096) : k0_pay2 (X0 m c t) (X1 m c t) (X2 m c t) (X3 m c t) (X4 m c t) (ix2 a b) = (N (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
  rw [pay2_apply, x3_eq, x4_eq]
  simp only [x0_eq, x1_eq, x2_eq]
  rfl

/-- What every point leaves of window 7. -/
theorem out7 (c : Dev nD) (t : Fin cfg0.N) (a : Fin 128) (b : Fin 4096) : (out0_7 (iblk m c 0 t) (iblk m c 1 t) (iblk m c 2 t) (iblk m c 3 t) (iblk m c 4 t) (iblk m c 5 t) (iblk m c 6 t) (ix2 a b) : EReal)
    = (N (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
  have key : k0_pay2 (X0 m c t) (X1 m c t) (X2 m c t) (X3 m c t) (X4 m c t) (ix2 a b) = (N (m ((c : Thread nD τ).loc main_arg0)) (m ((c : Thread nD τ).loc main_arg1)) (m ((c : Thread nD τ).loc main_arg2)) (m ((c : Thread nD τ).loc main_arg3)) (m ((c : Thread nD τ).loc main_arg4))) (ix2 (at_ t a) b) := by
    exact n_eq m c t a b

  frame_out
  exact key

/-- Window 7 after the run. -/
theorem final7 (c : Dev nD) : (dats m 0 c).arrAt 7 cfg0.N = (N (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t hf y => ?_
  have hi := idx t
  blk_simp
  rw [after0_7]
  idx_vars y
  refine (out7 m c t y0 y1).trans (congrArg₂ (fun i b => (N (m ((c : Thread nD τ).loc main_arg0)) (m ((c : Thread nD τ).loc main_arg1)) (m ((c : Thread nD τ).loc main_arg2)) (m ((c : Thread nD τ).loc main_arg3)) (m ((c : Thread nD τ).loc main_arg4))) (ix2 i b)) ?_ ?_)
  · apply Fin.ext
    refine (show (at_ t y0).val = 128 * t.val + y0.val from rfl).trans ?_
    blk_simp [hi]
    omega
  · apply Fin.ext
    blk_simp [hi]

/-- What every point leaves of window 8. -/
theorem out8 (c : Dev nD) (t : Fin cfg0.N) (a : Fin 128) (b : Fin 4096) : (out0_8 (iblk m c 0 t) (iblk m c 1 t) (iblk m c 2 t) (iblk m c 3 t) (iblk m c 4 t) (iblk m c 5 t) (iblk m c 6 t) (ix2 a b) : EReal)
    = (Md (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) b) := by
  have key : k0_pay1 (k0_pay3 (X0 m c t) (X1 m c t) (X2 m c t) (X3 m c t) (X4 m c t) (X6 m c t)) (k0_pay4 (X5 m c t)) (ix2 a b) = (Md (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) b) := by
    rw [pay1_apply, n_eq, x5_eq, x6_eq]
    rfl

  frame_out
  exact key

/-- Window 8 after the run. -/
theorem final8 (c : Dev nD) : (dats m 0 c).arrAt 8 cfg0.N = (Md (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 8 _ (by decide +kernel) fun t hf y => ?_
  have hi := idx t
  blk_simp
  rw [after0_8]
  idx_vars y
  refine (out8 m c t y0 y1).trans (congrArg₂ (fun i b => (Md (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 i b)) ?_ ?_)
  · apply Fin.ext
    refine (show (at_ t y0).val = 128 * t.val + y0.val from rfl).trans ?_
    blk_simp [hi]
    omega
  · apply Fin.ext
    blk_simp [hi]

end Cert.Ln1FwdIdeal.RefValue

namespace Cert.Ln1FwdRefIdeal.RefValue

open Cert.Ln1FwdRefIdeal Cert.Ln1FwdRefIdeal.Gen
open Cert.Ln1FwdIdeal.RefValue (N Md)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v26) = N (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = Md (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2⟩) (Value.run m ρ)
  all_goals
    funext j
    idx_vars j
    pointwise
    rfl

end Cert.Ln1FwdRefIdeal.RefValue

namespace Cert.Ln1FwdIdeal.RefValue

open Idealize.ShloMosaic Idealize.SL.Sem

/-- The kernel and the plain reference compute one function. -/
theorem algebraic : Cert.algebraic_Ln1FwdIdeal_Ln1FwdRefIdeal (hLn1FwdIdeal := Cert.Ln1FwdIdeal.Gen.facts)
    (hLn1FwdRefIdeal := Cert.Ln1FwdRefIdeal.Gen.facts) := by
  intro m ρ m' ρ' _ hag
  refine ⟨_, _, (θ_run _ _ _).mono (fun _ h c => ⟨(h c).1.trans (final7 m c), (h c).2.1.trans (final8 m c), (h c).2.2⟩) (Cert.Ln1FwdIdeal.Value.run_blocks m ρ),
    (θ_run _ _ _).mono (fun _ h c => ⟨(h c).1.trans ?_, (h c).2.1.trans ?_, (h c).2.2⟩) (Cert.Ln1FwdRefIdeal.RefValue.run m' ρ')⟩
  all_goals
    obtain ⟨a0, a1, a2, a3, a4, a5, a6⟩ := hag c
    simp only [a0, a1, a2, a3, a4, a5, a6]

end Cert.Ln1FwdIdeal.RefValue

end
-- ==== Proof.ConfFwdValue.lean ====
/-
  Hand-written, untrusted. The value of `ConfFwdIdeal`: the normalisation after the long convolution and its activation, which is what
  `ConfFwdRefIdeal` computes on the host.
-/
module

public import proofs.«01_k».proof.Defs
public import proofs.«01_k».proof.Proof.LnRow
public import proofs.«01_k».proof.Proof.LnSilu
public import proofs.«01_k».proof.Proof.Gen.ConfFwdIdeal.Value
public import proofs.«01_k».proof.Proof.Gen.ConfFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConfFwdIdeal.RefValue

open Cert.ConfFwdIdeal Cert.ConfFwdIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The normalised row, scaled and shifted. -/
def z (x : Fin 2048 → EReal) (g b : EReal) (k : Fin 2048) : EReal := LnRow.xh LnRow.len' x k * g + b

/-- What the body computes of its blocks. -/
theorem pay1_apply (x0 : Vec Ideal S256x2048 .f32) (x1 x2 x3 : Vec Ideal S1x2048 .f32) (a : Fin 256) (b : Fin 2048) :
    k0_pay1 x0 x1 x2 x3 (ix2 a b) = LnRow.silu (z (fun k => (x0 (ix2 a k) + x1 (ix2 0 k) : EReal)) (x2 (ix2 0 b)) (x3 (ix2 0 b)) b) := by
  unfold k0_pay1
  pointwise
  simp only [zero_sub]
  rfl

/-- The result as a function of the arguments. -/
def N (y : Vec Ideal S4096x2048 .f32) (bd g b : Vec Ideal S1x2048 .f32) : Vec Ideal S4096x2048 .bf16 := fun j =>
  LnRow.silu (z (fun k => (y (ix2 (j 0) k) + bd (ix2 0 k) : EReal)) (g (ix2 0 (j 1))) (b (ix2 0 (j 1))) (j 1))

/-! ## The blocks of a point -/

/-- Row `a` of the block of point `t`. -/
def at_ (t : Fin cfg0.N) (a : Fin 256) : Fin 4096 :=
  ⟨256 * t.val + a.val, by have := lt_of_lt_of_eq t.isLt (show cfg0.N = 16 from N_0); omega⟩

def X0 (c : Dev nD) (t : Fin cfg0.N) : Vec Ideal S256x2048 .f32 := iblk m c 0 t
theorem x0_eq (c : Dev nD) (t : Fin cfg0.N) (a : Fin 256) (k : Fin 2048) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S1x2048 .f32 := iblk m c 1 t
theorem x1_eq (c : Dev nD) (t : Fin cfg0.N) (k : Fin 2048) : X1 m c t (ix2 0 k) = (m ((c : Thread nD τ).loc main_arg1)) (ix2 0 k) := by
  unfold X1
  blk_ext [iblk, Gen.V, idx t]
def X2 (c : Dev nD) (t : Fin cfg0.N) : Vec Ideal S1x2048 .f32 := iblk m c 2 t
theorem x2_eq (c : Dev nD) (t : Fin cfg0.N) (k : Fin 2048) : X2 m c t (ix2 0 k) = (m ((c : Thread nD τ).loc main_arg2)) (ix2 0 k) := by
  unfold X2
  blk_ext [iblk, Gen.V, idx t]
def X3 (c : Dev nD) (t : Fin cfg0.N) : Vec Ideal S1x2048 .f32 := iblk m c 3 t
theorem x3_eq (c : Dev nD) (t : Fin cfg0.N) (k : Fin 2048) : X3 m c t (ix2 0 k) = (m ((c : Thread nD τ).loc main_arg3)) (ix2 0 k) := by
  unfold X3
  blk_ext [iblk, Gen.V, idx t]

/-- What every point leaves of window 4. -/
theorem out4 (c : Dev nD) (t : Fin cfg0.N) (a : Fin 256) (b : Fin 2048) : (out0_4 (iblk m c 0 t) (iblk m c 1 t) (iblk m c 2 t) (iblk m c 3 t) (ix2 a b) : EReal)
    = (N (m ((c : Thread nD τ).loc main_arg0)) (m ((c : Thread nD τ).loc main_arg1)) (m ((c : Thread nD τ).loc main_arg2)) (m ((c : Thread nD τ).loc main_arg3))) (ix2 (at_ t a) b) := by
  have key : k0_pay1 (X0 m c t) (X1 m c t) (X2 m c t) (X3 m c t) (ix2 a b) = (N (m ((c : Thread nD τ).loc main_arg0)) (m ((c : Thread nD τ).loc main_arg1)) (m ((c : Thread nD τ).loc main_arg2)) (m ((c : Thread nD τ).loc main_arg3))) (ix2 (at_ t a) b) := by
    rw [pay1_apply, x2_eq, x3_eq]
    simp only [x0_eq, x1_eq]
    rfl

  frame_out
  exact key

/-- Window 4 after the run. -/
theorem final4 (c : Dev nD) : (dats m 0 c).arrAt 4 cfg0.N = (N (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (N (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

end Cert.ConfFwdIdeal.RefValue

namespace Cert.ConfFwdRefIdeal.RefValue

open Cert.ConfFwdRefIdeal Cert.ConfFwdRefIdeal.Gen
open Cert.ConfFwdIdeal.RefValue (N z)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v25) = N (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  unfold Value.res_main_v25
  funext j
  idx_vars j
  pointwise
  rfl

end Cert.ConfFwdRefIdeal.RefValue

namespace Cert.ConfFwdIdeal.RefValue

open Idealize.ShloMosaic Idealize.SL.Sem

/-- The kernel and the plain reference compute one function. -/
theorem algebraic : Cert.algebraic_ConfFwdIdeal_ConfFwdRefIdeal (hConfFwdIdeal := Cert.ConfFwdIdeal.Gen.facts)
    (hConfFwdRefIdeal := Cert.ConfFwdRefIdeal.Gen.facts) := by
  intro m ρ m' ρ' _ hag
  refine ⟨_, (θ_run _ _ _).mono (fun _ h c => ⟨(h c).1.trans (final4 m c), (h c).2⟩) (Cert.ConfFwdIdeal.Value.run_blocks m ρ),
    (θ_run _ _ _).mono (fun _ h c => ⟨(h c).1.trans ?_, (h c).2⟩) (Cert.ConfFwdRefIdeal.RefValue.run m' ρ')⟩
  all_goals
    obtain ⟨a0, a1, a2, a3⟩ := hag c
    simp only [a0, a1, a2, a3]

end Cert.ConfFwdIdeal.RefValue

end
-- ==== Proof.SiluCValue.lean ====
/-
  Hand-written, untrusted. The value of `SiluCIdeal`: the activation of the conditioning vectors, which is what `SiluCRefIdeal` computes on the host.
-/
module

public import proofs.«01_k».proof.Defs
public import proofs.«01_k».proof.Proof.LnRow
public import proofs.«01_k».proof.Proof.LnSilu
public import proofs.«01_k».proof.Proof.Gen.SiluCIdeal.Value
public import proofs.«01_k».proof.Proof.Gen.SiluCRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SiluCIdeal.RefValue

open Cert.SiluCIdeal Cert.SiluCIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] :=
  (by decide +kernel : ∀ t : Fin grid0.N, _)

/-- What the body computes of its block. -/
theorem pay1_apply (x0 : Vec Ideal S16x4096 .f32) (a : Fin 16) (b : Fin 4096) : k0_pay1 x0 (ix2 a b) = LnRow.silu (x0 (ix2 a b)) := by
  unfold k0_pay1
  pointwise
  simp only [zero_sub]
  rfl

/-- The result as a function of the argument. -/
def N (x : Vec Ideal S16x4096 .f32) : Vec Ideal S16x4096 .f32 := fun j => LnRow.silu (x (ix2 (j 0) (j 1)))

/-! ## The blocks of a point -/

/-- Row `a` of the block of point `t`. -/
def at_ (t : Fin cfg0.N) (a : Fin 16) : Fin 16 :=
  ⟨16 * t.val + a.val, by have := lt_of_lt_of_eq t.isLt (show cfg0.N = 1 from N_0); omega⟩

def X0 (c : Dev nD) (t : Fin cfg0.N) : Vec Ideal S16x4096 .f32 := iblk m c 0 t
theorem x0_eq (c : Dev nD) (t : Fin cfg0.N) (a : Fin 16) (k : Fin 4096) :
    X0 m c t (ix2 a k) = (m ((c : Thread nD τ).loc main_arg0)) (ix2 (at_ t a) k) := by
  unfold X0 at_
  blk_ext [iblk, Gen.V, idx t]

/-- What every point leaves of window 1. -/
theorem out1 (c : Dev nD) (t : Fin cfg0.N) (a : Fin 16) (b : Fin 4096) : (out0_1 (iblk m c 0 t) (ix2 a b) : EReal)
    = (N (m ((c : Thread nD τ).loc main_arg0))) (ix2 (at_ t a) b) := by
  have key : k0_pay1 (X0 m c t) (ix2 a b) = (N (m ((c : Thread nD τ).loc main_arg0))) (ix2 (at_ t a) b) := by
    rw [pay1_apply, x0_eq]
    rfl

  frame_out
  exact key

/-- Window 1 after the run. -/
theorem final1 (c : Dev nD) : (dats m 0 c).arrAt 1 cfg0.N = (N (m ((c : Thread nD τ).loc main_arg0))) := by
  refine (dats m 0 c).arrAt_eq_of_covers 1 _ (by decide +kernel) fun t hf y => ?_
  have hi := idx t
  blk_simp
  rw [after0_1]
  idx_vars y
  refine (out1 m c t y0 y1).trans (congrArg₂ (fun i b => (N (m ((c : Thread nD τ).loc main_arg0))) (ix2 i b)) ?_ ?_)
  · apply Fin.ext
    refine (show (at_ t y0).val = 16 * t.val + y0.val from rfl).trans ?_
    blk_simp [hi]
    omega
  · apply Fin.ext
    blk_simp [hi]

end Cert.SiluCIdeal.RefValue

namespace Cert.SiluCRefIdeal.RefValue

open Cert.SiluCRefIdeal Cert.SiluCRefIdeal.Gen
open Cert.SiluCIdeal.RefValue (N)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v0) = N (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext j
  idx_vars j
  pointwise
  rfl

end Cert.SiluCRefIdeal.RefValue

namespace Cert.SiluCIdeal.RefValue

open Idealize.ShloMosaic Idealize.SL.Sem

/-- The kernel and the plain reference compute one function. -/
theorem algebraic : Cert.algebraic_SiluCIdeal_SiluCRefIdeal (hSiluCIdeal := Cert.SiluCIdeal.Gen.facts)
    (hSiluCRefIdeal := Cert.SiluCRefIdeal.Gen.facts) := by
  intro m ρ m' ρ' _ hag
  refine ⟨_, (θ_run _ _ _).mono (fun _ h c => ⟨(h c).1.trans (final1 m c), (h c).2⟩) (Cert.SiluCIdeal.Value.run_blocks m ρ),
    (θ_run _ _ _).mono (fun _ h c => ⟨(h c).1.trans ?_, (h c).2⟩) (Cert.SiluCRefIdeal.RefValue.run m' ρ')⟩
  all_goals
    have a0 := hag c
    simp only [a0]

end Cert.SiluCIdeal.RefValue

end
-- ==== Proof.Adam.lean ====
/-
  Hand-written, untrusted. One step of the optimiser on one number: the new moments and the change of a weight; and the
  host's quotients by the two bias corrections as products with the kernel's named constants.
-/
module

public import Idealize.ShloMosaic.PureOps.Ideal

@[expose] public section

noncomputable section

namespace Cert.Adam

open Idealize.ShloMosaic

/-- The reciprocal of the first moment's bias correction. -/
def c1 : EReal := ((8388608 / 5463681 : ℝ) : EReal)

/-- The reciprocal of the second moment's bias correction. -/
def c2 : EReal := ((268435456 / 2672307 : ℝ) : EReal)

/-- The first moment after the step. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The change of the weight. -/
def delta (w m v g : EReal) : EReal :=
  Ideal.ofBits .f32 0xBA83126F#32 * (Ideal.div (mom g m * c1) (Ideal.sqrt (vel g v * c2) + Ideal.ofBits .f32 0x322BCC77#32)
    + Ideal.ofBits .f32 0x3C23D70A#32 * w)

theorem bits1 : Ideal.ofBits .f32 0x3F26BD02#32 = ((5463681 / 8388608 : ℝ) : EReal) := by
  simp [Ideal.ofBits, Ideal.ieee, -EReal.coe_mul]; norm_num

theorem bits2 : Ideal.ofBits .f32 0x3C231ACC#32 = ((2672307 / 268435456 : ℝ) : EReal) := by
  simp [Ideal.ofBits, Ideal.ieee, -EReal.coe_mul]; norm_num

theorem div1 (x : EReal) : Ideal.div x (Ideal.ofBits .f32 0x3F26BD02#32) = x * c1 := by
  rw [bits1, Ideal.div_coe (by norm_num)]
  unfold c1
  congr 2
  norm_num

theorem div2 (x : EReal) : Ideal.div x (Ideal.ofBits .f32 0x3C231ACC#32) = x * c2 := by
  rw [bits2, Ideal.div_coe (by norm_num)]
  unfold c2
  congr 2
  norm_num

end Cert.Adam

end
-- ==== Proof.AdamModValue.lean ====
/-
  Hand-written, untrusted. The value of `AdamModIdeal`: one step of the optimiser on the modulation matrix,
  which is what `AdamModRefIdeal` computes on the host.
-/
module

public import proofs.«01_k».proof.Defs
public import proofs.«01_k».proof.Proof.Adam
public import proofs.«01_k».proof.Proof.Gen.AdamModIdeal.Value
public import proofs.«01_k».proof.Proof.Gen.AdamModRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamModIdeal.RefValue

open Cert.AdamModIdeal Cert.AdamModIdeal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamMod_AdamModIdeal :=
  ⟨IdealRules.named_const.statement Cert.AdamModIdeal.κ "c1" .f32 0x3FC48605#32 _ rfl,
    IdealRules.named_const.statement Cert.AdamModIdeal.κ "c2" .f32 0x42C8E6D3#32 _ rfl⟩

/-! ## What the body computes of its blocks -/

section

variable (x0 x1 x2 x3 : Vec Ideal S128x3072 .f32) (a : Fin 128) (b : Fin 3072)

theorem o4 : (out0_4 x0 x1 x2 x3 (ix2 a b) : EReal) = (x3 (ix2 a b)) := by
  frame_out

theorem o5 : (out0_5 x0 x1 x2 x3 (ix2 a b) : EReal) = Adam.delta (x0 (ix2 a b)) (x1 (ix2 a b)) (x2 (ix2 a b)) (x3 (ix2 a b)) := by
  frame_out
  unfold k0_pay3 k0_pay1 k0_pay2
  pointwise
  simp only [named1, named2]
  rfl

theorem o6 : (out0_6 x0 x1 x2 x3 (ix2 a b) : EReal) = Adam.mom (x3 (ix2 a b)) (x1 (ix2 a b)) := by
  frame_out
  unfold k0_pay1
  pointwise
  rfl

theorem o7 : (out0_7 x0 x1 x2 x3 (ix2 a b) : EReal) = Adam.vel (x3 (ix2 a b)) (x2 (ix2 a b)) := by
  frame_out
  unfold k0_pay2
  pointwise
  rfl

end

/-- Where each window's block stands at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S4096x3072 .f32) : Vec Ideal S4096x3072 .f32 := fun j => (g (ix2 (j 0) (j 1)))

/-- The change of the weights. -/
def De (w m v : Vec Ideal S4096x3072 .f32) (g : Vec Ideal S4096x3072 .f32) : Vec Ideal S4096x3072 .f32 := fun j =>
  Adam.delta (w (ix2 (j 0) (j 1))) (m (ix2 (j 0) (j 1))) (v (ix2 (j 0) (j 1))) (g (ix2 (j 0) (j 1)))

/-- The first moment. -/
def Mo (m : Vec Ideal S4096x3072 .f32) (g : Vec Ideal S4096x3072 .f32) : Vec Ideal S4096x3072 .f32 := fun j => Adam.mom (g (ix2 (j 0) (j 1))) (m (ix2 (j 0) (j 1)))

/-- The second moment. -/
def Ve (v : Vec Ideal S4096x3072 .f32) (g : Vec Ideal S4096x3072 .f32) : Vec Ideal S4096x3072 .f32 := fun j => Adam.vel (g (ix2 (j 0) (j 1))) (v (ix2 (j 0) (j 1)))

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x3072 .f32 := iblk m c 0 t
theorem x0_eq (c : Dev nD) (t : Fin cfg0.N) (a : Fin 128) (k : Fin 3072) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x3072 .f32 := iblk m c 1 t
theorem x1_eq (c : Dev nD) (t : Fin cfg0.N) (a : Fin 128) (k : Fin 3072) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S128x3072 .f32 := iblk m c 2 t
theorem x2_eq (c : Dev nD) (t : Fin cfg0.N) (a : Fin 128) (k : Fin 3072) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S128x3072 .f32 := iblk m c 3 t
theorem x3_eq (c : Dev nD) (t : Fin cfg0.N) (a : Fin 128) (k : Fin 3072) :
    X3 m c t (ix2 a k) = (m ((c : Thread nD τ).loc main_arg3)) (ix2 (at_ t a) k) := by
  unfold X3 at_
  blk_ext [iblk, Gen.V, idx t]

/-- What every point leaves of window 4. -/
theorem out4 (c : Dev nD) (t : Fin cfg0.N) (a : Fin 128) (b : Fin 3072) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 5. -/
theorem out5 (c : Dev nD) (t : Fin cfg0.N) (a : Fin 128) (b : Fin 3072) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 6. -/
theorem out6 (c : Dev nD) (t : Fin cfg0.N) (a : Fin 128) (b : Fin 3072) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 7. -/
theorem out7 (c : Dev nD) (t : Fin cfg0.N) (a : Fin 128) (b : Fin 3072) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

end Cert.AdamModIdeal.RefValue

namespace Cert.AdamModRefIdeal.RefValue

open Cert.AdamModRefIdeal Cert.AdamModRefIdeal.Gen
open Cert.AdamModIdeal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_arg3) = Gr (m ((c.tc : Thread nD τ).loc main_arg3))
      ∧ r.2.mem ((c.tc : Thread nD τ).loc main_v23) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Mo (m ((c.tc : Thread nD τ).loc main_arg1)) (m ((c.tc : Thread nD τ).loc main_arg3))
      ∧ r.2.mem ((c.tc : Thread nD τ).loc main_v10) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    rfl
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamModRefIdeal.RefValue

namespace Cert.AdamModIdeal.RefValue

open Idealize.ShloMosaic Idealize.SL.Sem

/-- The kernel and the plain reference compute one function. -/
theorem algebraic : Cert.algebraic_AdamModIdeal_AdamModRefIdeal (hAdamModIdeal := Cert.AdamModIdeal.Gen.facts)
    (hAdamModRefIdeal := Cert.AdamModRefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamModIdeal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamModRefIdeal.RefValue.run m' ρ')⟩
  all_goals
    obtain ⟨a0, a1, a2, a3⟩ := hag c
    simp only [a0, a1, a2, a3]

end Cert.AdamModIdeal.RefValue

end
-- ==== Proof.AdamMlp2Value.lean ====
/-
  Hand-written, untrusted. The value of `AdamMlp2Ideal`: one step of the optimiser on the second feed-forward matrix, the gradient given as 8 parts,
  which is what `AdamMlp2RefIdeal` computes on the host.
-/
module

public import proofs.«01_k».proof.Defs
public import proofs.«01_k».proof.Proof.Adam
public import proofs.«01_k».proof.Proof.Gen.AdamMlp2Ideal.Value
public import proofs.«01_k».proof.Proof.Gen.AdamMlp2RefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamMlp2Ideal.RefValue

open Cert.AdamMlp2Ideal Cert.AdamMlp2Ideal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamMlp2_AdamMlp2Ideal :=
  ⟨IdealRules.named_const.statement Cert.AdamMlp2Ideal.κ "c1" .f32 0x3FC48605#32 _ rfl,
    IdealRules.named_const.statement Cert.AdamMlp2Ideal.κ "c2" .f32 0x42C8E6D3#32 _ rfl⟩

/-! ## What the body computes of its blocks -/

section

variable (x0 x1 x2 : Vec Ideal S128x4096 .f32) (x3 : Vec Ideal S8x128x4096 .bf16) (a : Fin 128) (b : Fin 4096)

theorem o4 : (out0_4 x0 x1 x2 x3 (ix2 a b) : EReal) = (∑ p : Fin 8, x3 (ix3 p a b) : EReal) := by
  frame_out
  unfold k0_pay5 k0_pay4
  pointwise
  rw [Fin.sum_univ_eight]

theorem o5 : (out0_5 x0 x1 x2 x3 (ix2 a b) : EReal) = Adam.delta (x0 (ix2 a b)) (x1 (ix2 a b)) (x2 (ix2 a b)) (∑ p : Fin 8, x3 (ix3 p a b) : EReal) := by
  frame_out
  unfold k0_pay3 k0_pay1 k0_pay2 k0_pay5 k0_pay4
  pointwise
  simp only [named1, named2]
  rw [Fin.sum_univ_eight]
  rfl

theorem o6 : (out0_6 x0 x1 x2 x3 (ix2 a b) : EReal) = Adam.mom (∑ p : Fin 8, x3 (ix3 p a b) : EReal) (x1 (ix2 a b)) := by
  frame_out
  unfold k0_pay1 k0_pay5 k0_pay4
  pointwise
  rw [Fin.sum_univ_eight]
  rfl

theorem o7 : (out0_7 x0 x1 x2 x3 (ix2 a b) : EReal) = Adam.vel (∑ p : Fin 8, x3 (ix3 p a b) : EReal) (x2 (ix2 a b)) := by
  frame_out
  unfold k0_pay2 k0_pay5 k0_pay4
  pointwise
  rw [Fin.sum_univ_eight]
  rfl

end

/-- Where each window's block stands at a grid point. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S8x2048x4096 .bf16) : Vec Ideal S2048x4096 .f32 := fun j => (∑ p : Fin 8, g (ix3 p (j 0) (j 1)) : EReal)

/-- The change of the weights. -/
def De (w m v : Vec Ideal S2048x4096 .f32) (g : Vec Ideal S8x2048x4096 .bf16) : Vec Ideal S2048x4096 .f32 := fun j =>
  Adam.delta (w (ix2 (j 0) (j 1))) (m (ix2 (j 0) (j 1))) (v (ix2 (j 0) (j 1))) (∑ p : Fin 8, g (ix3 p (j 0) (j 1)) : EReal)

/-- The first moment. -/
def Mo (m : Vec Ideal S2048x4096 .f32) (g : Vec Ideal S8x2048x4096 .bf16) : Vec Ideal S2048x4096 .f32 := fun j => Adam.mom (∑ p : Fin 8, g (ix3 p (j 0) (j 1)) : EReal) (m (ix2 (j 0) (j 1)))

/-- The second moment. -/
def Ve (v : Vec Ideal S2048x4096 .f32) (g : Vec Ideal S8x2048x4096 .bf16) : Vec Ideal S2048x4096 .f32 := fun j => Adam.vel (∑ p : Fin 8, g (ix3 p (j 0) (j 1)) : EReal) (v (ix2 (j 0) (j 1)))

/-! ## The blocks of a point -/

/-- Row `a` of the block of point `t`. -/
def at_ (t : Fin cfg0.N) (a : Fin 128) : Fin 2048 :=
  ⟨128 * t.val + a.val, by have := lt_of_lt_of_eq t.isLt (show cfg0.N = 16 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S128x4096 .f32 := iblk m c 2 t
theorem x2_eq (c : Dev nD) (t : Fin cfg0.N) (a : Fin 128) (k : Fin 4096) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S8x128x4096 .bf16 := iblk m c 3 t
theorem x3_eq (c : Dev nD) (t : Fin cfg0.N) (p : Fin 8) (a : Fin 128) (k : Fin 4096) :
    X3 m c t (ix3 p a k) = (m ((c : Thread nD τ).loc main_arg3)) (ix3 p (at_ t a) k) := by
  unfold X3 at_
  blk_ext [iblk, Gen.V, idx t]

/-- What every point leaves of window 4. -/
theorem out4 (c : Dev nD) (t : Fin cfg0.N) (a : Fin 128) (b : Fin 4096) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 5. -/
theorem out5 (c : Dev nD) (t : Fin cfg0.N) (a : Fin 128) (b : Fin 4096) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 6. -/
theorem out6 (c : Dev nD) (t : Fin cfg0.N) (a : Fin 128) (b : Fin 4096) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 7. -/
theorem out7 (c : Dev nD) (t : Fin cfg0.N) (a : Fin 128) (b : Fin 4096) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

end Cert.AdamMlp2Ideal.RefValue

namespace Cert.AdamMlp2RefIdeal.RefValue

open Cert.AdamMlp2RefIdeal Cert.AdamMlp2RefIdeal.Gen
open Cert.AdamMlp2Ideal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v1) = Gr (m ((c.tc : Thread nD τ).loc main_arg3))
      ∧ r.2.mem ((c.tc : Thread nD τ).loc main_v25) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Mo (m ((c.tc : Thread nD τ).loc main_arg1)) (m ((c.tc : Thread nD τ).loc main_arg3))
      ∧ r.2.mem ((c.tc : Thread nD τ).loc main_v12) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    unfold Gr
    pointwise
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamMlp2RefIdeal.RefValue

namespace Cert.AdamMlp2Ideal.RefValue

open Idealize.ShloMosaic Idealize.SL.Sem

/-- The kernel and the plain reference compute one function. -/
theorem algebraic : Cert.algebraic_AdamMlp2Ideal_AdamMlp2RefIdeal (hAdamMlp2Ideal := Cert.AdamMlp2Ideal.Gen.facts)
    (hAdamMlp2RefIdeal := Cert.AdamMlp2RefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamMlp2Ideal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamMlp2RefIdeal.RefValue.run m' ρ')⟩
  all_goals
    obtain ⟨a0, a1, a2, a3⟩ := hag c
    simp only [a0, a1, a2, a3]

end Cert.AdamMlp2Ideal.RefValue

end
-- ==== Proof.AdamMlp1Value.lean ====
/-
  Hand-written, untrusted. The value of `AdamMlp1Ideal`: one step of the optimiser on the first feed-forward matrix, the gradient given as 8 parts,
  which is what `AdamMlp1RefIdeal` computes on the host.
-/
module

public import proofs.«01_k».proof.Defs
public import proofs.«01_k».proof.Proof.Adam
public import proofs.«01_k».proof.Proof.Gen.AdamMlp1Ideal.Value
public import proofs.«01_k».proof.Proof.Gen.AdamMlp1RefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamMlp1Ideal.RefValue

open Cert.AdamMlp1Ideal Cert.AdamMlp1Ideal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamMlp1_AdamMlp1Ideal :=
  ⟨IdealRules.named_const.statement Cert.AdamMlp1Ideal.κ "c1" .f32 0x3FC48605#32 _ rfl,
    IdealRules.named_const.statement Cert.AdamMlp1Ideal.κ "c2" .f32 0x42C8E6D3#32 _ rfl⟩

/-! ## What the body computes of its blocks -/

section

variable (x0 x1 x2 : Vec Ideal S256x2048 .f32) (x3 : Vec Ideal S8x256x2048 .bf16) (a : Fin 256) (b : Fin 2048)

theorem o4 : (out0_4 x0 x1 x2 x3 (ix2 a b) : EReal) = (∑ p : Fin 8, x3 (ix3 p a b) : EReal) := by
  frame_out
  unfold k0_pay5 k0_pay4
  pointwise
  rw [Fin.sum_univ_eight]

theorem o5 : (out0_5 x0 x1 x2 x3 (ix2 a b) : EReal) = Adam.delta (x0 (ix2 a b)) (x1 (ix2 a b)) (x2 (ix2 a b)) (∑ p : Fin 8, x3 (ix3 p a b) : EReal) := by
  frame_out
  unfold k0_pay3 k0_pay1 k0_pay2 k0_pay5 k0_pay4
  pointwise
  simp only [named1, named2]
  rw [Fin.sum_univ_eight]
  rfl

theorem o6 : (out0_6 x0 x1 x2 x3 (ix2 a b) : EReal) = Adam.mom (∑ p : Fin 8, x3 (ix3 p a b) : EReal) (x1 (ix2 a b)) := by
  frame_out
  unfold k0_pay1 k0_pay5 k0_pay4
  pointwise
  rw [Fin.sum_univ_eight]
  rfl

theorem o7 : (out0_7 x0 x1 x2 x3 (ix2 a b) : EReal) = Adam.vel (∑ p : Fin 8, x3 (ix3 p a b) : EReal) (x2 (ix2 a b)) := by
  frame_out
  unfold k0_pay2 k0_pay5 k0_pay4
  pointwise
  rw [Fin.sum_univ_eight]
  rfl

end

/-- Where each window's block stands at a grid point. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S8x4096x2048 .bf16) : Vec Ideal S4096x2048 .f32 := fun j => (∑ p : Fin 8, g (ix3 p (j 0) (j 1)) : EReal)

/-- The change of the weights. -/
def De (w m v : Vec Ideal S4096x2048 .f32) (g : Vec Ideal S8x4096x2048 .bf16) : Vec Ideal S4096x2048 .f32 := fun j =>
  Adam.delta (w (ix2 (j 0) (j 1))) (m (ix2 (j 0) (j 1))) (v (ix2 (j 0) (j 1))) (∑ p : Fin 8, g (ix3 p (j 0) (j 1)) : EReal)

/-- The first moment. -/
def Mo (m : Vec Ideal S4096x2048 .f32) (g : Vec Ideal S8x4096x2048 .bf16) : Vec Ideal S4096x2048 .f32 := fun j => Adam.mom (∑ p : Fin 8, g (ix3 p (j 0) (j 1)) : EReal) (m (ix2 (j 0) (j 1)))

/-- The second moment. -/
def Ve (v : Vec Ideal S4096x2048 .f32) (g : Vec Ideal S8x4096x2048 .bf16) : Vec Ideal S4096x2048 .f32 := fun j => Adam.vel (∑ p : Fin 8, g (ix3 p (j 0) (j 1)) : EReal) (v (ix2 (j 0) (j 1)))

/-! ## The blocks of a point -/

/-- Row `a` of the block of point `t`. -/
def at_ (t : Fin cfg0.N) (a : Fin 256) : Fin 4096 :=
  ⟨256 * t.val + a.val, by have := lt_of_lt_of_eq t.isLt (show cfg0.N = 16 from N_0); omega⟩

def X0 (c : Dev nD) (t : Fin cfg0.N) : Vec Ideal S256x2048 .f32 := iblk m c 0 t
theorem x0_eq (c : Dev nD) (t : Fin cfg0.N) (a : Fin 256) (k : Fin 2048) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S256x2048 .f32 := iblk m c 1 t
theorem x1_eq (c : Dev nD) (t : Fin cfg0.N) (a : Fin 256) (k : Fin 2048) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S256x2048 .f32 := iblk m c 2 t
theorem x2_eq (c : Dev nD) (t : Fin cfg0.N) (a : Fin 256) (k : Fin 2048) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S8x256x2048 .bf16 := iblk m c 3 t
theorem x3_eq (c : Dev nD) (t : Fin cfg0.N) (p : Fin 8) (a : Fin 256) (k : Fin 2048) :
    X3 m c t (ix3 p a k) = (m ((c : Thread nD τ).loc main_arg3)) (ix3 p (at_ t a) k) := by
  unfold X3 at_
  blk_ext [iblk, Gen.V, idx t]

/-- What every point leaves of window 4. -/
theorem out4 (c : Dev nD) (t : Fin cfg0.N) (a : Fin 256) (b : Fin 2048) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 5. -/
theorem out5 (c : Dev nD) (t : Fin cfg0.N) (a : Fin 256) (b : Fin 2048) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 6. -/
theorem out6 (c : Dev nD) (t : Fin cfg0.N) (a : Fin 256) (b : Fin 2048) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 7. -/
theorem out7 (c : Dev nD) (t : Fin cfg0.N) (a : Fin 256) (b : Fin 2048) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

end Cert.AdamMlp1Ideal.RefValue

namespace Cert.AdamMlp1RefIdeal.RefValue

open Cert.AdamMlp1RefIdeal Cert.AdamMlp1RefIdeal.Gen
open Cert.AdamMlp1Ideal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v1) = Gr (m ((c.tc : Thread nD τ).loc main_arg3))
      ∧ r.2.mem ((c.tc : Thread nD τ).loc main_v25) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Mo (m ((c.tc : Thread nD τ).loc main_arg1)) (m ((c.tc : Thread nD τ).loc main_arg3))
      ∧ r.2.mem ((c.tc : Thread nD τ).loc main_v12) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    unfold Gr
    pointwise
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamMlp1RefIdeal.RefValue

namespace Cert.AdamMlp1Ideal.RefValue

open Idealize.ShloMosaic Idealize.SL.Sem

/-- The kernel and the plain reference compute one function. -/
theorem algebraic : Cert.algebraic_AdamMlp1Ideal_AdamMlp1RefIdeal (hAdamMlp1Ideal := Cert.AdamMlp1Ideal.Gen.facts)
    (hAdamMlp1RefIdeal := Cert.AdamMlp1RefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamMlp1Ideal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamMlp1RefIdeal.RefValue.run m' ρ')⟩
  all_goals
    obtain ⟨a0, a1, a2, a3⟩ := hag c
    simp only [a0, a1, a2, a3]

end Cert.AdamMlp1Ideal.RefValue

end
-- ==== Proof.AdamOutValue.lean ====
/-
  Hand-written, untrusted. The value of `AdamOutIdeal`: one step of the optimiser on the output matrix, the gradient given as 8 parts,
  which is what `AdamOutRefIdeal` computes on the host.
-/
module

public import proofs.«01_k».proof.Defs
public import proofs.«01_k».proof.Proof.Adam
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamOutIdeal.RefValue

open Cert.AdamOutIdeal Cert.AdamOutIdeal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamOut_AdamOutIdeal :=
  ⟨IdealRules.named_const.statement Cert.AdamOutIdeal.κ "c1" .f32 0x3FC48605#32 _ rfl,
    IdealRules.named_const.statement Cert.AdamOutIdeal.κ "c2" .f32 0x42C8E6D3#32 _ rfl⟩

/-! ## What the body computes of its blocks -/

section

variable (x0 x1 x2 : Vec Ideal S128x4096 .f32) (x3 : Vec Ideal S8x128x4096 .bf16) (a : Fin 128) (b : Fin 4096)

theorem o4 : (out0_4 x0 x1 x2 x3 (ix2 a b) : EReal) = (∑ p : Fin 8, x3 (ix3 p a b) : EReal) := by
  frame_out
  unfold k0_pay5 k0_pay4
  pointwise
  rw [Fin.sum_univ_eight]

theorem o5 : (out0_5 x0 x1 x2 x3 (ix2 a b) : EReal) = Adam.delta (x0 (ix2 a b)) (x1 (ix2 a b)) (x2 (ix2 a b)) (∑ p : Fin 8, x3 (ix3 p a b) : EReal) := by
  frame_out
  unfold k0_pay3 k0_pay1 k0_pay2 k0_pay5 k0_pay4
  pointwise
  simp only [named1, named2]
  rw [Fin.sum_univ_eight]
  rfl

theorem o6 : (out0_6 x0 x1 x2 x3 (ix2 a b) : EReal) = Adam.mom (∑ p : Fin 8, x3 (ix3 p a b) : EReal) (x1 (ix2 a b)) := by
  frame_out
  unfold k0_pay1 k0_pay5 k0_pay4
  pointwise
  rw [Fin.sum_univ_eight]
  rfl

theorem o7 : (out0_7 x0 x1 x2 x3 (ix2 a b) : EReal) = Adam.vel (∑ p : Fin 8, x3 (ix3 p a b) : EReal) (x2 (ix2 a b)) := by
  frame_out
  unfold k0_pay2 k0_pay5 k0_pay4
  pointwise
  rw [Fin.sum_univ_eight]
  rfl

end

/-- Where each window's block stands at a grid point. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S8x512x4096 .bf16) : Vec Ideal S512x4096 .f32 := fun j => (∑ p : Fin 8, g (ix3 p (j 0) (j 1)) : EReal)

/-- The change of the weights. -/
def De (w m v : Vec Ideal S512x4096 .f32) (g : Vec Ideal S8x512x4096 .bf16) : Vec Ideal S512x4096 .f32 := fun j =>
  Adam.delta (w (ix2 (j 0) (j 1))) (m (ix2 (j 0) (j 1))) (v (ix2 (j 0) (j 1))) (∑ p : Fin 8, g (ix3 p (j 0) (j 1)) : EReal)

/-- The first moment. -/
def Mo (m : Vec Ideal S512x4096 .f32) (g : Vec Ideal S8x512x4096 .bf16) : Vec Ideal S512x4096 .f32 := fun j => Adam.mom (∑ p : Fin 8, g (ix3 p (j 0) (j 1)) : EReal) (m (ix2 (j 0) (j 1)))

/-- The second moment. -/
def Ve (v : Vec Ideal S512x4096 .f32) (g : Vec Ideal S8x512x4096 .bf16) : Vec Ideal S512x4096 .f32 := fun j => Adam.vel (∑ p : Fin 8, g (ix3 p (j 0) (j 1)) : EReal) (v (ix2 (j 0) (j 1)))

/-! ## The blocks of a point -/

/-- Row `a` of the block of point `t`. -/
def at_ (t : Fin cfg0.N) (a : Fin 128) : Fin 512 :=
  ⟨128 * t.val + a.val, by have := lt_of_lt_of_eq t.isLt (show cfg0.N = 4 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S128x4096 .f32 := iblk m c 2 t
theorem x2_eq (c : Dev nD) (t : Fin cfg0.N) (a : Fin 128) (k : Fin 4096) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S8x128x4096 .bf16 := iblk m c 3 t
theorem x3_eq (c : Dev nD) (t : Fin cfg0.N) (p : Fin 8) (a : Fin 128) (k : Fin 4096) :
    X3 m c t (ix3 p a k) = (m ((c : Thread nD τ).loc main_arg3)) (ix3 p (at_ t a) k) := by
  unfold X3 at_
  blk_ext [iblk, Gen.V, idx t]

/-- What every point leaves of window 4. -/
theorem out4 (c : Dev nD) (t : Fin cfg0.N) (a : Fin 128) (b : Fin 4096) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 5. -/
theorem out5 (c : Dev nD) (t : Fin cfg0.N) (a : Fin 128) (b : Fin 4096) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 6. -/
theorem out6 (c : Dev nD) (t : Fin cfg0.N) (a : Fin 128) (b : Fin 4096) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

/-- What every point leaves of window 7. -/
theorem out7 (c : Dev nD) (t : Fin cfg0.N) (a : Fin 128) (b : Fin 4096) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 128 * t.val + y0.val from rfl).trans ?_
    blk_simp [hi]
    omega
  · apply Fin.ext
    blk_simp [hi]

end Cert.AdamOutIdeal.RefValue

namespace Cert.AdamOutRefIdeal.RefValue

open Cert.AdamOutRefIdeal Cert.AdamOutRefIdeal.Gen
open Cert.AdamOutIdeal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v1) = Gr (m ((c.tc : Thread nD τ).loc main_arg3))
      ∧ r.2.mem ((c.tc : Thread nD τ).loc main_v25) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Mo (m ((c.tc : Thread nD τ).loc main_arg1)) (m ((c.tc : Thread nD τ).loc main_arg3))
      ∧ r.2.mem ((c.tc : Thread nD τ).loc main_v12) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    unfold Gr
    pointwise
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamOutRefIdeal.RefValue

namespace Cert.AdamOutIdeal.RefValue

open Idealize.ShloMosaic Idealize.SL.Sem

/-- The kernel and the plain reference compute one function. -/
theorem algebraic : Cert.algebraic_AdamOutIdeal_AdamOutRefIdeal (hAdamOutIdeal := Cert.AdamOutIdeal.Gen.facts)
    (hAdamOutRefIdeal := Cert.AdamOutRefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamOutIdeal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamOutRefIdeal.RefValue.run m' ρ')⟩
  all_goals
    obtain ⟨a0, a1, a2, a3⟩ := hag c
    simp only [a0, a1, a2, a3]

end Cert.AdamOutIdeal.RefValue

end
-- ==== Proof.AdamInValue.lean ====
/-
  Hand-written, untrusted. The value of `AdamInIdeal`: one step of the optimiser on the input matrix, the gradient given as 4 parts,
  which is what `AdamInRefIdeal` computes on the host.
-/
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamInIdeal.RefValue

open Cert.AdamInIdeal Cert.AdamInIdeal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamIn_AdamInIdeal :=
  ⟨IdealRules.named_const.statement Cert.AdamInIdeal.κ "c1" .f32 0x3FC48605#32 _ rfl,
    IdealRules.named_const.statement Cert.AdamInIdeal.κ "c2" .f32 0x42C8E6D3#32 _ rfl⟩

/-! ## What the body computes of its blocks -/

section

variable (x0 x1 x2 : Vec Ideal S256x1544 .f32) (x3 : Vec Ideal S4x256x1544 .bf16) (a : Fin 256) (b : Fin 1544)

theorem o4 : (out0_4 x0 x1 x2 x3 (ix2 a b) : EReal) = (∑ p : Fin 4, x3 (ix3 p a b) : EReal) := by
  frame_out
  unfold k0_pay2
  pointwise
  rw [Fin.sum_univ_four]

theorem o5 : (out0_5 x0 x1 x2 x3 (ix2 a b) : EReal) = Adam.delta (x0 (ix2 a b)) (x1 (ix2 a b)) (x2 (ix2 a b)) (∑ p : Fin 4, x3 (ix3 p a b) : EReal) := by
  frame_out
  unfold k0_pay1 k0_pay3 k0_pay5 k0_pay4 k0_pay2
  pointwise
  simp only [named1, named2]
  rw [Fin.sum_univ_four]
  rfl

theorem o6 : (out0_6 x0 x1 x2 x3 (ix2 a b) : EReal) = Adam.mom (∑ p : Fin 4, x3 (ix3 p a b) : EReal) (x1 (ix2 a b)) := by
  frame_out
  unfold k0_pay3 k0_pay2
  pointwise
  rw [Fin.sum_univ_four]
  rfl

theorem o7 : (out0_7 x0 x1 x2 x3 (ix2 a b) : EReal) = Adam.vel (∑ p : Fin 4, x3 (ix3 p a b) : EReal) (x2 (ix2 a b)) := by
  frame_out
  unfold k0_pay5 k0_pay4 k0_pay2
  pointwise
  rw [Fin.sum_univ_four]
  rfl

end

/-- Where each window's block stands at a grid point. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S4x4096x1544 .bf16) : Vec Ideal S4096x1544 .f32 := fun j => (∑ p : Fin 4, g (ix3 p (j 0) (j 1)) : EReal)

/-- The change of the weights. -/
def De (w m v : Vec Ideal S4096x1544 .f32) (g : Vec Ideal S4x4096x1544 .bf16) : Vec Ideal S4096x1544 .f32 := fun j =>
  Adam.delta (w (ix2 (j 0) (j 1))) (m (ix2 (j 0) (j 1))) (v (ix2 (j 0) (j 1))) (∑ p : Fin 4, g (ix3 p (j 0) (j 1)) : EReal)

/-- The first moment. -/
def Mo (m : Vec Ideal S4096x1544 .f32) (g : Vec Ideal S4x4096x1544 .bf16) : Vec Ideal S4096x1544 .f32 := fun j => Adam.mom (∑ p : Fin 4, g (ix3 p (j 0) (j 1)) : EReal) (m (ix2 (j 0) (j 1)))

/-- The second moment. -/
def Ve (v : Vec Ideal S4096x1544 .f32) (g : Vec Ideal S4x4096x1544 .bf16) : Vec Ideal S4096x1544 .f32 := fun j => Adam.vel (∑ p : Fin 4, g (ix3 p (j 0) (j 1)) : EReal) (v (ix2 (j 0) (j 1)))

/-! ## The blocks of a point -/

/-- Row `a` of the block of point `t`. -/
def at_ (t : Fin cfg0.N) (a : Fin 256) : Fin 4096 :=
  ⟨256 * t.val + a.val, by have := lt_of_lt_of_eq t.isLt (show cfg0.N = 16 from N_0); omega⟩

def X0 (c : Dev nD) (t : Fin cfg0.N) : Vec Ideal S256x1544 .f32 := iblk m c 0 t
theorem x0_eq (c : Dev nD) (t : Fin cfg0.N) (a : Fin 256) (k : Fin 1544) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S256x1544 .f32 := iblk m c 1 t
theorem x1_eq (c : Dev nD) (t : Fin cfg0.N) (a : Fin 256) (k : Fin 1544) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S256x1544 .f32 := iblk m c 2 t
theorem x2_eq (c : Dev nD) (t : Fin cfg0.N) (a : Fin 256) (k : Fin 1544) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S4x256x1544 .bf16 := iblk m c 3 t
theorem x3_eq (c : Dev nD) (t : Fin cfg0.N) (p : Fin 4) (a : Fin 256) (k : Fin 1544) :
    X3 m c t (ix3 p a k) = (m ((c : Thread nD τ).loc main_arg3)) (ix3 p (at_ t a) k) := by
  unfold X3 at_
  blk_ext [iblk, Gen.V, idx t]

/-- What every point leaves of window 4. -/
theorem out4 (c : Dev nD) (t : Fin cfg0.N) (a : Fin 256) (b : Fin 1544) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 5. -/
theorem out5 (c : Dev nD) (t : Fin cfg0.N) (a : Fin 256) (b : Fin 1544) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 6. -/
theorem out6 (c : Dev nD) (t : Fin cfg0.N) (a : Fin 256) (b : Fin 1544) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

/-- What every point leaves of window 7. -/
theorem out7 (c : Dev nD) (t : Fin cfg0.N) (a : Fin 256) (b : Fin 1544) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 256 * t.val + y0.val from rfl).trans ?_
    blk_simp [hi]
    omega
  · apply Fin.ext
    blk_simp [hi]

end Cert.AdamInIdeal.RefValue

namespace Cert.AdamInRefIdeal.RefValue

open Cert.AdamInRefIdeal Cert.AdamInRefIdeal.Gen
open Cert.AdamInIdeal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_v1) = Gr (m ((c.tc : Thread nD τ).loc main_arg3))
      ∧ r.2.mem ((c.tc : Thread nD τ).loc main_v25) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Mo (m ((c.tc : Thread nD τ).loc main_arg1)) (m ((c.tc : Thread nD τ).loc main_arg3))
      ∧ r.2.mem ((c.tc : Thread nD τ).loc main_v12) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    unfold Gr
    pointwise
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamInRefIdeal.RefValue

namespace Cert.AdamInIdeal.RefValue

open Idealize.ShloMosaic Idealize.SL.Sem

/-- The kernel and the plain reference compute one function. -/
theorem algebraic : Cert.algebraic_AdamInIdeal_AdamInRefIdeal (hAdamInIdeal := Cert.AdamInIdeal.Gen.facts)
    (hAdamInRefIdeal := Cert.AdamInRefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamInIdeal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamInRefIdeal.RefValue.run m' ρ')⟩
  all_goals
    obtain ⟨a0, a1, a2, a3⟩ := hag c
    simp only [a0, a1, a2, a3]

end Cert.AdamInIdeal.RefValue

end
-- ==== Proof.AdamSmallValue.lean ====
/-
  Hand-written, untrusted. The value of `AdamSmallIdeal`: one step of the optimiser on the packed vectors and small matrices,
  which is what `AdamSmallRefIdeal` computes on the host.
-/
module

public import proofs.«01_k».proof.Defs
public import proofs.«01_k».proof.Proof.Adam
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamSmallIdeal.RefValue

open Cert.AdamSmallIdeal Cert.AdamSmallIdeal.Gen
open Idealize.ShloMosaic Idealize.ShloMosaic.TcCoe Idealize.SL.Sem
open Idealize.ShloMosaic.Pipeline (Dat)

variable (m : (ℓ : Loc nD τ sig) → Buf (Elt Ideal) ℓ)

/-- The first named constant. -/
theorem named1 : Named.named (F := Ideal) κ "c1" (φ := .f32) 0x3FC48605#32 = Adam.c1 :=
  IdealRules.named_const.ideal_named_scalar _ _ _ _ rfl

/-- The second named constant. -/
theorem named2 : Named.named (F := Ideal) κ "c2" (φ := .f32) 0x42C8E6D3#32 = Adam.c2 :=
  IdealRules.named_const.ideal_named_scalar _ _ _ _ rfl

/-- The named constants are the reciprocals the claim states. -/
theorem preserves : Cert.preserves_AdamSmall_AdamSmallIdeal :=
  ⟨IdealRules.named_const.statement Cert.AdamSmallIdeal.κ "c1" .f32 0x3FC48605#32 _ rfl,
    IdealRules.named_const.statement Cert.AdamSmallIdeal.κ "c2" .f32 0x42C8E6D3#32 _ rfl⟩

/-! ## What the body computes of its blocks -/

section

variable (x0 x1 x2 x3 : Vec Ideal S1x94208 .f32) (a : Fin 1) (b : Fin 94208)

theorem o4 : (out0_4 x0 x1 x2 x3 (ix2 a b) : EReal) = (x3 (ix2 a b)) := by
  frame_out

theorem o5 : (out0_5 x0 x1 x2 x3 (ix2 a b) : EReal) = Adam.delta (x0 (ix2 a b)) (x1 (ix2 a b)) (x2 (ix2 a b)) (x3 (ix2 a b)) := by
  frame_out
  unfold k0_pay3 k0_pay1 k0_pay2
  pointwise
  simp only [named1, named2]
  rfl

theorem o6 : (out0_6 x0 x1 x2 x3 (ix2 a b) : EReal) = Adam.mom (x3 (ix2 a b)) (x1 (ix2 a b)) := by
  frame_out
  unfold k0_pay1
  pointwise
  rfl

theorem o7 : (out0_7 x0 x1 x2 x3 (ix2 a b) : EReal) = Adam.vel (x3 (ix2 a b)) (x2 (ix2 a b)) := by
  frame_out
  unfold k0_pay2
  pointwise
  rfl

end

/-- Where each window's block stands at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! ## The results as functions of the arguments -/

/-- The gradient. -/
def Gr (g : Vec Ideal S1x94208 .f32) : Vec Ideal S1x94208 .f32 := fun j => (g (ix2 (j 0) (j 1)))

/-- The change of the weights. -/
def De (w m v : Vec Ideal S1x94208 .f32) (g : Vec Ideal S1x94208 .f32) : Vec Ideal S1x94208 .f32 := fun j =>
  Adam.delta (w (ix2 (j 0) (j 1))) (m (ix2 (j 0) (j 1))) (v (ix2 (j 0) (j 1))) (g (ix2 (j 0) (j 1)))

/-- The first moment. -/
def Mo (m : Vec Ideal S1x94208 .f32) (g : Vec Ideal S1x94208 .f32) : Vec Ideal S1x94208 .f32 := fun j => Adam.mom (g (ix2 (j 0) (j 1))) (m (ix2 (j 0) (j 1)))

/-- The second moment. -/
def Ve (v : Vec Ideal S1x94208 .f32) (g : Vec Ideal S1x94208 .f32) : Vec Ideal S1x94208 .f32 := fun j => Adam.vel (g (ix2 (j 0) (j 1))) (v (ix2 (j 0) (j 1)))

/-! ## The blocks of a point -/

/-- Row `a` of the block of point `t`. -/
def at_ (t : Fin cfg0.N) (a : Fin 1) : Fin 1 :=
  ⟨1 * t.val + a.val, by have := lt_of_lt_of_eq t.isLt (show cfg0.N = 1 from N_0); omega⟩

def X0 (c : Dev nD) (t : Fin cfg0.N) : Vec Ideal S1x94208 .f32 := iblk m c 0 t
theorem x0_eq (c : Dev nD) (t : Fin cfg0.N) (a : Fin 1) (k : Fin 94208) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S1x94208 .f32 := iblk m c 1 t
theorem x1_eq (c : Dev nD) (t : Fin cfg0.N) (a : Fin 1) (k : Fin 94208) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S1x94208 .f32 := iblk m c 2 t
theorem x2_eq (c : Dev nD) (t : Fin cfg0.N) (a : Fin 1) (k : Fin 94208) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S1x94208 .f32 := iblk m c 3 t
theorem x3_eq (c : Dev nD) (t : Fin cfg0.N) (a : Fin 1) (k : Fin 94208) :
    X3 m c t (ix2 a k) = (m ((c : Thread nD τ).loc main_arg3)) (ix2 (at_ t a) k) := by
  unfold X3 at_
  blk_ext [iblk, Gen.V, idx t]

/-- What every point leaves of window 4. -/
theorem out4 (c : Dev nD) (t : Fin cfg0.N) (a : Fin 1) (b : Fin 94208) : (out0_4 (iblk m c 0 t) (iblk m c 1 t) (iblk m c 2 t) (iblk m c 3 t) (ix2 a b) : EReal)
    = (Gr (m ((c : Thread nD τ).loc main_arg3))) (ix2 (at_ t a) b) := by
  refine (o4 (X0 m c t) (X1 m c t) (X2 m c t) (X3 m c t) a b).trans ?_
  simp only [x3_eq]
  rfl

/-- Window 4 after the run. -/
theorem final4 (c : Dev nD) : (dats m 0 c).arrAt 4 cfg0.N = (Gr (m ((c : Thread nD τ).loc main_arg3))) := by
  refine (dats m 0 c).arrAt_eq_of_covers 4 _ (by decide +kernel) fun t hf y => ?_
  have hi := idx t
  blk_simp
  rw [after0_4]
  idx_vars y
  refine (out4 m c t y0 y1).trans (congrArg₂ (fun i b => (Gr (m ((c : Thread nD τ).loc main_arg3))) (ix2 i b)) ?_ ?_)
  · apply Fin.ext
    refine (show (at_ t y0).val = 1 * t.val + y0.val from rfl).trans ?_
    blk_simp [hi]
  · apply Fin.ext
    blk_simp [hi]

/-- What every point leaves of window 5. -/
theorem out5 (c : Dev nD) (t : Fin cfg0.N) (a : Fin 1) (b : Fin 94208) : (out0_5 (iblk m c 0 t) (iblk m c 1 t) (iblk m c 2 t) (iblk m c 3 t) (ix2 a b) : EReal)
    = (De (m ((c : Thread nD τ).loc main_arg0)) (m ((c : Thread nD τ).loc main_arg1)) (m ((c : Thread nD τ).loc main_arg2)) (m ((c : Thread nD τ).loc main_arg3))) (ix2 (at_ t a) b) := by
  refine (o5 (X0 m c t) (X1 m c t) (X2 m c t) (X3 m c t) a b).trans ?_
  simp only [x0_eq, x1_eq, x2_eq, x3_eq]
  rfl

/-- Window 5 after the run. -/
theorem final5 (c : Dev nD) : (dats m 0 c).arrAt 5 cfg0.N = (De (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hi := idx t
  blk_simp
  rw [after0_5]
  idx_vars y
  refine (out5 m c t y0 y1).trans (congrArg₂ (fun i b => (De (m ((c : Thread nD τ).loc main_arg0)) (m ((c : Thread nD τ).loc main_arg1)) (m ((c : Thread nD τ).loc main_arg2)) (m ((c : Thread nD τ).loc main_arg3))) (ix2 i b)) ?_ ?_)
  · apply Fin.ext
    refine (show (at_ t y0).val = 1 * t.val + y0.val from rfl).trans ?_
    blk_simp [hi]
  · apply Fin.ext
    blk_simp [hi]

/-- What every point leaves of window 6. -/
theorem out6 (c : Dev nD) (t : Fin cfg0.N) (a : Fin 1) (b : Fin 94208) : (out0_6 (iblk m c 0 t) (iblk m c 1 t) (iblk m c 2 t) (iblk m c 3 t) (ix2 a b) : EReal)
    = (Mo (m ((c : Thread nD τ).loc main_arg1)) (m ((c : Thread nD τ).loc main_arg3))) (ix2 (at_ t a) b) := by
  refine (o6 (X0 m c t) (X1 m c t) (X2 m c t) (X3 m c t) a b).trans ?_
  simp only [x1_eq, x3_eq]
  rfl

/-- Window 6 after the run. -/
theorem final6 (c : Dev nD) : (dats m 0 c).arrAt 6 cfg0.N = (Mo (m ((c : Thread nD τ).loc main_arg1)) (m ((c : Thread nD τ).loc main_arg3))) := by
  refine (dats m 0 c).arrAt_eq_of_covers 6 _ (by decide +kernel) fun t hf y => ?_
  have hi := idx t
  blk_simp
  rw [after0_6]
  idx_vars y
  refine (out6 m c t y0 y1).trans (congrArg₂ (fun i b => (Mo (m ((c : Thread nD τ).loc main_arg1)) (m ((c : Thread nD τ).loc main_arg3))) (ix2 i b)) ?_ ?_)
  · apply Fin.ext
    refine (show (at_ t y0).val = 1 * t.val + y0.val from rfl).trans ?_
    blk_simp [hi]
  · apply Fin.ext
    blk_simp [hi]

/-- What every point leaves of window 7. -/
theorem out7 (c : Dev nD) (t : Fin cfg0.N) (a : Fin 1) (b : Fin 94208) : (out0_7 (iblk m c 0 t) (iblk m c 1 t) (iblk m c 2 t) (iblk m c 3 t) (ix2 a b) : EReal)
    = (Ve (m ((c : Thread nD τ).loc main_arg2)) (m ((c : Thread nD τ).loc main_arg3))) (ix2 (at_ t a) b) := by
  refine (o7 (X0 m c t) (X1 m c t) (X2 m c t) (X3 m c t) a b).trans ?_
  simp only [x2_eq, x3_eq]
  rfl

/-- Window 7 after the run. -/
theorem final7 (c : Dev nD) : (dats m 0 c).arrAt 7 cfg0.N = (Ve (m ((c : Thread nD τ).loc main_arg2)) (m ((c : Thread nD τ).loc main_arg3))) := by
  refine (dats m 0 c).arrAt_eq_of_covers 7 _ (by decide +kernel) fun t hf y => ?_
  have hi := idx t
  blk_simp
  rw [after0_7]
  idx_vars y
  refine (out7 m c t y0 y1).trans (congrArg₂ (fun i b => (Ve (m ((c : Thread nD τ).loc main_arg2)) (m ((c : Thread nD τ).loc main_arg3))) (ix2 i b)) ?_ ?_)
  · apply Fin.ext
    refine (show (at_ t y0).val = 1 * t.val + y0.val from rfl).trans ?_
    blk_simp [hi]
  · apply Fin.ext
    blk_simp [hi]

end Cert.AdamSmallIdeal.RefValue

namespace Cert.AdamSmallRefIdeal.RefValue

open Cert.AdamSmallRefIdeal Cert.AdamSmallRefIdeal.Gen
open Cert.AdamSmallIdeal.RefValue (Gr De Mo Ve)
open Idealize.ShloMosaic Idealize.ShloMosaic.TcCoe Idealize.SL.Sem

variable (m : (ℓ : Loc nD τ sig) → Buf (Elt Ideal) ℓ) (ρ : Dev nD → PrngReg)

/-- The host's run leaves the same functions of its arguments. -/
theorem run : θ_run defs (onTc (τ := τ) (main (F := Ideal))) ⟨m, fun _ => 0, ρ⟩ fun r => ∀ c : Dev nD,
      r.2.mem ((c.tc : Thread nD τ).loc main_arg3) = Gr (m ((c.tc : Thread nD τ).loc main_arg3))
      ∧ r.2.mem ((c.tc : Thread nD τ).loc main_v23) = De (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Mo (m ((c.tc : Thread nD τ).loc main_arg1)) (m ((c.tc : Thread nD τ).loc main_arg3))
      ∧ r.2.mem ((c.tc : Thread nD τ).loc main_v10) = Ve (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · funext j
    idx_vars j
    rfl
  · funext j
    idx_vars j
    unfold De
    pointwise
    simp only [Adam.div1, Adam.div2]
    rfl
  · funext j
    idx_vars j
    unfold Mo
    pointwise
    rfl
  · funext j
    idx_vars j
    unfold Ve
    pointwise
    rfl

end Cert.AdamSmallRefIdeal.RefValue

namespace Cert.AdamSmallIdeal.RefValue

open Idealize.ShloMosaic Idealize.SL.Sem

/-- The kernel and the plain reference compute one function. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ hag
  refine ⟨_, _, _, _, (θ_run _ _ _).mono (fun _ h c => ⟨(h c).1.trans (final4 m c), (h c).2.1.trans (final5 m c), (h c).2.2.1.trans (final6 m c), (h c).2.2.2.1.trans (final7 m c), (h c).2.2.2.2⟩) (Cert.AdamSmallIdeal.Value.run_blocks m ρ),
    (θ_run _ _ _).mono (fun _ h c => ⟨(h c).1.trans ?_, (h c).2.1.trans ?_, (h c).2.2.1.trans ?_, (h c).2.2.2.1.trans ?_, (h c).2.2.2.2⟩) (Cert.AdamSmallRefIdeal.RefValue.run m' ρ')⟩
  all_goals
    obtain ⟨a0, a1, a2, a3⟩ := hag c
    simp only [a0, a1, a2, a3]

end Cert.AdamSmallIdeal.RefValue

end
-- ==== Proof.AddWinValue.lean ====
/-
  Hand-written, untrusted. The value of `AddWinIdeal`: the sum of two arrays, which is what `AddWinRefIdeal` computes on the host.
-/
module

public import proofs.«01_k».proof.Defs
public import proofs.«01_k».proof.Proof.Gen.AddWinIdeal.Value
public import proofs.«01_k».proof.Proof.Gen.AddWinRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AddWinIdeal.RefValue

open Cert.AddWinIdeal Cert.AddWinIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![t.val, 0] :=
  (by decide +kernel : ∀ t : Fin grid0.N, _)

/-- What the body computes of its blocks. -/
theorem pay1_apply (x0 x1 : Vec Ideal S256x1544 .bf16) (a : Fin 256) (b : Fin 1544) : k0_pay1 x0 x1 (ix2 a b) = (x0 (ix2 a b) + x1 (ix2 a b) : EReal) := by
  unfold k0_pay1
  pointwise

/-- The result as a function of the arguments. -/
def N (x y : Vec Ideal S16384x1544 .bf16) : Vec Ideal S16384x1544 .bf16 := fun j => (x (ix2 (j 0) (j 1)) + y (ix2 (j 0) (j 1)) : EReal)

/-! ## The blocks of a point -/

/-- Row `a` of the block of point `t`. -/
def at_ (t : Fin cfg0.N) (a : Fin 256) : Fin 16384 :=
  ⟨256 * t.val + a.val, by have := lt_of_lt_of_eq t.isLt (show cfg0.N = 64 from N_0); omega⟩

def X0 (c : Dev nD) (t : Fin cfg0.N) : Vec Ideal S256x1544 .bf16 := iblk m c 0 t
theorem x0_eq (c : Dev nD) (t : Fin cfg0.N) (a : Fin 256) (k : Fin 1544) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S256x1544 .bf16 := iblk m c 1 t
theorem x1_eq (c : Dev nD) (t : Fin cfg0.N) (a : Fin 256) (k : Fin 1544) :
    X1 m c t (ix2 a k) = (m ((c : Thread nD τ).loc main_arg1)) (ix2 (at_ t a) k) := by
  unfold X1 at_
  blk_ext [iblk, Gen.V, idx t]
/-- What every point leaves of window 2. -/
theorem out2 (c : Dev nD) (t : Fin cfg0.N) (a : Fin 256) (b : Fin 1544) : (out0_2 (iblk m c 0 t) (iblk m c 1 t) (ix2 a b) : EReal)
    = (N (m ((c : Thread nD τ).loc main_arg0)) (m ((c : Thread nD τ).loc main_arg1))) (ix2 (at_ t a) b) := by
  have key : k0_pay1 (X0 m c t) (X1 m c t) (ix2 a b) = (N (m ((c : Thread nD τ).loc main_arg0)) (m ((c : Thread nD τ).loc main_arg1))) (ix2 (at_ t a) b) := by
    rw [pay1_apply, x0_eq, x1_eq]
    rfl

  frame_out
  exact key

/-- Window 2 after the run. -/
theorem final2 (c : Dev nD) : (dats m 0 c).arrAt 2 cfg0.N = (N (m ((c : Thread nD τ).loc main_arg0)) (m ((c : Thread nD τ).loc main_arg1))) := by
  refine (dats m 0 c).arrAt_eq_of_covers 2 _ (by decide +kernel) fun t hf y => ?_
  have hi := idx t
  blk_simp
  rw [after0_2]
  idx_vars y
  refine (out2 m c t y0 y1).trans (congrArg₂ (fun i b => (N (m ((c : Thread nD τ).loc main_arg0)) (m ((c : Thread nD τ).loc main_arg1))) (ix2 i b)) ?_ ?_)
  · apply Fin.ext
    refine (show (at_ t y0).val = 256 * t.val + y0.val from rfl).trans ?_
    blk_simp [hi]
    omega
  · apply Fin.ext
    blk_simp [hi]

end Cert.AddWinIdeal.RefValue

namespace Cert.AddWinRefIdeal.RefValue

open Cert.AddWinRefIdeal Cert.AddWinRefIdeal.Gen
open Cert.AddWinIdeal.RefValue (N)
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v3) = N (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext j
  idx_vars j
  pointwise
  rfl

end Cert.AddWinRefIdeal.RefValue

namespace Cert.AddWinIdeal.RefValue

open Idealize.ShloMosaic Idealize.SL.Sem

/-- The kernel and the plain reference compute one function. -/
theorem algebraic : Cert.algebraic_AddWinIdeal_AddWinRefIdeal (hAddWinIdeal := Cert.AddWinIdeal.Gen.facts)
    (hAddWinRefIdeal := Cert.AddWinRefIdeal.Gen.facts) := by
  intro m ρ m' ρ' _ hag
  refine ⟨_, (θ_run _ _ _).mono (fun _ h c => ⟨(h c).1.trans (final2 m c), (h c).2⟩) (Cert.AddWinIdeal.Value.run_blocks m ρ),
    (θ_run _ _ _).mono (fun _ h c => ⟨(h c).1.trans ?_, (h c).2⟩) (Cert.AddWinRefIdeal.RefValue.run m' ρ')⟩
  obtain ⟨a0, a1⟩ := hag c
  simp only [a0, a1]

end Cert.AddWinIdeal.RefValue

end
-- ==== Proof.SumSmallValue.lean ====
/-
  Hand-written, untrusted. The value of `SumSmallIdeal`: the sum of the eight devices' rows, which is what `SumSmallRefIdeal` computes on the host.
-/
module

public import proofs.«01_k».proof.Defs
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SumSmallIdeal.RefValue

open Cert.SumSmallIdeal Cert.SumSmallIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![0, 0] ∧ win0_1.index t = ![0, 0] :=
  (by decide +kernel : ∀ t : Fin grid0.N, _)

/-- The result as a function of the argument. -/
def N (x : Vec Ideal S8x183296 .f32) : Vec Ideal S1x183296 .f32 := fun j => (∑ p : Fin 8, x (ix2 p (j 1)) : EReal)

/-- What the body computes of its block. -/
theorem o1 (x : Vec Ideal S8x183296 .f32) (b : Fin 183296) : (out0_1 x (ix2 0 b) : EReal) = (∑ p : Fin 8, x (ix2 p b) : EReal) := by
  frame_out
  unfold k0_pay1
  pointwise
  rw [Fin.sum_univ_eight]

def X0 (c : Dev nD) (t : Fin cfg0.N) : Vec Ideal S8x183296 .f32 := iblk m c 0 t
theorem x0_eq (c : Dev nD) (t : Fin cfg0.N) (p : Fin 8) (k : Fin 183296) : X0 m c t (ix2 p k) = (m ((c : Thread nD τ).loc main_arg0)) (ix2 p k) := by
  unfold X0
  blk_ext [iblk, Gen.V, idx t]

/-- The result array after the run. -/
theorem final1 (c : Dev nD) : (dats m 0 c).arrAt 1 cfg0.N = N (m ((c : Thread nD τ).loc main_arg0)) := by
  refine (dats m 0 c).arrAt_eq_of_covers 1 _ (by decide +kernel) fun t hf y => ?_
  have hi := idx t
  blk_simp
  rw [after0_1]
  idx_vars y
  obtain rfl : y0 = 0 := Subsingleton.elim _ _
  refine (o1 (X0 m c t) y1).trans ?_
  simp only [x0_eq]
  unfold N
  refine Finset.sum_congr rfl fun p _ => congrArg (fun j => (m ((c : Thread nD τ).loc main_arg0)) (ix2 p j)) ?_
  apply Fin.ext
  blk_simp [hi]

end Cert.SumSmallIdeal.RefValue

namespace Cert.SumSmallRefIdeal.RefValue

open Cert.SumSmallRefIdeal Cert.SumSmallRefIdeal.Gen
open Cert.SumSmallIdeal.RefValue (N)
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v1) = N (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext j
  idx_vars j
  unfold N
  pointwise

end Cert.SumSmallRefIdeal.RefValue

namespace Cert.SumSmallIdeal.RefValue

open Idealize.ShloMosaic Idealize.SL.Sem

/-- The kernel and the plain reference compute one function. -/
theorem algebraic : Cert.algebraic_SumSmallIdeal_SumSmallRefIdeal (hSumSmallIdeal := Cert.SumSmallIdeal.Gen.facts)
    (hSumSmallRefIdeal := Cert.SumSmallRefIdeal.Gen.facts) := by
  intro m ρ m' ρ' _ hag
  refine ⟨_, (θ_run _ _ _).mono (fun _ h c => ⟨(h c).1.trans (final1 m c), (h c).2⟩) (Cert.SumSmallIdeal.Value.run_blocks m ρ),
    (θ_run _ _ _).mono (fun _ h c => ⟨(h c).1.trans ?_, (h c).2⟩) (Cert.SumSmallRefIdeal.RefValue.run m' ρ')⟩
  have a0 := hag c
  simp only [a0]

end Cert.SumSmallIdeal.RefValue

end
-- ==== Proof.SumCctxValue.lean ====
/-
  Hand-written, untrusted. The value of `SumCctxIdeal`: the sum of the eight devices' rows, which is what `SumCctxRefIdeal` computes on the host.
-/
module

public import proofs.«01_k».proof.Defs
public import proofs.«01_k».proof.Proof.Gen.SumCctxIdeal.Value
public import proofs.«01_k».proof.Proof.Gen.SumCctxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SumCctxIdeal.RefValue

open Cert.SumCctxIdeal Cert.SumCctxIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![0, 0] ∧ win0_1.index t = ![0, 0] :=
  (by decide +kernel : ∀ t : Fin grid0.N, _)

/-- The result as a function of the argument. -/
def N (x : Vec Ideal S8x4096 .f32) : Vec Ideal S1x4096 .f32 := fun j => (∑ p : Fin 8, x (ix2 p (j 1)) : EReal)

/-- What the body computes of its block. -/
theorem o1 (x : Vec Ideal S8x4096 .f32) (b : Fin 4096) : (out0_1 x (ix2 0 b) : EReal) = (∑ p : Fin 8, x (ix2 p b) : EReal) := by
  frame_out
  unfold k0_pay1
  pointwise
  rw [Fin.sum_univ_eight]

def X0 (c : Dev nD) (t : Fin cfg0.N) : Vec Ideal S8x4096 .f32 := iblk m c 0 t
theorem x0_eq (c : Dev nD) (t : Fin cfg0.N) (p : Fin 8) (k : Fin 4096) : X0 m c t (ix2 p k) = (m ((c : Thread nD τ).loc main_arg0)) (ix2 p k) := by
  unfold X0
  blk_ext [iblk, Gen.V, idx t]

/-- The result array after the run. -/
theorem final1 (c : Dev nD) : (dats m 0 c).arrAt 1 cfg0.N = N (m ((c : Thread nD τ).loc main_arg0)) := by
  refine (dats m 0 c).arrAt_eq_of_covers 1 _ (by decide +kernel) fun t hf y => ?_
  have hi := idx t
  blk_simp
  rw [after0_1]
  idx_vars y
  obtain rfl : y0 = 0 := Subsingleton.elim _ _
  refine (o1 (X0 m c t) y1).trans ?_
  simp only [x0_eq]
  unfold N
  refine Finset.sum_congr rfl fun p _ => congrArg (fun j => (m ((c : Thread nD τ).loc main_arg0)) (ix2 p j)) ?_
  apply Fin.ext
  blk_simp [hi]

end Cert.SumCctxIdeal.RefValue

namespace Cert.SumCctxRefIdeal.RefValue

open Cert.SumCctxRefIdeal Cert.SumCctxRefIdeal.Gen
open Cert.SumCctxIdeal.RefValue (N)
open Idealize.ShloMosaic Idealize.ShloMosaic.TcCoe Idealize.SL.Sem

variable (m : (ℓ : Loc nD τ sig) → Buf (Elt Ideal) ℓ) (ρ : Dev nD → PrngReg)

/-- The host's run leaves the same function of its arguments. -/
theorem run : θ_run defs (onTc (τ := τ) (main (F := Ideal))) ⟨m, fun _ => 0, ρ⟩ fun r => ∀ c : Dev nD,
      r.2.mem ((c.tc : Thread nD τ).loc main_v1) = N (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext j
  idx_vars j
  unfold N
  pointwise

end Cert.SumCctxRefIdeal.RefValue

namespace Cert.SumCctxIdeal.RefValue

open Idealize.ShloMosaic Idealize.SL.Sem

/-- The kernel and the plain reference compute one function. -/
theorem algebraic : Cert.algebraic_SumCctxIdeal_SumCctxRefIdeal (hSumCctxIdeal := Cert.SumCctxIdeal.Gen.facts)
    (hSumCctxRefIdeal := Cert.SumCctxRefIdeal.Gen.facts) := by
  intro m ρ m' ρ' _ hag
  refine ⟨_, (θ_run _ _ _).mono (fun _ h c => ⟨(h c).1.trans (final1 m c), (h c).2⟩) (Cert.SumCctxIdeal.Value.run_blocks m ρ),
    (θ_run _ _ _).mono (fun _ h c => ⟨(h c).1.trans ?_, (h c).2⟩) (Cert.SumCctxRefIdeal.RefValue.run m' ρ')⟩
  have a0 := hag c
  simp only [a0]

end Cert.SumCctxIdeal.RefValue

end
-- ==== Proof.Ln2LossValue.lean ====
/-
  Hand-written, untrusted. The value of `Ln2LossIdeal`: the last normalisation, the loss and the derivative of both.
-/
module

public import proofs.«01_k».proof.Defs
public import proofs.«01_k».proof.Proof.LnRow
public import proofs.«01_k».proof.Proof.Gen.Ln2LossIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ln2LossIdeal.RefValue

open Cert.Ln2LossIdeal Cert.Ln2LossIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-! ## What the body computes of its blocks -/

/-- The mixing with its shift. -/
theorem pay4_apply (x1 : Vec Ideal S128x4096 .f32) (x3 : Vec Ideal S1x4096 .f32) (a : Fin 128) (b : Fin 4096) : k0_pay4 x1 x3 (ix2 a b) = (x1 (ix2 a b) + x3 (ix2 0 b) : EReal) := by
  unfold k0_pay4
  pointwise

/-- The row less its mean. -/
theorem pay5_apply (x0 x1 : Vec Ideal S128x4096 .f32) (x3 x4 : Vec Ideal S1x4096 .f32) (a : Fin 128) (b : Fin 4096) :
    k0_pay5 x0 x1 x3 x4 (ix2 a b) = LnRow.xc LnRow.len (fun k => (Ideal.ofBits .f32 0x3F9837F0#32 * x0 (ix2 a k) + x4 (ix2 0 k) * (x1 (ix2 a k) + x3 (ix2 0 k)) : EReal)) b := by
  unfold k0_pay5
  pointwise
  simp only [pay4_apply]
  rfl

theorem pay6_apply (x0 x1 : Vec Ideal S128x4096 .f32) (x3 x4 : Vec Ideal S1x4096 .f32) (a : Fin 128) :
    k0_pay6 x0 x1 x3 x4 (ix2 a 0) = LnRow.rs LnRow.len (fun k => (Ideal.ofBits .f32 0x3F9837F0#32 * x0 (ix2 a k) + x4 (ix2 0 k) * (x1 (ix2 a k) + x3 (ix2 0 k)) : EReal)) := by
  unfold k0_pay6
  pointwise
  simp only [pay5_apply]
  rfl

theorem pay7_apply (x0 x1 : Vec Ideal S128x4096 .f32) (x3 x4 : Vec Ideal S1x4096 .f32) (a : Fin 128) (b : Fin 4096) :
    k0_pay7 x0 x1 x3 x4 (ix2 a b) = LnRow.xh LnRow.len (fun k => (Ideal.ofBits .f32 0x3F9837F0#32 * x0 (ix2 a k) + x4 (ix2 0 k) * (x1 (ix2 a k) + x3 (ix2 0 k)) : EReal)) b := by
  unfold k0_pay7
  pointwise
  simp only [pay5_apply, pay6_apply]
  rfl

/-- The error. -/
theorem pay8_apply (x0 x1 x2 : Vec Ideal S128x4096 .f32) (x3 x4 x5 x6 : Vec Ideal S1x4096 .f32) (a : Fin 128) (b : Fin 4096) :
    k0_pay8 x0 x1 x2 x3 x4 x5 x6 (ix2 a b) = (LnRow.xh LnRow.len (fun k => (Ideal.ofBits .f32 0x3F9837F0#32 * x0 (ix2 a k) + x4 (ix2 0 k) * (x1 (ix2 a k) + x3 (ix2 0 k)) : EReal)) b * x5 (ix2 0 b) + x6 (ix2 0 b) - x2 (ix2 a b) : EReal) := by
  unfold k0_pay8
  pointwise
  simp only [pay7_apply]

/-- The cotangent of the normalised row. -/
theorem pay9_apply (x0 x1 x2 : Vec Ideal S128x4096 .f32) (x3 x4 x5 x6 : Vec Ideal S1x4096 .f32) (a : Fin 128) (b : Fin 4096) :
    k0_pay9 x0 x1 x2 x3 x4 x5 x6 (ix2 a b) = (k0_pay8 x0 x1 x2 x3 x4 x5 x6 (ix2 a b) * Ideal.ofBits .f32 0x39800000#32 : EReal) := by
  unfold k0_pay9
  pointwise

theorem pay10_apply (x0 x1 : Vec Ideal S128x4096 .f32) (x3 x4 x5 : Vec Ideal S1x4096 .f32) (d : FVec Ideal S128x4096 .f32) (a : Fin 128) (b : Fin 4096) :
    k0_pay10 x5 (k0_pay6 x0 x1 x3 x4) (k0_pay7 x0 x1 x3 x4) d (ix2 a b)
    = LnRow.dx LnRow.len (fun k => (Ideal.ofBits .f32 0x3F9837F0#32 * x0 (ix2 a k) + x4 (ix2 0 k) * (x1 (ix2 a k) + x3 (ix2 0 k)) : EReal)) (fun k => (d (ix2 a k) : EReal) * x5 (ix2 0 k)) b := by
  unfold k0_pay10
  pointwise
  simp only [pay6_apply, pay7_apply]
  rfl

/-- The mixing's gradient. -/
theorem pay11_apply (x4 x5 : Vec Ideal S1x4096 .f32) (r : FVec Ideal S128x1 .f32) (h d : FVec Ideal S128x4096 .f32) (a : Fin 128) (b : Fin 4096) :
    k0_pay11 x4 x5 r h d (ix2 a b) = (k0_pay10 x5 r h d (ix2 a b) * x4 (ix2 0 b) : EReal) := by
  unfold k0_pay11
  pointwise

theorem pay17_apply (x4 x5 : Vec Ideal S1x4096 .f32) (r : FVec Ideal S128x1 .f32) (h d : FVec Ideal S128x4096 .f32) (a : Fin 128) (b : Fin 4096) :
    k0_pay17 x4 x5 r h d (ix2 a b) = (k0_pay10 x5 r h d (ix2 a b) * x4 (ix2 0 b) : EReal) := by
  unfold k0_pay17
  pointwise
  exact pay11_apply _ _ _ _ _ _ _

/-- What a point adds to the gradient of the normalisation's scale. -/
theorem pay19_apply (h d : FVec Ideal S128x4096 .f32) (y : Vec Ideal S1x4096 .f32) (b : Fin 4096) :
    k0_pay19 (k0_pay13 h d) y (ix2 0 b) = (y (ix2 0 b) + ∑ a : Fin 128, d (ix2 a b) * h (ix2 a b) : EReal) := by
  unfold k0_pay19 k0_pay13
  pointwise

/-- What a point adds to the gradient of the normalisation's shift. -/
theorem pay21_apply (d : FVec Ideal S128x4096 .f32) (y : Vec Ideal S1x4096 .f32) (b : Fin 4096) :
    k0_pay21 (k0_pay14 d) y (ix2 0 b) = (y (ix2 0 b) + ∑ a : Fin 128, d (ix2 a b) : EReal) := by
  unfold k0_pay21 k0_pay14
  pointwise

/-- What a point adds to the gradient of the gate. -/
theorem pay23_apply (x5 : Vec Ideal S1x4096 .f32) (p : FVec Ideal S128x4096 .f32) (r : FVec Ideal S128x1 .f32) (h d : FVec Ideal S128x4096 .f32) (y : Vec Ideal S1x4096 .f32) (b : Fin 4096) :
    k0_pay23 (k0_pay15 x5 p r h d) y (ix2 0 b) = (y (ix2 0 b) + ∑ a : Fin 128, k0_pay10 x5 r h d (ix2 a b) * p (ix2 a b) : EReal) := by
  unfold k0_pay23 k0_pay15
  pointwise

/-- What a point adds to the gradient of the mixing's shift. -/
theorem pay1_apply (x4 x5 : Vec Ideal S1x4096 .f32) (r : FVec Ideal S128x1 .f32) (h d : FVec Ideal S128x4096 .f32) (y : Vec Ideal S1x4096 .f32) (b : Fin 4096) :
    k0_pay1 (k0_pay16 x4 x5 r h d) y (ix2 0 b) = (y (ix2 0 b) + ∑ a : Fin 128, k0_pay11 x4 x5 r h d (ix2 a b) : EReal) := by
  unfold k0_pay1 k0_pay16
  pointwise

/-- What a point adds to the loss. -/
theorem pay3_apply (e : FVec Ideal S128x4096 .f32) (y : Vec Ideal S1x128 .f32) (b : Fin 128) :
    k0_pay3 (k0_pay12 e) y (ix2 0 b) = (y (ix2 0 b) + ∑ a : Fin 128, ∑ k : Fin 4096, e (ix2 a k) * e (ix2 a k) : EReal) := by
  unfold k0_pay3 k0_pay12
  pointwise

/-! ## The results as functions of the arguments -/

/-- The row that is normalised. -/
def row (x y : Vec Ideal S4096x4096 .f32) (bb ga : Vec Ideal S1x4096 .f32) (i : Fin 4096) : Fin 4096 → EReal := fun k => Ideal.ofBits .f32 0x3F9837F0#32 * x (ix2 i k) + ga (ix2 0 k) * (y (ix2 i k) + bb (ix2 0 k))

/-- The error. -/
def err (x y t : Vec Ideal S4096x4096 .f32) (bb ga g b0 : Vec Ideal S1x4096 .f32) (i b : Fin 4096) : EReal :=
  LnRow.xh LnRow.len (row x y bb ga i) b * g (ix2 0 b) + b0 (ix2 0 b) - t (ix2 i b)

/-- The cotangent of the normalised and scaled row. -/
def dn (x y t : Vec Ideal S4096x4096 .f32) (bb ga g b0 : Vec Ideal S1x4096 .f32) (i b : Fin 4096) : EReal := err x y t bb ga g b0 i b * Ideal.ofBits .f32 0x39800000#32

/-- The rows' gradient. -/
def Gx (x y t : Vec Ideal S4096x4096 .f32) (bb ga g b0 : Vec Ideal S1x4096 .f32) : Vec Ideal S4096x4096 .f32 := fun j =>
  LnRow.dx LnRow.len (row x y bb ga (j 0)) (fun k => dn x y t bb ga g b0 (j 0) k * g (ix2 0 k)) (j 1)

/-- The mixing's gradient, of the rows' gradient. -/
def Gy (e : Vec Ideal S4096x4096 .f32) (ga : Vec Ideal S1x4096 .f32) : Vec Ideal S4096x4096 .bf16 := fun j => (e (ix2 (j 0) (j 1)) * ga (ix2 0 (j 1)) : EReal)

/-- What row `i` adds to the gradient of the normalisation's scale. -/
def T1 (x y t : Vec Ideal S4096x4096 .f32) (bb ga g b0 : Vec Ideal S1x4096 .f32) (b i : Fin 4096) : EReal := dn x y t bb ga g b0 i b * LnRow.xh LnRow.len (row x y bb ga i) b

/-- What row `i` adds to the gradient of the normalisation's shift. -/
def T2 (x y t : Vec Ideal S4096x4096 .f32) (bb ga g b0 : Vec Ideal S1x4096 .f32) (b i : Fin 4096) : EReal := dn x y t bb ga g b0 i b

/-- The mixing with its shift. -/
def ys (y : Vec Ideal S4096x4096 .f32) (bb : Vec Ideal S1x4096 .f32) (i b : Fin 4096) : EReal := y (ix2 i b) + bb (ix2 0 b)

/-- What row `i` adds to the gradient of the gate, of the rows' gradient. -/
def T3 (e y : Vec Ideal S4096x4096 .f32) (bb : Vec Ideal S1x4096 .f32) (b i : Fin 4096) : EReal := e (ix2 i b) * ys y bb i b

/-- What row `i` adds to the gradient of the mixing's shift, of the rows' gradient. -/
def T4 (e : Vec Ideal S4096x4096 .f32) (ga : Vec Ideal S1x4096 .f32) (b i : Fin 4096) : EReal := e (ix2 i b) * ga (ix2 0 b)

/-- What row `i` adds to the loss. -/
def T5 (x y t : Vec Ideal S4096x4096 .f32) (bb ga g b0 : Vec Ideal S1x4096 .f32) (i : Fin 4096) : EReal := ∑ k : Fin 4096, err x y t bb ga g b0 i k * err x y t bb ga g b0 i k

/-- Sums over the rows, as a vector. -/
def V (T : Fin 4096 → Fin 4096 → EReal) : Vec Ideal S1x4096 .f32 := fun j => ∑ i : Fin 4096, T (j 1) i

/-- A sum over the rows, in every lane. -/
def Lo (T : Fin 4096 → EReal) : Vec Ideal S1x128 .f32 := fun _ => ∑ i : Fin 4096, T i

/-! ## The blocks of a point -/

/-- Row `a` of the block of point `t`. -/
def at_ (t : Fin cfg0.N) (a : Fin 128) : Fin 4096 :=
  ⟨128 * t.val + a.val, by have := lt_of_lt_of_eq t.isLt (show cfg0.N = 32 from N_0); omega⟩

def X0 (c : Dev nD) (t : Fin cfg0.N) : Vec Ideal S128x4096 .f32 := iblk m c 0 t
theorem x0_eq (c : Dev nD) (t : Fin cfg0.N) (a : Fin 128) (k : Fin 4096) :
    X0 m c t (ix2 a k) = (m ((c : Thread nD τ).loc main_arg0)) (ix2 (at_ t a) k) := by
  unfold X0 at_
  blk_ext [iblk, Gen.V, idx t]
def X1 (c : Dev nD) (t : Fin cfg0.N) : Vec Ideal S128x4096 .f32 := iblk m c 1 t
theorem x1_eq (c : Dev nD) (t : Fin cfg0.N) (a : Fin 128) (k : Fin 4096) :
    X1 m c t (ix2 a k) = (m ((c : Thread nD τ).loc main_arg1)) (ix2 (at_ t a) k) := by
  unfold X1 at_
  blk_ext [iblk, Gen.V, idx t]
def X2 (c : Dev nD) (t : Fin cfg0.N) : Vec Ideal S128x4096 .f32 := iblk m c 2 t
theorem x2_eq (c : Dev nD) (t : Fin cfg0.N) (a : Fin 128) (k : Fin 4096) :
    X2 m c t (ix2 a k) = (m ((c : Thread nD τ).loc main_arg2)) (ix2 (at_ t a) k) := by
  unfold X2 at_
  blk_ext [iblk, Gen.V, idx t]
def X3 (c : Dev nD) (t : Fin cfg0.N) : Vec Ideal S1x4096 .f32 := iblk m c 3 t
theorem x3_eq (c : Dev nD) (t : Fin cfg0.N) (k : Fin 4096) : X3 m c t (ix2 0 k) = (m ((c : Thread nD τ).loc main_arg3)) (ix2 0 k) := by
  unfold X3
  blk_ext [iblk, Gen.V, idx t]
def X4 (c : Dev nD) (t : Fin cfg0.N) : Vec Ideal S1x4096 .f32 := iblk m c 4 t
theorem x4_eq (c : Dev nD) (t : Fin cfg0.N) (k : Fin 4096) : X4 m c t (ix2 0 k) = (m ((c : Thread nD τ).loc main_arg4)) (ix2 0 k) := by
  unfold X4
  blk_ext [iblk, Gen.V, idx t]
def X5 (c : Dev nD) (t : Fin cfg0.N) : Vec Ideal S1x4096 .f32 := iblk m c 5 t
theorem x5_eq (c : Dev nD) (t : Fin cfg0.N) (k : Fin 4096) : X5 m c t (ix2 0 k) = (m ((c : Thread nD τ).loc main_arg5)) (ix2 0 k) := by
  unfold X5
  blk_ext [iblk, Gen.V, idx t]
def X6 (c : Dev nD) (t : Fin cfg0.N) : Vec Ideal S1x4096 .f32 := iblk m c 6 t
theorem x6_eq (c : Dev nD) (t : Fin cfg0.N) (k : Fin 4096) : X6 m c t (ix2 0 k) = (m ((c : Thread nD τ).loc main_arg6)) (ix2 0 k) := by
  unfold X6
  blk_ext [iblk, Gen.V, idx t]

/-- The row at a point. -/
theorem row_eq (c : Dev nD) (t : Fin cfg0.N) (a : Fin 128) :
    (fun k => (Ideal.ofBits .f32 0x3F9837F0#32 * X0 m c t (ix2 a k) + X4 m c t (ix2 0 k) * (X1 m c t (ix2 a k) + X3 m c t (ix2 0 k)) : EReal)) = row (m ((c : Thread nD τ).loc main_arg0)) (m ((c : Thread nD τ).loc main_arg1)) (m ((c : Thread nD τ).loc main_arg3)) (m ((c : Thread nD τ).loc main_arg4)) (at_ t a) := by
  funext k
  rw [x0_eq, x1_eq, x3_eq, x4_eq]
  rfl

/-- The normalised row at a point. -/
theorem xh_eq (c : Dev nD) (t : Fin cfg0.N) (a : Fin 128) (k : Fin 4096) : k0_pay7 (X0 m c t) (X1 m c t) (X3 m c t) (X4 m c t) (ix2 a k)
    = LnRow.xh LnRow.len (row (m ((c : Thread nD τ).loc main_arg0)) (m ((c : Thread nD τ).loc main_arg1)) (m ((c : Thread nD τ).loc main_arg3)) (m ((c : Thread nD τ).loc main_arg4)) (at_ t a)) k := by
  rw [pay7_apply, row_eq]

/-- The error at a point. -/
theorem err_eq (c : Dev nD) (t : Fin cfg0.N) (a : Fin 128) (k : Fin 4096) : (k0_pay8 (X0 m c t) (X1 m c t) (X2 m c t) (X3 m c t) (X4 m c t) (X5 m c t) (X6 m c t)) (ix2 a k) = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (at_ t a) k := by
  rw [pay8_apply, row_eq, x2_eq, x5_eq, x6_eq]
  rfl

/-- The cotangent at a point. -/
theorem dn_eq (c : Dev nD) (t : Fin cfg0.N) (a : Fin 128) (k : Fin 4096) : (k0_pay9 (X0 m c t) (X1 m c t) (X2 m c t) (X3 m c t) (X4 m c t) (X5 m c t) (X6 m c t)) (ix2 a k) = dn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (at_ t a) k := by
  rw [pay9_apply, err_eq]
  rfl

/-- The mixing with its shift at a point. -/
theorem y_eq (c : Dev nD) (t : Fin cfg0.N) (a : Fin 128) (k : Fin 4096) : k0_pay4 (X1 m c t) (X3 m c t) (ix2 a k) = ys (m ((c : Thread nD τ).loc main_arg1)) (m ((c : Thread nD τ).loc main_arg3)) (at_ t a) k := by
  rw [pay4_apply, x1_eq, x3_eq]
  rfl

/-- The rows' gradient at a point. -/
theorem gx_eq (c : Dev nD) (t : Fin cfg0.N) (a : Fin 128) (k : Fin 4096) : k0_pay10 (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) (ix2 a k) = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) k) := by
  rw [pay10_apply, row_eq]
  simp only [dn_eq, x5_eq]
  rfl

/-- The mixing's gradient at a point. -/
theorem gy_eq (c : Dev nD) (t : Fin cfg0.N) (a : Fin 128) (k : Fin 4096) : k0_pay11 (X4 m c t) (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) (ix2 a k)
    = ((Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) k) * (m ((c : Thread nD τ).loc main_arg4)) (ix2 0 k) : EReal) := by
  rw [pay11_apply, gx_eq, x4_eq]

/-- What every point leaves of window 7. -/
theorem out7 (c : Dev nD) (t : Fin cfg0.N) (a : Fin 128) (b : Fin 4096) : ((outsAt0 m c t.val t.isLt).1 (ix2 a b) : EReal)
    = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) b) := by
  have key : k0_pay10 (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) (ix2 a b) = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (at_ t a) b) := by
    exact gx_eq m c t a b

  by_cases h : t.val % 32 = 0
  · rw [outsAt0_A m c t h h h h h]
    frame_out
    exact key
  · rw [outsAt0_B m c t h h h h h]
    frame_out
    exact key

/-- Window 7 after the run. -/
theorem final7 (c : Dev nD) : (dats m 0 c).arrAt 7 cfg0.N = (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 7 _ (by decide +kernel) fun t hf y => ?_
  have hi := idx t
  blk_simp
  rw [after0_7]
  idx_vars y
  refine (out7 m c t y0 y1).trans (congrArg₂ (fun i b => (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 i b)) ?_ ?_)
  · apply Fin.ext
    refine (show (at_ t y0).val = 128 * t.val + y0.val from rfl).trans ?_
    blk_simp [hi]
    omega
  · apply Fin.ext
    blk_simp [hi]

/-- What every point leaves of window 8. -/
theorem out8 (c : Dev nD) (t : Fin cfg0.N) (a : Fin 128) (b : Fin 4096) : ((outsAt0 m c t.val t.isLt).2.1 (ix2 a b) : EReal)
    = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4))) (ix2 (at_ t a) b) := by
  have key : k0_pay17 (X4 m c t) (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) (ix2 a b) = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4))) (ix2 (at_ t a) b) := by
    rw [pay17_apply, gx_eq, x4_eq]
    rfl

  by_cases h : t.val % 32 = 0
  · rw [outsAt0_A m c t h h h h h]
    frame_out
    exact key
  · rw [outsAt0_B m c t h h h h h]
    frame_out
    exact key

/-- Window 8 after the run. -/
theorem final8 (c : Dev nD) : (dats m 0 c).arrAt 8 cfg0.N = (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4))) := by
  refine (dats m 0 c).arrAt_eq_of_covers 8 _ (by decide +kernel) fun t hf y => ?_
  have hi := idx t
  blk_simp
  rw [after0_8]
  idx_vars y
  refine (out8 m c t y0 y1).trans (congrArg₂ (fun i b => (Gy (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4))) (ix2 i b)) ?_ ?_)
  · apply Fin.ext
    refine (show (at_ t y0).val = 128 * t.val + y0.val from rfl).trans ?_
    blk_simp [hi]
    omega
  · apply Fin.ext
    blk_simp [hi]

/-! ## Sums over the rows -/

/-- A row's term by the row's number. -/
def ext (T : Fin 4096 → EReal) (k : ℕ) : EReal := if h : k < 4096 then T ⟨k, h⟩ else 0

theorem ext_sum (T : Fin 4096 → EReal) : ∑ k ∈ Finset.range 4096, ext T k = ∑ i : Fin 4096, T i := by
  rw [Finset.sum_range]
  exact Finset.sum_congr rfl fun k _ => dif_pos k.isLt

theorem ext_blk (T : Fin 4096 → EReal) (t : Fin cfg0.N) :
    ∑ a : Fin 128, T (at_ t a) = ∑ q ∈ Finset.range 128, ext T (128 * t.val + q) := by
  rw [Finset.sum_range]
  refine Finset.sum_congr rfl fun a _ => ?_
  exact (dif_pos (at_ t a).isLt : ext T (at_ t a).val = _).symm

/-- A sum that starts at the first point and to which every point adds its rows holds every row after the last. -/
theorem acc (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a)) :
    ∀ (n : ℕ) (hn : n < cfg0.N), o n hn = ∑ k ∈ Finset.range (128 * (n + 1)), ext T k := by
  intro n
  induction n with
  | zero =>
    intro hn
    refine (hA ⟨0, hn⟩ (Nat.zero_mod _)).trans ((ext_blk T ⟨0, hn⟩).trans ?_)
    simp only [Nat.mul_zero, Nat.zero_add, Nat.mul_one]
  | succ n ih =>
    intro hn
    have hN : n + 1 < 32 := lt_of_lt_of_eq hn (show cfg0.N = 32 from N_0)
    refine (hB ⟨n + 1, hn⟩ (by dsimp only; omega)).trans ?_
    rw [ext_blk T ⟨n + 1, hn⟩, Nat.mul_succ 128 (n + 1), Finset.sum_range_add]
    exact congrArg (· + _) (ih (Nat.lt_of_succ_lt hn))

theorem acc_last (T : Fin 4096 → EReal) (o : (n : ℕ) → n < cfg0.N → EReal)
    (hA : ∀ t : Fin cfg0.N, t.val % 32 = 0 → o t.val t.isLt = ∑ a : Fin 128, T (at_ t a))
    (hB : ∀ t : Fin cfg0.N, ¬ t.val % 32 = 0 →
      o t.val t.isLt = o (t.val - 1) (Nat.lt_of_le_of_lt (Nat.sub_le _ _) t.isLt) + ∑ a : Fin 128, T (at_ t a))
    (t : Fin cfg0.N) (h : t.val % 32 = 31) : o t.val t.isLt = ∑ i : Fin 4096, T i := by
  have ht : t.val < 32 := lt_of_lt_of_eq t.isLt (show cfg0.N = 32 from N_0)
  rw [acc T o hA hB t.val t.isLt, show 128 * (t.val + 1) = 4096 by omega, ext_sum]

/-- Vector 9 after the last point. -/
theorem out9 (c : Dev nD) (t : Fin cfg0.N) (h : t.val % 32 = 31) (b : Fin 4096) : ((outsAt0 m c t.val t.isLt).2.2.1 (ix2 0 b) : EReal)
    = ∑ i : Fin 4096, T1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i := by
  refine acc_last _ (fun n hn => ((outsAt0 m c n hn).2.2.1 (ix2 0 b) : EReal)) (fun t h => ?_) (fun t h => ?_) t h
  · rw [outsAt0_A m c t h h h h h]
    frame_out
    refine (pay19_apply (k0_pay7 (X0 m c t) (X1 m c t) (X3 m c t) (X4 m c t)) (k0_pay9 (X0 m c t) (X1 m c t) (X2 m c t) (X3 m c t) (X4 m c t) (X5 m c t) (X6 m c t)) _ b).trans ?_
    simp only [xh_eq, dn_eq]
    unfold k0_pay18
    pointwise
    rfl
  · rw [outsAt0_B m c t h h h h h]
    frame_out
    refine (pay19_apply (k0_pay7 (X0 m c t) (X1 m c t) (X3 m c t) (X4 m c t)) (k0_pay9 (X0 m c t) (X1 m c t) (X2 m c t) (X3 m c t) (X4 m c t) (X5 m c t) (X6 m c t)) _ b).trans ?_
    simp only [xh_eq, dn_eq]
    rfl

/-- Vector 9 after the run. -/
theorem final9 (c : Dev nD) : (dats m 0 c).arrAt 9 cfg0.N = V (T1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 9 _ (by decide +kernel) fun t hf y => ?_
  have h3 := (flush0_9 t).mp hf
  have hi := idx t
  blk_simp
  rw [after0_9]
  idx_vars y
  obtain rfl : y0 = 0 := Subsingleton.elim _ _
  refine (out9 m c t h3 y1).trans ?_
  unfold V
  refine Finset.sum_congr rfl fun k _ => congrArg (fun j => T1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j k) ?_
  apply Fin.ext
  blk_simp [hi]

/-- Vector 10 after the last point. -/
theorem out10 (c : Dev nD) (t : Fin cfg0.N) (h : t.val % 32 = 31) (b : Fin 4096) : ((outsAt0 m c t.val t.isLt).2.2.2.1 (ix2 0 b) : EReal)
    = ∑ i : Fin 4096, T2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i := by
  refine acc_last _ (fun n hn => ((outsAt0 m c n hn).2.2.2.1 (ix2 0 b) : EReal)) (fun t h => ?_) (fun t h => ?_) t h
  · rw [outsAt0_A m c t h h h h h]
    frame_out
    refine (pay21_apply (k0_pay9 (X0 m c t) (X1 m c t) (X2 m c t) (X3 m c t) (X4 m c t) (X5 m c t) (X6 m c t)) _ b).trans ?_
    simp only [dn_eq]
    unfold k0_pay20
    pointwise
    rfl
  · rw [outsAt0_B m c t h h h h h]
    frame_out
    refine (pay21_apply (k0_pay9 (X0 m c t) (X1 m c t) (X2 m c t) (X3 m c t) (X4 m c t) (X5 m c t) (X6 m c t)) _ b).trans ?_
    simp only [dn_eq]
    rfl

/-- Vector 10 after the run. -/
theorem final10 (c : Dev nD) : (dats m 0 c).arrAt 10 cfg0.N = V (T2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 10 _ (by decide +kernel) fun t hf y => ?_
  have h3 := (flush0_10 t).mp hf
  have hi := idx t
  blk_simp
  rw [after0_10]
  idx_vars y
  obtain rfl : y0 = 0 := Subsingleton.elim _ _
  refine (out10 m c t h3 y1).trans ?_
  unfold V
  refine Finset.sum_congr rfl fun k _ => congrArg (fun j => T2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j k) ?_
  apply Fin.ext
  blk_simp [hi]

/-- Vector 11 after the last point. -/
theorem out11 (c : Dev nD) (t : Fin cfg0.N) (h : t.val % 32 = 31) (b : Fin 4096) : ((outsAt0 m c t.val t.isLt).2.2.2.2.1 (ix2 0 b) : EReal)
    = ∑ i : Fin 4096, T3 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg3)) b i := by
  refine acc_last _ (fun n hn => ((outsAt0 m c n hn).2.2.2.2.1 (ix2 0 b) : EReal)) (fun t h => ?_) (fun t h => ?_) t h
  · rw [outsAt0_A m c t h h h h h]
    frame_out
    refine (pay23_apply (X5 m c t) (k0_pay4 (X1 m c t) (X3 m c t)) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) _ b).trans ?_
    simp only [gx_eq, y_eq]
    unfold k0_pay22
    pointwise
    rfl
  · rw [outsAt0_B m c t h h h h h]
    frame_out
    refine (pay23_apply (X5 m c t) (k0_pay4 (X1 m c t) (X3 m c t)) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) _ b).trans ?_
    simp only [gx_eq, y_eq]
    rfl

/-- Vector 11 after the run. -/
theorem final11 (c : Dev nD) : (dats m 0 c).arrAt 11 cfg0.N = V (T3 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg3))) := by
  refine (dats m 0 c).arrAt_eq_of_covers 11 _ (by decide +kernel) fun t hf y => ?_
  have h3 := (flush0_11 t).mp hf
  have hi := idx t
  blk_simp
  rw [after0_11]
  idx_vars y
  obtain rfl : y0 = 0 := Subsingleton.elim _ _
  refine (out11 m c t h3 y1).trans ?_
  unfold V
  refine Finset.sum_congr rfl fun k _ => congrArg (fun j => T3 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg3)) j k) ?_
  apply Fin.ext
  blk_simp [hi]

/-- Vector 12 after the last point. -/
theorem out12 (c : Dev nD) (t : Fin cfg0.N) (h : t.val % 32 = 31) (b : Fin 4096) : ((outsAt0 m c t.val t.isLt).2.2.2.2.2.1 (ix2 0 b) : EReal)
    = ∑ i : Fin 4096, T4 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) b i := by
  refine acc_last _ (fun n hn => ((outsAt0 m c n hn).2.2.2.2.2.1 (ix2 0 b) : EReal)) (fun t h => ?_) (fun t h => ?_) t h
  · rw [outsAt0_A m c t h h h h h]
    frame_out
    refine (pay1_apply (X4 m c t) (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) _ b).trans ?_
    simp only [gy_eq]
    unfold k0_pay24
    pointwise
    rfl
  · rw [outsAt0_B m c t h h h h h]
    frame_out
    refine (pay1_apply (X4 m c t) (X5 m c t) (k0_pay6 (X0 m c t) (X1 m c t) (X3 m c t) (X4 m c t)) (k0_pay7 (X0 m c t) (X1 m c t) (X3 m c t) (X4 m c t)) (k0_pay9 (X0 m c t) (X1 m c t) (X2 m c t) (X3 m c t) (X4 m c t) (X5 m c t) (X6 m c t)) _ b).trans ?_
    simp only [gy_eq]
    rfl

/-- Vector 12 after the run. -/
theorem final12 (c : Dev nD) : (dats m 0 c).arrAt 12 cfg0.N = V (T4 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4))) := by
  refine (dats m 0 c).arrAt_eq_of_covers 12 _ (by decide +kernel) fun t hf y => ?_
  have h3 := (flush0_12 t).mp hf
  have hi := idx t
  blk_simp
  rw [after0_12]
  idx_vars y
  obtain rfl : y0 = 0 := Subsingleton.elim _ _
  refine (out12 m c t h3 y1).trans ?_
  unfold V
  refine Finset.sum_congr rfl fun k _ => congrArg (fun j => T4 (Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) j k) ?_
  apply Fin.ext
  blk_simp [hi]

/-- The loss after the last point. -/
theorem out13 (c : Dev nD) (t : Fin cfg0.N) (h : t.val % 32 = 31) (b : Fin 128) : ((outsAt0 m c t.val t.isLt).2.2.2.2.2.2 (ix2 0 b) : EReal)
    = ∑ i : Fin 4096, T5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  refine acc_last _ (fun n hn => ((outsAt0 m c n hn).2.2.2.2.2.2 (ix2 0 b) : EReal)) (fun t h => ?_) (fun t h => ?_) t h
  · rw [outsAt0_A m c t h h h h h]
    frame_out
    refine (pay3_apply (k0_pay8 (X0 m c t) (X1 m c t) (X2 m c t) (X3 m c t) (X4 m c t) (X5 m c t) (X6 m c t)) _ b).trans ?_
    simp only [err_eq]
    unfold k0_pay2
    pointwise
    rfl
  · rw [outsAt0_B m c t h h h h h]
    frame_out
    refine (pay3_apply (k0_pay8 (X0 m c t) (X1 m c t) (X2 m c t) (X3 m c t) (X4 m c t) (X5 m c t) (X6 m c t)) _ b).trans ?_
    simp only [err_eq]
    rfl

/-- The loss after the run. -/
theorem final13 (c : Dev nD) : (dats m 0 c).arrAt 13 cfg0.N = Lo (T5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 13 _ (by decide +kernel) fun t hf y => ?_
  have h3 := (flush0_13 t).mp hf
  have hi := idx t
  blk_simp
  rw [after0_13]
  idx_vars y
  obtain rfl : y0 = 0 := Subsingleton.elim _ _
  exact out13 m c t h3 y1

end Cert.Ln2LossIdeal.RefValue

end
-- ==== Proof.Ln2LossRef.lean ====
/-
  Hand-written, untrusted. The value of `Ln2LossRefIdeal`: the loss, and its derivative line by line.
-/
module

public import proofs.«01_k».proof.Defs
public import proofs.«01_k».proof.Proof.Ln2LossValue
public import proofs.«01_k».proof.Proof.Gen.Ln2LossRefIdeal.Run
public import Idealize.ShloMosaic.Lib.Pointwise

@[expose] public section

set_option maxRecDepth 16384

noncomputable section

namespace Cert.Ln2LossRefIdeal.RefValue

open Cert.Ln2LossRefIdeal Cert.Ln2LossRefIdeal.Gen
open Cert.Ln2LossIdeal.RefValue (row err dn ys Gy T1 T2 T3 T4 T5 V Lo)
open Idealize.ShloMosaic Idealize.ShloMosaic.TcCoe Idealize.SL.Sem

variable (m : (ℓ : Loc nD τ sig) → Buf (Elt Ideal) ℓ) (ρ : Dev nD → PrngReg)

/-- One half, as the programs write it. -/
theorem half_eq : Ideal.ofBits .f32 0x3F000000#32 = ((1 / 2 : ℝ) : EReal) := by
  simp [Ideal.ofBits, Ideal.ieee, -EReal.coe_mul]
  norm_num

/-- One over the length of a row, as the programs write it. -/
theorem inv_eq : Ideal.ofBits .f32 0x39800000#32 = ((1 / 4096 : ℝ) : EReal) := by
  simp [Ideal.ofBits, Ideal.ieee, -EReal.coe_mul]
  norm_num

/-- What the derivative of the mean of the squares multiplies the error by. -/
theorem scale_eq (e : EReal) : Ideal.div (Ideal.ofBits .f32 0x3F000000#32) LnRow.len * (Ideal.ofBits .f32 0x40000000#32 * e)
    = e * Ideal.ofBits .f32 0x39800000#32 := by
  have h : Ideal.div (Ideal.ofBits .f32 0x3F000000#32) LnRow.len * Ideal.ofBits .f32 0x40000000#32 = Ideal.ofBits .f32 0x39800000#32 := by
    unfold LnRow.len
    rw [half_eq, LnRow.len_eq, LnRow.two_eq, inv_eq, Ideal.div_coe (by norm_num), ← EReal.coe_mul, ← EReal.coe_mul]
    norm_num
  rw [← mul_assoc, h, mul_comm]

/-- Sums of equal terms. -/
theorem sums (f g : Fin 4096 → EReal) (h : ∀ i, f i = g i) : ∑ i, f i = ∑ i, g i := Finset.sum_congr rfl fun i _ => h i

/-- The rows' gradient, line by line. -/
def Dr (x y t : Vec Ideal S4096x4096 .f32) (bb ga g b0 : Vec Ideal S1x4096 .f32) : Vec Ideal S4096x4096 .f32 := fun j =>
  LnRow.dr LnRow.len (row x y bb ga (j 0)) (fun k => dn x y t bb ga g b0 (j 0) k * g (ix2 0 k)) (j 1)

/-- The cotangent as the reference computes it. -/
theorem swap (x y t : Vec Ideal S4096x4096 .f32) (bb ga g b0 : Vec Ideal S1x4096 .f32) (a b : Fin 4096) : Dr x y t bb ga g b0 (ix2 a b)
    = LnRow.dr LnRow.len (row x y bb ga a) (fun k => (Ideal.div (Ideal.ofBits .f32 0x3F000000#32) LnRow.len
        * (Ideal.ofBits .f32 0x40000000#32 * err x y t bb ga g b0 a k) * g (ix2 0 k) : EReal)) b :=
  congrArg (fun d => LnRow.dr LnRow.len (row x y bb ga a) d b) (funext fun _ => congrArg (· * _) (scale_eq _).symm)

set_option maxHeartbeats 1000000 in
theorem res_eq (c : Dev nD) (a b : Fin 4096) : Value.res_main_v80 m c (ix2 a b) = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 a b) := by
  refine Eq.trans ?_ (swap _ _ _ _ _ _ _ a b).symm
  unfold Value.res_main_v80
  pointwise
  simp only [Finset.univ_unique, Finset.sum_singleton]
  rfl

/-- The rows' gradient. -/
theorem res_dr (c : Dev nD) : Value.res_main_v80 m c = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  idx_vars j
  exact res_eq m c j0 j1

/-- A cotangent, gated. -/
def gated (q : FVec Ideal S4096x4096 .f32) (ga : FVec Ideal S1x4096 .f32) : FVec Ideal S4096x4096 .f32 :=
  mulf (broadcastInDim S4096x4096 ![0, 1] bcast_S1x4096_S4096x4096_0_1 ga) q

/-- The sum of the rows. -/
def rowsH (q : FVec Ideal S4096x4096 .f32) : FVec Ideal S1x4096 .f32 :=
  shapeCast _ (Host.reduceAdd q (constant S_ .f32 0x00000000#32) reducesTo_S4096x4096_S4096_d0 h_S_) shapeCasts_S4096_S1x4096

/-- The mixing's gradient is the rows' gradient, gated. -/
theorem res_dy (c : Dev nD) : Value.res_main_v88 m c = Gy (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg4)) := by
  rw [← res_dr m c]
  have e : Value.res_main_v88 m c = truncf .bf16 (gated (Value.res_main_v80 m c) (m ((c.tc : Thread nD τ).loc main_arg4))) bitsLt_bf16_f32 := rfl
  rw [e]
  generalize Value.res_main_v80 m c = q
  funext j
  idx_vars j
  unfold gated
  pointwise
  exact EReal.mul_comm _ _

/-- The gate's gradient is the sum of the rows' gradient times the mixing with its shift. -/
theorem res_dg (c : Dev nD) : Value.res_main_v85 m c = V (T3 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg3))) := by
  rw [← res_dr m c]
  have e : Value.res_main_v85 m c = rowsH (mulf (Value.res_main_v80 m c) (addf (m ((c.tc : Thread nD τ).loc main_arg1)) (broadcastInDim S4096x4096 ![0, 1] bcast_S1x4096_S4096x4096_0_1 (m ((c.tc : Thread nD τ).loc main_arg3))))) := rfl
  rw [e]
  generalize Value.res_main_v80 m c = q
  funext j
  idx_vars j
  unfold V rowsH
  pointwise
  rfl

/-- The gradient of the mixing's shift is the sum of the rows' gradient, gated. -/
theorem res_db (c : Dev nD) : Value.res_main_v87 m c = V (T4 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg4))) := by
  rw [← res_dr m c]
  have e : Value.res_main_v87 m c = rowsH (gated (Value.res_main_v80 m c) (m ((c.tc : Thread nD τ).loc main_arg4))) := rfl
  rw [e]
  generalize Value.res_main_v80 m c = q
  funext j
  idx_vars j
  unfold V rowsH gated
  pointwise
  exact Finset.sum_congr rfl fun i _ => EReal.mul_comm _ _

/-- The gradient of the normalisation's scale. -/
theorem res_g (c : Dev nD) : Value.res_main_v54 m c = V (T1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  funext j
  idx_vars j
  unfold V Value.res_main_v54
  pointwise
  refine sums _ _ fun i => ?_
  unfold T1 dn
  rw [← scale_eq, EReal.mul_comm]
  rfl

/-- The gradient of the normalisation's shift. -/
theorem res_b (c : Dev nD) : Value.res_main_v51 m c = V (T2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  funext j
  idx_vars j
  unfold V Value.res_main_v51
  pointwise
  refine sums _ _ fun i => ?_
  unfold T2 dn
  rw [← scale_eq]
  rfl

/-- The loss. -/
theorem res_l (c : Dev nD) : Value.res_main_v89 m c = Lo (T5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  funext j
  idx_vars j
  unfold Lo T5 Value.res_main_v89
  pointwise
  rfl

/-- The host's run leaves the same functions of its arguments. -/
theorem run : θ_run defs (onTc (τ := τ) (main (F := Ideal))) ⟨m, fun _ => 0, ρ⟩ fun r => ∀ c : Dev nD,
      r.2.mem ((c.tc : Thread nD τ).loc main_v80) = Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v88) = Gy (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg4))
      ∧ r.2.mem ((c.tc : Thread nD τ).loc main_v54) = V (T1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v51) = V (T2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v85) = V (T3 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg3)))
      ∧ r.2.mem ((c.tc : Thread nD τ).loc main_v87) = V (T4 (Dr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg4)))
      ∧ r.2.mem ((c.tc : Thread nD τ).loc main_v89) = Lo (T5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (res_dr m c), (h c).2.1.trans (res_dy m c), (h c).2.2.1.trans (res_g m c), (h c).2.2.2.1.trans (res_b m c), (h c).2.2.2.2.1.trans (res_dg m c), (h c).2.2.2.2.2.1.trans (res_db m c), (h c).2.2.2.2.2.2.1.trans (res_l m c), (h c).2.2.2.2.2.2.2⟩) (Value.run m ρ)

end Cert.Ln2LossRefIdeal.RefValue

end
-- ==== Proof.Ln2LossAlg.lean ====
/-
  Hand-written, untrusted. `Ln2LossIdeal` and `Ln2LossRefIdeal` compute one function of real arguments.
-/
module

public import proofs.«01_k».proof.Defs
public import proofs.«01_k».proof.Proof.Finite
public import proofs.«01_k».proof.Proof.Ln2LossRef

@[expose] public section

set_option maxRecDepth 200000

noncomputable section

namespace Cert.Pre_ln2_finite

open Idealize.ShloMosaic Cert.Finite

/-- The precondition's side conditions hold. -/
theorem facts : Facts where
  bcast_S_S4096x4096 := by decide
  reducesTo_S4096x4096_S_d0_1 := by decide
  h_S_ := by decide
  bcast_S_S1x4096 := by decide
  reducesTo_S1x4096_S_d0_1 := by decide

variable [Facts]
open Facts

/-- What the precondition says. -/
theorem real (x0 x1 x2 : FVec Ideal S4096x4096 .f32) (x3 x4 x5 x6 : FVec Ideal S1x4096 .f32) (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) := by
  have e0 : fn (F := Ideal) x0 x1 x2 x3 x4 x5 x6 = andi (andi (andi (andi (andi (andi (every S4096x4096 [0, 1] bcast_S_S4096x4096 reducesTo_S4096x4096_S_d0_1 h_S_ x0)
      (every S4096x4096 [0, 1] bcast_S_S4096x4096 reducesTo_S4096x4096_S_d0_1 h_S_ x1))
      (every S4096x4096 [0, 1] bcast_S_S4096x4096 reducesTo_S4096x4096_S_d0_1 h_S_ x2))
      (every S1x4096 [0, 1] bcast_S_S1x4096 reducesTo_S1x4096_S_d0_1 h_S_ x3))
      (every S1x4096 [0, 1] bcast_S_S1x4096 reducesTo_S1x4096_S_d0_1 h_S_ x4))
      (every S1x4096 [0, 1] bcast_S_S1x4096 reducesTo_S1x4096_S_d0_1 h_S_ x5))
      (every S1x4096 [0, 1] bcast_S_S1x4096 reducesTo_S1x4096_S_d0_1 h_S_ x6) := rfl
  have e := congrFun (e0.symm.trans h) (Shape.Idx.first h_S_)
  obtain ⟨e, h6⟩ := two _ _ e
  obtain ⟨e, h5⟩ := two _ _ e
  obtain ⟨e, h4⟩ := two _ _ e
  obtain ⟨e, h3⟩ := two _ _ e
  obtain ⟨e, h2⟩ := two _ _ e
  obtain ⟨h0, h1⟩ := two _ _ e
  exact ⟨every_real _ _ _ _ _ _ h0, every_real _ _ _ _ _ _ h1, every_real _ _ _ _ _ _ h2, every_real _ _ _ _ _ _ h3, every_real _ _ _ _ _ _ h4, every_real _ _ _ _ _ _ h5, every_real _ _ _ _ _ _ h6⟩

end Cert.Pre_ln2_finite

namespace Cert.Ln2LossIdeal.RefValue

open Idealize.ShloMosaic Idealize.SL.Sem

/-- A normalised real row is real. -/
theorem xh_real (x : Fin 4096 → ℝ) (b : Fin 4096) : ∃ q : ℝ, LnRow.xh LnRow.len (fun k => (x k : EReal)) b = (q : EReal) := by
  obtain ⟨e, he, hE⟩ := LnRow.eps_eq
  have h0 : (4096 : ℝ) ≠ 0 := by norm_num
  have hl : LnRow.len = ((4096 : ℝ) : EReal) := LnRow.len_eq
  have hm : LnRow.mu LnRow.len (fun k => (x k : EReal)) = (((∑ k, x k) * (1 / 4096) : ℝ) : EReal) := by
    unfold LnRow.mu
    rw [hl, Ideal.div_coe h0, LnRow.coe_sum, ← EReal.coe_mul]
  have hx : ∀ k, LnRow.xc LnRow.len (fun k => (x k : EReal)) k = ((x k - (∑ k, x k) * (1 / 4096) : ℝ) : EReal) := fun k => by
    unfold LnRow.xc
    rw [hm, ← EReal.coe_sub]
  have hv : LnRow.ve LnRow.len (fun k => (x k : EReal))
      = (((∑ k, (x k - (∑ k, x k) * (1 / 4096)) * (x k - (∑ k, x k) * (1 / 4096))) * (1 / 4096) + e : ℝ) : EReal) := by
    unfold LnRow.ve
    simp only [hx]
    rw [hl, Ideal.div_coe h0, hE]
    simp only [← EReal.coe_mul, LnRow.coe_sum, ← EReal.coe_add]
  have hp : 0 < (∑ k, (x k - (∑ k, x k) * (1 / 4096)) * (x k - (∑ k, x k) * (1 / 4096))) * (1 / 4096) + e :=
    add_pos_of_nonneg_of_pos (mul_nonneg (Finset.sum_nonneg fun k _ => mul_self_nonneg _) (by positivity)) he
  unfold LnRow.xh LnRow.rs
  rw [hx, hv, Ideal.rsqrt_coe, if_neg (not_lt.mpr hp.le), if_neg hp.ne', ← EReal.coe_mul]
  exact ⟨_, rfl⟩

/-- On real arguments the rows' gradient is the derivative line by line. -/
theorem Gx_eq (x y t : Vec Ideal Cert.Ln2LossIdeal.S4096x4096 .f32) (bb ga g b0 : Vec Ideal Cert.Ln2LossIdeal.S1x4096 .f32)
    (hx : ∀ i, ∃ q : ℝ, x i = (q : EReal)) (hy : ∀ i, ∃ q : ℝ, y i = (q : EReal)) (ht : ∀ i, ∃ q : ℝ, t i = (q : EReal))
    (hbb : ∀ i, ∃ q : ℝ, bb i = (q : EReal)) (hga : ∀ i, ∃ q : ℝ, ga i = (q : EReal)) (hg : ∀ i, ∃ q : ℝ, g i = (q : EReal))
    (hb : ∀ i, ∃ q : ℝ, b0 i = (q : EReal)) : Cert.Ln2LossRefIdeal.RefValue.Dr x y t bb ga g b0 = Gx x y t bb ga g b0 := by
  choose X hX using hx
  choose Y hY using hy
  choose T hT using ht
  choose P hP using hbb
  choose A hA using hga
  choose G hG using hg
  choose S hS using hb
  obtain ⟨al, hal⟩ := LnRow.alpha_eq
  funext j
  idx_vars j
  have e1 : row x y bb ga j0 = fun k => ((al * X (ix2 j0 k) + A (ix2 0 k) * (Y (ix2 j0 k) + P (ix2 0 k)) : ℝ) : EReal) := by
    funext k
    unfold row
    rw [hal, hX, hY, hA, hP]
    push_cast
    rfl
  choose N hN using fun k => xh_real (fun k => al * X (ix2 j0 k) + A (ix2 0 k) * (Y (ix2 j0 k) + P (ix2 0 k))) k
  have e2 : (fun k => dn x y t bb ga g b0 j0 k * (g (ix2 0 k) : EReal))
      = fun k => (((N k * G (ix2 0 k) + S (ix2 0 k) - T (ix2 j0 k)) * (1 / 4096) * G (ix2 0 k) : ℝ) : EReal) := by
    funext k
    unfold dn err
    rw [e1, hN, Cert.Ln2LossRefIdeal.RefValue.inv_eq, hG, hS, hT]
    simp only [EReal.coe_mul, EReal.coe_add, EReal.coe_sub]
  show LnRow.dr LnRow.len (row x y bb ga j0) (fun k => dn x y t bb ga g b0 j0 k * (g (ix2 0 k) : EReal)) j1
    = LnRow.dx LnRow.len (row x y bb ga j0) (fun k => dn x y t bb ga g b0 j0 k * (g (ix2 0 k) : EReal)) j1
  rw [e1, e2]
  exact (LnRow.dx_len _ _ _).symm

/-- The kernel and the derivative of the plain reference compute one function. -/
theorem algebraic : Cert.algebraic_Ln2LossIdeal_Ln2LossRefIdeal_pre_ln2_finite (hLn2LossIdeal := Cert.Ln2LossIdeal.Gen.facts)
    (hLn2LossRefIdeal := Cert.Ln2LossRefIdeal.Gen.facts) (hPre_ln2_finite := Cert.Pre_ln2_finite.facts) := by
  intro m ρ m' ρ' hpre hag
  refine ⟨_, _, _, _, _, _, _, (θ_run _ _ _).mono (fun _ h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2.1.trans (final13 m c), (h c).2.2.2.2.2.2.2⟩) (Cert.Ln2LossIdeal.Value.run_blocks m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Ln2LossRefIdeal.RefValue.run m' ρ')⟩
  all_goals
    obtain ⟨a0, a1, a2, a3, a4, a5, a6⟩ := hag c
    haveI := Cert.Pre_ln2_finite.facts
    obtain ⟨r0, r1, r2, r3, r4, r5, r6⟩ := Cert.Pre_ln2_finite.real _ _ _ _ _ _ _ (hpre c)
    simp only [a0, a1, a2, a3, a4, a5, a6]
  · exact Gx_eq _ _ _ _ _ _ _ r0 r1 r2 r3 r4 r5 r6
  · exact congrArg (fun e => Gy e _) (Gx_eq _ _ _ _ _ _ _ r0 r1 r2 r3 r4 r5 r6)
  · exact congrArg (fun e => V (T3 e _ _)) (Gx_eq _ _ _ _ _ _ _ r0 r1 r2 r3 r4 r5 r6)
  · exact congrArg (fun e => V (T4 e _)) (Gx_eq _ _ _ _ _ _ _ r0 r1 r2 r3 r4 r5 r6)

end Cert.Ln2LossIdeal.RefValue

end
-- ==== Proof.lean ====
/- Hand-written, untrusted. The proof of `Cert.Claim` (proofs.«01_k».proof.Defs): for each call, the frames of the kernel,
   of its ideal reading and of the plain reference (generated), and the equality of the two results (the modules
   Proof/<Call>Value.lean; of the gated delta rule's gradient Proof/GdnDv.lean). -/
module

public import proofs.«01_k».proof.Defs
public import proofs.«01_k».proof.Proof.Gen.GdnBwd.Frame
public import proofs.«01_k».proof.Proof.Gen.GdnBwdIdeal.Value
public import proofs.«01_k».proof.Proof.GdnRefRun
public import proofs.«01_k».proof.Proof.GdnFacts
public import proofs.«01_k».proof.Proof.GdnDv
public import proofs.«01_k».proof.Proof.Gen.Mlp2Dx.Frame
public import proofs.«01_k».proof.Proof.Gen.Mlp2DxIdeal.Value
public import proofs.«01_k».proof.Proof.Gen.Mlp2DxRefIdeal.Run
public import proofs.«01_k».proof.Proof.Gen.Mlp2Dw.Frame
public import proofs.«01_k».proof.Proof.Gen.Mlp2DwIdeal.Value
public import proofs.«01_k».proof.Proof.Gen.Mlp2DwRefIdeal.Run
public import proofs.«01_k».proof.Proof.Gen.Mlp1Dx.Frame
public import proofs.«01_k».proof.Proof.Gen.Mlp1DxIdeal.Value
public import proofs.«01_k».proof.Proof.Gen.Mlp1DxRefIdeal.Run
public import proofs.«01_k».proof.Proof.Gen.Mlp1Dw.Frame
public import proofs.«01_k».proof.Proof.Gen.Mlp1DwIdeal.Value
public import proofs.«01_k».proof.Proof.Gen.Mlp1DwRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.InDw.Frame
public import proofs.«01_k».proof.Proof.Gen.InDwIdeal.Value
public import proofs.«01_k».proof.Proof.Gen.InDwRefIdeal.Run
public import proofs.«01_k».proof.Proof.Gen.InDx.Frame
public import proofs.«01_k».proof.Proof.Gen.InDxIdeal.Value
public import proofs.«01_k».proof.Proof.Gen.InDxRefIdeal.Run
public import proofs.«01_k».proof.Proof.Gen.ModDx.Frame
public import proofs.«01_k».proof.Proof.Gen.ModDxIdeal.Value
public import proofs.«01_k».proof.Proof.Gen.ModDxRefIdeal.Run
public import proofs.«01_k».proof.Proof.Gen.ModDw.Frame
public import proofs.«01_k».proof.Proof.Gen.ModDwIdeal.Value
public import proofs.«01_k».proof.Proof.Gen.ModDwRefIdeal.Run
public import proofs.«01_k».proof.Proof.Gen.InFwd.Frame
public import proofs.«01_k».proof.Proof.Gen.InFwdIdeal.Value
public import proofs.«01_k».proof.Proof.Gen.InFwdRefIdeal.Run
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.Mlp1Fwd.Frame
public import proofs.«01_k».proof.Proof.Gen.Mlp1FwdIdeal.Value
public import proofs.«01_k».proof.Proof.Gen.Mlp1FwdRefIdeal.Run
public import proofs.«01_k».proof.Proof.Gen.Mlp2Fwd.Frame
public import proofs.«01_k».proof.Proof.Gen.Mlp2FwdIdeal.Value
public import proofs.«01_k».proof.Proof.Gen.Mlp2FwdRefIdeal.Run
public import proofs.«01_k».proof.Proof.Gen.ModFwd.Frame
public import proofs.«01_k».proof.Proof.Gen.ModFwdIdeal.Value
public import proofs.«01_k».proof.Proof.Gen.ModFwdRefIdeal.Run
public import proofs.«01_k».proof.Proof.Mlp2DxValue
public import proofs.«01_k».proof.Proof.Mlp2DwValue
public import proofs.«01_k».proof.Proof.Mlp1DxValue
public import proofs.«01_k».proof.Proof.Mlp1DwValue
public import proofs.«01_k».proof.Proof.OutDxValue
public import proofs.«01_k».proof.Proof.OutDwValue
public import proofs.«01_k».proof.Proof.InDwValue
public import proofs.«01_k».proof.Proof.InDxValue
public import proofs.«01_k».proof.Proof.ModDxValue
public import proofs.«01_k».proof.Proof.ModDwValue
public import proofs.«01_k».proof.Proof.InFwdValue
public import proofs.«01_k».proof.Proof.OutFwdValue
public import proofs.«01_k».proof.Proof.Mlp1FwdValue
public import proofs.«01_k».proof.Proof.Mlp2FwdValue
public import proofs.«01_k».proof.Proof.ModFwdValue
public import proofs.«01_k».proof.Proof.Gen.LnInLat.Frame
public import proofs.«01_k».proof.Proof.Gen.LnInLatIdeal.Value
public import proofs.«01_k».proof.Proof.Gen.LnInLatRefIdeal.Run
public import proofs.«01_k».proof.Proof.Gen.LnInCtx.Frame
public import proofs.«01_k».proof.Proof.Gen.LnInCtxIdeal.Value
public import proofs.«01_k».proof.Proof.Gen.LnInCtxRefIdeal.Run
public import proofs.«01_k».proof.Proof.Gen.Ln1Bwd.Frame
public import proofs.«01_k».proof.Proof.Gen.Ln1BwdIdeal.Value
public import proofs.«01_k».proof.Proof.Gen.Ln1BwdRefIdeal.Run
public import proofs.«01_k».proof.Proof.Gen.B1Grad.Frame
public import proofs.«01_k».proof.Proof.Gen.B1GradIdeal.Value
public import proofs.«01_k».proof.Proof.Gen.B1GradRefIdeal.Run
public import proofs.«01_k».proof.Proof.Gen.BmodGrad.Frame
public import proofs.«01_k».proof.Proof.Gen.BmodGradIdeal.Value
public import proofs.«01_k».proof.Proof.Gen.BmodGradRefIdeal.Run
public import proofs.«01_k».proof.Proof.Gen.CctxGrad.Frame
public import proofs.«01_k».proof.Proof.Gen.CctxGradIdeal.Value
public import proofs.«01_k».proof.Proof.Gen.CctxGradRefIdeal.Run
public import proofs.«01_k».proof.Proof.Gen.LnLatFwd.Frame
public import proofs.«01_k».proof.Proof.Gen.LnLatFwdIdeal.Value
public import proofs.«01_k».proof.Proof.Gen.LnLatFwdRefIdeal.Run
public import proofs.«01_k».proof.Proof.Gen.LnCtxFwd.Frame
public import proofs.«01_k».proof.Proof.Gen.LnCtxFwdIdeal.Value
public import proofs.«01_k».proof.Proof.Gen.LnCtxFwdRefIdeal.Run
public import proofs.«01_k».proof.Proof.Gen.Ln1Fwd.Frame
public import proofs.«01_k».proof.Proof.Gen.Ln1FwdIdeal.Value
public import proofs.«01_k».proof.Proof.Gen.Ln1FwdRefIdeal.Run
public import proofs.«01_k».proof.Proof.Gen.ConfFwd.Frame
public import proofs.«01_k».proof.Proof.Gen.ConfFwdIdeal.Value
public import proofs.«01_k».proof.Proof.Gen.ConfFwdRefIdeal.Run
public import proofs.«01_k».proof.Proof.Gen.SiluC.Frame
public import proofs.«01_k».proof.Proof.Gen.SiluCIdeal.Value
public import proofs.«01_k».proof.Proof.Gen.SiluCRefIdeal.Run
public import proofs.«01_k».proof.Proof.Gen.AdamMod.Frame
public import proofs.«01_k».proof.Proof.Gen.AdamModIdeal.Value
public import proofs.«01_k».proof.Proof.Gen.AdamModRefIdeal.Run
public import proofs.«01_k».proof.Proof.Gen.AdamMlp2.Frame
public import proofs.«01_k».proof.Proof.Gen.AdamMlp2Ideal.Value
public import proofs.«01_k».proof.Proof.Gen.AdamMlp2RefIdeal.Run
public import proofs.«01_k».proof.Proof.Gen.AdamMlp1.Frame
public import proofs.«01_k».proof.Proof.Gen.AdamMlp1Ideal.Value
public import proofs.«01_k».proof.Proof.Gen.AdamMlp1RefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AddWin.Frame
public import proofs.«01_k».proof.Proof.Gen.AddWinIdeal.Value
public import proofs.«01_k».proof.Proof.Gen.AddWinRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumCctx.Frame
public import proofs.«01_k».proof.Proof.Gen.SumCctxIdeal.Value
public import proofs.«01_k».proof.Proof.Gen.SumCctxRefIdeal.Run
public import proofs.«01_k».proof.Proof.Gen.Ln2Loss.Frame
public import proofs.«01_k».proof.Proof.Gen.Ln2LossIdeal.Value
public import proofs.«01_k».proof.Proof.Gen.Ln2LossRefIdeal.Run
public import proofs.«01_k».proof.Proof.LnInLatAlg
public import proofs.«01_k».proof.Proof.LnInCtxValue
public import proofs.«01_k».proof.Proof.Ln1BwdAlg
public import proofs.«01_k».proof.Proof.B1GradValue
public import proofs.«01_k».proof.Proof.BmodGradValue
public import proofs.«01_k».proof.Proof.CctxGradValue
public import proofs.«01_k».proof.Proof.LnLatFwdValue
public import proofs.«01_k».proof.Proof.LnCtxFwdValue
public import proofs.«01_k».proof.Proof.Ln1FwdValue
public import proofs.«01_k».proof.Proof.ConfFwdValue
public import proofs.«01_k».proof.Proof.SiluCValue
public import proofs.«01_k».proof.Proof.AdamModValue
public import proofs.«01_k».proof.Proof.AdamMlp2Value
public import proofs.«01_k».proof.Proof.AdamMlp1Value
public import proofs.«01_k».proof.Proof.AdamOutValue
public import proofs.«01_k».proof.Proof.AdamInValue
public import proofs.«01_k».proof.Proof.AdamSmallValue
public import proofs.«01_k».proof.Proof.AddWinValue
public import proofs.«01_k».proof.Proof.SumSmallValue
public import proofs.«01_k».proof.Proof.SumCctxValue
public import proofs.«01_k».proof.Proof.Ln2LossAlg
public import Idealize.ShloMosaic.Adequacy
public import Idealize.ShloMosaic.Init
public import Idealize.ShloMosaic.Lib.Quiescent

@[expose] public section

noncomputable section

namespace Cert.Proof

open Idealize.ShloMosaic Idealize.SL.Sem

/-- The plain reference of `GdnBwd` runs and leaves its arguments as they were. -/
theorem gdnDv_ref : Cert.quiescent_GdnDvRefIdeal (hGdnDvRefIdeal := Cert.GdnDvRefIdeal.Gen.facts) := fun m ρ _ =>
  let it : Dev Cert.GdnDvRefIdeal.nD → ℕ → Cert.GdnDvRefIdeal.Step.State Ideal := fun c n =>
    Nat.rec (Cert.GdnDvRefIdeal.Iter.initState m c) (fun k s => Cert.GdnDvRefIdeal.Step.step k s) n
  (θ_run (Cert.GdnDvRefIdeal.defs (F := Ideal)) _ _).mono (fun r h => ⟨fun c => (h c).2.2,
      Idealize.ShloMosaic.sem_eq_zero_of_no_sems (by decide) r.2⟩)
    (Cert.GdnDvRefIdeal.Iter.run_iter m ρ it (fun _ => rfl) fun _ _ => rfl)

/-- The plain reference of `Mlp2Dx` runs and leaves its arguments as they were. -/
theorem mlp2Dx_ref : Cert.quiescent_Mlp2DxRefIdeal (hMlp2DxRefIdeal := Cert.Mlp2DxRefIdeal.Gen.facts) := fun m ρ _ =>
  (θ_run (Cert.Mlp2DxRefIdeal.defs (F := Ideal)) _ _).mono (fun r h => ⟨fun c => (h c).2,
      Idealize.ShloMosaic.sem_eq_zero_of_no_sems (by decide) r.2⟩)
    (Cert.Mlp2DxRefIdeal.Value.run (F := Ideal) m ρ)

/-- The plain reference of `Mlp2Dw` runs and leaves its arguments as they were. -/
theorem mlp2Dw_ref : Cert.quiescent_Mlp2DwRefIdeal (hMlp2DwRefIdeal := Cert.Mlp2DwRefIdeal.Gen.facts) := fun m ρ _ =>
  (θ_run (Cert.Mlp2DwRefIdeal.defs (F := Ideal)) _ _).mono (fun r h => ⟨fun c => (h c).2,
      Idealize.ShloMosaic.sem_eq_zero_of_no_sems (by decide) r.2⟩)
    (Cert.Mlp2DwRefIdeal.Value.run (F := Ideal) m ρ)

/-- The plain reference of `Mlp1Dx` runs and leaves its arguments as they were. -/
theorem mlp1Dx_ref : Cert.quiescent_Mlp1DxRefIdeal (hMlp1DxRefIdeal := Cert.Mlp1DxRefIdeal.Gen.facts) := fun m ρ _ =>
  (θ_run (Cert.Mlp1DxRefIdeal.defs (F := Ideal)) _ _).mono (fun r h => ⟨fun c => (h c).2,
      Idealize.ShloMosaic.sem_eq_zero_of_no_sems (by decide) r.2⟩)
    (Cert.Mlp1DxRefIdeal.Value.run (F := Ideal) m ρ)

/-- The plain reference of `Mlp1Dw` runs and leaves its arguments as they were. -/
theorem mlp1Dw_ref : Cert.quiescent_Mlp1DwRefIdeal (hMlp1DwRefIdeal := Cert.Mlp1DwRefIdeal.Gen.facts) := fun m ρ _ =>
  (θ_run (Cert.Mlp1DwRefIdeal.defs (F := Ideal)) _ _).mono (fun r h => ⟨fun c => (h c).2,
      Idealize.ShloMosaic.sem_eq_zero_of_no_sems (by decide) r.2⟩)
    (Cert.Mlp1DwRefIdeal.Value.run (F := Ideal) m ρ)

/-- The plain reference of `OutDx` runs and leaves its arguments as they were. -/
theorem outDx_ref : Cert.quiescent_OutDxRefIdeal (hOutDxRefIdeal := Cert.OutDxRefIdeal.Gen.facts) := fun m ρ _ =>
  (θ_run (Cert.OutDxRefIdeal.defs (F := Ideal)) _ _).mono (fun r h => ⟨fun c => (h c).2,
      Idealize.ShloMosaic.sem_eq_zero_of_no_sems (by decide) r.2⟩)
    (Cert.OutDxRefIdeal.Value.run (F := Ideal) m ρ)

/-- The plain reference of `OutDw` runs and leaves its arguments as they were. -/
theorem outDw_ref : Cert.quiescent_OutDwRefIdeal (hOutDwRefIdeal := Cert.OutDwRefIdeal.Gen.facts) := fun m ρ _ =>
  (θ_run (Cert.OutDwRefIdeal.defs (F := Ideal)) _ _).mono (fun r h => ⟨fun c => (h c).2,
      Idealize.ShloMosaic.sem_eq_zero_of_no_sems (by decide) r.2⟩)
    (Cert.OutDwRefIdeal.Value.run (F := Ideal) m ρ)

/-- The plain reference of `InDw` runs and leaves its arguments as they were. -/
theorem inDw_ref : Cert.quiescent_InDwRefIdeal (hInDwRefIdeal := Cert.InDwRefIdeal.Gen.facts) := fun m ρ _ =>
  (θ_run (Cert.InDwRefIdeal.defs (F := Ideal)) _ _).mono (fun r h => ⟨fun c => (h c).2,
      Idealize.ShloMosaic.sem_eq_zero_of_no_sems (by decide) r.2⟩)
    (Cert.InDwRefIdeal.Value.run (F := Ideal) m ρ)

/-- The plain reference of `InDx` runs and leaves its arguments as they were. -/
theorem inDx_ref : Cert.quiescent_InDxRefIdeal (hInDxRefIdeal := Cert.InDxRefIdeal.Gen.facts) := fun m ρ _ =>
  (θ_run (Cert.InDxRefIdeal.defs (F := Ideal)) _ _).mono (fun r h => ⟨fun c => (h c).2,
      Idealize.ShloMosaic.sem_eq_zero_of_no_sems (by decide) r.2⟩)
    (Cert.InDxRefIdeal.Value.run (F := Ideal) m ρ)

/-- The plain reference of `ModDx` runs and leaves its arguments as they were. -/
theorem modDx_ref : Cert.quiescent_ModDxRefIdeal (hModDxRefIdeal := Cert.ModDxRefIdeal.Gen.facts) := fun m ρ _ =>
  (θ_run (Cert.ModDxRefIdeal.defs (F := Ideal)) _ _).mono (fun r h => ⟨fun c => (h c).2,
      Idealize.ShloMosaic.sem_eq_zero_of_no_sems (by decide) r.2⟩)
    (Cert.ModDxRefIdeal.Value.run (F := Ideal) m ρ)

/-- The plain reference of `ModDw` runs and leaves its arguments as they were. -/
theorem modDw_ref : Cert.quiescent_ModDwRefIdeal (hModDwRefIdeal := Cert.ModDwRefIdeal.Gen.facts) := fun m ρ _ =>
  (θ_run (Cert.ModDwRefIdeal.defs (F := Ideal)) _ _).mono (fun r h => ⟨fun c => (h c).2,
      Idealize.ShloMosaic.sem_eq_zero_of_no_sems (by decide) r.2⟩)
    (Cert.ModDwRefIdeal.Value.run (F := Ideal) m ρ)

/-- The plain reference of `InFwd` runs and leaves its arguments as they were. -/
theorem inFwd_ref : Cert.quiescent_InFwdRefIdeal (hInFwdRefIdeal := Cert.InFwdRefIdeal.Gen.facts) := fun m ρ _ =>
  (θ_run (Cert.InFwdRefIdeal.defs (F := Ideal)) _ _).mono (fun r h => ⟨fun c => (h c).2,
      Idealize.ShloMosaic.sem_eq_zero_of_no_sems (by decide) r.2⟩)
    (Cert.InFwdRefIdeal.Value.run (F := Ideal) m ρ)

/-- The plain reference of `OutFwd` runs and leaves its arguments as they were. -/
theorem outFwd_ref : Cert.quiescent_OutFwdRefIdeal (hOutFwdRefIdeal := Cert.OutFwdRefIdeal.Gen.facts) := fun m ρ _ =>
  (θ_run (Cert.OutFwdRefIdeal.defs (F := Ideal)) _ _).mono (fun r h => ⟨fun c => (h c).2,
      Idealize.ShloMosaic.sem_eq_zero_of_no_sems (by decide) r.2⟩)
    (Cert.OutFwdRefIdeal.Value.run (F := Ideal) m ρ)

/-- The plain reference of `Mlp1Fwd` runs and leaves its arguments as they were. -/
theorem mlp1Fwd_ref : Cert.quiescent_Mlp1FwdRefIdeal (hMlp1FwdRefIdeal := Cert.Mlp1FwdRefIdeal.Gen.facts) := fun m ρ _ =>
  (θ_run (Cert.Mlp1FwdRefIdeal.defs (F := Ideal)) _ _).mono (fun r h => ⟨fun c => (h c).2.2,
      Idealize.ShloMosaic.sem_eq_zero_of_no_sems (by decide) r.2⟩)
    (Cert.Mlp1FwdRefIdeal.Value.run (F := Ideal) m ρ)

/-- The plain reference of `Mlp2Fwd` runs and leaves its arguments as they were. -/
theorem mlp2Fwd_ref : Cert.quiescent_Mlp2FwdRefIdeal (hMlp2FwdRefIdeal := Cert.Mlp2FwdRefIdeal.Gen.facts) := fun m ρ _ =>
  (θ_run (Cert.Mlp2FwdRefIdeal.defs (F := Ideal)) _ _).mono (fun r h => ⟨fun c => (h c).2,
      Idealize.ShloMosaic.sem_eq_zero_of_no_sems (by decide) r.2⟩)
    (Cert.Mlp2FwdRefIdeal.Value.run (F := Ideal) m ρ)

/-- The plain reference of `ModFwd` runs and leaves its arguments as they were. -/
theorem modFwd_ref : Cert.quiescent_ModFwdRefIdeal (hModFwdRefIdeal := Cert.ModFwdRefIdeal.Gen.facts) := fun m ρ _ =>
  (θ_run (Cert.ModFwdRefIdeal.defs (F := Ideal)) _ _).mono (fun r h => ⟨fun c => (h c).2,
      Idealize.ShloMosaic.sem_eq_zero_of_no_sems (by decide) r.2⟩)
    (Cert.ModFwdRefIdeal.Value.run (F := Ideal) m ρ)

/-- The plain reference of `LnInLat` runs and leaves its arguments as they were. -/
theorem lnInLat_ref : Cert.quiescent_LnInLatRefIdeal (hLnInLatRefIdeal := Cert.LnInLatRefIdeal.Gen.facts) := fun m ρ _ =>
  (θ_run (Cert.LnInLatRefIdeal.defs (F := Ideal)) _ _).mono (fun r h => ⟨fun c => (h c).2.2.2.2.2,
      Idealize.ShloMosaic.sem_eq_zero_of_no_sems (by decide) r.2⟩)
    (Cert.LnInLatRefIdeal.Value.run (F := Ideal) m ρ)

/-- The plain reference of `LnInCtx` runs and leaves its arguments as they were. -/
theorem lnInCtx_ref : Cert.quiescent_LnInCtxRefIdeal (hLnInCtxRefIdeal := Cert.LnInCtxRefIdeal.Gen.facts) := fun m ρ _ =>
  (θ_run (Cert.LnInCtxRefIdeal.defs (F := Ideal)) _ _).mono (fun r h => ⟨fun c => (h c).2.2.2.2,
      Idealize.ShloMosaic.sem_eq_zero_of_no_sems (by decide) r.2⟩)
    (Cert.LnInCtxRefIdeal.Value.run (F := Ideal) m ρ)

/-- The plain reference of `Ln1Bwd` runs and leaves its arguments as they were. -/
theorem ln1Bwd_ref : Cert.quiescent_Ln1BwdRefIdeal (hLn1BwdRefIdeal := Cert.Ln1BwdRefIdeal.Gen.facts) := fun m ρ _ =>
  (θ_run (Cert.Ln1BwdRefIdeal.defs (F := Ideal)) _ _).mono (fun r h => ⟨fun c => (h c).2.2.2.2.2.2.2,
      Idealize.ShloMosaic.sem_eq_zero_of_no_sems (by decide) r.2⟩)
    (Cert.Ln1BwdRefIdeal.Value.run (F := Ideal) m ρ)

/-- The plain reference of `B1Grad` runs and leaves its arguments as they were. -/
theorem b1Grad_ref : Cert.quiescent_B1GradRefIdeal (hB1GradRefIdeal := Cert.B1GradRefIdeal.Gen.facts) := fun m ρ _ =>
  (θ_run (Cert.B1GradRefIdeal.defs (F := Ideal)) _ _).mono (fun r h => ⟨fun c => (h c).2,
      Idealize.ShloMosaic.sem_eq_zero_of_no_sems (by decide) r.2⟩)
    (Cert.B1GradRefIdeal.Value.run (F := Ideal) m ρ)

/-- The plain reference of `BmodGrad` runs and leaves its arguments as they were. -/
theorem bmodGrad_ref : Cert.quiescent_BmodGradRefIdeal (hBmodGradRefIdeal := Cert.BmodGradRefIdeal.Gen.facts) := fun m ρ _ =>
  (θ_run (Cert.BmodGradRefIdeal.defs (F := Ideal)) _ _).mono (fun r h => ⟨fun c => (h c).2,
      Idealize.ShloMosaic.sem_eq_zero_of_no_sems (by decide) r.2⟩)
    (Cert.BmodGradRefIdeal.Value.run (F := Ideal) m ρ)

/-- The plain reference of `CctxGrad` runs and leaves its arguments as they were. -/
theorem cctxGrad_ref : Cert.quiescent_CctxGradRefIdeal (hCctxGradRefIdeal := Cert.CctxGradRefIdeal.Gen.facts) := fun m ρ _ =>
  (θ_run (Cert.CctxGradRefIdeal.defs (F := Ideal)) _ _).mono (fun r h => ⟨fun c => (h c).2,
      Idealize.ShloMosaic.sem_eq_zero_of_no_sems (by decide) r.2⟩)
    (Cert.CctxGradRefIdeal.Value.run (F := Ideal) m ρ)

/-- The plain reference of `LnLatFwd` runs and leaves its arguments as they were. -/
theorem lnLatFwd_ref : Cert.quiescent_LnLatFwdRefIdeal (hLnLatFwdRefIdeal := Cert.LnLatFwdRefIdeal.Gen.facts) := fun m ρ _ =>
  (θ_run (Cert.LnLatFwdRefIdeal.defs (F := Ideal)) _ _).mono (fun r h => ⟨fun c => (h c).2.2,
      Idealize.ShloMosaic.sem_eq_zero_of_no_sems (by decide) r.2⟩)
    (Cert.LnLatFwdRefIdeal.Value.run (F := Ideal) m ρ)

/-- The plain reference of `LnCtxFwd` runs and leaves its arguments as they were. -/
theorem lnCtxFwd_ref : Cert.quiescent_LnCtxFwdRefIdeal (hLnCtxFwdRefIdeal := Cert.LnCtxFwdRefIdeal.Gen.facts) := fun m ρ _ =>
  (θ_run (Cert.LnCtxFwdRefIdeal.defs (F := Ideal)) _ _).mono (fun r h => ⟨fun c => (h c).2.2,
      Idealize.ShloMosaic.sem_eq_zero_of_no_sems (by decide) r.2⟩)
    (Cert.LnCtxFwdRefIdeal.Value.run (F := Ideal) m ρ)

/-- The plain reference of `Ln1Fwd` runs and leaves its arguments as they were. -/
theorem ln1Fwd_ref : Cert.quiescent_Ln1FwdRefIdeal (hLn1FwdRefIdeal := Cert.Ln1FwdRefIdeal.Gen.facts) := fun m ρ _ =>
  (θ_run (Cert.Ln1FwdRefIdeal.defs (F := Ideal)) _ _).mono (fun r h => ⟨fun c => (h c).2.2,
      Idealize.ShloMosaic.sem_eq_zero_of_no_sems (by decide) r.2⟩)
    (Cert.Ln1FwdRefIdeal.Value.run (F := Ideal) m ρ)

/-- The plain reference of `ConfFwd` runs and leaves its arguments as they were. -/
theorem confFwd_ref : Cert.quiescent_ConfFwdRefIdeal (hConfFwdRefIdeal := Cert.ConfFwdRefIdeal.Gen.facts) := fun m ρ _ =>
  (θ_run (Cert.ConfFwdRefIdeal.defs (F := Ideal)) _ _).mono (fun r h => ⟨fun c => (h c).2,
      Idealize.ShloMosaic.sem_eq_zero_of_no_sems (by decide) r.2⟩)
    (Cert.ConfFwdRefIdeal.Value.run (F := Ideal) m ρ)

/-- The plain reference of `SiluC` runs and leaves its arguments as they were. -/
theorem siluC_ref : Cert.quiescent_SiluCRefIdeal (hSiluCRefIdeal := Cert.SiluCRefIdeal.Gen.facts) := fun m ρ _ =>
  (θ_run (Cert.SiluCRefIdeal.defs (F := Ideal)) _ _).mono (fun r h => ⟨fun c => (h c).2,
      Idealize.ShloMosaic.sem_eq_zero_of_no_sems (by decide) r.2⟩)
    (Cert.SiluCRefIdeal.Value.run (F := Ideal) m ρ)

/-- The plain reference of `AdamMod` runs and leaves its arguments as they were. -/
theorem adamMod_ref : Cert.quiescent_AdamModRefIdeal (hAdamModRefIdeal := Cert.AdamModRefIdeal.Gen.facts) := fun m ρ _ =>
  (θ_run (Cert.AdamModRefIdeal.defs (F := Ideal)) _ _).mono (fun r h => ⟨fun c => (h c).2.2.2.2,
      Idealize.ShloMosaic.sem_eq_zero_of_no_sems (by decide) r.2⟩)
    (Cert.AdamModRefIdeal.Value.run (F := Ideal) m ρ)

/-- The plain reference of `AdamMlp2` runs and leaves its arguments as they were. -/
theorem adamMlp2_ref : Cert.quiescent_AdamMlp2RefIdeal (hAdamMlp2RefIdeal := Cert.AdamMlp2RefIdeal.Gen.facts) := fun m ρ _ =>
  (θ_run (Cert.AdamMlp2RefIdeal.defs (F := Ideal)) _ _).mono (fun r h => ⟨fun c => (h c).2.2.2.2,
      Idealize.ShloMosaic.sem_eq_zero_of_no_sems (by decide) r.2⟩)
    (Cert.AdamMlp2RefIdeal.Value.run (F := Ideal) m ρ)

/-- The plain reference of `AdamMlp1` runs and leaves its arguments as they were. -/
theorem adamMlp1_ref : Cert.quiescent_AdamMlp1RefIdeal (hAdamMlp1RefIdeal := Cert.AdamMlp1RefIdeal.Gen.facts) := fun m ρ _ =>
  (θ_run (Cert.AdamMlp1RefIdeal.defs (F := Ideal)) _ _).mono (fun r h => ⟨fun c => (h c).2.2.2.2,
      Idealize.ShloMosaic.sem_eq_zero_of_no_sems (by decide) r.2⟩)
    (Cert.AdamMlp1RefIdeal.Value.run (F := Ideal) m ρ)

/-- The plain reference of `AdamOut` runs and leaves its arguments as they were. -/
theorem adamOut_ref : Cert.quiescent_AdamOutRefIdeal (hAdamOutRefIdeal := Cert.AdamOutRefIdeal.Gen.facts) := fun m ρ _ =>
  (θ_run (Cert.AdamOutRefIdeal.defs (F := Ideal)) _ _).mono (fun r h => ⟨fun c => (h c).2.2.2.2,
      Idealize.ShloMosaic.sem_eq_zero_of_no_sems (by decide) r.2⟩)
    (Cert.AdamOutRefIdeal.Value.run (F := Ideal) m ρ)

/-- The plain reference of `AdamIn` runs and leaves its arguments as they were. -/
theorem adamIn_ref : Cert.quiescent_AdamInRefIdeal (hAdamInRefIdeal := Cert.AdamInRefIdeal.Gen.facts) := fun m ρ _ =>
  (θ_run (Cert.AdamInRefIdeal.defs (F := Ideal)) _ _).mono (fun r h => ⟨fun c => (h c).2.2.2.2,
      Idealize.ShloMosaic.sem_eq_zero_of_no_sems (by decide) r.2⟩)
    (Cert.AdamInRefIdeal.Value.run (F := Ideal) m ρ)

/-- The plain reference of `AdamSmall` runs and leaves its arguments as they were. -/
theorem adamSmall_ref : Cert.quiescent_AdamSmallRefIdeal (hAdamSmallRefIdeal := Cert.AdamSmallRefIdeal.Gen.facts) := fun m ρ _ =>
  (θ_run (Cert.AdamSmallRefIdeal.defs (F := Ideal)) _ _).mono (fun r h => ⟨fun c => (h c).2.2.2.2,
      Idealize.ShloMosaic.sem_eq_zero_of_no_sems (by decide) r.2⟩)
    (Cert.AdamSmallRefIdeal.Value.run (F := Ideal) m ρ)

/-- The plain reference of `AddWin` runs and leaves its arguments as they were. -/
theorem addWin_ref : Cert.quiescent_AddWinRefIdeal (hAddWinRefIdeal := Cert.AddWinRefIdeal.Gen.facts) := fun m ρ _ =>
  (θ_run (Cert.AddWinRefIdeal.defs (F := Ideal)) _ _).mono (fun r h => ⟨fun c => (h c).2,
      Idealize.ShloMosaic.sem_eq_zero_of_no_sems (by decide) r.2⟩)
    (Cert.AddWinRefIdeal.Value.run (F := Ideal) m ρ)

/-- The plain reference of `SumSmall` runs and leaves its arguments as they were. -/
theorem sumSmall_ref : Cert.quiescent_SumSmallRefIdeal (hSumSmallRefIdeal := Cert.SumSmallRefIdeal.Gen.facts) := fun m ρ _ =>
  (θ_run (Cert.SumSmallRefIdeal.defs (F := Ideal)) _ _).mono (fun r h => ⟨fun c => (h c).2,
      Idealize.ShloMosaic.sem_eq_zero_of_no_sems (by decide) r.2⟩)
    (Cert.SumSmallRefIdeal.Value.run (F := Ideal) m ρ)

/-- The plain reference of `SumCctx` runs and leaves its arguments as they were. -/
theorem sumCctx_ref : Cert.quiescent_SumCctxRefIdeal (hSumCctxRefIdeal := Cert.SumCctxRefIdeal.Gen.facts) := fun m ρ _ =>
  (θ_run (Cert.SumCctxRefIdeal.defs (F := Ideal)) _ _).mono (fun r h => ⟨fun c => (h c).2,
      Idealize.ShloMosaic.sem_eq_zero_of_no_sems (by decide) r.2⟩)
    (Cert.SumCctxRefIdeal.Value.run (F := Ideal) m ρ)

/-- The plain reference of `Ln2Loss` runs and leaves its arguments as they were. -/
theorem ln2Loss_ref : Cert.quiescent_Ln2LossRefIdeal (hLn2LossRefIdeal := Cert.Ln2LossRefIdeal.Gen.facts) := fun m ρ _ =>
  (θ_run (Cert.Ln2LossRefIdeal.defs (F := Ideal)) _ _).mono (fun r h => ⟨fun c => (h c).2.2.2.2.2.2.2,
      Idealize.ShloMosaic.sem_eq_zero_of_no_sems (by decide) r.2⟩)
    (Cert.Ln2LossRefIdeal.Value.run (F := Ideal) m ρ)

theorem claim : Cert.Claim := ⟨
  Cert.GdnBwd.Gen.facts, Cert.GdnBwdIdeal.Gen.facts, Cert.GdnDvRefIdeal.Gen.facts,
  Cert.Mlp2Dx.Gen.facts, Cert.Mlp2DxIdeal.Gen.facts, Cert.Mlp2DxRefIdeal.Gen.facts,
  Cert.Mlp2Dw.Gen.facts, Cert.Mlp2DwIdeal.Gen.facts, Cert.Mlp2DwRefIdeal.Gen.facts,
  Cert.Mlp1Dx.Gen.facts, Cert.Mlp1DxIdeal.Gen.facts, Cert.Mlp1DxRefIdeal.Gen.facts,
  Cert.Mlp1Dw.Gen.facts, Cert.Mlp1DwIdeal.Gen.facts, Cert.Mlp1DwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.ModDx.Gen.facts, Cert.ModDxIdeal.Gen.facts, Cert.ModDxRefIdeal.Gen.facts,
  Cert.ModDw.Gen.facts, Cert.ModDwIdeal.Gen.facts, Cert.ModDwRefIdeal.Gen.facts,
  Cert.InFwd.Gen.facts, Cert.InFwdIdeal.Gen.facts, Cert.InFwdRefIdeal.Gen.facts,
  Cert.OutFwd.Gen.facts, Cert.OutFwdIdeal.Gen.facts, Cert.OutFwdRefIdeal.Gen.facts,
  Cert.Mlp1Fwd.Gen.facts, Cert.Mlp1FwdIdeal.Gen.facts, Cert.Mlp1FwdRefIdeal.Gen.facts,
  Cert.Mlp2Fwd.Gen.facts, Cert.Mlp2FwdIdeal.Gen.facts, Cert.Mlp2FwdRefIdeal.Gen.facts,
  Cert.ModFwd.Gen.facts, Cert.ModFwdIdeal.Gen.facts, Cert.ModFwdRefIdeal.Gen.facts,
  Cert.LnInLat.Gen.facts, Cert.LnInLatIdeal.Gen.facts, Cert.LnInLatRefIdeal.Gen.facts,
  Cert.LnInCtx.Gen.facts, Cert.LnInCtxIdeal.Gen.facts, Cert.LnInCtxRefIdeal.Gen.facts,
  Cert.Ln1Bwd.Gen.facts, Cert.Ln1BwdIdeal.Gen.facts, Cert.Ln1BwdRefIdeal.Gen.facts,
  Cert.B1Grad.Gen.facts, Cert.B1GradIdeal.Gen.facts, Cert.B1GradRefIdeal.Gen.facts,
  Cert.BmodGrad.Gen.facts, Cert.BmodGradIdeal.Gen.facts, Cert.BmodGradRefIdeal.Gen.facts,
  Cert.CctxGrad.Gen.facts, Cert.CctxGradIdeal.Gen.facts, Cert.CctxGradRefIdeal.Gen.facts,
  Cert.LnLatFwd.Gen.facts, Cert.LnLatFwdIdeal.Gen.facts, Cert.LnLatFwdRefIdeal.Gen.facts,
  Cert.LnCtxFwd.Gen.facts, Cert.LnCtxFwdIdeal.Gen.facts, Cert.LnCtxFwdRefIdeal.Gen.facts,
  Cert.Ln1Fwd.Gen.facts, Cert.Ln1FwdIdeal.Gen.facts, Cert.Ln1FwdRefIdeal.Gen.facts,
  Cert.ConfFwd.Gen.facts, Cert.ConfFwdIdeal.Gen.facts, Cert.ConfFwdRefIdeal.Gen.facts,
  Cert.SiluC.Gen.facts, Cert.SiluCIdeal.Gen.facts, Cert.SiluCRefIdeal.Gen.facts,
  Cert.AdamMod.Gen.facts, Cert.AdamModIdeal.Gen.facts, Cert.AdamModRefIdeal.Gen.facts,
  Cert.AdamMlp2.Gen.facts, Cert.AdamMlp2Ideal.Gen.facts, Cert.AdamMlp2RefIdeal.Gen.facts,
  Cert.AdamMlp1.Gen.facts, Cert.AdamMlp1Ideal.Gen.facts, Cert.AdamMlp1RefIdeal.Gen.facts,
  Cert.AdamOut.Gen.facts, Cert.AdamOutIdeal.Gen.facts, Cert.AdamOutRefIdeal.Gen.facts,
  Cert.AdamIn.Gen.facts, Cert.AdamInIdeal.Gen.facts, Cert.AdamInRefIdeal.Gen.facts,
  Cert.AdamSmall.Gen.facts, Cert.AdamSmallIdeal.Gen.facts, Cert.AdamSmallRefIdeal.Gen.facts,
  Cert.AddWin.Gen.facts, Cert.AddWinIdeal.Gen.facts, Cert.AddWinRefIdeal.Gen.facts,
  Cert.SumSmall.Gen.facts, Cert.SumSmallIdeal.Gen.facts, Cert.SumSmallRefIdeal.Gen.facts,
  Cert.SumCctx.Gen.facts, Cert.SumCctxIdeal.Gen.facts, Cert.SumCctxRefIdeal.Gen.facts,
  Cert.Ln2Loss.Gen.facts, Cert.Ln2LossIdeal.Gen.facts, Cert.Ln2LossRefIdeal.Gen.facts,
  Cert.Pre_saved.facts, Cert.Pre_ln_in_finite.facts, Cert.Pre_ln1_finite.facts, Cert.Pre_cctx_finite.facts, Cert.Pre_ln2_finite.facts, Cert.On_only_dv.facts,
  fun m ρ _ => Cert.GdnBwd.Gen.frame m ρ, fun m ρ _ => Cert.GdnBwdIdeal.Gen.frame m ρ, fun m ρ _ => Cert.GdnBwdIdeal.Gen.frame m ρ,
  gdnDv_ref, fun m ρ _ => gdnDv_ref m ρ trivial,
  fun m ρ _ => Cert.Mlp2Dx.Gen.frame m ρ, fun m ρ _ => Cert.Mlp2DxIdeal.Gen.frame m ρ, mlp2Dx_ref,
  fun m ρ _ => Cert.Mlp2Dw.Gen.frame m ρ, fun m ρ _ => Cert.Mlp2DwIdeal.Gen.frame m ρ, mlp2Dw_ref,
  fun m ρ _ => Cert.Mlp1Dx.Gen.frame m ρ, fun m ρ _ => Cert.Mlp1DxIdeal.Gen.frame m ρ, mlp1Dx_ref,
  fun m ρ _ => Cert.Mlp1Dw.Gen.frame m ρ, fun m ρ _ => Cert.Mlp1DwIdeal.Gen.frame m ρ, mlp1Dw_ref,
  fun m ρ _ => Cert.OutDx.Gen.frame m ρ, fun m ρ _ => Cert.OutDxIdeal.Gen.frame m ρ, outDx_ref,
  fun m ρ _ => Cert.OutDw.Gen.frame m ρ, fun m ρ _ => Cert.OutDwIdeal.Gen.frame m ρ, outDw_ref,
  fun m ρ _ => Cert.InDw.Gen.frame m ρ, fun m ρ _ => Cert.InDwIdeal.Gen.frame m ρ, inDw_ref,
  fun m ρ _ => Cert.InDx.Gen.frame m ρ, fun m ρ _ => Cert.InDxIdeal.Gen.frame m ρ, inDx_ref,
  fun m ρ _ => Cert.ModDx.Gen.frame m ρ, fun m ρ _ => Cert.ModDxIdeal.Gen.frame m ρ, modDx_ref,
  fun m ρ _ => Cert.ModDw.Gen.frame m ρ, fun m ρ _ => Cert.ModDwIdeal.Gen.frame m ρ, modDw_ref,
  fun m ρ _ => Cert.InFwd.Gen.frame m ρ, fun m ρ _ => Cert.InFwdIdeal.Gen.frame m ρ, inFwd_ref,
  fun m ρ _ => Cert.OutFwd.Gen.frame m ρ, fun m ρ _ => Cert.OutFwdIdeal.Gen.frame m ρ, outFwd_ref,
  fun m ρ _ => Cert.Mlp1Fwd.Gen.frame m ρ, fun m ρ _ => Cert.Mlp1FwdIdeal.Gen.frame m ρ, mlp1Fwd_ref,
  fun m ρ _ => Cert.Mlp2Fwd.Gen.frame m ρ, fun m ρ _ => Cert.Mlp2FwdIdeal.Gen.frame m ρ, mlp2Fwd_ref,
  fun m ρ _ => Cert.ModFwd.Gen.frame m ρ, fun m ρ _ => Cert.ModFwdIdeal.Gen.frame m ρ, modFwd_ref,
  fun m ρ _ => Cert.LnInLat.Gen.frame m ρ, fun m ρ _ => Cert.LnInLatIdeal.Gen.frame m ρ, fun m ρ _ => Cert.LnInLatIdeal.Gen.frame m ρ,
  lnInLat_ref, fun m ρ _ => lnInLat_ref m ρ trivial,
  fun m ρ _ => Cert.LnInCtx.Gen.frame m ρ, fun m ρ _ => Cert.LnInCtxIdeal.Gen.frame m ρ, lnInCtx_ref,
  fun m ρ _ => Cert.Ln1Bwd.Gen.frame m ρ, fun m ρ _ => Cert.Ln1BwdIdeal.Gen.frame m ρ, fun m ρ _ => Cert.Ln1BwdIdeal.Gen.frame m ρ,
  ln1Bwd_ref, fun m ρ _ => ln1Bwd_ref m ρ trivial,
  fun m ρ _ => Cert.B1Grad.Gen.frame m ρ, fun m ρ _ => Cert.B1GradIdeal.Gen.frame m ρ, b1Grad_ref,
  fun m ρ _ => Cert.BmodGrad.Gen.frame m ρ, fun m ρ _ => Cert.BmodGradIdeal.Gen.frame m ρ, bmodGrad_ref,
  fun m ρ _ => Cert.CctxGrad.Gen.frame m ρ, fun m ρ _ => Cert.CctxGradIdeal.Gen.frame m ρ, fun m ρ _ => Cert.CctxGradIdeal.Gen.frame m ρ,
  cctxGrad_ref, fun m ρ _ => cctxGrad_ref m ρ trivial,
  fun m ρ _ => Cert.LnLatFwd.Gen.frame m ρ, fun m ρ _ => Cert.LnLatFwdIdeal.Gen.frame m ρ, lnLatFwd_ref,
  fun m ρ _ => Cert.LnCtxFwd.Gen.frame m ρ, fun m ρ _ => Cert.LnCtxFwdIdeal.Gen.frame m ρ, lnCtxFwd_ref,
  fun m ρ _ => Cert.Ln1Fwd.Gen.frame m ρ, fun m ρ _ => Cert.Ln1FwdIdeal.Gen.frame m ρ, ln1Fwd_ref,
  fun m ρ _ => Cert.ConfFwd.Gen.frame m ρ, fun m ρ _ => Cert.ConfFwdIdeal.Gen.frame m ρ, confFwd_ref,
  fun m ρ _ => Cert.SiluC.Gen.frame m ρ, fun m ρ _ => Cert.SiluCIdeal.Gen.frame m ρ, siluC_ref,
  fun m ρ _ => Cert.AdamMod.Gen.frame m ρ, fun m ρ _ => Cert.AdamModIdeal.Gen.frame m ρ, adamMod_ref,
  fun m ρ _ => Cert.AdamMlp2.Gen.frame m ρ, fun m ρ _ => Cert.AdamMlp2Ideal.Gen.frame m ρ, adamMlp2_ref,
  fun m ρ _ => Cert.AdamMlp1.Gen.frame m ρ, fun m ρ _ => Cert.AdamMlp1Ideal.Gen.frame m ρ, adamMlp1_ref,
  fun m ρ _ => Cert.AdamOut.Gen.frame m ρ, fun m ρ _ => Cert.AdamOutIdeal.Gen.frame m ρ, adamOut_ref,
  fun m ρ _ => Cert.AdamIn.Gen.frame m ρ, fun m ρ _ => Cert.AdamInIdeal.Gen.frame m ρ, adamIn_ref,
  fun m ρ _ => Cert.AdamSmall.Gen.frame m ρ, fun m ρ _ => Cert.AdamSmallIdeal.Gen.frame m ρ, adamSmall_ref,
  fun m ρ _ => Cert.AddWin.Gen.frame m ρ, fun m ρ _ => Cert.AddWinIdeal.Gen.frame m ρ, addWin_ref,
  fun m ρ _ => Cert.SumSmall.Gen.frame m ρ, fun m ρ _ => Cert.SumSmallIdeal.Gen.frame m ρ, sumSmall_ref,
  fun m ρ _ => Cert.SumCctx.Gen.frame m ρ, fun m ρ _ => Cert.SumCctxIdeal.Gen.frame m ρ, sumCctx_ref,
  fun m ρ _ => Cert.Ln2Loss.Gen.frame m ρ, fun m ρ _ => Cert.Ln2LossIdeal.Gen.frame m ρ, fun m ρ _ => Cert.Ln2LossIdeal.Gen.frame m ρ,
  ln2Loss_ref, fun m ρ _ => ln2Loss_ref m ρ trivial,
  trivial, @Cert.GdnDv.algebraic Cert.Pre_saved.facts Cert.On_only_dv.facts,
  trivial, Cert.Mlp2DxIdeal.RefValue.algebraic,
  trivial, Cert.Mlp2DwIdeal.RefValue.algebraic,
  trivial, Cert.Mlp1DxIdeal.RefValue.algebraic,
  trivial, Cert.Mlp1DwIdeal.RefValue.algebraic,
  trivial, Cert.OutDxIdeal.RefValue.algebraic,
  trivial, Cert.OutDwIdeal.RefValue.algebraic,
  trivial, Cert.InDwIdeal.RefValue.algebraic,
  trivial, Cert.InDxIdeal.RefValue.algebraic,
  trivial, Cert.ModDxIdeal.RefValue.algebraic,
  trivial, Cert.ModDwIdeal.RefValue.algebraic,
  trivial, Cert.InFwdIdeal.RefValue.algebraic,
  trivial, Cert.OutFwdIdeal.RefValue.algebraic,
  trivial, Cert.Mlp1FwdIdeal.RefValue.algebraic,
  trivial, Cert.Mlp2FwdIdeal.RefValue.algebraic,
  trivial, Cert.ModFwdIdeal.RefValue.algebraic,
  trivial, Cert.LnInLatIdeal.RefValue.algebraic,
  trivial, Cert.LnInCtxIdeal.RefValue.algebraic,
  trivial, Cert.Ln1BwdIdeal.RefValue.algebraic,
  trivial, Cert.B1GradIdeal.RefValue.algebraic,
  trivial, Cert.BmodGradIdeal.RefValue.algebraic,
  trivial, Cert.CctxGradIdeal.RefValue.algebraic,
  trivial, Cert.LnLatFwdIdeal.RefValue.algebraic,
  trivial, Cert.LnCtxFwdIdeal.RefValue.algebraic,
  trivial, Cert.Ln1FwdIdeal.RefValue.algebraic,
  trivial, Cert.ConfFwdIdeal.RefValue.algebraic,
  trivial, Cert.SiluCIdeal.RefValue.algebraic,
  Cert.AdamModIdeal.RefValue.preserves, Cert.AdamModIdeal.RefValue.algebraic,
  Cert.AdamMlp2Ideal.RefValue.preserves, Cert.AdamMlp2Ideal.RefValue.algebraic,
  Cert.AdamMlp1Ideal.RefValue.preserves, Cert.AdamMlp1Ideal.RefValue.algebraic,
  Cert.AdamOutIdeal.RefValue.preserves, Cert.AdamOutIdeal.RefValue.algebraic,
  Cert.AdamInIdeal.RefValue.preserves, Cert.AdamInIdeal.RefValue.algebraic,
  Cert.AdamSmallIdeal.RefValue.preserves, Cert.AdamSmallIdeal.RefValue.algebraic,
  trivial, Cert.AddWinIdeal.RefValue.algebraic,
  trivial, Cert.SumSmallIdeal.RefValue.algebraic,
  trivial, Cert.SumCctxIdeal.RefValue.algebraic,
  trivial, Cert.Ln2LossIdeal.RefValue.algebraic⟩

end Cert.Proof

end
